-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_head_finite [hPre_head_finite : Cert.Pre_head_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_head_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_head_finite [hPre_head_finite : Cert.Pre_head_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_head_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_head_finite [hKernel2Ideal : Cert.Kernel2Ideal.Facts] [hPre_head_finite : Cert.Pre_head_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_head_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_head_finite [hReference2Ideal : Cert.Reference2Ideal.Facts] [hPre_head_finite : Cert.Pre_head_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_head_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def preserves_Kernel_KernelIdeal : Prop :=
  IdealRules.named_const.Statement Cert.KernelIdeal.κ "root_half" .f32 0x3F3504F3#32 (((Real.sqrt 2)⁻¹ : ℝ) : EReal)
  ∧ IdealRules.named_const.Statement Cert.KernelIdeal.κ "density_at_zero" .f32 0x3ECC422A#32 (((9465531 / 8388608) * (2 * (Real.sqrt 2))⁻¹ : ℝ) : EReal)

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_2)) (v2 : (c : Dev Cert.KernelIdeal.nD) → Buf (Elt Ideal) ((c.tc : Thread Cert.KernelIdeal.nD Cert.KernelIdeal.τ).loc Cert.KernelIdeal.main_v26_3)) (v3 : (c : Dev Cert.KernelIdeal.nD) → Buf (Elt Ideal) ((c.tc : Thread Cert.KernelIdeal.nD Cert.KernelIdeal.τ).loc Cert.KernelIdeal.main_v26_4)) (v4 : (c : Dev Cert.KernelIdeal.nD) → Buf (Elt Ideal) ((c.tc : Thread Cert.KernelIdeal.nD Cert.KernelIdeal.τ).loc Cert.KernelIdeal.main_v26_5)) (v5 : (c : Dev Cert.KernelIdeal.nD) → Buf (Elt Ideal) ((c.tc : Thread Cert.KernelIdeal.nD Cert.KernelIdeal.τ).loc Cert.KernelIdeal.main_v26_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_2) = v1 c
          ∧ r.2.mem ((c.tc : Thread Cert.KernelIdeal.nD Cert.KernelIdeal.τ).loc Cert.KernelIdeal.main_v26_3) = v2 c
          ∧ r.2.mem ((c.tc : Thread Cert.KernelIdeal.nD Cert.KernelIdeal.τ).loc Cert.KernelIdeal.main_v26_4) = v3 c
          ∧ r.2.mem ((c.tc : Thread Cert.KernelIdeal.nD Cert.KernelIdeal.τ).loc Cert.KernelIdeal.main_v26_5) = v4 c
          ∧ r.2.mem ((c.tc : Thread Cert.KernelIdeal.nD Cert.KernelIdeal.τ).loc Cert.KernelIdeal.main_v26_6) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_v208) = v1 c
          ∧ r.2.mem ((c.tc : Thread Cert.ReferenceIdeal.nD Cert.ReferenceIdeal.τ).loc Cert.ReferenceIdeal.main_v181) = v2 c
          ∧ r.2.mem ((c.tc : Thread Cert.ReferenceIdeal.nD Cert.ReferenceIdeal.τ).loc Cert.ReferenceIdeal.main_v180) = v3 c
          ∧ r.2.mem ((c.tc : Thread Cert.ReferenceIdeal.nD Cert.ReferenceIdeal.τ).loc Cert.ReferenceIdeal.main_v210) = v4 c
          ∧ r.2.mem ((c.tc : Thread Cert.ReferenceIdeal.nD Cert.ReferenceIdeal.τ).loc Cert.ReferenceIdeal.main_v212) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal_pre_head_finite [hKernel2Ideal : Cert.Kernel2Ideal.Facts] [hReference2Ideal : Cert.Reference2Ideal.Facts] [hPre_head_finite : Cert.Pre_head_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_head_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)) (v3 : (c : Dev Cert.Kernel2Ideal.nD) → Buf (Elt Ideal) ((c.tc : Thread Cert.Kernel2Ideal.nD Cert.Kernel2Ideal.τ).loc Cert.Kernel2Ideal.main_v11_6)) (v4 : (c : Dev Cert.Kernel2Ideal.nD) → Buf (Elt Ideal) ((c.tc : Thread Cert.Kernel2Ideal.nD Cert.Kernel2Ideal.τ).loc Cert.Kernel2Ideal.main_v11_7)) (v5 : (c : Dev Cert.Kernel2Ideal.nD) → Buf (Elt Ideal) ((c.tc : Thread Cert.Kernel2Ideal.nD Cert.Kernel2Ideal.τ).loc Cert.Kernel2Ideal.main_v11_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_v11_6) = v3 c
          ∧ r.2.mem ((c.tc : Thread Cert.Kernel2Ideal.nD Cert.Kernel2Ideal.τ).loc Cert.Kernel2Ideal.main_v11_7) = v4 c
          ∧ r.2.mem ((c.tc : Thread Cert.Kernel2Ideal.nD Cert.Kernel2Ideal.τ).loc Cert.Kernel2Ideal.main_v11_8) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v119) = v0 c
          ∧ r.2.mem ((c.tc : Thread Cert.Reference2Ideal.nD Cert.Reference2Ideal.τ).loc Cert.Reference2Ideal.main_v120) = v1 c
          ∧ r.2.mem ((c.tc : Thread Cert.Reference2Ideal.nD Cert.Reference2Ideal.τ).loc Cert.Reference2Ideal.main_v121) = v2 c
          ∧ r.2.mem ((c.tc : Thread Cert.Reference2Ideal.nD Cert.Reference2Ideal.τ).loc Cert.Reference2Ideal.main_v115) = v3 c
          ∧ r.2.mem ((c.tc : Thread Cert.Reference2Ideal.nD Cert.Reference2Ideal.τ).loc Cert.Reference2Ideal.main_v122) = v4 c
          ∧ r.2.mem ((c.tc : Thread Cert.Reference2Ideal.nD Cert.Reference2Ideal.τ).loc Cert.Reference2Ideal.main_v124) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_v12) = v2 c
          ∧ r.2.mem ((c.tc : Thread Cert.Reference3Ideal.nD Cert.Reference3Ideal.τ).loc Cert.Reference3Ideal.main_v18) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v26) = v1 c
          ∧ r.2.mem ((c.tc : Thread Cert.Reference4Ideal.nD Cert.Reference4Ideal.τ).loc Cert.Reference4Ideal.main_v7) = v2 c
          ∧ r.2.mem ((c.tc : Thread Cert.Reference4Ideal.nD Cert.Reference4Ideal.τ).loc Cert.Reference4Ideal.main_v13) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_v7) = v2 c
          ∧ r.2.mem ((c.tc : Thread Cert.Reference5Ideal.nD Cert.Reference5Ideal.τ).loc Cert.Reference5Ideal.main_v13) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v24) = v1 c
          ∧ r.2.mem ((c.tc : Thread Cert.Reference6Ideal.nD Cert.Reference6Ideal.τ).loc Cert.Reference6Ideal.main_v5) = v2 c
          ∧ r.2.mem ((c.tc : Thread Cert.Reference6Ideal.nD Cert.Reference6Ideal.τ).loc Cert.Reference6Ideal.main_v11) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  IdealRules.named_const.Statement Cert.Kernel7Ideal.κ "root_half" .f32 0x3F3504F3#32 (((Real.sqrt 2)⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v10_0)) (v1 : (c : Dev Cert.Kernel7Ideal.nD) → Buf (Elt Ideal) ((c.tc : Thread Cert.Kernel7Ideal.nD Cert.Kernel7Ideal.τ).loc Cert.Kernel7Ideal.main_v10_1)) (v2 : (c : Dev Cert.Kernel7Ideal.nD) → Buf (Elt Ideal) ((c.tc : Thread Cert.Kernel7Ideal.nD Cert.Kernel7Ideal.τ).loc Cert.Kernel7Ideal.main_v10_2)) (v3 : (c : Dev Cert.Kernel7Ideal.nD) → Buf (Elt Ideal) ((c.tc : Thread Cert.Kernel7Ideal.nD Cert.Kernel7Ideal.τ).loc Cert.Kernel7Ideal.main_v10_3)) (v4 : (c : Dev Cert.Kernel7Ideal.nD) → Buf (Elt Ideal) ((c.tc : Thread Cert.Kernel7Ideal.nD Cert.Kernel7Ideal.τ).loc Cert.Kernel7Ideal.main_v10_4)) (v5 : (c : Dev Cert.Kernel7Ideal.nD) → Buf (Elt Ideal) ((c.tc : Thread Cert.Kernel7Ideal.nD Cert.Kernel7Ideal.τ).loc Cert.Kernel7Ideal.main_v10_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10_0) = v0 c
          ∧ r.2.mem ((c.tc : Thread Cert.Kernel7Ideal.nD Cert.Kernel7Ideal.τ).loc Cert.Kernel7Ideal.main_v10_1) = v1 c
          ∧ r.2.mem ((c.tc : Thread Cert.Kernel7Ideal.nD Cert.Kernel7Ideal.τ).loc Cert.Kernel7Ideal.main_v10_2) = v2 c
          ∧ r.2.mem ((c.tc : Thread Cert.Kernel7Ideal.nD Cert.Kernel7Ideal.τ).loc Cert.Kernel7Ideal.main_v10_3) = v3 c
          ∧ r.2.mem ((c.tc : Thread Cert.Kernel7Ideal.nD Cert.Kernel7Ideal.τ).loc Cert.Kernel7Ideal.main_v10_4) = v4 c
          ∧ r.2.mem ((c.tc : Thread Cert.Kernel7Ideal.nD Cert.Kernel7Ideal.τ).loc Cert.Kernel7Ideal.main_v10_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v87) = v0 c
          ∧ r.2.mem ((c.tc : Thread Cert.Reference7Ideal.nD Cert.Reference7Ideal.τ).loc Cert.Reference7Ideal.main_v88) = v1 c
          ∧ r.2.mem ((c.tc : Thread Cert.Reference7Ideal.nD Cert.Reference7Ideal.τ).loc Cert.Reference7Ideal.main_v89) = v2 c
          ∧ r.2.mem ((c.tc : Thread Cert.Reference7Ideal.nD Cert.Reference7Ideal.τ).loc Cert.Reference7Ideal.main_v85) = v3 c
          ∧ r.2.mem ((c.tc : Thread Cert.Reference7Ideal.nD Cert.Reference7Ideal.τ).loc Cert.Reference7Ideal.main_v91) = v4 c
          ∧ r.2.mem ((c.tc : Thread Cert.Reference7Ideal.nD Cert.Reference7Ideal.τ).loc Cert.Reference7Ideal.main_v123) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)) (v5 : (c : Dev Cert.Kernel8Ideal.nD) → Buf (Elt Ideal) ((c.tc : Thread Cert.Kernel8Ideal.nD Cert.Kernel8Ideal.τ).loc Cert.Kernel8Ideal.main_v0_5)) (v6 : (c : Dev Cert.Kernel8Ideal.nD) → Buf (Elt Ideal) ((c.tc : Thread Cert.Kernel8Ideal.nD Cert.Kernel8Ideal.τ).loc Cert.Kernel8Ideal.main_v0_6)) (v7 : (c : Dev Cert.Kernel8Ideal.nD) → Buf (Elt Ideal) ((c.tc : Thread Cert.Kernel8Ideal.nD Cert.Kernel8Ideal.τ).loc Cert.Kernel8Ideal.main_v0_7)) (v8 : (c : Dev Cert.Kernel8Ideal.nD) → Buf (Elt Ideal) ((c.tc : Thread Cert.Kernel8Ideal.nD Cert.Kernel8Ideal.τ).loc Cert.Kernel8Ideal.main_v0_8)) (v9 : (c : Dev Cert.Kernel8Ideal.nD) → Buf (Elt Ideal) ((c.tc : Thread Cert.Kernel8Ideal.nD Cert.Kernel8Ideal.τ).loc Cert.Kernel8Ideal.main_v0_9)) (v10 : (c : Dev Cert.Kernel8Ideal.nD) → Buf (Elt Ideal) ((c.tc : Thread Cert.Kernel8Ideal.nD Cert.Kernel8Ideal.τ).loc Cert.Kernel8Ideal.main_v0_10)) (v11 : (c : Dev Cert.Kernel8Ideal.nD) → Buf (Elt Ideal) ((c.tc : Thread Cert.Kernel8Ideal.nD Cert.Kernel8Ideal.τ).loc Cert.Kernel8Ideal.main_v0_11)) (v12 : (c : Dev Cert.Kernel8Ideal.nD) → Buf (Elt Ideal) ((c.tc : Thread Cert.Kernel8Ideal.nD Cert.Kernel8Ideal.τ).loc Cert.Kernel8Ideal.main_v0_12)) (v13 : (c : Dev Cert.Kernel8Ideal.nD) → Buf (Elt Ideal) ((c.tc : Thread Cert.Kernel8Ideal.nD Cert.Kernel8Ideal.τ).loc Cert.Kernel8Ideal.main_v0_13)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_v0_5) = v5 c
          ∧ r.2.mem ((c.tc : Thread Cert.Kernel8Ideal.nD Cert.Kernel8Ideal.τ).loc Cert.Kernel8Ideal.main_v0_6) = v6 c
          ∧ r.2.mem ((c.tc : Thread Cert.Kernel8Ideal.nD Cert.Kernel8Ideal.τ).loc Cert.Kernel8Ideal.main_v0_7) = v7 c
          ∧ r.2.mem ((c.tc : Thread Cert.Kernel8Ideal.nD Cert.Kernel8Ideal.τ).loc Cert.Kernel8Ideal.main_v0_8) = v8 c
          ∧ r.2.mem ((c.tc : Thread Cert.Kernel8Ideal.nD Cert.Kernel8Ideal.τ).loc Cert.Kernel8Ideal.main_v0_9) = v9 c
          ∧ r.2.mem ((c.tc : Thread Cert.Kernel8Ideal.nD Cert.Kernel8Ideal.τ).loc Cert.Kernel8Ideal.main_v0_10) = v10 c
          ∧ r.2.mem ((c.tc : Thread Cert.Kernel8Ideal.nD Cert.Kernel8Ideal.τ).loc Cert.Kernel8Ideal.main_v0_11) = v11 c
          ∧ r.2.mem ((c.tc : Thread Cert.Kernel8Ideal.nD Cert.Kernel8Ideal.τ).loc Cert.Kernel8Ideal.main_v0_12) = v12 c
          ∧ r.2.mem ((c.tc : Thread Cert.Kernel8Ideal.nD Cert.Kernel8Ideal.τ).loc Cert.Kernel8Ideal.main_v0_13) = v13 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v82) = v0 c
          ∧ r.2.mem ((c.tc : Thread Cert.Reference8Ideal.nD Cert.Reference8Ideal.τ).loc Cert.Reference8Ideal.main_v80) = v1 c
          ∧ r.2.mem ((c.tc : Thread Cert.Reference8Ideal.nD Cert.Reference8Ideal.τ).loc Cert.Reference8Ideal.main_v2) = v2 c
          ∧ r.2.mem ((c.tc : Thread Cert.Reference8Ideal.nD Cert.Reference8Ideal.τ).loc Cert.Reference8Ideal.main_v26) = v3 c
          ∧ r.2.mem ((c.tc : Thread Cert.Reference8Ideal.nD Cert.Reference8Ideal.τ).loc Cert.Reference8Ideal.main_v7) = v4 c
          ∧ r.2.mem ((c.tc : Thread Cert.Reference8Ideal.nD Cert.Reference8Ideal.τ).loc Cert.Reference8Ideal.main_v13) = v5 c
          ∧ r.2.mem ((c.tc : Thread Cert.Reference8Ideal.nD Cert.Reference8Ideal.τ).loc Cert.Reference8Ideal.main_v28) = v6 c
          ∧ r.2.mem ((c.tc : Thread Cert.Reference8Ideal.nD Cert.Reference8Ideal.τ).loc Cert.Reference8Ideal.main_v52) = v7 c
          ∧ r.2.mem ((c.tc : Thread Cert.Reference8Ideal.nD Cert.Reference8Ideal.τ).loc Cert.Reference8Ideal.main_v33) = v8 c
          ∧ r.2.mem ((c.tc : Thread Cert.Reference8Ideal.nD Cert.Reference8Ideal.τ).loc Cert.Reference8Ideal.main_v39) = v9 c
          ∧ r.2.mem ((c.tc : Thread Cert.Reference8Ideal.nD Cert.Reference8Ideal.τ).loc Cert.Reference8Ideal.main_v54) = v10 c
          ∧ r.2.mem ((c.tc : Thread Cert.Reference8Ideal.nD Cert.Reference8Ideal.τ).loc Cert.Reference8Ideal.main_v78) = v11 c
          ∧ r.2.mem ((c.tc : Thread Cert.Reference8Ideal.nD Cert.Reference8Ideal.τ).loc Cert.Reference8Ideal.main_v59) = v12 c
          ∧ r.2.mem ((c.tc : Thread Cert.Reference8Ideal.nD Cert.Reference8Ideal.τ).loc Cert.Reference8Ideal.main_v65) = v13 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_all_finite : Cert.Pre_all_finite.Facts) (hPre_head_finite : Cert.Pre_head_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Kernel2Ideal_pre_head_finite (hKernel2Ideal := hKernel2Ideal) (hPre_head_finite := hPre_head_finite)
    ∧ quiescent_Reference2Ideal (hReference2Ideal := hReference2Ideal)
    ∧ quiescent_Reference2Ideal_pre_head_finite (hReference2Ideal := hReference2Ideal) (hPre_head_finite := hPre_head_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal_pre_head_finite (hKernel2Ideal := hKernel2Ideal) (hReference2Ideal := hReference2Ideal) (hPre_head_finite := hPre_head_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_all_finite.lean ====
abbrev S2x4096x1024 : Shape := ⟨3, ![2, 4096, 1024]⟩
abbrev S1x1024 : Shape := ⟨2, ![1, 1024]⟩
abbrev S1x1024x3592 : Shape := ⟨3, ![1, 1024, 3592]⟩
abbrev S1x512 : Shape := ⟨2, ![1, 512]⟩
abbrev S1x4x128x128 : Shape := ⟨4, ![1, 4, 128, 128]⟩
abbrev S1x4x128 : Shape := ⟨3, ![1, 4, 128]⟩
abbrev S8192x1024 : Shape := ⟨2, ![8192, 1024]⟩
abbrev S8192x512 : Shape := ⟨2, ![8192, 512]⟩
abbrev S8192x1536 : Shape := ⟨2, ![8192, 1536]⟩
abbrev S8192x128 : Shape := ⟨2, ![8192, 128]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x3592 : S_.BroadcastsInDim S1x1024x3592 (![] : Fin 0 → Fin S1x1024x3592.rank)
  reducesTo_S1x1024x3592_S_d0_1_2 : S1x1024x3592.ReducesTo [0, 1, 2] S_
  bcast_S_S1x512 : S_.BroadcastsInDim S1x512 (![] : Fin 0 → Fin S1x512.rank)
  reducesTo_S1x512_S_d0_1 : S1x512.ReducesTo [0, 1] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x4x128 : S_.BroadcastsInDim S1x4x128 (![] : Fin 0 → Fin S1x4x128.rank)
  reducesTo_S1x4x128_S_d0_1_2 : S1x4x128.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S8192x512 : S_.BroadcastsInDim S8192x512 (![] : Fin 0 → Fin S8192x512.rank)
  reducesTo_S8192x512_S_d0_1 : S8192x512.ReducesTo [0, 1] S_
  bcast_S_S8192x1536 : S_.BroadcastsInDim S8192x1536 (![] : Fin 0 → Fin S8192x1536.rank)
  reducesTo_S8192x1536_S_d0_1 : S8192x1536.ReducesTo [0, 1] S_
  bcast_S_S8192x128 : S_.BroadcastsInDim S8192x128 (![] : Fin 0 → Fin S8192x128.rank)
  reducesTo_S8192x128_S_d0_1 : S8192x128.ReducesTo [0, 1] S_

variable [Facts]

def fn_part3 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : IVec S_ 1 := andi main_v3 main_v7
  let main_v49 : IVec S_ 1 := andi main_v48 main_v11
  let main_v50 : IVec S_ 1 := andi main_v49 main_v15
  let main_v51 : IVec S_ 1 := andi main_v50 main_v19
  let main_v52 : IVec S_ 1 := andi main_v51 main_v23
  let main_v53 : IVec S_ 1 := andi main_v52 main_v27
  let main_v54 : IVec S_ 1 := andi main_v53 main_v31
  let main_v55 : IVec S_ 1 := andi main_v54 main_v35
  let main_v56 : IVec S_ 1 := andi main_v55 main_v39
  let main_v57 : IVec S_ 1 := andi main_v56 main_v43
  let main_v58 : IVec S_ 1 := andi main_v57 main_v47
  main_v58

def fn_part2 {F : FTy → Type} [FloatOps F] (main_arg8 : FVec F S8192x512 .f32) (main_arg9 : FVec F S8192x1536 .bf16) (main_arg10 : FVec F S8192x512 .bf16) (main_arg11 : FVec F S8192x128 .bf16) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S8192x512 .f32 := Host.absf main_arg8
  let main_cst_14 : FVec F S_ .f32 := constant S_ .f32 0x7F800000#32
  let main_v33 : FVec F S8192x512 .f32 := broadcastInDim S8192x512 ![] bcast_S_S8192x512 main_cst_14
  let main_v34 : IVec S8192x512 1 := cmpf .olt main_v32 main_v33
  let main_c_15 : IVec S_ 1 := constantI S_ 1 1#1
  let main_v35 : IVec S_ 1 := (fun x v => Host.reduce IntOp.andi x v reducesTo_S8192x512_S_d0_1 h_S_) main_v34 main_c_15
  let main_v36 : FVec F S8192x1536 .bf16 := Host.absf main_arg9
  let main_cst_16 : FVec F S_ .bf16 := constant S_ .bf16 0x7F80#16
  let main_v37 : FVec F S8192x1536 .bf16 := broadcastInDim S8192x1536 ![] bcast_S_S8192x1536 main_cst_16
  let main_v38 : IVec S8192x1536 1 := cmpf .olt main_v36 main_v37
  let main_c_17 : IVec S_ 1 := constantI S_ 1 1#1
  let main_v39 : IVec S_ 1 := (fun x v => Host.reduce IntOp.andi x v reducesTo_S8192x1536_S_d0_1 h_S_) main_v38 main_c_17
  let main_v40 : FVec F S8192x512 .bf16 := Host.absf main_arg10
  let main_cst_18 : FVec F S_ .bf16 := constant S_ .bf16 0x7F80#16
  let main_v41 : FVec F S8192x512 .bf16 := broadcastInDim S8192x512 ![] bcast_S_S8192x512 main_cst_18
  let main_v42 : IVec S8192x512 1 := cmpf .olt main_v40 main_v41
  let main_c_19 : IVec S_ 1 := constantI S_ 1 1#1
  let main_v43 : IVec S_ 1 := (fun x v => Host.reduce IntOp.andi x v reducesTo_S8192x512_S_d0_1 h_S_) main_v42 main_c_19
  let main_v44 : FVec F S8192x128 .bf16 := Host.absf main_arg11
  let main_cst_20 : FVec F S_ .bf16 := constant S_ .bf16 0x7F80#16
  let main_v45 : FVec F S8192x128 .bf16 := broadcastInDim S8192x128 ![] bcast_S_S8192x128 main_cst_20
  let main_v46 : IVec S8192x128 1 := cmpf .olt main_v44 main_v45
  let main_c_21 : IVec S_ 1 := constantI S_ 1 1#1
  let main_v47 : IVec S_ 1 := (fun x v => Host.reduce IntOp.andi x v reducesTo_S8192x128_S_d0_1 h_S_) main_v46 main_c_21
  fn_part3 (F := F) main_v3 main_v7 main_v11 main_v15 main_v19 main_v23 main_v27 main_v31 main_v35 main_v39 main_v43 main_v47

def fn_part1 {F : FTy → Type} [FloatOps F] (main_arg4 : FVec F S1x512 .f32) (main_arg5 : FVec F S1x4x128x128 .f32) (main_arg6 : FVec F S1x4x128 .f32) (main_arg7 : FVec F S8192x1024 .f32) (main_arg8 : FVec F S8192x512 .f32) (main_arg9 : FVec F S8192x1536 .bf16) (main_arg10 : FVec F S8192x512 .bf16) (main_arg11 : FVec F S8192x128 .bf16) (main_v3 : IVec S_ 1) (main_v7 : IVec S_ 1) (main_v11 : IVec S_ 1) (main_v15 : IVec S_ 1) : IVec S_ 1 :=
  let main_v16 : FVec F S1x512 .f32 := Host.absf main_arg4
  let main_cst_6 : FVec F S_ .f32 := constant S_ .f32 0x7F800000#32
  let main_v17 : FVec F S1x512 .f32 := broadcastInDim S1x512 ![] bcast_S_S1x512 main_cst_6
  let main_v18 : IVec S1x512 1 := cmpf .olt main_v16 main_v17
  let main_c_7 : IVec S_ 1 := constantI S_ 1 1#1
  let main_v19 : IVec S_ 1 := (fun x v => Host.reduce IntOp.andi x v reducesTo_S1x512_S_d0_1 h_S_) main_v18 main_c_7
  let main_v20 : FVec F S1x4x128x128 .f32 := Host.absf main_arg5
  let main_cst_8 : FVec F S_ .f32 := constant S_ .f32 0x7F800000#32
  let main_v21 : FVec F S1x4x128x128 .f32 := broadcastInDim S1x4x128x128 ![] bcast_S_S1x4x128x128 main_cst_8
  let main_v22 : IVec S1x4x128x128 1 := cmpf .olt main_v20 main_v21
  let main_c_9 : IVec S_ 1 := constantI S_ 1 1#1
  let main_v23 : IVec S_ 1 := (fun x v => Host.reduce IntOp.andi x v reducesTo_S1x4x128x128_S_d0_1_2_3 h_S_) main_v22 main_c_9
  let main_v24 : FVec F S1x4x128 .f32 := Host.absf main_arg6
  let main_cst_10 : FVec F S_ .f32 := constant S_ .f32 0x7F800000#32
  let main_v25 : FVec F S1x4x128 .f32 := broadcastInDim S1x4x128 ![] bcast_S_S1x4x128 main_cst_10
  let main_v26 : IVec S1x4x128 1 := cmpf .olt main_v24 main_v25
  let main_c_11 : IVec S_ 1 := constantI S_ 1 1#1
  let main_v27 : IVec S_ 1 := (fun x v => Host.reduce IntOp.andi x v reducesTo_S1x4x128_S_d0_1_2 h_S_) main_v26 main_c_11
  let main_v28 : FVec F S8192x1024 .f32 := Host.absf main_arg7
  let main_cst_12 : FVec F S_ .f32 := constant S_ .f32 0x7F800000#32
  let main_v29 : FVec F S8192x1024 .f32 := broadcastInDim S8192x1024 ![] bcast_S_S8192x1024 main_cst_12
  let main_v30 : IVec S8192x1024 1 := cmpf .olt main_v28 main_v29
  let main_c_13 : IVec S_ 1 := constantI S_ 1 1#1
  let main_v31 : IVec S_ 1 := (fun x v => Host.reduce IntOp.andi x v reducesTo_S8192x1024_S_d0_1 h_S_) main_v30 main_c_13
  fn_part2 (F := F) main_arg8 main_arg9 main_arg10 main_arg11 main_v3 main_v7 main_v11 main_v15 main_v19 main_v23 main_v27 main_v31

def fn {F : FTy → Type} [FloatOps F] (main_arg0 : FVec F S2x4096x1024 .f32) (main_arg1 : FVec F S1x1024 .f32) (main_arg2 : FVec F S1x1024x3592 .f32) (main_arg3 : FVec F S1x512 .f32) (main_arg4 : FVec F S1x512 .f32) (main_arg5 : FVec F S1x4x128x128 .f32) (main_arg6 : FVec F S1x4x128 .f32) (main_arg7 : FVec F S8192x1024 .f32) (main_arg8 : FVec F S8192x512 .f32) (main_arg9 : FVec F S8192x1536 .bf16) (main_arg10 : FVec F S8192x512 .bf16) (main_arg11 : FVec F S8192x128 .bf16) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024x3592 .f32 := Host.absf main_arg2
  let main_cst_2 : FVec F S_ .f32 := constant S_ .f32 0x7F800000#32
  let main_v9 : FVec F S1x1024x3592 .f32 := broadcastInDim S1x1024x3592 ![] bcast_S_S1x1024x3592 main_cst_2
  let main_v10 : IVec S1x1024x3592 1 := cmpf .olt main_v8 main_v9
  let main_c_3 : IVec S_ 1 := constantI S_ 1 1#1
  let main_v11 : IVec S_ 1 := (fun x v => Host.reduce IntOp.andi x v reducesTo_S1x1024x3592_S_d0_1_2 h_S_) main_v10 main_c_3
  let main_v12 : FVec F S1x512 .f32 := Host.absf main_arg3
  let main_cst_4 : FVec F S_ .f32 := constant S_ .f32 0x7F800000#32
  let main_v13 : FVec F S1x512 .f32 := broadcastInDim S1x512 ![] bcast_S_S1x512 main_cst_4
  let main_v14 : IVec S1x512 1 := cmpf .olt main_v12 main_v13
  let main_c_5 : IVec S_ 1 := constantI S_ 1 1#1
  let main_v15 : IVec S_ 1 := (fun x v => Host.reduce IntOp.andi x v reducesTo_S1x512_S_d0_1 h_S_) main_v14 main_c_5
  fn_part1 (F := F) main_arg4 main_arg5 main_arg6 main_arg7 main_arg8 main_arg9 main_arg10 main_arg11 main_v3 main_v7 main_v11 main_v15
-- ==== Pre_head_finite.lean ====
abbrev S8192x512 : Shape := ⟨2, ![8192, 512]⟩
abbrev S2x4096x512 : Shape := ⟨3, ![2, 4096, 512]⟩
abbrev S2x4096x1024 : Shape := ⟨3, ![2, 4096, 1024]⟩
abbrev S1x2x4096x256 : Shape := ⟨4, ![1, 2, 4096, 256]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S2x4096x512 : S_.BroadcastsInDim S2x4096x512 (![] : Fin 0 → Fin S2x4096x512.rank)
  reducesTo_S2x4096x512_S_d0_1_2 : S2x4096x512.ReducesTo [0, 1, 2] S_
  bcast_S_S2x4096x1024 : S_.BroadcastsInDim S2x4096x1024 (![] : Fin 0 → Fin S2x4096x1024.rank)
  reducesTo_S2x4096x1024_S_d0_1_2 : S2x4096x1024.ReducesTo [0, 1, 2] S_
  bcast_S_S1x2x4096x256 : S_.BroadcastsInDim S1x2x4096x256 (![] : Fin 0 → Fin S1x2x4096x256.rank)
  reducesTo_S1x2x4096x256_S_d0_1_2_3 : S1x2x4096x256.ReducesTo [0, 1, 2, 3] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x256x1024 : S_.BroadcastsInDim S1x256x1024 (![] : Fin 0 → Fin S1x256x1024.rank)
  reducesTo_S1x256x1024_S_d0_1_2 : S1x256x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1x1024 .f32) (main_arg9 : FVec F S1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x1024 .f32 := Host.absf main_arg8
  let main_cst_14 : FVec F S_ .f32 := constant S_ .f32 0x7F800000#32
  let main_v33 : FVec F S1x1024 .f32 := broadcastInDim S1x1024 ![] bcast_S_S1x1024 main_cst_14
  let main_v34 : IVec S1x1024 1 := cmpf .olt main_v32 main_v33
  let main_c_15 : IVec S_ 1 := constantI S_ 1 1#1
  let main_v35 : IVec S_ 1 := (fun x v => Host.reduce IntOp.andi x v reducesTo_S1x1024_S_d0_1 h_S_) main_v34 main_c_15
  let main_v36 : FVec F S1024 .f32 := Host.absf main_arg9
  let main_cst_16 : FVec F S_ .f32 := constant S_ .f32 0x7F800000#32
  let main_v37 : FVec F S1024 .f32 := broadcastInDim S1024 ![] bcast_S_S1024 main_cst_16
  let main_v38 : IVec S1024 1 := cmpf .olt main_v36 main_v37
  let main_c_17 : IVec S_ 1 := constantI S_ 1 1#1
  let main_v39 : IVec S_ 1 := (fun x v => Host.reduce IntOp.andi x v reducesTo_S1024_S_d0 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S2x4096x1024 .f32) (main_arg5 : FVec F S1x1024x1024 .f32) (main_arg6 : FVec F S1x1024x1024 .f32) (main_arg7 : FVec F S1x256x1024 .f32) (main_arg8 : FVec F S1x1024 .f32) (main_arg9 : FVec F S1024 .f32) (main_v3 : IVec S_ 1) (main_v7 : IVec S_ 1) (main_v11 : IVec S_ 1) (main_v15 : IVec S_ 1) : IVec S_ 1 :=
  let main_v16 : FVec F S2x4096x1024 .f32 := Host.absf main_arg4
  let main_cst_6 : FVec F S_ .f32 := constant S_ .f32 0x7F800000#32
  let main_v17 : FVec F S2x4096x1024 .f32 := broadcastInDim S2x4096x1024 ![] bcast_S_S2x4096x1024 main_cst_6
  let main_v18 : IVec S2x4096x1024 1 := cmpf .olt main_v16 main_v17
  let main_c_7 : IVec S_ 1 := constantI S_ 1 1#1
  let main_v19 : IVec S_ 1 := (fun x v => Host.reduce IntOp.andi x v reducesTo_S2x4096x1024_S_d0_1_2 h_S_) main_v18 main_c_7
  let main_v20 : FVec F S1x1024x1024 .f32 := Host.absf main_arg5
  let main_cst_8 : FVec F S_ .f32 := constant S_ .f32 0x7F800000#32
  let main_v21 : FVec F S1x1024x1024 .f32 := broadcastInDim S1x1024x1024 ![] bcast_S_S1x1024x1024 main_cst_8
  let main_v22 : IVec S1x1024x1024 1 := cmpf .olt main_v20 main_v21
  let main_c_9 : IVec S_ 1 := constantI S_ 1 1#1
  let main_v23 : IVec S_ 1 := (fun x v => Host.reduce IntOp.andi x v reducesTo_S1x1024x1024_S_d0_1_2 h_S_) main_v22 main_c_9
  let main_v24 : FVec F S1x1024x1024 .f32 := Host.absf main_arg6
  let main_cst_10 : FVec F S_ .f32 := constant S_ .f32 0x7F800000#32
  let main_v25 : FVec F S1x1024x1024 .f32 := broadcastInDim S1x1024x1024 ![] bcast_S_S1x1024x1024 main_cst_10
  let main_v26 : IVec S1x1024x1024 1 := cmpf .olt main_v24 main_v25
  let main_c_11 : IVec S_ 1 := constantI S_ 1 1#1
  let main_v27 : IVec S_ 1 := (fun x v => Host.reduce IntOp.andi x v reducesTo_S1x1024x1024_S_d0_1_2 h_S_) main_v26 main_c_11
  let main_v28 : FVec F S1x256x1024 .f32 := Host.absf main_arg7
  let main_cst_12 : FVec F S_ .f32 := constant S_ .f32 0x7F800000#32
  let main_v29 : FVec F S1x256x1024 .f32 := broadcastInDim S1x256x1024 ![] bcast_S_S1x256x1024 main_cst_12
  let main_v30 : IVec S1x256x1024 1 := cmpf .olt main_v28 main_v29
  let main_c_13 : IVec S_ 1 := constantI S_ 1 1#1
  let main_v31 : IVec S_ 1 := (fun x v => Host.reduce IntOp.andi x v reducesTo_S1x256x1024_S_d0_1_2 h_S_) main_v30 main_c_13
  fn_part2 (F := F) main_arg8 main_arg9 main_v3 main_v7 main_v11 main_v15 main_v19 main_v23 main_v27 main_v31

def fn {F : FTy → Type} [FloatOps F] (main_arg0 : FVec F S8192x512 .bf16) (main_arg1 : FVec F S2x4096x512 .bf16) (main_arg2 : FVec F S2x4096x1024 .f32) (main_arg3 : FVec F S1x2x4096x256 .f32) (main_arg4 : FVec F S2x4096x1024 .f32) (main_arg5 : FVec F S1x1024x1024 .f32) (main_arg6 : FVec F S1x1024x1024 .f32) (main_arg7 : FVec F S1x256x1024 .f32) (main_arg8 : FVec F S1x1024 .f32) (main_arg9 : FVec F S1024 .f32) : IVec S_ 1 :=
  let main_v0 : FVec F S8192x512 .bf16 := Host.absf main_arg0
  let main_cst : FVec F S_ .bf16 := constant S_ .bf16 0x7F80#16
  let main_v1 : FVec F S8192x512 .bf16 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S2x4096x512 .bf16 := Host.absf main_arg1
  let main_cst_0 : FVec F S_ .bf16 := constant S_ .bf16 0x7F80#16
  let main_v5 : FVec F S2x4096x512 .bf16 := broadcastInDim S2x4096x512 ![] bcast_S_S2x4096x512 main_cst_0
  let main_v6 : IVec S2x4096x512 1 := cmpf .olt main_v4 main_v5
  let main_c_1 : IVec S_ 1 := constantI S_ 1 1#1
  let main_v7 : IVec S_ 1 := (fun x v => Host.reduce IntOp.andi x v reducesTo_S2x4096x512_S_d0_1_2 h_S_) main_v6 main_c_1
  let main_v8 : FVec F S2x4096x1024 .f32 := Host.absf main_arg2
  let main_cst_2 : FVec F S_ .f32 := constant S_ .f32 0x7F800000#32
  let main_v9 : FVec F S2x4096x1024 .f32 := broadcastInDim S2x4096x1024 ![] bcast_S_S2x4096x1024 main_cst_2
  let main_v10 : IVec S2x4096x1024 1 := cmpf .olt main_v8 main_v9
  let main_c_3 : IVec S_ 1 := constantI S_ 1 1#1
  let main_v11 : IVec S_ 1 := (fun x v => Host.reduce IntOp.andi x v reducesTo_S2x4096x1024_S_d0_1_2 h_S_) main_v10 main_c_3
  let main_v12 : FVec F S1x2x4096x256 .f32 := Host.absf main_arg3
  let main_cst_4 : FVec F S_ .f32 := constant S_ .f32 0x7F800000#32
  let main_v13 : FVec F S1x2x4096x256 .f32 := broadcastInDim S1x2x4096x256 ![] bcast_S_S1x2x4096x256 main_cst_4
  let main_v14 : IVec S1x2x4096x256 1 := cmpf .olt main_v12 main_v13
  let main_c_5 : IVec S_ 1 := constantI S_ 1 1#1
  let main_v15 : IVec S_ 1 := (fun x v => Host.reduce IntOp.andi x v reducesTo_S1x2x4096x256_S_d0_1_2_3 h_S_) main_v14 main_c_5
  fn_part1 (F := F) main_arg4 main_arg5 main_arg6 main_arg7 main_arg8 main_arg9 main_v3 main_v7 main_v11 main_v15
-- ==== Kernel.lean ====
abbrev S2x4096x1024 : Shape := ⟨3, ![2, 4096, 1024]⟩
abbrev S1x1024 : Shape := ⟨2, ![1, 1024]⟩
abbrev S1x1024x3592 : Shape := ⟨3, ![1, 1024, 3592]⟩
abbrev S1x512 : Shape := ⟨2, ![1, 512]⟩
abbrev S1x4x128x128 : Shape := ⟨4, ![1, 4, 128, 128]⟩
abbrev S1x4x128 : Shape := ⟨3, ![1, 4, 128]⟩
abbrev S8192x1024 : Shape := ⟨2, ![8192, 1024]⟩
abbrev S8192x512 : Shape := ⟨2, ![8192, 512]⟩
abbrev S8192x1536 : Shape := ⟨2, ![8192, 1536]⟩
abbrev S8192x128 : Shape := ⟨2, ![8192, 128]⟩
abbrev S3592x1x1024 : Shape := ⟨3, ![3592, 1, 1024]⟩
abbrev S3592x1024 : Shape := ⟨2, ![3592, 1024]⟩
abbrev S8x1024 : Shape := ⟨2, ![8, 1024]⟩
abbrev S_ : Shape := ⟨0, ![]⟩
abbrev S128x1024 : Shape := ⟨2, ![128, 1024]⟩
abbrev S4x128x128 : Shape := ⟨3, ![4, 128, 128]⟩
abbrev S4x128 : Shape := ⟨2, ![4, 128]⟩
abbrev S128x4 : Shape := ⟨2, ![128, 4]⟩
abbrev S1024 : Shape := ⟨1, ![1024]⟩
abbrev S8192 : Shape := ⟨1, ![8192]⟩
abbrev S8192x1 : Shape := ⟨2, ![8192, 1]⟩
abbrev S1x1024x1536 : Shape := ⟨3, ![1, 1024, 1536]⟩
abbrev S1024x1536 : Shape := ⟨2, ![1024, 1536]⟩
abbrev S8x449x1024 : Shape := ⟨3, ![8, 449, 1024]⟩
abbrev S256x1024 : Shape := ⟨2, ![256, 1024]⟩
abbrev S256x1536 : Shape := ⟨2, ![256, 1536]⟩
abbrev S256x512 : Shape := ⟨2, ![256, 512]⟩
abbrev S256x128 : Shape := ⟨2, ![256, 128]⟩
abbrev S3712x1024 : Shape := ⟨2, ![3712, 1024]⟩
abbrev S449x1024 : Shape := ⟨2, ![449, 1024]⟩
abbrev S256 : Shape := ⟨1, ![256]⟩
abbrev S256x1 : Shape := ⟨2, ![256, 1]⟩
abbrev S512x1024 : Shape := ⟨2, ![512, 1024]⟩
abbrev S128x128 : Shape := ⟨2, ![128, 128]⟩
abbrev S1x4 : Shape := ⟨2, ![1, 4]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩
abbrev S1536x1024 : Shape := ⟨2, ![1536, 1024]⟩
abbrev S1x449x1024 : Shape := ⟨3, ![1, 449, 1024]⟩

abbrev nBuf : Space → Nat
  | .hbm => 50
  | .vmem => 31
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x3592, .f32⟩
  | .hbm, ⟨3, _⟩ => ⟨S1x512, .f32⟩
  | .hbm, ⟨4, _⟩ => ⟨S1x512, .f32⟩
  | .hbm, ⟨5, _⟩ => ⟨S1x4x128x128, .f32⟩
  | .hbm, ⟨6, _⟩ => ⟨S1x4x128, .f32⟩
  | .hbm, ⟨7, _⟩ => ⟨S8192x1024, .f32⟩
  | .hbm, ⟨8, _⟩ => ⟨S8192x512, .f32⟩
  | .hbm, ⟨9, _⟩ => ⟨S8192x1536, .bf16⟩
  | .hbm, ⟨10, _⟩ => ⟨S8192x512, .bf16⟩
  | .hbm, ⟨11, _⟩ => ⟨S8192x128, .bf16⟩
  | .hbm, ⟨12, _⟩ => ⟨S3592x1x1024, .f32⟩
  | .hbm, ⟨13, _⟩ => ⟨S3592x1024, .f32⟩
  | .hbm, ⟨14, _⟩ => ⟨S3592x1024, .bf16⟩
  | .hbm, ⟨15, _⟩ => ⟨S8x1024, .bf16⟩
  | .hbm, ⟨16, _⟩ => ⟨S_, .i32⟩
  | .hbm, ⟨17, _⟩ => ⟨S_, .bf16⟩
  | .hbm, ⟨18, _⟩ => ⟨S128x1024, .bf16⟩
  | .hbm, ⟨19, _⟩ => ⟨S4x128x128, .f32⟩
  | .hbm, ⟨20, _⟩ => ⟨S4x128, .f32⟩
  | .hbm, ⟨21, _⟩ => ⟨S128x4, .f32⟩
  | .hbm, ⟨22, _⟩ => ⟨S8192x1024, .f32⟩
  | .hbm, ⟨23, _⟩ => ⟨S1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024x1536, .f32⟩
  | .hbm, ⟨41, _⟩ => ⟨S1024x1536, .f32⟩
  | .hbm, ⟨42, _⟩ => ⟨S8192x1536, .f32⟩
  | .hbm, ⟨43, _⟩ => ⟨S8192x1024, .f32⟩
  | .hbm, ⟨44, _⟩ => ⟨S8x449x1024, .f32⟩
  | .hbm, ⟨45, _⟩ => ⟨S1x1024, .f32⟩
  | .hbm, ⟨46, _⟩ => ⟨S1x512, .f32⟩
  | .hbm, ⟨47, _⟩ => ⟨S1x512, .f32⟩
  | .hbm, ⟨48, _⟩ => ⟨S4x128x128, .f32⟩
  | .hbm, ⟨49, _⟩ => ⟨S128x4, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1536, .f32⟩
  | .local _ .vmem, ⟨5, _⟩ => ⟨S256x1536, .f32⟩
  | .local _ .vmem, ⟨6, _⟩ => ⟨S256x512, .f32⟩
  | .local _ .vmem, ⟨7, _⟩ => ⟨S256x512, .f32⟩
  | .local _ .vmem, ⟨8, _⟩ => ⟨S256x1536, .bf16⟩
  | .local _ .vmem, ⟨9, _⟩ => ⟨S256x1536, .bf16⟩
  | .local _ .vmem, ⟨10, _⟩ => ⟨S256x512, .bf16⟩
  | .local _ .vmem, ⟨11, _⟩ => ⟨S256x512, .bf16⟩
  | .local _ .vmem, ⟨12, _⟩ => ⟨S256x128, .bf16⟩
  | .local _ .vmem, ⟨13, _⟩ => ⟨S256x128, .bf16⟩
  | .local _ .vmem, ⟨14, _⟩ => ⟨S1x1024, .f32⟩
  | .local _ .vmem, ⟨15, _⟩ => ⟨S1x512, .f32⟩
  | .local _ .vmem, ⟨16, _⟩ => ⟨S1x512, .f32⟩
  | .local _ .vmem, ⟨17, _⟩ => ⟨S4x128x128, .f32⟩
  | .local _ .vmem, ⟨18, _⟩ => ⟨S128x4, .f32⟩
  | .local _ .vmem, ⟨19, _⟩ => ⟨S3592x1024, .bf16⟩
  | .local _ .vmem, ⟨20, _⟩ => ⟨S128x1024, .bf16⟩
  | .local _ .vmem, ⟨21, _⟩ => ⟨S256x1024, .f32⟩
  | .local _ .vmem, ⟨22, _⟩ => ⟨S256x1024, .f32⟩
  | .local _ .vmem, ⟨23, _⟩ => ⟨S1x1024, .f32⟩
  | .local _ .vmem, ⟨24, _⟩ => ⟨S1x512, .f32⟩
  | .local _ .vmem, ⟨25, _⟩ => ⟨S1x512, .f32⟩
  | .local _ .vmem, ⟨26, _⟩ => ⟨S4x128x128, .f32⟩
  | .local _ .vmem, ⟨27, _⟩ => ⟨S128x4, .f32⟩
  | .local _ .vmem, ⟨28, _⟩ => ⟨S3712x1024, .f32⟩
  | .local _ .vmem, ⟨29, _⟩ => ⟨S449x1024, .f32⟩
  | .local _ .vmem, ⟨30, _⟩ => ⟨S256x1536, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev main_v26_2 : Ref sig .tc := ⟨.hbm, 45, rfl⟩
abbrev main_v26_3 : Ref sig .tc := ⟨.hbm, 46, rfl⟩
abbrev main_v26_4 : Ref sig .tc := ⟨.hbm, 47, rfl⟩
abbrev main_v26_5 : Ref sig .tc := ⟨.hbm, 48, rfl⟩
abbrev main_v26_6 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3592x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x4 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== KernelIdeal.lean ====
variable {F : FTy → Type} [FloatOps F] [Named F]
def κ : String → Option EReal := fun
  | "density_at_zero" => some (((9465531 / 8388608) * (2 * (Real.sqrt 2))⁻¹ : ℝ) : EReal)
  | "root_half" => some (((Real.sqrt 2)⁻¹ : ℝ) : EReal)
  | _ => none
-- ==== ReferenceIdeal.lean ====
abbrev S2x4096x1024 : Shape := ⟨3, ![2, 4096, 1024]⟩
abbrev S1x1024 : Shape := ⟨2, ![1, 1024]⟩
abbrev S1x1024x3592 : Shape := ⟨3, ![1, 1024, 3592]⟩
abbrev S1x512 : Shape := ⟨2, ![1, 512]⟩
abbrev S1x4x128x128 : Shape := ⟨4, ![1, 4, 128, 128]⟩
abbrev S1x4x128 : Shape := ⟨3, ![1, 4, 128]⟩
abbrev S8192x1024 : Shape := ⟨2, ![8192, 1024]⟩
abbrev S8192x512 : Shape := ⟨2, ![8192, 512]⟩
abbrev S8192x1536 : Shape := ⟨2, ![8192, 1536]⟩
abbrev S8192x128 : Shape := ⟨2, ![8192, 128]⟩
abbrev S8192x8 : Shape := ⟨2, ![8192, 8]⟩
abbrev S2x4096x512 : Shape := ⟨3, ![2, 4096, 512]⟩
abbrev S2x4096x1536 : Shape := ⟨3, ![2, 4096, 1536]⟩
abbrev S2x4096x8 : Shape := ⟨3, ![2, 4096, 8]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024x3592 : Shape := ⟨2, ![1024, 3592]⟩
abbrev S2x4096x3592 : Shape := ⟨3, ![2, 4096, 3592]⟩
abbrev S512 : Shape := ⟨1, ![512]⟩
abbrev S4x128x128 : Shape := ⟨3, ![4, 128, 128]⟩
abbrev S4x128 : Shape := ⟨2, ![4, 128]⟩
abbrev S2x32x128x4x128 : Shape := ⟨5, ![2, 32, 128, 4, 128]⟩
abbrev S2x32x128x4 : Shape := ⟨4, ![2, 32, 128, 4]⟩
abbrev S2x32x128x4x1 : Shape := ⟨5, ![2, 32, 128, 4, 1]⟩
abbrev S1x1x1x4x128 : Shape := ⟨5, ![1, 1, 1, 4, 128]⟩
abbrev S128x128 : Shape := ⟨2, ![128, 128]⟩
abbrev S4x2x32x128x128 : Shape := ⟨5, ![4, 2, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S3592x1024 : Shape := ⟨2, ![3592, 1024]⟩

abbrev nBuf : Space → Nat
  | .hbm => 291
  | .vmem => 0
  | .smem => 0
  | _ => 0

abbrev hbmTy0_0 (i : Nat) : BufTy := match i % 128 with
  | 0 => ⟨S2x4096x1024, .f32⟩
  | 1 => ⟨S1x1024, .f32⟩
  | 2 => ⟨S1x1024x3592, .f32⟩
  | 3 => ⟨S1x512, .f32⟩
  | 4 => ⟨S1x512, .f32⟩
  | 5 => ⟨S1x4x128x128, .f32⟩
  | 6 => ⟨S1x4x128, .f32⟩
  | 7 => ⟨S8192x1024, .f32⟩
  | 8 => ⟨S8192x512, .f32⟩
  | 9 => ⟨S8192x1536, .bf16⟩
  | 10 => ⟨S8192x512, .bf16⟩
  | 11 => ⟨S8192x128, .bf16⟩
  | 12 => ⟨S8192x8, .bf16⟩
  | 13 => ⟨S2x4096x1024, .f32⟩
  | 14 => ⟨S2x4096x512, .f32⟩
  | 15 => ⟨S8192x1536, .f32⟩
  | 16 => ⟨S2x4096x1536, .f32⟩
  | 17 => ⟨S8192x512, .f32⟩
  | 18 => ⟨S2x4096x512, .f32⟩
  | 19 => ⟨S8192x8, .f32⟩
  | 20 => ⟨S2x4096x8, .f32⟩
  | 21 => ⟨S1024, .f32⟩
  | 22 => ⟨S2x4096x1024, .f32⟩
  | 23 => ⟨S_, .f32⟩
  | 24 => ⟨S2x4096, .f32⟩
  | 25 => ⟨S2x4096x1, .f32⟩
  | 26 => ⟨S_, .f32⟩
  | 27 => ⟨S2x4096x1, .f32⟩
  | 28 => ⟨S2x4096x1, .f32⟩
  | 29 => ⟨S_, .f32⟩
  | 30 => ⟨S2x4096x1, .f32⟩
  | 31 => ⟨S2x4096x1, .f32⟩
  | 32 => ⟨S2x4096x1, .f32⟩
  | 33 => ⟨S2x4096x1, .f32⟩
  | 34 => ⟨S_, .f32⟩
  | 35 => ⟨S2x4096x1, .f32⟩
  | 36 => ⟨S2x4096x1, .f32⟩
  | 37 => ⟨S2x4096x1024, .f32⟩
  | 38 => ⟨S2x4096x1024, .f32⟩
  | 39 => ⟨S1x1x1024, .f32⟩
  | 40 => ⟨S2x4096x1024, .f32⟩
  | 41 => ⟨S2x4096x1024, .f32⟩
  | 42 => ⟨S1024x3592, .f32⟩
  | 43 => ⟨S2x4096x3592, .f32⟩
  | 44 => ⟨S2x4096x512, .f32⟩
  | 45 => ⟨S2x4096x512, .f32⟩
  | 46 => ⟨S2x4096x512, .f32⟩
  | 47 => ⟨S2x4096x1536, .f32⟩
  | 48 => ⟨S2x4096x512, .f32⟩
  | 49 => ⟨S2x4096x8, .f32⟩
  | 50 => ⟨S512, .f32⟩
  | 51 => ⟨S512, .f32⟩
  | 52 => ⟨S4x128x128, .f32⟩
  | 53 => ⟨S4x128, .f32⟩
  | 54 => ⟨S_, .f32⟩
  | 55 => ⟨S2x4096x512, .f32⟩
  | 56 => ⟨S2x4096x512, .f32⟩
  | 57 => ⟨S2x4096x512, .f32⟩
  | 58 => ⟨S_, .f32⟩
  | 59 => ⟨S_, .f32⟩
  | 60 => ⟨S_, .f32⟩
  | 61 => ⟨S2x4096x512, .f32⟩
  | 62 => ⟨S2x4096x512, .f32⟩
  | 63 => ⟨S2x4096x512, .f32⟩
  | 64 => ⟨S2x4096x512, .f32⟩
  | 65 => ⟨S2x4096x512, .f32⟩
  | 66 => ⟨S2x4096x512, .f32⟩
  | 67 => ⟨S2x4096x512, .f32⟩
  | 68 => ⟨S_, .f32⟩
  | 69 => ⟨S2x4096x512, .f32⟩
  | 70 => ⟨S2x4096x512, .f32⟩
  | 71 => ⟨S2x4096x512, .f32⟩
  | 72 => ⟨S_, .f32⟩
  | 73 => ⟨S_, .f32⟩
  | 74 => ⟨S_, .f32⟩
  | 75 => ⟨S2x4096x512, .f32⟩
  | 76 => ⟨S2x4096x512, .f32⟩
  | 77 => ⟨S2x4096x512, .f32⟩
  | 78 => ⟨S2x4096x512, .f32⟩
  | 79 => ⟨S2x4096x512, .f32⟩
  | 80 => ⟨S2x4096x512, .f32⟩
  | 81 => ⟨S2x4096x512, .f32⟩
  | 82 => ⟨S2x32x128x4x128, .f32⟩
  | 83 => ⟨S4x128, .f32⟩
  | 84 => ⟨S4x128, .f32⟩
  | 85 => ⟨S_, .f32⟩
  | 86 => ⟨S2x32x128x4, .f32⟩
  | 87 => ⟨S2x32x128x4x1, .f32⟩
  | 88 => ⟨S_, .f32⟩
  | 89 => ⟨S2x32x128x4x1, .f32⟩
  | 90 => ⟨S2x32x128x4x1, .f32⟩
  | 91 => ⟨S2x32x128x4x128, .f32⟩
  | 92 => ⟨S2x32x128x4x128, .f32⟩
  | 93 => ⟨S2x32x128x4x128, .f32⟩
  | 94 => ⟨S_, .f32⟩
  | 95 => ⟨S2x32x128x4, .f32⟩
  | 96 => ⟨S2x32x128x4x1, .f32⟩
  | 97 => ⟨S_, .f32⟩
  | 98 => ⟨S2x32x128x4x1, .f32⟩
  | 99 => ⟨S2x32x128x4x1, .f32⟩
  | 100 => ⟨S_, .f32⟩
  | 101 => ⟨S2x32x128x4x1, .f32⟩
  | 102 => ⟨S2x32x128x4x1, .f32⟩
  | 103 => ⟨S2x32x128x4x1, .f32⟩
  | 104 => ⟨S2x32x128x4x1, .f32⟩
  | 105 => ⟨S_, .f32⟩
  | 106 => ⟨S2x32x128x4x1, .f32⟩
  | 107 => ⟨S2x32x128x4x1, .f32⟩
  | 108 => ⟨S2x32x128x4x128, .f32⟩
  | 109 => ⟨S2x32x128x4x128, .f32⟩
  | 110 => ⟨S1x1x1x4x128, .f32⟩
  | 111 => ⟨S2x32x128x4x128, .f32⟩
  | 112 => ⟨S2x32x128x4x128, .f32⟩
  | 113 => ⟨S1x1x1x4x128, .f32⟩
  | 114 => ⟨S2x32x128x4x128, .f32⟩
  | 115 => ⟨S2x32x128x4x128, .f32⟩
  | 116 => ⟨S_, .i1⟩
  | 117 => ⟨S128x128, .i1⟩
  | 118 => ⟨S128x128, .i32⟩
  | 119 => ⟨S_, .i32⟩
  | 120 => ⟨S128x128, .i32⟩
  | 121 => ⟨S128x128, .i32⟩
  | 122 => ⟨S128x128, .i32⟩
  | 123 => ⟨S128x128, .i1⟩
  | 124 => ⟨S_, .i1⟩
  | 125 => ⟨S128x128, .i1⟩
  | 126 => ⟨S128x128, .i1⟩
  | 127 => ⟨S_, .f32⟩
  | _ => ⟨S2x4096x1024, .f32⟩

abbrev hbmTy0_1 (i : Nat) : BufTy := match i % 128 with
  | 0 => ⟨S4x128x128, .f32⟩
  | 1 => ⟨S4x128x128, .i1⟩
  | 2 => ⟨S4x128x128, .f32⟩
  | 3 => ⟨S_, .f32⟩
  | 4 => ⟨S4x128x128, .f32⟩
  | 5 => ⟨S4x2x32x128x128, .f32⟩
  | 6 => ⟨S2x32x128x4x128, .f32⟩
  | 7 => ⟨S128x4, .f32⟩
  | 8 => ⟨S128x4x1, .f32⟩
  | 9 => ⟨S1x1x128x4x1, .f32⟩
  | 10 => ⟨S2x32x128x4x128, .f32⟩
  | 11 => ⟨S2x32x128x4x128, .f32⟩
  | 12 => ⟨S2x4096x512, .f32⟩
  | 13 => ⟨S2x4096x512, .f32⟩
  | 14 => ⟨S2x4096x512, .f32⟩
  | 15 => ⟨S2x4096x512, .f32⟩
  | 16 => ⟨S_, .f32⟩
  | 17 => ⟨S2x4096x512, .f32⟩
  | 18 => ⟨S2x4096x512, .f32⟩
  | 19 => ⟨S_, .f32⟩
  | 20 => ⟨S2x4096x512, .f32⟩
  | 21 => ⟨S2x4096x512, .f32⟩
  | 22 => ⟨S_, .f32⟩
  | 23 => ⟨S2x4096x512, .f32⟩
  | 24 => ⟨S2x4096x512, .f32⟩
  | 25 => ⟨S2x4096x512, .f32⟩
  | 26 => ⟨S2x4096x512, .f32⟩
  | 27 => ⟨S2x4096x512, .f32⟩
  | 28 => ⟨S2x4096x512, .f32⟩
  | 29 => ⟨S2x4096x512, .f32⟩
  | 30 => ⟨S2x4096x512, .f32⟩
  | 31 => ⟨S2x4096x512, .f32⟩
  | 32 => ⟨S2x4096x512, .f32⟩
  | 33 => ⟨S2x4096x512, .f32⟩
  | 34 => ⟨S2x4096x512, .f32⟩
  | 35 => ⟨S2x4096x512, .f32⟩
  | 36 => ⟨S2x32x128x4x128, .f32⟩
  | 37 => ⟨S_, .f32⟩
  | 38 => ⟨S128x4, .f32⟩
  | 39 => ⟨S1x1x128x4x1, .f32⟩
  | 40 => ⟨S_, .f32⟩
  | 41 => ⟨S128x4, .f32⟩
  | 42 => ⟨S128x4x1, .f32⟩
  | 43 => ⟨S_, .f32⟩
  | 44 => ⟨S128x4, .f32⟩
  | 45 => ⟨S4x128, .f32⟩
  | 46 => ⟨S4x2x32x128x128, .f32⟩
  | 47 => ⟨S4x128x128, .f32⟩
  | 48 => ⟨S4x2x32x128x128, .f32⟩
  | 49 => ⟨S2x32x128x4x128, .f32⟩
  | 50 => ⟨S_, .f32⟩
  | 51 => ⟨S4x128x128, .f32⟩
  | 52 => ⟨S4x128x128, .f32⟩
  | 53 => ⟨S_, .f32⟩
  | 54 => ⟨S4x128, .f32⟩
  | 55 => ⟨S1x1x1x4x128, .f32⟩
  | 56 => ⟨S_, .f32⟩
  | 57 => ⟨S4x128, .f32⟩
  | 58 => ⟨S2x32x128x4x128, .f32⟩
  | 59 => ⟨S_, .f32⟩
  | 60 => ⟨S4x128, .f32⟩
  | 61 => ⟨S1x1x1x4x128, .f32⟩
  | 62 => ⟨S2x32x128x4x128, .f32⟩
  | 63 => ⟨S2x32x128x4x128, .f32⟩
  | 64 => ⟨S_, .f32⟩
  | 65 => ⟨S4x128, .f32⟩
  | 66 => ⟨S2x32x128x4x128, .f32⟩
  | 67 => ⟨S_, .f32⟩
  | 68 => ⟨S2x32x128x4, .f32⟩
  | 69 => ⟨S2x32x128x4x1, .f32⟩
  | 70 => ⟨S2x32x128x4x128, .f32⟩
  | 71 => ⟨S2x32x128x4x128, .f32⟩
  | 72 => ⟨S2x32x128x4x1, .f32⟩
  | 73 => ⟨S_, .f32⟩
  | 74 => ⟨S2x32x128x4x1, .f32⟩
  | 75 => ⟨S2x32x128x4x1, .f32⟩
  | 76 => ⟨S_, .f32⟩
  | 77 => ⟨S2x32x128x4, .f32⟩
  | 78 => ⟨S2x32x128x4x128, .f32⟩
  | 79 => ⟨S2x32x128x4x128, .f32⟩
  | 80 => ⟨S2x32x128x4x128, .f32⟩
  | 81 => ⟨S2x32x128x4x128, .f32⟩
  | 82 => ⟨S2x32x128x4x128, .f32⟩
  | 83 => ⟨S2x32x128x4x128, .f32⟩
  | 84 => ⟨S_, .f32⟩
  | 85 => ⟨S2x32x128x4, .f32⟩
  | 86 => ⟨S2x32x128x4x1, .f32⟩
  | 87 => ⟨S_, .f32⟩
  | 88 => ⟨S2x32x128x4x1, .f32⟩
  | 89 => ⟨S2x32x128x4x1, .f32⟩
  | 90 => ⟨S_, .f32⟩
  | 91 => ⟨S2x32x128x4, .f32⟩
  | 92 => ⟨S2x32x128x4x128, .f32⟩
  | 93 => ⟨S2x32x128x4x128, .f32⟩
  | 94 => ⟨S512, .f32⟩
  | 95 => ⟨S512, .f32⟩
  | 96 => ⟨S2x4096x512, .f32⟩
  | 97 => ⟨S2x4096x512, .f32⟩
  | 98 => ⟨S2x4096x512, .f32⟩
  | 99 => ⟨S_, .f32⟩
  | 100 => ⟨S2x4096x512, .f32⟩
  | 101 => ⟨S2x4096x512, .f32⟩
  | 102 => ⟨S2x4096x512, .f32⟩
  | 103 => ⟨S2x4096x512, .f32⟩
  | 104 => ⟨S2x4096x512, .f32⟩
  | 105 => ⟨S2x4096x512, .f32⟩
  | 106 => ⟨S_, .f32⟩
  | 107 => ⟨S2x4096x512, .f32⟩
  | 108 => ⟨S2x4096x512, .f32⟩
  | 109 => ⟨S2x4096x512, .f32⟩
  | 110 => ⟨S2x4096x512, .f32⟩
  | 111 => ⟨S2x4096x512, .f32⟩
  | 112 => ⟨S_, .f32⟩
  | 113 => ⟨S2x4096x512, .f32⟩
  | 114 => ⟨S2x4096x512, .f32⟩
  | 115 => ⟨S2x4096x512, .f32⟩
  | 116 => ⟨S2x4096x512, .f32⟩
  | 117 => ⟨S2x4096x512, .f32⟩
  | 118 => ⟨S2x4096x512, .f32⟩
  | 119 => ⟨S_, .f32⟩
  | 120 => ⟨S2x4096x512, .f32⟩
  | 121 => ⟨S2x4096x512, .f32⟩
  | 122 => ⟨S2x4096x512, .f32⟩
  | 123 => ⟨S1x4x128, .f32⟩
  | 124 => ⟨S1x4x128x128, .f32⟩
  | 125 => ⟨S1x512, .f32⟩
  | 126 => ⟨S1x512, .f32⟩
  | 127 => ⟨S2x4096x3592, .f32⟩
  | _ => ⟨S2x4096x1024, .f32⟩

abbrev hbmTy0_2 (i : Nat) : BufTy := match i % 128 with
  | 0 => ⟨S3592x1024, .f32⟩
  | 1 => ⟨S1024x3592, .f32⟩
  | 2 => ⟨S2x4096x1024, .f32⟩
  | 3 => ⟨S1x1024x3592, .f32⟩
  | 4 => ⟨S2x4096x1024, .f32⟩
  | 5 => ⟨S_, .f32⟩
  | 6 => ⟨S1024, .f32⟩
  | 7 => ⟨S1x1x1024, .f32⟩
  | 8 => ⟨S2x4096x1024, .f32⟩
  | 9 => ⟨S2x4096x1024, .f32⟩
  | 10 => ⟨S_, .f32⟩
  | 11 => ⟨S1024, .f32⟩
  | 12 => ⟨S2x4096x1024, .f32⟩
  | 13 => ⟨S_, .f32⟩
  | 14 => ⟨S2x4096, .f32⟩
  | 15 => ⟨S2x4096x1, .f32⟩
  | 16 => ⟨S2x4096x1024, .f32⟩
  | 17 => ⟨S2x4096x1024, .f32⟩
  | 18 => ⟨S2x4096x1024, .f32⟩
  | 19 => ⟨S2x4096x1, .f32⟩
  | 20 => ⟨S_, .f32⟩
  | 21 => ⟨S2x4096x1, .f32⟩
  | 22 => ⟨S2x4096x1, .f32⟩
  | 23 => ⟨S_, .f32⟩
  | 24 => ⟨S2x4096, .f32⟩
  | 25 => ⟨S2x4096x1024, .f32⟩
  | 26 => ⟨S2x4096x1024, .f32⟩
  | 27 => ⟨S2x4096x1024, .f32⟩
  | 28 => ⟨S2x4096x1024, .f32⟩
  | 29 => ⟨S2x4096x1024, .f32⟩
  | 30 => ⟨S1x1024, .f32⟩
  | 31 => ⟨S8192x1024, .f32⟩
  | 32 => ⟨S4x128x128, .f32⟩
  | 33 => ⟨S4x128, .f32⟩
  | 34 => ⟨S128x4, .f32⟩
  | _ => ⟨S2x4096x1024, .f32⟩

abbrev hbmTy (i : Nat) : BufTy := match i / 128 with
  | 0 => hbmTy0_0 i
  | 1 => hbmTy0_1 i
  | 2 => hbmTy0_2 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_6 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_7 : Ref sig .tc := ⟨.hbm, 85, rfl⟩
abbrev main_v65 : Ref sig .tc := ⟨.hbm, 86, rfl⟩
abbrev main_v66 : Ref sig .tc := ⟨.hbm, 87, rfl⟩
abbrev main_cst_8 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_9 : Ref sig .tc := ⟨.hbm, 94, rfl⟩
abbrev main_v72 : Ref sig .tc := ⟨.hbm, 95, rfl⟩
abbrev main_v73 : Ref sig .tc := ⟨.hbm, 96, rfl⟩
abbrev main_cst_10 : Ref sig .tc := ⟨.hbm, 97, rfl⟩
abbrev main_v74 : Ref sig .tc := ⟨.hbm, 98, rfl⟩
abbrev main_v75 : Ref sig .tc := ⟨.hbm, 99, rfl⟩
abbrev main_cst_11 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_12 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_c : Ref sig .tc := ⟨.hbm, 116, rfl⟩
abbrev main_v90 : Ref sig .tc := ⟨.hbm, 117, rfl⟩
abbrev main_call0_v0 : Ref sig .tc := ⟨.hbm, 118, rfl⟩
abbrev main_call0_c : Ref sig .tc := ⟨.hbm, 119, rfl⟩
abbrev main_call0_v1 : Ref sig .tc := ⟨.hbm, 120, rfl⟩
abbrev main_call0_v2 : Ref sig .tc := ⟨.hbm, 121, rfl⟩
abbrev main_call0_v3 : Ref sig .tc := ⟨.hbm, 122, rfl⟩
abbrev main_call0_v4 : Ref sig .tc := ⟨.hbm, 123, rfl⟩
abbrev main_call0_c_0 : Ref sig .tc := ⟨.hbm, 124, rfl⟩
abbrev main_call0_v5 : Ref sig .tc := ⟨.hbm, 125, rfl⟩
abbrev main_v91 : Ref sig .tc := ⟨.hbm, 126, rfl⟩
abbrev main_cst_13 : Ref sig .tc := ⟨.hbm, 127, rfl⟩
abbrev main_v92 : Ref sig .tc := ⟨.hbm, 128, rfl⟩
abbrev main_v93_1 : Ref sig .tc := ⟨.hbm, 129, rfl⟩
abbrev main_v93_0 : Ref sig .tc := ⟨.hbm, 130, rfl⟩
abbrev main_call1_cst : Ref sig .tc := ⟨.hbm, 131, rfl⟩
abbrev main_v93_2 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_call2_v0 : Ref sig .tc := ⟨.hbm, 142, rfl⟩
abbrev main_call2_v1 : Ref sig .tc := ⟨.hbm, 143, rfl⟩
abbrev main_call2_cst : Ref sig .tc := ⟨.hbm, 144, rfl⟩
abbrev main_call2_v2 : Ref sig .tc := ⟨.hbm, 145, rfl⟩
abbrev main_call2_v3 : Ref sig .tc := ⟨.hbm, 146, rfl⟩
abbrev main_call2_cst_0 : Ref sig .tc := ⟨.hbm, 147, rfl⟩
abbrev main_call2_v4 : Ref sig .tc := ⟨.hbm, 148, rfl⟩
abbrev main_v103_2 : Ref sig .tc := ⟨.hbm, 149, rfl⟩
abbrev main_call2_cst_1 : Ref sig .tc := ⟨.hbm, 150, rfl⟩
abbrev main_call2_v6 : Ref sig .tc := ⟨.hbm, 151, rfl⟩
abbrev main_call2_v7 : Ref sig .tc := ⟨.hbm, 152, rfl⟩
abbrev main_v103_1 : Ref sig .tc := ⟨.hbm, 153, rfl⟩
abbrev main_v103_0 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_call3_v0 : Ref sig .tc := ⟨.hbm, 158, rfl⟩
abbrev main_call3_v1 : Ref sig .tc := ⟨.hbm, 159, rfl⟩
abbrev main_call3_v2 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_cst_14 : Ref sig .tc := ⟨.hbm, 165, rfl⟩
abbrev main_v111 : Ref sig .tc := ⟨.hbm, 166, rfl⟩
abbrev main_v112 : Ref sig .tc := ⟨.hbm, 167, rfl⟩
abbrev main_cst_15 : Ref sig .tc := ⟨.hbm, 168, rfl⟩
abbrev main_v113 : Ref sig .tc := ⟨.hbm, 169, rfl⟩
abbrev main_v114 : Ref sig .tc := ⟨.hbm, 170, rfl⟩
abbrev main_cst_16 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_call4_cst : Ref sig .tc := ⟨.hbm, 178, rfl⟩
abbrev main_call4_v0 : Ref sig .tc := ⟨.hbm, 179, rfl⟩
abbrev main_v121 : Ref sig .tc := ⟨.hbm, 180, rfl⟩
abbrev main_cst_17 : Ref sig .tc := ⟨.hbm, 181, rfl⟩
abbrev main_v122 : Ref sig .tc := ⟨.hbm, 182, rfl⟩
abbrev main_v123 : Ref sig .tc := ⟨.hbm, 183, rfl⟩
abbrev main_cst_18 : Ref sig .tc := ⟨.hbm, 184, rfl⟩
abbrev main_v124 : Ref sig .tc := ⟨.hbm, 185, rfl⟩
abbrev main_v125 : Ref sig .tc := ⟨.hbm, 186, rfl⟩
abbrev main_cst_19 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_cst_20 : Ref sig .tc := ⟨.hbm, 192, rfl⟩
abbrev main_v130 : Ref sig .tc := ⟨.hbm, 193, rfl⟩
abbrev main_v131 : Ref sig .tc := ⟨.hbm, 194, rfl⟩
abbrev main_cst_21 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_cst_22 : Ref sig .tc := ⟨.hbm, 201, rfl⟩
abbrev main_v137 : Ref sig .tc := ⟨.hbm, 202, rfl⟩
abbrev main_v138 : Ref sig .tc := ⟨.hbm, 203, rfl⟩
abbrev main_cst_23 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_cst_24 : Ref sig .tc := ⟨.hbm, 212, rfl⟩
abbrev main_v146 : Ref sig .tc := ⟨.hbm, 213, rfl⟩
abbrev main_v147 : Ref sig .tc := ⟨.hbm, 214, rfl⟩
abbrev main_cst_25 : Ref sig .tc := ⟨.hbm, 215, rfl⟩
abbrev main_v148 : Ref sig .tc := ⟨.hbm, 216, rfl⟩
abbrev main_v149 : Ref sig .tc := ⟨.hbm, 217, rfl⟩
abbrev main_cst_26 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_cst_27 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_cst_28 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_cst_29 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_cst_30 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_cst_31 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_cst_32 : Ref sig .tc := ⟨.hbm, 266, rfl⟩
abbrev main_v192 : Ref sig .tc := ⟨.hbm, 267, rfl⟩
abbrev main_v193 : Ref sig .tc := ⟨.hbm, 268, rfl⟩
abbrev main_cst_33 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_cst_34 : Ref sig .tc := ⟨.hbm, 276, rfl⟩
abbrev main_v200 : Ref sig .tc := ⟨.hbm, 277, rfl⟩
abbrev main_v201 : Ref sig .tc := ⟨.hbm, 278, rfl⟩
abbrev main_cst_35 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩

abbrev nD : Nat := 1
abbrev τ : Topo := Topo.v7x

variable {F : FTy → Type} [FloatOps F]
-- ==== Kernel2.lean ====
abbrev S8192x512 : Shape := ⟨2, ![8192, 512]⟩
abbrev S2x4096x512 : Shape := ⟨3, ![2, 4096, 512]⟩
abbrev S2x4096x1024 : Shape := ⟨3, ![2, 4096, 1024]⟩
abbrev S1x2x4096x256 : Shape := ⟨4, ![1, 2, 4096, 256]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S8x128x1024 : Shape := ⟨3, ![8, 128, 1024]⟩
abbrev S8x256x128 : Shape := ⟨3, ![8, 256, 128]⟩
abbrev S8x128 : Shape := ⟨2, ![8, 128]⟩
abbrev S512x512 : Shape := ⟨2, ![512, 512]⟩
abbrev S512x1024 : Shape := ⟨2, ![512, 1024]⟩
abbrev S512x256 : Shape := ⟨2, ![512, 256]⟩
abbrev S128x1024 : Shape := ⟨2, ![128, 1024]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S1 : Shape := ⟨1, ![1]⟩
abbrev S1x1 : Shape := ⟨2, ![1, 1]⟩
abbrev S_ : Shape := ⟨0, ![]⟩
abbrev S1x128x1024 : Shape := ⟨3, ![1, 128, 1024]⟩
abbrev S1x256x128 : Shape := ⟨3, ![1, 256, 128]⟩

abbrev nBuf : Space → Nat
  | .hbm => 30
  | .vmem => 29
  | .smem => 0
  | _ => 0

abbrev bufTy : (tb : Table) → Fin (tcTables nBuf tb) → BufTy
  | .hbm, ⟨0, _⟩ => ⟨S8192x512, .bf16⟩
  | .hbm, ⟨1, _⟩ => ⟨S2x4096x512, .bf16⟩
  | .hbm, ⟨2, _⟩ => ⟨S2x4096x1024, .f32⟩
  | .hbm, ⟨3, _⟩ => ⟨S1x2x4096x256, .f32⟩
  | .hbm, ⟨4, _⟩ => ⟨S2x4096x1024, .f32⟩
  | .hbm, ⟨5, _⟩ => ⟨S1x1024x1024, .f32⟩
  | .hbm, ⟨6, _⟩ => ⟨S1x1024x1024, .f32⟩
  | .hbm, ⟨7, _⟩ => ⟨S1x256x1024, .f32⟩
  | .hbm, ⟨8, _⟩ => ⟨S1x1024, .f32⟩
  | .hbm, ⟨9, _⟩ => ⟨S1024, .f32⟩
  | .hbm, ⟨10, _⟩ => ⟨S8192x512, .bf16⟩
  | .hbm, ⟨11, _⟩ => ⟨S8192x1024, .f32⟩
  | .hbm, ⟨12, _⟩ => ⟨S8192x256, .f32⟩
  | .hbm, ⟨13, _⟩ => ⟨S8192x1024, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S256x1024, .f32⟩
  | .hbm, ⟨19, _⟩ => ⟨S256x1024, .bf16⟩
  | .hbm, ⟨20, _⟩ => ⟨S1x1024, .f32⟩
  | .hbm, ⟨21, _⟩ => ⟨S8192x512, .f32⟩
  | .hbm, ⟨22, _⟩ => ⟨S8192x512, .f32⟩
  | .hbm, ⟨23, _⟩ => ⟨S8192x1024, .f32⟩
  | .hbm, ⟨24, _⟩ => ⟨S8x128x1024, .bf16⟩
  | .hbm, ⟨25, _⟩ => ⟨S8x128x1024, .bf16⟩
  | .hbm, ⟨26, _⟩ => ⟨S8x256x128, .bf16⟩
  | .hbm, ⟨27, _⟩ => ⟨S1x1024, .f32⟩
  | .hbm, ⟨28, _⟩ => ⟨S1x1024, .f32⟩
  | .hbm, ⟨29, _⟩ => ⟨S8x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S1x1024, .f32⟩
  | .local _ .vmem, ⟨23, _⟩ => ⟨S8x128, .f32⟩
  | .local _ .vmem, ⟨24, _⟩ => ⟨S1024x1024, .f32⟩
  | .local _ .vmem, ⟨25, _⟩ => ⟨S1024x1024, .f32⟩
  | .local _ .vmem, ⟨26, _⟩ => ⟨S256x1024, .f32⟩
  | .local _ .vmem, ⟨27, _⟩ => ⟨S128x1024, .bf16⟩
  | .local _ .vmem, ⟨28, _⟩ => ⟨S256x128, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_v11_5 : Ref sig .tc := ⟨.hbm, 26, rfl⟩
abbrev main_v11_6 : Ref sig .tc := ⟨.hbm, 27, rfl⟩
abbrev main_v11_7 : Ref sig .tc := ⟨.hbm, 28, rfl⟩
abbrev main_v11_8 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference2Ideal.lean ====
abbrev S8192x512 : Shape := ⟨2, ![8192, 512]⟩
abbrev S2x4096x512 : Shape := ⟨3, ![2, 4096, 512]⟩
abbrev S2x4096x1024 : Shape := ⟨3, ![2, 4096, 1024]⟩
abbrev S1x2x4096x256 : Shape := ⟨4, ![1, 2, 4096, 256]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S1024x1024 : Shape := ⟨2, ![1024, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x256 : Shape := ⟨3, ![2, 4096, 256]⟩
abbrev S256x1024 : Shape := ⟨2, ![256, 1024]⟩
abbrev S8192x1024 : Shape := ⟨2, ![8192, 1024]⟩
abbrev S8x128 : Shape := ⟨2, ![8, 128]⟩

abbrev nBuf : Space → Nat
  | .hbm => 165
  | .vmem => 0
  | .smem => 0
  | _ => 0

abbrev hbmTy0_0 (i : Nat) : BufTy := match i % 128 with
  | 0 => ⟨S8192x512, .bf16⟩
  | 1 => ⟨S2x4096x512, .bf16⟩
  | 2 => ⟨S2x4096x1024, .f32⟩
  | 3 => ⟨S1x2x4096x256, .f32⟩
  | 4 => ⟨S2x4096x1024, .f32⟩
  | 5 => ⟨S1x1024x1024, .f32⟩
  | 6 => ⟨S1x1024x1024, .f32⟩
  | 7 => ⟨S1x256x1024, .f32⟩
  | 8 => ⟨S1x1024, .f32⟩
  | 9 => ⟨S1024, .f32⟩
  | 10 => ⟨S8192x512, .f32⟩
  | 11 => ⟨S2x4096x512, .f32⟩
  | 12 => ⟨S2x4096x512, .f32⟩
  | 13 => ⟨S2x4096x1024, .f32⟩
  | 14 => ⟨S1024x1024, .f32⟩
  | 15 => ⟨S2x4096x1024, .f32⟩
  | 16 => ⟨S2x4096x1024, .f32⟩
  | 17 => ⟨S1024, .f32⟩
  | 18 => ⟨S2x4096x1024, .f32⟩
  | 19 => ⟨S_, .f32⟩
  | 20 => ⟨S2x4096, .f32⟩
  | 21 => ⟨S2x4096x1, .f32⟩
  | 22 => ⟨S_, .f32⟩
  | 23 => ⟨S2x4096x1, .f32⟩
  | 24 => ⟨S2x4096x1, .f32⟩
  | 25 => ⟨S_, .f32⟩
  | 26 => ⟨S2x4096x1, .f32⟩
  | 27 => ⟨S2x4096x1, .f32⟩
  | 28 => ⟨S2x4096x1, .f32⟩
  | 29 => ⟨S2x4096x1, .f32⟩
  | 30 => ⟨S_, .f32⟩
  | 31 => ⟨S2x4096x1, .f32⟩
  | 32 => ⟨S2x4096x1, .f32⟩
  | 33 => ⟨S2x4096x1024, .f32⟩
  | 34 => ⟨S2x4096x1024, .f32⟩
  | 35 => ⟨S1x1x1024, .f32⟩
  | 36 => ⟨S2x4096x1024, .f32⟩
  | 37 => ⟨S2x4096x1024, .f32⟩
  | 38 => ⟨S1024x1024, .f32⟩
  | 39 => ⟨S2x4096x1024, .f32⟩
  | 40 => ⟨S2x4096x1024, .f32⟩
  | 41 => ⟨S2x4096x1024, .f32⟩
  | 42 => ⟨S_, .f32⟩
  | 43 => ⟨S2x4096x1024, .f32⟩
  | 44 => ⟨S2x4096x1024, .f32⟩
  | 45 => ⟨S_, .f32⟩
  | 46 => ⟨S2x4096x1024, .f32⟩
  | 47 => ⟨S2x4096x1024, .f32⟩
  | 48 => ⟨S_, .f32⟩
  | 49 => ⟨S2x4096x1024, .f32⟩
  | 50 => ⟨S2x4096x1024, .f32⟩
  | 51 => ⟨S2x4096x1024, .f32⟩
  | 52 => ⟨S2x4096x256, .f32⟩
  | 53 => ⟨S256x1024, .f32⟩
  | 54 => ⟨S2x4096x1024, .f32⟩
  | 55 => ⟨S2x4096x1024, .f32⟩
  | 56 => ⟨S2x4096x1024, .f32⟩
  | 57 => ⟨S2x4096x1024, .f32⟩
  | 58 => ⟨S_, .f32⟩
  | 59 => ⟨S2x4096, .f32⟩
  | 60 => ⟨S2x4096x1, .f32⟩
  | 61 => ⟨S_, .f32⟩
  | 62 => ⟨S2x4096x1, .f32⟩
  | 63 => ⟨S2x4096x1, .f32⟩
  | 64 => ⟨S_, .f32⟩
  | 65 => ⟨S2x4096x1, .f32⟩
  | 66 => ⟨S2x4096x1, .f32⟩
  | 67 => ⟨S2x4096x1, .f32⟩
  | 68 => ⟨S2x4096x1, .f32⟩
  | 69 => ⟨S_, .f32⟩
  | 70 => ⟨S2x4096x1, .f32⟩
  | 71 => ⟨S2x4096x1, .f32⟩
  | 72 => ⟨S2x4096x1024, .f32⟩
  | 73 => ⟨S2x4096x1024, .f32⟩
  | 74 => ⟨S1x1x1024, .f32⟩
  | 75 => ⟨S2x4096x1024, .f32⟩
  | 76 => ⟨S2x4096x1024, .f32⟩
  | 77 => ⟨S2x4096x1024, .f32⟩
  | 78 => ⟨S2x4096x1024, .f32⟩
  | 79 => ⟨S_, .f32⟩
  | 80 => ⟨S2x4096x1024, .f32⟩
  | 81 => ⟨S2x4096x1024, .f32⟩
  | 82 => ⟨S_, .f32⟩
  | 83 => ⟨S2x4096, .f32⟩
  | 84 => ⟨S_, .f32⟩
  | 85 => ⟨S2x4096, .f32⟩
  | 86 => ⟨S2x4096, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S2x4096, .f32⟩
  | 95 => ⟨S_, .f32⟩
  | 96 => ⟨S2x4096, .f32⟩
  | 97 => ⟨S2x4096, .f32⟩
  | 98 => ⟨S2x4096x1024, .f32⟩
  | 99 => ⟨S2x4096x1024, .f32⟩
  | 100 => ⟨S2x4096x1024, .f32⟩
  | 101 => ⟨S_, .f32⟩
  | 102 => ⟨S1024, .f32⟩
  | 103 => ⟨S1x1x1024, .f32⟩
  | 104 => ⟨S2x4096x1024, .f32⟩
  | 105 => ⟨S2x4096x1024, .f32⟩
  | 106 => ⟨S_, .f32⟩
  | 107 => ⟨S1024, .f32⟩
  | 108 => ⟨S2x4096x1024, .f32⟩
  | 109 => ⟨S_, .f32⟩
  | 110 => ⟨S2x4096, .f32⟩
  | 111 => ⟨S2x4096x1, .f32⟩
  | 112 => ⟨S2x4096x1024, .f32⟩
  | 113 => ⟨S2x4096x1024, .f32⟩
  | 114 => ⟨S2x4096x1, .f32⟩
  | 115 => ⟨S_, .f32⟩
  | 116 => ⟨S2x4096x1, .f32⟩
  | 117 => ⟨S2x4096x1, .f32⟩
  | 118 => ⟨S_, .f32⟩
  | 119 => ⟨S2x4096, .f32⟩
  | 120 => ⟨S2x4096x1024, .f32⟩
  | 121 => ⟨S2x4096x1024, .f32⟩
  | 122 => ⟨S2x4096x1024, .f32⟩
  | 123 => ⟨S2x4096x1024, .f32⟩
  | 124 => ⟨S2x4096x1024, .f32⟩
  | 125 => ⟨S2x4096x1024, .f32⟩
  | 126 => ⟨S2x4096x1024, .f32⟩
  | 127 => ⟨S2x4096x1024, .f32⟩
  | _ => ⟨S8192x512, .bf16⟩

abbrev hbmTy0_1 (i : Nat) : BufTy := match i % 128 with
  | 0 => ⟨S2x4096x1024, .f32⟩
  | 1 => ⟨S_, .f32⟩
  | 2 => ⟨S1024, .f32⟩
  | 3 => ⟨S1x1x1024, .f32⟩
  | 4 => ⟨S2x4096x1024, .f32⟩
  | 5 => ⟨S2x4096x1024, .f32⟩
  | 6 => ⟨S_, .f32⟩
  | 7 => ⟨S1024, .f32⟩
  | 8 => ⟨S2x4096x1024, .f32⟩
  | 9 => ⟨S_, .f32⟩
  | 10 => ⟨S2x4096, .f32⟩
  | 11 => ⟨S2x4096x1, .f32⟩
  | 12 => ⟨S2x4096x1024, .f32⟩
  | 13 => ⟨S2x4096x1024, .f32⟩
  | 14 => ⟨S2x4096x1024, .f32⟩
  | 15 => ⟨S2x4096x1, .f32⟩
  | 16 => ⟨S_, .f32⟩
  | 17 => ⟨S2x4096x1, .f32⟩
  | 18 => ⟨S2x4096x1, .f32⟩
  | 19 => ⟨S_, .f32⟩
  | 20 => ⟨S2x4096, .f32⟩
  | 21 => ⟨S2x4096x1024, .f32⟩
  | 22 => ⟨S2x4096x1024, .f32⟩
  | 23 => ⟨S2x4096x1024, .f32⟩
  | 24 => ⟨S2x4096x1024, .f32⟩
  | 25 => ⟨S2x4096x1024, .f32⟩
  | 26 => ⟨S1x1024, .f32⟩
  | 27 => ⟨S2x4096x1024, .f32⟩
  | 28 => ⟨S2x4096x512, .f32⟩
  | 29 => ⟨S2x4096x512, .f32⟩
  | 30 => ⟨S8192x512, .f32⟩
  | 31 => ⟨S8192x512, .f32⟩
  | 32 => ⟨S8192x1024, .f32⟩
  | 33 => ⟨S1x1024, .f32⟩
  | 34 => ⟨S_, .f32⟩
  | 35 => ⟨S_, .f32⟩
  | 36 => ⟨S8x128, .f32⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_cst_14 : Ref sig .tc := ⟨.hbm, 89, rfl⟩
abbrev main_v64 : Ref sig .tc := ⟨.hbm, 90, rfl⟩
abbrev main_cst_15 : Ref sig .tc := ⟨.hbm, 91, rfl⟩
abbrev main_cst_16 : Ref sig .tc := ⟨.hbm, 92, rfl⟩
abbrev main_v65 : Ref sig .tc := ⟨.hbm, 93, rfl⟩
abbrev main_v66 : Ref sig .tc := ⟨.hbm, 94, rfl⟩
abbrev main_cst_17 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_18 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_19 : Ref sig .tc := ⟨.hbm, 106, rfl⟩
abbrev main_v76 : Ref sig .tc := ⟨.hbm, 107, rfl⟩
abbrev main_v77 : Ref sig .tc := ⟨.hbm, 108, rfl⟩
abbrev main_cst_20 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_21 : Ref sig .tc := ⟨.hbm, 115, rfl⟩
abbrev main_v83 : Ref sig .tc := ⟨.hbm, 116, rfl⟩
abbrev main_v84 : Ref sig .tc := ⟨.hbm, 117, rfl⟩
abbrev main_cst_22 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_23 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_24 : Ref sig .tc := ⟨.hbm, 134, rfl⟩
abbrev main_v99 : Ref sig .tc := ⟨.hbm, 135, rfl⟩
abbrev main_v100 : Ref sig .tc := ⟨.hbm, 136, rfl⟩
abbrev main_cst_25 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_26 : Ref sig .tc := ⟨.hbm, 144, rfl⟩
abbrev main_v107 : Ref sig .tc := ⟨.hbm, 145, rfl⟩
abbrev main_v108 : Ref sig .tc := ⟨.hbm, 146, rfl⟩
abbrev main_cst_27 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_28 : Ref sig .tc := ⟨.hbm, 162, rfl⟩
abbrev main_v123 : Ref sig .tc := ⟨.hbm, 163, rfl⟩
abbrev main_v124 : Ref sig .tc := ⟨.hbm, 164, rfl⟩

abbrev nD : Nat := 1
abbrev τ : Topo := Topo.v7x

variable {F : FTy → Type} [FloatOps F]
-- ==== Kernel3.lean ====
abbrev S4x449x1024 : Shape := ⟨3, ![4, 449, 1024]⟩
abbrev S1x1024x449 : Shape := ⟨3, ![1, 1024, 449]⟩
abbrev S449x1x1024 : Shape := ⟨3, ![449, 1, 1024]⟩
abbrev S449x1024 : Shape := ⟨2, ![449, 1024]⟩
abbrev S4x449x512 : Shape := ⟨3, ![4, 449, 512]⟩
abbrev S449x512 : Shape := ⟨2, ![449, 512]⟩
abbrev S1x449x512 : Shape := ⟨3, ![1, 449, 512]⟩

abbrev nBuf : Space → Nat
  | .hbm => 14
  | .vmem => 16
  | .smem => 0
  | _ => 0

abbrev bufTy : (tb : Table) → Fin (tcTables nBuf tb) → BufTy
  | .hbm, ⟨0, _⟩ => ⟨S4x449x1024, .bf16⟩
  | .hbm, ⟨1, _⟩ => ⟨S1x1024x449, .f32⟩
  | .hbm, ⟨2, _⟩ => ⟨S1x1024x449, .f32⟩
  | .hbm, ⟨3, _⟩ => ⟨S1x1024x449, .f32⟩
  | .hbm, ⟨4, _⟩ => ⟨S449x1x1024, .f32⟩
  | .hbm, ⟨5, _⟩ => ⟨S449x1024, .f32⟩
  | .hbm, ⟨6, _⟩ => ⟨S449x1x1024, .f32⟩
  | .hbm, ⟨7, _⟩ => ⟨S449x1024, .f32⟩
  | .hbm, ⟨8, _⟩ => ⟨S449x1x1024, .f32⟩
  | .hbm, ⟨9, _⟩ => ⟨S449x1024, .f32⟩
  | .hbm, ⟨10, _⟩ => ⟨S449x1024, .f32⟩
  | .hbm, ⟨11, _⟩ => ⟨S449x1024, .f32⟩
  | .hbm, ⟨12, _⟩ => ⟨S449x1024, .f32⟩
  | .hbm, ⟨13, _⟩ => ⟨S449x1024, .f32⟩
  | .local _ .vmem, ⟨0, _⟩ => ⟨S4x449x512, .bf16⟩
  | .local _ .vmem, ⟨1, _⟩ => ⟨S4x449x512, .bf16⟩
  | .local _ .vmem, ⟨2, _⟩ => ⟨S449x512, .f32⟩
  | .local _ .vmem, ⟨3, _⟩ => ⟨S449x512, .f32⟩
  | .local _ .vmem, ⟨4, _⟩ => ⟨S449x512, .f32⟩
  | .local _ .vmem, ⟨5, _⟩ => ⟨S449x512, .f32⟩
  | .local _ .vmem, ⟨6, _⟩ => ⟨S449x512, .f32⟩
  | .local _ .vmem, ⟨7, _⟩ => ⟨S449x512, .f32⟩
  | .local _ .vmem, ⟨8, _⟩ => ⟨S449x512, .f32⟩
  | .local _ .vmem, ⟨9, _⟩ => ⟨S449x512, .f32⟩
  | .local _ .vmem, ⟨10, _⟩ => ⟨S449x512, .f32⟩
  | .local _ .vmem, ⟨11, _⟩ => ⟨S449x512, .f32⟩
  | .local _ .vmem, ⟨12, _⟩ => ⟨S449x512, .f32⟩
  | .local _ .vmem, ⟨13, _⟩ => ⟨S449x512, .f32⟩
  | .local _ .vmem, ⟨14, _⟩ => ⟨S449x512, .f32⟩
  | .local _ .vmem, ⟨15, _⟩ => ⟨S449x512, .f32⟩
  | _, _ => ⟨S4x449x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x449x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S449x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S449x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S449x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S449x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S449x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S449x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S449x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x449x1024 : Shape := ⟨3, ![4, 449, 1024]⟩
abbrev S1x1024x449 : Shape := ⟨3, ![1, 1024, 449]⟩
abbrev S1024x449 : Shape := ⟨2, ![1024, 449]⟩
abbrev S449x1024 : Shape := ⟨2, ![449, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x449x1024, .bf16⟩
  | .hbm, ⟨1, _⟩ => ⟨S1x1024x449, .f32⟩
  | .hbm, ⟨2, _⟩ => ⟨S1x1024x449, .f32⟩
  | .hbm, ⟨3, _⟩ => ⟨S1x1024x449, .f32⟩
  | .hbm, ⟨4, _⟩ => ⟨S1024x449, .f32⟩
  | .hbm, ⟨5, _⟩ => ⟨S449x1024, .f32⟩
  | .hbm, ⟨6, _⟩ => ⟨S4x449x1024, .f32⟩
  | .hbm, ⟨7, _⟩ => ⟨S_, .f32⟩
  | .hbm, ⟨8, _⟩ => ⟨S449x1024, .f32⟩
  | .hbm, ⟨9, _⟩ => ⟨S1024x449, .f32⟩
  | .hbm, ⟨10, _⟩ => ⟨S449x1024, .f32⟩
  | .hbm, ⟨11, _⟩ => ⟨S1024x449, .f32⟩
  | .hbm, ⟨12, _⟩ => ⟨S449x1024, .f32⟩
  | .hbm, ⟨13, _⟩ => ⟨S_, .f32⟩
  | .hbm, ⟨14, _⟩ => ⟨S449x1024, .f32⟩
  | .hbm, ⟨15, _⟩ => ⟨S449x1024, .f32⟩
  | .hbm, ⟨16, _⟩ => ⟨S_, .f32⟩
  | .hbm, ⟨17, _⟩ => ⟨S449x1024, .f32⟩
  | .hbm, ⟨18, _⟩ => ⟨S449x1024, .f32⟩
  | .hbm, ⟨19, _⟩ => ⟨S449x1024, .f32⟩
  | .hbm, ⟨20, _⟩ => ⟨S_, .f32⟩
  | .hbm, ⟨21, _⟩ => ⟨S449x1024, .f32⟩
  | .hbm, ⟨22, _⟩ => ⟨S449x1024, .f32⟩
  | .hbm, ⟨23, _⟩ => ⟨S449x1024, .f32⟩
  | .hbm, ⟨24, _⟩ => ⟨S_, .f32⟩
  | .hbm, ⟨25, _⟩ => ⟨S449x1024, .f32⟩
  | .hbm, ⟨26, _⟩ => ⟨S449x1024, .f32⟩
  | .hbm, ⟨27, _⟩ => ⟨S449x1024, .f32⟩
  | .hbm, ⟨28, _⟩ => ⟨S_, .f32⟩
  | .hbm, ⟨29, _⟩ => ⟨S449x1024, .f32⟩
  | .hbm, ⟨30, _⟩ => ⟨S449x1024, .f32⟩
  | .hbm, ⟨31, _⟩ => ⟨S_, .f32⟩
  | .hbm, ⟨32, _⟩ => ⟨S449x1024, .f32⟩
  | .hbm, ⟨33, _⟩ => ⟨S449x1024, .f32⟩
  | .hbm, ⟨34, _⟩ => ⟨S449x1024, .f32⟩
  | .hbm, ⟨35, _⟩ => ⟨S_, .f32⟩
  | .hbm, ⟨36, _⟩ => ⟨S449x1024, .f32⟩
  | .hbm, ⟨37, _⟩ => ⟨S449x1024, .f32⟩
  | .hbm, ⟨38, _⟩ => ⟨S449x1024, .f32⟩
  | .hbm, ⟨39, _⟩ => ⟨S_, .f32⟩
  | .hbm, ⟨40, _⟩ => ⟨S449x1024, .f32⟩
  | .hbm, ⟨41, _⟩ => ⟨S449x1024, .f32⟩
  | .hbm, ⟨42, _⟩ => ⟨S449x1024, .f32⟩
  | .hbm, ⟨43, _⟩ => ⟨S_, .f32⟩
  | .hbm, ⟨44, _⟩ => ⟨S449x1024, .f32⟩
  | .hbm, ⟨45, _⟩ => ⟨S449x1024, .f32⟩
  | _, _ => ⟨S4x449x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel4.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference4Ideal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel5.lean ====
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x256x128, .bf16⟩
  | .hbm, ⟨1, _⟩ => ⟨S1x256x128, .f32⟩
  | .hbm, ⟨2, _⟩ => ⟨S1x256x128, .f32⟩
  | .hbm, ⟨3, _⟩ => ⟨S1x256x128, .f32⟩
  | .hbm, ⟨4, _⟩ => ⟨S1x256x128, .f32⟩
  | .hbm, ⟨5, _⟩ => ⟨S1x256x128, .f32⟩
  | .hbm, ⟨6, _⟩ => ⟨S1x256x128, .f32⟩
  | .hbm, ⟨7, _⟩ => ⟨S1x256x128, .f32⟩
  | .local _ .vmem, ⟨0, _⟩ => ⟨S8x256x128, .bf16⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference5Ideal.lean ====
abbrev S8x256x128 : Shape := ⟨3, ![8, 256, 128]⟩
abbrev S1x256x128 : Shape := ⟨3, ![1, 256, 128]⟩
abbrev S_ : Shape := ⟨0, ![]⟩
abbrev S256x128 : Shape := ⟨2, ![256, 128]⟩

abbrev nBuf : Space → Nat
  | .hbm => 41
  | .vmem => 0
  | .smem => 0
  | _ => 0

abbrev bufTy : (tb : Table) → Fin (tcTables nBuf tb) → BufTy
  | .hbm, ⟨0, _⟩ => ⟨S8x256x128, .bf16⟩
  | .hbm, ⟨1, _⟩ => ⟨S1x256x128, .f32⟩
  | .hbm, ⟨2, _⟩ => ⟨S1x256x128, .f32⟩
  | .hbm, ⟨3, _⟩ => ⟨S1x256x128, .f32⟩
  | .hbm, ⟨4, _⟩ => ⟨S8x256x128, .f32⟩
  | .hbm, ⟨5, _⟩ => ⟨S_, .f32⟩
  | .hbm, ⟨6, _⟩ => ⟨S256x128, .f32⟩
  | .hbm, ⟨7, _⟩ => ⟨S1x256x128, .f32⟩
  | .hbm, ⟨8, _⟩ => ⟨S_, .f32⟩
  | .hbm, ⟨9, _⟩ => ⟨S1x256x128, .f32⟩
  | .hbm, ⟨10, _⟩ => ⟨S1x256x128, .f32⟩
  | .hbm, ⟨11, _⟩ => ⟨S_, .f32⟩
  | .hbm, ⟨12, _⟩ => ⟨S1x256x128, .f32⟩
  | .hbm, ⟨13, _⟩ => ⟨S1x256x128, .f32⟩
  | .hbm, ⟨14, _⟩ => ⟨S1x256x128, .f32⟩
  | .hbm, ⟨15, _⟩ => ⟨S_, .f32⟩
  | .hbm, ⟨16, _⟩ => ⟨S1x256x128, .f32⟩
  | .hbm, ⟨17, _⟩ => ⟨S1x256x128, .f32⟩
  | .hbm, ⟨18, _⟩ => ⟨S1x256x128, .f32⟩
  | .hbm, ⟨19, _⟩ => ⟨S_, .f32⟩
  | .hbm, ⟨20, _⟩ => ⟨S1x256x128, .f32⟩
  | .hbm, ⟨21, _⟩ => ⟨S1x256x128, .f32⟩
  | .hbm, ⟨22, _⟩ => ⟨S1x256x128, .f32⟩
  | .hbm, ⟨23, _⟩ => ⟨S_, .f32⟩
  | .hbm, ⟨24, _⟩ => ⟨S1x256x128, .f32⟩
  | .hbm, ⟨25, _⟩ => ⟨S1x256x128, .f32⟩
  | .hbm, ⟨26, _⟩ => ⟨S_, .f32⟩
  | .hbm, ⟨27, _⟩ => ⟨S1x256x128, .f32⟩
  | .hbm, ⟨28, _⟩ => ⟨S1x256x128, .f32⟩
  | .hbm, ⟨29, _⟩ => ⟨S1x256x128, .f32⟩
  | .hbm, ⟨30, _⟩ => ⟨S_, .f32⟩
  | .hbm, ⟨31, _⟩ => ⟨S1x256x128, .f32⟩
  | .hbm, ⟨32, _⟩ => ⟨S1x256x128, .f32⟩
  | .hbm, ⟨33, _⟩ => ⟨S1x256x128, .f32⟩
  | .hbm, ⟨34, _⟩ => ⟨S_, .f32⟩
  | .hbm, ⟨35, _⟩ => ⟨S1x256x128, .f32⟩
  | .hbm, ⟨36, _⟩ => ⟨S1x256x128, .f32⟩
  | .hbm, ⟨37, _⟩ => ⟨S1x256x128, .f32⟩
  | .hbm, ⟨38, _⟩ => ⟨S_, .f32⟩
  | .hbm, ⟨39, _⟩ => ⟨S1x256x128, .f32⟩
  | .hbm, ⟨40, _⟩ => ⟨S1x256x128, .f32⟩
  | _, _ => ⟨S8x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel6.lean ====
abbrev S4x192 : Shape := ⟨2, ![4, 192]⟩
abbrev S1x4x192 : Shape := ⟨3, ![1, 4, 192]⟩

abbrev nBuf : Space → Nat
  | .hbm => 9
  | .vmem => 8
  | .smem => 0
  | _ => 0

abbrev bufTy : (tb : Table) → Fin (tcTables nBuf tb) → BufTy
  | .hbm, ⟨0, _⟩ => ⟨S4x192, .f32⟩
  | .hbm, ⟨1, _⟩ => ⟨S1x4x192, .f32⟩
  | .hbm, ⟨2, _⟩ => ⟨S1x4x192, .f32⟩
  | .hbm, ⟨3, _⟩ => ⟨S1x4x192, .f32⟩
  | .hbm, ⟨4, _⟩ => ⟨S1x4x192, .f32⟩
  | .hbm, ⟨5, _⟩ => ⟨S1x4x192, .f32⟩
  | .hbm, ⟨6, _⟩ => ⟨S1x4x192, .f32⟩
  | .hbm, ⟨7, _⟩ => ⟨S1x4x192, .f32⟩
  | .hbm, ⟨8, _⟩ => ⟨S1x4x192, .f32⟩
  | .local _ .vmem, ⟨0, _⟩ => ⟨S1x4x192, .f32⟩
  | .local _ .vmem, ⟨1, _⟩ => ⟨S1x4x192, .f32⟩
  | .local _ .vmem, ⟨2, _⟩ => ⟨S1x4x192, .f32⟩
  | .local _ .vmem, ⟨3, _⟩ => ⟨S1x4x192, .f32⟩
  | .local _ .vmem, ⟨4, _⟩ => ⟨S1x4x192, .f32⟩
  | .local _ .vmem, ⟨5, _⟩ => ⟨S1x4x192, .f32⟩
  | .local _ .vmem, ⟨6, _⟩ => ⟨S1x4x192, .f32⟩
  | .local _ .vmem, ⟨7, _⟩ => ⟨S1x4x192, .f32⟩
  | _, _ => ⟨S4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S1x4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x4x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference6Ideal.lean ====
abbrev S4x192 : Shape := ⟨2, ![4, 192]⟩
abbrev S1x4x192 : Shape := ⟨3, ![1, 4, 192]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4x192, .f32⟩
  | .hbm, ⟨1, _⟩ => ⟨S1x4x192, .f32⟩
  | .hbm, ⟨2, _⟩ => ⟨S1x4x192, .f32⟩
  | .hbm, ⟨3, _⟩ => ⟨S1x4x192, .f32⟩
  | .hbm, ⟨4, _⟩ => ⟨S1x4x192, .f32⟩
  | .hbm, ⟨5, _⟩ => ⟨S_, .f32⟩
  | .hbm, ⟨6, _⟩ => ⟨S1x4x192, .f32⟩
  | .hbm, ⟨7, _⟩ => ⟨S1x4x192, .f32⟩
  | .hbm, ⟨8, _⟩ => ⟨S_, .f32⟩
  | .hbm, ⟨9, _⟩ => ⟨S1x4x192, .f32⟩
  | .hbm, ⟨10, _⟩ => ⟨S1x4x192, .f32⟩
  | .hbm, ⟨11, _⟩ => ⟨S1x4x192, .f32⟩
  | .hbm, ⟨12, _⟩ => ⟨S_, .f32⟩
  | .hbm, ⟨13, _⟩ => ⟨S1x4x192, .f32⟩
  | .hbm, ⟨14, _⟩ => ⟨S1x4x192, .f32⟩
  | .hbm, ⟨15, _⟩ => ⟨S1x4x192, .f32⟩
  | .hbm, ⟨16, _⟩ => ⟨S_, .f32⟩
  | .hbm, ⟨17, _⟩ => ⟨S1x4x192, .f32⟩
  | .hbm, ⟨18, _⟩ => ⟨S1x4x192, .f32⟩
  | .hbm, ⟨19, _⟩ => ⟨S1x4x192, .f32⟩
  | .hbm, ⟨20, _⟩ => ⟨S_, .f32⟩
  | .hbm, ⟨21, _⟩ => ⟨S1x4x192, .f32⟩
  | .hbm, ⟨22, _⟩ => ⟨S1x4x192, .f32⟩
  | .hbm, ⟨23, _⟩ => ⟨S_, .f32⟩
  | .hbm, ⟨24, _⟩ => ⟨S1x4x192, .f32⟩
  | .hbm, ⟨25, _⟩ => ⟨S1x4x192, .f32⟩
  | .hbm, ⟨26, _⟩ => ⟨S1x4x192, .f32⟩
  | .hbm, ⟨27, _⟩ => ⟨S_, .f32⟩
  | .hbm, ⟨28, _⟩ => ⟨S1x4x192, .f32⟩
  | .hbm, ⟨29, _⟩ => ⟨S1x4x192, .f32⟩
  | .hbm, ⟨30, _⟩ => ⟨S1x4x192, .f32⟩
  | .hbm, ⟨31, _⟩ => ⟨S_, .f32⟩
  | .hbm, ⟨32, _⟩ => ⟨S1x4x192, .f32⟩
  | .hbm, ⟨33, _⟩ => ⟨S1x4x192, .f32⟩
  | .hbm, ⟨34, _⟩ => ⟨S1x4x192, .f32⟩
  | .hbm, ⟨35, _⟩ => ⟨S_, .f32⟩
  | .hbm, ⟨36, _⟩ => ⟨S1x4x192, .f32⟩
  | .hbm, ⟨37, _⟩ => ⟨S1x4x192, .f32⟩
  | _, _ => ⟨S4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel7.lean ====
abbrev S2x4096x1024 : Shape := ⟨3, ![2, 4096, 1024]⟩
abbrev S1x1024 : Shape := ⟨2, ![1, 1024]⟩
abbrev S1x1024x3592 : Shape := ⟨3, ![1, 1024, 3592]⟩
abbrev S1x512 : Shape := ⟨2, ![1, 512]⟩
abbrev S1x4x128x128 : Shape := ⟨4, ![1, 4, 128, 128]⟩
abbrev S1x4x128 : Shape := ⟨3, ![1, 4, 128]⟩
abbrev S1x4x1536 : Shape := ⟨3, ![1, 4, 1536]⟩
abbrev S3592x1x1024 : Shape := ⟨3, ![3592, 1, 1024]⟩
abbrev S3592x1024 : Shape := ⟨2, ![3592, 1024]⟩
abbrev S8x1024 : Shape := ⟨2, ![8, 1024]⟩
abbrev S_ : Shape := ⟨0, ![]⟩
abbrev S128x1024 : Shape := ⟨2, ![128, 1024]⟩
abbrev S4x128x128 : Shape := ⟨3, ![4, 128, 128]⟩
abbrev S4x128 : Shape := ⟨2, ![4, 128]⟩
abbrev S128x4 : Shape := ⟨2, ![128, 4]⟩
abbrev S8192x1024 : Shape := ⟨2, ![8192, 1024]⟩
abbrev S4x1536 : Shape := ⟨2, ![4, 1536]⟩
abbrev S8192x1536 : Shape := ⟨2, ![8192, 1536]⟩
abbrev S8192x512 : Shape := ⟨2, ![8192, 512]⟩
abbrev S8192x128 : Shape := ⟨2, ![8192, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S520x1536 : Shape := ⟨2, ![520, 1536]⟩
abbrev S8x1536 : Shape := ⟨2, ![8, 1536]⟩
abbrev S512 : Shape := ⟨1, ![512]⟩
abbrev S512x1 : Shape := ⟨2, ![512, 1]⟩
abbrev S128x128 : Shape := ⟨2, ![128, 128]⟩
abbrev S1x4 : Shape := ⟨2, ![1, 4]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩
abbrev S1x1536 : Shape := ⟨2, ![1, 1536]⟩

abbrev nBuf : Space → Nat
  | .hbm => 26
  | .vmem => 23
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x3592, .f32⟩
  | .hbm, ⟨3, _⟩ => ⟨S1x512, .f32⟩
  | .hbm, ⟨4, _⟩ => ⟨S1x512, .f32⟩
  | .hbm, ⟨5, _⟩ => ⟨S1x4x128x128, .f32⟩
  | .hbm, ⟨6, _⟩ => ⟨S1x4x128, .f32⟩
  | .hbm, ⟨7, _⟩ => ⟨S1x4x1536, .f32⟩
  | .hbm, ⟨8, _⟩ => ⟨S3592x1x1024, .f32⟩
  | .hbm, ⟨9, _⟩ => ⟨S3592x1024, .f32⟩
  | .hbm, ⟨10, _⟩ => ⟨S3592x1024, .bf16⟩
  | .hbm, ⟨11, _⟩ => ⟨S8x1024, .bf16⟩
  | .hbm, ⟨12, _⟩ => ⟨S_, .i32⟩
  | .hbm, ⟨13, _⟩ => ⟨S_, .bf16⟩
  | .hbm, ⟨14, _⟩ => ⟨S128x1024, .bf16⟩
  | .hbm, ⟨15, _⟩ => ⟨S4x128x128, .f32⟩
  | .hbm, ⟨16, _⟩ => ⟨S4x128, .f32⟩
  | .hbm, ⟨17, _⟩ => ⟨S128x4, .f32⟩
  | .hbm, ⟨18, _⟩ => ⟨S8192x1024, .f32⟩
  | .hbm, ⟨19, _⟩ => ⟨S4x1536, .f32⟩
  | .hbm, ⟨20, _⟩ => ⟨S8192x1536, .f32⟩
  | .hbm, ⟨21, _⟩ => ⟨S8192x1536, .f32⟩
  | .hbm, ⟨22, _⟩ => ⟨S8192x512, .f32⟩
  | .hbm, ⟨23, _⟩ => ⟨S8192x128, .f32⟩
  | .hbm, ⟨24, _⟩ => ⟨S8192x512, .bf16⟩
  | .hbm, ⟨25, _⟩ => ⟨S8192x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3592x1024, .bf16⟩
  | .local _ .vmem, ⟨4, _⟩ => ⟨S128x1024, .bf16⟩
  | .local _ .vmem, ⟨5, _⟩ => ⟨S1x512, .f32⟩
  | .local _ .vmem, ⟨6, _⟩ => ⟨S1x512, .f32⟩
  | .local _ .vmem, ⟨7, _⟩ => ⟨S4x128x128, .f32⟩
  | .local _ .vmem, ⟨8, _⟩ => ⟨S128x4, .f32⟩
  | .local _ .vmem, ⟨9, _⟩ => ⟨S4x1536, .f32⟩
  | .local _ .vmem, ⟨10, _⟩ => ⟨S512x1536, .f32⟩
  | .local _ .vmem, ⟨11, _⟩ => ⟨S512x1536, .f32⟩
  | .local _ .vmem, ⟨12, _⟩ => ⟨S512x1536, .f32⟩
  | .local _ .vmem, ⟨13, _⟩ => ⟨S512x1536, .f32⟩
  | .local _ .vmem, ⟨14, _⟩ => ⟨S512x512, .f32⟩
  | .local _ .vmem, ⟨15, _⟩ => ⟨S512x512, .f32⟩
  | .local _ .vmem, ⟨16, _⟩ => ⟨S512x128, .f32⟩
  | .local _ .vmem, ⟨17, _⟩ => ⟨S512x128, .f32⟩
  | .local _ .vmem, ⟨18, _⟩ => ⟨S512x512, .bf16⟩
  | .local _ .vmem, ⟨19, _⟩ => ⟨S512x512, .bf16⟩
  | .local _ .vmem, ⟨20, _⟩ => ⟨S512x1536, .f32⟩
  | .local _ .vmem, ⟨21, _⟩ => ⟨S512x1536, .f32⟩
  | .local _ .vmem, ⟨22, _⟩ => ⟨S520x1536, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3592x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel7Ideal.lean ====
variable {F : FTy → Type} [FloatOps F] [Named F]
def κ : String → Option EReal := fun
  | "root_half" => some (((Real.sqrt 2)⁻¹ : ℝ) : EReal)
  | _ => none
-- ==== Reference7Ideal.lean ====
abbrev S2x4096x1024 : Shape := ⟨3, ![2, 4096, 1024]⟩
abbrev S1x1024 : Shape := ⟨2, ![1, 1024]⟩
abbrev S1x1024x3592 : Shape := ⟨3, ![1, 1024, 3592]⟩
abbrev S1x512 : Shape := ⟨2, ![1, 512]⟩
abbrev S1x4x128x128 : Shape := ⟨4, ![1, 4, 128, 128]⟩
abbrev S1x4x128 : Shape := ⟨3, ![1, 4, 128]⟩
abbrev S1x4x1536 : Shape := ⟨3, ![1, 4, 1536]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024x3592 : Shape := ⟨2, ![1024, 3592]⟩
abbrev S2x4096x3592 : Shape := ⟨3, ![2, 4096, 3592]⟩
abbrev S2x4096x512 : Shape := ⟨3, ![2, 4096, 512]⟩
abbrev S2x4096x1536 : Shape := ⟨3, ![2, 4096, 1536]⟩
abbrev S2x4096x8 : Shape := ⟨3, ![2, 4096, 8]⟩
abbrev S512 : Shape := ⟨1, ![512]⟩
abbrev S4x128x128 : Shape := ⟨3, ![4, 128, 128]⟩
abbrev S4x128 : Shape := ⟨2, ![4, 128]⟩
abbrev S2x32x128x4x128 : Shape := ⟨5, ![2, 32, 128, 4, 128]⟩
abbrev S2x32x128x4 : Shape := ⟨4, ![2, 32, 128, 4]⟩
abbrev S2x32x128x4x1 : Shape := ⟨5, ![2, 32, 128, 4, 1]⟩
abbrev S1x1x1x4x128 : Shape := ⟨5, ![1, 1, 1, 4, 128]⟩
abbrev S128x128 : Shape := ⟨2, ![128, 128]⟩
abbrev S4x2x32x128x128 : Shape := ⟨5, ![4, 2, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S8192x8 : Shape := ⟨2, ![8192, 8]⟩
abbrev S8192x128 : Shape := ⟨2, ![8192, 128]⟩
abbrev S8192x1536 : Shape := ⟨2, ![8192, 1536]⟩
abbrev S8192x512 : Shape := ⟨2, ![8192, 512]⟩
abbrev S4x1536 : Shape := ⟨2, ![4, 1536]⟩
abbrev S2x4099x1536 : Shape := ⟨3, ![2, 4099, 1536]⟩
abbrev S1x1536 : Shape := ⟨2, ![1, 1536]⟩
abbrev S1536 : Shape := ⟨1, ![1536]⟩
abbrev S1x1x1536 : Shape := ⟨3, ![1, 1, 1536]⟩

abbrev nBuf : Space → Nat
  | .hbm => 168
  | .vmem => 0
  | .smem => 0
  | _ => 0

abbrev hbmTy0_0 (i : Nat) : BufTy := match i % 128 with
  | 0 => ⟨S2x4096x1024, .f32⟩
  | 1 => ⟨S1x1024, .f32⟩
  | 2 => ⟨S1x1024x3592, .f32⟩
  | 3 => ⟨S1x512, .f32⟩
  | 4 => ⟨S1x512, .f32⟩
  | 5 => ⟨S1x4x128x128, .f32⟩
  | 6 => ⟨S1x4x128, .f32⟩
  | 7 => ⟨S1x4x1536, .f32⟩
  | 8 => ⟨S1024, .f32⟩
  | 9 => ⟨S2x4096x1024, .f32⟩
  | 10 => ⟨S_, .f32⟩
  | 11 => ⟨S2x4096, .f32⟩
  | 12 => ⟨S2x4096x1, .f32⟩
  | 13 => ⟨S_, .f32⟩
  | 14 => ⟨S2x4096x1, .f32⟩
  | 15 => ⟨S2x4096x1, .f32⟩
  | 16 => ⟨S_, .f32⟩
  | 17 => ⟨S2x4096x1, .f32⟩
  | 18 => ⟨S2x4096x1, .f32⟩
  | 19 => ⟨S2x4096x1, .f32⟩
  | 20 => ⟨S2x4096x1024, .f32⟩
  | 21 => ⟨S2x4096x1024, .f32⟩
  | 22 => ⟨S1x1x1024, .f32⟩
  | 23 => ⟨S2x4096x1024, .f32⟩
  | 24 => ⟨S2x4096x1024, .f32⟩
  | 25 => ⟨S1024x3592, .f32⟩
  | 26 => ⟨S2x4096x3592, .f32⟩
  | 27 => ⟨S2x4096x512, .f32⟩
  | 28 => ⟨S2x4096x512, .f32⟩
  | 29 => ⟨S2x4096x512, .f32⟩
  | 30 => ⟨S2x4096x1536, .f32⟩
  | 31 => ⟨S2x4096x512, .f32⟩
  | 32 => ⟨S2x4096x8, .f32⟩
  | 33 => ⟨S512, .f32⟩
  | 34 => ⟨S512, .f32⟩
  | 35 => ⟨S4x128x128, .f32⟩
  | 36 => ⟨S4x128, .f32⟩
  | 37 => ⟨S_, .f32⟩
  | 38 => ⟨S2x4096x512, .f32⟩
  | 39 => ⟨S2x4096x512, .f32⟩
  | 40 => ⟨S2x4096x512, .f32⟩
  | 41 => ⟨S_, .f32⟩
  | 42 => ⟨S_, .f32⟩
  | 43 => ⟨S_, .f32⟩
  | 44 => ⟨S2x4096x512, .f32⟩
  | 45 => ⟨S2x4096x512, .f32⟩
  | 46 => ⟨S2x4096x512, .f32⟩
  | 47 => ⟨S2x4096x512, .f32⟩
  | 48 => ⟨S_, .f32⟩
  | 49 => ⟨S2x4096x512, .f32⟩
  | 50 => ⟨S2x4096x512, .f32⟩
  | 51 => ⟨S2x4096x512, .f32⟩
  | 52 => ⟨S_, .f32⟩
  | 53 => ⟨S_, .f32⟩
  | 54 => ⟨S_, .f32⟩
  | 55 => ⟨S2x4096x512, .f32⟩
  | 56 => ⟨S2x4096x512, .f32⟩
  | 57 => ⟨S2x4096x512, .f32⟩
  | 58 => ⟨S2x4096x512, .f32⟩
  | 59 => ⟨S2x32x128x4x128, .f32⟩
  | 60 => ⟨S4x128, .f32⟩
  | 61 => ⟨S4x128, .f32⟩
  | 62 => ⟨S_, .f32⟩
  | 63 => ⟨S2x32x128x4, .f32⟩
  | 64 => ⟨S2x32x128x4x1, .f32⟩
  | 65 => ⟨S_, .f32⟩
  | 66 => ⟨S2x32x128x4x1, .f32⟩
  | 67 => ⟨S2x32x128x4x1, .f32⟩
  | 68 => ⟨S2x32x128x4x128, .f32⟩
  | 69 => ⟨S2x32x128x4x128, .f32⟩
  | 70 => ⟨S2x32x128x4x128, .f32⟩
  | 71 => ⟨S_, .f32⟩
  | 72 => ⟨S2x32x128x4, .f32⟩
  | 73 => ⟨S2x32x128x4x1, .f32⟩
  | 74 => ⟨S_, .f32⟩
  | 75 => ⟨S2x32x128x4x1, .f32⟩
  | 76 => ⟨S2x32x128x4x1, .f32⟩
  | 77 => ⟨S_, .f32⟩
  | 78 => ⟨S2x32x128x4x1, .f32⟩
  | 79 => ⟨S2x32x128x4x1, .f32⟩
  | 80 => ⟨S2x32x128x4x1, .f32⟩
  | 81 => ⟨S2x32x128x4x128, .f32⟩
  | 82 => ⟨S2x32x128x4x128, .f32⟩
  | 83 => ⟨S1x1x1x4x128, .f32⟩
  | 84 => ⟨S2x32x128x4x128, .f32⟩
  | 85 => ⟨S2x32x128x4x128, .f32⟩
  | 86 => ⟨S1x1x1x4x128, .f32⟩
  | 87 => ⟨S2x32x128x4x128, .f32⟩
  | 88 => ⟨S2x32x128x4x128, .f32⟩
  | 89 => ⟨S_, .i1⟩
  | 90 => ⟨S128x128, .i1⟩
  | 91 => ⟨S128x128, .i32⟩
  | 92 => ⟨S_, .i32⟩
  | 93 => ⟨S128x128, .i32⟩
  | 94 => ⟨S128x128, .i32⟩
  | 95 => ⟨S128x128, .i32⟩
  | 96 => ⟨S128x128, .i1⟩
  | 97 => ⟨S_, .i1⟩
  | 98 => ⟨S128x128, .i1⟩
  | 99 => ⟨S128x128, .i1⟩
  | 100 => ⟨S_, .f32⟩
  | 101 => ⟨S4x128x128, .f32⟩
  | 102 => ⟨S4x128x128, .i1⟩
  | 103 => ⟨S4x128x128, .f32⟩
  | 104 => ⟨S4x2x32x128x128, .f32⟩
  | 105 => ⟨S2x32x128x4x128, .f32⟩
  | 106 => ⟨S128x4, .f32⟩
  | 107 => ⟨S128x4x1, .f32⟩
  | 108 => ⟨S1x1x128x4x1, .f32⟩
  | 109 => ⟨S2x32x128x4x128, .f32⟩
  | 110 => ⟨S2x32x128x4x128, .f32⟩
  | 111 => ⟨S2x4096x512, .f32⟩
  | 112 => ⟨S2x4096x512, .f32⟩
  | 113 => ⟨S2x4096x512, .f32⟩
  | 114 => ⟨S2x4096x512, .f32⟩
  | 115 => ⟨S_, .f32⟩
  | 116 => ⟨S2x4096x512, .f32⟩
  | 117 => ⟨S2x4096x512, .f32⟩
  | 118 => ⟨S_, .f32⟩
  | 119 => ⟨S2x4096x512, .f32⟩
  | 120 => ⟨S2x4096x512, .f32⟩
  | 121 => ⟨S2x4096x512, .f32⟩
  | 122 => ⟨S2x4096x512, .f32⟩
  | 123 => ⟨S8192x8, .f32⟩
  | 124 => ⟨S_, .i32⟩
  | 125 => ⟨S_, .f32⟩
  | 126 => ⟨S8192x128, .f32⟩
  | 127 => ⟨S2x4096x1536, .f32⟩
  | _ => ⟨S2x4096x1024, .f32⟩

abbrev hbmTy0_1 (i : Nat) : BufTy := match i % 128 with
  | 0 => ⟨S8192x1536, .f32⟩
  | 1 => ⟨S8192x1536, .f32⟩
  | 2 => ⟨S8192x512, .f32⟩
  | 3 => ⟨S8192x512, .f32⟩
  | 4 => ⟨S8192x512, .bf16⟩
  | 5 => ⟨S4x1536, .f32⟩
  | 6 => ⟨S_, .i32⟩
  | 7 => ⟨S_, .f32⟩
  | 8 => ⟨S2x4099x1536, .f32⟩
  | 9 => ⟨S2x4096x1536, .f32⟩
  | 10 => ⟨S1x1536, .f32⟩
  | 11 => ⟨S1536, .f32⟩
  | 12 => ⟨S1x1x1536, .f32⟩
  | 13 => ⟨S2x4096x1536, .f32⟩
  | 14 => ⟨S2x4096x1536, .f32⟩
  | 15 => ⟨S_, .f32⟩
  | 16 => ⟨S2x4096x1536, .f32⟩
  | 17 => ⟨S2x4096x1536, .f32⟩
  | 18 => ⟨S2x4096x1536, .f32⟩
  | 19 => ⟨S1x1536, .f32⟩
  | 20 => ⟨S1536, .f32⟩
  | 21 => ⟨S1x1x1536, .f32⟩
  | 22 => ⟨S2x4096x1536, .f32⟩
  | 23 => ⟨S2x4096x1536, .f32⟩
  | 24 => ⟨S2x4096x1536, .f32⟩
  | 25 => ⟨S2x4096x1536, .f32⟩
  | 26 => ⟨S1x1536, .f32⟩
  | 27 => ⟨S1536, .f32⟩
  | 28 => ⟨S1x1x1536, .f32⟩
  | 29 => ⟨S2x4096x1536, .f32⟩
  | 30 => ⟨S2x4096x1536, .f32⟩
  | 31 => ⟨S2x4096x1536, .f32⟩
  | 32 => ⟨S2x4096x1536, .f32⟩
  | 33 => ⟨S1x1536, .f32⟩
  | 34 => ⟨S1536, .f32⟩
  | 35 => ⟨S1x1x1536, .f32⟩
  | 36 => ⟨S2x4096x1536, .f32⟩
  | 37 => ⟨S2x4096x1536, .f32⟩
  | 38 => ⟨S2x4096x1536, .f32⟩
  | 39 => ⟨S8192x1536, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_c : Ref sig .tc := ⟨.hbm, 89, rfl⟩
abbrev main_v69 : Ref sig .tc := ⟨.hbm, 90, rfl⟩
abbrev main_call0_v0 : Ref sig .tc := ⟨.hbm, 91, rfl⟩
abbrev main_call0_c : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_call0_c_0 : Ref sig .tc := ⟨.hbm, 97, rfl⟩
abbrev main_call0_v5 : Ref sig .tc := ⟨.hbm, 98, rfl⟩
abbrev main_v70 : Ref sig .tc := ⟨.hbm, 99, rfl⟩
abbrev main_cst_11 : Ref sig .tc := ⟨.hbm, 100, rfl⟩
abbrev main_v71 : Ref sig .tc := ⟨.hbm, 101, rfl⟩
abbrev main_call1_v0 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call2_v0 : Ref sig .tc := ⟨.hbm, 113, rfl⟩
abbrev main_call2_v1 : Ref sig .tc := ⟨.hbm, 114, rfl⟩
abbrev main_call2_cst : Ref sig .tc := ⟨.hbm, 115, rfl⟩
abbrev main_call2_v2 : Ref sig .tc := ⟨.hbm, 116, rfl⟩
abbrev main_call2_v3 : Ref sig .tc := ⟨.hbm, 117, rfl⟩
abbrev main_call2_cst_0 : Ref sig .tc := ⟨.hbm, 118, rfl⟩
abbrev main_call2_v4 : Ref sig .tc := ⟨.hbm, 119, rfl⟩
abbrev main_call2_v5 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_c_12 : Ref sig .tc := ⟨.hbm, 124, rfl⟩
abbrev main_call3_v0 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_c_13 : Ref sig .tc := ⟨.hbm, 134, rfl⟩
abbrev main_call4_v0 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_14 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩

abbrev nD : Nat := 1
abbrev τ : Topo := Topo.v7x

variable {F : FTy → Type} [FloatOps F]
-- ==== Kernel8.lean ====
abbrev S4x600x128 : Shape := ⟨3, ![4, 600, 128]⟩
abbrev S1x1024 : Shape := ⟨2, ![1, 1024]⟩
abbrev S1x512 : Shape := ⟨2, ![1, 512]⟩
abbrev S4x1536 : Shape := ⟨2, ![4, 1536]⟩
abbrev S1x1 : Shape := ⟨2, ![1, 1]⟩
abbrev S600x128 : Shape := ⟨2, ![600, 128]⟩
abbrev S1x600x128 : Shape := ⟨3, ![1, 600, 128]⟩
abbrev S1x128 : Shape := ⟨2, ![1, 128]⟩
abbrev S1x1536 : Shape := ⟨2, ![1, 1536]⟩

abbrev nBuf : Space → Nat
  | .hbm => 24
  | .vmem => 25
  | .smem => 0
  | _ => 0

abbrev bufTy : (tb : Table) → Fin (tcTables nBuf tb) → BufTy
  | .hbm, ⟨0, _⟩ => ⟨S4x600x128, .f32⟩
  | .hbm, ⟨1, _⟩ => ⟨S1x1024, .f32⟩
  | .hbm, ⟨2, _⟩ => ⟨S1x512, .f32⟩
  | .hbm, ⟨3, _⟩ => ⟨S1x512, .f32⟩
  | .hbm, ⟨4, _⟩ => ⟨S1x1024, .f32⟩
  | .hbm, ⟨5, _⟩ => ⟨S1x512, .f32⟩
  | .hbm, ⟨6, _⟩ => ⟨S1x512, .f32⟩
  | .hbm, ⟨7, _⟩ => ⟨S1x1024, .f32⟩
  | .hbm, ⟨8, _⟩ => ⟨S1x512, .f32⟩
  | .hbm, ⟨9, _⟩ => ⟨S1x512, .f32⟩
  | .hbm, ⟨10, _⟩ => ⟨S4x1536, .f32⟩
  | .hbm, ⟨11, _⟩ => ⟨S1x1, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x512, .f32⟩
  | .local _ .vmem, ⟨0, _⟩ => ⟨S4x600x128, .f32⟩
  | .local _ .vmem, ⟨1, _⟩ => ⟨S1x1024, .f32⟩
  | .local _ .vmem, ⟨2, _⟩ => ⟨S1x512, .f32⟩
  | .local _ .vmem, ⟨3, _⟩ => ⟨S1x512, .f32⟩
  | .local _ .vmem, ⟨4, _⟩ => ⟨S1x1024, .f32⟩
  | .local _ .vmem, ⟨5, _⟩ => ⟨S1x512, .f32⟩
  | .local _ .vmem, ⟨6, _⟩ => ⟨S1x512, .f32⟩
  | .local _ .vmem, ⟨7, _⟩ => ⟨S1x1024, .f32⟩
  | .local _ .vmem, ⟨8, _⟩ => ⟨S1x512, .f32⟩
  | .local _ .vmem, ⟨9, _⟩ => ⟨S1x512, .f32⟩
  | .local _ .vmem, ⟨10, _⟩ => ⟨S4x1536, .f32⟩
  | .local _ .vmem, ⟨11, _⟩ => ⟨S1x1, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S600x128, .f32⟩
  | _, _ => ⟨S4x600x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev main_v0_12 : Ref sig .tc := ⟨.hbm, 22, rfl⟩
abbrev main_v0_13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_scratch0 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S4x600x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== Reference8Ideal.lean ====
abbrev S4x600x128 : Shape := ⟨3, ![4, 600, 128]⟩
abbrev S1x1024 : Shape := ⟨2, ![1, 1024]⟩
abbrev S1x512 : Shape := ⟨2, ![1, 512]⟩
abbrev S_ : Shape := ⟨0, ![]⟩
abbrev S600x128 : Shape := ⟨2, ![600, 128]⟩
abbrev S8x128 : Shape := ⟨2, ![8, 128]⟩
abbrev S4x128 : Shape := ⟨2, ![4, 128]⟩
abbrev S1x128 : Shape := ⟨2, ![1, 128]⟩
abbrev S1x1 : Shape := ⟨2, ![1, 1]⟩
abbrev S48x128 : Shape := ⟨2, ![48, 128]⟩
abbrev S4x1536 : Shape := ⟨2, ![4, 1536]⟩

abbrev nBuf : Space → Nat
  | .hbm => 121
  | .vmem => 0
  | .smem => 0
  | _ => 0

abbrev bufTy : (tb : Table) → Fin (tcTables nBuf tb) → BufTy
  | .hbm, ⟨0, _⟩ => ⟨S4x600x128, .f32⟩
  | .hbm, ⟨1, _⟩ => ⟨S1x1024, .f32⟩
  | .hbm, ⟨2, _⟩ => ⟨S1x512, .f32⟩
  | .hbm, ⟨3, _⟩ => ⟨S1x512, .f32⟩
  | .hbm, ⟨4, _⟩ => ⟨S1x1024, .f32⟩
  | .hbm, ⟨5, _⟩ => ⟨S1x512, .f32⟩
  | .hbm, ⟨6, _⟩ => ⟨S1x512, .f32⟩
  | .hbm, ⟨7, _⟩ => ⟨S1x1024, .f32⟩
  | .hbm, ⟨8, _⟩ => ⟨S1x512, .f32⟩
  | .hbm, ⟨9, _⟩ => ⟨S1x512, .f32⟩
  | .hbm, ⟨10, _⟩ => ⟨S_, .f32⟩
  | .hbm, ⟨11, _⟩ => ⟨S600x128, .f32⟩
  | .hbm, ⟨12, _⟩ => ⟨S8x128, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S4x128, .f32⟩
  | .hbm, ⟨48, _⟩ => ⟨S1x512, .f32⟩
  | .hbm, ⟨49, _⟩ => ⟨S_, .f32⟩
  | .hbm, ⟨50, _⟩ => ⟨S1x512, .f32⟩
  | .hbm, ⟨51, _⟩ => ⟨S1x512, .f32⟩
  | .hbm, ⟨52, _⟩ => ⟨S_, .f32⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S_, .f32⟩
  | .hbm, ⟨57, _⟩ => ⟨S1x512, .f32⟩
  | .hbm, ⟨58, _⟩ => ⟨S1x512, .f32⟩
  | .hbm, ⟨59, _⟩ => ⟨S1x512, .f32⟩
  | .hbm, ⟨60, _⟩ => ⟨S_, .f32⟩
  | .hbm, ⟨61, _⟩ => ⟨S1x512, .f32⟩
  | .hbm, ⟨62, _⟩ => ⟨S1x512, .f32⟩
  | .hbm, ⟨63, _⟩ => ⟨S1x512, .f32⟩
  | .hbm, ⟨64, _⟩ => ⟨S_, .f32⟩
  | .hbm, ⟨65, _⟩ => ⟨S1x512, .f32⟩
  | .hbm, ⟨66, _⟩ => ⟨S1x512, .f32⟩
  | .hbm, ⟨67, _⟩ => ⟨S_, .f32⟩
  | .hbm, ⟨68, _⟩ => ⟨S1x512, .f32⟩
  | .hbm, ⟨69, _⟩ => ⟨S1x512, .f32⟩
  | .hbm, ⟨70, _⟩ => ⟨S1x512, .f32⟩
  | .hbm, ⟨71, _⟩ => ⟨S_, .f32⟩
  | .hbm, ⟨72, _⟩ => ⟨S1x512, .f32⟩
  | .hbm, ⟨73, _⟩ => ⟨S1x512, .f32⟩
  | .hbm, ⟨74, _⟩ => ⟨S1x512, .f32⟩
  | .hbm, ⟨75, _⟩ => ⟨S_, .f32⟩
  | .hbm, ⟨76, _⟩ => ⟨S1x512, .f32⟩
  | .hbm, ⟨77, _⟩ => ⟨S1x512, .f32⟩
  | .hbm, ⟨78, _⟩ => ⟨S1x512, .f32⟩
  | .hbm, ⟨79, _⟩ => ⟨S_, .f32⟩
  | .hbm, ⟨80, _⟩ => ⟨S1x512, .f32⟩
  | .hbm, ⟨81, _⟩ => ⟨S1x512, .f32⟩
  | .hbm, ⟨82, _⟩ => ⟨S4x128, .f32⟩
  | .hbm, ⟨83, _⟩ => ⟨S1x512, .f32⟩
  | .hbm, ⟨84, _⟩ => ⟨S_, .f32⟩
  | .hbm, ⟨85, _⟩ => ⟨S1x512, .f32⟩
  | .hbm, ⟨86, _⟩ => ⟨S1x512, .f32⟩
  | .hbm, ⟨87, _⟩ => ⟨S_, .f32⟩
  | .hbm, ⟨88, _⟩ => ⟨S1x512, .f32⟩
  | .hbm, ⟨89, _⟩ => ⟨S1x512, .f32⟩
  | .hbm, ⟨90, _⟩ => ⟨S1x512, .f32⟩
  | .hbm, ⟨91, _⟩ => ⟨S_, .f32⟩
  | .hbm, ⟨92, _⟩ => ⟨S1x512, .f32⟩
  | .hbm, ⟨93, _⟩ => ⟨S1x512, .f32⟩
  | .hbm, ⟨94, _⟩ => ⟨S1x512, .f32⟩
  | .hbm, ⟨95, _⟩ => ⟨S_, .f32⟩
  | .hbm, ⟨96, _⟩ => ⟨S1x512, .f32⟩
  | .hbm, ⟨97, _⟩ => ⟨S1x512, .f32⟩
  | .hbm, ⟨98, _⟩ => ⟨S1x512, .f32⟩
  | .hbm, ⟨99, _⟩ => ⟨S_, .f32⟩
  | .hbm, ⟨100, _⟩ => ⟨S1x512, .f32⟩
  | .hbm, ⟨101, _⟩ => ⟨S1x512, .f32⟩
  | .hbm, ⟨102, _⟩ => ⟨S_, .f32⟩
  | .hbm, ⟨103, _⟩ => ⟨S1x512, .f32⟩
  | .hbm, ⟨104, _⟩ => ⟨S1x512, .f32⟩
  | .hbm, ⟨105, _⟩ => ⟨S1x512, .f32⟩
  | .hbm, ⟨106, _⟩ => ⟨S_, .f32⟩
  | .hbm, ⟨107, _⟩ => ⟨S1x512, .f32⟩
  | .hbm, ⟨108, _⟩ => ⟨S1x512, .f32⟩
  | .hbm, ⟨109, _⟩ => ⟨S1x512, .f32⟩
  | .hbm, ⟨110, _⟩ => ⟨S_, .f32⟩
  | .hbm, ⟨111, _⟩ => ⟨S1x512, .f32⟩
  | .hbm, ⟨112, _⟩ => ⟨S1x512, .f32⟩
  | .hbm, ⟨113, _⟩ => ⟨S1x512, .f32⟩
  | .hbm, ⟨114, _⟩ => ⟨S_, .f32⟩
  | .hbm, ⟨115, _⟩ => ⟨S1x512, .f32⟩
  | .hbm, ⟨116, _⟩ => ⟨S1x512, .f32⟩
  | .hbm, ⟨117, _⟩ => ⟨S1x128, .f32⟩
  | .hbm, ⟨118, _⟩ => ⟨S1x1, .f32⟩
  | .hbm, ⟨119, _⟩ => ⟨S48x128, .f32⟩
  | .hbm, ⟨120, _⟩ => ⟨S4x1536, .f32⟩
  | _, _ => ⟨S4x600x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_cst_10 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_11 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_12 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_13 : Ref sig .tc := ⟨.hbm, 64, rfl⟩
abbrev main_v40 : Ref sig .tc := ⟨.hbm, 65, rfl⟩
abbrev main_v41 : Ref sig .tc := ⟨.hbm, 66, rfl⟩
abbrev main_cst_14 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_15 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_16 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_17 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_18 : Ref sig .tc := ⟨.hbm, 84, rfl⟩
abbrev main_v55 : Ref sig .tc := ⟨.hbm, 85, rfl⟩
abbrev main_v56 : Ref sig .tc := ⟨.hbm, 86, rfl⟩
abbrev main_cst_19 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_20 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_21 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_22 : Ref sig .tc := ⟨.hbm, 99, rfl⟩
abbrev main_v66 : Ref sig .tc := ⟨.hbm, 100, rfl⟩
abbrev main_v67 : Ref sig .tc := ⟨.hbm, 101, rfl⟩
abbrev main_cst_23 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_24 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_25 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_26 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩

abbrev nD : Nat := 1
abbrev τ : Topo := Topo.v7x

variable {F : FTy → Type} [FloatOps F]
-- ==== Proof.Reals.lean ====
/-
  The extended reals met by the two programs, when every argument is finite: each operation on finite values is the
  operation on real numbers. These lemmas carry real numbers up through sums, products, quotients and the analytic
  functions, and give the real numbers behind the constants' bit patterns.
-/
module

public import Mathlib.Tactic.FieldSimp
public import Mathlib.Tactic.Ring
public import Mathlib.Tactic.Positivity
public import Mathlib.Tactic.Linarith
public import Mathlib.Tactic.NormNum
public import Idealize.ShloMosaic.PureOps.Ideal
public import Idealize.ShloMosaic.PureOps.Ideal.Laws

@[expose] public section

noncomputable section

open Idealize.ShloMosaic

namespace Cert.Reals

/-- The real error function. -/
def rerf (r : ℝ) : ℝ := 2 / Real.sqrt Real.pi * ∫ t in (0 : ℝ)..r, Real.exp (-(t ^ 2))

theorem erf_real (r : ℝ) : Ideal.erf r = ((rerf r : ℝ) : EReal) := rfl

theorem rerf_neg (r : ℝ) : rerf (-r) = -rerf r := by
  have h := Ideal.erf_neg (r : EReal)
  rw [← EReal.coe_neg, erf_real, erf_real, ← EReal.coe_neg] at h
  exact EReal.coe_injective h

theorem one_real : (1 : EReal) = ((1 : ℝ) : EReal) := rfl

theorem zero_real : (0 : EReal) = ((0 : ℝ) : EReal) := rfl

theorem erfc_real (r : ℝ) : Ideal.erfc r = ((1 - rerf r : ℝ) : EReal) := by
  rw [Ideal.erfc, erf_real, one_real, ← EReal.coe_sub]

theorem add_real (a b : ℝ) : (a : EReal) + (b : EReal) = ((a + b : ℝ) : EReal) := (EReal.coe_add a b).symm

theorem mul_real (a b : ℝ) : (a : EReal) * (b : EReal) = ((a * b : ℝ) : EReal) := (EReal.coe_mul a b).symm

theorem sub_real (a b : ℝ) : (a : EReal) - (b : EReal) = ((a - b : ℝ) : EReal) := (EReal.coe_sub a b).symm

theorem neg_real (a : ℝ) : -(a : EReal) = ((-a : ℝ) : EReal) := (EReal.coe_neg a).symm

theorem sum_real {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, add_real]

theorem div_real (a b : ℝ) (h : b ≠ 0) : Ideal.div (a : EReal) (b : EReal) = ((a / b : ℝ) : EReal) := by
  rw [Ideal.div_coe h, mul_real, mul_one_div]

theorem rsqrt_real (a : ℝ) (h : 0 < a) : Ideal.rsqrt (a : EReal) = (((Real.sqrt a)⁻¹ : ℝ) : EReal) := by
  rw [Ideal.rsqrt_coe, if_neg (not_lt.mpr h.le), if_neg h.ne']

theorem exp_real (a : ℝ) : Ideal.exp (a : EReal) = ((Real.exp a : ℝ) : EReal) := rfl

theorem tanh_real (a : ℝ) : Ideal.tanh (a : EReal) = ((Real.tanh a : ℝ) : EReal) := rfl

theorem ite_real (p : Prop) [Decidable p] (a b : ℝ) :
    (if p then (a : EReal) else (b : EReal)) = ((if p then a else b : ℝ) : EReal) := by
  split_ifs <;> rfl

/-- The number added to a mean square before its root: the real behind the pattern of `1e-6`. -/
def eps : ℝ := 8796093 / 2 ^ 43

theorem eps_pos : 0 < eps := by unfold eps; norm_num

theorem bits_eps : Ideal.ofBits .f32 0x358637BD#32 = ((eps : ℝ) : EReal) := by
  simp [Ideal.ofBits, Ideal.ieee, -EReal.coe_mul, eps]; norm_num

theorem bits_1024 : Ideal.ofBits .f32 0x44800000#32 = ((1024 : ℝ) : EReal) := by
  simp [Ideal.ofBits, Ideal.ieee, -EReal.coe_mul]; norm_num

theorem bits_128 : Ideal.ofBits .f32 0x43000000#32 = ((128 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_slope : Ideal.ofBits .f32 0xBF906EBB#32 = ((-(9465531 / 8388608) : ℝ) : EReal) := by
  simp [Ideal.ofBits, Ideal.ieee, -EReal.coe_mul]; norm_num

theorem sqrt_real (a : ℝ) (h : 0 < a) : Ideal.sqrt (a : EReal) = ((Real.sqrt a : ℝ) : EReal) := by
  rw [Ideal.sqrt_coe, if_neg (not_lt.mpr h.le)]

theorem bits_one : Ideal.ofBits .f32 0x3F800000#32 = ((1 : ℝ) : EReal) := by
  simp [Ideal.ofBits, Ideal.ieee, -EReal.coe_mul]; norm_num

theorem bits_zero : Ideal.ofBits .f32 0x00000000#32 = ((0 : ℝ) : EReal) := by
  simp [Ideal.ofBits, Ideal.ieee, -EReal.coe_mul]

end Cert.Reals
-- ==== Proof.Layer.lean ====
/-
  The backward pass of the layer's input side on real numbers: root-mean-square normalisation, the input projection and
  the chunked spatial gating unit. Every array is a function of natural numbers. A row is a position of the sequence
  (both sequences laid one after the other), a chunk is 128 consecutive rows, and the gate's 512 columns are four groups
  of 128. Both programs are shown to compute these functions.
-/
module

public import proofs.«01_k».proof.Proof.Reals

@[expose] public section

noncomputable section

namespace Cert.Layer

open Cert.Reals

/-- The normal distribution function, as the activation uses it. -/
def cdf (a : ℝ) : ℝ := 1 / 2 + 1 / 2 * rerf (a * (Real.sqrt 2)⁻¹)

/-- The activation: the number times the normal distribution function. -/
def gelu (a : ℝ) : ℝ := a * cdf a

/-- The activation's derivative, with the error function's slope at zero as the derivative rule's f32 constant gives it. -/
def slope (a : ℝ) : ℝ := cdf a + a * Real.exp (-(1 / 2) * a * a) * (9465531 / 8388608 * (2 * Real.sqrt 2)⁻¹)

/-- The logistic function. -/
def logi (a : ℝ) : ℝ := 1 / (1 + Real.exp (-a))

/-- One chunk of one group of the gating unit: what enters it, and the gradient that comes back to its output. -/
structure Tile where
  /-- the gating input -/
  u : ℕ → ℕ → ℝ
  /-- the gated input -/
  v : ℕ → ℕ → ℝ
  /-- the input of the outer gate -/
  z : ℕ → ℕ → ℝ
  /-- the gradient of the unit's output -/
  ct : ℕ → ℕ → ℝ
  /-- the layer norm's scale -/
  lg : ℕ → ℝ
  /-- the layer norm's shift -/
  lb : ℕ → ℝ
  /-- the spatial weights -/
  ws : ℕ → ℕ → ℝ
  /-- the spatial bias -/
  b : ℕ → ℝ

namespace Tile

variable (T : Tile)

/-- The activated gated input less its row's mean. -/
def cen (s j : ℕ) : ℝ := gelu (T.v s j) - (∑ k : Fin 128, gelu (T.v s k)) / 128

/-- The row's mean square, with the small number added. -/
def var (s : ℕ) : ℝ := (∑ k : Fin 128, T.cen s k * T.cen s k) / 128 + eps

/-- The reciprocal of its root. -/
def rst (s : ℕ) : ℝ := (Real.sqrt (T.var s))⁻¹

/-- The normalised row. -/
def y (s j : ℕ) : ℝ := T.cen s j * T.rst s

/-- The layer norm. -/
def ln (s j : ℕ) : ℝ := T.y s j * T.lg j + T.lb j

/-- The causal part of the spatial weights. -/
def wm (s t : ℕ) : ℝ := if t ≤ s then T.ws s t else 0

/-- The spatial mixing. -/
def sp (s j : ℕ) : ℝ := ∑ t : Fin 128, T.wm s t * T.ln t j + T.b s

/-- The outer gate's value. -/
def silu (s j : ℕ) : ℝ := T.z s j * logi (T.z s j)

/-- The gradient of the gating unit's output before the outer gate. -/
def dout (s j : ℕ) : ℝ := T.ct s j * T.silu s j

/-- The gradient of the outer gate's input. -/
def dz (s j : ℕ) : ℝ :=
  gelu (T.u s j) * T.sp s j * T.ct s j * (logi (T.z s j) * (1 + T.z s j * (1 - logi (T.z s j))))

/-- The gradient of the spatial mixing. -/
def dsp (s j : ℕ) : ℝ := T.dout s j * gelu (T.u s j)

/-- The gradient of the gating input. -/
def du (s j : ℕ) : ℝ := T.dout s j * T.sp s j * slope (T.u s j)

/-- The gradient of the spatial bias. -/
def db (s : ℕ) : ℝ := ∑ j : Fin 128, T.dsp s j

/-- The gradient of the spatial weights. -/
def dws (s t : ℕ) : ℝ := if t ≤ s then ∑ j : Fin 128, T.dsp s j * T.ln t j else 0

/-- The gradient of the layer norm's value. -/
def dln (t j : ℕ) : ℝ := ∑ s : Fin 128, T.dsp s j * T.wm s t

/-- The gradient of the layer norm's shift. -/
def dlb (j : ℕ) : ℝ := ∑ t : Fin 128, T.dln t j

/-- The gradient of the layer norm's scale. -/
def dlg (j : ℕ) : ℝ := ∑ t : Fin 128, T.dln t j * T.y t j

/-- The gradient of the normalised row. -/
def dy (s j : ℕ) : ℝ := T.dln s j * T.lg j

/-- The gradient of the activated gated input. -/
def dgv (s j : ℕ) : ℝ :=
  T.rst s * (T.dy s j - (∑ k : Fin 128, T.dy s k) / 128 - T.y s j * ((∑ k : Fin 128, T.dy s k * T.y s k) / 128))

/-- The gradient of the gated input. -/
def dv (s j : ℕ) : ℝ := T.dgv s j * slope (T.v s j)

theorem var_pos (s : ℕ) : 0 < T.var s := by
  have h : 0 ≤ ∑ k : Fin 128, T.cen s k * T.cen s k := Finset.sum_nonneg fun k _ => mul_self_nonneg _
  have := eps_pos
  unfold var
  positivity

end Tile

/-- Every argument of the step's backward call, as functions of natural numbers. -/
structure Args where
  /-- the layer's input -/
  x : ℕ → ℕ → ℝ
  /-- the norm's scale -/
  g : ℕ → ℝ
  /-- the projection's weights, by input column and output column -/
  w : ℕ → ℕ → ℝ
  /-- the layer norm's scale -/
  lg : ℕ → ℝ
  /-- the layer norm's shift -/
  lb : ℕ → ℝ
  /-- the spatial weights -/
  ws : ℕ → ℕ → ℕ → ℝ
  /-- the spatial bias -/
  b : ℕ → ℕ → ℝ
  /-- the gradient that reaches the input past the layer -/
  dh : ℕ → ℕ → ℝ
  /-- the gradient of the gating unit's output -/
  da : ℕ → ℕ → ℝ
  /-- the gradient of the queries, keys and values -/
  dq : ℕ → ℕ → ℝ
  /-- the gradient of the heads' gates -/
  dz : ℕ → ℕ → ℝ
  /-- the gradient of the heads' two logits -/
  dl : ℕ → ℕ → ℝ

namespace Args

variable (A : Args)

/-- A row's mean square, with the small number added. -/
def ms (r : ℕ) : ℝ := (∑ k : Fin 1024, A.x r k * A.x r k) / 1024 + eps

/-- The reciprocal of its root. -/
def inv (r : ℕ) : ℝ := (Real.sqrt (A.ms r))⁻¹

/-- The normalised row. -/
def n (r k : ℕ) : ℝ := A.x r k * A.inv r

/-- The scaled normalised row. -/
def xn (r k : ℕ) : ℝ := A.n r k * A.g k

/-- The projection. -/
def proj (r c : ℕ) : ℝ := ∑ k : Fin 1024, A.xn r k * A.w k c

/-- Chunk `q` of group `g` of the gating unit. -/
def tile (q g : ℕ) : Tile where
  u s j := A.proj (128 * q + s) (128 * g + j)
  v s j := A.proj (128 * q + s) (512 + (128 * g + j))
  z s j := A.proj (128 * q + s) (1024 + (128 * g + j))
  ct s j := A.da (128 * q + s) (128 * g + j)
  lg j := A.lg (128 * g + j)
  lb j := A.lb (128 * g + j)
  ws := A.ws g
  b := A.b g

/-- The gradient of the projection, by output column. -/
def dproj (r c : ℕ) : ℝ :=
  if c < 512 then (A.tile (r / 128) (c / 128)).du (r % 128) (c % 128)
  else if c < 1024 then (A.tile (r / 128) ((c - 512) / 128)).dv (r % 128) ((c - 512) % 128)
  else if c < 1536 then (A.tile (r / 128) ((c - 1024) / 128)).dz (r % 128) ((c - 1024) % 128)
  else if c < 3072 then A.dq r (c - 1536)
  else if c < 3584 then A.dz r (c - 3072)
  else A.dl r (c - 3584)

/-- The gradient of the scaled normalised row. -/
def dxn (r k : ℕ) : ℝ := ∑ c : Fin 3592, A.dproj r c * A.w k c

/-- The gradient of the projection's weights. -/
def dw (k c : ℕ) : ℝ := ∑ r : Fin 8192, A.dproj r c * A.xn r k

/-- The gradient of the norm's scale. -/
def dg (k : ℕ) : ℝ := ∑ r : Fin 8192, A.dxn r k * A.n r k

/-- The gradient of the layer's input. -/
def dx (r k : ℕ) : ℝ :=
  A.dh r k + A.inv r * (A.dxn r k * A.g k - A.n r k * ((∑ l : Fin 1024, A.dxn r l * A.g l * A.n r l) / 1024))

/-- The gradient of the layer norm's scale. -/
def dlg (c : ℕ) : ℝ := ∑ q : Fin 64, (A.tile q (c / 128)).dlg (c % 128)

/-- The gradient of the layer norm's shift. -/
def dlb (c : ℕ) : ℝ := ∑ q : Fin 64, (A.tile q (c / 128)).dlb (c % 128)

/-- The gradient of the spatial weights. -/
def dws (g s t : ℕ) : ℝ := ∑ q : Fin 64, (A.tile q g).dws s t

/-- The gradient of the spatial bias. -/
def db (g s : ℕ) : ℝ := ∑ q : Fin 64, (A.tile q g).db s

theorem ms_pos (r : ℕ) : 0 < A.ms r := by
  have h : 0 ≤ ∑ k : Fin 1024, A.x r k * A.x r k := Finset.sum_nonneg fun k _ => mul_self_nonneg _
  have := eps_pos
  unfold ms
  positivity

end Args

/-! ## Identities between the two programs' spellings -/

/-- The activation written with the complementary error function of the negated number. -/
theorem gelu_erfc (a : ℝ) : 1 / 2 * a * (1 - rerf (-a / Real.sqrt 2)) = gelu a := by
  rw [div_eq_mul_inv (-a), neg_mul, rerf_neg, gelu, cdf]
  ring

/-- The activation's derivative as the complementary error function's rule gives it. -/
theorem slope_erfc (a ct : ℝ) :
    -(-(9465531 / 8388608) * (1 / 2 * a * ct) * Real.exp (-(-a / Real.sqrt 2 * (-a / Real.sqrt 2))) / Real.sqrt 2)
        + 1 / 2 * (ct * (1 - rerf (-a / Real.sqrt 2))) = ct * slope a := by
  have h2 : (Real.sqrt 2)⁻¹ * (Real.sqrt 2)⁻¹ = (1 / 2 : ℝ) := by
    rw [← mul_inv, Real.mul_self_sqrt (by norm_num)]; norm_num
  have he : -(-a / Real.sqrt 2 * (-a / Real.sqrt 2)) = -(1 / 2) * a * a := by
    rw [div_eq_mul_inv (-a)]
    linear_combination (-(a * a)) * h2
  rw [he, div_eq_mul_inv (-a), neg_mul a, rerf_neg, slope, cdf, mul_inv, div_eq_mul_inv _ (Real.sqrt 2)]
  ring

/-- The logistic function by the hyperbolic tangent. -/
theorem logi_tanh (a : ℝ) : 1 / 2 * Real.tanh (1 / 2 * a) + 1 / 2 = logi a := by
  have h1 : Real.exp a = Real.exp (1 / 2 * a) * Real.exp (1 / 2 * a) := by rw [← Real.exp_add]; ring_nf
  have p := Real.exp_pos (1 / 2 * a)
  rw [logi, Real.tanh_eq_sinh_div_cosh, Real.sinh_eq, Real.cosh_eq, Real.exp_neg, Real.exp_neg, h1]
  field_simp
  ring

/-- A row normalised by a positive number's root: the derivative rule of the reciprocal root against the row's own form,
    for a row whose mean is taken out first. -/
theorem layer_norm_bwd (c d : Fin 128 → ℝ) (p : ℝ) (hp : 0 < p) (hc : ∑ k, c k = 0) (j : Fin 128) :
    (d j * (Real.sqrt p)⁻¹ + c j * ((∑ k, c k * d k) * (-(1 / 2) * ((Real.sqrt p)⁻¹ / p)) / 128)
        + ((∑ k, c k * d k) * (-(1 / 2) * ((Real.sqrt p)⁻¹ / p)) / 128) * c j)
      + (∑ k, -(d k * (Real.sqrt p)⁻¹ + c k * ((∑ k, c k * d k) * (-(1 / 2) * ((Real.sqrt p)⁻¹ / p)) / 128)
        + ((∑ k, c k * d k) * (-(1 / 2) * ((Real.sqrt p)⁻¹ / p)) / 128) * c k)) / 128
    = (Real.sqrt p)⁻¹ * (d j - (∑ k, d k) / 128 - c j * (Real.sqrt p)⁻¹ * ((∑ k, d k * (c k * (Real.sqrt p)⁻¹)) / 128)) := by
  set q := (Real.sqrt p)⁻¹ with hq
  have hqp : q / p = q * q * q := by
    have : q * q = p⁻¹ := by rw [hq, ← mul_inv, Real.mul_self_sqrt hp.le]
    rw [mul_assoc, this, div_eq_mul_inv]
  set S := ∑ k, c k * d k with hS
  have e1 : ∑ k, d k * (c k * q) = S * q := by
    rw [hS, Finset.sum_mul]; exact Finset.sum_congr rfl fun k _ => by ring
  have e2 : ∑ k, -(d k * q + c k * (S * (-(1 / 2) * (q / p)) / 128) + S * (-(1 / 2) * (q / p)) / 128 * c k)
      = -((∑ k, d k) * q) := by
    rw [Finset.sum_neg_distrib, Finset.sum_add_distrib, Finset.sum_add_distrib, ← Finset.sum_mul, ← Finset.sum_mul,
      ← Finset.mul_sum, hc]
    ring
  rw [e1, e2, hqp]
  ring

/-- The same for a row normalised without taking its mean out. -/
theorem rms_bwd (x d : Fin 1024 → ℝ) (h p : ℝ) (hp : 0 < p) (j : Fin 1024) :
    h + d j * (Real.sqrt p)⁻¹ + x j * ((∑ k, x k * d k) * (-(1 / 2) * ((Real.sqrt p)⁻¹ / p)) / 1024)
        + ((∑ k, x k * d k) * (-(1 / 2) * ((Real.sqrt p)⁻¹ / p)) / 1024) * x j
    = h + (Real.sqrt p)⁻¹ * (d j - x j * (Real.sqrt p)⁻¹ * ((∑ k, d k * (x k * (Real.sqrt p)⁻¹)) / 1024)) := by
  set q := (Real.sqrt p)⁻¹ with hq
  have hqp : q / p = q * q * q := by
    have : q * q = p⁻¹ := by rw [hq, ← mul_inv, Real.mul_self_sqrt hp.le]
    rw [mul_assoc, this, div_eq_mul_inv]
  set S := ∑ k, x k * d k with hS
  have e1 : ∑ k, d k * (x k * q) = S * q := by
    rw [hS, Finset.sum_mul]; exact Finset.sum_congr rfl fun k _ => by ring
  rw [e1, hqp]
  ring

/-- A row less its mean sums to zero. -/
theorem sum_sub_mean (f : Fin 128 → ℝ) : ∑ k, (f k - (∑ l, f l) / 128) = 0 := by
  rw [Finset.sum_sub_distrib, Finset.sum_const, Finset.card_univ, Fintype.card_fin, nsmul_eq_mul]
  push_cast
  ring

/-- A sum over the projection's columns, group by group. -/
theorem sum_columns (f : ℕ → ℝ) :
    ∑ c : Fin 3592, f c = ∑ c : Fin 512, f c + ∑ c : Fin 512, f (512 + c) + ∑ c : Fin 512, f (1024 + c)
      + ∑ c : Fin 1536, f (1536 + c) + ∑ c : Fin 512, f (3072 + c) + ∑ c : Fin 8, f (3584 + c) := by
  simp only [Fin.sum_univ_eq_sum_range (fun i => f i), Fin.sum_univ_eq_sum_range (fun i => f (512 + i)),
    Fin.sum_univ_eq_sum_range (fun i => f (1024 + i)), Fin.sum_univ_eq_sum_range (fun i => f (1536 + i)),
    Fin.sum_univ_eq_sum_range (fun i => f (3072 + i)), Fin.sum_univ_eq_sum_range (fun i => f (3584 + i))]
  rw [show (3592 : ℕ) = 3584 + 8 from rfl, Finset.sum_range_add, show (3584 : ℕ) = 3072 + 512 from rfl, Finset.sum_range_add,
    show (3072 : ℕ) = 1536 + 1536 from rfl, Finset.sum_range_add, show (1536 : ℕ) = 1024 + 512 from rfl,
    Finset.sum_range_add _ 1024 512, show (1024 : ℕ) = 512 + 512 from rfl, Finset.sum_range_add _ 512 512]

end Cert.Layer
-- ==== Proof.Agree.lean ====
/-
  The arguments as real numbers: when no element of an argument is an infinity, each array is a function of natural
  numbers (`Layer.Args`), read at the array's indices.
-/
module

public import proofs.«01_k».proof.Proof.Layer
public import Idealize.ShloMosaic.Lib.Pointwise

@[expose] public section

noncomputable section

open Idealize.ShloMosaic

namespace Cert.Layer

/-- The twelve arrays hold the real numbers of `A`; a row of a flat array is a position of the two sequences in order. -/
structure Agrees (A : Args) (x0 : FVec Ideal ⟨3, ![2, 4096, 1024]⟩ .f32) (x1 : FVec Ideal ⟨2, ![1, 1024]⟩ .f32)
    (x2 : FVec Ideal ⟨3, ![1, 1024, 3592]⟩ .f32) (x3 x4 : FVec Ideal ⟨2, ![1, 512]⟩ .f32)
    (x5 : FVec Ideal ⟨4, ![1, 4, 128, 128]⟩ .f32) (x6 : FVec Ideal ⟨3, ![1, 4, 128]⟩ .f32)
    (x7 : FVec Ideal ⟨2, ![8192, 1024]⟩ .f32) (x8 : FVec Ideal ⟨2, ![8192, 512]⟩ .f32)
    (x9 : FVec Ideal ⟨2, ![8192, 1536]⟩ .bf16) (x10 : FVec Ideal ⟨2, ![8192, 512]⟩ .bf16)
    (x11 : FVec Ideal ⟨2, ![8192, 128]⟩ .bf16) : Prop where
  x : ∀ (b : Fin 2) (i : Fin 4096) (k : Fin 1024), x0 (ix3 b i k) = ((A.x (4096 * b + i) k : ℝ) : EReal)
  g : ∀ k : Fin 1024, x1 (ix2 0 k) = ((A.g k : ℝ) : EReal)
  w : ∀ (k : Fin 1024) (c : Fin 3592), x2 (ix3 0 k c) = ((A.w k c : ℝ) : EReal)
  lg : ∀ j : Fin 512, x3 (ix2 0 j) = ((A.lg j : ℝ) : EReal)
  lb : ∀ j : Fin 512, x4 (ix2 0 j) = ((A.lb j : ℝ) : EReal)
  ws : ∀ (g : Fin 4) (s t : Fin 128), x5 (ix4 0 g s t) = ((A.ws g s t : ℝ) : EReal)
  b : ∀ (g : Fin 4) (s : Fin 128), x6 (ix3 0 g s) = ((A.b g s : ℝ) : EReal)
  dh : ∀ (r : Fin 8192) (k : Fin 1024), x7 (ix2 r k) = ((A.dh r k : ℝ) : EReal)
  da : ∀ (r : Fin 8192) (j : Fin 512), x8 (ix2 r j) = ((A.da r j : ℝ) : EReal)
  dq : ∀ (r : Fin 8192) (j : Fin 1536), x9 (ix2 r j) = ((A.dq r j : ℝ) : EReal)
  dz : ∀ (r : Fin 8192) (j : Fin 512), x10 (ix2 r j) = ((A.dz r j : ℝ) : EReal)
  dl : ∀ (r : Fin 8192) (j : Fin 128), x11 (ix2 r j) = ((A.dl r j : ℝ) : EReal)

end Cert.Layer
-- ==== Proof.Finite.lean ====
/-
  The precondition: every element of every argument is a real number, so the arguments are twelve families of reals.
-/
module

public import proofs.«01_k».proof.Pre_all_finite
public import proofs.«01_k».proof.Proof.Agree
public import proofs.«01_k».proof.Proof.Reals
public import Idealize.ShloMosaic.Lib.ReduceAll

@[expose] public section

set_option maxRecDepth 16384

noncomputable section

open Idealize.ShloMosaic Cert.Layer Cert.Pre_all_finite

namespace Cert.Finite

/-- The shapes' side conditions. -/
theorem facts : Cert.Pre_all_finite.Facts where
  bcast_S_S2x4096x1024 := by decide
  reducesTo_S2x4096x1024_S_d0_1_2 := by decide
  h_S_ := by decide
  bcast_S_S1x1024 := by decide
  reducesTo_S1x1024_S_d0_1 := by decide
  bcast_S_S1x1024x3592 := by decide
  reducesTo_S1x1024x3592_S_d0_1_2 := by decide
  bcast_S_S1x512 := by decide
  reducesTo_S1x512_S_d0_1 := by decide
  bcast_S_S1x4x128x128 := by decide
  reducesTo_S1x4x128x128_S_d0_1_2_3 := by decide
  bcast_S_S1x4x128 := by decide
  reducesTo_S1x4x128_S_d0_1_2 := by decide
  bcast_S_S8192x1024 := by decide
  reducesTo_S8192x1024_S_d0_1 := by decide
  bcast_S_S8192x512 := by decide
  reducesTo_S8192x512_S_d0_1 := by decide
  bcast_S_S8192x1536 := by decide
  reducesTo_S8192x1536_S_d0_1 := by decide
  bcast_S_S8192x128 := by decide
  reducesTo_S8192x128_S_d0_1 := by decide

theorem top32 : Ideal.ofBits .f32 0x7F800000#32 = ⊤ := by simp [Ideal.ofBits, Ideal.ieee]
theorem top16 : Ideal.ofBits .bf16 0x7F80#16 = ⊤ := by simp [Ideal.ofBits, Ideal.ieee]

/-- A number whose size is below infinity is real. -/
theorem real_of_lt (a b : EReal) (hb : b = ⊤) (h : Ideal.cmp .olt (max a (-a)) b = 1#1) : ((a.toReal : ℝ) : EReal) = a := by
  subst hb
  induction a with
  | bot => exact absurd h (by simp [Ideal.cmp])
  | top => exact absurd h (by simp [Ideal.cmp])
  | coe r => rfl

instance : Subsingleton S_.Idx := ⟨fun a b => funext fun i => i.elim0⟩

theorem real32 {s : Shape} {axes : List (Fin s.rank)} (a : FVec Ideal s .f32) (b : S_.BroadcastsInDim s ![]) (init : IVec S_ 1) (h : s.ReducesTo axes S_)
    (hu : 0 < S_.numel) (j : S_.Idx)
    (e : Host.reduce IntOp.andi (cmpf .olt (Host.absf a) (broadcastInDim s ![] b (constant S_ .f32 0x7F800000#32))) init h hu j = 1#1)
    (i : s.Idx) : (((a i : EReal).toReal : ℝ) : EReal) = a i :=
  real_of_lt _ _ top32 (Host.reduce_andi_all _ _ h hu j e i)

theorem real16 {s : Shape} {axes : List (Fin s.rank)} (a : FVec Ideal s .bf16) (b : S_.BroadcastsInDim s ![]) (init : IVec S_ 1) (h : s.ReducesTo axes S_)
    (hu : 0 < S_.numel) (j : S_.Idx)
    (e : Host.reduce IntOp.andi (cmpf .olt (Host.absf a) (broadcastInDim s ![] b (constant S_ .bf16 0x7F80#16))) init h hu j = 1#1)
    (i : s.Idx) : (((a i : EReal).toReal : ℝ) : EReal) = a i :=
  real_of_lt _ _ top16 (Host.reduce_andi_all _ _ h hu j e i)

/-- Both of two bits that are one together. -/
theorem both (a b : IVec S_ 1) (j : S_.Idx) (h : andi a b j = 1#1) : a j = 1#1 ∧ b j = 1#1 := IntOp.andi_eq_one.1 h

/-- The arguments' numbers. -/
def numbers (x0 : FVec Ideal S2x4096x1024 .f32) (x1 : FVec Ideal S1x1024 .f32) (x2 : FVec Ideal S1x1024x3592 .f32) (x3 : FVec Ideal S1x512 .f32) (x4 : FVec Ideal S1x512 .f32) (x5 : FVec Ideal S1x4x128x128 .f32) (x6 : FVec Ideal S1x4x128 .f32) (x7 : FVec Ideal S8192x1024 .f32) (x8 : FVec Ideal S8192x512 .f32) (x9 : FVec Ideal S8192x1536 .bf16) (x10 : FVec Ideal S8192x512 .bf16) (x11 : FVec Ideal S8192x128 .bf16) : Args where
  x r k := if hr : r < 8192 then if hk : k < 1024 then (x0 (ix3 ⟨r / 4096, by omega⟩ ⟨r % 4096, by omega⟩ ⟨k, hk⟩) : EReal).toReal else 0 else 0
  g k := if hk : k < 1024 then (x1 (ix2 0 ⟨k, hk⟩) : EReal).toReal else 0
  w k c := if hk : k < 1024 then if hc : c < 3592 then (x2 (ix3 0 ⟨k, hk⟩ ⟨c, hc⟩) : EReal).toReal else 0 else 0
  lg j := if hj : j < 512 then (x3 (ix2 0 ⟨j, hj⟩) : EReal).toReal else 0
  lb j := if hj : j < 512 then (x4 (ix2 0 ⟨j, hj⟩) : EReal).toReal else 0
  ws g s t := if hg : g < 4 then if hs : s < 128 then if ht : t < 128 then (x5 (ix4 0 ⟨g, hg⟩ ⟨s, hs⟩ ⟨t, ht⟩) : EReal).toReal else 0 else 0 else 0
  b g s := if hg : g < 4 then if hs : s < 128 then (x6 (ix3 0 ⟨g, hg⟩ ⟨s, hs⟩) : EReal).toReal else 0 else 0
  dh r k := if hr : r < 8192 then if hk : k < 1024 then (x7 (ix2 ⟨r, hr⟩ ⟨k, hk⟩) : EReal).toReal else 0 else 0
  da r k := if hr : r < 8192 then if hk : k < 512 then (x8 (ix2 ⟨r, hr⟩ ⟨k, hk⟩) : EReal).toReal else 0 else 0
  dq r k := if hr : r < 8192 then if hk : k < 1536 then (x9 (ix2 ⟨r, hr⟩ ⟨k, hk⟩) : EReal).toReal else 0 else 0
  dz r k := if hr : r < 8192 then if hk : k < 512 then (x10 (ix2 ⟨r, hr⟩ ⟨k, hk⟩) : EReal).toReal else 0 else 0
  dl r k := if hr : r < 8192 then if hk : k < 128 then (x11 (ix2 ⟨r, hr⟩ ⟨k, hk⟩) : EReal).toReal else 0 else 0

/-- Under the precondition the arguments hold their numbers. -/
theorem agrees [Cert.Pre_all_finite.Facts] (x0 : FVec Ideal S2x4096x1024 .f32) (x1 : FVec Ideal S1x1024 .f32) (x2 : FVec Ideal S1x1024x3592 .f32) (x3 : FVec Ideal S1x512 .f32) (x4 : FVec Ideal S1x512 .f32) (x5 : FVec Ideal S1x4x128x128 .f32) (x6 : FVec Ideal S1x4x128 .f32) (x7 : FVec Ideal S8192x1024 .f32) (x8 : FVec Ideal S8192x512 .f32) (x9 : FVec Ideal S8192x1536 .bf16) (x10 : FVec Ideal S8192x512 .bf16) (x11 : FVec Ideal S8192x128 .bf16)
    (h : Cert.Pre_all_finite.fn (F := Ideal) x0 x1 x2 x3 x4 x5 x6 x7 x8 x9 x10 x11 = fun _ => 1#1) : Agrees (numbers x0 x1 x2 x3 x4 x5 x6 x7 x8 x9 x10 x11) x0 x1 x2 x3 x4 x5 x6 x7 x8 x9 x10 x11 := by
  have e := congrFun h (fun i : Fin 0 => i.elim0)
  dsimp only [fn, fn_part1, fn_part2, fn_part3] at e
  obtain ⟨e, e11⟩ := both _ _ _ e
  obtain ⟨e, e10⟩ := both _ _ _ e
  obtain ⟨e, e9⟩ := both _ _ _ e
  obtain ⟨e, e8⟩ := both _ _ _ e
  obtain ⟨e, e7⟩ := both _ _ _ e
  obtain ⟨e, e6⟩ := both _ _ _ e
  obtain ⟨e, e5⟩ := both _ _ _ e
  obtain ⟨e, e4⟩ := both _ _ _ e
  obtain ⟨e, e3⟩ := both _ _ _ e
  obtain ⟨e, e2⟩ := both _ _ _ e
  obtain ⟨e, e1⟩ := both _ _ _ e
  constructor
  · intro b i k
    refine (real32 x0 _ _ _ _ _ e _).symm.trans (congrArg Real.toEReal ?_)
    have hr : 4096 * (b : ℕ) + i < 8192 := by omega
    show _ = dite _ _ _
    rw [dif_pos hr, dif_pos k.isLt]
    have h1 : (⟨(4096 * (b : ℕ) + i) / 4096, by omega⟩ : Fin 2) = b := Fin.ext (by show (4096 * (b : ℕ) + i) / 4096 = b; omega)
    have h2 : (⟨(4096 * (b : ℕ) + i) % 4096, by omega⟩ : Fin 4096) = i := Fin.ext (by show (4096 * (b : ℕ) + i) % 4096 = i; omega)
    rw [h1, h2]
  · intro k
    refine (real32 x1 _ _ _ _ _ e1 _).symm.trans (congrArg Real.toEReal ?_)
    show _ = dite _ _ _
    rw [dif_pos k.isLt]
  · intro k c
    refine (real32 x2 _ _ _ _ _ e2 _).symm.trans (congrArg Real.toEReal ?_)
    show _ = dite _ _ _
    rw [dif_pos k.isLt, dif_pos c.isLt]
  · intro j
    refine (real32 x3 _ _ _ _ _ e3 _).symm.trans (congrArg Real.toEReal ?_)
    show _ = dite _ _ _
    rw [dif_pos j.isLt]
  · intro j
    refine (real32 x4 _ _ _ _ _ e4 _).symm.trans (congrArg Real.toEReal ?_)
    show _ = dite _ _ _
    rw [dif_pos j.isLt]
  · intro g s t
    refine (real32 x5 _ _ _ _ _ e5 _).symm.trans (congrArg Real.toEReal ?_)
    show _ = dite _ _ _
    rw [dif_pos g.isLt, dif_pos s.isLt, dif_pos t.isLt]
  · intro g s
    refine (real32 x6 _ _ _ _ _ e6 _).symm.trans (congrArg Real.toEReal ?_)
    show _ = dite _ _ _
    rw [dif_pos g.isLt, dif_pos s.isLt]
  · intro r k
    refine (real32 x7 _ _ _ _ _ e7 _).symm.trans (congrArg Real.toEReal ?_)
    show _ = dite _ _ _
    rw [dif_pos r.isLt, dif_pos k.isLt]
  · intro r k
    refine (real32 x8 _ _ _ _ _ e8 _).symm.trans (congrArg Real.toEReal ?_)
    show _ = dite _ _ _
    rw [dif_pos r.isLt, dif_pos k.isLt]
  · intro r k
    refine (real16 x9 _ _ _ _ _ e9 _).symm.trans (congrArg Real.toEReal ?_)
    show _ = dite _ _ _
    rw [dif_pos r.isLt, dif_pos k.isLt]
  · intro r k
    refine (real16 x10 _ _ _ _ _ e10 _).symm.trans (congrArg Real.toEReal ?_)
    show _ = dite _ _ _
    rw [dif_pos r.isLt, dif_pos k.isLt]
  · intro r k
    refine (real16 x11 _ _ _ _ _ e11 _).symm.trans (congrArg Real.toEReal ?_)
    show _ = dite _ _ _
    rw [dif_pos r.isLt, dif_pos k.isLt]

end Cert.Finite
-- ==== Proof.HostSums.lean ====
/-
  The host's sums over several axes, read at an index: the initial value plus a sum over each reduced axis in turn; and
  the reference's product with three contracted axes.
-/
module

public import proofs.«01_k».proof.ReferenceIdeal
public import Idealize.ShloMosaic.Lib.Pointwise
public import Idealize.ShloMosaic.PureOps.Ideal.Laws

@[expose] public section

set_option maxRecDepth 16384

noncomputable section

open Idealize.ShloMosaic

namespace Cert.HostSums

variable {φ : FTy}

/-- A sum over the first two of three axes. -/
theorem sum_r3_a01 {n0 n1 n2 : ℕ} (h : (⟨3, ![n0, n1, n2]⟩ : Shape).ReducesTo [0, 1] ⟨1, ![n2]⟩)
    (v : (⟨3, ![n0, n1, n2]⟩ : Shape).Idx → EReal) (init : EReal) (c : Fin n2) :
    Ideal.hostReduceAdd h v init (ix1 c) = init + ∑ a : Fin n0, ∑ b : Fin n1, v (ix3 a b c) := by
  unfold Ideal.hostReduceAdd
  rw [Finset.sum_filter, sum_idx3]
  refine congrArg (init + ·) (Finset.sum_congr rfl fun a _ => Finset.sum_congr rfl fun b _ => ?_)
  rw [Finset.sum_eq_single c]
  · exact if_pos (funext fun d => by obtain rfl : d = 0 := Subsingleton.elim _ _; rfl)
  · intro c' _ hc
    exact if_neg fun e => hc (congrFun e 0)
  · exact fun hc => absurd (Finset.mem_univ _) hc

/-- A sum over the first two and the last of five axes. -/
theorem sum_r5_a014 {n0 n1 n2 n3 n4 : ℕ} (h : (⟨5, ![n0, n1, n2, n3, n4]⟩ : Shape).ReducesTo [0, 1, 4] ⟨2, ![n2, n3]⟩)
    (v : (⟨5, ![n0, n1, n2, n3, n4]⟩ : Shape).Idx → EReal) (init : EReal) (c : Fin n2) (d : Fin n3) :
    Ideal.hostReduceAdd h v init (ix2 c d) = init + ∑ a : Fin n0, ∑ b : Fin n1, ∑ e : Fin n4, v (ix5 a b c d e) := by
  unfold Ideal.hostReduceAdd
  rw [Finset.sum_filter, sum_idx5]
  refine congrArg (init + ·) (Finset.sum_congr rfl fun a _ => Finset.sum_congr rfl fun b _ => ?_)
  rw [Finset.sum_eq_single c, Finset.sum_eq_single d]
  · refine Finset.sum_congr rfl fun e _ => if_pos (funext fun x => ?_)
    match x with
    | ⟨0, _⟩ => rfl
    | ⟨1, _⟩ => rfl
  · intro d' _ hd
    exact Finset.sum_eq_zero fun e _ => if_neg fun q => hd (congrFun q 1)
  · exact fun hc => absurd (Finset.mem_univ _) hc
  · intro c' _ hc
    exact Finset.sum_eq_zero fun d _ => Finset.sum_eq_zero fun e _ => if_neg fun q => hc (congrFun q 0)
  · exact fun hc => absurd (Finset.mem_univ _) hc

/-- A sum over the first three of five axes. -/
theorem sum_r5_a012 {n0 n1 n2 n3 n4 : ℕ} (h : (⟨5, ![n0, n1, n2, n3, n4]⟩ : Shape).ReducesTo [0, 1, 2] ⟨2, ![n3, n4]⟩)
    (v : (⟨5, ![n0, n1, n2, n3, n4]⟩ : Shape).Idx → EReal) (init : EReal) (d : Fin n3) (e : Fin n4) :
    Ideal.hostReduceAdd h v init (ix2 d e) = init + ∑ a : Fin n0, ∑ b : Fin n1, ∑ c : Fin n2, v (ix5 a b c d e) := by
  unfold Ideal.hostReduceAdd
  rw [Finset.sum_filter, sum_idx5]
  refine congrArg (init + ·) (Finset.sum_congr rfl fun a _ => Finset.sum_congr rfl fun b _ =>
    Finset.sum_congr rfl fun c _ => ?_)
  rw [Finset.sum_eq_single d, Finset.sum_eq_single e]
  · refine if_pos (funext fun x => ?_)
    match x with
    | ⟨0, _⟩ => rfl
    | ⟨1, _⟩ => rfl
  · intro e' _ he
    exact if_neg fun q => he (congrFun q 1)
  · exact fun hc => absurd (Finset.mem_univ _) hc
  · intro d' _ hd
    exact Finset.sum_eq_zero fun e _ => if_neg fun q => hd (congrFun q 0)
  · exact fun hc => absurd (Finset.mem_univ _) hc

/-- A contraction index over three axes is the triple of its coordinates. -/
def contrTriple {sl sr so : Shape} (D : DotDims sl sr so) (n0 n1 n2 : ℕ) (hr : D.contr.rank = 3)
    (h0 : D.contr.size ⟨0, by omega⟩ = n0) (h1 : D.contr.size ⟨1, by omega⟩ = n1) (h2 : D.contr.size ⟨2, by omega⟩ = n2) :
    D.contr.Idx ≃ Fin n0 × Fin n1 × Fin n2 where
  toFun q := ((q ⟨0, by omega⟩).cast h0, (q ⟨1, by omega⟩).cast h1, (q ⟨2, by omega⟩).cast h2)
  invFun p := fun a =>
    if ha : a.val = 0 then p.1.cast (h0.symm.trans (congrArg D.contr.size (Fin.ext ha.symm)))
    else if hb : a.val = 1 then p.2.1.cast (h1.symm.trans (congrArg D.contr.size (Fin.ext hb.symm)))
    else p.2.2.cast (h2.symm.trans (congrArg D.contr.size (Fin.ext (by have := a.isLt; show 2 = a.val; omega))))
  left_inv q := by
    have p0 : 0 < D.contr.rank := by omega
    have p1 : 1 < D.contr.rank := by omega
    have p2 : 2 < D.contr.rank := by omega
    funext a
    by_cases ha : a.val = 0
    · obtain rfl : a = ⟨0, p0⟩ := Fin.ext ha
      simp
    · by_cases hb : a.val = 1
      · obtain rfl : a = ⟨1, p1⟩ := Fin.ext hb
        simp
      · obtain rfl : a = ⟨2, p2⟩ := Fin.ext (by have := a.isLt; show a.val = 2; omega)
        simp
  right_inv p := by
    refine Prod.ext (Fin.ext ?_) (Prod.ext (Fin.ext ?_) (Fin.ext ?_)) <;> simp

open Cert.ReferenceIdeal in
/-- The product of the spatial mixing's gradient with the layer norm's value, over sequences, chunks and columns. -/
theorem dot_spatial [Cert.ReferenceIdeal.Facts] (l : FVec Ideal S4x2x32x128x128 .f32) (r : FVec Ideal S2x32x128x4x128 .f32)
    (g : Fin 4) (s t : Fin 128) :
    Host.dotGeneral (F := Ideal) dot_S4x2x32x128x128_S2x32x128x4x128_S4x128x128_123_014_4_2_0_3 none l r (ix3 g s t)
      = ∑ b : Fin 2, ∑ n : Fin 32, ∑ j : Fin 128, l (ix5 g b n j s) * r (ix5 b n t g j) := by
  let D := dot_S4x2x32x128x128_S2x32x128x4x128_S4x128x128_123_014_4_2_0_3
  have hr : D.contr.rank = 3 := rfl
  have c0 : D.contr.size ⟨0, by omega⟩ = 2 := rfl
  have c1 : D.contr.size ⟨1, by omega⟩ = 32 := rfl
  have c2 : D.contr.size ⟨2, by omega⟩ = 128 := rfl
  simp only [Host.dotGeneral]
  rw [Ideal.dotGeneral_apply, ← Equiv.sum_comp (contrTriple D 2 32 128 hr c0 c1 c2).symm, Fintype.sum_prod_type]
  refine Finset.sum_congr rfl fun b _ => ?_
  rw [Fintype.sum_prod_type]
  refine Finset.sum_congr rfl fun n _ => Finset.sum_congr rfl fun j _ => ?_
  have h0 : (((contrTriple D 2 32 128 hr c0 c1 c2).symm (b, n, j)) ⟨0, by omega⟩ : ℕ) = b.val := by simp [contrTriple]
  have h1 : (((contrTriple D 2 32 128 hr c0 c1 c2).symm (b, n, j)) ⟨1, by omega⟩ : ℕ) = n.val := by simp [contrTriple]
  have h2 : (((contrTriple D 2 32 128 hr c0 c1 c2).symm (b, n, j)) ⟨2, by omega⟩ : ℕ) = j.val := by simp [contrTriple]
  have el : D.lhsIdx (ix3 g s t) ((contrTriple D 2 32 128 hr c0 c1 c2).symm (b, n, j)) = ix5 g b n j s := by
    funext x; apply Fin.ext
    match x with
    | ⟨0, _⟩ => rfl
    | ⟨1, _⟩ => exact h0
    | ⟨2, _⟩ => exact h1
    | ⟨3, _⟩ => exact h2
    | ⟨4, _⟩ => rfl
  have er : D.rhsIdx (ix3 g s t) ((contrTriple D 2 32 128 hr c0 c1 c2).symm (b, n, j)) = ix5 b n t g j := by
    funext x; apply Fin.ext
    match x with
    | ⟨0, _⟩ => exact h0
    | ⟨1, _⟩ => exact h1
    | ⟨2, _⟩ => rfl
    | ⟨3, _⟩ => rfl
    | ⟨4, _⟩ => exact h2
  rw [el, er]

end Cert.HostSums
-- ==== Proof.RefRows.lean ====
/-
  Facts the reference's value is read with: where a row and a column of the flat arrays lie in the chunks and groups, the
  constants' quotients, and the root of two.
-/
module

public import proofs.«01_k».proof.Proof.Agree
public import proofs.«01_k».proof.Proof.HostSums
public import proofs.«01_k».proof.Proof.Gen.ReferenceIdeal.Read

@[expose] public section

noncomputable section

open Idealize.ShloMosaic Cert.Reals

namespace Cert.Layer

namespace Args

variable (A : Args)

theorem tile_u (r c : ℕ) : (A.tile (r / 128) (c / 128)).u (r % 128) (c % 128) = A.proj r c := by
  simp only [tile, Nat.div_add_mod]

theorem tile_v (r c : ℕ) : (A.tile (r / 128) (c / 128)).v (r % 128) (c % 128) = A.proj r (512 + c) := by
  simp only [tile, Nat.div_add_mod]

theorem tile_z (r c : ℕ) : (A.tile (r / 128) (c / 128)).z (r % 128) (c % 128) = A.proj r (1024 + c) := by
  simp only [tile, Nat.div_add_mod]

theorem tile_ct (r c : ℕ) : (A.tile (r / 128) (c / 128)).ct (r % 128) (c % 128) = A.da r c := by
  simp only [tile, Nat.div_add_mod]

/-- The row of a chunk's position, in the chunk's own numbering. -/
theorem chunk_row (b : Fin 2) (n : Fin 32) (s : Fin 128) : 4096 * (b : ℕ) + ((n : ℕ) * 128 + s) = 128 * (32 * b + n) + s := by
  omega

/-- The column of a group's position. -/
theorem chunk_col (g : Fin 4) (j : Fin 128) : (g : ℕ) * 128 + (j : ℕ) = 128 * g + j := by
  omega

theorem row_div (q : ℕ) (s : Fin 128) : (128 * q + (s : ℕ)) / 128 = q := by omega

theorem row_mod (q : ℕ) (s : Fin 128) : (128 * q + (s : ℕ)) % 128 = s := by omega

/-- The chunk of a row of one of the two sequences. -/
theorem seq_div (b : Fin 2) (i : Fin 4096) : (4096 * (b : ℕ) + i) / 128 = 32 * b + i / 128 := by omega

theorem seq_mod (b : Fin 2) (i : Fin 4096) : (4096 * (b : ℕ) + i) % 128 = i % 128 := by omega

end Args

end Cert.Layer

namespace Cert.Reals

theorem div_1024 (a : ℝ) : Ideal.div (a : EReal) ((1024 : ℝ) : EReal) = ((a / 1024 : ℝ) : EReal) :=
  div_real _ _ (by norm_num)

theorem div_128 (a : ℝ) : Ideal.div (a : EReal) ((128 : ℝ) : EReal) = ((a / 128 : ℝ) : EReal) :=
  div_real _ _ (by norm_num)

theorem root_ne : Real.sqrt 2 ≠ 0 := (Real.sqrt_pos.2 (by norm_num)).ne'

theorem div_root (a : ℝ) : Ideal.div (a : EReal) ((Real.sqrt 2 : ℝ) : EReal) = ((a / Real.sqrt 2 : ℝ) : EReal) :=
  div_real _ _ root_ne

theorem root_bits : Ideal.sqrt (Ideal.ofBits .f32 0x40000000#32) = ((Real.sqrt 2 : ℝ) : EReal) := by
  rw [bits_two, sqrt_real _ (by norm_num)]

/-- A sum over consecutive runs of equal length. -/
theorem sum_runs (m n : ℕ) (f : ℕ → ℝ) : ∑ a : Fin m, ∑ b : Fin n, f (n * a + b) = ∑ r : Fin (m * n), f r := by
  rw [← Fintype.sum_prod_type', ← Equiv.sum_comp finProdFinEquiv]
  refine Finset.sum_congr rfl fun p _ => ?_
  show f (n * p.1 + p.2) = f (p.2 + n * p.1)
  rw [Nat.add_comm]

theorem sum_seqs (f : ℕ → ℝ) : ∑ b : Fin 2, ∑ i : Fin 4096, f (4096 * b + i) = ∑ r : Fin 8192, f r := sum_runs 2 4096 f

theorem sum_chunks (f : ℕ → ℝ) : ∑ b : Fin 2, ∑ n : Fin 32, f (32 * b + n) = ∑ q : Fin 64, f q := sum_runs 2 32 f

/-- A row's number at least a column's, as the programs compare them. -/
theorem sge_bit (s t : Fin 128) :
    IntOp.cmpi .sge (IntOp.addi (BitVec.ofNat 32 s) 0#32) (BitVec.ofNat 32 t) = if t ≤ s then 1#1 else 0#1 := by
  revert s t
  decide +kernel

theorem causal_select (s t : Fin 128) (a b : EReal) :
    Scalar.select (Scalar.select (IntOp.cmpi .sge (IntOp.addi (BitVec.ofNat 32 s) 0#32) (BitVec.ofNat 32 t)) 1#1 0#1) a b
      = if (t : ℕ) ≤ s then a else b := by
  rw [sge_bit]
  by_cases h : t ≤ s
  · have h' : (t : ℕ) ≤ s := h
    rw [if_pos h, if_pos h']; rfl
  · have h' : ¬ (t : ℕ) ≤ s := h
    rw [if_neg h, if_neg h']; rfl

end Cert.Reals
-- ==== Proof.KernelTile.lean ====
/-
  One chunk of one group of the gating unit, as the kernel's body computes it from the blocks it loads: every stage is
  the real function of the same name.
-/
module

public import proofs.«01_k».proof.Proof.Gen.KernelIdeal.Skeleton
public import proofs.«01_k».proof.Proof.RefRows
public import Idealize.ShloMosaic.PureOps.IdealRules

@[expose] public section

set_option maxRecDepth 16384

noncomputable section

open Idealize.ShloMosaic Cert.Layer Cert.Reals Cert.KernelIdeal Cert.KernelIdeal.Gen

namespace Cert.KTile

/-- The reciprocal root of two, under its name. -/
theorem root_half_real :
    Named.named (F := Ideal) Cert.KernelIdeal.κ "root_half" (φ := .f32) 0x3F3504F3#32 = (((Real.sqrt 2)⁻¹ : ℝ) : EReal) :=
  IdealRules.named_const.ideal_named_scalar _ _ _ _ rfl

/-- The normal density at zero, as the derivative rule's constant gives it, under its name. -/
theorem density_real :
    Named.named (F := Ideal) Cert.KernelIdeal.κ "density_at_zero" (φ := .f32) 0x3ECC422A#32
      = ((9465531 / 8388608 * (2 * Real.sqrt 2)⁻¹ : ℝ) : EReal) :=
  IdealRules.named_const.ideal_named_scalar _ _ _ _ rfl

/-- A row's number at least a column's. -/
theorem sge_select (s t : Fin 128) (a b : EReal) :
    Scalar.select (IntOp.cmpi .sge (BitVec.ofNat 32 s) (BitVec.ofNat 32 t)) a b = if (t : ℕ) ≤ s then a else b := by
  have e : IntOp.cmpi .sge (BitVec.ofNat 32 (s : ℕ)) (BitVec.ofNat 32 (t : ℕ)) = if t ≤ s then 1#1 else 0#1 := by
    revert s t
    decide +kernel
  rw [e]
  by_cases h : t ≤ s
  · have h' : (t : ℕ) ≤ s := h
    rw [if_pos h, if_pos h']; rfl
  · have h' : ¬ (t : ℕ) ≤ s := h
    rw [if_neg h, if_neg h']; rfl

/-- The causal mask. -/
def mask : IVec S128x128 1 :=
  cmpi .sge (iota .tc S128x128 32 [0] iota_S128x128_d0_w32) (iota .tc S128x128 32 [1] iota_S128x128_d1_w32)

/-- The row that is one at a group's number and zero at the others. -/
def onehot (g : BitVec 32) : FVec Ideal S1x4 .f32 :=
  sitofp .f32 (extui 32 (cmpi .eq (iota .tc S1x4 32 [1] iota_S1x4_d1_w32) (broadcast S1x4 g)) natLt_1_32)

/-- A group's column of the spatial bias. -/
def bcol (bt : FVec Ideal S128x4 .f32) (g : BitVec 32) : FVec Ideal S128x1 .f32 :=
  shapeCast S128x1 (multiReduction .add [1] S128 (mulf bt (broadcastTo S128x4 (onehot g) broadcasts_S1x4_S128x4))
    0x00000000#32 reduces_S128x4_S128 (.inl rfl) rfl) shapeCasts_S128_S128x1

theorem onehot_real (g j : Fin 4) : onehot (BitVec.ofNat 32 g) (ix2 0 j) = ((if j = g then 1 else 0 : ℝ) : EReal) := by
  pointwise [onehot]
  have e : (BitVec.setWidth 32 (IntOp.cmpi .eq (BitVec.ofNat 32 (j : ℕ)) (BitVec.ofNat 32 (g : ℕ)))).toInt = if j = g then 1 else 0 := by
    revert g j
    decide +kernel
  show (((BitVec.setWidth 32 (IntOp.cmpi .eq (BitVec.ofNat 32 (j : ℕ)) (BitVec.ofNat 32 (g : ℕ)))).toInt : ℝ) : EReal) = _
  rw [e]
  by_cases hj : j = g
  · rw [if_pos hj, if_pos hj]; norm_num
  · rw [if_neg hj, if_neg hj]; norm_num

variable {T : Tile} {u v z ct : FVec Ideal S128x128 .f32} {bt : FVec Ideal S128x4 .f32} {g : BitVec 32}
  {lg lb : FVec Ideal S1x128 .f32} {ws : FVec Ideal S128x128 .f32}

/-- What the body loads for a tile holds the tile's numbers. -/
structure Holds (T : Tile) (u v z ct : FVec Ideal S128x128 .f32) (b : FVec Ideal S128x1 .f32)
    (lg lb : FVec Ideal S1x128 .f32) (ws : FVec Ideal S128x128 .f32) : Prop where
  u : ∀ s j : Fin 128, u (ix2 s j) = ((T.u s j : ℝ) : EReal)
  v : ∀ s j : Fin 128, v (ix2 s j) = ((T.v s j : ℝ) : EReal)
  z : ∀ s j : Fin 128, z (ix2 s j) = ((T.z s j : ℝ) : EReal)
  ct : ∀ s j : Fin 128, ct (ix2 s j) = ((T.ct s j : ℝ) : EReal)
  b : ∀ s : Fin 128, b (ix2 s 0) = ((T.b s : ℝ) : EReal)
  lg : ∀ j : Fin 128, lg (ix2 0 j) = ((T.lg j : ℝ) : EReal)
  lb : ∀ j : Fin 128, lb (ix2 0 j) = ((T.lb j : ℝ) : EReal)
  ws : ∀ s j : Fin 128, ws (ix2 s j) = ((T.ws s j : ℝ) : EReal)

variable {b : FVec Ideal S128x1 .f32} (h : Holds T u v z ct b lg lb ws)

include h

/-- The distribution function at the gating input. -/
theorem cdf_u (s j : Fin 128) : k0_pay31 (F := Ideal) u (ix2 s j) = ((cdf (T.u s j) : ℝ) : EReal) := by
  pointwise [k0_pay31, h.u]
  simp only [add_real, mul_real, sub_real, neg_real, sum_real, exp_real, erf_real, tanh_real, bits_eps, bits_1024, bits_128, bits_half, bits_neg_half, bits_one, root_half_real, density_real, zero_real, zero_add, div_1024, div_128]
  all_goals rfl

/-- The activated gating input. -/
theorem gelu_u (s j : Fin 128) : k0_pay32 (F := Ideal) u (ix2 s j) = ((gelu (T.u s j) : ℝ) : EReal) := by
  pointwise [k0_pay32, cdf_u h, h.u]
  simp only [add_real, mul_real, sub_real, neg_real, sum_real, exp_real, erf_real, tanh_real, bits_eps, bits_1024, bits_128, bits_half, bits_neg_half, bits_one, root_half_real, density_real, zero_real, zero_add, div_1024, div_128]
  all_goals rfl

/-- The distribution function at the gated input. -/
theorem cdf_v (s j : Fin 128) : k0_pay33 (F := Ideal) v (ix2 s j) = ((cdf (T.v s j) : ℝ) : EReal) := by
  pointwise [k0_pay33, h.v]
  simp only [add_real, mul_real, sub_real, neg_real, sum_real, exp_real, erf_real, tanh_real, bits_eps, bits_1024, bits_128, bits_half, bits_neg_half, bits_one, root_half_real, density_real, zero_real, zero_add, div_1024, div_128]
  all_goals rfl

/-- The activated gated input, centred. -/
theorem cen (s j : Fin 128) : k0_pay34 (F := Ideal) v (ix2 s j) = ((T.cen s j : ℝ) : EReal) := by
  pointwise [k0_pay34, cdf_v h, h.v]
  simp only [add_real, mul_real, sub_real, neg_real, sum_real, exp_real, erf_real, tanh_real, bits_eps, bits_1024, bits_128, bits_half, bits_neg_half, bits_one, root_half_real, density_real, zero_real, zero_add, div_1024, div_128]
  all_goals rfl

/-- The reciprocal root of its mean square. -/
theorem rst (s : Fin 128) : k0_pay35 (F := Ideal) v (ix2 s 0) = ((T.rst s : ℝ) : EReal) := by
  pointwise [k0_pay35, cen h]
  simp only [add_real, mul_real, sub_real, neg_real, sum_real, exp_real, erf_real, tanh_real, bits_eps, bits_1024, bits_128, bits_half, bits_neg_half, bits_one, root_half_real, density_real, zero_real, zero_add, div_1024, div_128]
  all_goals exact rsqrt_real _ (T.var_pos s)

/-- The normalised row. -/
theorem y (s j : Fin 128) : k0_pay36 (F := Ideal) v (ix2 s j) = ((T.y s j : ℝ) : EReal) := by
  pointwise [k0_pay36, cen h, rst h]
  simp only [add_real, mul_real, sub_real, neg_real, sum_real, exp_real, erf_real, tanh_real, bits_eps, bits_1024, bits_128, bits_half, bits_neg_half, bits_one, root_half_real, density_real, zero_real, zero_add, div_1024, div_128]
  all_goals rfl

/-- The causal part of the weights. -/
theorem wm (s j : Fin 128) : k0_pay37 (F := Ideal) ws mask (ix2 s j) = ((T.wm s j : ℝ) : EReal) := by
  pointwise [k0_pay37, mask, h.ws]
  rw [sge_select, zero_real, ite_real]
  rfl

/-- The layer norm. -/
theorem ln (s j : Fin 128) : k0_pay38 (F := Ideal) v lg lb (ix2 s j) = ((T.ln s j : ℝ) : EReal) := by
  pointwise [k0_pay38, y h, h.lg, h.lb]
  simp only [add_real, mul_real, sub_real, neg_real, sum_real, exp_real, erf_real, tanh_real, bits_eps, bits_1024, bits_128, bits_half, bits_neg_half, bits_one, root_half_real, density_real, zero_real, zero_add, div_1024, div_128]
  all_goals rfl

/-- The spatial mixing. -/
theorem sp (s j : Fin 128) : k0_pay39 (F := Ideal) v b lg lb ws mask (ix2 s j) = ((T.sp s j : ℝ) : EReal) := by
  pointwise [k0_pay39, wm h, ln h, h.b]
  simp only [add_real, mul_real, sub_real, neg_real, sum_real, exp_real, erf_real, tanh_real, bits_eps, bits_1024, bits_128, bits_half, bits_neg_half, bits_one, root_half_real, density_real, zero_real, zero_add, div_1024, div_128]
  all_goals rfl

/-- The gated product. -/
theorem gated (s j : Fin 128) : k0_pay40 (F := Ideal) u v b lg lb ws mask (ix2 s j) = ((gelu (T.u s j) * T.sp s j : ℝ) : EReal) := by
  pointwise [k0_pay40, gelu_u h, sp h]
  simp only [add_real, mul_real, sub_real, neg_real, sum_real, exp_real, erf_real, tanh_real, bits_eps, bits_1024, bits_128, bits_half, bits_neg_half, bits_one, root_half_real, density_real, zero_real, zero_add, div_1024, div_128]
  all_goals rfl

/-- The logistic function of the outer gate. -/
theorem logistic (s j : Fin 128) : k0_pay42 (F := Ideal) (k0_pay41 (F := Ideal) z) (ix2 s j) = ((logi (T.z s j) : ℝ) : EReal) := by
  pointwise [k0_pay42, k0_pay41, h.z]
  simp only [add_real, mul_real, sub_real, neg_real, sum_real, exp_real, erf_real, tanh_real, bits_eps, bits_1024, bits_128, bits_half, bits_neg_half, bits_one, root_half_real, density_real, zero_real, zero_add, div_1024, div_128]
  all_goals exact congrArg Real.toEReal (logi_tanh _)

/-- The gradient before the outer gate. -/
theorem dout (s j : Fin 128) : k0_pay43 (F := Ideal) z (k0_pay41 (F := Ideal) z) ct (ix2 s j) = ((T.dout s j : ℝ) : EReal) := by
  pointwise [k0_pay43, logistic h, h.z, h.ct]
  simp only [add_real, mul_real, sub_real, neg_real, sum_real, exp_real, erf_real, tanh_real, bits_eps, bits_1024, bits_128, bits_half, bits_neg_half, bits_one, root_half_real, density_real, zero_real, zero_add, div_1024, div_128]
  all_goals rfl

/-- The gradient of the outer gate. -/
theorem dz (s j : Fin 128) : k0_pay44 (F := Ideal) z (k0_pay40 (F := Ideal) u v b lg lb ws mask) (k0_pay41 (F := Ideal) z) ct (ix2 s j) = ((T.dz s j : ℝ) : EReal) := by
  pointwise [k0_pay44, logistic h, gated h, h.z, h.ct]
  simp only [add_real, mul_real, sub_real, neg_real, sum_real, exp_real, erf_real, tanh_real, bits_eps, bits_1024, bits_128, bits_half, bits_neg_half, bits_one, root_half_real, density_real, zero_real, zero_add, div_1024, div_128]
  all_goals rfl

/-- The gradient of the spatial mixing. -/
theorem dsp (s j : Fin 128) : k0_pay45 (F := Ideal) z (k0_pay32 (F := Ideal) u) (k0_pay41 (F := Ideal) z) ct (ix2 s j) = ((T.dsp s j : ℝ) : EReal) := by
  pointwise [k0_pay45, dout h, gelu_u h]
  simp only [add_real, mul_real, sub_real, neg_real, sum_real, exp_real, erf_real, tanh_real, bits_eps, bits_1024, bits_128, bits_half, bits_neg_half, bits_one, root_half_real, density_real, zero_real, zero_add, div_1024, div_128]
  all_goals exact congrArg Real.toEReal (mul_comm _ _)

/-- The gradient of the activated gating input. -/
theorem dgu (s j : Fin 128) : k0_pay46 (F := Ideal) z (k0_pay39 (F := Ideal) v b lg lb ws mask) (k0_pay41 (F := Ideal) z) ct (ix2 s j) = ((T.dout s j * T.sp s j : ℝ) : EReal) := by
  pointwise [k0_pay46, dout h, sp h]
  simp only [add_real, mul_real, sub_real, neg_real, sum_real, exp_real, erf_real, tanh_real, bits_eps, bits_1024, bits_128, bits_half, bits_neg_half, bits_one, root_half_real, density_real, zero_real, zero_add, div_1024, div_128]
  all_goals rfl

/-- The gradient of the spatial bias. -/
theorem db (s : Fin 128) : k0_pay47 (F := Ideal) z (k0_pay32 (F := Ideal) u) (k0_pay41 (F := Ideal) z) ct (ix2 s 0) = ((T.db s : ℝ) : EReal) := by
  pointwise [k0_pay47, dsp h]
  simp only [add_real, mul_real, sub_real, neg_real, sum_real, exp_real, erf_real, tanh_real, bits_eps, bits_1024, bits_128, bits_half, bits_neg_half, bits_one, root_half_real, density_real, zero_real, zero_add, div_1024, div_128]
  all_goals rfl

/-- The gradient of the layer norm. -/
theorem dln (s j : Fin 128) : k0_pay48 (F := Ideal) z (k0_pay32 (F := Ideal) u) (k0_pay37 (F := Ideal) ws mask) (k0_pay41 (F := Ideal) z) ct (ix2 s j) = ((T.dln s j : ℝ) : EReal) := by
  pointwise [k0_pay48, dsp h, wm h]
  simp only [add_real, mul_real, sub_real, neg_real, sum_real, exp_real, erf_real, tanh_real, bits_eps, bits_1024, bits_128, bits_half, bits_neg_half, bits_one, root_half_real, density_real, zero_real, zero_add, div_1024, div_128]
  all_goals rfl

/-- The gradient of the spatial weights. -/
theorem dws (s j : Fin 128) :
    k0_pay55 (F := Ideal) mask (k0_pay49 (F := Ideal) z (k0_pay32 (F := Ideal) u) (k0_pay38 (F := Ideal) v lg lb) (k0_pay41 (F := Ideal) z) ct) (ix2 s j)
      = ((T.dws s j : ℝ) : EReal) := by
  pointwise [k0_pay55, k0_pay49, mask, dsp h, ln h]
  simp only [add_real, mul_real, sub_real, neg_real, sum_real, exp_real, erf_real, tanh_real, bits_eps, bits_1024, bits_128, bits_half, bits_neg_half, bits_one, root_half_real, density_real, zero_real, zero_add, div_1024, div_128]
  rw [sge_select, ite_real]
  rfl

/-- The gradient of the shift. -/
theorem dlb (j : Fin 128) : k0_pay50 (F := Ideal) z (k0_pay32 (F := Ideal) u) (k0_pay37 (F := Ideal) ws mask) (k0_pay41 (F := Ideal) z) ct (ix2 0 j) = ((T.dlb j : ℝ) : EReal) := by
  pointwise [k0_pay50, dln h]
  simp only [add_real, mul_real, sub_real, neg_real, sum_real, exp_real, erf_real, tanh_real, bits_eps, bits_1024, bits_128, bits_half, bits_neg_half, bits_one, root_half_real, density_real, zero_real, zero_add, div_1024, div_128]
  all_goals rfl

/-- The gradient of the scale. -/
theorem dlg (j : Fin 128) : k0_pay51 (F := Ideal) z (k0_pay32 (F := Ideal) u) (k0_pay36 (F := Ideal) v) (k0_pay37 (F := Ideal) ws mask) (k0_pay41 (F := Ideal) z) ct (ix2 0 j) = ((T.dlg j : ℝ) : EReal) := by
  pointwise [k0_pay51, dln h, y h]
  simp only [add_real, mul_real, sub_real, neg_real, sum_real, exp_real, erf_real, tanh_real, bits_eps, bits_1024, bits_128, bits_half, bits_neg_half, bits_one, root_half_real, density_real, zero_real, zero_add, div_1024, div_128]
  all_goals exact congrArg Real.toEReal (Finset.sum_congr rfl fun _ _ => mul_comm _ _)

/-- The gradient of the normalised row. -/
theorem dy (s j : Fin 128) : k0_pay52 (F := Ideal) z lg (k0_pay32 (F := Ideal) u) (k0_pay37 (F := Ideal) ws mask) (k0_pay41 (F := Ideal) z) ct (ix2 s j) = ((T.dy s j : ℝ) : EReal) := by
  pointwise [k0_pay52, dln h, h.lg]
  simp only [add_real, mul_real, sub_real, neg_real, sum_real, exp_real, erf_real, tanh_real, bits_eps, bits_1024, bits_128, bits_half, bits_neg_half, bits_one, root_half_real, density_real, zero_real, zero_add, div_1024, div_128]
  all_goals rfl

/-- The same, centred. -/
theorem dyc (s j : Fin 128) : k0_pay53 (F := Ideal) z lg (k0_pay32 (F := Ideal) u) (k0_pay37 (F := Ideal) ws mask) (k0_pay41 (F := Ideal) z) ct (ix2 s j) = ((T.dy s j - (∑ k : Fin 128, T.dy s k) / 128 : ℝ) : EReal) := by
  pointwise [k0_pay53, dy h]
  simp only [add_real, mul_real, sub_real, neg_real, sum_real, exp_real, erf_real, tanh_real, bits_eps, bits_1024, bits_128, bits_half, bits_neg_half, bits_one, root_half_real, density_real, zero_real, zero_add, div_1024, div_128]
  all_goals rfl

/-- Its mean against the normalised row. -/
theorem dyy (s : Fin 128) : k0_pay54 (F := Ideal) z lg (k0_pay32 (F := Ideal) u) (k0_pay36 (F := Ideal) v) (k0_pay37 (F := Ideal) ws mask) (k0_pay41 (F := Ideal) z) ct (ix2 s 0) = (((∑ k : Fin 128, T.dy s k * T.y s k) / 128 : ℝ) : EReal) := by
  pointwise [k0_pay54, dy h, y h]
  simp only [add_real, mul_real, sub_real, neg_real, sum_real, exp_real, erf_real, tanh_real, bits_eps, bits_1024, bits_128, bits_half, bits_neg_half, bits_one, root_half_real, density_real, zero_real, zero_add, div_1024, div_128]
  all_goals rfl

/-- The gradient of the gating input. -/
theorem du (s j : Fin 128) : k0_pay56 (F := Ideal) u (k0_pay31 (F := Ideal) u) (k0_pay46 (F := Ideal) z (k0_pay39 (F := Ideal) v b lg lb ws mask) (k0_pay41 (F := Ideal) z) ct) (ix2 s j) = ((T.du s j : ℝ) : EReal) := by
  pointwise [k0_pay56, dgu h, cdf_u h, h.u]
  simp only [add_real, mul_real, sub_real, neg_real, sum_real, exp_real, erf_real, tanh_real, bits_eps, bits_1024, bits_128, bits_half, bits_neg_half, bits_one, root_half_real, density_real, zero_real, zero_add, div_1024, div_128]
  all_goals exact congrArg Real.toEReal (by simp only [Tile.du, Layer.slope]; ring)

/-- The gradient of the gated input. -/
theorem dv (s j : Fin 128) : k0_pay57 (F := Ideal) v (k0_pay33 (F := Ideal) v) (k0_pay35 (F := Ideal) v) (k0_pay36 (F := Ideal) v) (k0_pay53 (F := Ideal) z lg (k0_pay32 (F := Ideal) u) (k0_pay37 (F := Ideal) ws mask) (k0_pay41 (F := Ideal) z) ct) (k0_pay54 (F := Ideal) z lg (k0_pay32 (F := Ideal) u) (k0_pay36 (F := Ideal) v) (k0_pay37 (F := Ideal) ws mask) (k0_pay41 (F := Ideal) z) ct) (ix2 s j) = ((T.dv s j : ℝ) : EReal) := by
  pointwise [k0_pay57, dyc h, dyy h, y h, rst h, cdf_v h, h.v]
  simp only [add_real, mul_real, sub_real, neg_real, sum_real, exp_real, erf_real, tanh_real, bits_eps, bits_1024, bits_128, bits_half, bits_neg_half, bits_one, root_half_real, density_real, zero_real, zero_add, div_1024, div_128]
  all_goals exact congrArg Real.toEReal (by simp only [Tile.dv, Tile.dgv, Layer.slope]; ring)

/-- The gradient of the outer gate, as it is stored. -/
theorem dzc (s j : Fin 128) : k0_pay58 (F := Ideal) (k0_pay44 (F := Ideal) z (k0_pay40 (F := Ideal) u v b lg lb ws mask) (k0_pay41 (F := Ideal) z) ct) (ix2 s j) = ((T.dz s j : ℝ) : EReal) := by
  pointwise [k0_pay58, dz h]

end Cert.KTile

end
-- ==== Proof.KernelPoint.lean ====
/-
  One grid point of the kernel: what its body leaves in each block, written by the eight chunks of groups it goes
  through. The values the run names are these, by unfolding.
-/
module

public import proofs.«01_k».proof.Proof.Gen.KernelIdeal.Frame
public import proofs.«01_k».proof.Proof.KernelTile

@[expose] public section

set_option maxRecDepth 16384

noncomputable section

open Idealize.ShloMosaic Idealize.ShloMosaic.TcCoe Cert.Layer Cert.Reals Cert.KernelIdeal Cert.KernelIdeal.Gen

namespace Cert.KPoint

open Cert.KTile (mask bcol)

/-- What the body loads for one chunk of one group. -/
structure Ld where
  u : FVec Ideal S128x128 .f32
  v : FVec Ideal S128x128 .f32
  z : FVec Ideal S128x128 .f32
  ct : FVec Ideal S128x128 .f32
  b : FVec Ideal S128x1 .f32
  lg : FVec Ideal S1x128 .f32
  lb : FVec Ideal S1x128 .f32
  ws : FVec Ideal S128x128 .f32

namespace Ld

variable (l : Ld)

def g : FVec Ideal S128x128 .f32 := k0_pay32 l.u
def h : FVec Ideal S128x128 .f32 := k0_pay41 l.z
def wm : FVec Ideal S128x128 .bf16 := k0_pay37 l.ws mask
def y : FVec Ideal S128x128 .f32 := k0_pay36 l.v
def sp : FVec Ideal S128x128 .f32 := k0_pay39 l.v l.b l.lg l.lb l.ws mask
def du : FVec Ideal S128x128 .bf16 := k0_pay56 l.u (k0_pay31 l.u) (k0_pay46 l.z l.sp l.h l.ct)
def dv : FVec Ideal S128x128 .bf16 :=
  k0_pay57 l.v (k0_pay33 l.v) (k0_pay35 l.v) l.y (k0_pay53 l.z l.lg l.g l.wm l.h l.ct) (k0_pay54 l.z l.lg l.g l.y l.wm l.h l.ct)
def dz : FVec Ideal S128x128 .bf16 := k0_pay58 (k0_pay44 l.z (k0_pay40 l.u l.v l.b l.lg l.lb l.ws mask) l.h l.ct)
def db : FVec Ideal S128x1 .f32 := k0_pay47 l.z l.g l.h l.ct
def dlb : FVec Ideal S1x128 .f32 := k0_pay50 l.z l.g l.wm l.h l.ct
def dlg : FVec Ideal S1x128 .f32 := k0_pay51 l.z l.g l.y l.wm l.h l.ct
def dws : FVec Ideal S128x128 .f32 := k0_pay55 mask (k0_pay49 l.z l.g (k0_pay38 l.v l.lg l.lb) l.h l.ct)

def d3 (q : Fin 3) : FVec Ideal S128x128 .bf16 := ![l.du, l.dv, l.dz] q

end Ld

theorem inb_tile (k : Fin 2) (g : Fin 4) (o m n : ℕ) (hm : 256 ≤ m) (hn : o + 512 ≤ n) :
    ∀ a, (![128 * (k : ℕ), o + 128 * (g : ℕ)] : Fin 2 → ℕ) a + (![128, 128] : Fin 2 → ℕ) a ≤ (![m, n] : Fin 2 → ℕ) a := by
  intro a
  fin_cases a
  · show 128 * (k : ℕ) + 128 ≤ m
    omega
  · show o + 128 * (g : ℕ) + 128 ≤ n
    omega

theorem inb_row (g : Fin 4) : ∀ a, (![0, 128 * (g : ℕ)] : Fin 2 → ℕ) a + (![1, 128] : Fin 2 → ℕ) a ≤ (![1, 512] : Fin 2 → ℕ) a := by
  intro a
  fin_cases a
  · show 0 + 1 ≤ 1
    omega
  · show 128 * (g : ℕ) + 128 ≤ 512
    omega

theorem inb_ws (g : Fin 4) :
    ∀ a, (![(g : ℕ), 0, 0] : Fin 3 → ℕ) a + (![1, 128, 128] : Fin 3 → ℕ) a ≤ (![4, 128, 128] : Fin 3 → ℕ) a := by
  intro a
  fin_cases a
  · show (g : ℕ) + 1 ≤ 4
    omega
  · show 0 + 128 ≤ 128
    omega
  · show 0 + 128 ≤ 128
    omega

/-- A chunk of one group's columns of one of the projection's three parts. -/
abbrev tileR (o : ℕ) (k : Fin 2) (g : Fin 4) (h : o + 512 ≤ 1536) : Rect S256x1536 :=
  Rect.unit (s := S256x1536) ![128 * (k : ℕ), o + 128 * (g : ℕ)] S128x128.size (inb_tile k g o 256 1536 (by omega) h)

/-- Group `g`'s columns of a row. -/
abbrev rowR (g : Fin 4) : Rect S1x512 := Rect.unit (s := S1x512) ![0, 128 * (g : ℕ)] S1x128.size (inb_row g)

/-- Group `g`'s spatial weights. -/
abbrev wsR (g : Fin 4) : Rect S4x128x128 := Rect.unit (s := S4x128x128) ![(g : ℕ), 0, 0] S1x128x128.size (inb_ws g)

/-- The loads of chunk `k` of the point's two, group `g`. -/
def piece (arg3 : Memref sig .tc .vmem S256x1536 .f32) (harg3 : arg3.IsWhole) (arg4 : Memref sig .tc .vmem S256x512 .f32) (harg4 : arg4.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x4 .f32) (harg12 : arg12.IsWhole) (x2 : Vec Ideal S256x1536 .f32) (x3 : Vec Ideal S256x512 .f32) (x8 : Vec Ideal S1x512 .f32) (x9 : Vec Ideal S1x512 .f32) (x10 : Vec Ideal S4x128x128 .f32) (x11 : Vec Ideal S128x4 .f32) (k : Fin 2) (g : Fin 4) : Ld where
  u := shapeCast S128x128 (View.readAt (Elt Ideal) arg3.view (tileR 0 k g (by omega)).toLoadRect (harg3.unread x2)) shapeCasts_S128x128_S128x128
  v := shapeCast S128x128 (View.readAt (Elt Ideal) arg3.view (tileR 512 k g (by omega)).toLoadRect (harg3.unread x2)) shapeCasts_S128x128_S128x128
  z := shapeCast S128x128 (View.readAt (Elt Ideal) arg3.view (tileR 1024 k g (by omega)).toLoadRect (harg3.unread x2)) shapeCasts_S128x128_S128x128
  ct := View.readAt (Elt Ideal) arg4.view (Rect.unit (s := S256x512) ![128 * (k : ℕ), 0 + 128 * (g : ℕ)] S128x128.size (inb_tile k g 0 256 512 (by omega) (by omega))).toLoadRect (harg4.unread x3)
  b := bcol (shapeCast S128x4 (View.readAt (Elt Ideal) arg12.view (Rect.unit ![0, 0] S128x4.size inb_S128x4_S128x4_0_0).toLoadRect (harg12.unread x11)) shapeCasts_S128x4_S128x4) (BitVec.ofNat 32 (g : ℕ))
  lg := View.readAt (Elt Ideal) arg9.view (rowR g).toLoadRect (harg9.unread x8)
  lb := View.readAt (Elt Ideal) arg10.view (rowR g).toLoadRect (harg10.unread x9)
  ws := shapeCast S128x128 (View.readAt (Elt Ideal) arg11.view (wsR g).toLoadRect (harg11.unread x10)) shapeCasts_S1x128x128_S128x128

/-- The gradients of the gating unit's three inputs, piece by piece, the last stored first. -/
def gates (d : Fin 2 → Fin 4 → Fin 3 → FVec Ideal S128x128 .bf16) : List (View.Piece (Elt Ideal) S256x1536 .bf16) :=
  [⟨tileR 1024 1 3 (by omega), d 1 3 2⟩,
    ⟨tileR 512 1 3 (by omega), d 1 3 1⟩,
    ⟨tileR 0 1 3 (by omega), d 1 3 0⟩,
    ⟨tileR 1024 1 2 (by omega), d 1 2 2⟩,
    ⟨tileR 512 1 2 (by omega), d 1 2 1⟩,
    ⟨tileR 0 1 2 (by omega), d 1 2 0⟩,
    ⟨tileR 1024 1 1 (by omega), d 1 1 2⟩,
    ⟨tileR 512 1 1 (by omega), d 1 1 1⟩,
    ⟨tileR 0 1 1 (by omega), d 1 1 0⟩,
    ⟨tileR 1024 1 0 (by omega), d 1 0 2⟩,
    ⟨tileR 512 1 0 (by omega), d 1 0 1⟩,
    ⟨tileR 0 1 0 (by omega), d 1 0 0⟩,
    ⟨tileR 1024 0 3 (by omega), d 0 3 2⟩,
    ⟨tileR 512 0 3 (by omega), d 0 3 1⟩,
    ⟨tileR 0 0 3 (by omega), d 0 3 0⟩,
    ⟨tileR 1024 0 2 (by omega), d 0 2 2⟩,
    ⟨tileR 512 0 2 (by omega), d 0 2 1⟩,
    ⟨tileR 0 0 2 (by omega), d 0 2 0⟩,
    ⟨tileR 1024 0 1 (by omega), d 0 1 2⟩,
    ⟨tileR 512 0 1 (by omega), d 0 1 1⟩,
    ⟨tileR 0 0 1 (by omega), d 0 1 0⟩,
    ⟨tileR 1024 0 0 (by omega), d 0 0 2⟩,
    ⟨tileR 512 0 0 (by omega), d 0 0 1⟩,
    ⟨tileR 0 0 0 (by omega), d 0 0 0⟩]

/-- A row accumulated group by group: the first chunk's four stores. -/
def rowB4 (l : Fin 4 → Vec Ideal S1x128 .f32) (c : Fin 2 → Fin 4 → FVec Ideal S1x128 .f32) : List (View.Piece (Elt Ideal) S1x512 .f32) :=
  [⟨rowR 3, k0_pay59 (F := Ideal) (c 0 3) (l 3)⟩,
    ⟨rowR 2, k0_pay59 (F := Ideal) (c 0 2) (l 2)⟩,
    ⟨rowR 1, k0_pay59 (F := Ideal) (c 0 1) (l 1)⟩,
    ⟨rowR 0, k0_pay59 (F := Ideal) (c 0 0) (l 0)⟩]

/-- A row accumulated group by group: the second chunk's stores, to group 0. -/
def rowB5 (w : Memref sig .tc .vmem S1x512 .f32) (l : Fin 4 → Vec Ideal S1x128 .f32) (c : Fin 2 → Fin 4 → FVec Ideal S1x128 .f32) : List (View.Piece (Elt Ideal) S1x512 .f32) :=
  ⟨rowR 0, k0_pay59 (F := Ideal) (c 1 0) (w.view.readCov (rowB4 l c) (rowR 0).toLoadRect)⟩ :: rowB4 l c

/-- A row accumulated group by group: the second chunk's stores, to group 1. -/
def rowB6 (w : Memref sig .tc .vmem S1x512 .f32) (l : Fin 4 → Vec Ideal S1x128 .f32) (c : Fin 2 → Fin 4 → FVec Ideal S1x128 .f32) : List (View.Piece (Elt Ideal) S1x512 .f32) :=
  ⟨rowR 1, k0_pay59 (F := Ideal) (c 1 1) (w.view.readCov (rowB5 w l c) (rowR 1).toLoadRect)⟩ :: rowB5 w l c

/-- A row accumulated group by group: the second chunk's stores, to group 2. -/
def rowB7 (w : Memref sig .tc .vmem S1x512 .f32) (l : Fin 4 → Vec Ideal S1x128 .f32) (c : Fin 2 → Fin 4 → FVec Ideal S1x128 .f32) : List (View.Piece (Elt Ideal) S1x512 .f32) :=
  ⟨rowR 2, k0_pay59 (F := Ideal) (c 1 2) (w.view.readCov (rowB6 w l c) (rowR 2).toLoadRect)⟩ :: rowB6 w l c

/-- A row accumulated group by group: the second chunk's stores, to group 3. -/
def rowB8 (w : Memref sig .tc .vmem S1x512 .f32) (l : Fin 4 → Vec Ideal S1x128 .f32) (c : Fin 2 → Fin 4 → FVec Ideal S1x128 .f32) : List (View.Piece (Elt Ideal) S1x512 .f32) :=
  ⟨rowR 3, k0_pay59 (F := Ideal) (c 1 3) (w.view.readCov (rowB7 w l c) (rowR 3).toLoadRect)⟩ :: rowB7 w l c

/-- A row accumulated group by group over given stores: the first 1 of the point's eight. -/
def rowA1 (w : Memref sig .tc .vmem S1x512 .f32) (l0 : List (View.Piece (Elt Ideal) S1x512 .f32)) (c : Fin 2 → Fin 4 → FVec Ideal S1x128 .f32) : List (View.Piece (Elt Ideal) S1x512 .f32) :=
  ⟨rowR 0, k0_pay59 (F := Ideal) (c 0 0) (w.view.readCov (l0) (rowR 0).toLoadRect)⟩ :: l0

/-- A row accumulated group by group over given stores: the first 2 of the point's eight. -/
def rowA2 (w : Memref sig .tc .vmem S1x512 .f32) (l0 : List (View.Piece (Elt Ideal) S1x512 .f32)) (c : Fin 2 → Fin 4 → FVec Ideal S1x128 .f32) : List (View.Piece (Elt Ideal) S1x512 .f32) :=
  ⟨rowR 1, k0_pay59 (F := Ideal) (c 0 1) (w.view.readCov (rowA1 w l0 c) (rowR 1).toLoadRect)⟩ :: rowA1 w l0 c

/-- A row accumulated group by group over given stores: the first 3 of the point's eight. -/
def rowA3 (w : Memref sig .tc .vmem S1x512 .f32) (l0 : List (View.Piece (Elt Ideal) S1x512 .f32)) (c : Fin 2 → Fin 4 → FVec Ideal S1x128 .f32) : List (View.Piece (Elt Ideal) S1x512 .f32) :=
  ⟨rowR 2, k0_pay59 (F := Ideal) (c 0 2) (w.view.readCov (rowA2 w l0 c) (rowR 2).toLoadRect)⟩ :: rowA2 w l0 c

/-- A row accumulated group by group over given stores: the first 4 of the point's eight. -/
def rowA4 (w : Memref sig .tc .vmem S1x512 .f32) (l0 : List (View.Piece (Elt Ideal) S1x512 .f32)) (c : Fin 2 → Fin 4 → FVec Ideal S1x128 .f32) : List (View.Piece (Elt Ideal) S1x512 .f32) :=
  ⟨rowR 3, k0_pay59 (F := Ideal) (c 0 3) (w.view.readCov (rowA3 w l0 c) (rowR 3).toLoadRect)⟩ :: rowA3 w l0 c

/-- A row accumulated group by group over given stores: the first 5 of the point's eight. -/
def rowA5 (w : Memref sig .tc .vmem S1x512 .f32) (l0 : List (View.Piece (Elt Ideal) S1x512 .f32)) (c : Fin 2 → Fin 4 → FVec Ideal S1x128 .f32) : List (View.Piece (Elt Ideal) S1x512 .f32) :=
  ⟨rowR 0, k0_pay59 (F := Ideal) (c 1 0) (w.view.readCov (rowA4 w l0 c) (rowR 0).toLoadRect)⟩ :: rowA4 w l0 c

/-- A row accumulated group by group over given stores: the first 6 of the point's eight. -/
def rowA6 (w : Memref sig .tc .vmem S1x512 .f32) (l0 : List (View.Piece (Elt Ideal) S1x512 .f32)) (c : Fin 2 → Fin 4 → FVec Ideal S1x128 .f32) : List (View.Piece (Elt Ideal) S1x512 .f32) :=
  ⟨rowR 1, k0_pay59 (F := Ideal) (c 1 1) (w.view.readCov (rowA5 w l0 c) (rowR 1).toLoadRect)⟩ :: rowA5 w l0 c

/-- A row accumulated group by group over given stores: the first 7 of the point's eight. -/
def rowA7 (w : Memref sig .tc .vmem S1x512 .f32) (l0 : List (View.Piece (Elt Ideal) S1x512 .f32)) (c : Fin 2 → Fin 4 → FVec Ideal S1x128 .f32) : List (View.Piece (Elt Ideal) S1x512 .f32) :=
  ⟨rowR 2, k0_pay59 (F := Ideal) (c 1 2) (w.view.readCov (rowA6 w l0 c) (rowR 2).toLoadRect)⟩ :: rowA6 w l0 c

/-- A row accumulated group by group over given stores: the first 8 of the point's eight. -/
def rowA8 (w : Memref sig .tc .vmem S1x512 .f32) (l0 : List (View.Piece (Elt Ideal) S1x512 .f32)) (c : Fin 2 → Fin 4 → FVec Ideal S1x128 .f32) : List (View.Piece (Elt Ideal) S1x512 .f32) :=
  ⟨rowR 3, k0_pay59 (F := Ideal) (c 1 3) (w.view.readCov (rowA7 w l0 c) (rowR 3).toLoadRect)⟩ :: rowA7 w l0 c

/-- The spatial weights accumulated group by group: the first chunk's four stores. -/
def cubeB4 (l : Fin 4 → Vec Ideal S1x128x128 .f32) (c : Fin 2 → Fin 4 → FVec Ideal S128x128 .f32) : List (View.Piece (Elt Ideal) S4x128x128 .f32) :=
  [⟨wsR 3, k0_pay61 (F := Ideal) (c 0 3) (l 3)⟩,
    ⟨wsR 2, k0_pay61 (F := Ideal) (c 0 2) (l 2)⟩,
    ⟨wsR 1, k0_pay61 (F := Ideal) (c 0 1) (l 1)⟩,
    ⟨wsR 0, k0_pay61 (F := Ideal) (c 0 0) (l 0)⟩]

/-- The spatial weights accumulated group by group: the second chunk's stores, to group 0. -/
def cubeB5 (w : Memref sig .tc .vmem S4x128x128 .f32) (l : Fin 4 → Vec Ideal S1x128x128 .f32) (c : Fin 2 → Fin 4 → FVec Ideal S128x128 .f32) : List (View.Piece (Elt Ideal) S4x128x128 .f32) :=
  ⟨wsR 0, k0_pay61 (F := Ideal) (c 1 0) (w.view.readCov (cubeB4 l c) (wsR 0).toLoadRect)⟩ :: cubeB4 l c

/-- The spatial weights accumulated group by group: the second chunk's stores, to group 1. -/
def cubeB6 (w : Memref sig .tc .vmem S4x128x128 .f32) (l : Fin 4 → Vec Ideal S1x128x128 .f32) (c : Fin 2 → Fin 4 → FVec Ideal S128x128 .f32) : List (View.Piece (Elt Ideal) S4x128x128 .f32) :=
  ⟨wsR 1, k0_pay61 (F := Ideal) (c 1 1) (w.view.readCov (cubeB5 w l c) (wsR 1).toLoadRect)⟩ :: cubeB5 w l c

/-- The spatial weights accumulated group by group: the second chunk's stores, to group 2. -/
def cubeB7 (w : Memref sig .tc .vmem S4x128x128 .f32) (l : Fin 4 → Vec Ideal S1x128x128 .f32) (c : Fin 2 → Fin 4 → FVec Ideal S128x128 .f32) : List (View.Piece (Elt Ideal) S4x128x128 .f32) :=
  ⟨wsR 2, k0_pay61 (F := Ideal) (c 1 2) (w.view.readCov (cubeB6 w l c) (wsR 2).toLoadRect)⟩ :: cubeB6 w l c

/-- The spatial weights accumulated group by group: the second chunk's stores, to group 3. -/
def cubeB8 (w : Memref sig .tc .vmem S4x128x128 .f32) (l : Fin 4 → Vec Ideal S1x128x128 .f32) (c : Fin 2 → Fin 4 → FVec Ideal S128x128 .f32) : List (View.Piece (Elt Ideal) S4x128x128 .f32) :=
  ⟨wsR 3, k0_pay61 (F := Ideal) (c 1 3) (w.view.readCov (cubeB7 w l c) (wsR 3).toLoadRect)⟩ :: cubeB7 w l c

/-- The spatial weights accumulated group by group over given stores: the first 1 of the point's eight. -/
def cubeA1 (w : Memref sig .tc .vmem S4x128x128 .f32) (l0 : List (View.Piece (Elt Ideal) S4x128x128 .f32)) (c : Fin 2 → Fin 4 → FVec Ideal S128x128 .f32) : List (View.Piece (Elt Ideal) S4x128x128 .f32) :=
  ⟨wsR 0, k0_pay61 (F := Ideal) (c 0 0) (w.view.readCov (l0) (wsR 0).toLoadRect)⟩ :: l0

/-- The spatial weights accumulated group by group over given stores: the first 2 of the point's eight. -/
def cubeA2 (w : Memref sig .tc .vmem S4x128x128 .f32) (l0 : List (View.Piece (Elt Ideal) S4x128x128 .f32)) (c : Fin 2 → Fin 4 → FVec Ideal S128x128 .f32) : List (View.Piece (Elt Ideal) S4x128x128 .f32) :=
  ⟨wsR 1, k0_pay61 (F := Ideal) (c 0 1) (w.view.readCov (cubeA1 w l0 c) (wsR 1).toLoadRect)⟩ :: cubeA1 w l0 c

/-- The spatial weights accumulated group by group over given stores: the first 3 of the point's eight. -/
def cubeA3 (w : Memref sig .tc .vmem S4x128x128 .f32) (l0 : List (View.Piece (Elt Ideal) S4x128x128 .f32)) (c : Fin 2 → Fin 4 → FVec Ideal S128x128 .f32) : List (View.Piece (Elt Ideal) S4x128x128 .f32) :=
  ⟨wsR 2, k0_pay61 (F := Ideal) (c 0 2) (w.view.readCov (cubeA2 w l0 c) (wsR 2).toLoadRect)⟩ :: cubeA2 w l0 c

/-- The spatial weights accumulated group by group over given stores: the first 4 of the point's eight. -/
def cubeA4 (w : Memref sig .tc .vmem S4x128x128 .f32) (l0 : List (View.Piece (Elt Ideal) S4x128x128 .f32)) (c : Fin 2 → Fin 4 → FVec Ideal S128x128 .f32) : List (View.Piece (Elt Ideal) S4x128x128 .f32) :=
  ⟨wsR 3, k0_pay61 (F := Ideal) (c 0 3) (w.view.readCov (cubeA3 w l0 c) (wsR 3).toLoadRect)⟩ :: cubeA3 w l0 c

/-- The spatial weights accumulated group by group over given stores: the first 5 of the point's eight. -/
def cubeA5 (w : Memref sig .tc .vmem S4x128x128 .f32) (l0 : List (View.Piece (Elt Ideal) S4x128x128 .f32)) (c : Fin 2 → Fin 4 → FVec Ideal S128x128 .f32) : List (View.Piece (Elt Ideal) S4x128x128 .f32) :=
  ⟨wsR 0, k0_pay61 (F := Ideal) (c 1 0) (w.view.readCov (cubeA4 w l0 c) (wsR 0).toLoadRect)⟩ :: cubeA4 w l0 c

/-- The spatial weights accumulated group by group over given stores: the first 6 of the point's eight. -/
def cubeA6 (w : Memref sig .tc .vmem S4x128x128 .f32) (l0 : List (View.Piece (Elt Ideal) S4x128x128 .f32)) (c : Fin 2 → Fin 4 → FVec Ideal S128x128 .f32) : List (View.Piece (Elt Ideal) S4x128x128 .f32) :=
  ⟨wsR 1, k0_pay61 (F := Ideal) (c 1 1) (w.view.readCov (cubeA5 w l0 c) (wsR 1).toLoadRect)⟩ :: cubeA5 w l0 c

/-- The spatial weights accumulated group by group over given stores: the first 7 of the point's eight. -/
def cubeA7 (w : Memref sig .tc .vmem S4x128x128 .f32) (l0 : List (View.Piece (Elt Ideal) S4x128x128 .f32)) (c : Fin 2 → Fin 4 → FVec Ideal S128x128 .f32) : List (View.Piece (Elt Ideal) S4x128x128 .f32) :=
  ⟨wsR 2, k0_pay61 (F := Ideal) (c 1 2) (w.view.readCov (cubeA6 w l0 c) (wsR 2).toLoadRect)⟩ :: cubeA6 w l0 c

/-- The spatial weights accumulated group by group over given stores: the first 8 of the point's eight. -/
def cubeA8 (w : Memref sig .tc .vmem S4x128x128 .f32) (l0 : List (View.Piece (Elt Ideal) S4x128x128 .f32)) (c : Fin 2 → Fin 4 → FVec Ideal S128x128 .f32) : List (View.Piece (Elt Ideal) S4x128x128 .f32) :=
  ⟨wsR 3, k0_pay61 (F := Ideal) (c 1 3) (w.view.readCov (cubeA7 w l0 c) (wsR 3).toLoadRect)⟩ :: cubeA7 w l0 c

/-- A column added to a group's column of the spatial bias. -/
def colAdd (c : FVec Ideal S128x1 .f32) (l : Vec Ideal S128x4 .f32) (g : BitVec 32) : FVec Ideal S128x4 .f32 :=
  addf (shapeCast S128x4 l shapeCasts_S128x4_S128x4) (mulf (broadcastTo S128x4 c broadcasts_S128x1_S128x4) (broadcastTo S128x4 (Cert.KTile.onehot g) broadcasts_S1x4_S128x4))

/-- The whole block of the spatial bias. -/
abbrev biasR : Rect S128x4 := Rect.unit ![0, 0] S128x4.size inb_S128x4_S128x4_0_0

/-- The spatial bias after the first chunk of the first group. -/
def bias1 (w : Memref sig .tc .vmem S128x4 .f32) (l0 : Vec Ideal S128x4 .f32) (L0 : List (View.Piece (Elt Ideal) S128x4 .f32)) (c : Fin 2 → Fin 4 → FVec Ideal S128x1 .f32) : List (View.Piece (Elt Ideal) S128x4 .f32) :=
  ⟨biasR, colAdd (c 0 0) l0 0#32⟩ :: L0

/-- The spatial bias after 2 of the point's eight. -/
def bias2 (w : Memref sig .tc .vmem S128x4 .f32) (l0 : Vec Ideal S128x4 .f32) (L0 : List (View.Piece (Elt Ideal) S128x4 .f32)) (c : Fin 2 → Fin 4 → FVec Ideal S128x1 .f32) : List (View.Piece (Elt Ideal) S128x4 .f32) :=
  ⟨biasR, colAdd (c 0 1) (w.view.readCov (bias1 w l0 L0 c) biasR.toLoadRect) 1#32⟩ :: bias1 w l0 L0 c

/-- The spatial bias after 3 of the point's eight. -/
def bias3 (w : Memref sig .tc .vmem S128x4 .f32) (l0 : Vec Ideal S128x4 .f32) (L0 : List (View.Piece (Elt Ideal) S128x4 .f32)) (c : Fin 2 → Fin 4 → FVec Ideal S128x1 .f32) : List (View.Piece (Elt Ideal) S128x4 .f32) :=
  ⟨biasR, colAdd (c 0 2) (w.view.readCov (bias2 w l0 L0 c) biasR.toLoadRect) 2#32⟩ :: bias2 w l0 L0 c

/-- The spatial bias after 4 of the point's eight. -/
def bias4 (w : Memref sig .tc .vmem S128x4 .f32) (l0 : Vec Ideal S128x4 .f32) (L0 : List (View.Piece (Elt Ideal) S128x4 .f32)) (c : Fin 2 → Fin 4 → FVec Ideal S128x1 .f32) : List (View.Piece (Elt Ideal) S128x4 .f32) :=
  ⟨biasR, colAdd (c 0 3) (w.view.readCov (bias3 w l0 L0 c) biasR.toLoadRect) 3#32⟩ :: bias3 w l0 L0 c

/-- The spatial bias after 5 of the point's eight. -/
def bias5 (w : Memref sig .tc .vmem S128x4 .f32) (l0 : Vec Ideal S128x4 .f32) (L0 : List (View.Piece (Elt Ideal) S128x4 .f32)) (c : Fin 2 → Fin 4 → FVec Ideal S128x1 .f32) : List (View.Piece (Elt Ideal) S128x4 .f32) :=
  ⟨biasR, colAdd (c 1 0) (w.view.readCov (bias4 w l0 L0 c) biasR.toLoadRect) 0#32⟩ :: bias4 w l0 L0 c

/-- The spatial bias after 6 of the point's eight. -/
def bias6 (w : Memref sig .tc .vmem S128x4 .f32) (l0 : Vec Ideal S128x4 .f32) (L0 : List (View.Piece (Elt Ideal) S128x4 .f32)) (c : Fin 2 → Fin 4 → FVec Ideal S128x1 .f32) : List (View.Piece (Elt Ideal) S128x4 .f32) :=
  ⟨biasR, colAdd (c 1 1) (w.view.readCov (bias5 w l0 L0 c) biasR.toLoadRect) 1#32⟩ :: bias5 w l0 L0 c

/-- The spatial bias after 7 of the point's eight. -/
def bias7 (w : Memref sig .tc .vmem S128x4 .f32) (l0 : Vec Ideal S128x4 .f32) (L0 : List (View.Piece (Elt Ideal) S128x4 .f32)) (c : Fin 2 → Fin 4 → FVec Ideal S128x1 .f32) : List (View.Piece (Elt Ideal) S128x4 .f32) :=
  ⟨biasR, colAdd (c 1 2) (w.view.readCov (bias6 w l0 L0 c) biasR.toLoadRect) 2#32⟩ :: bias6 w l0 L0 c

/-- The spatial bias after 8 of the point's eight. -/
def bias8 (w : Memref sig .tc .vmem S128x4 .f32) (l0 : Vec Ideal S128x4 .f32) (L0 : List (View.Piece (Elt Ideal) S128x4 .f32)) (c : Fin 2 → Fin 4 → FVec Ideal S128x1 .f32) : List (View.Piece (Elt Ideal) S128x4 .f32) :=
  ⟨biasR, colAdd (c 1 3) (w.view.readCov (bias7 w l0 L0 c) biasR.toLoadRect) 3#32⟩ :: bias7 w l0 L0 c

end Cert.KPoint

end
-- ==== Proof.KernelRead.lean ====
/-
  What the body loads and stores at one grid point, element by element, when its blocks hold the arguments' numbers.
-/
module

public import proofs.«01_k».proof.Proof.KernelPoint

@[expose] public section

set_option maxRecDepth 16384

noncomputable section

open Idealize.ShloMosaic Idealize.ShloMosaic.TcCoe Cert.Layer Cert.Reals Cert.KernelIdeal Cert.KernelIdeal.Gen

namespace Cert.KPoint

/-- A load of a whole memref's contents at a rectangle. -/
theorem read_at {S : Shape} {e : EltTy} {sp : Space} (w : Memref sig .tc sp S e) (hw : w.IsWhole) (x : S.Idx → Elt Ideal e) (R : Rect S)
    (j : R.shape.Idx) : View.readAt (Elt Ideal) w.view R.toLoadRect (hw.unread x) j = x (R.idx j) := by
  show View.read (Elt Ideal) w.view (hw.unread x) (R.idx j) = _
  rw [hw.read_unread]

theorem rect2 {m n a b p q : ℕ} (inb : ∀ d, (![a, b] : Fin 2 → ℕ) d + (![p, q] : Fin 2 → ℕ) d ≤ (![m, n] : Fin 2 → ℕ) d) (i : Fin p) (j : Fin q) :
    (Rect.unit (s := ⟨2, ![m, n]⟩) ![a, b] ![p, q] inb).idx (ix2 i j)
      = ix2 (⟨a + i, lt_of_lt_of_le (Nat.add_lt_add_left i.2 a) (inb 0)⟩ : Fin m) (⟨b + j, lt_of_lt_of_le (Nat.add_lt_add_left j.2 b) (inb 1)⟩ : Fin n) := by
  funext d
  fin_cases d
  · exact Fin.ext (by show a + 1 * (i : ℕ) = a + i; rw [one_mul])
  · exact Fin.ext (by show b + 1 * (j : ℕ) = b + j; rw [one_mul])

theorem rect3 {m n o a b c p q r : ℕ}
    (inb : ∀ d, (![a, b, c] : Fin 3 → ℕ) d + (![p, q, r] : Fin 3 → ℕ) d ≤ (![m, n, o] : Fin 3 → ℕ) d) (i : Fin p) (j : Fin q) (k : Fin r) :
    (Rect.unit (s := ⟨3, ![m, n, o]⟩) ![a, b, c] ![p, q, r] inb).idx (ix3 i j k)
      = ix3 (⟨a + i, lt_of_lt_of_le (Nat.add_lt_add_left i.2 a) (inb 0)⟩ : Fin m) (⟨b + j, lt_of_lt_of_le (Nat.add_lt_add_left j.2 b) (inb 1)⟩ : Fin n)
        (⟨c + k, lt_of_lt_of_le (Nat.add_lt_add_left k.2 c) (inb 2)⟩ : Fin o) := by
  funext d
  fin_cases d
  · exact Fin.ext (by show a + 1 * (i : ℕ) = a + i; rw [one_mul])
  · exact Fin.ext (by show b + 1 * (j : ℕ) = b + j; rw [one_mul])
  · exact Fin.ext (by show c + 1 * (k : ℕ) = c + k; rw [one_mul])

/-- The blocks of grid point `t` hold the arguments' numbers. -/
structure Holds (A : Args) (t : ℕ) (x0 x1 : FVec Ideal S256x1024 .f32) (x2 : FVec Ideal S256x1536 .f32) (x3 : FVec Ideal S256x512 .f32)
    (x4 : FVec Ideal S256x1536 .bf16) (x5 : FVec Ideal S256x512 .bf16) (x6 : FVec Ideal S256x128 .bf16) (x7 : FVec Ideal S1x1024 .f32)
    (x8 x9 : FVec Ideal S1x512 .f32) (x10 : FVec Ideal S4x128x128 .f32) (x11 : FVec Ideal S128x4 .f32)
    (x12 : FVec Ideal S3592x1024 .bf16) (x13 : FVec Ideal S128x1024 .bf16) : Prop where
  x : ∀ (r : Fin 256) (k : Fin 1024), x0 (ix2 r k) = ((A.x (256 * t + r) k : ℝ) : EReal)
  dh : ∀ (r : Fin 256) (k : Fin 1024), x1 (ix2 r k) = ((A.dh (256 * t + r) k : ℝ) : EReal)
  proj : ∀ (r : Fin 256) (k : Fin 1536), x2 (ix2 r k) = ((A.proj (256 * t + r) k : ℝ) : EReal)
  da : ∀ (r : Fin 256) (k : Fin 512), x3 (ix2 r k) = ((A.da (256 * t + r) k : ℝ) : EReal)
  dq : ∀ (r : Fin 256) (k : Fin 1536), x4 (ix2 r k) = ((A.dq (256 * t + r) k : ℝ) : EReal)
  dz : ∀ (r : Fin 256) (k : Fin 512), x5 (ix2 r k) = ((A.dz (256 * t + r) k : ℝ) : EReal)
  dl : ∀ (r : Fin 256) (k : Fin 128), x6 (ix2 r k) = ((A.dl (256 * t + r) k : ℝ) : EReal)
  g : ∀ (z : Fin 1) (k : Fin 1024), x7 (ix2 z k) = ((A.g k : ℝ) : EReal)
  lg : ∀ (z : Fin 1) (k : Fin 512), x8 (ix2 z k) = ((A.lg k : ℝ) : EReal)
  lb : ∀ (z : Fin 1) (k : Fin 512), x9 (ix2 z k) = ((A.lb k : ℝ) : EReal)
  ws : ∀ (g : Fin 4) (s j : Fin 128), x10 (ix3 g s j) = ((A.ws g s j : ℝ) : EReal)
  b : ∀ (s : Fin 128) (g : Fin 4), x11 (ix2 s g) = ((A.b g s : ℝ) : EReal)
  wt : ∀ (c : Fin 3592) (k : Fin 1024), x12 (ix2 c k) = ((A.w k c : ℝ) : EReal)
  wg : ∀ (c : Fin 128) (k : Fin 1024), x13 (ix2 c k) = (((if (c : ℕ) < 8 then A.w k (3584 + c) else 0 : ℝ)) : EReal)

/-- The one column of the bias that a group's one-hot row picks. -/
theorem bcol_real (bt : FVec Ideal S128x4 .f32) (B : Fin 128 → Fin 4 → ℝ) (hb : ∀ s g, bt (ix2 s g) = ((B s g : ℝ) : EReal)) (g : Fin 4)
    (s : Fin 128) : KTile.bcol bt (BitVec.ofNat 32 g) (ix2 s 0) = ((B s g : ℝ) : EReal) := by
  unfold KTile.bcol
  pointwise [KTile.onehot_real, hb]
  simp only [add_real, mul_real, sub_real, neg_real, sum_real, zero_real, zero_add]
  refine congrArg Real.toEReal ?_
  rw [Finset.sum_eq_single g (fun j _ hj => by rw [if_neg hj, mul_zero]) (fun hg => absurd (Finset.mem_univ g) hg), if_pos rfl, mul_one]

theorem slab_cast (f : FVec Ideal S1x128x128 .f32) (s j : Fin 128) :
    shapeCast S128x128 f shapeCasts_S1x128x128_S128x128 (ix2 s j) = f (ix3 0 s j) := by
  pointwise []

variable {A : Args} {t : ℕ} (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1536 .f32) (harg3 : arg3.IsWhole) (arg4 : Memref sig .tc .vmem S256x512 .f32) (harg4 : arg4.IsWhole) (arg5 : Memref sig .tc .vmem S256x1536 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x4 .f32) (harg12 : arg12.IsWhole) (arg13 : Memref sig .tc .vmem S3592x1024 .bf16) (harg13 : arg13.IsWhole) (arg14 : Memref sig .tc .vmem S128x1024 .bf16) (harg14 : arg14.IsWhole) (arg15 : Memref sig .tc .vmem S256x1024 .f32) (harg15 : arg15.IsWhole) (arg17 : Memref sig .tc .vmem S1x1024 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x128x128 .f32) (harg20 : arg20.IsWhole) (arg21 : Memref sig .tc .vmem S128x4 .f32) (harg21 : arg21.IsWhole) (arg22 : Memref sig .tc .vmem S3712x1024 .f32) (harg22 : arg22.IsWhole) (arg23 : Memref sig .tc .vmem S449x1024 .f32) (harg23 : arg23.IsWhole) (arg24 : Memref sig .tc .vmem S256x1536 .bf16) (harg24 : arg24.IsWhole) (x0 : Vec Ideal S256x1024 .f32) (x1 : Vec Ideal S256x1024 .f32) (x2 : Vec Ideal S256x1536 .f32) (x3 : Vec Ideal S256x512 .f32) (x4 : Vec Ideal S256x1536 .bf16) (x5 : Vec Ideal S256x512 .bf16) (x6 : Vec Ideal S256x128 .bf16) (x7 : Vec Ideal S1x1024 .f32) (x8 : Vec Ideal S1x512 .f32) (x9 : Vec Ideal S1x512 .f32) (x10 : Vec Ideal S4x128x128 .f32) (x11 : Vec Ideal S128x4 .f32) (x12 : Vec Ideal S3592x1024 .bf16) (x13 : Vec Ideal S128x1024 .bf16) (xo15 : Vec Ideal S1x1024 .f32) (xo16 : Vec Ideal S1x512 .f32) (xo17 : Vec Ideal S1x512 .f32) (xo18 : Vec Ideal S4x128x128 .f32) (xo19 : Vec Ideal S128x4 .f32) (xs0 : Vec Ideal S3712x1024 .f32)
  (h : Holds A t x0 x1 x2 x3 x4 x5 x6 x7 x8 x9 x10 x11 x12 x13)
include h

/-- The loads of a chunk of a group are the chunk's numbers. -/
theorem piece_holds (k : Fin 2) (g : Fin 4) :
    KTile.Holds (A.tile (2 * t + k) g) (piece arg3 harg3 arg4 harg4 arg9 harg9 arg10 harg10 arg11 harg11 arg12 harg12 x2 x3 x8 x9 x10 x11 k g).u (piece arg3 harg3 arg4 harg4 arg9 harg9 arg10 harg10 arg11 harg11 arg12 harg12 x2 x3 x8 x9 x10 x11 k g).v (piece arg3 harg3 arg4 harg4 arg9 harg9 arg10 harg10 arg11 harg11 arg12 harg12 x2 x3 x8 x9 x10 x11 k g).z (piece arg3 harg3 arg4 harg4 arg9 harg9 arg10 harg10 arg11 harg11 arg12 harg12 x2 x3 x8 x9 x10 x11 k g).ct (piece arg3 harg3 arg4 harg4 arg9 harg9 arg10 harg10 arg11 harg11 arg12 harg12 x2 x3 x8 x9 x10 x11 k g).b (piece arg3 harg3 arg4 harg4 arg9 harg9 arg10 harg10 arg11 harg11 arg12 harg12 x2 x3 x8 x9 x10 x11 k g).lg (piece arg3 harg3 arg4 harg4 arg9 harg9 arg10 harg10 arg11 harg11 arg12 harg12 x2 x3 x8 x9 x10 x11 k g).lb (piece arg3 harg3 arg4 harg4 arg9 harg9 arg10 harg10 arg11 harg11 arg12 harg12 x2 x3 x8 x9 x10 x11 k g).ws where
  u s j := by
    unfold piece
    pointwise []
    rw [read_at, rect2, h.proj]
    simp only [Args.tile]
    exact congrArg Real.toEReal (congrArg₂ A.proj (by omega) (by omega))
  v s j := by
    unfold piece
    pointwise []
    rw [read_at, rect2, h.proj]
    simp only [Args.tile]
    exact congrArg Real.toEReal (congrArg₂ A.proj (by omega) (by omega))
  z s j := by
    unfold piece
    pointwise []
    rw [read_at, rect2, h.proj]
    simp only [Args.tile]
    exact congrArg Real.toEReal (congrArg₂ A.proj (by omega) (by omega))
  ct s j := by
    unfold piece
    show View.readAt _ _ _ _ _ = _
    rw [read_at, rect2, h.da]
    simp only [Args.tile]
    exact congrArg Real.toEReal (congrArg₂ A.da (by omega) (by omega))
  b s := by
    unfold piece
    refine bcol_real _ (fun s g => A.b g s) (fun s' g' => ?_) g s
    pointwise []
    rw [read_at, rect2, h.b]
    refine congrArg Real.toEReal (congrArg₂ A.b ?_ ?_) <;> simp
  lg j := by
    unfold piece
    show View.readAt _ _ _ _ _ = _
    rw [read_at, rect2, h.lg]
    rfl
  lb j := by
    unfold piece
    show View.readAt _ _ _ _ _ = _
    rw [read_at, rect2, h.lb]
    rfl
  ws s j := by
    show shapeCast S128x128 (View.readAt (Elt Ideal) arg11.view (wsR g).toLoadRect (harg11.unread x10)) shapeCasts_S1x128x128_S128x128
      (ix2 s j) = _
    rw [slab_cast, read_at, rect3, h.ws]
    simp only [Args.tile]
    refine congrArg Real.toEReal ?_
    show A.ws ((g : ℕ) + 0) (0 + (s : ℕ)) (0 + (j : ℕ)) = _
    rw [Nat.add_zero, Nat.zero_add, Nat.zero_add]

end Cert.KPoint

end
-- ==== Proof.KernelHost.lean ====
/-
  The operands the host prepares, in the arguments' numbers.
-/
module

public import proofs.«01_k».proof.Proof.KernelRead
public import proofs.«01_k».proof.Proof.RefRows
public import Idealize.ShloMosaic.Lib.Pipeline.ValueKit

@[expose] public section

set_option maxRecDepth 16384

noncomputable section

open Idealize.ShloMosaic Idealize.ShloMosaic.TcCoe Cert.Layer Cert.Reals Cert.KernelIdeal Cert.KernelIdeal.Gen
open Idealize.ShloMosaic.Pipeline (Dat)

namespace Cert.KHost

variable {A : Args} {m : (ℓ : Loc nD τ sig) → Buf (Elt Ideal) ℓ} {c : Dev nD}
  (h : Agrees A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))

theorem seq_row (r : Fin 8192) : 4096 * (((⟨r / 4096, by omega⟩ : Fin 2)) : ℕ) + ((⟨r % 4096, by omega⟩ : Fin 4096) : ℕ) = r :=
  Nat.div_add_mod _ _

/-- The input windows' blocks. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] ∧ win0_10.index t = ![0, 0, 0]
    ∧ win0_11.index t = ![0, 0] ∧ win0_12.index t = ![0, 0] ∧ win0_13.index t = ![0, 0] :=
  (by decide +kernel : ∀ t : Fin grid0.N, _)

include h

/-- The input as rows. -/
theorem rows (r : Fin 8192) (k : Fin 1024) : (V m c main_v8 : FVec Ideal S8192x1024 .f32) (ix2 r k) = ((A.x r k : ℝ) : EReal) := by
  simp only [V, hostOps0, hostOps0_1, hostOps0_2, List.flatten_cons, List.flatten_nil, List.append_nil, List.cons_append, List.nil_append]
  entry_read
  refine Eq.trans ?_ ((h.x ⟨r / 4096, by omega⟩ ⟨r % 4096, by omega⟩ k).trans ?_)
  · pointwise []
  · rw [seq_row]

/-- The projection weight, transposed. -/
theorem weight (j : Fin 3592) (k : Fin 1024) : (V m c main_v2 : FVec Ideal S3592x1024 .bf16) (ix2 j k) = ((A.w k j : ℝ) : EReal) := by
  simp only [V, hostOps0, hostOps0_1, hostOps0_2, List.flatten_cons, List.flatten_nil, List.append_nil, List.cons_append, List.nil_append]
  entry_read
  refine Eq.trans ?_ (h.w k j)
  pointwise []

/-- The spatial weights. -/
theorem spatial (g : Fin 4) (s t : Fin 128) : (V m c main_v5 : FVec Ideal S4x128x128 .bf16) (ix3 g s t) = ((A.ws g s t : ℝ) : EReal) := by
  simp only [V, hostOps0, hostOps0_1, hostOps0_2, List.flatten_cons, List.flatten_nil, List.append_nil, List.cons_append, List.nil_append]
  entry_read
  refine Eq.trans ?_ (h.ws g s t)
  pointwise []

/-- The spatial biases, transposed. -/
theorem bias (s : Fin 128) (g : Fin 4) : (V m c main_v7 : FVec Ideal S128x4 .f32) (ix2 s g) = ((A.b g s : ℝ) : EReal) := by
  simp only [V, hostOps0, hostOps0_1, hostOps0_2, List.flatten_cons, List.flatten_nil, List.append_nil, List.cons_append, List.nil_append]
  entry_read
  refine Eq.trans ?_ (h.b g s)
  pointwise []

/-- The last eight columns of the weight, transposed, over zeros. -/
theorem gates (j : Fin 128) (k : Fin 1024) : (V m c main_v4 : FVec Ideal S128x1024 .bf16) (ix2 j k) = ((if (j : ℕ) < 8 then A.w k (3584 + j) else 0 : ℝ) : EReal) := by
  simp only [V, hostOps0, hostOps0_1, hostOps0_2, List.flatten_cons, List.flatten_nil, List.append_nil, List.cons_append, List.nil_append]
  entry_read
  change pad S128x1024 ![0, 0] ![120, 0] ![0, 0]
        (extractStridedSlice S8x1024 ![3584, 0]
            (truncf (F := Ideal) FTy.bf16
              (shapeCast S3592x1024
                  (transpose (α := Elt Ideal .f32) S3592x1x1024 [2, 0, 1] (m (c, Proc.tc.devRef main_arg2))
                    transposes_S1x1024x3592_S3592x1x1024_2_0_1)
                  shapeCasts_S3592x1x1024_S3592x1024)
              bitsLt_bf16_f32)
            slices_S3592x1024_S8x1024_3584_0)
        (sitofp (F := Ideal) FTy.bf16 (constantI S_ 32 0#32)) pads_S8x1024_S128x1024_01200_000 h_S_ (ix2 j k) = _
  pointwise [h.w]
  by_cases hj : (j : ℕ) < 8
  · rw [dif_pos hj, if_pos hj]
  · rw [dif_neg hj, if_neg hj]
    show (((0#32).toInt : ℝ) : EReal) = ((0 : ℝ) : EReal)
    simp

/-- The projection. -/
theorem projected (r : Fin 8192) (j : Fin 1536) : (V m c main_v25 : FVec Ideal S8192x1536 .f32) (ix2 r j) = ((A.proj r j : ℝ) : EReal) := by
  simp only [V, hostOps0, hostOps0_1, hostOps0_2, List.flatten_cons, List.flatten_nil, List.append_nil, List.cons_append, List.nil_append]
  entry_read
  pointwise [h.w, h.g]
  have hx : ∀ x : Fin 1024, (m (c, Proc.tc.devRef main_arg0) : FVec Ideal S2x4096x1024 .f32) (ix3 ⟨r / 4096, by omega⟩ ⟨r % 4096, by omega⟩ x) = ((A.x r x : ℝ) : EReal) :=
    fun x => (h.x ⟨r / 4096, by omega⟩ ⟨r % 4096, by omega⟩ x).trans (by rw [seq_row])
  simp only [hx, add_real, mul_real, sum_real, bits_eps, bits_1024, div_1024]
  rw [show (∑ k : Fin 1024, A.x r k * A.x r k) / 1024 + eps = A.ms r from rfl, rsqrt_real _ (A.ms_pos _)]
  simp only [add_real, mul_real, sum_real]
  rfl

theorem holds_x (t : Fin cfg0.N) (r : Fin 256) (k : Fin 1024) : (iblk m c 0 t : FVec Ideal S256x1024 .f32) (ix2 r k) = ((A.x (256 * t + r) k : ℝ) : EReal) := by
  have hN : grid0.N = 32 := N_0
  have ht : t.val < grid0.N := t.isLt
  refine Eq.trans ?_ (rows h ⟨256 * t.val + r, by omega⟩ k)
  blk_ext [iblk, idx t]

theorem holds_dh (t : Fin cfg0.N) (r : Fin 256) (k : Fin 1024) : (iblk m c 1 t : FVec Ideal S256x1024 .f32) (ix2 r k) = ((A.dh (256 * t + r) k : ℝ) : EReal) := by
  have hN : grid0.N = 32 := N_0
  have ht : t.val < grid0.N := t.isLt
  refine Eq.trans ?_ (h.dh ⟨256 * t.val + r, by omega⟩ k)
  blk_ext [iblk, idx t]

theorem holds_proj (t : Fin cfg0.N) (r : Fin 256) (k : Fin 1536) : (iblk m c 2 t : FVec Ideal S256x1536 .f32) (ix2 r k) = ((A.proj (256 * t + r) k : ℝ) : EReal) := by
  have hN : grid0.N = 32 := N_0
  have ht : t.val < grid0.N := t.isLt
  refine Eq.trans ?_ (projected h ⟨256 * t.val + r, by omega⟩ k)
  blk_ext [iblk, idx t]

theorem holds_da (t : Fin cfg0.N) (r : Fin 256) (k : Fin 512) : (iblk m c 3 t : FVec Ideal S256x512 .f32) (ix2 r k) = ((A.da (256 * t + r) k : ℝ) : EReal) := by
  have hN : grid0.N = 32 := N_0
  have ht : t.val < grid0.N := t.isLt
  refine Eq.trans ?_ (h.da ⟨256 * t.val + r, by omega⟩ k)
  blk_ext [iblk, idx t]

theorem holds_dq (t : Fin cfg0.N) (r : Fin 256) (k : Fin 1536) : (iblk m c 4 t : FVec Ideal S256x1536 .bf16) (ix2 r k) = ((A.dq (256 * t + r) k : ℝ) : EReal) := by
  have hN : grid0.N = 32 := N_0
  have ht : t.val < grid0.N := t.isLt
  refine Eq.trans ?_ (h.dq ⟨256 * t.val + r, by omega⟩ k)
  blk_ext [iblk, idx t]

theorem holds_dz (t : Fin cfg0.N) (r : Fin 256) (k : Fin 512) : (iblk m c 5 t : FVec Ideal S256x512 .bf16) (ix2 r k) = ((A.dz (256 * t + r) k : ℝ) : EReal) := by
  have hN : grid0.N = 32 := N_0
  have ht : t.val < grid0.N := t.isLt
  refine Eq.trans ?_ (h.dz ⟨256 * t.val + r, by omega⟩ k)
  blk_ext [iblk, idx t]

theorem holds_dl (t : Fin cfg0.N) (r : Fin 256) (k : Fin 128) : (iblk m c 6 t : FVec Ideal S256x128 .bf16) (ix2 r k) = ((A.dl (256 * t + r) k : ℝ) : EReal) := by
  have hN : grid0.N = 32 := N_0
  have ht : t.val < grid0.N := t.isLt
  refine Eq.trans ?_ (h.dl ⟨256 * t.val + r, by omega⟩ k)
  blk_ext [iblk, idx t]

theorem holds_g (t : Fin cfg0.N) (z : Fin 1) (k : Fin 1024) : (iblk m c 7 t : FVec Ideal S1x1024 .f32) (ix2 z k) = ((A.g k : ℝ) : EReal) := by
  have hN : grid0.N = 32 := N_0
  have ht : t.val < grid0.N := t.isLt
  have hz : z = 0 := Subsingleton.elim _ _
  subst hz
  refine Eq.trans ?_ (h.g k)
  blk_ext [iblk, idx t]

theorem holds_lg (t : Fin cfg0.N) (z : Fin 1) (k : Fin 512) : (iblk m c 8 t : FVec Ideal S1x512 .f32) (ix2 z k) = ((A.lg k : ℝ) : EReal) := by
  have hN : grid0.N = 32 := N_0
  have ht : t.val < grid0.N := t.isLt
  have hz : z = 0 := Subsingleton.elim _ _
  subst hz
  refine Eq.trans ?_ (h.lg k)
  blk_ext [iblk, idx t]

theorem holds_lb (t : Fin cfg0.N) (z : Fin 1) (k : Fin 512) : (iblk m c 9 t : FVec Ideal S1x512 .f32) (ix2 z k) = ((A.lb k : ℝ) : EReal) := by
  have hN : grid0.N = 32 := N_0
  have ht : t.val < grid0.N := t.isLt
  have hz : z = 0 := Subsingleton.elim _ _
  subst hz
  refine Eq.trans ?_ (h.lb k)
  blk_ext [iblk, idx t]

theorem holds_ws (t : Fin cfg0.N) (g : Fin 4) (s : Fin 128) (j : Fin 128) : (iblk m c 10 t : FVec Ideal S4x128x128 .f32) (ix3 g s j) = ((A.ws g s j : ℝ) : EReal) := by
  have hN : grid0.N = 32 := N_0
  have ht : t.val < grid0.N := t.isLt
  refine Eq.trans ?_ (spatial h g s j)
  blk_ext [iblk, idx t]

theorem holds_b (t : Fin cfg0.N) (s : Fin 128) (g : Fin 4) : (iblk m c 11 t : FVec Ideal S128x4 .f32) (ix2 s g) = ((A.b g s : ℝ) : EReal) := by
  have hN : grid0.N = 32 := N_0
  have ht : t.val < grid0.N := t.isLt
  refine Eq.trans ?_ (bias h s g)
  blk_ext [iblk, idx t]

theorem holds_wt (t : Fin cfg0.N) (j : Fin 3592) (k : Fin 1024) : (iblk m c 12 t : FVec Ideal S3592x1024 .bf16) (ix2 j k) = ((A.w k j : ℝ) : EReal) := by
  have hN : grid0.N = 32 := N_0
  have ht : t.val < grid0.N := t.isLt
  refine Eq.trans ?_ (weight h j k)
  blk_ext [iblk, idx t]

theorem holds_wg (t : Fin cfg0.N) (j : Fin 128) (k : Fin 1024) : (iblk m c 13 t : FVec Ideal S128x1024 .bf16) (ix2 j k) = ((if (j : ℕ) < 8 then A.w k (3584 + j) else 0 : ℝ) : EReal) := by
  have hN : grid0.N = 32 := N_0
  have ht : t.val < grid0.N := t.isLt
  refine Eq.trans ?_ (gates h j k)
  blk_ext [iblk, idx t]

/-- Every grid point's blocks hold the arguments' numbers. -/
theorem holds (t : Fin cfg0.N) : KPoint.Holds A t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) :=
  ⟨holds_x h t, holds_dh h t, holds_proj h t, holds_da h t, holds_dq h t, holds_dz h t, holds_dl h t, holds_g h t, holds_lg h t, holds_lb h t, holds_ws h t, holds_b h t, holds_wt h t, holds_wg h t⟩

end Cert.KHost
-- ==== Proof.KernelSums.lean ====
/-
  What the stores of one grid point leave in the accumulated rows, weights and bias: what was there and the
  contributions of the point's two chunks.
-/
module

public import proofs.«01_k».proof.Proof.KernelRead
public import Idealize.ShloMosaic.Lib.Pipeline.ReadBack

@[expose] public section

set_option maxRecDepth 16384

noncomputable section

open Idealize.ShloMosaic Idealize.ShloMosaic.TcCoe Cert.Layer Cert.Reals Cert.KernelIdeal Cert.KernelIdeal.Gen

namespace Cert.KPoint

/-- The stores `L` leave the numbers `f` in the four groups of a row. -/
def RowAt (L : List (View.Piece (Elt Ideal) S1x512 .f32)) (f : Fin 4 → ℕ → ℝ) : Prop :=
  ∀ (g : Fin 4) (j : Fin 128), View.canon L ((rowR g).idx (ix2 0 j)) = ((f g j : ℝ) : EReal)

theorem row_disj : ∀ g g' : Fin 4, g ≠ g' → LoadRect.disj (rowR g') (rowR g).toLoadRect = true := by decide

theorem whole_idx {S : Shape} {off : Fin S.rank → ℕ} (inb : ∀ a, off a + S.size a ≤ S.size a) (h : ∀ a, off a = 0) (y : S.Idx) :
    (Rect.unit (s := S) off S.size inb).idx y = y :=
  funext fun d => Fin.ext (by show off d + 1 * (y d : ℕ) = y d; rw [h, one_mul, zero_add])

theorem canon_whole {S : Shape} {e : EltTy} {off : Fin S.rank → ℕ} (inb : ∀ a, off a + S.size a ≤ S.size a) (h : ∀ a, off a = 0)
    (p : S.Idx → Elt Ideal e) (L : List (View.Piece (Elt Ideal) S e)) (y : S.Idx) :
    View.canon (⟨Rect.unit (s := S) off S.size inb, p⟩ :: L) y = p y := by
  have e := View.canon_cons_emb (Rect.unit (s := S) off S.size inb) p L y
  have e' : (Rect.unit (s := S) off S.size inb).emb y = y := whole_idx inb h y
  rwa [e'] at e

theorem row_same (g : Fin 4) (p : FVec Ideal S1x128 .f32) (L : List (View.Piece (Elt Ideal) S1x512 .f32)) (j : Fin 128) :
    View.canon (⟨rowR g, p⟩ :: L) ((rowR g).idx (ix2 0 j)) = p (ix2 0 j) := View.canon_cons_emb (rowR g) p L (ix2 0 j)

theorem row_skip (w : Memref sig .tc .vmem S1x512 .f32) (g g' : Fin 4) (hg : g ≠ g') (p : FVec Ideal S1x128 .f32)
    (L : List (View.Piece (Elt Ideal) S1x512 .f32)) (j : Fin 128) :
    View.canon (⟨rowR g', p⟩ :: L) ((rowR g).idx (ix2 0 j)) = View.canon L ((rowR g).idx (ix2 0 j)) := by
  have e := View.readCov_skip w.view (rowR g') p L (rowR g).toLoadRect (row_disj g g' hg)
  rw [View.readCov_eq_canon', View.readCov_eq_canon'] at e
  exact congrFun e (ix2 0 j)

theorem pay59_real (c l : FVec Ideal S1x128 .f32) (x y : ℝ) (j : Fin 128) (hc : c (ix2 0 j) = (x : EReal)) (hl : l (ix2 0 j) = (y : EReal)) :
    k0_pay59 (F := Ideal) c l (ix2 0 j) = ((y + x : ℝ) : EReal) := by
  pointwise [k0_pay59, hc, hl]
  simp only [add_real]

theorem row_step (w : Memref sig .tc .vmem S1x512 .f32) (g' : Fin 4) (c : FVec Ideal S1x128 .f32)
    (L : List (View.Piece (Elt Ideal) S1x512 .f32)) (f : Fin 4 → ℕ → ℝ) (x : ℕ → ℝ) (hL : RowAt L f)
    (hc : ∀ j : Fin 128, c (ix2 0 j) = ((x j : ℝ) : EReal)) :
    RowAt (⟨rowR g', k0_pay59 (F := Ideal) c (w.view.readCov L (rowR g').toLoadRect)⟩ :: L)
      (fun g j => if g = g' then f g j + x j else f g j) := by
  intro g j
  by_cases hg : g = g'
  · subst hg
    rw [row_same]
    beta_reduce
    rw [if_pos rfl]
    refine pay59_real _ _ _ _ _ (hc j) ?_
    rw [View.readCov_eq_canon']
    exact hL g j
  · rw [row_skip w g g' hg]
    beta_reduce
    rw [if_neg hg]
    exact hL g j

/-- The first chunk's four stores, each over what was loaded of its group. -/
theorem rowB4_at (w : Memref sig .tc .vmem S1x512 .f32) (l : Fin 4 → Vec Ideal S1x128 .f32) (c : Fin 2 → Fin 4 → FVec Ideal S1x128 .f32)
    (f : Fin 4 → ℕ → ℝ) (x : Fin 2 → Fin 4 → ℕ → ℝ) (hl : ∀ (g : Fin 4) (j : Fin 128), l g (ix2 0 j) = ((f g j : ℝ) : EReal))
    (hc : ∀ (k : Fin 2) (g : Fin 4) (j : Fin 128), c k g (ix2 0 j) = ((x k g j : ℝ) : EReal)) :
    RowAt (rowB4 l c) (fun g j => f g j + x 0 g j) := by
  intro g j
  unfold rowB4
  fin_cases g
  · rw [row_skip w _ _ (by decide), row_skip w _ _ (by decide), row_skip w _ _ (by decide)]
    exact (row_same _ _ _ _).trans (pay59_real _ _ _ _ _ (hc 0 0 j) (hl 0 j))
  · rw [row_skip w _ _ (by decide), row_skip w _ _ (by decide)]
    exact (row_same _ _ _ _).trans (pay59_real _ _ _ _ _ (hc 0 1 j) (hl 1 j))
  · rw [row_skip w _ _ (by decide)]
    exact (row_same _ _ _ _).trans (pay59_real _ _ _ _ _ (hc 0 2 j) (hl 2 j))
  · exact (row_same _ _ _ _).trans (pay59_real _ _ _ _ _ (hc 0 3 j) (hl 3 j))

theorem rowB8_at (w : Memref sig .tc .vmem S1x512 .f32) (l : Fin 4 → Vec Ideal S1x128 .f32) (c : Fin 2 → Fin 4 → FVec Ideal S1x128 .f32)
    (f : Fin 4 → ℕ → ℝ) (x : Fin 2 → Fin 4 → ℕ → ℝ) (hl : ∀ (g : Fin 4) (j : Fin 128), l g (ix2 0 j) = ((f g j : ℝ) : EReal))
    (hc : ∀ (k : Fin 2) (g : Fin 4) (j : Fin 128), c k g (ix2 0 j) = ((x k g j : ℝ) : EReal)) :
    RowAt (rowB8 w l c) (fun g j => f g j + x 0 g j + x 1 g j) := by
  have h4 := rowB4_at w l c f x hl hc
  have h5 : RowAt (rowB5 w l c) _ := row_step w 0 _ _ _ _ h4 (hc 1 0)
  have h6 : RowAt (rowB6 w l c) _ := row_step w 1 _ _ _ _ h5 (hc 1 1)
  have h7 : RowAt (rowB7 w l c) _ := row_step w 2 _ _ _ _ h6 (hc 1 2)
  have h8 : RowAt (rowB8 w l c) _ := row_step w 3 _ _ _ _ h7 (hc 1 3)
  intro g j
  refine (h8 g j).trans (congrArg Real.toEReal ?_)
  fin_cases g <;> simp

theorem rowA8_at (w : Memref sig .tc .vmem S1x512 .f32) (l0 : List (View.Piece (Elt Ideal) S1x512 .f32))
    (c : Fin 2 → Fin 4 → FVec Ideal S1x128 .f32) (x : Fin 2 → Fin 4 → ℕ → ℝ) (h0 : RowAt l0 (fun _ _ => 0))
    (hc : ∀ (k : Fin 2) (g : Fin 4) (j : Fin 128), c k g (ix2 0 j) = ((x k g j : ℝ) : EReal)) :
    RowAt (rowA8 w l0 c) (fun g j => x 0 g j + x 1 g j) := by
  have h1 : RowAt (rowA1 w l0 c) _ := row_step w 0 _ _ _ _ h0 (hc 0 0)
  have h2 : RowAt (rowA2 w l0 c) _ := row_step w 1 _ _ _ _ h1 (hc 0 1)
  have h3 : RowAt (rowA3 w l0 c) _ := row_step w 2 _ _ _ _ h2 (hc 0 2)
  have h4 : RowAt (rowA4 w l0 c) _ := row_step w 3 _ _ _ _ h3 (hc 0 3)
  have h5 : RowAt (rowA5 w l0 c) _ := row_step w 0 _ _ _ _ h4 (hc 1 0)
  have h6 : RowAt (rowA6 w l0 c) _ := row_step w 1 _ _ _ _ h5 (hc 1 1)
  have h7 : RowAt (rowA7 w l0 c) _ := row_step w 2 _ _ _ _ h6 (hc 1 2)
  have h8 : RowAt (rowA8 w l0 c) _ := row_step w 3 _ _ _ _ h7 (hc 1 3)
  intro g j
  refine (h8 g j).trans (congrArg Real.toEReal ?_)
  fin_cases g <;> simp

theorem row_zero (p : FVec Ideal S1x512 .f32) (hp : ∀ y, p y = (0 : EReal)) :
    RowAt [⟨Rect.unit (s := S1x512) ![0, 0] S1x512.size inb_S1x512_S1x512_0_0, p⟩] (fun _ _ => 0) := by
  intro g j
  exact (canon_whole (S := S1x512) (e := .f32) (off := ![0, 0]) inb_S1x512_S1x512_0_0 (by decide) p [] ((rowR g).idx (ix2 0 j))).trans ((hp _).trans EReal.coe_zero.symm)

/-- The stores `L` leave the numbers `f` in the four slabs of the weights. -/
def CubeAt (L : List (View.Piece (Elt Ideal) S4x128x128 .f32)) (f : Fin 4 → ℕ → ℕ → ℝ) : Prop :=
  ∀ (g : Fin 4) (s j : Fin 128), View.canon L ((wsR g).idx (ix3 0 s j)) = ((f g s j : ℝ) : EReal)

theorem cube_disj : ∀ g g' : Fin 4, g ≠ g' → LoadRect.disj (wsR g') (wsR g).toLoadRect = true := by decide

theorem cube_same (g : Fin 4) (p : FVec Ideal S1x128x128 .f32) (L : List (View.Piece (Elt Ideal) S4x128x128 .f32)) (s j : Fin 128) :
    View.canon (⟨wsR g, p⟩ :: L) ((wsR g).idx (ix3 0 s j)) = p (ix3 0 s j) := View.canon_cons_emb (wsR g) p L (ix3 0 s j)

theorem cube_skip (w : Memref sig .tc .vmem S4x128x128 .f32) (g g' : Fin 4) (hg : g ≠ g') (p : FVec Ideal S1x128x128 .f32)
    (L : List (View.Piece (Elt Ideal) S4x128x128 .f32)) (s j : Fin 128) :
    View.canon (⟨wsR g', p⟩ :: L) ((wsR g).idx (ix3 0 s j)) = View.canon L ((wsR g).idx (ix3 0 s j)) := by
  have e := View.readCov_skip w.view (wsR g') p L (wsR g).toLoadRect (cube_disj g g' hg)
  rw [View.readCov_eq_canon', View.readCov_eq_canon'] at e
  exact congrFun e (ix3 0 s j)

theorem pay61_real (c : FVec Ideal S128x128 .f32) (l : FVec Ideal S1x128x128 .f32) (x y : ℝ) (s j : Fin 128) (hc : c (ix2 s j) = (x : EReal)) (hl : l (ix3 0 s j) = (y : EReal)) :
    k0_pay61 (F := Ideal) c l (ix3 0 s j) = ((y + x : ℝ) : EReal) := by
  pointwise [k0_pay61, hc, slab_cast, hl]
  simp only [add_real]

theorem cube_step (w : Memref sig .tc .vmem S4x128x128 .f32) (g' : Fin 4) (c : FVec Ideal S128x128 .f32)
    (L : List (View.Piece (Elt Ideal) S4x128x128 .f32)) (f : Fin 4 → ℕ → ℕ → ℝ) (x : ℕ → ℕ → ℝ) (hL : CubeAt L f)
    (hc : ∀ s j : Fin 128, c (ix2 s j) = ((x s j : ℝ) : EReal)) :
    CubeAt (⟨wsR g', k0_pay61 (F := Ideal) c (w.view.readCov L (wsR g').toLoadRect)⟩ :: L)
      (fun g s j => if g = g' then f g s j + x s j else f g s j) := by
  intro g s j
  by_cases hg : g = g'
  · subst hg
    rw [cube_same]
    beta_reduce
    rw [if_pos rfl]
    refine pay61_real _ _ _ _ _ _ (hc s j) ?_
    rw [View.readCov_eq_canon']
    exact hL g s j
  · rw [cube_skip w g g' hg]
    beta_reduce
    rw [if_neg hg]
    exact hL g s j

/-- The first chunk's four stores, each over what was loaded of its slab. -/
theorem cubeB4_at (w : Memref sig .tc .vmem S4x128x128 .f32) (l : Fin 4 → Vec Ideal S1x128x128 .f32) (c : Fin 2 → Fin 4 → FVec Ideal S128x128 .f32)
    (f : Fin 4 → ℕ → ℕ → ℝ) (x : Fin 2 → Fin 4 → ℕ → ℕ → ℝ) (hl : ∀ (g : Fin 4) (s j : Fin 128), l g (ix3 0 s j) = ((f g s j : ℝ) : EReal))
    (hc : ∀ (k : Fin 2) (g : Fin 4) (s j : Fin 128), c k g (ix2 s j) = ((x k g s j : ℝ) : EReal)) :
    CubeAt (cubeB4 l c) (fun g s j => f g s j + x 0 g s j) := by
  intro g s j
  unfold cubeB4
  fin_cases g
  · rw [cube_skip w _ _ (by decide), cube_skip w _ _ (by decide), cube_skip w _ _ (by decide)]
    exact (cube_same _ _ _ _ _).trans (pay61_real _ _ _ _ _ _ (hc 0 0 s j) (hl 0 s j))
  · rw [cube_skip w _ _ (by decide), cube_skip w _ _ (by decide)]
    exact (cube_same _ _ _ _ _).trans (pay61_real _ _ _ _ _ _ (hc 0 1 s j) (hl 1 s j))
  · rw [cube_skip w _ _ (by decide)]
    exact (cube_same _ _ _ _ _).trans (pay61_real _ _ _ _ _ _ (hc 0 2 s j) (hl 2 s j))
  · exact (cube_same _ _ _ _ _).trans (pay61_real _ _ _ _ _ _ (hc 0 3 s j) (hl 3 s j))

theorem cubeB8_at (w : Memref sig .tc .vmem S4x128x128 .f32) (l : Fin 4 → Vec Ideal S1x128x128 .f32) (c : Fin 2 → Fin 4 → FVec Ideal S128x128 .f32)
    (f : Fin 4 → ℕ → ℕ → ℝ) (x : Fin 2 → Fin 4 → ℕ → ℕ → ℝ) (hl : ∀ (g : Fin 4) (s j : Fin 128), l g (ix3 0 s j) = ((f g s j : ℝ) : EReal))
    (hc : ∀ (k : Fin 2) (g : Fin 4) (s j : Fin 128), c k g (ix2 s j) = ((x k g s j : ℝ) : EReal)) :
    CubeAt (cubeB8 w l c) (fun g s j => f g s j + x 0 g s j + x 1 g s j) := by
  have h4 := cubeB4_at w l c f x hl hc
  have h5 : CubeAt (cubeB5 w l c) _ := cube_step w 0 _ _ _ _ h4 (hc 1 0)
  have h6 : CubeAt (cubeB6 w l c) _ := cube_step w 1 _ _ _ _ h5 (hc 1 1)
  have h7 : CubeAt (cubeB7 w l c) _ := cube_step w 2 _ _ _ _ h6 (hc 1 2)
  have h8 : CubeAt (cubeB8 w l c) _ := cube_step w 3 _ _ _ _ h7 (hc 1 3)
  intro g s j
  refine (h8 g s j).trans (congrArg Real.toEReal ?_)
  fin_cases g <;> simp

theorem cubeA8_at (w : Memref sig .tc .vmem S4x128x128 .f32) (l0 : List (View.Piece (Elt Ideal) S4x128x128 .f32))
    (c : Fin 2 → Fin 4 → FVec Ideal S128x128 .f32) (x : Fin 2 → Fin 4 → ℕ → ℕ → ℝ) (h0 : CubeAt l0 (fun _ _ _ => 0))
    (hc : ∀ (k : Fin 2) (g : Fin 4) (s j : Fin 128), c k g (ix2 s j) = ((x k g s j : ℝ) : EReal)) :
    CubeAt (cubeA8 w l0 c) (fun g s j => x 0 g s j + x 1 g s j) := by
  have h1 : CubeAt (cubeA1 w l0 c) _ := cube_step w 0 _ _ _ _ h0 (hc 0 0)
  have h2 : CubeAt (cubeA2 w l0 c) _ := cube_step w 1 _ _ _ _ h1 (hc 0 1)
  have h3 : CubeAt (cubeA3 w l0 c) _ := cube_step w 2 _ _ _ _ h2 (hc 0 2)
  have h4 : CubeAt (cubeA4 w l0 c) _ := cube_step w 3 _ _ _ _ h3 (hc 0 3)
  have h5 : CubeAt (cubeA5 w l0 c) _ := cube_step w 0 _ _ _ _ h4 (hc 1 0)
  have h6 : CubeAt (cubeA6 w l0 c) _ := cube_step w 1 _ _ _ _ h5 (hc 1 1)
  have h7 : CubeAt (cubeA7 w l0 c) _ := cube_step w 2 _ _ _ _ h6 (hc 1 2)
  have h8 : CubeAt (cubeA8 w l0 c) _ := cube_step w 3 _ _ _ _ h7 (hc 1 3)
  intro g s j
  refine (h8 g s j).trans (congrArg Real.toEReal ?_)
  fin_cases g <;> simp

theorem cube_zero (p : FVec Ideal S4x128x128 .f32) (hp : ∀ y, p y = (0 : EReal)) :
    CubeAt [⟨Rect.unit (s := S4x128x128) ![0, 0, 0] S4x128x128.size inb_S4x128x128_S4x128x128_0_0_0, p⟩] (fun _ _ _ => 0) := by
  intro g s j
  exact (canon_whole (S := S4x128x128) (e := .f32) (off := ![0, 0, 0]) inb_S4x128x128_S4x128x128_0_0_0 (by decide) p [] ((wsR g).idx (ix3 0 s j))).trans ((hp _).trans EReal.coe_zero.symm)

/-- The stores `L` leave the numbers `f` in the bias block. -/
def BiasAt (L : List (View.Piece (Elt Ideal) S128x4 .f32)) (f : ℕ → Fin 4 → ℝ) : Prop :=
  ∀ (s : Fin 128) (g : Fin 4), View.canon L (ix2 s g) = ((f s g : ℝ) : EReal)

theorem colAdd_real (c : FVec Ideal S128x1 .f32) (l : Vec Ideal S128x4 .f32) (g' : Fin 4) (x : ℕ → ℝ) (f : ℕ → Fin 4 → ℝ)
    (hc : ∀ s : Fin 128, c (ix2 s 0) = ((x s : ℝ) : EReal)) (hl : ∀ (s : Fin 128) (g : Fin 4), l (ix2 s g) = ((f s g : ℝ) : EReal))
    (s : Fin 128) (g : Fin 4) : colAdd c l (BitVec.ofNat 32 g') (ix2 s g) = ((f s g + x s * (if g = g' then 1 else 0) : ℝ) : EReal) := by
  unfold colAdd
  pointwise [hc, hl, KTile.onehot_real]
  simp only [add_real, mul_real]

theorem bias_store (g' : Fin 4) (c : FVec Ideal S128x1 .f32) (l : Vec Ideal S128x4 .f32)
    (L : List (View.Piece (Elt Ideal) S128x4 .f32)) (f : ℕ → Fin 4 → ℝ) (x : ℕ → ℝ)
    (hl : ∀ (s : Fin 128) (g : Fin 4), l (ix2 s g) = ((f s g : ℝ) : EReal))
    (hc : ∀ s : Fin 128, c (ix2 s 0) = ((x s : ℝ) : EReal)) :
    BiasAt (⟨biasR, colAdd c l (BitVec.ofNat 32 g')⟩ :: L) (fun s g => f s g + x s * (if g = g' then 1 else 0)) := by
  intro s g
  exact (canon_whole _ (by decide) _ L _).trans (colAdd_real c l g' x f hc hl s g)

theorem bias_step (w : Memref sig .tc .vmem S128x4 .f32) (g' : Fin 4) (c : FVec Ideal S128x1 .f32)
    (L : List (View.Piece (Elt Ideal) S128x4 .f32)) (f : ℕ → Fin 4 → ℝ) (x : ℕ → ℝ) (hL : BiasAt L f)
    (hc : ∀ s : Fin 128, c (ix2 s 0) = ((x s : ℝ) : EReal)) :
    BiasAt (⟨biasR, colAdd c (w.view.readCov L biasR.toLoadRect) (BitVec.ofNat 32 g')⟩ :: L)
      (fun s g => f s g + x s * (if g = g' then 1 else 0)) := by
  refine bias_store g' c _ L f x (fun s g => ?_) hc
  rw [View.readCov_eq_canon']
  exact (congrArg (View.canon L) (whole_idx inb_S128x4_S128x4_0_0 (by decide) (ix2 s g))).trans (hL s g)

theorem bias8_at (w : Memref sig .tc .vmem S128x4 .f32) (l0 : Vec Ideal S128x4 .f32) (L0 : List (View.Piece (Elt Ideal) S128x4 .f32))
    (c : Fin 2 → Fin 4 → FVec Ideal S128x1 .f32) (f : ℕ → Fin 4 → ℝ) (x : Fin 2 → Fin 4 → ℕ → ℝ)
    (hl : ∀ (s : Fin 128) (g : Fin 4), l0 (ix2 s g) = ((f s g : ℝ) : EReal))
    (hc : ∀ (k : Fin 2) (g : Fin 4) (s : Fin 128), c k g (ix2 s 0) = ((x k g s : ℝ) : EReal)) :
    BiasAt (bias8 w l0 L0 c) (fun s g => f s g + x 0 g s + x 1 g s) := by
  have h1 : BiasAt (bias1 w l0 L0 c) _ := bias_store 0 _ _ _ _ _ hl (hc 0 0)
  have h2 : BiasAt (bias2 w l0 L0 c) _ := bias_step w 1 _ _ _ _ h1 (hc 0 1)
  have h3 : BiasAt (bias3 w l0 L0 c) _ := bias_step w 2 _ _ _ _ h2 (hc 0 2)
  have h4 : BiasAt (bias4 w l0 L0 c) _ := bias_step w 3 _ _ _ _ h3 (hc 0 3)
  have h5 : BiasAt (bias5 w l0 L0 c) _ := bias_step w 0 _ _ _ _ h4 (hc 1 0)
  have h6 : BiasAt (bias6 w l0 L0 c) _ := bias_step w 1 _ _ _ _ h5 (hc 1 1)
  have h7 : BiasAt (bias7 w l0 L0 c) _ := bias_step w 2 _ _ _ _ h6 (hc 1 2)
  have h8 : BiasAt (bias8 w l0 L0 c) _ := bias_step w 3 _ _ _ _ h7 (hc 1 3)
  intro s g
  refine (h8 s g).trans (congrArg Real.toEReal ?_)
  fin_cases g <;> simp

end Cert.KPoint

end
-- ==== Proof.KernelRow.lean ====
/-
  One grid point's rows of the norm's backward pass, element by element: the gradient of the scaled normalised rows,
  of the layer's input and of the norm's scale.
-/
module

public import proofs.«01_k».proof.Proof.KernelSums

@[expose] public section

set_option maxRecDepth 16384

noncomputable section

open Idealize.ShloMosaic Idealize.ShloMosaic.TcCoe Cert.Layer Cert.Reals Cert.KernelIdeal Cert.KernelIdeal.Gen

namespace Cert.KPoint

theorem sum_three (f : ℕ → ℝ) :
    ∑ c : Fin 1536, f c = ∑ c : Fin 512, f c + ∑ c : Fin 512, f (512 + c) + ∑ c : Fin 512, f (1024 + c) := by
  simp only [Fin.sum_univ_eq_sum_range (fun i => f i), Fin.sum_univ_eq_sum_range (fun i => f (512 + i)),
    Fin.sum_univ_eq_sum_range (fun i => f (1024 + i))]
  rw [show (1536 : ℕ) = 1024 + 512 from rfl, Finset.sum_range_add, show (1024 : ℕ) = 512 + 512 from rfl, Finset.sum_range_add _ 512 512]

/-- The gradient of the scaled normalised rows, from the four products of the projection's gradient. -/
def dxnV (wg : FVec Ideal S128x1024 .bf16) (dl : FVec Ideal S256x128 .bf16) (w3 : FVec Ideal S512x1024 .bf16) (dz : FVec Ideal S256x512 .bf16)
    (w2 : FVec Ideal S1536x1024 .bf16) (dq : FVec Ideal S256x1536 .bf16) (w1 : FVec Ideal S1536x1024 .bf16) (da : FVec Ideal S256x1536 .bf16) :
    FVec Ideal S256x1024 .f32 :=
  addf (addf (k0_pay23 (F := Ideal) (k0_pay20 (F := Ideal) wg dl) (k0_pay22 (F := Ideal) w3) dz)
      (matmul dot_S256x1536_S1536x1024_S256x1024_1_0_0_1_n_n none dq (shapeCast S1536x1024 w2 shapeCasts_S1536x1024_S1536x1024)
        (constant S256x1024 .f32 0x00000000#32)))
    (matmul dot_S256x1536_S1536x1024_S256x1024_1_0_0_1_n_n none da (shapeCast S1536x1024 w1 shapeCasts_S1536x1024_S1536x1024)
      (constant S256x1024 .f32 0x00000000#32))

variable {A : Args} {t : ℕ}

theorem dxnV_real {wg : FVec Ideal S128x1024 .bf16} {dl : FVec Ideal S256x128 .bf16} {w3 : FVec Ideal S512x1024 .bf16}
    {dz : FVec Ideal S256x512 .bf16} {w2 : FVec Ideal S1536x1024 .bf16} {dq : FVec Ideal S256x1536 .bf16}
    {w1 : FVec Ideal S1536x1024 .bf16} {da : FVec Ideal S256x1536 .bf16}
    (hwg : ∀ (c : Fin 128) (k : Fin 1024), wg (ix2 c k) = ((if (c : ℕ) < 8 then A.w k (3584 + c) else 0 : ℝ) : EReal))
    (hdl : ∀ (r : Fin 256) (k : Fin 128), dl (ix2 r k) = ((A.dl (256 * t + r) k : ℝ) : EReal))
    (hw3 : ∀ (c : Fin 512) (k : Fin 1024), w3 (ix2 c k) = ((A.w k (3072 + c) : ℝ) : EReal))
    (hdz : ∀ (r : Fin 256) (k : Fin 512), dz (ix2 r k) = ((A.dz (256 * t + r) k : ℝ) : EReal))
    (hw2 : ∀ (c : Fin 1536) (k : Fin 1024), w2 (ix2 c k) = ((A.w k (1536 + c) : ℝ) : EReal))
    (hdq : ∀ (r : Fin 256) (k : Fin 1536), dq (ix2 r k) = ((A.dq (256 * t + r) k : ℝ) : EReal))
    (hw1 : ∀ (c : Fin 1536) (k : Fin 1024), w1 (ix2 c k) = ((A.w k c : ℝ) : EReal))
    (hda : ∀ (r : Fin 256) (c : Fin 1536), da (ix2 r c) = ((A.dproj (256 * t + r) c : ℝ) : EReal)) (r : Fin 256) (k : Fin 1024) :
    dxnV wg dl w3 dz w2 dq w1 da (ix2 r k) = ((A.dxn (256 * t + r) k : ℝ) : EReal) := by
  unfold dxnV
  pointwise [k0_pay23, k0_pay20, k0_pay22, hwg, hdl, hw3, hdz, hw2, hdq, hw1, hda]
  simp only [add_real, mul_real, sum_real, zero_real, zero_add]
  refine congrArg Real.toEReal ?_
  unfold Args.dxn
  rw [sum_columns (fun c => A.dproj (256 * t + r) c * A.w k c), sum_three (fun c => A.dproj (256 * t + r) c * A.w k c)]
  have e1 : ∀ c : Fin 1536, A.dproj (256 * t + r) (1536 + c) = A.dq (256 * t + r) c := fun c => by
    unfold Args.dproj
    rw [if_neg (by omega), if_neg (by omega), if_neg (by omega), if_pos (by omega)]
    exact congrArg (A.dq _) (by omega)
  have e2 : ∀ c : Fin 512, A.dproj (256 * t + r) (3072 + c) = A.dz (256 * t + r) c := fun c => by
    unfold Args.dproj
    rw [if_neg (by omega), if_neg (by omega), if_neg (by omega), if_neg (by omega), if_pos (by omega)]
    exact congrArg (A.dz _) (by omega)
  have e3 : ∀ c : Fin 8, A.dproj (256 * t + r) (3584 + c) = A.dl (256 * t + r) c := fun c => by
    unfold Args.dproj
    rw [if_neg (by omega), if_neg (by omega), if_neg (by omega), if_neg (by omega), if_neg (by omega)]
    exact congrArg (A.dl _) (by omega)
  simp only [e1, e2, e3, mul_zero, Finset.sum_const_zero, add_zero]
  ring

variable {x dh : FVec Ideal S256x1024 .f32} {g : FVec Ideal S1x1024 .f32} {dxn : FVec Ideal S256x1024 .f32}
  (hx : ∀ (r : Fin 256) (k : Fin 1024), x (ix2 r k) = ((A.x (256 * t + r) k : ℝ) : EReal))

include hx in
theorem inv_real (r : Fin 256) : k0_pay17 (F := Ideal) x (ix2 r 0) = ((A.inv (256 * t + r) : ℝ) : EReal) := by
  pointwise [k0_pay17, k0_pay16, hx]
  simp only [add_real, mul_real, sum_real, bits_eps, bits_1024, zero_real, zero_add, div_1024]
  exact rsqrt_real _ (A.ms_pos _)

include hx in
theorem n_real (r : Fin 256) (k : Fin 1024) : k0_pay18 (F := Ideal) x (ix2 r k) = ((A.n (256 * t + r) k : ℝ) : EReal) := by
  pointwise [k0_pay18, k0_pay16, hx, inv_real hx]
  simp only [mul_real]
  rfl

variable (hdh : ∀ (r : Fin 256) (k : Fin 1024), dh (ix2 r k) = ((A.dh (256 * t + r) k : ℝ) : EReal))
  (hg : ∀ (z : Fin 1) (k : Fin 1024), g (ix2 z k) = ((A.g k : ℝ) : EReal))
  (hd : ∀ (r : Fin 256) (k : Fin 1024), dxn (ix2 r k) = ((A.dxn (256 * t + r) k : ℝ) : EReal))

include hx in
theorem xn_real (hg : ∀ (z : Fin 1) (k : Fin 1024), g (ix2 z k) = ((A.g k : ℝ) : EReal)) (r : Fin 256) (k : Fin 1024) :
    k0_pay19 (F := Ideal) g x (ix2 r k) = ((A.xn (256 * t + r) k : ℝ) : EReal) := by
  pointwise [k0_pay19, n_real hx, hg]
  simp only [mul_real]
  rfl

include hx hdh hg hd in
theorem dx_real (r : Fin 256) (k : Fin 1024) :
    k0_pay1 (F := Ideal) (k0_pay17 (F := Ideal) x) (k0_pay18 (F := Ideal) x) dh (k0_pay336 (F := Ideal) g dxn)
      (k0_pay337 (F := Ideal) g (k0_pay18 (F := Ideal) x) dxn) (ix2 r k) = ((A.dx (256 * t + r) k : ℝ) : EReal) := by
  pointwise [k0_pay1, k0_pay336, k0_pay337, n_real hx, inv_real hx, hdh, hg, hd]
  simp only [add_real, sub_real, mul_real, sum_real, bits_1024, zero_real, zero_add, div_1024]
  exact congrArg Real.toEReal (by unfold Args.dx; ring)

include hx hd in
theorem dg_real (l : FVec Ideal S1x1024 .f32) (f : ℕ → ℝ) (hl : ∀ k : Fin 1024, l (ix2 0 k) = ((f k : ℝ) : EReal)) (k : Fin 1024) :
    k0_pay335 (F := Ideal) (k0_pay18 (F := Ideal) x) dxn l (ix2 0 k)
      = ((f k + ∑ r : Fin 256, A.dxn (256 * t + r) k * A.n (256 * t + r) k : ℝ) : EReal) := by
  pointwise [k0_pay335, n_real hx, hl, hd]
  simp only [add_real, mul_real, sum_real, zero_real, zero_add]

/-- The gradient of the projection's first columns, as the chunks' gradients. -/
theorem dproj_piece (k : Fin 2) (g : Fin 4) (q : Fin 3) (s j : Fin 128) :
    A.dproj (256 * t + (128 * (k : ℕ) + s)) (512 * (q : ℕ) + 128 * (g : ℕ) + j)
      = ![(A.tile (2 * t + k) g).du s j, (A.tile (2 * t + k) g).dv s j, (A.tile (2 * t + k) g).dz s j] q := by
  have e1 : (256 * t + (128 * (k : ℕ) + s)) / 128 = 2 * t + k := by omega
  have e2 : (256 * t + (128 * (k : ℕ) + s)) % 128 = s := by omega
  have e3 : (128 * (g : ℕ) + j) / 128 = g := by omega
  have e4 : (128 * (g : ℕ) + j) % 128 = j := by omega
  unfold Args.dproj
  rw [e1, e2]
  fin_cases q
  · have e : 512 * ((⟨0, by omega⟩ : Fin 3) : ℕ) + 128 * (g : ℕ) + j = 128 * (g : ℕ) + j := by simp
    rw [e, if_pos (by omega), e3, e4]; rfl
  · have e : 512 * ((⟨1, by omega⟩ : Fin 3) : ℕ) + 128 * (g : ℕ) + j = 512 + (128 * (g : ℕ) + j) := by simp; omega
    rw [e, if_neg (by omega), if_pos (by omega), Nat.add_sub_cancel_left, e3, e4]; rfl
  · have e : 512 * ((⟨2, by omega⟩ : Fin 3) : ℕ) + 128 * (g : ℕ) + j = 1024 + (128 * (g : ℕ) + j) := by simp; omega
    rw [e, if_neg (by omega), if_neg (by omega), if_pos (by omega), Nat.add_sub_cancel_left, e3, e4]; rfl

theorem gates_mem (d : Fin 2 → Fin 4 → Fin 3 → FVec Ideal S128x128 .bf16) (k : Fin 2) (g : Fin 4) (q : Fin 3) :
    (⟨tileR (512 * (q : ℕ)) k g (by omega), d k g q⟩ : View.Piece (Elt Ideal) S256x1536 .bf16) ∈ gates d := by
  fin_cases k <;> fin_cases g <;> fin_cases q <;> simp only [gates] <;> repeat (first | exact List.mem_cons_self | apply List.mem_cons_of_mem)

/-- The scratch after the point's stores holds the gradient of the projection's first 1536 columns. -/
theorem gates_canon (d : Fin 2 → Fin 4 → Fin 3 → FVec Ideal S128x128 .bf16)
    (hd : ∀ (k : Fin 2) (g : Fin 4) (q : Fin 3) (s j : Fin 128), d k g q (ix2 s j)
      = ((![(A.tile (2 * t + k) g).du s j, (A.tile (2 * t + k) g).dv s j, (A.tile (2 * t + k) g).dz s j] q : ℝ) : EReal))
    (r : Fin 256) (c : Fin 1536) : View.canon (gates d) (ix2 r c) = ((A.dproj (256 * t + r) c : ℝ) : EReal) := by
  have hG : ∀ (k : Fin 2) (g : Fin 4) (q : Fin 3) (o : ℕ) (ho : o + 512 ≤ 1536) (e : o = 512 * (q : ℕ)) (x : S128x128.Idx),
      d k g q x = (fun y : S256x1536.Idx => ((A.dproj (256 * t + (y 0 : ℕ)) (y 1 : ℕ) : ℝ) : EReal)) ((tileR o k g ho).emb x) := by
    intro k g q o ho e x
    subst e
    obtain ⟨s, j, rfl⟩ : ∃ s j : Fin 128, x = ix2 s j := ⟨x 0, x 1, by funext a; fin_cases a <;> rfl⟩
    rw [hd, ← dproj_piece]
    have e := rect2 (inb_tile k g (512 * (q : ℕ)) 256 1536 (by omega) ho) s j
    show _ = ((A.dproj (256 * t + (((tileR (512 * (q : ℕ)) k g ho).idx (ix2 s j)) 0 : ℕ))
      (((tileR (512 * (q : ℕ)) k g ho).idx (ix2 s j)) 1 : ℕ) : ℝ) : EReal)
    rw [e]
    rfl
  have hP : View.PiecesOf (Val := Elt Ideal) (s := S256x1536) (e := .bf16)
      (fun y : S256x1536.Idx => ((A.dproj (256 * t + (y 0 : ℕ)) (y 1 : ℕ) : ℝ) : EReal)) (gates d) :=
    ⟨hG 1 3 2 _ (by omega) rfl, hG 1 3 1 _ (by omega) rfl, hG 1 3 0 _ (by omega) rfl, hG 1 2 2 _ (by omega) rfl, hG 1 2 1 _ (by omega) rfl, hG 1 2 0 _ (by omega) rfl,
      hG 1 1 2 _ (by omega) rfl, hG 1 1 1 _ (by omega) rfl, hG 1 1 0 _ (by omega) rfl, hG 1 0 2 _ (by omega) rfl, hG 1 0 1 _ (by omega) rfl, hG 1 0 0 _ (by omega) rfl,
      hG 0 3 2 _ (by omega) rfl, hG 0 3 1 _ (by omega) rfl, hG 0 3 0 _ (by omega) rfl, hG 0 2 2 _ (by omega) rfl, hG 0 2 1 _ (by omega) rfl, hG 0 2 0 _ (by omega) rfl,
      hG 0 1 2 _ (by omega) rfl, hG 0 1 1 _ (by omega) rfl, hG 0 1 0 _ (by omega) rfl, hG 0 0 2 _ (by omega) rfl, hG 0 0 1 _ (by omega) rfl, hG 0 0 0 _ (by omega) rfl, trivial⟩
  have h := View.canon_append_of_piecesOf _ [] (gates d) hP (ix2 r c)
    ⟨_, gates_mem d ⟨r / 128, by omega⟩ ⟨c % 512 / 128, by omega⟩ ⟨c / 512, by omega⟩, by
      have e := rect2 (inb_tile ⟨r / 128, by omega⟩ ⟨c % 512 / 128, by omega⟩ (512 * (c / 512)) 256 1536 (by omega) (by omega))
        (⟨r % 128, by omega⟩ : Fin 128) (⟨c % 128, by omega⟩ : Fin 128)
      have e2 : (ix2 r c : S256x1536.Idx) = (tileR (512 * ((c : ℕ) / 512)) ⟨r / 128, by omega⟩ ⟨c % 512 / 128, by omega⟩ (by omega)).idx
          (ix2 (⟨r % 128, by omega⟩ : Fin 128) (⟨c % 128, by omega⟩ : Fin 128)) := by
        rw [e]
        exact congrArg₂ ix2 (Fin.ext (by show (r : ℕ) = 128 * (r / 128) + r % 128; omega))
          (Fin.ext (by show (c : ℕ) = 512 * (c / 512) + 128 * (c % 512 / 128) + c % 128; omega))
      rw [e2]
      exact LoadRect.idx_mem _ _⟩
  rwa [List.append_nil] at h

end Cert.KPoint

end
-- ==== Proof.KernelA.lean ====
/-
  The first grid point of the kernel: the values its run names are the chunk's stages, by unfolding.
-/
module

public import proofs.«01_k».proof.Proof.KernelPoint

@[expose] public section

set_option maxRecDepth 16384

noncomputable section

open Idealize.ShloMosaic Idealize.ShloMosaic.TcCoe Cert.Layer Cert.Reals Cert.KernelIdeal Cert.KernelIdeal.Gen

namespace Cert.KPointA

open Cert.KTile (mask bcol)
open Cert.KPoint

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1536 .f32) (harg3 : arg3.IsWhole) (arg4 : Memref sig .tc .vmem S256x512 .f32) (harg4 : arg4.IsWhole) (arg5 : Memref sig .tc .vmem S256x1536 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x4 .f32) (harg12 : arg12.IsWhole) (arg13 : Memref sig .tc .vmem S3592x1024 .bf16) (harg13 : arg13.IsWhole) (arg14 : Memref sig .tc .vmem S128x1024 .bf16) (harg14 : arg14.IsWhole) (arg15 : Memref sig .tc .vmem S256x1024 .f32) (harg15 : arg15.IsWhole) (arg17 : Memref sig .tc .vmem S1x1024 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x128x128 .f32) (harg20 : arg20.IsWhole) (arg21 : Memref sig .tc .vmem S128x4 .f32) (harg21 : arg21.IsWhole) (arg22 : Memref sig .tc .vmem S3712x1024 .f32) (harg22 : arg22.IsWhole) (arg23 : Memref sig .tc .vmem S449x1024 .f32) (harg23 : arg23.IsWhole) (arg24 : Memref sig .tc .vmem S256x1536 .bf16) (harg24 : arg24.IsWhole) (hc0 : ¬cond0_0 i) (hc1 : ¬cond0_1 i) (x0 : Vec Ideal S256x1024 .f32) (x1 : Vec Ideal S256x1024 .f32) (x2 : Vec Ideal S256x1536 .f32) (x3 : Vec Ideal S256x512 .f32) (x4 : Vec Ideal S256x1536 .bf16) (x5 : Vec Ideal S256x512 .bf16) (x6 : Vec Ideal S256x128 .bf16) (x7 : Vec Ideal S1x1024 .f32) (x8 : Vec Ideal S1x512 .f32) (x9 : Vec Ideal S1x512 .f32) (x10 : Vec Ideal S4x128x128 .f32) (x11 : Vec Ideal S128x4 .f32) (x12 : Vec Ideal S3592x1024 .bf16) (x13 : Vec Ideal S128x1024 .bf16) (xo15 : Vec Ideal S1x1024 .f32) (xo16 : Vec Ideal S1x512 .f32) (xo17 : Vec Ideal S1x512 .f32) (xo18 : Vec Ideal S4x128x128 .f32) (xo19 : Vec Ideal S128x4 .f32) (xs0 : Vec Ideal S3712x1024 .f32)
  (hc0a : cond0_0 i)

theorem d_1_3_2 :
    kernelRun0_A.sl.v1465 (F := Ideal) c arg3 harg3 arg4 harg4 arg9 harg9 arg10 harg10 arg11 harg11 arg12 harg12 x2 x3 x8 x9 x10 x11 = (piece arg3 harg3 arg4 harg4 arg9 harg9 arg10 harg10 arg11 harg11 arg12 harg12 x2 x3 x8 x9 x10 x11 1 3).d3 2 := by rfl

theorem d_1_3_1 :
    kernelRun0_A.sl.v1461 (F := Ideal) c arg3 harg3 arg4 harg4 arg9 harg9 arg11 harg11 x2 x3 x8 x10 = (piece arg3 harg3 arg4 harg4 arg9 harg9 arg10 harg10 arg11 harg11 arg12 harg12 x2 x3 x8 x9 x10 x11 1 3).d3 1 := by rfl

theorem d_1_3_0 :
    k0_pay323 (F := Ideal) (kernelRun0_A.sl.v1315 c arg3 harg3 x2) (kernelRun0_A.sl.r_127 c arg3 harg3 x2) (kernelRun0_A.sl.v1401 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 1 3).d3 0 := by rfl

theorem d_1_2_2 :
    k0_pay286 (F := Ideal) (kernelRun0_A.sl.r_113 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 1 2).d3 2 := by rfl

theorem d_1_2_1 :
    k0_pay285 (F := Ideal) (kernelRun0_A.sl.r_104 c arg3 harg3 x2) (kernelRun0_A.sl.r_119 c arg3 harg3 arg4 harg4 arg9 harg9 arg11 harg11 x2 x3 x8 x10) (kernelRun0_A.sl.r_120 c arg3 harg3 x2) = (piece arg3 harg3 arg4 harg4 arg9 harg9 arg10 harg10 arg11 harg11 arg12 harg12 x2 x3 x8 x9 x10 x11 1 2).d3 1 := by rfl

theorem d_1_2_0 :
    k0_pay284 (F := Ideal) (kernelRun0_A.sl.r_97 c arg3 harg3 x2) (kernelRun0_A.sl.r_102 c arg3 harg3 x2) (kernelRun0_A.sl.r_114 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 1 2).d3 0 := by rfl

theorem d_1_1_2 :
    kernelRun0_A.sl.r_96 (F := Ideal) c arg3 harg3 arg4 harg4 arg9 harg9 arg10 harg10 arg11 harg11 arg12 harg12 x2 x3 x8 x9 x10 x11 = (piece arg3 harg3 arg4 harg4 arg9 harg9 arg10 harg10 arg11 harg11 arg12 harg12 x2 x3 x8 x9 x10 x11 1 1).d3 2 := by rfl

theorem d_1_1_1 :
    k0_pay247 (F := Ideal) (kernelRun0_A.sl.v947 c arg3 harg3 x2) (kernelRun0_A.sl.r_91 c arg3 harg3 x2) (kernelRun0_A.sl.r_92 c arg3 harg3 x2) (kernelRun0_A.sl.r_93 c arg3 harg3 x2) (kernelRun0_A.sl.v1047 c arg3 harg3 arg4 harg4 arg9 harg9 arg11 harg11 x2 x3 x8 x10) (kernelRun0_A.sl.v1049 c arg3 harg3 arg4 harg4 arg9 harg9 arg11 harg11 x2 x3 x8 x10) (kernelRun0_A.sl.v148 (F := Ideal)) = (piece arg3 harg3 arg4 harg4 arg9 harg9 arg10 harg10 arg11 harg11 arg12 harg12 x2 x3 x8 x9 x10 x11 1 1).d3 1 := by rfl

theorem d_1_1_0 :
    k0_pay246 (F := Ideal) (kernelRun0_A.sl.v945 c arg3 harg3 x2) (kernelRun0_A.sl.r_89 c arg3 harg3 x2) (kernelRun0_A.sl.v1031 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 1 1).d3 0 := by rfl

theorem d_1_0_2 :
    k0_pay211 (F := Ideal) (kernelRun0_A.sl.r_78 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 1 0).d3 2 := by rfl

theorem d_1_0_1 :
    k0_pay210 (F := Ideal) (kernelRun0_A.sl.r_59 c arg3 harg3 x2) (kernelRun0_A.sl.r_68 c arg3 harg3 x2) (kernelRun0_A.sl.r_84 c arg3 harg3 arg4 harg4 arg9 harg9 arg11 harg11 x2 x3 x8 x10) (kernelRun0_A.sl.r_85 c arg3 harg3 x2) (kernelRun0_A.sl.cst_373 (F := Ideal)) = (piece arg3 harg3 arg4 harg4 arg9 harg9 arg10 harg10 arg11 harg11 arg12 harg12 x2 x3 x8 x9 x10 x11 1 0).d3 1 := by rfl

theorem d_1_0_0 :
    k0_pay209 (F := Ideal) (kernelRun0_A.sl.r_58 c arg3 harg3 x2) (kernelRun0_A.sl.r_66 c arg3 harg3 x2) (kernelRun0_A.sl.r_79 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 1 0).d3 0 := by rfl

theorem d_0_3_2 :
    k0_pay171 (F := Ideal) (kernelRun0_A.sl.v661 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 0 3).d3 2 := by rfl

theorem d_0_3_1 :
    k0_pay170 (F := Ideal) (kernelRun0_A.sl.v579 c arg3 harg3 x2) (kernelRun0_A.sl.r_48 c arg3 harg3 x2) (kernelRun0_A.sl.r_49 c arg3 harg3 x2) (kernelRun0_A.sl.r_50 c arg3 harg3 x2) (kernelRun0_A.sl.v685 c arg3 harg3 arg4 harg4 arg9 harg9 arg11 harg11 x2 x3 x8 x10) (kernelRun0_A.sl.v688 c arg3 harg3 arg4 harg4 arg9 harg9 arg11 harg11 x2 x3 x8 x10) = (piece arg3 harg3 arg4 harg4 arg9 harg9 arg10 harg10 arg11 harg11 arg12 harg12 x2 x3 x8 x9 x10 x11 0 3).d3 1 := by rfl

theorem d_0_3_0 :
    k0_pay169 (F := Ideal) (kernelRun0_A.sl.v577 c arg3 harg3 x2) (kernelRun0_A.sl.r_46 c arg3 harg3 x2) (kernelRun0_A.sl.v663 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 0 3).d3 0 := by rfl

theorem d_0_2_2 :
    k0_pay133 (F := Ideal) (kernelRun0_A.sl.r_36 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 0 2).d3 2 := by rfl

theorem d_0_2_1 :
    k0_pay132 (F := Ideal) (kernelRun0_A.sl.r_42 c arg3 harg3 arg4 harg4 arg9 harg9 arg11 harg11 x2 x3 x8 x10) = (piece arg3 harg3 arg4 harg4 arg9 harg9 arg10 harg10 arg11 harg11 arg12 harg12 x2 x3 x8 x9 x10 x11 0 2).d3 1 := by rfl

theorem d_0_2_0 :
    k0_pay131 (F := Ideal) (kernelRun0_A.sl.r_26 c arg3 harg3 x2) (kernelRun0_A.sl.r_33 c arg3 harg3 x2) (kernelRun0_A.sl.r_37 c arg3 harg3 arg4 harg4 arg9 harg9 arg10 harg10 arg11 harg11 arg12 harg12 x2 x3 x8 x9 x10 x11) (k0_pay130 (F := Ideal)) = (piece arg3 harg3 arg4 harg4 arg9 harg9 arg10 harg10 arg11 harg11 arg12 harg12 x2 x3 x8 x9 x10 x11 0 2).d3 0 := by rfl

theorem d_0_1_2 :
    kernelRun0_A.sl.v371 (F := Ideal) c arg3 harg3 arg4 harg4 arg9 harg9 arg10 harg10 arg11 harg11 arg12 harg12 x2 x3 x8 x9 x10 x11 = (piece arg3 harg3 arg4 harg4 arg9 harg9 arg10 harg10 arg11 harg11 arg12 harg12 x2 x3 x8 x9 x10 x11 0 1).d3 2 := by rfl

theorem d_0_1_1 :
    kernelRun0_A.sl.v367 (F := Ideal) c arg3 harg3 arg4 harg4 arg9 harg9 arg11 harg11 x2 x3 x8 x10 = (piece arg3 harg3 arg4 harg4 arg9 harg9 arg10 harg10 arg11 harg11 arg12 harg12 x2 x3 x8 x9 x10 x11 0 1).d3 1 := by rfl

theorem d_0_1_0 :
    k0_pay93 (F := Ideal) (kernelRun0_A.sl.v221 c arg3 harg3 x2) (kernelRun0_A.sl.r_18 c arg3 harg3 x2) (kernelRun0_A.sl.v307 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 0 1).d3 0 := by rfl

theorem d_0_0_2 :
    k0_pay58 (F := Ideal) (kernelRun0_A.sl.v127 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 0 0).d3 2 := by rfl

theorem d_0_0_1 :
    k0_pay57 (F := Ideal) (kernelRun0_A.sl.v45 c arg3 harg3 x2) (kernelRun0_A.sl.r_5 c arg3 harg3 x2) (kernelRun0_A.sl.r_6 c arg3 harg3 x2) (kernelRun0_A.sl.r_7 c arg3 harg3 x2) (kernelRun0_A.sl.v151 c arg3 harg3 arg4 harg4 arg9 harg9 arg11 harg11 x2 x3 x8 x10) (kernelRun0_A.sl.v156 c arg3 harg3 arg4 harg4 arg9 harg9 arg11 harg11 x2 x3 x8 x10) = (piece arg3 harg3 arg4 harg4 arg9 harg9 arg10 harg10 arg11 harg11 arg12 harg12 x2 x3 x8 x9 x10 x11 0 0).d3 1 := by rfl

theorem d_0_0_0 :
    k0_pay56 (F := Ideal) (kernelRun0_A.sl.v43 c arg3 harg3 x2) (kernelRun0_A.sl.r_3 c arg3 harg3 x2) (kernelRun0_A.sl.v129 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 0 0).d3 0 := by rfl

theorem dlg_0_0 :
    kernelRun0_A.sl.v143 (F := Ideal) c arg3 harg3 arg4 harg4 arg11 harg11 x2 x3 x10 = (piece arg3 harg3 arg4 harg4 arg9 harg9 arg10 harg10 arg11 harg11 arg12 harg12 x2 x3 x8 x9 x10 x11 0 0).dlg := by rfl

theorem dlg_0_1 :
    kernelRun0_A.sl.r_23 (F := Ideal) c arg3 harg3 arg4 harg4 arg11 harg11 x2 x3 x10 = (piece arg3 harg3 arg4 harg4 arg9 harg9 arg10 harg10 arg11 harg11 arg12 harg12 x2 x3 x8 x9 x10 x11 0 1).dlg := by rfl

theorem dlg_0_2 :
    kernelRun0_A.sl.r_41 (F := Ideal) c arg3 harg3 arg4 harg4 arg11 harg11 x2 x3 x10 = (piece arg3 harg3 arg4 harg4 arg9 harg9 arg10 harg10 arg11 harg11 arg12 harg12 x2 x3 x8 x9 x10 x11 0 2).dlg := by rfl

theorem dlg_0_3 :
    kernelRun0_A.sl.v677 (F := Ideal) c arg3 harg3 arg4 harg4 arg11 harg11 x2 x3 x10 = (piece arg3 harg3 arg4 harg4 arg9 harg9 arg10 harg10 arg11 harg11 arg12 harg12 x2 x3 x8 x9 x10 x11 0 3).dlg := by rfl

theorem dlg_1_0 :
    kernelRun0_A.sl.r_83 (F := Ideal) c arg3 harg3 arg4 harg4 arg11 harg11 x2 x3 x10 = (piece arg3 harg3 arg4 harg4 arg9 harg9 arg10 harg10 arg11 harg11 arg12 harg12 x2 x3 x8 x9 x10 x11 1 0).dlg := by rfl

theorem dlg_1_1 :
    kernelRun0_A.sl.v1045 (F := Ideal) c arg3 harg3 arg4 harg4 arg11 harg11 x2 x3 x10 = (piece arg3 harg3 arg4 harg4 arg9 harg9 arg10 harg10 arg11 harg11 arg12 harg12 x2 x3 x8 x9 x10 x11 1 1).dlg := by rfl

theorem dlg_1_2 :
    kernelRun0_A.sl.r_118 (F := Ideal) c arg3 harg3 arg4 harg4 arg11 harg11 x2 x3 x10 = (piece arg3 harg3 arg4 harg4 arg9 harg9 arg10 harg10 arg11 harg11 arg12 harg12 x2 x3 x8 x9 x10 x11 1 2).dlg := by rfl

theorem dlg_1_3 :
    kernelRun0_A.sl.r_133 (F := Ideal) c arg3 harg3 arg4 harg4 arg11 harg11 x2 x3 x10 = (piece arg3 harg3 arg4 harg4 arg9 harg9 arg10 harg10 arg11 harg11 arg12 harg12 x2 x3 x8 x9 x10 x11 1 3).dlg := by rfl

theorem dlb_0_0 :
    kernelRun0_A.sl.v140 (F := Ideal) c arg3 harg3 arg4 harg4 arg11 harg11 x2 x3 x10 = (piece arg3 harg3 arg4 harg4 arg9 harg9 arg10 harg10 arg11 harg11 arg12 harg12 x2 x3 x8 x9 x10 x11 0 0).dlb := by rfl

theorem dlb_0_1 :
    kernelRun0_A.sl.v318 (F := Ideal) c arg3 harg3 arg4 harg4 arg11 harg11 x2 x3 x10 = (piece arg3 harg3 arg4 harg4 arg9 harg9 arg10 harg10 arg11 harg11 arg12 harg12 x2 x3 x8 x9 x10 x11 0 1).dlb := by rfl

theorem dlb_0_2 :
    kernelRun0_A.sl.r_40 (F := Ideal) c arg3 harg3 arg4 harg4 arg11 harg11 x2 x3 x10 = (piece arg3 harg3 arg4 harg4 arg9 harg9 arg10 harg10 arg11 harg11 arg12 harg12 x2 x3 x8 x9 x10 x11 0 2).dlb := by rfl

theorem dlb_0_3 :
    kernelRun0_A.sl.v674 (F := Ideal) c arg3 harg3 arg4 harg4 arg11 harg11 x2 x3 x10 = (piece arg3 harg3 arg4 harg4 arg9 harg9 arg10 harg10 arg11 harg11 arg12 harg12 x2 x3 x8 x9 x10 x11 0 3).dlb := by rfl

theorem dlb_1_0 :
    kernelRun0_A.sl.r_82 (F := Ideal) c arg3 harg3 arg4 harg4 arg11 harg11 x2 x3 x10 = (piece arg3 harg3 arg4 harg4 arg9 harg9 arg10 harg10 arg11 harg11 arg12 harg12 x2 x3 x8 x9 x10 x11 1 0).dlb := by rfl

theorem dlb_1_1 :
    kernelRun0_A.sl.v1042 (F := Ideal) c arg3 harg3 arg4 harg4 arg11 harg11 x2 x3 x10 = (piece arg3 harg3 arg4 harg4 arg9 harg9 arg10 harg10 arg11 harg11 arg12 harg12 x2 x3 x8 x9 x10 x11 1 1).dlb := by rfl

theorem dlb_1_2 :
    kernelRun0_A.sl.r_117 (F := Ideal) c arg3 harg3 arg4 harg4 arg11 harg11 x2 x3 x10 = (piece arg3 harg3 arg4 harg4 arg9 harg9 arg10 harg10 arg11 harg11 arg12 harg12 x2 x3 x8 x9 x10 x11 1 2).dlb := by rfl

theorem dlb_1_3 :
    kernelRun0_A.sl.r_132 (F := Ideal) c arg3 harg3 arg4 harg4 arg11 harg11 x2 x3 x10 = (piece arg3 harg3 arg4 harg4 arg9 harg9 arg10 harg10 arg11 harg11 arg12 harg12 x2 x3 x8 x9 x10 x11 1 3).dlb := by rfl

theorem db_0_0 :
    kernelRun0_A.sl.v131 (F := Ideal) c arg3 harg3 arg4 harg4 x2 x3 = (piece arg3 harg3 arg4 harg4 arg9 harg9 arg10 harg10 arg11 harg11 arg12 harg12 x2 x3 x8 x9 x10 x11 0 0).db := by rfl

theorem db_0_1 :
    kernelRun0_A.sl.v309 (F := Ideal) c arg3 harg3 arg4 harg4 x2 x3 = (piece arg3 harg3 arg4 harg4 arg9 harg9 arg10 harg10 arg11 harg11 arg12 harg12 x2 x3 x8 x9 x10 x11 0 1).db := by rfl

theorem db_0_2 :
    kernelRun0_A.sl.r_38 (F := Ideal) c arg3 harg3 arg4 harg4 x2 x3 = (piece arg3 harg3 arg4 harg4 arg9 harg9 arg10 harg10 arg11 harg11 arg12 harg12 x2 x3 x8 x9 x10 x11 0 2).db := by rfl

theorem db_0_3 :
    kernelRun0_A.sl.v665 (F := Ideal) c arg3 harg3 arg4 harg4 x2 x3 = (piece arg3 harg3 arg4 harg4 arg9 harg9 arg10 harg10 arg11 harg11 arg12 harg12 x2 x3 x8 x9 x10 x11 0 3).db := by rfl

theorem db_1_0 :
    kernelRun0_A.sl.r_80 (F := Ideal) c arg3 harg3 arg4 harg4 x2 x3 = (piece arg3 harg3 arg4 harg4 arg9 harg9 arg10 harg10 arg11 harg11 arg12 harg12 x2 x3 x8 x9 x10 x11 1 0).db := by rfl

theorem db_1_1 :
    kernelRun0_A.sl.v1033 (F := Ideal) c arg3 harg3 arg4 harg4 x2 x3 = (piece arg3 harg3 arg4 harg4 arg9 harg9 arg10 harg10 arg11 harg11 arg12 harg12 x2 x3 x8 x9 x10 x11 1 1).db := by rfl

theorem db_1_2 :
    kernelRun0_A.sl.r_115 (F := Ideal) c arg3 harg3 arg4 harg4 x2 x3 = (piece arg3 harg3 arg4 harg4 arg9 harg9 arg10 harg10 arg11 harg11 arg12 harg12 x2 x3 x8 x9 x10 x11 1 2).db := by rfl

theorem db_1_3 :
    kernelRun0_A.sl.v1403 (F := Ideal) c arg3 harg3 arg4 harg4 x2 x3 = (piece arg3 harg3 arg4 harg4 arg9 harg9 arg10 harg10 arg11 harg11 arg12 harg12 x2 x3 x8 x9 x10 x11 1 3).db := by rfl

theorem un_0_0 :
    kernelRun0_A.sl.v138 (F := Ideal) c arg3 harg3 arg4 harg4 arg9 harg9 arg10 harg10 x2 x3 x8 x9 = k0_pay49 (piece arg3 harg3 arg4 harg4 arg9 harg9 arg10 harg10 arg11 harg11 arg12 harg12 x2 x3 x8 x9 x10 x11 0 0).z (piece arg3 harg3 arg4 harg4 arg9 harg9 arg10 harg10 arg11 harg11 arg12 harg12 x2 x3 x8 x9 x10 x11 0 0).g (k0_pay38 (piece arg3 harg3 arg4 harg4 arg9 harg9 arg10 harg10 arg11 harg11 arg12 harg12 x2 x3 x8 x9 x10 x11 0 0).v (piece arg3 harg3 arg4 harg4 arg9 harg9 arg10 harg10 arg11 harg11 arg12 harg12 x2 x3 x8 x9 x10 x11 0 0).lg (piece arg3 harg3 arg4 harg4 arg9 harg9 arg10 harg10 arg11 harg11 arg12 harg12 x2 x3 x8 x9 x10 x11 0 0).lb) (piece arg3 harg3 arg4 harg4 arg9 harg9 arg10 harg10 arg11 harg11 arg12 harg12 x2 x3 x8 x9 x10 x11 0 0).h (piece arg3 harg3 arg4 harg4 arg9 harg9 arg10 harg10 arg11 harg11 arg12 harg12 x2 x3 x8 x9 x10 x11 0 0).ct := by rfl

theorem un_0_1 :
    kernelRun0_A.sl.v316 (F := Ideal) c arg3 harg3 arg4 harg4 arg9 harg9 arg10 harg10 x2 x3 x8 x9 = k0_pay49 (piece arg3 harg3 arg4 harg4 arg9 harg9 arg10 harg10 arg11 harg11 arg12 harg12 x2 x3 x8 x9 x10 x11 0 1).z (piece arg3 harg3 arg4 harg4 arg9 harg9 arg10 harg10 arg11 harg11 arg12 harg12 x2 x3 x8 x9 x10 x11 0 1).g (k0_pay38 (piece arg3 harg3 arg4 harg4 arg9 harg9 arg10 harg10 arg11 harg11 arg12 harg12 x2 x3 x8 x9 x10 x11 0 1).v (piece arg3 harg3 arg4 harg4 arg9 harg9 arg10 harg10 arg11 harg11 arg12 harg12 x2 x3 x8 x9 x10 x11 0 1).lg (piece arg3 harg3 arg4 harg4 arg9 harg9 arg10 harg10 arg11 harg11 arg12 harg12 x2 x3 x8 x9 x10 x11 0 1).lb) (piece arg3 harg3 arg4 harg4 arg9 harg9 arg10 harg10 arg11 harg11 arg12 harg12 x2 x3 x8 x9 x10 x11 0 1).h (piece arg3 harg3 arg4 harg4 arg9 harg9 arg10 harg10 arg11 harg11 arg12 harg12 x2 x3 x8 x9 x10 x11 0 1).ct := by rfl

theorem un_0_2 :
    kernelRun0_A.sl.r_39 (F := Ideal) c arg3 harg3 arg4 harg4 arg9 harg9 arg10 harg10 x2 x3 x8 x9 = k0_pay49 (piece arg3 harg3 arg4 harg4 arg9 harg9 arg10 harg10 arg11 harg11 arg12 harg12 x2 x3 x8 x9 x10 x11 0 2).z (piece arg3 harg3 arg4 harg4 arg9 harg9 arg10 harg10 arg11 harg11 arg12 harg12 x2 x3 x8 x9 x10 x11 0 2).g (k0_pay38 (piece arg3 harg3 arg4 harg4 arg9 harg9 arg10 harg10 arg11 harg11 arg12 harg12 x2 x3 x8 x9 x10 x11 0 2).v (piece arg3 harg3 arg4 harg4 arg9 harg9 arg10 harg10 arg11 harg11 arg12 harg12 x2 x3 x8 x9 x10 x11 0 2).lg (piece arg3 harg3 arg4 harg4 arg9 harg9 arg10 harg10 arg11 harg11 arg12 harg12 x2 x3 x8 x9 x10 x11 0 2).lb) (piece arg3 harg3 arg4 harg4 arg9 harg9 arg10 harg10 arg11 harg11 arg12 harg12 x2 x3 x8 x9 x10 x11 0 2).h (piece arg3 harg3 arg4 harg4 arg9 harg9 arg10 harg10 arg11 harg11 arg12 harg12 x2 x3 x8 x9 x10 x11 0 2).ct := by rfl

theorem un_0_3 :
    kernelRun0_A.sl.v672 (F := Ideal) c arg3 harg3 arg4 harg4 arg9 harg9 arg10 harg10 x2 x3 x8 x9 = k0_pay49 (piece arg3 harg3 arg4 harg4 arg9 harg9 arg10 harg10 arg11 harg11 arg12 harg12 x2 x3 x8 x9 x10 x11 0 3).z (piece arg3 harg3 arg4 harg4 arg9 harg9 arg10 harg10 arg11 harg11 arg12 harg12 x2 x3 x8 x9 x10 x11 0 3).g (k0_pay38 (piece arg3 harg3 arg4 harg4 arg9 harg9 arg10 harg10 arg11 harg11 arg12 harg12 x2 x3 x8 x9 x10 x11 0 3).v (piece arg3 harg3 arg4 harg4 arg9 harg9 arg10 harg10 arg11 harg11 arg12 harg12 x2 x3 x8 x9 x10 x11 0 3).lg (piece arg3 harg3 arg4 harg4 arg9 harg9 arg10 harg10 arg11 harg11 arg12 harg12 x2 x3 x8 x9 x10 x11 0 3).lb) (piece arg3 harg3 arg4 harg4 arg9 harg9 arg10 harg10 arg11 harg11 arg12 harg12 x2 x3 x8 x9 x10 x11 0 3).h (piece arg3 harg3 arg4 harg4 arg9 harg9 arg10 harg10 arg11 harg11 arg12 harg12 x2 x3 x8 x9 x10 x11 0 3).ct := by rfl

theorem un_1_0 :
    kernelRun0_A.sl.r_81 (F := Ideal) c arg3 harg3 arg4 harg4 arg9 harg9 arg10 harg10 x2 x3 x8 x9 = k0_pay49 (piece arg3 harg3 arg4 harg4 arg9 harg9 arg10 harg10 arg11 harg11 arg12 harg12 x2 x3 x8 x9 x10 x11 1 0).z (piece arg3 harg3 arg4 harg4 arg9 harg9 arg10 harg10 arg11 harg11 arg12 harg12 x2 x3 x8 x9 x10 x11 1 0).g (k0_pay38 (piece arg3 harg3 arg4 harg4 arg9 harg9 arg10 harg10 arg11 harg11 arg12 harg12 x2 x3 x8 x9 x10 x11 1 0).v (piece arg3 harg3 arg4 harg4 arg9 harg9 arg10 harg10 arg11 harg11 arg12 harg12 x2 x3 x8 x9 x10 x11 1 0).lg (piece arg3 harg3 arg4 harg4 arg9 harg9 arg10 harg10 arg11 harg11 arg12 harg12 x2 x3 x8 x9 x10 x11 1 0).lb) (piece arg3 harg3 arg4 harg4 arg9 harg9 arg10 harg10 arg11 harg11 arg12 harg12 x2 x3 x8 x9 x10 x11 1 0).h (piece arg3 harg3 arg4 harg4 arg9 harg9 arg10 harg10 arg11 harg11 arg12 harg12 x2 x3 x8 x9 x10 x11 1 0).ct := by rfl

theorem un_1_1 :
    kernelRun0_A.sl.v1040 (F := Ideal) c arg3 harg3 arg4 harg4 arg9 harg9 arg10 harg10 x2 x3 x8 x9 = k0_pay49 (piece arg3 harg3 arg4 harg4 arg9 harg9 arg10 harg10 arg11 harg11 arg12 harg12 x2 x3 x8 x9 x10 x11 1 1).z (piece arg3 harg3 arg4 harg4 arg9 harg9 arg10 harg10 arg11 harg11 arg12 harg12 x2 x3 x8 x9 x10 x11 1 1).g (k0_pay38 (piece arg3 harg3 arg4 harg4 arg9 harg9 arg10 harg10 arg11 harg11 arg12 harg12 x2 x3 x8 x9 x10 x11 1 1).v (piece arg3 harg3 arg4 harg4 arg9 harg9 arg10 harg10 arg11 harg11 arg12 harg12 x2 x3 x8 x9 x10 x11 1 1).lg (piece arg3 harg3 arg4 harg4 arg9 harg9 arg10 harg10 arg11 harg11 arg12 harg12 x2 x3 x8 x9 x10 x11 1 1).lb) (piece arg3 harg3 arg4 harg4 arg9 harg9 arg10 harg10 arg11 harg11 arg12 harg12 x2 x3 x8 x9 x10 x11 1 1).h (piece arg3 harg3 arg4 harg4 arg9 harg9 arg10 harg10 arg11 harg11 arg12 harg12 x2 x3 x8 x9 x10 x11 1 1).ct := by rfl

theorem un_1_2 :
    kernelRun0_A.sl.r_116 (F := Ideal) c arg3 harg3 arg4 harg4 arg9 harg9 arg10 harg10 x2 x3 x8 x9 = k0_pay49 (piece arg3 harg3 arg4 harg4 arg9 harg9 arg10 harg10 arg11 harg11 arg12 harg12 x2 x3 x8 x9 x10 x11 1 2).z (piece arg3 harg3 arg4 harg4 arg9 harg9 arg10 harg10 arg11 harg11 arg12 harg12 x2 x3 x8 x9 x10 x11 1 2).g (k0_pay38 (piece arg3 harg3 arg4 harg4 arg9 harg9 arg10 harg10 arg11 harg11 arg12 harg12 x2 x3 x8 x9 x10 x11 1 2).v (piece arg3 harg3 arg4 harg4 arg9 harg9 arg10 harg10 arg11 harg11 arg12 harg12 x2 x3 x8 x9 x10 x11 1 2).lg (piece arg3 harg3 arg4 harg4 arg9 harg9 arg10 harg10 arg11 harg11 arg12 harg12 x2 x3 x8 x9 x10 x11 1 2).lb) (piece arg3 harg3 arg4 harg4 arg9 harg9 arg10 harg10 arg11 harg11 arg12 harg12 x2 x3 x8 x9 x10 x11 1 2).h (piece arg3 harg3 arg4 harg4 arg9 harg9 arg10 harg10 arg11 harg11 arg12 harg12 x2 x3 x8 x9 x10 x11 1 2).ct := by rfl

theorem un_1_3 :
    kernelRun0_A.sl.v1410 (F := Ideal) c arg3 harg3 arg4 harg4 arg9 harg9 arg10 harg10 x2 x3 x8 x9 = k0_pay49 (piece arg3 harg3 arg4 harg4 arg9 harg9 arg10 harg10 arg11 harg11 arg12 harg12 x2 x3 x8 x9 x10 x11 1 3).z (piece arg3 harg3 arg4 harg4 arg9 harg9 arg10 harg10 arg11 harg11 arg12 harg12 x2 x3 x8 x9 x10 x11 1 3).g (k0_pay38 (piece arg3 harg3 arg4 harg4 arg9 harg9 arg10 harg10 arg11 harg11 arg12 harg12 x2 x3 x8 x9 x10 x11 1 3).v (piece arg3 harg3 arg4 harg4 arg9 harg9 arg10 harg10 arg11 harg11 arg12 harg12 x2 x3 x8 x9 x10 x11 1 3).lg (piece arg3 harg3 arg4 harg4 arg9 harg9 arg10 harg10 arg11 harg11 arg12 harg12 x2 x3 x8 x9 x10 x11 1 3).lb) (piece arg3 harg3 arg4 harg4 arg9 harg9 arg10 harg10 arg11 harg11 arg12 harg12 x2 x3 x8 x9 x10 x11 1 3).h (piece arg3 harg3 arg4 harg4 arg9 harg9 arg10 harg10 arg11 harg11 arg12 harg12 x2 x3 x8 x9 x10 x11 1 3).ct := by rfl

theorem dws_0_0 :
    kernelRun0_A.sl.r_13 (F := Ideal) c arg3 harg3 arg4 harg4 arg9 harg9 arg10 harg10 x2 x3 x8 x9 = (piece arg3 harg3 arg4 harg4 arg9 harg9 arg10 harg10 arg11 harg11 arg12 harg12 x2 x3 x8 x9 x10 x11 0 0).dws :=
  congrArg (k0_pay55 mask) (un_0_0 ..)

theorem dws_0_1 :
    kernelRun0_A.sl.r_24 (F := Ideal) c arg3 harg3 arg4 harg4 arg9 harg9 arg10 harg10 x2 x3 x8 x9 = (piece arg3 harg3 arg4 harg4 arg9 harg9 arg10 harg10 arg11 harg11 arg12 harg12 x2 x3 x8 x9 x10 x11 0 1).dws :=
  congrArg (k0_pay55 mask) (un_0_1 ..)

theorem dws_0_2 :
    k0_pay55 mask (kernelRun0_A.sl.r_39 (F := Ideal) c arg3 harg3 arg4 harg4 arg9 harg9 arg10 harg10 x2 x3 x8 x9) = (piece arg3 harg3 arg4 harg4 arg9 harg9 arg10 harg10 arg11 harg11 arg12 harg12 x2 x3 x8 x9 x10 x11 0 2).dws :=
  congrArg (k0_pay55 mask) (un_0_2 ..)

theorem dws_0_3 :
    kernelRun0_A.sl.r_55 (F := Ideal) c arg3 harg3 arg4 harg4 arg9 harg9 arg10 harg10 x2 x3 x8 x9 = (piece arg3 harg3 arg4 harg4 arg9 harg9 arg10 harg10 arg11 harg11 arg12 harg12 x2 x3 x8 x9 x10 x11 0 3).dws :=
  congrArg (k0_pay55 mask) (un_0_3 ..)

theorem dws_1_0 :
    kernelRun0_A.sl.r_86 (F := Ideal) c arg3 harg3 arg4 harg4 arg9 harg9 arg10 harg10 x2 x3 x8 x9 = (piece arg3 harg3 arg4 harg4 arg9 harg9 arg10 harg10 arg11 harg11 arg12 harg12 x2 x3 x8 x9 x10 x11 1 0).dws :=
  congrArg (k0_pay55 mask) (un_1_0 ..)

theorem dws_1_1 :
    kernelRun0_A.sl.r_95 (F := Ideal) c arg3 harg3 arg4 harg4 arg9 harg9 arg10 harg10 x2 x3 x8 x9 = (piece arg3 harg3 arg4 harg4 arg9 harg9 arg10 harg10 arg11 harg11 arg12 harg12 x2 x3 x8 x9 x10 x11 1 1).dws :=
  congrArg (k0_pay55 mask) (un_1_1 ..)

theorem dws_1_2 :
    kernelRun0_A.sl.r_121 (F := Ideal) c arg3 harg3 arg4 harg4 arg9 harg9 arg10 harg10 x2 x3 x8 x9 = (piece arg3 harg3 arg4 harg4 arg9 harg9 arg10 harg10 arg11 harg11 arg12 harg12 x2 x3 x8 x9 x10 x11 1 2).dws :=
  congrArg (k0_pay55 mask) (un_1_2 ..)

theorem dws_1_3 :
    kernelRun0_A.sl.r_134 (F := Ideal) c arg3 harg3 arg4 harg4 arg9 harg9 arg10 harg10 x2 x3 x8 x9 = (piece arg3 harg3 arg4 harg4 arg9 harg9 arg10 harg10 arg11 harg11 arg12 harg12 x2 x3 x8 x9 x10 x11 1 3).dws :=
  congrArg (k0_pay55 mask) (un_1_3 ..)

/-- The point's stores of the gating unit's gradients. -/
theorem gates_eq :
    kernelRun0_A.sl.HS2_24 (F := Ideal) c arg3 harg3 arg4 harg4 arg9 harg9 arg10 harg10 arg11 harg11 arg12 harg12 x2 x3 x8 x9 x10 x11 = gates fun k g q => (piece arg3 harg3 arg4 harg4 arg9 harg9 arg10 harg10 arg11 harg11 arg12 harg12 x2 x3 x8 x9 x10 x11 k g).d3 q := by
  have e : ![![![k0_pay56 (F := Ideal) (kernelRun0_A.sl.v43 c arg3 harg3 x2) (kernelRun0_A.sl.r_3 c arg3 harg3 x2) (kernelRun0_A.sl.v129 c arg3 harg3 arg4 harg4 arg9 harg9 arg10 harg10 arg11 harg11 arg12 harg12 x2 x3 x8 x9 x10 x11), k0_pay57 (F := Ideal) (kernelRun0_A.sl.v45 c arg3 harg3 x2) (kernelRun0_A.sl.r_5 c arg3 harg3 x2) (kernelRun0_A.sl.r_6 c arg3 harg3 x2) (kernelRun0_A.sl.r_7 c arg3 harg3 x2) (kernelRun0_A.sl.v151 c arg3 harg3 arg4 harg4 arg9 harg9 arg11 harg11 x2 x3 x8 x10) (kernelRun0_A.sl.v156 c arg3 harg3 arg4 harg4 arg9 harg9 arg11 harg11 x2 x3 x8 x10), k0_pay58 (F := Ideal) (kernelRun0_A.sl.v127 c arg3 harg3 arg4 harg4 arg9 harg9 arg10 harg10 arg11 harg11 arg12 harg12 x2 x3 x8 x9 x10 x11)], ![k0_pay93 (F := Ideal) (kernelRun0_A.sl.v221 c arg3 harg3 x2) (kernelRun0_A.sl.r_18 c arg3 harg3 x2) (kernelRun0_A.sl.v307 c arg3 harg3 arg4 harg4 arg9 harg9 arg10 harg10 arg11 harg11 arg12 harg12 x2 x3 x8 x9 x10 x11), kernelRun0_A.sl.v367 (F := Ideal) c arg3 harg3 arg4 harg4 arg9 harg9 arg11 harg11 x2 x3 x8 x10, kernelRun0_A.sl.v371 (F := Ideal) c arg3 harg3 arg4 harg4 arg9 harg9 arg10 harg10 arg11 harg11 arg12 harg12 x2 x3 x8 x9 x10 x11], ![k0_pay131 (F := Ideal) (kernelRun0_A.sl.r_26 c arg3 harg3 x2) (kernelRun0_A.sl.r_33 c arg3 harg3 x2) (kernelRun0_A.sl.r_37 c arg3 harg3 arg4 harg4 arg9 harg9 arg10 harg10 arg11 harg11 arg12 harg12 x2 x3 x8 x9 x10 x11) (k0_pay130 (F := Ideal)), k0_pay132 (F := Ideal) (kernelRun0_A.sl.r_42 c arg3 harg3 arg4 harg4 arg9 harg9 arg11 harg11 x2 x3 x8 x10), k0_pay133 (F := Ideal) (kernelRun0_A.sl.r_36 c arg3 harg3 arg4 harg4 arg9 harg9 arg10 harg10 arg11 harg11 arg12 harg12 x2 x3 x8 x9 x10 x11)], ![k0_pay169 (F := Ideal) (kernelRun0_A.sl.v577 c arg3 harg3 x2) (kernelRun0_A.sl.r_46 c arg3 harg3 x2) (kernelRun0_A.sl.v663 c arg3 harg3 arg4 harg4 arg9 harg9 arg10 harg10 arg11 harg11 arg12 harg12 x2 x3 x8 x9 x10 x11), k0_pay170 (F := Ideal) (kernelRun0_A.sl.v579 c arg3 harg3 x2) (kernelRun0_A.sl.r_48 c arg3 harg3 x2) (kernelRun0_A.sl.r_49 c arg3 harg3 x2) (kernelRun0_A.sl.r_50 c arg3 harg3 x2) (kernelRun0_A.sl.v685 c arg3 harg3 arg4 harg4 arg9 harg9 arg11 harg11 x2 x3 x8 x10) (kernelRun0_A.sl.v688 c arg3 harg3 arg4 harg4 arg9 harg9 arg11 harg11 x2 x3 x8 x10), k0_pay171 (F := Ideal) (kernelRun0_A.sl.v661 c arg3 harg3 arg4 harg4 arg9 harg9 arg10 harg10 arg11 harg11 arg12 harg12 x2 x3 x8 x9 x10 x11)]], ![![k0_pay209 (F := Ideal) (kernelRun0_A.sl.r_58 c arg3 harg3 x2) (kernelRun0_A.sl.r_66 c arg3 harg3 x2) (kernelRun0_A.sl.r_79 c arg3 harg3 arg4 harg4 arg9 harg9 arg10 harg10 arg11 harg11 arg12 harg12 x2 x3 x8 x9 x10 x11), k0_pay210 (F := Ideal) (kernelRun0_A.sl.r_59 c arg3 harg3 x2) (kernelRun0_A.sl.r_68 c arg3 harg3 x2) (kernelRun0_A.sl.r_84 c arg3 harg3 arg4 harg4 arg9 harg9 arg11 harg11 x2 x3 x8 x10) (kernelRun0_A.sl.r_85 c arg3 harg3 x2) (kernelRun0_A.sl.cst_373 (F := Ideal)), k0_pay211 (F := Ideal) (kernelRun0_A.sl.r_78 c arg3 harg3 arg4 harg4 arg9 harg9 arg10 harg10 arg11 harg11 arg12 harg12 x2 x3 x8 x9 x10 x11)], ![k0_pay246 (F := Ideal) (kernelRun0_A.sl.v945 c arg3 harg3 x2) (kernelRun0_A.sl.r_89 c arg3 harg3 x2) (kernelRun0_A.sl.v1031 c arg3 harg3 arg4 harg4 arg9 harg9 arg10 harg10 arg11 harg11 arg12 harg12 x2 x3 x8 x9 x10 x11), k0_pay247 (F := Ideal) (kernelRun0_A.sl.v947 c arg3 harg3 x2) (kernelRun0_A.sl.r_91 c arg3 harg3 x2) (kernelRun0_A.sl.r_92 c arg3 harg3 x2) (kernelRun0_A.sl.r_93 c arg3 harg3 x2) (kernelRun0_A.sl.v1047 c arg3 harg3 arg4 harg4 arg9 harg9 arg11 harg11 x2 x3 x8 x10) (kernelRun0_A.sl.v1049 c arg3 harg3 arg4 harg4 arg9 harg9 arg11 harg11 x2 x3 x8 x10) (kernelRun0_A.sl.v148 (F := Ideal)), kernelRun0_A.sl.r_96 (F := Ideal) c arg3 harg3 arg4 harg4 arg9 harg9 arg10 harg10 arg11 harg11 arg12 harg12 x2 x3 x8 x9 x10 x11], ![k0_pay284 (F := Ideal) (kernelRun0_A.sl.r_97 c arg3 harg3 x2) (kernelRun0_A.sl.r_102 c arg3 harg3 x2) (kernelRun0_A.sl.r_114 c arg3 harg3 arg4 harg4 arg9 harg9 arg10 harg10 arg11 harg11 arg12 harg12 x2 x3 x8 x9 x10 x11), k0_pay285 (F := Ideal) (kernelRun0_A.sl.r_104 c arg3 harg3 x2) (kernelRun0_A.sl.r_119 c arg3 harg3 arg4 harg4 arg9 harg9 arg11 harg11 x2 x3 x8 x10) (kernelRun0_A.sl.r_120 c arg3 harg3 x2), k0_pay286 (F := Ideal) (kernelRun0_A.sl.r_113 c arg3 harg3 arg4 harg4 arg9 harg9 arg10 harg10 arg11 harg11 arg12 harg12 x2 x3 x8 x9 x10 x11)], ![k0_pay323 (F := Ideal) (kernelRun0_A.sl.v1315 c arg3 harg3 x2) (kernelRun0_A.sl.r_127 c arg3 harg3 x2) (kernelRun0_A.sl.v1401 c arg3 harg3 arg4 harg4 arg9 harg9 arg10 harg10 arg11 harg11 arg12 harg12 x2 x3 x8 x9 x10 x11), kernelRun0_A.sl.v1461 (F := Ideal) c arg3 harg3 arg4 harg4 arg9 harg9 arg11 harg11 x2 x3 x8 x10, kernelRun0_A.sl.v1465 (F := Ideal) c arg3 harg3 arg4 harg4 arg9 harg9 arg10 harg10 arg11 harg11 arg12 harg12 x2 x3 x8 x9 x10 x11]]] = fun k g q => (piece arg3 harg3 arg4 harg4 arg9 harg9 arg10 harg10 arg11 harg11 arg12 harg12 x2 x3 x8 x9 x10 x11 k g).d3 q := by
    funext k g q
    fin_cases k <;> fin_cases g <;> fin_cases q
    exacts [d_0_0_0 .., d_0_0_1 .., d_0_0_2 .., d_0_1_0 .., d_0_1_1 .., d_0_1_2 .., d_0_2_0 .., d_0_2_1 .., d_0_2_2 .., d_0_3_0 .., d_0_3_1 .., d_0_3_2 .., d_1_0_0 .., d_1_0_1 .., d_1_0_2 .., d_1_1_0 .., d_1_1_1 .., d_1_1_2 .., d_1_2_0 .., d_1_2_1 .., d_1_2_2 .., d_1_3_0 .., d_1_3_1 .., d_1_3_2 ..]
  rw [← e]
  rfl

/-- What the point leaves in output 16. -/
theorem out_16 :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0a hc1 x0 x1 x2 x3 x4 x5 x6 x7 x8 x9 x10 x11 x12 x13
      = VO0_16.read (Elt Ideal) (VO0_16.writes (Elt Ideal) VO0_16.junk (rowA8 arg18 [⟨Rect.unit ![0, 0] S1x512.size inb_S1x512_S1x512_0_0, k0_pay12 (F := Ideal)⟩] fun k g => (piece arg3 harg3 arg4 harg4 arg9 harg9 arg10 harg10 arg11 harg11 arg12 harg12 x2 x3 x8 x9 x10 x11 k g).dlg)) := by
  have e : ![![kernelRun0_A.sl.v143 (F := Ideal) c arg3 harg3 arg4 harg4 arg11 harg11 x2 x3 x10, kernelRun0_A.sl.r_23 (F := Ideal) c arg3 harg3 arg4 harg4 arg11 harg11 x2 x3 x10, kernelRun0_A.sl.r_41 (F := Ideal) c arg3 harg3 arg4 harg4 arg11 harg11 x2 x3 x10, kernelRun0_A.sl.v677 (F := Ideal) c arg3 harg3 arg4 harg4 arg11 harg11 x2 x3 x10], ![kernelRun0_A.sl.r_83 (F := Ideal) c arg3 harg3 arg4 harg4 arg11 harg11 x2 x3 x10, kernelRun0_A.sl.v1045 (F := Ideal) c arg3 harg3 arg4 harg4 arg11 harg11 x2 x3 x10, kernelRun0_A.sl.r_118 (F := Ideal) c arg3 harg3 arg4 harg4 arg11 harg11 x2 x3 x10, kernelRun0_A.sl.r_133 (F := Ideal) c arg3 harg3 arg4 harg4 arg11 harg11 x2 x3 x10]] = fun k g => (piece arg3 harg3 arg4 harg4 arg9 harg9 arg10 harg10 arg11 harg11 arg12 harg12 x2 x3 x8 x9 x10 x11 k g).dlg := by
    funext k g
    fin_cases k <;> fin_cases g
    exacts [dlg_0_0 .., dlg_0_1 .., dlg_0_2 .., dlg_0_3 .., dlg_1_0 .., dlg_1_1 .., dlg_1_2 .., dlg_1_3 ..]
  rw [← e]
  rfl

/-- What the point leaves in output 17. -/
theorem out_17 :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0a hc1 x0 x1 x2 x3 x4 x5 x6 x7 x8 x9 x10 x11 x12 x13
      = VO0_17.read (Elt Ideal) (VO0_17.writes (Elt Ideal) VO0_17.junk (rowA8 arg19 [⟨Rect.unit ![0, 0] S1x512.size inb_S1x512_S1x512_0_0, k0_pay12 (F := Ideal)⟩] fun k g => (piece arg3 harg3 arg4 harg4 arg9 harg9 arg10 harg10 arg11 harg11 arg12 harg12 x2 x3 x8 x9 x10 x11 k g).dlb)) := by
  have e : ![![kernelRun0_A.sl.v140 (F := Ideal) c arg3 harg3 arg4 harg4 arg11 harg11 x2 x3 x10, kernelRun0_A.sl.v318 (F := Ideal) c arg3 harg3 arg4 harg4 arg11 harg11 x2 x3 x10, kernelRun0_A.sl.r_40 (F := Ideal) c arg3 harg3 arg4 harg4 arg11 harg11 x2 x3 x10, kernelRun0_A.sl.v674 (F := Ideal) c arg3 harg3 arg4 harg4 arg11 harg11 x2 x3 x10], ![kernelRun0_A.sl.r_82 (F := Ideal) c arg3 harg3 arg4 harg4 arg11 harg11 x2 x3 x10, kernelRun0_A.sl.v1042 (F := Ideal) c arg3 harg3 arg4 harg4 arg11 harg11 x2 x3 x10, kernelRun0_A.sl.r_117 (F := Ideal) c arg3 harg3 arg4 harg4 arg11 harg11 x2 x3 x10, kernelRun0_A.sl.r_132 (F := Ideal) c arg3 harg3 arg4 harg4 arg11 harg11 x2 x3 x10]] = fun k g => (piece arg3 harg3 arg4 harg4 arg9 harg9 arg10 harg10 arg11 harg11 arg12 harg12 x2 x3 x8 x9 x10 x11 k g).dlb := by
    funext k g
    fin_cases k <;> fin_cases g
    exacts [dlb_0_0 .., dlb_0_1 .., dlb_0_2 .., dlb_0_3 .., dlb_1_0 .., dlb_1_1 .., dlb_1_2 .., dlb_1_3 ..]
  rw [← e]
  rfl

set_option maxHeartbeats 2000000 in
/-- What the point leaves in output 18. -/
theorem out_18 :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0a hc1 x0 x1 x2 x3 x4 x5 x6 x7 x8 x9 x10 x11 x12 x13
      = VO0_18.read (Elt Ideal) (VO0_18.writes (Elt Ideal) VO0_18.junk (cubeA8 arg20 [⟨Rect.unit ![0, 0, 0] S4x128x128.size inb_S4x128x128_S4x128x128_0_0_0, k0_pay14 (F := Ideal)⟩] fun k g => (piece arg3 harg3 arg4 harg4 arg9 harg9 arg10 harg10 arg11 harg11 arg12 harg12 x2 x3 x8 x9 x10 x11 k g).dws)) := by
  have e : ![![kernelRun0_A.sl.r_13 (F := Ideal) c arg3 harg3 arg4 harg4 arg9 harg9 arg10 harg10 x2 x3 x8 x9, kernelRun0_A.sl.r_24 (F := Ideal) c arg3 harg3 arg4 harg4 arg9 harg9 arg10 harg10 x2 x3 x8 x9, k0_pay55 mask (kernelRun0_A.sl.r_39 (F := Ideal) c arg3 harg3 arg4 harg4 arg9 harg9 arg10 harg10 x2 x3 x8 x9), kernelRun0_A.sl.r_55 (F := Ideal) c arg3 harg3 arg4 harg4 arg9 harg9 arg10 harg10 x2 x3 x8 x9], ![kernelRun0_A.sl.r_86 (F := Ideal) c arg3 harg3 arg4 harg4 arg9 harg9 arg10 harg10 x2 x3 x8 x9, kernelRun0_A.sl.r_95 (F := Ideal) c arg3 harg3 arg4 harg4 arg9 harg9 arg10 harg10 x2 x3 x8 x9, kernelRun0_A.sl.r_121 (F := Ideal) c arg3 harg3 arg4 harg4 arg9 harg9 arg10 harg10 x2 x3 x8 x9, kernelRun0_A.sl.r_134 (F := Ideal) c arg3 harg3 arg4 harg4 arg9 harg9 arg10 harg10 x2 x3 x8 x9]] = fun k g => (piece arg3 harg3 arg4 harg4 arg9 harg9 arg10 harg10 arg11 harg11 arg12 harg12 x2 x3 x8 x9 x10 x11 k g).dws := by
    funext k g
    fin_cases k <;> fin_cases g
    exacts [dws_0_0 .., dws_0_1 .., dws_0_2 .., dws_0_3 .., dws_1_0 .., dws_1_1 .., dws_1_2 .., dws_1_3 ..]
  rw [← e]
  rfl

/-- What the point leaves in output 19. -/
theorem out_19 :
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0a hc1 x0 x1 x2 x3 x4 x5 x6 x7 x8 x9 x10 x11 x12 x13
      = VO0_19.read (Elt Ideal) (VO0_19.writes (Elt Ideal) VO0_19.junk (bias8 arg21 (arg21.view.readCov [⟨biasR, k0_pay15 (F := Ideal)⟩] biasR.toLoadRect) [⟨biasR, k0_pay15 (F := Ideal)⟩] fun k g => (piece arg3 harg3 arg4 harg4 arg9 harg9 arg10 harg10 arg11 harg11 arg12 harg12 x2 x3 x8 x9 x10 x11 k g).db)) := by
  have e : ![![kernelRun0_A.sl.v131 (F := Ideal) c arg3 harg3 arg4 harg4 x2 x3, kernelRun0_A.sl.v309 (F := Ideal) c arg3 harg3 arg4 harg4 x2 x3, kernelRun0_A.sl.r_38 (F := Ideal) c arg3 harg3 arg4 harg4 x2 x3, kernelRun0_A.sl.v665 (F := Ideal) c arg3 harg3 arg4 harg4 x2 x3], ![kernelRun0_A.sl.r_80 (F := Ideal) c arg3 harg3 arg4 harg4 x2 x3, kernelRun0_A.sl.v1033 (F := Ideal) c arg3 harg3 arg4 harg4 x2 x3, kernelRun0_A.sl.r_115 (F := Ideal) c arg3 harg3 arg4 harg4 x2 x3, kernelRun0_A.sl.v1403 (F := Ideal) c arg3 harg3 arg4 harg4 x2 x3]] = fun k g => (piece arg3 harg3 arg4 harg4 arg9 harg9 arg10 harg10 arg11 harg11 arg12 harg12 x2 x3 x8 x9 x10 x11 k g).db := by
    funext k g
    fin_cases k <;> fin_cases g
    exacts [db_0_0 .., db_0_1 .., db_0_2 .., db_0_3 .., db_1_0 .., db_1_1 .., db_1_2 .., db_1_3 ..]
  rw [← e]
  rfl

end Cert.KPointA

end
-- ==== Proof.KernelOutA.lean ====
/-
  What one grid point, the first, leaves in each output, in the arguments' numbers.
-/
module

public import proofs.«01_k».proof.Proof.KernelRow
public import proofs.«01_k».proof.Proof.KernelA

@[expose] public section

set_option maxRecDepth 16384

noncomputable section

open Idealize.ShloMosaic Idealize.ShloMosaic.TcCoe Cert.Layer Cert.Reals Cert.KernelIdeal Cert.KernelIdeal.Gen

namespace Cert.KPointA

open Cert.KPoint

variable {A : Args} {t : ℕ} (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1536 .f32) (harg3 : arg3.IsWhole) (arg4 : Memref sig .tc .vmem S256x512 .f32) (harg4 : arg4.IsWhole) (arg5 : Memref sig .tc .vmem S256x1536 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x4 .f32) (harg12 : arg12.IsWhole) (arg13 : Memref sig .tc .vmem S3592x1024 .bf16) (harg13 : arg13.IsWhole) (arg14 : Memref sig .tc .vmem S128x1024 .bf16) (harg14 : arg14.IsWhole) (arg15 : Memref sig .tc .vmem S256x1024 .f32) (harg15 : arg15.IsWhole) (arg17 : Memref sig .tc .vmem S1x1024 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x128x128 .f32) (harg20 : arg20.IsWhole) (arg21 : Memref sig .tc .vmem S128x4 .f32) (harg21 : arg21.IsWhole) (arg22 : Memref sig .tc .vmem S3712x1024 .f32) (harg22 : arg22.IsWhole) (arg23 : Memref sig .tc .vmem S449x1024 .f32) (harg23 : arg23.IsWhole) (arg24 : Memref sig .tc .vmem S256x1536 .bf16) (harg24 : arg24.IsWhole) (hc0a : cond0_0 i) (hc1 : ¬cond0_1 i) (x0 : Vec Ideal S256x1024 .f32) (x1 : Vec Ideal S256x1024 .f32) (x2 : Vec Ideal S256x1536 .f32) (x3 : Vec Ideal S256x512 .f32) (x4 : Vec Ideal S256x1536 .bf16) (x5 : Vec Ideal S256x512 .bf16) (x6 : Vec Ideal S256x128 .bf16) (x7 : Vec Ideal S1x1024 .f32) (x8 : Vec Ideal S1x512 .f32) (x9 : Vec Ideal S1x512 .f32) (x10 : Vec Ideal S4x128x128 .f32) (x11 : Vec Ideal S128x4 .f32) (x12 : Vec Ideal S3592x1024 .bf16) (x13 : Vec Ideal S128x1024 .bf16) (xo15 : Vec Ideal S1x1024 .f32) (xo16 : Vec Ideal S1x512 .f32) (xo17 : Vec Ideal S1x512 .f32) (xo18 : Vec Ideal S4x128x128 .f32) (xo19 : Vec Ideal S128x4 .f32) (xs0 : Vec Ideal S3712x1024 .f32)
  (h : Holds A t x0 x1 x2 x3 x4 x5 x6 x7 x8 x9 x10 x11 x12 x13)

include h in
/-- The gradient of the scaled normalised rows, as the point computes it. -/
theorem dxn_at (r : Fin 256) (k : Fin 1024) :
    (dxnV (View.readAt (Elt Ideal) arg14.view (Rect.unit (s := S128x1024) ![0, 0] S128x1024.size inb_S128x1024_S128x1024_0_0).toLoadRect (harg14.unread x13)) (View.readAt (Elt Ideal) arg7.view (Rect.unit (s := S256x128) ![0, 0] S256x128.size inb_S256x128_S256x128_0_0).toLoadRect (harg7.unread x6)) (View.readAt (Elt Ideal) arg13.view (Rect.unit (s := S3592x1024) ![3072, 0] S512x1024.size inb_S3592x1024_S512x1024_3072_0).toLoadRect (harg13.unread x12)) (View.readAt (Elt Ideal) arg6.view (Rect.unit (s := S256x512) ![0, 0] S256x512.size inb_S256x512_S256x512_0_0).toLoadRect (harg6.unread x5)) (View.readAt (Elt Ideal) arg13.view (Rect.unit (s := S3592x1024) ![1536, 0] S1536x1024.size inb_S3592x1024_S1536x1024_1536_0).toLoadRect (harg13.unread x12)) (View.readAt (Elt Ideal) arg5.view (Rect.unit (s := S256x1536) ![0, 0] S256x1536.size inb_S256x1536_S256x1536_0_0).toLoadRect (harg5.unread x4)) (View.readAt (Elt Ideal) arg13.view (Rect.unit (s := S3592x1024) ![0, 0] S1536x1024.size inb_S3592x1024_S1536x1024_0_0).toLoadRect (harg13.unread x12)) (arg24.view.readCov (gates fun k g q => (piece arg3 harg3 arg4 harg4 arg9 harg9 arg10 harg10 arg11 harg11 arg12 harg12 x2 x3 x8 x9 x10 x11 k g).d3 q) (Rect.unit (s := S256x1536) ![0, 0] S256x1536.size inb_S256x1536_S256x1536_0_0).toLoadRect)) (ix2 r k) = ((A.dxn (256 * t + r) k : ℝ) : EReal) := by
  refine dxnV_real (fun c k => ?_) (fun r k => ?_) (fun c k => ?_) (fun r k => ?_) (fun c k => ?_) (fun r k => ?_) (fun c k => ?_)
    (fun r c => ?_) r k
  · rw [read_at, rect2]
    refine (h.wg _ _).trans ?_
    simp
  · rw [read_at, rect2]
    refine (h.dl _ _).trans ?_
    simp
  · rw [read_at, rect2]
    refine (h.wt _ _).trans ?_
    simp
  · rw [read_at, rect2]
    refine (h.dz _ _).trans ?_
    simp
  · rw [read_at, rect2]
    refine (h.wt _ _).trans ?_
    simp
  · rw [read_at, rect2]
    refine (h.dq _ _).trans ?_
    simp
  · rw [read_at, rect2]
    refine (h.wt _ _).trans ?_
    simp
  · rw [View.readCov_eq_canon']
    refine (congrArg (View.canon _) (whole_idx inb_S256x1536_S256x1536_0_0 (by decide) (ix2 r c))).trans ?_
    refine gates_canon _ (fun k g q s j => ?_) r c
    fin_cases q
    · exact KTile.du (piece_holds (h := h) (k := k) (g := g) ..) s j
    · exact KTile.dv (piece_holds (h := h) (k := k) (g := g) ..) s j
    · exact KTile.dzc (piece_holds (h := h) (k := k) (g := g) ..) s j

include h in
theorem x_at (r : Fin 256) (k : Fin 1024) : (View.readAt (Elt Ideal) arg1.view (Rect.unit (s := S256x1024) ![0, 0] S256x1024.size inb_S256x1024_S256x1024_0_0).toLoadRect (harg1.unread x0)) (ix2 r k) = ((A.x (256 * t + r) k : ℝ) : EReal) := by
  rw [read_at, rect2]
  refine (h.x _ _).trans ?_
  simp

include h in
theorem dh_at (r : Fin 256) (k : Fin 1024) : (View.readAt (Elt Ideal) arg2.view (Rect.unit (s := S256x1024) ![0, 0] S256x1024.size inb_S256x1024_S256x1024_0_0).toLoadRect (harg2.unread x1)) (ix2 r k) = ((A.dh (256 * t + r) k : ℝ) : EReal) := by
  rw [read_at, rect2]
  refine (h.dh _ _).trans ?_
  simp

include h in
theorem g_at (z : Fin 1) (k : Fin 1024) : (View.readAt (Elt Ideal) arg8.view (Rect.unit (s := S1x1024) ![0, 0] S1x1024.size inb_S1x1024_S1x1024_0_0).toLoadRect (harg8.unread x7)) (ix2 z k) = ((A.g k : ℝ) : EReal) := by
  rw [read_at, rect2]
  refine (h.g _ _).trans ?_
  simp

theorem out_14 : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0a hc1 x0 x1 x2 x3 x4 x5 x6 x7 x8 x9 x10 x11 x12 x13
    = VO0_14.read (Elt Ideal) (VO0_14.writes (Elt Ideal) VO0_14.junk [⟨Rect.unit (s := S256x1024) ![0, 0] S256x1024.size inb_S256x1024_S256x1024_0_0, k0_pay1 (F := Ideal) (k0_pay17 (F := Ideal) (View.readAt (Elt Ideal) arg1.view (Rect.unit (s := S256x1024) ![0, 0] S256x1024.size inb_S256x1024_S256x1024_0_0).toLoadRect (harg1.unread x0))) (k0_pay18 (F := Ideal) (View.readAt (Elt Ideal) arg1.view (Rect.unit (s := S256x1024) ![0, 0] S256x1024.size inb_S256x1024_S256x1024_0_0).toLoadRect (harg1.unread x0))) (View.readAt (Elt Ideal) arg2.view (Rect.unit (s := S256x1024) ![0, 0] S256x1024.size inb_S256x1024_S256x1024_0_0).toLoadRect (harg2.unread x1)) (k0_pay336 (F := Ideal) (View.readAt (Elt Ideal) arg8.view (Rect.unit (s := S1x1024) ![0, 0] S1x1024.size inb_S1x1024_S1x1024_0_0).toLoadRect (harg8.unread x7)) (dxnV (View.readAt (Elt Ideal) arg14.view (Rect.unit (s := S128x1024) ![0, 0] S128x1024.size inb_S128x1024_S128x1024_0_0).toLoadRect (harg14.unread x13)) (View.readAt (Elt Ideal) arg7.view (Rect.unit (s := S256x128) ![0, 0] S256x128.size inb_S256x128_S256x128_0_0).toLoadRect (harg7.unread x6)) (View.readAt (Elt Ideal) arg13.view (Rect.unit (s := S3592x1024) ![3072, 0] S512x1024.size inb_S3592x1024_S512x1024_3072_0).toLoadRect (harg13.unread x12)) (View.readAt (Elt Ideal) arg6.view (Rect.unit (s := S256x512) ![0, 0] S256x512.size inb_S256x512_S256x512_0_0).toLoadRect (harg6.unread x5)) (View.readAt (Elt Ideal) arg13.view (Rect.unit (s := S3592x1024) ![1536, 0] S1536x1024.size inb_S3592x1024_S1536x1024_1536_0).toLoadRect (harg13.unread x12)) (View.readAt (Elt Ideal) arg5.view (Rect.unit (s := S256x1536) ![0, 0] S256x1536.size inb_S256x1536_S256x1536_0_0).toLoadRect (harg5.unread x4)) (View.readAt (Elt Ideal) arg13.view (Rect.unit (s := S3592x1024) ![0, 0] S1536x1024.size inb_S3592x1024_S1536x1024_0_0).toLoadRect (harg13.unread x12)) (arg24.view.readCov (gates fun k g q => (piece arg3 harg3 arg4 harg4 arg9 harg9 arg10 harg10 arg11 harg11 arg12 harg12 x2 x3 x8 x9 x10 x11 k g).d3 q) (Rect.unit (s := S256x1536) ![0, 0] S256x1536.size inb_S256x1536_S256x1536_0_0).toLoadRect))) (k0_pay337 (F := Ideal) (View.readAt (Elt Ideal) arg8.view (Rect.unit (s := S1x1024) ![0, 0] S1x1024.size inb_S1x1024_S1x1024_0_0).toLoadRect (harg8.unread x7)) (k0_pay18 (F := Ideal) (View.readAt (Elt Ideal) arg1.view (Rect.unit (s := S256x1024) ![0, 0] S256x1024.size inb_S256x1024_S256x1024_0_0).toLoadRect (harg1.unread x0))) (dxnV (View.readAt (Elt Ideal) arg14.view (Rect.unit (s := S128x1024) ![0, 0] S128x1024.size inb_S128x1024_S128x1024_0_0).toLoadRect (harg14.unread x13)) (View.readAt (Elt Ideal) arg7.view (Rect.unit (s := S256x128) ![0, 0] S256x128.size inb_S256x128_S256x128_0_0).toLoadRect (harg7.unread x6)) (View.readAt (Elt Ideal) arg13.view (Rect.unit (s := S3592x1024) ![3072, 0] S512x1024.size inb_S3592x1024_S512x1024_3072_0).toLoadRect (harg13.unread x12)) (View.readAt (Elt Ideal) arg6.view (Rect.unit (s := S256x512) ![0, 0] S256x512.size inb_S256x512_S256x512_0_0).toLoadRect (harg6.unread x5)) (View.readAt (Elt Ideal) arg13.view (Rect.unit (s := S3592x1024) ![1536, 0] S1536x1024.size inb_S3592x1024_S1536x1024_1536_0).toLoadRect (harg13.unread x12)) (View.readAt (Elt Ideal) arg5.view (Rect.unit (s := S256x1536) ![0, 0] S256x1536.size inb_S256x1536_S256x1536_0_0).toLoadRect (harg5.unread x4)) (View.readAt (Elt Ideal) arg13.view (Rect.unit (s := S3592x1024) ![0, 0] S1536x1024.size inb_S3592x1024_S1536x1024_0_0).toLoadRect (harg13.unread x12)) (arg24.view.readCov (gates fun k g q => (piece arg3 harg3 arg4 harg4 arg9 harg9 arg10 harg10 arg11 harg11 arg12 harg12 x2 x3 x8 x9 x10 x11 k g).d3 q) (Rect.unit (s := S256x1536) ![0, 0] S256x1536.size inb_S256x1536_S256x1536_0_0).toLoadRect)))⟩]) := by
  rw [← gates_eq c]
  rfl

include h in
theorem dx_at (r : Fin 256) (k : Fin 1024) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0a hc1 x0 x1 x2 x3 x4 x5 x6 x7 x8 x9 x10 x11 x12 x13 (ix2 r k) = ((A.dx (256 * t + r) k : ℝ) : EReal) := by
  rw [out_14, View.read_writes_junk_eq_canon]
  refine (canon_whole inb_S256x1024_S256x1024_0_0 (by decide) _ _ _).trans ?_
  exact dx_real (fun r k => x_at (h := h) (r := r) (k := k) ..) (fun r k => dh_at (h := h) (r := r) (k := k) ..) (fun z k => g_at (h := h) (z := z) (k := k) ..) (fun r k => dxn_at (h := h) (r := r) (k := k) ..) r k

theorem out_15 : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0a hc1 x0 x1 x2 x3 x4 x5 x6 x7 x8 x9 x10 x11 x12 x13
    = VO0_15.read (Elt Ideal) (VO0_15.writes (Elt Ideal) VO0_15.junk (⟨(Rect.unit (s := S1x1024) ![0, 0] S1x1024.size inb_S1x1024_S1x1024_0_0), k0_pay335 (F := Ideal) (k0_pay18 (F := Ideal) (View.readAt (Elt Ideal) arg1.view (Rect.unit (s := S256x1024) ![0, 0] S256x1024.size inb_S256x1024_S256x1024_0_0).toLoadRect (harg1.unread x0))) (dxnV (View.readAt (Elt Ideal) arg14.view (Rect.unit (s := S128x1024) ![0, 0] S128x1024.size inb_S128x1024_S128x1024_0_0).toLoadRect (harg14.unread x13)) (View.readAt (Elt Ideal) arg7.view (Rect.unit (s := S256x128) ![0, 0] S256x128.size inb_S256x128_S256x128_0_0).toLoadRect (harg7.unread x6)) (View.readAt (Elt Ideal) arg13.view (Rect.unit (s := S3592x1024) ![3072, 0] S512x1024.size inb_S3592x1024_S512x1024_3072_0).toLoadRect (harg13.unread x12)) (View.readAt (Elt Ideal) arg6.view (Rect.unit (s := S256x512) ![0, 0] S256x512.size inb_S256x512_S256x512_0_0).toLoadRect (harg6.unread x5)) (View.readAt (Elt Ideal) arg13.view (Rect.unit (s := S3592x1024) ![1536, 0] S1536x1024.size inb_S3592x1024_S1536x1024_1536_0).toLoadRect (harg13.unread x12)) (View.readAt (Elt Ideal) arg5.view (Rect.unit (s := S256x1536) ![0, 0] S256x1536.size inb_S256x1536_S256x1536_0_0).toLoadRect (harg5.unread x4)) (View.readAt (Elt Ideal) arg13.view (Rect.unit (s := S3592x1024) ![0, 0] S1536x1024.size inb_S3592x1024_S1536x1024_0_0).toLoadRect (harg13.unread x12)) (arg24.view.readCov (gates fun k g q => (piece arg3 harg3 arg4 harg4 arg9 harg9 arg10 harg10 arg11 harg11 arg12 harg12 x2 x3 x8 x9 x10 x11 k g).d3 q) (Rect.unit (s := S256x1536) ![0, 0] S256x1536.size inb_S256x1536_S256x1536_0_0).toLoadRect)) (arg17.view.readCov [⟨Rect.unit (s := S1x1024) ![0, 0] S1x1024.size inb_S1x1024_S1x1024_0_0, k0_pay11 (F := Ideal)⟩] (Rect.unit (s := S1x1024) ![0, 0] S1x1024.size inb_S1x1024_S1x1024_0_0).toLoadRect)⟩ :: [⟨Rect.unit (s := S1x1024) ![0, 0] S1x1024.size inb_S1x1024_S1x1024_0_0, k0_pay11 (F := Ideal)⟩])) := by
  rw [← gates_eq c]
  rfl

include h in
theorem dg_at (k : Fin 1024) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0a hc1 x0 x1 x2 x3 x4 x5 x6 x7 x8 x9 x10 x11 x12 x13 (ix2 0 k)
      = ((∑ r : Fin 256, A.dxn (256 * t + r) k * A.n (256 * t + r) k : ℝ) : EReal) := by
  rw [out_15, View.read_writes_junk_eq_canon]
  refine (canon_whole inb_S1x1024_S1x1024_0_0 (by decide) _ _ _).trans ?_

  refine (dg_real (fun r k => x_at (h := h) (r := r) (k := k) ..) (fun r k => dxn_at (h := h) (r := r) (k := k) ..) _ (fun _ => 0) (fun k => ?_) k).trans (by rw [zero_add])
  rw [View.readCov_eq_canon']
  refine (canon_whole inb_S1x1024_S1x1024_0_0 (by decide) _ _ _).trans ?_
  show Scalar.ofBits (F := Ideal) .f32 0x00000000#32 = _
  exact bits_zero

include h in
theorem dlg_at (k : Fin 512) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0a hc1 x0 x1 x2 x3 x4 x5 x6 x7 x8 x9 x10 x11 x12 x13 (ix2 0 k)
      = (((A.tile (2 * t) (k / 128)).dlg (k % 128) + (A.tile (2 * t + 1) (k / 128)).dlg (k % 128) : ℝ) : EReal) := by
  have e : (ix2 (0 : Fin 1) k : S1x512.Idx) = (rowR ⟨k / 128, by omega⟩).idx (ix2 0 (⟨k % 128, by omega⟩ : Fin 128)) := by
    rw [rect2]
    exact congrArg₂ ix2 (Fin.ext rfl) (Fin.ext (by show (k : ℕ) = 128 * (k / 128) + k % 128; omega))
  rw [out_16, View.read_writes_junk_eq_canon, e]

  exact rowA8_at arg18 _ _ (fun k g => (A.tile (2 * t + k) g).dlg) (row_zero _ fun _ => bits_zero.trans EReal.coe_zero)
    (fun k g j => KTile.dlg (piece_holds (h := h) (k := k) (g := g) ..) j) ⟨k / 128, by omega⟩ ⟨k % 128, by omega⟩

include h in
theorem dlb_at (k : Fin 512) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0a hc1 x0 x1 x2 x3 x4 x5 x6 x7 x8 x9 x10 x11 x12 x13 (ix2 0 k)
      = (((A.tile (2 * t) (k / 128)).dlb (k % 128) + (A.tile (2 * t + 1) (k / 128)).dlb (k % 128) : ℝ) : EReal) := by
  have e : (ix2 (0 : Fin 1) k : S1x512.Idx) = (rowR ⟨k / 128, by omega⟩).idx (ix2 0 (⟨k % 128, by omega⟩ : Fin 128)) := by
    rw [rect2]
    exact congrArg₂ ix2 (Fin.ext rfl) (Fin.ext (by show (k : ℕ) = 128 * (k / 128) + k % 128; omega))
  rw [out_17, View.read_writes_junk_eq_canon, e]

  exact rowA8_at arg19 _ _ (fun k g => (A.tile (2 * t + k) g).dlb) (row_zero _ fun _ => bits_zero.trans EReal.coe_zero)
    (fun k g j => KTile.dlb (piece_holds (h := h) (k := k) (g := g) ..) j) ⟨k / 128, by omega⟩ ⟨k % 128, by omega⟩

include h in
theorem dws_at (g : Fin 4) (s j : Fin 128) :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0a hc1 x0 x1 x2 x3 x4 x5 x6 x7 x8 x9 x10 x11 x12 x13 (ix3 g s j)
      = (((A.tile (2 * t) g).dws s j + (A.tile (2 * t + 1) g).dws s j : ℝ) : EReal) := by
  have e : (ix3 g s j : S4x128x128.Idx) = (wsR g).idx (ix3 0 s j) := by
    rw [rect3]
    simp
  rw [out_18, View.read_writes_junk_eq_canon, e]

  exact cubeA8_at arg20 _ _ (fun k g => (A.tile (2 * t + k) g).dws) (cube_zero _ fun _ => bits_zero.trans EReal.coe_zero)
    (fun k g s j => KTile.dws (piece_holds (h := h) (k := k) (g := g) ..) s j) g s j

include h in
theorem db_at (s : Fin 128) (g : Fin 4) :
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0a hc1 x0 x1 x2 x3 x4 x5 x6 x7 x8 x9 x10 x11 x12 x13 (ix2 s g)
      = (((A.tile (2 * t) g).db s + (A.tile (2 * t + 1) g).db s : ℝ) : EReal) := by
  rw [out_19, View.read_writes_junk_eq_canon]

  refine (bias8_at arg21 _ _ _ (fun _ _ => 0) (fun k g => (A.tile (2 * t + k) g).db) (fun s g => ?_)
    (fun k g s => KTile.db (piece_holds (h := h) (k := k) (g := g) ..) s) s g).trans ?_
  · rw [View.readCov_eq_canon']
    refine (canon_whole inb_S128x4_S128x4_0_0 (by decide) _ _ _).trans ?_
    exact bits_zero
  · refine congrArg Real.toEReal ?_
    show (0 : ℝ) + _ + _ = _
    rw [zero_add]
    rfl

end Cert.KPointA

end
-- ==== Proof.KernelB.lean ====
/-
  A later grid point of the kernel: the values its run names are the chunk's stages, by unfolding.
-/
module

public import proofs.«01_k».proof.Proof.KernelPoint

@[expose] public section

set_option maxRecDepth 16384

noncomputable section

open Idealize.ShloMosaic Idealize.ShloMosaic.TcCoe Cert.Layer Cert.Reals Cert.KernelIdeal Cert.KernelIdeal.Gen

namespace Cert.KPointB

open Cert.KTile (mask bcol)
open Cert.KPoint

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1536 .f32) (harg3 : arg3.IsWhole) (arg4 : Memref sig .tc .vmem S256x512 .f32) (harg4 : arg4.IsWhole) (arg5 : Memref sig .tc .vmem S256x1536 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x4 .f32) (harg12 : arg12.IsWhole) (arg13 : Memref sig .tc .vmem S3592x1024 .bf16) (harg13 : arg13.IsWhole) (arg14 : Memref sig .tc .vmem S128x1024 .bf16) (harg14 : arg14.IsWhole) (arg15 : Memref sig .tc .vmem S256x1024 .f32) (harg15 : arg15.IsWhole) (arg17 : Memref sig .tc .vmem S1x1024 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x128x128 .f32) (harg20 : arg20.IsWhole) (arg21 : Memref sig .tc .vmem S128x4 .f32) (harg21 : arg21.IsWhole) (arg22 : Memref sig .tc .vmem S3712x1024 .f32) (harg22 : arg22.IsWhole) (arg23 : Memref sig .tc .vmem S449x1024 .f32) (harg23 : arg23.IsWhole) (arg24 : Memref sig .tc .vmem S256x1536 .bf16) (harg24 : arg24.IsWhole) (hc0 : ¬cond0_0 i) (hc1 : ¬cond0_1 i) (x0 : Vec Ideal S256x1024 .f32) (x1 : Vec Ideal S256x1024 .f32) (x2 : Vec Ideal S256x1536 .f32) (x3 : Vec Ideal S256x512 .f32) (x4 : Vec Ideal S256x1536 .bf16) (x5 : Vec Ideal S256x512 .bf16) (x6 : Vec Ideal S256x128 .bf16) (x7 : Vec Ideal S1x1024 .f32) (x8 : Vec Ideal S1x512 .f32) (x9 : Vec Ideal S1x512 .f32) (x10 : Vec Ideal S4x128x128 .f32) (x11 : Vec Ideal S128x4 .f32) (x12 : Vec Ideal S3592x1024 .bf16) (x13 : Vec Ideal S128x1024 .bf16) (xo15 : Vec Ideal S1x1024 .f32) (xo16 : Vec Ideal S1x512 .f32) (xo17 : Vec Ideal S1x512 .f32) (xo18 : Vec Ideal S4x128x128 .f32) (xo19 : Vec Ideal S128x4 .f32) (xs0 : Vec Ideal S3712x1024 .f32)
  (hc0a : cond0_0 i)

theorem d_1_3_2 :
    kernelRun0_B.sl.v1465 (F := Ideal) c arg3 harg3 arg4 harg4 arg9 harg9 arg10 harg10 arg11 harg11 arg12 harg12 x2 x3 x8 x9 x10 x11 = (piece arg3 harg3 arg4 harg4 arg9 harg9 arg10 harg10 arg11 harg11 arg12 harg12 x2 x3 x8 x9 x10 x11 1 3).d3 2 := by rfl

theorem d_1_3_1 :
    kernelRun0_B.sl.v1461 (F := Ideal) c arg3 harg3 arg4 harg4 arg9 harg9 arg11 harg11 x2 x3 x8 x10 = (piece arg3 harg3 arg4 harg4 arg9 harg9 arg10 harg10 arg11 harg11 arg12 harg12 x2 x3 x8 x9 x10 x11 1 3).d3 1 := by rfl

theorem d_1_3_0 :
    k0_pay323 (F := Ideal) (kernelRun0_B.sl.v1315 c arg3 harg3 x2) (kernelRun0_B.sl.r_127 c arg3 harg3 x2) (kernelRun0_B.sl.v1401 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 1 3).d3 0 := by rfl

theorem d_1_2_2 :
    k0_pay286 (F := Ideal) (kernelRun0_B.sl.r_113 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 1 2).d3 2 := by rfl

theorem d_1_2_1 :
    k0_pay285 (F := Ideal) (kernelRun0_B.sl.r_104 c arg3 harg3 x2) (kernelRun0_B.sl.r_119 c arg3 harg3 arg4 harg4 arg9 harg9 arg11 harg11 x2 x3 x8 x10) (kernelRun0_B.sl.r_120 c arg3 harg3 x2) = (piece arg3 harg3 arg4 harg4 arg9 harg9 arg10 harg10 arg11 harg11 arg12 harg12 x2 x3 x8 x9 x10 x11 1 2).d3 1 := by rfl

theorem d_1_2_0 :
    k0_pay284 (F := Ideal) (kernelRun0_B.sl.r_97 c arg3 harg3 x2) (kernelRun0_B.sl.r_102 c arg3 harg3 x2) (kernelRun0_B.sl.r_114 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 1 2).d3 0 := by rfl

theorem d_1_1_2 :
    kernelRun0_B.sl.r_96 (F := Ideal) c arg3 harg3 arg4 harg4 arg9 harg9 arg10 harg10 arg11 harg11 arg12 harg12 x2 x3 x8 x9 x10 x11 = (piece arg3 harg3 arg4 harg4 arg9 harg9 arg10 harg10 arg11 harg11 arg12 harg12 x2 x3 x8 x9 x10 x11 1 1).d3 2 := by rfl

theorem d_1_1_1 :
    k0_pay247 (F := Ideal) (kernelRun0_B.sl.v947 c arg3 harg3 x2) (kernelRun0_B.sl.r_91 c arg3 harg3 x2) (kernelRun0_B.sl.r_92 c arg3 harg3 x2) (kernelRun0_B.sl.r_93 c arg3 harg3 x2) (kernelRun0_B.sl.v1047 c arg3 harg3 arg4 harg4 arg9 harg9 arg11 harg11 x2 x3 x8 x10) (kernelRun0_B.sl.v1049 c arg3 harg3 arg4 harg4 arg9 harg9 arg11 harg11 x2 x3 x8 x10) (kernelRun0_B.sl.v148 (F := Ideal)) = (piece arg3 harg3 arg4 harg4 arg9 harg9 arg10 harg10 arg11 harg11 arg12 harg12 x2 x3 x8 x9 x10 x11 1 1).d3 1 := by rfl

theorem d_1_1_0 :
    k0_pay246 (F := Ideal) (kernelRun0_B.sl.v945 c arg3 harg3 x2) (kernelRun0_B.sl.r_89 c arg3 harg3 x2) (kernelRun0_B.sl.v1031 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 1 1).d3 0 := by rfl

theorem d_1_0_2 :
    k0_pay211 (F := Ideal) (kernelRun0_B.sl.r_78 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 1 0).d3 2 := by rfl

theorem d_1_0_1 :
    k0_pay210 (F := Ideal) (kernelRun0_B.sl.r_59 c arg3 harg3 x2) (kernelRun0_B.sl.r_68 c arg3 harg3 x2) (kernelRun0_B.sl.r_84 c arg3 harg3 arg4 harg4 arg9 harg9 arg11 harg11 x2 x3 x8 x10) (kernelRun0_B.sl.r_85 c arg3 harg3 x2) (kernelRun0_B.sl.cst_373 (F := Ideal)) = (piece arg3 harg3 arg4 harg4 arg9 harg9 arg10 harg10 arg11 harg11 arg12 harg12 x2 x3 x8 x9 x10 x11 1 0).d3 1 := by rfl

theorem d_1_0_0 :
    k0_pay209 (F := Ideal) (kernelRun0_B.sl.r_58 c arg3 harg3 x2) (kernelRun0_B.sl.r_66 c arg3 harg3 x2) (kernelRun0_B.sl.r_79 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 1 0).d3 0 := by rfl

theorem d_0_3_2 :
    k0_pay171 (F := Ideal) (kernelRun0_B.sl.v661 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 0 3).d3 2 := by rfl

theorem d_0_3_1 :
    k0_pay170 (F := Ideal) (kernelRun0_B.sl.v579 c arg3 harg3 x2) (kernelRun0_B.sl.r_48 c arg3 harg3 x2) (kernelRun0_B.sl.r_49 c arg3 harg3 x2) (kernelRun0_B.sl.r_50 c arg3 harg3 x2) (kernelRun0_B.sl.v685 c arg3 harg3 arg4 harg4 arg9 harg9 arg11 harg11 x2 x3 x8 x10) (kernelRun0_B.sl.v688 c arg3 harg3 arg4 harg4 arg9 harg9 arg11 harg11 x2 x3 x8 x10) = (piece arg3 harg3 arg4 harg4 arg9 harg9 arg10 harg10 arg11 harg11 arg12 harg12 x2 x3 x8 x9 x10 x11 0 3).d3 1 := by rfl

theorem d_0_3_0 :
    k0_pay169 (F := Ideal) (kernelRun0_B.sl.v577 c arg3 harg3 x2) (kernelRun0_B.sl.r_46 c arg3 harg3 x2) (kernelRun0_B.sl.v663 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 0 3).d3 0 := by rfl

theorem d_0_2_2 :
    k0_pay133 (F := Ideal) (kernelRun0_B.sl.r_36 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 0 2).d3 2 := by rfl

theorem d_0_2_1 :
    k0_pay132 (F := Ideal) (kernelRun0_B.sl.r_42 c arg3 harg3 arg4 harg4 arg9 harg9 arg11 harg11 x2 x3 x8 x10) = (piece arg3 harg3 arg4 harg4 arg9 harg9 arg10 harg10 arg11 harg11 arg12 harg12 x2 x3 x8 x9 x10 x11 0 2).d3 1 := by rfl

theorem d_0_2_0 :
    k0_pay131 (F := Ideal) (kernelRun0_B.sl.r_26 c arg3 harg3 x2) (kernelRun0_B.sl.r_33 c arg3 harg3 x2) (kernelRun0_B.sl.r_37 c arg3 harg3 arg4 harg4 arg9 harg9 arg10 harg10 arg11 harg11 arg12 harg12 x2 x3 x8 x9 x10 x11) (k0_pay130 (F := Ideal)) = (piece arg3 harg3 arg4 harg4 arg9 harg9 arg10 harg10 arg11 harg11 arg12 harg12 x2 x3 x8 x9 x10 x11 0 2).d3 0 := by rfl

theorem d_0_1_2 :
    kernelRun0_B.sl.v371 (F := Ideal) c arg3 harg3 arg4 harg4 arg9 harg9 arg10 harg10 arg11 harg11 arg12 harg12 x2 x3 x8 x9 x10 x11 = (piece arg3 harg3 arg4 harg4 arg9 harg9 arg10 harg10 arg11 harg11 arg12 harg12 x2 x3 x8 x9 x10 x11 0 1).d3 2 := by rfl

theorem d_0_1_1 :
    kernelRun0_B.sl.v367 (F := Ideal) c arg3 harg3 arg4 harg4 arg9 harg9 arg11 harg11 x2 x3 x8 x10 = (piece arg3 harg3 arg4 harg4 arg9 harg9 arg10 harg10 arg11 harg11 arg12 harg12 x2 x3 x8 x9 x10 x11 0 1).d3 1 := by rfl

theorem d_0_1_0 :
    k0_pay93 (F := Ideal) (kernelRun0_B.sl.v221 c arg3 harg3 x2) (kernelRun0_B.sl.r_18 c arg3 harg3 x2) (kernelRun0_B.sl.v307 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 0 1).d3 0 := by rfl

theorem d_0_0_2 :
    k0_pay58 (F := Ideal) (kernelRun0_B.sl.v127 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 0 0).d3 2 := by rfl

theorem d_0_0_1 :
    k0_pay57 (F := Ideal) (kernelRun0_B.sl.v45 c arg3 harg3 x2) (kernelRun0_B.sl.r_5 c arg3 harg3 x2) (kernelRun0_B.sl.r_6 c arg3 harg3 x2) (kernelRun0_B.sl.r_7 c arg3 harg3 x2) (kernelRun0_B.sl.v151 c arg3 harg3 arg4 harg4 arg9 harg9 arg11 harg11 x2 x3 x8 x10) (kernelRun0_B.sl.v156 c arg3 harg3 arg4 harg4 arg9 harg9 arg11 harg11 x2 x3 x8 x10) = (piece arg3 harg3 arg4 harg4 arg9 harg9 arg10 harg10 arg11 harg11 arg12 harg12 x2 x3 x8 x9 x10 x11 0 0).d3 1 := by rfl

theorem d_0_0_0 :
    k0_pay56 (F := Ideal) (kernelRun0_B.sl.v43 c arg3 harg3 x2) (kernelRun0_B.sl.r_3 c arg3 harg3 x2) (kernelRun0_B.sl.v129 c arg3 harg3 arg4 harg4 arg9 harg9 arg10 harg10 arg11 harg11 arg12 harg12 x2 x3 x8 x9 x10 x11) = (piece arg3 harg3 arg4 harg4 arg9 harg9 arg10 harg10 arg11 harg11 arg12 harg12 x2 x3 x8 x9 x10 x11 0 0).d3 0 := by rfl

theorem dlg_0_0 :
    kernelRun0_B.sl.v143 (F := Ideal) c arg3 harg3 arg4 harg4 arg11 harg11 x2 x3 x10 = (piece arg3 harg3 arg4 harg4 arg9 harg9 arg10 harg10 arg11 harg11 arg12 harg12 x2 x3 x8 x9 x10 x11 0 0).dlg := by rfl

theorem dlg_0_1 :
    kernelRun0_B.sl.r_23 (F := Ideal) c arg3 harg3 arg4 harg4 arg11 harg11 x2 x3 x10 = (piece arg3 harg3 arg4 harg4 arg9 harg9 arg10 harg10 arg11 harg11 arg12 harg12 x2 x3 x8 x9 x10 x11 0 1).dlg := by rfl

theorem dlg_0_2 :
    kernelRun0_B.sl.r_41 (F := Ideal) c arg3 harg3 arg4 harg4 arg11 harg11 x2 x3 x10 = (piece arg3 harg3 arg4 harg4 arg9 harg9 arg10 harg10 arg11 harg11 arg12 harg12 x2 x3 x8 x9 x10 x11 0 2).dlg := by rfl

theorem dlg_0_3 :
    kernelRun0_B.sl.v677 (F := Ideal) c arg3 harg3 arg4 harg4 arg11 harg11 x2 x3 x10 = (piece arg3 harg3 arg4 harg4 arg9 harg9 arg10 harg10 arg11 harg11 arg12 harg12 x2 x3 x8 x9 x10 x11 0 3).dlg := by rfl

theorem dlg_1_0 :
    kernelRun0_B.sl.r_83 (F := Ideal) c arg3 harg3 arg4 harg4 arg11 harg11 x2 x3 x10 = (piece arg3 harg3 arg4 harg4 arg9 harg9 arg10 harg10 arg11 harg11 arg12 harg12 x2 x3 x8 x9 x10 x11 1 0).dlg := by rfl

theorem dlg_1_1 :
    kernelRun0_B.sl.v1045 (F := Ideal) c arg3 harg3 arg4 harg4 arg11 harg11 x2 x3 x10 = (piece arg3 harg3 arg4 harg4 arg9 harg9 arg10 harg10 arg11 harg11 arg12 harg12 x2 x3 x8 x9 x10 x11 1 1).dlg := by rfl

theorem dlg_1_2 :
    kernelRun0_B.sl.r_118 (F := Ideal) c arg3 harg3 arg4 harg4 arg11 harg11 x2 x3 x10 = (piece arg3 harg3 arg4 harg4 arg9 harg9 arg10 harg10 arg11 harg11 arg12 harg12 x2 x3 x8 x9 x10 x11 1 2).dlg := by rfl

theorem dlg_1_3 :
    kernelRun0_B.sl.r_133 (F := Ideal) c arg3 harg3 arg4 harg4 arg11 harg11 x2 x3 x10 = (piece arg3 harg3 arg4 harg4 arg9 harg9 arg10 harg10 arg11 harg11 arg12 harg12 x2 x3 x8 x9 x10 x11 1 3).dlg := by rfl

theorem dlb_0_0 :
    kernelRun0_B.sl.v140 (F := Ideal) c arg3 harg3 arg4 harg4 arg11 harg11 x2 x3 x10 = (piece arg3 harg3 arg4 harg4 arg9 harg9 arg10 harg10 arg11 harg11 arg12 harg12 x2 x3 x8 x9 x10 x11 0 0).dlb := by rfl

theorem dlb_0_1 :
    kernelRun0_B.sl.v318 (F := Ideal) c arg3 harg3 arg4 harg4 arg11 harg11 x2 x3 x10 = (piece arg3 harg3 arg4 harg4 arg9 harg9 arg10 harg10 arg11 harg11 arg12 harg12 x2 x3 x8 x9 x10 x11 0 1).dlb := by rfl

theorem dlb_0_2 :
    kernelRun0_B.sl.r_40 (F := Ideal) c arg3 harg3 arg4 harg4 arg11 harg11 x2 x3 x10 = (piece arg3 harg3 arg4 harg4 arg9 harg9 arg10 harg10 arg11 harg11 arg12 harg12 x2 x3 x8 x9 x10 x11 0 2).dlb := by rfl

theorem dlb_0_3 :
    kernelRun0_B.sl.v674 (F := Ideal) c arg3 harg3 arg4 harg4 arg11 harg11 x2 x3 x10 = (piece arg3 harg3 arg4 harg4 arg9 harg9 arg10 harg10 arg11 harg11 arg12 harg12 x2 x3 x8 x9 x10 x11 0 3).dlb := by rfl

theorem dlb_1_0 :
    kernelRun0_B.sl.r_82 (F := Ideal) c arg3 harg3 arg4 harg4 arg11 harg11 x2 x3 x10 = (piece arg3 harg3 arg4 harg4 arg9 harg9 arg10 harg10 arg11 harg11 arg12 harg12 x2 x3 x8 x9 x10 x11 1 0).dlb := by rfl

theorem dlb_1_1 :
    kernelRun0_B.sl.v1042 (F := Ideal) c arg3 harg3 arg4 harg4 arg11 harg11 x2 x3 x10 = (piece arg3 harg3 arg4 harg4 arg9 harg9 arg10 harg10 arg11 harg11 arg12 harg12 x2 x3 x8 x9 x10 x11 1 1).dlb := by rfl

theorem dlb_1_2 :
    kernelRun0_B.sl.r_117 (F := Ideal) c arg3 harg3 arg4 harg4 arg11 harg11 x2 x3 x10 = (piece arg3 harg3 arg4 harg4 arg9 harg9 arg10 harg10 arg11 harg11 arg12 harg12 x2 x3 x8 x9 x10 x11 1 2).dlb := by rfl

theorem dlb_1_3 :
    kernelRun0_B.sl.r_132 (F := Ideal) c arg3 harg3 arg4 harg4 arg11 harg11 x2 x3 x10 = (piece arg3 harg3 arg4 harg4 arg9 harg9 arg10 harg10 arg11 harg11 arg12 harg12 x2 x3 x8 x9 x10 x11 1 3).dlb := by rfl

theorem db_0_0 :
    kernelRun0_B.sl.v131 (F := Ideal) c arg3 harg3 arg4 harg4 x2 x3 = (piece arg3 harg3 arg4 harg4 arg9 harg9 arg10 harg10 arg11 harg11 arg12 harg12 x2 x3 x8 x9 x10 x11 0 0).db := by rfl

theorem db_0_1 :
    kernelRun0_B.sl.v309 (F := Ideal) c arg3 harg3 arg4 harg4 x2 x3 = (piece arg3 harg3 arg4 harg4 arg9 harg9 arg10 harg10 arg11 harg11 arg12 harg12 x2 x3 x8 x9 x10 x11 0 1).db := by rfl

theorem db_0_2 :
    kernelRun0_B.sl.r_38 (F := Ideal) c arg3 harg3 arg4 harg4 x2 x3 = (piece arg3 harg3 arg4 harg4 arg9 harg9 arg10 harg10 arg11 harg11 arg12 harg12 x2 x3 x8 x9 x10 x11 0 2).db := by rfl

theorem db_0_3 :
    kernelRun0_B.sl.v665 (F := Ideal) c arg3 harg3 arg4 harg4 x2 x3 = (piece arg3 harg3 arg4 harg4 arg9 harg9 arg10 harg10 arg11 harg11 arg12 harg12 x2 x3 x8 x9 x10 x11 0 3).db := by rfl

theorem db_1_0 :
    kernelRun0_B.sl.r_80 (F := Ideal) c arg3 harg3 arg4 harg4 x2 x3 = (piece arg3 harg3 arg4 harg4 arg9 harg9 arg10 harg10 arg11 harg11 arg12 harg12 x2 x3 x8 x9 x10 x11 1 0).db := by rfl

theorem db_1_1 :
    kernelRun0_B.sl.v1033 (F := Ideal) c arg3 harg3 arg4 harg4 x2 x3 = (piece arg3 harg3 arg4 harg4 arg9 harg9 arg10 harg10 arg11 harg11 arg12 harg12 x2 x3 x8 x9 x10 x11 1 1).db := by rfl

theorem db_1_2 :
    kernelRun0_B.sl.r_115 (F := Ideal) c arg3 harg3 arg4 harg4 x2 x3 = (piece arg3 harg3 arg4 harg4 arg9 harg9 arg10 harg10 arg11 harg11 arg12 harg12 x2 x3 x8 x9 x10 x11 1 2).db := by rfl

theorem db_1_3 :
    kernelRun0_B.sl.v1403 (F := Ideal) c arg3 harg3 arg4 harg4 x2 x3 = (piece arg3 harg3 arg4 harg4 arg9 harg9 arg10 harg10 arg11 harg11 arg12 harg12 x2 x3 x8 x9 x10 x11 1 3).db := by rfl

theorem un_0_0 :
    kernelRun0_B.sl.v138 (F := Ideal) c arg3 harg3 arg4 harg4 arg9 harg9 arg10 harg10 x2 x3 x8 x9 = k0_pay49 (piece arg3 harg3 arg4 harg4 arg9 harg9 arg10 harg10 arg11 harg11 arg12 harg12 x2 x3 x8 x9 x10 x11 0 0).z (piece arg3 harg3 arg4 harg4 arg9 harg9 arg10 harg10 arg11 harg11 arg12 harg12 x2 x3 x8 x9 x10 x11 0 0).g (k0_pay38 (piece arg3 harg3 arg4 harg4 arg9 harg9 arg10 harg10 arg11 harg11 arg12 harg12 x2 x3 x8 x9 x10 x11 0 0).v (piece arg3 harg3 arg4 harg4 arg9 harg9 arg10 harg10 arg11 harg11 arg12 harg12 x2 x3 x8 x9 x10 x11 0 0).lg (piece arg3 harg3 arg4 harg4 arg9 harg9 arg10 harg10 arg11 harg11 arg12 harg12 x2 x3 x8 x9 x10 x11 0 0).lb) (piece arg3 harg3 arg4 harg4 arg9 harg9 arg10 harg10 arg11 harg11 arg12 harg12 x2 x3 x8 x9 x10 x11 0 0).h (piece arg3 harg3 arg4 harg4 arg9 harg9 arg10 harg10 arg11 harg11 arg12 harg12 x2 x3 x8 x9 x10 x11 0 0).ct := by rfl

theorem un_0_1 :
    kernelRun0_B.sl.v316 (F := Ideal) c arg3 harg3 arg4 harg4 arg9 harg9 arg10 harg10 x2 x3 x8 x9 = k0_pay49 (piece arg3 harg3 arg4 harg4 arg9 harg9 arg10 harg10 arg11 harg11 arg12 harg12 x2 x3 x8 x9 x10 x11 0 1).z (piece arg3 harg3 arg4 harg4 arg9 harg9 arg10 harg10 arg11 harg11 arg12 harg12 x2 x3 x8 x9 x10 x11 0 1).g (k0_pay38 (piece arg3 harg3 arg4 harg4 arg9 harg9 arg10 harg10 arg11 harg11 arg12 harg12 x2 x3 x8 x9 x10 x11 0 1).v (piece arg3 harg3 arg4 harg4 arg9 harg9 arg10 harg10 arg11 harg11 arg12 harg12 x2 x3 x8 x9 x10 x11 0 1).lg (piece arg3 harg3 arg4 harg4 arg9 harg9 arg10 harg10 arg11 harg11 arg12 harg12 x2 x3 x8 x9 x10 x11 0 1).lb) (piece arg3 harg3 arg4 harg4 arg9 harg9 arg10 harg10 arg11 harg11 arg12 harg12 x2 x3 x8 x9 x10 x11 0 1).h (piece arg3 harg3 arg4 harg4 arg9 harg9 arg10 harg10 arg11 harg11 arg12 harg12 x2 x3 x8 x9 x10 x11 0 1).ct := by rfl

theorem un_0_2 :
    kernelRun0_B.sl.r_39 (F := Ideal) c arg3 harg3 arg4 harg4 arg9 harg9 arg10 harg10 x2 x3 x8 x9 = k0_pay49 (piece arg3 harg3 arg4 harg4 arg9 harg9 arg10 harg10 arg11 harg11 arg12 harg12 x2 x3 x8 x9 x10 x11 0 2).z (piece arg3 harg3 arg4 harg4 arg9 harg9 arg10 harg10 arg11 harg11 arg12 harg12 x2 x3 x8 x9 x10 x11 0 2).g (k0_pay38 (piece arg3 harg3 arg4 harg4 arg9 harg9 arg10 harg10 arg11 harg11 arg12 harg12 x2 x3 x8 x9 x10 x11 0 2).v (piece arg3 harg3 arg4 harg4 arg9 harg9 arg10 harg10 arg11 harg11 arg12 harg12 x2 x3 x8 x9 x10 x11 0 2).lg (piece arg3 harg3 arg4 harg4 arg9 harg9 arg10 harg10 arg11 harg11 arg12 harg12 x2 x3 x8 x9 x10 x11 0 2).lb) (piece arg3 harg3 arg4 harg4 arg9 harg9 arg10 harg10 arg11 harg11 arg12 harg12 x2 x3 x8 x9 x10 x11 0 2).h (piece arg3 harg3 arg4 harg4 arg9 harg9 arg10 harg10 arg11 harg11 arg12 harg12 x2 x3 x8 x9 x10 x11 0 2).ct := by rfl

theorem un_0_3 :
    kernelRun0_B.sl.v672 (F := Ideal) c arg3 harg3 arg4 harg4 arg9 harg9 arg10 harg10 x2 x3 x8 x9 = k0_pay49 (piece arg3 harg3 arg4 harg4 arg9 harg9 arg10 harg10 arg11 harg11 arg12 harg12 x2 x3 x8 x9 x10 x11 0 3).z (piece arg3 harg3 arg4 harg4 arg9 harg9 arg10 harg10 arg11 harg11 arg12 harg12 x2 x3 x8 x9 x10 x11 0 3).g (k0_pay38 (piece arg3 harg3 arg4 harg4 arg9 harg9 arg10 harg10 arg11 harg11 arg12 harg12 x2 x3 x8 x9 x10 x11 0 3).v (piece arg3 harg3 arg4 harg4 arg9 harg9 arg10 harg10 arg11 harg11 arg12 harg12 x2 x3 x8 x9 x10 x11 0 3).lg (piece arg3 harg3 arg4 harg4 arg9 harg9 arg10 harg10 arg11 harg11 arg12 harg12 x2 x3 x8 x9 x10 x11 0 3).lb) (piece arg3 harg3 arg4 harg4 arg9 harg9 arg10 harg10 arg11 harg11 arg12 harg12 x2 x3 x8 x9 x10 x11 0 3).h (piece arg3 harg3 arg4 harg4 arg9 harg9 arg10 harg10 arg11 harg11 arg12 harg12 x2 x3 x8 x9 x10 x11 0 3).ct := by rfl

theorem un_1_0 :
    kernelRun0_B.sl.r_81 (F := Ideal) c arg3 harg3 arg4 harg4 arg9 harg9 arg10 harg10 x2 x3 x8 x9 = k0_pay49 (piece arg3 harg3 arg4 harg4 arg9 harg9 arg10 harg10 arg11 harg11 arg12 harg12 x2 x3 x8 x9 x10 x11 1 0).z (piece arg3 harg3 arg4 harg4 arg9 harg9 arg10 harg10 arg11 harg11 arg12 harg12 x2 x3 x8 x9 x10 x11 1 0).g (k0_pay38 (piece arg3 harg3 arg4 harg4 arg9 harg9 arg10 harg10 arg11 harg11 arg12 harg12 x2 x3 x8 x9 x10 x11 1 0).v (piece arg3 harg3 arg4 harg4 arg9 harg9 arg10 harg10 arg11 harg11 arg12 harg12 x2 x3 x8 x9 x10 x11 1 0).lg (piece arg3 harg3 arg4 harg4 arg9 harg9 arg10 harg10 arg11 harg11 arg12 harg12 x2 x3 x8 x9 x10 x11 1 0).lb) (piece arg3 harg3 arg4 harg4 arg9 harg9 arg10 harg10 arg11 harg11 arg12 harg12 x2 x3 x8 x9 x10 x11 1 0).h (piece arg3 harg3 arg4 harg4 arg9 harg9 arg10 harg10 arg11 harg11 arg12 harg12 x2 x3 x8 x9 x10 x11 1 0).ct := by rfl

theorem un_1_1 :
    kernelRun0_B.sl.v1040 (F := Ideal) c arg3 harg3 arg4 harg4 arg9 harg9 arg10 harg10 x2 x3 x8 x9 = k0_pay49 (piece arg3 harg3 arg4 harg4 arg9 harg9 arg10 harg10 arg11 harg11 arg12 harg12 x2 x3 x8 x9 x10 x11 1 1).z (piece arg3 harg3 arg4 harg4 arg9 harg9 arg10 harg10 arg11 harg11 arg12 harg12 x2 x3 x8 x9 x10 x11 1 1).g (k0_pay38 (piece arg3 harg3 arg4 harg4 arg9 harg9 arg10 harg10 arg11 harg11 arg12 harg12 x2 x3 x8 x9 x10 x11 1 1).v (piece arg3 harg3 arg4 harg4 arg9 harg9 arg10 harg10 arg11 harg11 arg12 harg12 x2 x3 x8 x9 x10 x11 1 1).lg (piece arg3 harg3 arg4 harg4 arg9 harg9 arg10 harg10 arg11 harg11 arg12 harg12 x2 x3 x8 x9 x10 x11 1 1).lb) (piece arg3 harg3 arg4 harg4 arg9 harg9 arg10 harg10 arg11 harg11 arg12 harg12 x2 x3 x8 x9 x10 x11 1 1).h (piece arg3 harg3 arg4 harg4 arg9 harg9 arg10 harg10 arg11 harg11 arg12 harg12 x2 x3 x8 x9 x10 x11 1 1).ct := by rfl

theorem un_1_2 :
    kernelRun0_B.sl.r_116 (F := Ideal) c arg3 harg3 arg4 harg4 arg9 harg9 arg10 harg10 x2 x3 x8 x9 = k0_pay49 (piece arg3 harg3 arg4 harg4 arg9 harg9 arg10 harg10 arg11 harg11 arg12 harg12 x2 x3 x8 x9 x10 x11 1 2).z (piece arg3 harg3 arg4 harg4 arg9 harg9 arg10 harg10 arg11 harg11 arg12 harg12 x2 x3 x8 x9 x10 x11 1 2).g (k0_pay38 (piece arg3 harg3 arg4 harg4 arg9 harg9 arg10 harg10 arg11 harg11 arg12 harg12 x2 x3 x8 x9 x10 x11 1 2).v (piece arg3 harg3 arg4 harg4 arg9 harg9 arg10 harg10 arg11 harg11 arg12 harg12 x2 x3 x8 x9 x10 x11 1 2).lg (piece arg3 harg3 arg4 harg4 arg9 harg9 arg10 harg10 arg11 harg11 arg12 harg12 x2 x3 x8 x9 x10 x11 1 2).lb) (piece arg3 harg3 arg4 harg4 arg9 harg9 arg10 harg10 arg11 harg11 arg12 harg12 x2 x3 x8 x9 x10 x11 1 2).h (piece arg3 harg3 arg4 harg4 arg9 harg9 arg10 harg10 arg11 harg11 arg12 harg12 x2 x3 x8 x9 x10 x11 1 2).ct := by rfl

theorem un_1_3 :
    kernelRun0_B.sl.v1410 (F := Ideal) c arg3 harg3 arg4 harg4 arg9 harg9 arg10 harg10 x2 x3 x8 x9 = k0_pay49 (piece arg3 harg3 arg4 harg4 arg9 harg9 arg10 harg10 arg11 harg11 arg12 harg12 x2 x3 x8 x9 x10 x11 1 3).z (piece arg3 harg3 arg4 harg4 arg9 harg9 arg10 harg10 arg11 harg11 arg12 harg12 x2 x3 x8 x9 x10 x11 1 3).g (k0_pay38 (piece arg3 harg3 arg4 harg4 arg9 harg9 arg10 harg10 arg11 harg11 arg12 harg12 x2 x3 x8 x9 x10 x11 1 3).v (piece arg3 harg3 arg4 harg4 arg9 harg9 arg10 harg10 arg11 harg11 arg12 harg12 x2 x3 x8 x9 x10 x11 1 3).lg (piece arg3 harg3 arg4 harg4 arg9 harg9 arg10 harg10 arg11 harg11 arg12 harg12 x2 x3 x8 x9 x10 x11 1 3).lb) (piece arg3 harg3 arg4 harg4 arg9 harg9 arg10 harg10 arg11 harg11 arg12 harg12 x2 x3 x8 x9 x10 x11 1 3).h (piece arg3 harg3 arg4 harg4 arg9 harg9 arg10 harg10 arg11 harg11 arg12 harg12 x2 x3 x8 x9 x10 x11 1 3).ct := by rfl

theorem dws_0_0 :
    kernelRun0_B.sl.r_13 (F := Ideal) c arg3 harg3 arg4 harg4 arg9 harg9 arg10 harg10 x2 x3 x8 x9 = (piece arg3 harg3 arg4 harg4 arg9 harg9 arg10 harg10 arg11 harg11 arg12 harg12 x2 x3 x8 x9 x10 x11 0 0).dws :=
  congrArg (k0_pay55 mask) (un_0_0 ..)

theorem dws_0_1 :
    kernelRun0_B.sl.r_24 (F := Ideal) c arg3 harg3 arg4 harg4 arg9 harg9 arg10 harg10 x2 x3 x8 x9 = (piece arg3 harg3 arg4 harg4 arg9 harg9 arg10 harg10 arg11 harg11 arg12 harg12 x2 x3 x8 x9 x10 x11 0 1).dws :=
  congrArg (k0_pay55 mask) (un_0_1 ..)

theorem dws_0_2 :
    k0_pay55 mask (kernelRun0_B.sl.r_39 (F := Ideal) c arg3 harg3 arg4 harg4 arg9 harg9 arg10 harg10 x2 x3 x8 x9) = (piece arg3 harg3 arg4 harg4 arg9 harg9 arg10 harg10 arg11 harg11 arg12 harg12 x2 x3 x8 x9 x10 x11 0 2).dws :=
  congrArg (k0_pay55 mask) (un_0_2 ..)

theorem dws_0_3 :
    kernelRun0_B.sl.r_55 (F := Ideal) c arg3 harg3 arg4 harg4 arg9 harg9 arg10 harg10 x2 x3 x8 x9 = (piece arg3 harg3 arg4 harg4 arg9 harg9 arg10 harg10 arg11 harg11 arg12 harg12 x2 x3 x8 x9 x10 x11 0 3).dws :=
  congrArg (k0_pay55 mask) (un_0_3 ..)

theorem dws_1_0 :
    kernelRun0_B.sl.r_86 (F := Ideal) c arg3 harg3 arg4 harg4 arg9 harg9 arg10 harg10 x2 x3 x8 x9 = (piece arg3 harg3 arg4 harg4 arg9 harg9 arg10 harg10 arg11 harg11 arg12 harg12 x2 x3 x8 x9 x10 x11 1 0).dws :=
  congrArg (k0_pay55 mask) (un_1_0 ..)

theorem dws_1_1 :
    kernelRun0_B.sl.r_95 (F := Ideal) c arg3 harg3 arg4 harg4 arg9 harg9 arg10 harg10 x2 x3 x8 x9 = (piece arg3 harg3 arg4 harg4 arg9 harg9 arg10 harg10 arg11 harg11 arg12 harg12 x2 x3 x8 x9 x10 x11 1 1).dws :=
  congrArg (k0_pay55 mask) (un_1_1 ..)

theorem dws_1_2 :
    kernelRun0_B.sl.r_121 (F := Ideal) c arg3 harg3 arg4 harg4 arg9 harg9 arg10 harg10 x2 x3 x8 x9 = (piece arg3 harg3 arg4 harg4 arg9 harg9 arg10 harg10 arg11 harg11 arg12 harg12 x2 x3 x8 x9 x10 x11 1 2).dws :=
  congrArg (k0_pay55 mask) (un_1_2 ..)

theorem dws_1_3 :
    kernelRun0_B.sl.r_134 (F := Ideal) c arg3 harg3 arg4 harg4 arg9 harg9 arg10 harg10 x2 x3 x8 x9 = (piece arg3 harg3 arg4 harg4 arg9 harg9 arg10 harg10 arg11 harg11 arg12 harg12 x2 x3 x8 x9 x10 x11 1 3).dws :=
  congrArg (k0_pay55 mask) (un_1_3 ..)

/-- The point's stores of the gating unit's gradients. -/
theorem gates_eq :
    kernelRun0_B.sl.HS2_24 (F := Ideal) c arg3 harg3 arg4 harg4 arg9 harg9 arg10 harg10 arg11 harg11 arg12 harg12 x2 x3 x8 x9 x10 x11 = gates fun k g q => (piece arg3 harg3 arg4 harg4 arg9 harg9 arg10 harg10 arg11 harg11 arg12 harg12 x2 x3 x8 x9 x10 x11 k g).d3 q := by
  have e : ![![![k0_pay56 (F := Ideal) (kernelRun0_B.sl.v43 c arg3 harg3 x2) (kernelRun0_B.sl.r_3 c arg3 harg3 x2) (kernelRun0_B.sl.v129 c arg3 harg3 arg4 harg4 arg9 harg9 arg10 harg10 arg11 harg11 arg12 harg12 x2 x3 x8 x9 x10 x11), k0_pay57 (F := Ideal) (kernelRun0_B.sl.v45 c arg3 harg3 x2) (kernelRun0_B.sl.r_5 c arg3 harg3 x2) (kernelRun0_B.sl.r_6 c arg3 harg3 x2) (kernelRun0_B.sl.r_7 c arg3 harg3 x2) (kernelRun0_B.sl.v151 c arg3 harg3 arg4 harg4 arg9 harg9 arg11 harg11 x2 x3 x8 x10) (kernelRun0_B.sl.v156 c arg3 harg3 arg4 harg4 arg9 harg9 arg11 harg11 x2 x3 x8 x10), k0_pay58 (F := Ideal) (kernelRun0_B.sl.v127 c arg3 harg3 arg4 harg4 arg9 harg9 arg10 harg10 arg11 harg11 arg12 harg12 x2 x3 x8 x9 x10 x11)], ![k0_pay93 (F := Ideal) (kernelRun0_B.sl.v221 c arg3 harg3 x2) (kernelRun0_B.sl.r_18 c arg3 harg3 x2) (kernelRun0_B.sl.v307 c arg3 harg3 arg4 harg4 arg9 harg9 arg10 harg10 arg11 harg11 arg12 harg12 x2 x3 x8 x9 x10 x11), kernelRun0_B.sl.v367 (F := Ideal) c arg3 harg3 arg4 harg4 arg9 harg9 arg11 harg11 x2 x3 x8 x10, kernelRun0_B.sl.v371 (F := Ideal) c arg3 harg3 arg4 harg4 arg9 harg9 arg10 harg10 arg11 harg11 arg12 harg12 x2 x3 x8 x9 x10 x11], ![k0_pay131 (F := Ideal) (kernelRun0_B.sl.r_26 c arg3 harg3 x2) (kernelRun0_B.sl.r_33 c arg3 harg3 x2) (kernelRun0_B.sl.r_37 c arg3 harg3 arg4 harg4 arg9 harg9 arg10 harg10 arg11 harg11 arg12 harg12 x2 x3 x8 x9 x10 x11) (k0_pay130 (F := Ideal)), k0_pay132 (F := Ideal) (kernelRun0_B.sl.r_42 c arg3 harg3 arg4 harg4 arg9 harg9 arg11 harg11 x2 x3 x8 x10), k0_pay133 (F := Ideal) (kernelRun0_B.sl.r_36 c arg3 harg3 arg4 harg4 arg9 harg9 arg10 harg10 arg11 harg11 arg12 harg12 x2 x3 x8 x9 x10 x11)], ![k0_pay169 (F := Ideal) (kernelRun0_B.sl.v577 c arg3 harg3 x2) (kernelRun0_B.sl.r_46 c arg3 harg3 x2) (kernelRun0_B.sl.v663 c arg3 harg3 arg4 harg4 arg9 harg9 arg10 harg10 arg11 harg11 arg12 harg12 x2 x3 x8 x9 x10 x11), k0_pay170 (F := Ideal) (kernelRun0_B.sl.v579 c arg3 harg3 x2) (kernelRun0_B.sl.r_48 c arg3 harg3 x2) (kernelRun0_B.sl.r_49 c arg3 harg3 x2) (kernelRun0_B.sl.r_50 c arg3 harg3 x2) (kernelRun0_B.sl.v685 c arg3 harg3 arg4 harg4 arg9 harg9 arg11 harg11 x2 x3 x8 x10) (kernelRun0_B.sl.v688 c arg3 harg3 arg4 harg4 arg9 harg9 arg11 harg11 x2 x3 x8 x10), k0_pay171 (F := Ideal) (kernelRun0_B.sl.v661 c arg3 harg3 arg4 harg4 arg9 harg9 arg10 harg10 arg11 harg11 arg12 harg12 x2 x3 x8 x9 x10 x11)]], ![![k0_pay209 (F := Ideal) (kernelRun0_B.sl.r_58 c arg3 harg3 x2) (kernelRun0_B.sl.r_66 c arg3 harg3 x2) (kernelRun0_B.sl.r_79 c arg3 harg3 arg4 harg4 arg9 harg9 arg10 harg10 arg11 harg11 arg12 harg12 x2 x3 x8 x9 x10 x11), k0_pay210 (F := Ideal) (kernelRun0_B.sl.r_59 c arg3 harg3 x2) (kernelRun0_B.sl.r_68 c arg3 harg3 x2) (kernelRun0_B.sl.r_84 c arg3 harg3 arg4 harg4 arg9 harg9 arg11 harg11 x2 x3 x8 x10) (kernelRun0_B.sl.r_85 c arg3 harg3 x2) (kernelRun0_B.sl.cst_373 (F := Ideal)), k0_pay211 (F := Ideal) (kernelRun0_B.sl.r_78 c arg3 harg3 arg4 harg4 arg9 harg9 arg10 harg10 arg11 harg11 arg12 harg12 x2 x3 x8 x9 x10 x11)], ![k0_pay246 (F := Ideal) (kernelRun0_B.sl.v945 c arg3 harg3 x2) (kernelRun0_B.sl.r_89 c arg3 harg3 x2) (kernelRun0_B.sl.v1031 c arg3 harg3 arg4 harg4 arg9 harg9 arg10 harg10 arg11 harg11 arg12 harg12 x2 x3 x8 x9 x10 x11), k0_pay247 (F := Ideal) (kernelRun0_B.sl.v947 c arg3 harg3 x2) (kernelRun0_B.sl.r_91 c arg3 harg3 x2) (kernelRun0_B.sl.r_92 c arg3 harg3 x2) (kernelRun0_B.sl.r_93 c arg3 harg3 x2) (kernelRun0_B.sl.v1047 c arg3 harg3 arg4 harg4 arg9 harg9 arg11 harg11 x2 x3 x8 x10) (kernelRun0_B.sl.v1049 c arg3 harg3 arg4 harg4 arg9 harg9 arg11 harg11 x2 x3 x8 x10) (kernelRun0_B.sl.v148 (F := Ideal)), kernelRun0_B.sl.r_96 (F := Ideal) c arg3 harg3 arg4 harg4 arg9 harg9 arg10 harg10 arg11 harg11 arg12 harg12 x2 x3 x8 x9 x10 x11], ![k0_pay284 (F := Ideal) (kernelRun0_B.sl.r_97 c arg3 harg3 x2) (kernelRun0_B.sl.r_102 c arg3 harg3 x2) (kernelRun0_B.sl.r_114 c arg3 harg3 arg4 harg4 arg9 harg9 arg10 harg10 arg11 harg11 arg12 harg12 x2 x3 x8 x9 x10 x11), k0_pay285 (F := Ideal) (kernelRun0_B.sl.r_104 c arg3 harg3 x2) (kernelRun0_B.sl.r_119 c arg3 harg3 arg4 harg4 arg9 harg9 arg11 harg11 x2 x3 x8 x10) (kernelRun0_B.sl.r_120 c arg3 harg3 x2), k0_pay286 (F := Ideal) (kernelRun0_B.sl.r_113 c arg3 harg3 arg4 harg4 arg9 harg9 arg10 harg10 arg11 harg11 arg12 harg12 x2 x3 x8 x9 x10 x11)], ![k0_pay323 (F := Ideal) (kernelRun0_B.sl.v1315 c arg3 harg3 x2) (kernelRun0_B.sl.r_127 c arg3 harg3 x2) (kernelRun0_B.sl.v1401 c arg3 harg3 arg4 harg4 arg9 harg9 arg10 harg10 arg11 harg11 arg12 harg12 x2 x3 x8 x9 x10 x11), kernelRun0_B.sl.v1461 (F := Ideal) c arg3 harg3 arg4 harg4 arg9 harg9 arg11 harg11 x2 x3 x8 x10, kernelRun0_B.sl.v1465 (F := Ideal) c arg3 harg3 arg4 harg4 arg9 harg9 arg10 harg10 arg11 harg11 arg12 harg12 x2 x3 x8 x9 x10 x11]]] = fun k g q => (piece arg3 harg3 arg4 harg4 arg9 harg9 arg10 harg10 arg11 harg11 arg12 harg12 x2 x3 x8 x9 x10 x11 k g).d3 q := by
    funext k g q
    fin_cases k <;> fin_cases g <;> fin_cases q
    exacts [d_0_0_0 .., d_0_0_1 .., d_0_0_2 .., d_0_1_0 .., d_0_1_1 .., d_0_1_2 .., d_0_2_0 .., d_0_2_1 .., d_0_2_2 .., d_0_3_0 .., d_0_3_1 .., d_0_3_2 .., d_1_0_0 .., d_1_0_1 .., d_1_0_2 .., d_1_1_0 .., d_1_1_1 .., d_1_1_2 .., d_1_2_0 .., d_1_2_1 .., d_1_2_2 .., d_1_3_0 .., d_1_3_1 .., d_1_3_2 ..]
  rw [← e]
  rfl

/-- What the point leaves in output 16. -/
theorem out_16 :
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0 hc1 x0 x1 x2 x3 x4 x5 x6 x7 x8 x9 x10 x11 x12 x13 xo15 xo16 xo17 xo18 xo19 xs0
      = VO0_16.read (Elt Ideal) (VO0_16.writes (Elt Ideal) VO0_16.junk (rowB8 arg18 (fun g => View.readAt (Elt Ideal) arg18.view (rowR g).toLoadRect (harg18.unread xo16)) fun k g => (piece arg3 harg3 arg4 harg4 arg9 harg9 arg10 harg10 arg11 harg11 arg12 harg12 x2 x3 x8 x9 x10 x11 k g).dlg)) := by
  have e : ![![kernelRun0_B.sl.v143 (F := Ideal) c arg3 harg3 arg4 harg4 arg11 harg11 x2 x3 x10, kernelRun0_B.sl.r_23 (F := Ideal) c arg3 harg3 arg4 harg4 arg11 harg11 x2 x3 x10, kernelRun0_B.sl.r_41 (F := Ideal) c arg3 harg3 arg4 harg4 arg11 harg11 x2 x3 x10, kernelRun0_B.sl.v677 (F := Ideal) c arg3 harg3 arg4 harg4 arg11 harg11 x2 x3 x10], ![kernelRun0_B.sl.r_83 (F := Ideal) c arg3 harg3 arg4 harg4 arg11 harg11 x2 x3 x10, kernelRun0_B.sl.v1045 (F := Ideal) c arg3 harg3 arg4 harg4 arg11 harg11 x2 x3 x10, kernelRun0_B.sl.r_118 (F := Ideal) c arg3 harg3 arg4 harg4 arg11 harg11 x2 x3 x10, kernelRun0_B.sl.r_133 (F := Ideal) c arg3 harg3 arg4 harg4 arg11 harg11 x2 x3 x10]] = fun k g => (piece arg3 harg3 arg4 harg4 arg9 harg9 arg10 harg10 arg11 harg11 arg12 harg12 x2 x3 x8 x9 x10 x11 k g).dlg := by
    funext k g
    fin_cases k <;> fin_cases g
    exacts [dlg_0_0 .., dlg_0_1 .., dlg_0_2 .., dlg_0_3 .., dlg_1_0 .., dlg_1_1 .., dlg_1_2 .., dlg_1_3 ..]
  rw [← e]
  rfl

/-- What the point leaves in output 17. -/
theorem out_17 :
    out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0 hc1 x0 x1 x2 x3 x4 x5 x6 x7 x8 x9 x10 x11 x12 x13 xo15 xo16 xo17 xo18 xo19 xs0
      = VO0_17.read (Elt Ideal) (VO0_17.writes (Elt Ideal) VO0_17.junk (rowB8 arg19 (fun g => View.readAt (Elt Ideal) arg19.view (rowR g).toLoadRect (harg19.unread xo17)) fun k g => (piece arg3 harg3 arg4 harg4 arg9 harg9 arg10 harg10 arg11 harg11 arg12 harg12 x2 x3 x8 x9 x10 x11 k g).dlb)) := by
  have e : ![![kernelRun0_B.sl.v140 (F := Ideal) c arg3 harg3 arg4 harg4 arg11 harg11 x2 x3 x10, kernelRun0_B.sl.v318 (F := Ideal) c arg3 harg3 arg4 harg4 arg11 harg11 x2 x3 x10, kernelRun0_B.sl.r_40 (F := Ideal) c arg3 harg3 arg4 harg4 arg11 harg11 x2 x3 x10, kernelRun0_B.sl.v674 (F := Ideal) c arg3 harg3 arg4 harg4 arg11 harg11 x2 x3 x10], ![kernelRun0_B.sl.r_82 (F := Ideal) c arg3 harg3 arg4 harg4 arg11 harg11 x2 x3 x10, kernelRun0_B.sl.v1042 (F := Ideal) c arg3 harg3 arg4 harg4 arg11 harg11 x2 x3 x10, kernelRun0_B.sl.r_117 (F := Ideal) c arg3 harg3 arg4 harg4 arg11 harg11 x2 x3 x10, kernelRun0_B.sl.r_132 (F := Ideal) c arg3 harg3 arg4 harg4 arg11 harg11 x2 x3 x10]] = fun k g => (piece arg3 harg3 arg4 harg4 arg9 harg9 arg10 harg10 arg11 harg11 arg12 harg12 x2 x3 x8 x9 x10 x11 k g).dlb := by
    funext k g
    fin_cases k <;> fin_cases g
    exacts [dlb_0_0 .., dlb_0_1 .., dlb_0_2 .., dlb_0_3 .., dlb_1_0 .., dlb_1_1 .., dlb_1_2 .., dlb_1_3 ..]
  rw [← e]
  rfl

/-- What the point leaves in output 18. -/
theorem out_18 :
    out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0 hc1 x0 x1 x2 x3 x4 x5 x6 x7 x8 x9 x10 x11 x12 x13 xo15 xo16 xo17 xo18 xo19 xs0
      = VO0_18.read (Elt Ideal) (VO0_18.writes (Elt Ideal) VO0_18.junk (cubeB8 arg20 (fun g => View.readAt (Elt Ideal) arg20.view (wsR g).toLoadRect (harg20.unread xo18)) fun k g => (piece arg3 harg3 arg4 harg4 arg9 harg9 arg10 harg10 arg11 harg11 arg12 harg12 x2 x3 x8 x9 x10 x11 k g).dws)) := by
  have e : ![![kernelRun0_B.sl.r_13 (F := Ideal) c arg3 harg3 arg4 harg4 arg9 harg9 arg10 harg10 x2 x3 x8 x9, kernelRun0_B.sl.r_24 (F := Ideal) c arg3 harg3 arg4 harg4 arg9 harg9 arg10 harg10 x2 x3 x8 x9, k0_pay55 mask (kernelRun0_B.sl.r_39 (F := Ideal) c arg3 harg3 arg4 harg4 arg9 harg9 arg10 harg10 x2 x3 x8 x9), kernelRun0_B.sl.r_55 (F := Ideal) c arg3 harg3 arg4 harg4 arg9 harg9 arg10 harg10 x2 x3 x8 x9], ![kernelRun0_B.sl.r_86 (F := Ideal) c arg3 harg3 arg4 harg4 arg9 harg9 arg10 harg10 x2 x3 x8 x9, kernelRun0_B.sl.r_95 (F := Ideal) c arg3 harg3 arg4 harg4 arg9 harg9 arg10 harg10 x2 x3 x8 x9, kernelRun0_B.sl.r_121 (F := Ideal) c arg3 harg3 arg4 harg4 arg9 harg9 arg10 harg10 x2 x3 x8 x9, kernelRun0_B.sl.r_134 (F := Ideal) c arg3 harg3 arg4 harg4 arg9 harg9 arg10 harg10 x2 x3 x8 x9]] = fun k g => (piece arg3 harg3 arg4 harg4 arg9 harg9 arg10 harg10 arg11 harg11 arg12 harg12 x2 x3 x8 x9 x10 x11 k g).dws := by
    funext k g
    fin_cases k <;> fin_cases g
    exacts [dws_0_0 .., dws_0_1 .., dws_0_2 .., dws_0_3 .., dws_1_0 .., dws_1_1 .., dws_1_2 .., dws_1_3 ..]
  rw [← e]
  rfl

/-- What the point leaves in output 19. -/
theorem out_19 :
    out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0 hc1 x0 x1 x2 x3 x4 x5 x6 x7 x8 x9 x10 x11 x12 x13 xo15 xo16 xo17 xo18 xo19 xs0
      = VO0_19.read (Elt Ideal) (VO0_19.writes (Elt Ideal) VO0_19.junk (bias8 arg21 (View.readAt (Elt Ideal) arg21.view (biasR).toLoadRect (harg21.unread xo19)) [] fun k g => (piece arg3 harg3 arg4 harg4 arg9 harg9 arg10 harg10 arg11 harg11 arg12 harg12 x2 x3 x8 x9 x10 x11 k g).db)) := by
  have e : ![![kernelRun0_B.sl.v131 (F := Ideal) c arg3 harg3 arg4 harg4 x2 x3, kernelRun0_B.sl.v309 (F := Ideal) c arg3 harg3 arg4 harg4 x2 x3, kernelRun0_B.sl.r_38 (F := Ideal) c arg3 harg3 arg4 harg4 x2 x3, kernelRun0_B.sl.v665 (F := Ideal) c arg3 harg3 arg4 harg4 x2 x3], ![kernelRun0_B.sl.r_80 (F := Ideal) c arg3 harg3 arg4 harg4 x2 x3, kernelRun0_B.sl.v1033 (F := Ideal) c arg3 harg3 arg4 harg4 x2 x3, kernelRun0_B.sl.r_115 (F := Ideal) c arg3 harg3 arg4 harg4 x2 x3, kernelRun0_B.sl.v1403 (F := Ideal) c arg3 harg3 arg4 harg4 x2 x3]] = fun k g => (piece arg3 harg3 arg4 harg4 arg9 harg9 arg10 harg10 arg11 harg11 arg12 harg12 x2 x3 x8 x9 x10 x11 k g).db := by
    funext k g
    fin_cases k <;> fin_cases g
    exacts [db_0_0 .., db_0_1 .., db_0_2 .., db_0_3 .., db_1_0 .., db_1_1 .., db_1_2 .., db_1_3 ..]
  rw [← e]
  rfl

end Cert.KPointB

end
-- ==== Proof.KernelOutB.lean ====
/-
  What one grid point but the first leaves in each output, in the arguments' numbers.
-/
module

public import proofs.«01_k».proof.Proof.KernelRow
public import proofs.«01_k».proof.Proof.KernelB

@[expose] public section

set_option maxRecDepth 16384

noncomputable section

open Idealize.ShloMosaic Idealize.ShloMosaic.TcCoe Cert.Layer Cert.Reals Cert.KernelIdeal Cert.KernelIdeal.Gen

namespace Cert.KPointB

open Cert.KPoint

variable {A : Args} {t : ℕ} (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1536 .f32) (harg3 : arg3.IsWhole) (arg4 : Memref sig .tc .vmem S256x512 .f32) (harg4 : arg4.IsWhole) (arg5 : Memref sig .tc .vmem S256x1536 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x4 .f32) (harg12 : arg12.IsWhole) (arg13 : Memref sig .tc .vmem S3592x1024 .bf16) (harg13 : arg13.IsWhole) (arg14 : Memref sig .tc .vmem S128x1024 .bf16) (harg14 : arg14.IsWhole) (arg15 : Memref sig .tc .vmem S256x1024 .f32) (harg15 : arg15.IsWhole) (arg17 : Memref sig .tc .vmem S1x1024 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x128x128 .f32) (harg20 : arg20.IsWhole) (arg21 : Memref sig .tc .vmem S128x4 .f32) (harg21 : arg21.IsWhole) (arg22 : Memref sig .tc .vmem S3712x1024 .f32) (harg22 : arg22.IsWhole) (arg23 : Memref sig .tc .vmem S449x1024 .f32) (harg23 : arg23.IsWhole) (arg24 : Memref sig .tc .vmem S256x1536 .bf16) (harg24 : arg24.IsWhole) (hc0 : ¬cond0_0 i) (hc1 : ¬cond0_1 i) (x0 : Vec Ideal S256x1024 .f32) (x1 : Vec Ideal S256x1024 .f32) (x2 : Vec Ideal S256x1536 .f32) (x3 : Vec Ideal S256x512 .f32) (x4 : Vec Ideal S256x1536 .bf16) (x5 : Vec Ideal S256x512 .bf16) (x6 : Vec Ideal S256x128 .bf16) (x7 : Vec Ideal S1x1024 .f32) (x8 : Vec Ideal S1x512 .f32) (x9 : Vec Ideal S1x512 .f32) (x10 : Vec Ideal S4x128x128 .f32) (x11 : Vec Ideal S128x4 .f32) (x12 : Vec Ideal S3592x1024 .bf16) (x13 : Vec Ideal S128x1024 .bf16) (xo15 : Vec Ideal S1x1024 .f32) (xo16 : Vec Ideal S1x512 .f32) (xo17 : Vec Ideal S1x512 .f32) (xo18 : Vec Ideal S4x128x128 .f32) (xo19 : Vec Ideal S128x4 .f32) (xs0 : Vec Ideal S3712x1024 .f32)
  (h : Holds A t x0 x1 x2 x3 x4 x5 x6 x7 x8 x9 x10 x11 x12 x13)

include h in
/-- The gradient of the scaled normalised rows, as the point computes it. -/
theorem dxn_at (r : Fin 256) (k : Fin 1024) :
    (dxnV (View.readAt (Elt Ideal) arg14.view (Rect.unit (s := S128x1024) ![0, 0] S128x1024.size inb_S128x1024_S128x1024_0_0).toLoadRect (harg14.unread x13)) (View.readAt (Elt Ideal) arg7.view (Rect.unit (s := S256x128) ![0, 0] S256x128.size inb_S256x128_S256x128_0_0).toLoadRect (harg7.unread x6)) (View.readAt (Elt Ideal) arg13.view (Rect.unit (s := S3592x1024) ![3072, 0] S512x1024.size inb_S3592x1024_S512x1024_3072_0).toLoadRect (harg13.unread x12)) (View.readAt (Elt Ideal) arg6.view (Rect.unit (s := S256x512) ![0, 0] S256x512.size inb_S256x512_S256x512_0_0).toLoadRect (harg6.unread x5)) (View.readAt (Elt Ideal) arg13.view (Rect.unit (s := S3592x1024) ![1536, 0] S1536x1024.size inb_S3592x1024_S1536x1024_1536_0).toLoadRect (harg13.unread x12)) (View.readAt (Elt Ideal) arg5.view (Rect.unit (s := S256x1536) ![0, 0] S256x1536.size inb_S256x1536_S256x1536_0_0).toLoadRect (harg5.unread x4)) (View.readAt (Elt Ideal) arg13.view (Rect.unit (s := S3592x1024) ![0, 0] S1536x1024.size inb_S3592x1024_S1536x1024_0_0).toLoadRect (harg13.unread x12)) (arg24.view.readCov (gates fun k g q => (piece arg3 harg3 arg4 harg4 arg9 harg9 arg10 harg10 arg11 harg11 arg12 harg12 x2 x3 x8 x9 x10 x11 k g).d3 q) (Rect.unit (s := S256x1536) ![0, 0] S256x1536.size inb_S256x1536_S256x1536_0_0).toLoadRect)) (ix2 r k) = ((A.dxn (256 * t + r) k : ℝ) : EReal) := by
  refine dxnV_real (fun c k => ?_) (fun r k => ?_) (fun c k => ?_) (fun r k => ?_) (fun c k => ?_) (fun r k => ?_) (fun c k => ?_)
    (fun r c => ?_) r k
  · rw [read_at, rect2]
    refine (h.wg _ _).trans ?_
    simp
  · rw [read_at, rect2]
    refine (h.dl _ _).trans ?_
    simp
  · rw [read_at, rect2]
    refine (h.wt _ _).trans ?_
    simp
  · rw [read_at, rect2]
    refine (h.dz _ _).trans ?_
    simp
  · rw [read_at, rect2]
    refine (h.wt _ _).trans ?_
    simp
  · rw [read_at, rect2]
    refine (h.dq _ _).trans ?_
    simp
  · rw [read_at, rect2]
    refine (h.wt _ _).trans ?_
    simp
  · rw [View.readCov_eq_canon']
    refine (congrArg (View.canon _) (whole_idx inb_S256x1536_S256x1536_0_0 (by decide) (ix2 r c))).trans ?_
    refine gates_canon _ (fun k g q s j => ?_) r c
    fin_cases q
    · exact KTile.du (piece_holds (h := h) (k := k) (g := g) ..) s j
    · exact KTile.dv (piece_holds (h := h) (k := k) (g := g) ..) s j
    · exact KTile.dzc (piece_holds (h := h) (k := k) (g := g) ..) s j

include h in
theorem x_at (r : Fin 256) (k : Fin 1024) : (View.readAt (Elt Ideal) arg1.view (Rect.unit (s := S256x1024) ![0, 0] S256x1024.size inb_S256x1024_S256x1024_0_0).toLoadRect (harg1.unread x0)) (ix2 r k) = ((A.x (256 * t + r) k : ℝ) : EReal) := by
  rw [read_at, rect2]
  refine (h.x _ _).trans ?_
  simp

include h in
theorem dh_at (r : Fin 256) (k : Fin 1024) : (View.readAt (Elt Ideal) arg2.view (Rect.unit (s := S256x1024) ![0, 0] S256x1024.size inb_S256x1024_S256x1024_0_0).toLoadRect (harg2.unread x1)) (ix2 r k) = ((A.dh (256 * t + r) k : ℝ) : EReal) := by
  rw [read_at, rect2]
  refine (h.dh _ _).trans ?_
  simp

include h in
theorem g_at (z : Fin 1) (k : Fin 1024) : (View.readAt (Elt Ideal) arg8.view (Rect.unit (s := S1x1024) ![0, 0] S1x1024.size inb_S1x1024_S1x1024_0_0).toLoadRect (harg8.unread x7)) (ix2 z k) = ((A.g k : ℝ) : EReal) := by
  rw [read_at, rect2]
  refine (h.g _ _).trans ?_
  simp

theorem out_14 : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0 hc1 x0 x1 x2 x3 x4 x5 x6 x7 x8 x9 x10 x11 x12 x13 xo15 xo16 xo17 xo18 xo19 xs0
    = VO0_14.read (Elt Ideal) (VO0_14.writes (Elt Ideal) VO0_14.junk [⟨Rect.unit (s := S256x1024) ![0, 0] S256x1024.size inb_S256x1024_S256x1024_0_0, k0_pay1 (F := Ideal) (k0_pay17 (F := Ideal) (View.readAt (Elt Ideal) arg1.view (Rect.unit (s := S256x1024) ![0, 0] S256x1024.size inb_S256x1024_S256x1024_0_0).toLoadRect (harg1.unread x0))) (k0_pay18 (F := Ideal) (View.readAt (Elt Ideal) arg1.view (Rect.unit (s := S256x1024) ![0, 0] S256x1024.size inb_S256x1024_S256x1024_0_0).toLoadRect (harg1.unread x0))) (View.readAt (Elt Ideal) arg2.view (Rect.unit (s := S256x1024) ![0, 0] S256x1024.size inb_S256x1024_S256x1024_0_0).toLoadRect (harg2.unread x1)) (k0_pay336 (F := Ideal) (View.readAt (Elt Ideal) arg8.view (Rect.unit (s := S1x1024) ![0, 0] S1x1024.size inb_S1x1024_S1x1024_0_0).toLoadRect (harg8.unread x7)) (dxnV (View.readAt (Elt Ideal) arg14.view (Rect.unit (s := S128x1024) ![0, 0] S128x1024.size inb_S128x1024_S128x1024_0_0).toLoadRect (harg14.unread x13)) (View.readAt (Elt Ideal) arg7.view (Rect.unit (s := S256x128) ![0, 0] S256x128.size inb_S256x128_S256x128_0_0).toLoadRect (harg7.unread x6)) (View.readAt (Elt Ideal) arg13.view (Rect.unit (s := S3592x1024) ![3072, 0] S512x1024.size inb_S3592x1024_S512x1024_3072_0).toLoadRect (harg13.unread x12)) (View.readAt (Elt Ideal) arg6.view (Rect.unit (s := S256x512) ![0, 0] S256x512.size inb_S256x512_S256x512_0_0).toLoadRect (harg6.unread x5)) (View.readAt (Elt Ideal) arg13.view (Rect.unit (s := S3592x1024) ![1536, 0] S1536x1024.size inb_S3592x1024_S1536x1024_1536_0).toLoadRect (harg13.unread x12)) (View.readAt (Elt Ideal) arg5.view (Rect.unit (s := S256x1536) ![0, 0] S256x1536.size inb_S256x1536_S256x1536_0_0).toLoadRect (harg5.unread x4)) (View.readAt (Elt Ideal) arg13.view (Rect.unit (s := S3592x1024) ![0, 0] S1536x1024.size inb_S3592x1024_S1536x1024_0_0).toLoadRect (harg13.unread x12)) (arg24.view.readCov (gates fun k g q => (piece arg3 harg3 arg4 harg4 arg9 harg9 arg10 harg10 arg11 harg11 arg12 harg12 x2 x3 x8 x9 x10 x11 k g).d3 q) (Rect.unit (s := S256x1536) ![0, 0] S256x1536.size inb_S256x1536_S256x1536_0_0).toLoadRect))) (k0_pay337 (F := Ideal) (View.readAt (Elt Ideal) arg8.view (Rect.unit (s := S1x1024) ![0, 0] S1x1024.size inb_S1x1024_S1x1024_0_0).toLoadRect (harg8.unread x7)) (k0_pay18 (F := Ideal) (View.readAt (Elt Ideal) arg1.view (Rect.unit (s := S256x1024) ![0, 0] S256x1024.size inb_S256x1024_S256x1024_0_0).toLoadRect (harg1.unread x0))) (dxnV (View.readAt (Elt Ideal) arg14.view (Rect.unit (s := S128x1024) ![0, 0] S128x1024.size inb_S128x1024_S128x1024_0_0).toLoadRect (harg14.unread x13)) (View.readAt (Elt Ideal) arg7.view (Rect.unit (s := S256x128) ![0, 0] S256x128.size inb_S256x128_S256x128_0_0).toLoadRect (harg7.unread x6)) (View.readAt (Elt Ideal) arg13.view (Rect.unit (s := S3592x1024) ![3072, 0] S512x1024.size inb_S3592x1024_S512x1024_3072_0).toLoadRect (harg13.unread x12)) (View.readAt (Elt Ideal) arg6.view (Rect.unit (s := S256x512) ![0, 0] S256x512.size inb_S256x512_S256x512_0_0).toLoadRect (harg6.unread x5)) (View.readAt (Elt Ideal) arg13.view (Rect.unit (s := S3592x1024) ![1536, 0] S1536x1024.size inb_S3592x1024_S1536x1024_1536_0).toLoadRect (harg13.unread x12)) (View.readAt (Elt Ideal) arg5.view (Rect.unit (s := S256x1536) ![0, 0] S256x1536.size inb_S256x1536_S256x1536_0_0).toLoadRect (harg5.unread x4)) (View.readAt (Elt Ideal) arg13.view (Rect.unit (s := S3592x1024) ![0, 0] S1536x1024.size inb_S3592x1024_S1536x1024_0_0).toLoadRect (harg13.unread x12)) (arg24.view.readCov (gates fun k g q => (piece arg3 harg3 arg4 harg4 arg9 harg9 arg10 harg10 arg11 harg11 arg12 harg12 x2 x3 x8 x9 x10 x11 k g).d3 q) (Rect.unit (s := S256x1536) ![0, 0] S256x1536.size inb_S256x1536_S256x1536_0_0).toLoadRect)))⟩]) := by
  rw [← gates_eq c]
  rfl

include h in
theorem dx_at (r : Fin 256) (k : Fin 1024) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0 hc1 x0 x1 x2 x3 x4 x5 x6 x7 x8 x9 x10 x11 x12 x13 xo15 xo16 xo17 xo18 xo19 xs0 (ix2 r k) = ((A.dx (256 * t + r) k : ℝ) : EReal) := by
  rw [out_14, View.read_writes_junk_eq_canon]
  refine (canon_whole inb_S256x1024_S256x1024_0_0 (by decide) _ _ _).trans ?_
  exact dx_real (fun r k => x_at (h := h) (r := r) (k := k) ..) (fun r k => dh_at (h := h) (r := r) (k := k) ..) (fun z k => g_at (h := h) (z := z) (k := k) ..) (fun r k => dxn_at (h := h) (r := r) (k := k) ..) r k

theorem out_15 : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0 hc1 x0 x1 x2 x3 x4 x5 x6 x7 x8 x9 x10 x11 x12 x13 xo15 xo16 xo17 xo18 xo19 xs0
    = VO0_15.read (Elt Ideal) (VO0_15.writes (Elt Ideal) VO0_15.junk (⟨(Rect.unit (s := S1x1024) ![0, 0] S1x1024.size inb_S1x1024_S1x1024_0_0), k0_pay335 (F := Ideal) (k0_pay18 (F := Ideal) (View.readAt (Elt Ideal) arg1.view (Rect.unit (s := S256x1024) ![0, 0] S256x1024.size inb_S256x1024_S256x1024_0_0).toLoadRect (harg1.unread x0))) (dxnV (View.readAt (Elt Ideal) arg14.view (Rect.unit (s := S128x1024) ![0, 0] S128x1024.size inb_S128x1024_S128x1024_0_0).toLoadRect (harg14.unread x13)) (View.readAt (Elt Ideal) arg7.view (Rect.unit (s := S256x128) ![0, 0] S256x128.size inb_S256x128_S256x128_0_0).toLoadRect (harg7.unread x6)) (View.readAt (Elt Ideal) arg13.view (Rect.unit (s := S3592x1024) ![3072, 0] S512x1024.size inb_S3592x1024_S512x1024_3072_0).toLoadRect (harg13.unread x12)) (View.readAt (Elt Ideal) arg6.view (Rect.unit (s := S256x512) ![0, 0] S256x512.size inb_S256x512_S256x512_0_0).toLoadRect (harg6.unread x5)) (View.readAt (Elt Ideal) arg13.view (Rect.unit (s := S3592x1024) ![1536, 0] S1536x1024.size inb_S3592x1024_S1536x1024_1536_0).toLoadRect (harg13.unread x12)) (View.readAt (Elt Ideal) arg5.view (Rect.unit (s := S256x1536) ![0, 0] S256x1536.size inb_S256x1536_S256x1536_0_0).toLoadRect (harg5.unread x4)) (View.readAt (Elt Ideal) arg13.view (Rect.unit (s := S3592x1024) ![0, 0] S1536x1024.size inb_S3592x1024_S1536x1024_0_0).toLoadRect (harg13.unread x12)) (arg24.view.readCov (gates fun k g q => (piece arg3 harg3 arg4 harg4 arg9 harg9 arg10 harg10 arg11 harg11 arg12 harg12 x2 x3 x8 x9 x10 x11 k g).d3 q) (Rect.unit (s := S256x1536) ![0, 0] S256x1536.size inb_S256x1536_S256x1536_0_0).toLoadRect)) (View.readAt (Elt Ideal) arg17.view (Rect.unit (s := S1x1024) ![0, 0] S1x1024.size inb_S1x1024_S1x1024_0_0).toLoadRect (harg17.unread xo15))⟩ :: [])) := by
  rw [← gates_eq c]
  rfl

include h in
theorem dg_at (f : ℕ → ℝ) (hf : ∀ k : Fin 1024, xo15 (ix2 0 k) = ((f k : ℝ) : EReal)) (k : Fin 1024) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0 hc1 x0 x1 x2 x3 x4 x5 x6 x7 x8 x9 x10 x11 x12 x13 xo15 xo16 xo17 xo18 xo19 xs0 (ix2 0 k)
      = ((f k + ∑ r : Fin 256, A.dxn (256 * t + r) k * A.n (256 * t + r) k : ℝ) : EReal) := by
  rw [out_15, View.read_writes_junk_eq_canon]
  refine (canon_whole inb_S1x1024_S1x1024_0_0 (by decide) _ _ _).trans ?_

  refine dg_real (fun r k => x_at (h := h) (r := r) (k := k) ..) (fun r k => dxn_at (h := h) (r := r) (k := k) ..) _ f (fun k => ?_) k
  rw [read_at]
  exact (congrArg xo15 (whole_idx inb_S1x1024_S1x1024_0_0 (by decide) (ix2 0 k))).trans (hf k)

include h in
theorem dlg_at (f : ℕ → ℝ) (hf : ∀ c : Fin 512, xo16 (ix2 0 c) = ((f c : ℝ) : EReal)) (k : Fin 512) :
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0 hc1 x0 x1 x2 x3 x4 x5 x6 x7 x8 x9 x10 x11 x12 x13 xo15 xo16 xo17 xo18 xo19 xs0 (ix2 0 k)
      = ((f k + ((A.tile (2 * t) (k / 128)).dlg (k % 128) + (A.tile (2 * t + 1) (k / 128)).dlg (k % 128)) : ℝ) : EReal) := by
  have e : (ix2 (0 : Fin 1) k : S1x512.Idx) = (rowR ⟨k / 128, by omega⟩).idx (ix2 0 (⟨k % 128, by omega⟩ : Fin 128)) := by
    rw [rect2]
    exact congrArg₂ ix2 (Fin.ext rfl) (Fin.ext (by show (k : ℕ) = 128 * (k / 128) + k % 128; omega))
  rw [out_16, View.read_writes_junk_eq_canon, e]

  refine (rowB8_at arg18 _ _ (fun g j => f (128 * g + j)) (fun k g => (A.tile (2 * t + k) g).dlg) (fun g j => ?_)
    (fun k g j => KTile.dlg (piece_holds (h := h) (k := k) (g := g) ..) j) ⟨k / 128, by omega⟩ ⟨k % 128, by omega⟩).trans ?_
  · rw [read_at, rect2]
    exact hf ⟨128 * g + j, by omega⟩
  · refine congrArg Real.toEReal ?_
    show f (128 * (k / 128) + k % 128) + _ + _ = _
    rw [show 128 * ((k : ℕ) / 128) + k % 128 = k by omega, add_assoc]
    rfl

include h in
theorem dlb_at (f : ℕ → ℝ) (hf : ∀ c : Fin 512, xo17 (ix2 0 c) = ((f c : ℝ) : EReal)) (k : Fin 512) :
    out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0 hc1 x0 x1 x2 x3 x4 x5 x6 x7 x8 x9 x10 x11 x12 x13 xo15 xo16 xo17 xo18 xo19 xs0 (ix2 0 k)
      = ((f k + ((A.tile (2 * t) (k / 128)).dlb (k % 128) + (A.tile (2 * t + 1) (k / 128)).dlb (k % 128)) : ℝ) : EReal) := by
  have e : (ix2 (0 : Fin 1) k : S1x512.Idx) = (rowR ⟨k / 128, by omega⟩).idx (ix2 0 (⟨k % 128, by omega⟩ : Fin 128)) := by
    rw [rect2]
    exact congrArg₂ ix2 (Fin.ext rfl) (Fin.ext (by show (k : ℕ) = 128 * (k / 128) + k % 128; omega))
  rw [out_17, View.read_writes_junk_eq_canon, e]

  refine (rowB8_at arg19 _ _ (fun g j => f (128 * g + j)) (fun k g => (A.tile (2 * t + k) g).dlb) (fun g j => ?_)
    (fun k g j => KTile.dlb (piece_holds (h := h) (k := k) (g := g) ..) j) ⟨k / 128, by omega⟩ ⟨k % 128, by omega⟩).trans ?_
  · rw [read_at, rect2]
    exact hf ⟨128 * g + j, by omega⟩
  · refine congrArg Real.toEReal ?_
    show f (128 * (k / 128) + k % 128) + _ + _ = _
    rw [show 128 * ((k : ℕ) / 128) + k % 128 = k by omega, add_assoc]
    rfl

include h in
theorem dws_at (f : ℕ → ℕ → ℕ → ℝ) (hf : ∀ (g : Fin 4) (s j : Fin 128), xo18 (ix3 g s j) = ((f g s j : ℝ) : EReal)) (g : Fin 4) (s j : Fin 128) :
    out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0 hc1 x0 x1 x2 x3 x4 x5 x6 x7 x8 x9 x10 x11 x12 x13 xo15 xo16 xo17 xo18 xo19 xs0 (ix3 g s j)
      = ((f g s j + ((A.tile (2 * t) g).dws s j + (A.tile (2 * t + 1) g).dws s j) : ℝ) : EReal) := by
  have e : (ix3 g s j : S4x128x128.Idx) = (wsR g).idx (ix3 0 s j) := by
    rw [rect3]
    simp
  rw [out_18, View.read_writes_junk_eq_canon, e]

  refine (cubeB8_at arg20 _ _ (fun g s j => f g s j) (fun k g => (A.tile (2 * t + k) g).dws) (fun g s j => ?_)
    (fun k g s j => KTile.dws (piece_holds (h := h) (k := k) (g := g) ..) s j) g s j).trans ?_
  · rw [read_at, rect3]
    refine (hf _ _ _).trans ?_
    simp
  · refine congrArg Real.toEReal ?_
    show f g s j + _ + _ = _
    rw [add_assoc]
    rfl

include h in
theorem db_at (f : ℕ → ℕ → ℝ) (hf : ∀ (s : Fin 128) (g : Fin 4), xo19 (ix2 s g) = ((f s g : ℝ) : EReal)) (s : Fin 128) (g : Fin 4) :
    out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0 hc1 x0 x1 x2 x3 x4 x5 x6 x7 x8 x9 x10 x11 x12 x13 xo15 xo16 xo17 xo18 xo19 xs0 (ix2 s g)
      = ((f s g + ((A.tile (2 * t) g).db s + (A.tile (2 * t + 1) g).db s) : ℝ) : EReal) := by
  rw [out_19, View.read_writes_junk_eq_canon]

  refine (bias8_at arg21 _ _ _ (fun s g => f s g) (fun k g => (A.tile (2 * t + k) g).db) (fun s g => ?_)
    (fun k g s => KTile.db (piece_holds (h := h) (k := k) (g := g) ..) s) s g).trans ?_
  · rw [read_at]
    exact (congrArg xo19 (whole_idx inb_S128x4_S128x4_0_0 (by decide) (ix2 s g))).trans (hf s g)
  · refine congrArg Real.toEReal ?_
    show f s g + _ + _ = _
    rw [add_assoc]
    rfl

end Cert.KPointB

end
-- ==== Proof.KernelFold.lean ====
/-
  What the outputs' blocks hold after each grid point, in the arguments' numbers: the sums over the points gone through.
-/
module

public import proofs.«01_k».proof.Proof.KernelOutA
public import proofs.«01_k».proof.Proof.KernelOutB

@[expose] public section

set_option maxRecDepth 16384

noncomputable section

open Idealize.ShloMosaic Idealize.ShloMosaic.TcCoe Cert.Layer Cert.Reals Cert.KernelIdeal Cert.KernelIdeal.Gen

namespace Cert.KFold

/-- The last point leaves in output 14 what any other but the first would. -/
theorem last_14 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1536 .f32) (harg3 : arg3.IsWhole) (arg4 : Memref sig .tc .vmem S256x512 .f32) (harg4 : arg4.IsWhole) (arg5 : Memref sig .tc .vmem S256x1536 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x4 .f32) (harg12 : arg12.IsWhole) (arg13 : Memref sig .tc .vmem S3592x1024 .bf16) (harg13 : arg13.IsWhole) (arg14 : Memref sig .tc .vmem S128x1024 .bf16) (harg14 : arg14.IsWhole) (arg15 : Memref sig .tc .vmem S256x1024 .f32) (harg15 : arg15.IsWhole) (arg17 : Memref sig .tc .vmem S1x1024 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x128x128 .f32) (harg20 : arg20.IsWhole) (arg21 : Memref sig .tc .vmem S128x4 .f32) (harg21 : arg21.IsWhole) (arg22 : Memref sig .tc .vmem S3712x1024 .f32) (harg22 : arg22.IsWhole) (arg23 : Memref sig .tc .vmem S449x1024 .f32) (harg23 : arg23.IsWhole) (arg24 : Memref sig .tc .vmem S256x1536 .bf16) (harg24 : arg24.IsWhole) (x0 : Vec Ideal S256x1024 .f32) (x1 : Vec Ideal S256x1024 .f32) (x2 : Vec Ideal S256x1536 .f32) (x3 : Vec Ideal S256x512 .f32) (x4 : Vec Ideal S256x1536 .bf16) (x5 : Vec Ideal S256x512 .bf16) (x6 : Vec Ideal S256x128 .bf16) (x7 : Vec Ideal S1x1024 .f32) (x8 : Vec Ideal S1x512 .f32) (x9 : Vec Ideal S1x512 .f32) (x10 : Vec Ideal S4x128x128 .f32) (x11 : Vec Ideal S128x4 .f32) (x12 : Vec Ideal S3592x1024 .bf16) (x13 : Vec Ideal S128x1024 .bf16) (xo15 : Vec Ideal S1x1024 .f32) (xo16 : Vec Ideal S1x512 .f32) (xo17 : Vec Ideal S1x512 .f32) (xo18 : Vec Ideal S4x128x128 .f32) (xo19 : Vec Ideal S128x4 .f32) (xs0 : Vec Ideal S3712x1024 .f32) (i2 : grid0.Coords) (hc0c : ¬cond0_0 i) (hc1c : cond0_1 i) (hc0b : ¬cond0_0 i2) (hc1b : ¬cond0_1 i2) :
    out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0c hc1c x0 x1 x2 x3 x4 x5 x6 x7 x8 x9 x10 x11 x12 x13 xo15 xo16 xo17 xo18 xo19 xs0 = out0_B_14 (F := Ideal) c i2 arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0b hc1b x0 x1 x2 x3 x4 x5 x6 x7 x8 x9 x10 x11 x12 x13 xo15 xo16 xo17 xo18 xo19 xs0 := by rfl

/-- The last point leaves in output 15 what any other but the first would. -/
theorem last_15 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1536 .f32) (harg3 : arg3.IsWhole) (arg4 : Memref sig .tc .vmem S256x512 .f32) (harg4 : arg4.IsWhole) (arg5 : Memref sig .tc .vmem S256x1536 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x4 .f32) (harg12 : arg12.IsWhole) (arg13 : Memref sig .tc .vmem S3592x1024 .bf16) (harg13 : arg13.IsWhole) (arg14 : Memref sig .tc .vmem S128x1024 .bf16) (harg14 : arg14.IsWhole) (arg15 : Memref sig .tc .vmem S256x1024 .f32) (harg15 : arg15.IsWhole) (arg17 : Memref sig .tc .vmem S1x1024 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x128x128 .f32) (harg20 : arg20.IsWhole) (arg21 : Memref sig .tc .vmem S128x4 .f32) (harg21 : arg21.IsWhole) (arg22 : Memref sig .tc .vmem S3712x1024 .f32) (harg22 : arg22.IsWhole) (arg23 : Memref sig .tc .vmem S449x1024 .f32) (harg23 : arg23.IsWhole) (arg24 : Memref sig .tc .vmem S256x1536 .bf16) (harg24 : arg24.IsWhole) (x0 : Vec Ideal S256x1024 .f32) (x1 : Vec Ideal S256x1024 .f32) (x2 : Vec Ideal S256x1536 .f32) (x3 : Vec Ideal S256x512 .f32) (x4 : Vec Ideal S256x1536 .bf16) (x5 : Vec Ideal S256x512 .bf16) (x6 : Vec Ideal S256x128 .bf16) (x7 : Vec Ideal S1x1024 .f32) (x8 : Vec Ideal S1x512 .f32) (x9 : Vec Ideal S1x512 .f32) (x10 : Vec Ideal S4x128x128 .f32) (x11 : Vec Ideal S128x4 .f32) (x12 : Vec Ideal S3592x1024 .bf16) (x13 : Vec Ideal S128x1024 .bf16) (xo15 : Vec Ideal S1x1024 .f32) (xo16 : Vec Ideal S1x512 .f32) (xo17 : Vec Ideal S1x512 .f32) (xo18 : Vec Ideal S4x128x128 .f32) (xo19 : Vec Ideal S128x4 .f32) (xs0 : Vec Ideal S3712x1024 .f32) (i2 : grid0.Coords) (hc0c : ¬cond0_0 i) (hc1c : cond0_1 i) (hc0b : ¬cond0_0 i2) (hc1b : ¬cond0_1 i2) :
    out0_C_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0c hc1c x0 x1 x2 x3 x4 x5 x6 x7 x8 x9 x10 x11 x12 x13 xo15 xo16 xo17 xo18 xo19 xs0 = out0_B_15 (F := Ideal) c i2 arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0b hc1b x0 x1 x2 x3 x4 x5 x6 x7 x8 x9 x10 x11 x12 x13 xo15 xo16 xo17 xo18 xo19 xs0 := by rfl

/-- The last point leaves in output 16 what any other but the first would. -/
theorem last_16 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1536 .f32) (harg3 : arg3.IsWhole) (arg4 : Memref sig .tc .vmem S256x512 .f32) (harg4 : arg4.IsWhole) (arg5 : Memref sig .tc .vmem S256x1536 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x4 .f32) (harg12 : arg12.IsWhole) (arg13 : Memref sig .tc .vmem S3592x1024 .bf16) (harg13 : arg13.IsWhole) (arg14 : Memref sig .tc .vmem S128x1024 .bf16) (harg14 : arg14.IsWhole) (arg15 : Memref sig .tc .vmem S256x1024 .f32) (harg15 : arg15.IsWhole) (arg17 : Memref sig .tc .vmem S1x1024 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x128x128 .f32) (harg20 : arg20.IsWhole) (arg21 : Memref sig .tc .vmem S128x4 .f32) (harg21 : arg21.IsWhole) (arg22 : Memref sig .tc .vmem S3712x1024 .f32) (harg22 : arg22.IsWhole) (arg23 : Memref sig .tc .vmem S449x1024 .f32) (harg23 : arg23.IsWhole) (arg24 : Memref sig .tc .vmem S256x1536 .bf16) (harg24 : arg24.IsWhole) (x0 : Vec Ideal S256x1024 .f32) (x1 : Vec Ideal S256x1024 .f32) (x2 : Vec Ideal S256x1536 .f32) (x3 : Vec Ideal S256x512 .f32) (x4 : Vec Ideal S256x1536 .bf16) (x5 : Vec Ideal S256x512 .bf16) (x6 : Vec Ideal S256x128 .bf16) (x7 : Vec Ideal S1x1024 .f32) (x8 : Vec Ideal S1x512 .f32) (x9 : Vec Ideal S1x512 .f32) (x10 : Vec Ideal S4x128x128 .f32) (x11 : Vec Ideal S128x4 .f32) (x12 : Vec Ideal S3592x1024 .bf16) (x13 : Vec Ideal S128x1024 .bf16) (xo15 : Vec Ideal S1x1024 .f32) (xo16 : Vec Ideal S1x512 .f32) (xo17 : Vec Ideal S1x512 .f32) (xo18 : Vec Ideal S4x128x128 .f32) (xo19 : Vec Ideal S128x4 .f32) (xs0 : Vec Ideal S3712x1024 .f32) (i2 : grid0.Coords) (hc0c : ¬cond0_0 i) (hc1c : cond0_1 i) (hc0b : ¬cond0_0 i2) (hc1b : ¬cond0_1 i2) :
    out0_C_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0c hc1c x0 x1 x2 x3 x4 x5 x6 x7 x8 x9 x10 x11 x12 x13 xo15 xo16 xo17 xo18 xo19 xs0 = out0_B_16 (F := Ideal) c i2 arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0b hc1b x0 x1 x2 x3 x4 x5 x6 x7 x8 x9 x10 x11 x12 x13 xo15 xo16 xo17 xo18 xo19 xs0 := by rfl

/-- The last point leaves in output 17 what any other but the first would. -/
theorem last_17 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1536 .f32) (harg3 : arg3.IsWhole) (arg4 : Memref sig .tc .vmem S256x512 .f32) (harg4 : arg4.IsWhole) (arg5 : Memref sig .tc .vmem S256x1536 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x4 .f32) (harg12 : arg12.IsWhole) (arg13 : Memref sig .tc .vmem S3592x1024 .bf16) (harg13 : arg13.IsWhole) (arg14 : Memref sig .tc .vmem S128x1024 .bf16) (harg14 : arg14.IsWhole) (arg15 : Memref sig .tc .vmem S256x1024 .f32) (harg15 : arg15.IsWhole) (arg17 : Memref sig .tc .vmem S1x1024 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x128x128 .f32) (harg20 : arg20.IsWhole) (arg21 : Memref sig .tc .vmem S128x4 .f32) (harg21 : arg21.IsWhole) (arg22 : Memref sig .tc .vmem S3712x1024 .f32) (harg22 : arg22.IsWhole) (arg23 : Memref sig .tc .vmem S449x1024 .f32) (harg23 : arg23.IsWhole) (arg24 : Memref sig .tc .vmem S256x1536 .bf16) (harg24 : arg24.IsWhole) (x0 : Vec Ideal S256x1024 .f32) (x1 : Vec Ideal S256x1024 .f32) (x2 : Vec Ideal S256x1536 .f32) (x3 : Vec Ideal S256x512 .f32) (x4 : Vec Ideal S256x1536 .bf16) (x5 : Vec Ideal S256x512 .bf16) (x6 : Vec Ideal S256x128 .bf16) (x7 : Vec Ideal S1x1024 .f32) (x8 : Vec Ideal S1x512 .f32) (x9 : Vec Ideal S1x512 .f32) (x10 : Vec Ideal S4x128x128 .f32) (x11 : Vec Ideal S128x4 .f32) (x12 : Vec Ideal S3592x1024 .bf16) (x13 : Vec Ideal S128x1024 .bf16) (xo15 : Vec Ideal S1x1024 .f32) (xo16 : Vec Ideal S1x512 .f32) (xo17 : Vec Ideal S1x512 .f32) (xo18 : Vec Ideal S4x128x128 .f32) (xo19 : Vec Ideal S128x4 .f32) (xs0 : Vec Ideal S3712x1024 .f32) (i2 : grid0.Coords) (hc0c : ¬cond0_0 i) (hc1c : cond0_1 i) (hc0b : ¬cond0_0 i2) (hc1b : ¬cond0_1 i2) :
    out0_C_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0c hc1c x0 x1 x2 x3 x4 x5 x6 x7 x8 x9 x10 x11 x12 x13 xo15 xo16 xo17 xo18 xo19 xs0 = out0_B_17 (F := Ideal) c i2 arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0b hc1b x0 x1 x2 x3 x4 x5 x6 x7 x8 x9 x10 x11 x12 x13 xo15 xo16 xo17 xo18 xo19 xs0 := by rfl

/-- The last point leaves in output 18 what any other but the first would. -/
theorem last_18 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1536 .f32) (harg3 : arg3.IsWhole) (arg4 : Memref sig .tc .vmem S256x512 .f32) (harg4 : arg4.IsWhole) (arg5 : Memref sig .tc .vmem S256x1536 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x4 .f32) (harg12 : arg12.IsWhole) (arg13 : Memref sig .tc .vmem S3592x1024 .bf16) (harg13 : arg13.IsWhole) (arg14 : Memref sig .tc .vmem S128x1024 .bf16) (harg14 : arg14.IsWhole) (arg15 : Memref sig .tc .vmem S256x1024 .f32) (harg15 : arg15.IsWhole) (arg17 : Memref sig .tc .vmem S1x1024 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x128x128 .f32) (harg20 : arg20.IsWhole) (arg21 : Memref sig .tc .vmem S128x4 .f32) (harg21 : arg21.IsWhole) (arg22 : Memref sig .tc .vmem S3712x1024 .f32) (harg22 : arg22.IsWhole) (arg23 : Memref sig .tc .vmem S449x1024 .f32) (harg23 : arg23.IsWhole) (arg24 : Memref sig .tc .vmem S256x1536 .bf16) (harg24 : arg24.IsWhole) (x0 : Vec Ideal S256x1024 .f32) (x1 : Vec Ideal S256x1024 .f32) (x2 : Vec Ideal S256x1536 .f32) (x3 : Vec Ideal S256x512 .f32) (x4 : Vec Ideal S256x1536 .bf16) (x5 : Vec Ideal S256x512 .bf16) (x6 : Vec Ideal S256x128 .bf16) (x7 : Vec Ideal S1x1024 .f32) (x8 : Vec Ideal S1x512 .f32) (x9 : Vec Ideal S1x512 .f32) (x10 : Vec Ideal S4x128x128 .f32) (x11 : Vec Ideal S128x4 .f32) (x12 : Vec Ideal S3592x1024 .bf16) (x13 : Vec Ideal S128x1024 .bf16) (xo15 : Vec Ideal S1x1024 .f32) (xo16 : Vec Ideal S1x512 .f32) (xo17 : Vec Ideal S1x512 .f32) (xo18 : Vec Ideal S4x128x128 .f32) (xo19 : Vec Ideal S128x4 .f32) (xs0 : Vec Ideal S3712x1024 .f32) (i2 : grid0.Coords) (hc0c : ¬cond0_0 i) (hc1c : cond0_1 i) (hc0b : ¬cond0_0 i2) (hc1b : ¬cond0_1 i2) :
    out0_C_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0c hc1c x0 x1 x2 x3 x4 x5 x6 x7 x8 x9 x10 x11 x12 x13 xo15 xo16 xo17 xo18 xo19 xs0 = out0_B_18 (F := Ideal) c i2 arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0b hc1b x0 x1 x2 x3 x4 x5 x6 x7 x8 x9 x10 x11 x12 x13 xo15 xo16 xo17 xo18 xo19 xs0 := by rfl

/-- The last point leaves in output 19 what any other but the first would. -/
theorem last_19 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1536 .f32) (harg3 : arg3.IsWhole) (arg4 : Memref sig .tc .vmem S256x512 .f32) (harg4 : arg4.IsWhole) (arg5 : Memref sig .tc .vmem S256x1536 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S4x128x128 .f32) (harg11 : arg11.IsWhole) (arg12 : Memref sig .tc .vmem S128x4 .f32) (harg12 : arg12.IsWhole) (arg13 : Memref sig .tc .vmem S3592x1024 .bf16) (harg13 : arg13.IsWhole) (arg14 : Memref sig .tc .vmem S128x1024 .bf16) (harg14 : arg14.IsWhole) (arg15 : Memref sig .tc .vmem S256x1024 .f32) (harg15 : arg15.IsWhole) (arg17 : Memref sig .tc .vmem S1x1024 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x128x128 .f32) (harg20 : arg20.IsWhole) (arg21 : Memref sig .tc .vmem S128x4 .f32) (harg21 : arg21.IsWhole) (arg22 : Memref sig .tc .vmem S3712x1024 .f32) (harg22 : arg22.IsWhole) (arg23 : Memref sig .tc .vmem S449x1024 .f32) (harg23 : arg23.IsWhole) (arg24 : Memref sig .tc .vmem S256x1536 .bf16) (harg24 : arg24.IsWhole) (x0 : Vec Ideal S256x1024 .f32) (x1 : Vec Ideal S256x1024 .f32) (x2 : Vec Ideal S256x1536 .f32) (x3 : Vec Ideal S256x512 .f32) (x4 : Vec Ideal S256x1536 .bf16) (x5 : Vec Ideal S256x512 .bf16) (x6 : Vec Ideal S256x128 .bf16) (x7 : Vec Ideal S1x1024 .f32) (x8 : Vec Ideal S1x512 .f32) (x9 : Vec Ideal S1x512 .f32) (x10 : Vec Ideal S4x128x128 .f32) (x11 : Vec Ideal S128x4 .f32) (x12 : Vec Ideal S3592x1024 .bf16) (x13 : Vec Ideal S128x1024 .bf16) (xo15 : Vec Ideal S1x1024 .f32) (xo16 : Vec Ideal S1x512 .f32) (xo17 : Vec Ideal S1x512 .f32) (xo18 : Vec Ideal S4x128x128 .f32) (xo19 : Vec Ideal S128x4 .f32) (xs0 : Vec Ideal S3712x1024 .f32) (i2 : grid0.Coords) (hc0c : ¬cond0_0 i) (hc1c : cond0_1 i) (hc0b : ¬cond0_0 i2) (hc1b : ¬cond0_1 i2) :
    out0_C_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0c hc1c x0 x1 x2 x3 x4 x5 x6 x7 x8 x9 x10 x11 x12 x13 xo15 xo16 xo17 xo18 xo19 xs0 = out0_B_19 (F := Ideal) c i2 arg1 harg1 arg2 harg2 arg3 harg3 arg4 harg4 arg5 harg5 arg6 harg6 arg7 harg7 arg8 harg8 arg9 harg9 arg10 harg10 arg11 harg11 arg12 harg12 arg13 harg13 arg14 harg14 arg15 harg15 arg17 harg17 arg18 harg18 arg19 harg19 arg20 harg20 arg21 harg21 arg22 harg22 arg23 harg23 arg24 harg24 hc0b hc1b x0 x1 x2 x3 x4 x5 x6 x7 x8 x9 x10 x11 x12 x13 xo15 xo16 xo17 xo18 xo19 xs0 := by rfl

/-- What a point leaves, in the arguments' numbers: the layer's input gradient for its rows, and the sums so far. -/
structure Left (A : Args) (n : ℕ) (o : Vec Ideal S256x1024 .f32 × Vec Ideal S1x1024 .f32 × Vec Ideal S1x512 .f32 × Vec Ideal S1x512 .f32
    × Vec Ideal S4x128x128 .f32 × Vec Ideal S128x4 .f32 × Vec Ideal S3712x1024 .f32) : Prop where
  dx : ∀ (r : Fin 256) (k : Fin 1024), o.1 (ix2 r k) = ((A.dx (256 * n + r) k : ℝ) : EReal)
  dg : ∀ k : Fin 1024, o.2.1 (ix2 0 k)
    = ((∑ q ∈ Finset.range (n + 1), ∑ r : Fin 256, A.dxn (256 * q + r) k * A.n (256 * q + r) k : ℝ) : EReal)
  dlg : ∀ c : Fin 512, o.2.2.1 (ix2 0 c) = ((∑ q ∈ Finset.range (2 * (n + 1)), (A.tile q (c / 128)).dlg (c % 128) : ℝ) : EReal)
  dlb : ∀ c : Fin 512, o.2.2.2.1 (ix2 0 c) = ((∑ q ∈ Finset.range (2 * (n + 1)), (A.tile q (c / 128)).dlb (c % 128) : ℝ) : EReal)
  dws : ∀ (g : Fin 4) (s j : Fin 128), o.2.2.2.2.1 (ix3 g s j) = ((∑ q ∈ Finset.range (2 * (n + 1)), (A.tile q g).dws s j : ℝ) : EReal)
  db : ∀ (s : Fin 128) (g : Fin 4), o.2.2.2.2.2.1 (ix2 s g) = ((∑ q ∈ Finset.range (2 * (n + 1)), (A.tile q g).db s : ℝ) : EReal)

theorem two_more (f : ℕ → ℝ) (n : ℕ) :
    ∑ q ∈ Finset.range (2 * (n + 1 + 1)), f q = ∑ q ∈ Finset.range (2 * (n + 1)), f q + (f (2 * (n + 1)) + f (2 * (n + 1) + 1)) := by
  rw [show 2 * (n + 1 + 1) = 2 * (n + 1) + 1 + 1 by omega, Finset.sum_range_succ, Finset.sum_range_succ, add_assoc]

theorem one_lt : 1 < grid0.N := by rw [show grid0.N = 32 from N_0]; omega

theorem first_two (f : ℕ → ℝ) : ∑ q ∈ Finset.range (2 * (0 + 1)), f q = f (2 * 0) + f (2 * 0 + 1) := by
  rw [show 2 * (0 + 1) = 0 + 1 + 1 by omega, Finset.sum_range_succ, Finset.sum_range_succ, Finset.sum_range_zero, zero_add]

variable {A : Args} {m : (ℓ : Loc nD τ sig) → Buf (Elt Ideal) ℓ} {c : Dev nD}
  (hH : ∀ t : Fin cfg0.N, KPoint.Holds A t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))

include hH in
/-- What every point leaves. -/
theorem left (n : ℕ) (hn : n < cfg0.N) : Left A n (outsAt0 m c n hn) := by
  have hN : cfg0.N = 32 := N_0
  induction n with
  | zero =>
    have e := outsAt0_A m c ⟨0, hn⟩ (by show 0 % 32 = 0; omega) (by show ¬ 0 % 32 = 31; omega)
    have hh := hH ⟨0, hn⟩
    rw [show outsAt0 m c 0 hn = _ from e]
    constructor
    · intro r k
      dsimp only
      exact KPointA.dx_at (h := hh) (r := r) (k := k) ..
    · intro k
      dsimp only
      refine (KPointA.dg_at (h := hh) (k := k) ..).trans (congrArg Real.toEReal ?_)
      rw [Finset.sum_range_one]
    · intro k
      dsimp only
      refine (KPointA.dlg_at (h := hh) (k := k) ..).trans (congrArg Real.toEReal ?_)
      rw [first_two]
    · intro k
      dsimp only
      refine (KPointA.dlb_at (h := hh) (k := k) ..).trans (congrArg Real.toEReal ?_)
      rw [first_two]
    · intro g s j
      dsimp only
      refine (KPointA.dws_at (h := hh) (g := g) (s := s) (j := j) ..).trans (congrArg Real.toEReal ?_)
      rw [first_two]
    · intro s g
      dsimp only
      refine (KPointA.db_at (h := hh) (s := s) (g := g) ..).trans (congrArg Real.toEReal ?_)
      rw [first_two]
  | succ n ih =>
    have p := ih (by omega)
    have hh := hH ⟨n + 1, hn⟩
    have h0 : ¬ (n + 1) % 32 = 0 := by omega
    by_cases h1 : (n + 1) % 32 = 31
    · have e := outsAt0_C m c ⟨n + 1, hn⟩ h0 h1
      have hb0 : ¬ cond0_0 (grid0.coords ⟨1, one_lt⟩) := fun h => absurd ((hcond0_0 ⟨1, one_lt⟩).mp h) (by show ¬ 1 % 32 = 0; omega)
      have hb1 : ¬ cond0_1 (grid0.coords ⟨1, one_lt⟩) := fun h => absurd ((hcond0_1 ⟨1, one_lt⟩).mp h) (by show ¬ 1 % 32 = 31; omega)
      rw [last_14 (hc0b := hb0) (hc1b := hb1), last_15 (hc0b := hb0) (hc1b := hb1), last_16 (hc0b := hb0) (hc1b := hb1),
        last_17 (hc0b := hb0) (hc1b := hb1), last_18 (hc0b := hb0) (hc1b := hb1), last_19 (hc0b := hb0) (hc1b := hb1)] at e
      rw [show outsAt0 m c (n + 1) hn = _ from e]
      constructor
      · intro r k
        dsimp only
        exact KPointB.dx_at (h := hh) (r := r) (k := k) ..
      · intro k
        dsimp only
        refine (KPointB.dg_at (h := hh) (f := fun k => ∑ q ∈ Finset.range (n + 1), ∑ r : Fin 256, A.dxn (256 * q + r) k * A.n (256 * q + r) k) (hf := p.dg) (k := k) ..).trans (congrArg Real.toEReal ?_)
        exact (Finset.sum_range_succ _ _).symm
      · intro k
        dsimp only
        refine (KPointB.dlg_at (h := hh) (f := fun c => ∑ q ∈ Finset.range (2 * (n + 1)), (A.tile q (c / 128)).dlg (c % 128)) (hf := p.dlg) (k := k) ..).trans (congrArg Real.toEReal ?_)
        exact (two_more _ _).symm
      · intro k
        dsimp only
        refine (KPointB.dlb_at (h := hh) (f := fun c => ∑ q ∈ Finset.range (2 * (n + 1)), (A.tile q (c / 128)).dlb (c % 128)) (hf := p.dlb) (k := k) ..).trans (congrArg Real.toEReal ?_)
        exact (two_more _ _).symm
      · intro g s j
        dsimp only
        refine (KPointB.dws_at (h := hh) (f := fun g s j => ∑ q ∈ Finset.range (2 * (n + 1)), (A.tile q g).dws s j) (hf := p.dws) (g := g) (s := s) (j := j) ..).trans (congrArg Real.toEReal ?_)
        exact (two_more _ _).symm
      · intro s g
        dsimp only
        refine (KPointB.db_at (h := hh) (f := fun s g => ∑ q ∈ Finset.range (2 * (n + 1)), (A.tile q g).db s) (hf := p.db) (s := s) (g := g) ..).trans (congrArg Real.toEReal ?_)
        exact (two_more _ _).symm
    · have e := outsAt0_B m c ⟨n + 1, hn⟩ h0 h1
      rw [show outsAt0 m c (n + 1) hn = _ from e]
      constructor
      · intro r k
        dsimp only
        exact KPointB.dx_at (h := hh) (r := r) (k := k) ..
      · intro k
        dsimp only
        refine (KPointB.dg_at (h := hh) (f := fun k => ∑ q ∈ Finset.range (n + 1), ∑ r : Fin 256, A.dxn (256 * q + r) k * A.n (256 * q + r) k) (hf := p.dg) (k := k) ..).trans (congrArg Real.toEReal ?_)
        exact (Finset.sum_range_succ _ _).symm
      · intro k
        dsimp only
        refine (KPointB.dlg_at (h := hh) (f := fun c => ∑ q ∈ Finset.range (2 * (n + 1)), (A.tile q (c / 128)).dlg (c % 128)) (hf := p.dlg) (k := k) ..).trans (congrArg Real.toEReal ?_)
        exact (two_more _ _).symm
      · intro k
        dsimp only
        refine (KPointB.dlb_at (h := hh) (f := fun c => ∑ q ∈ Finset.range (2 * (n + 1)), (A.tile q (c / 128)).dlb (c % 128)) (hf := p.dlb) (k := k) ..).trans (congrArg Real.toEReal ?_)
        exact (two_more _ _).symm
      · intro g s j
        dsimp only
        refine (KPointB.dws_at (h := hh) (f := fun g s j => ∑ q ∈ Finset.range (2 * (n + 1)), (A.tile q g).dws s j) (hf := p.dws) (g := g) (s := s) (j := j) ..).trans (congrArg Real.toEReal ?_)
        exact (two_more _ _).symm
      · intro s g
        dsimp only
        refine (KPointB.db_at (h := hh) (f := fun s g => ∑ q ∈ Finset.range (2 * (n + 1)), (A.tile q g).db s) (hf := p.db) (s := s) (g := g) ..).trans (congrArg Real.toEReal ?_)
        exact (two_more _ _).symm

end Cert.KFold

end
-- ==== Proof.KernelFinal.lean ====
/-
  The output arrays after the run: the row blocks side by side, and the sums over all grid points.
-/
module

public import proofs.«01_k».proof.Proof.KernelFold
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Cert.Layer Cert.Reals Cert.KernelIdeal Cert.KernelIdeal.Gen
open Idealize.ShloMosaic.Pipeline (Dat)

namespace Cert.KFinal

variable {A : Args} {m : (ℓ : Loc nD τ sig) → Buf (Elt Ideal) ℓ} {c : Dev nD}
  (hH : ∀ t : Fin cfg0.N, KPoint.Holds A t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))

/-- The output windows' blocks: a row block each of the first, the whole of the others. -/
theorem idx : ∀ t : Fin cfg0.N, win0_14.index t = ![t.val, 0] ∧ win0_15.index t = ![0, 0] ∧ win0_16.index t = ![0, 0]
    ∧ win0_17.index t = ![0, 0] ∧ win0_18.index t = ![0, 0, 0] ∧ win0_19.index t = ![0, 0] :=
  (by decide +kernel : ∀ t : Fin grid0.N, _)

include hH in
/-- The input's gradient. -/
theorem final_14 (G : Vec Ideal S8192x1024 .f32) (hG : ∀ (r : Fin 8192) (k : Fin 1024), G (ix2 r k) = ((A.dx r k : ℝ) : EReal)) :
    (dats m 0 c).arrAt 14 cfg0.N = G := by
  have hN : grid0.N = 32 := N_0
  refine (dats m 0 c).arrAt_eq_of_covers 14 _ (by decide +kernel) fun t hf y => ?_
  have ht : t.val < grid0.N := t.isLt
  blk_simp
  rw [after0_14]
  idx_vars y
  refine ((KFold.left hH t.val t.isLt).dx y0 y1).trans ?_
  refine (hG ⟨256 * t.val + y0, by omega⟩ y1).symm.trans ?_
  blk_ext [idx t]

include hH in
/-- The gain's gradient. -/
theorem final_15 (G : Vec Ideal S1x1024 .f32) (hG : ∀ (k : Fin 1024), G (ix2 0 k) = ((A.dg k : ℝ) : EReal)) :
    (dats m 0 c).arrAt 15 cfg0.N = G := by
  have hN : grid0.N = 32 := N_0
  refine (dats m 0 c).arrAt_eq_of_covers 15 _ (by decide +kernel) fun t hf y => ?_
  have hl : t.val < grid0.N := t.isLt
  have ht : t.val = 31 := by have := (flush0_15 t).mp hf; omega
  blk_simp
  rw [after0_15]
  idx_vars y
  have e : (G (ix2 y0 y1)) = G ((win0_15.blk t).view.emb (ix2 y0 y1)) := by blk_ext [idx t]
  refine Eq.trans ?_ e
  have z : y0 = 0 := Subsingleton.elim _ _
  subst z
  refine ((KFold.left hH t.val t.isLt).dg y1).trans (Eq.trans (congrArg Real.toEReal ?_) (hG y1).symm)
  rw [ht, Finset.sum_range (n := 31 + 1)]
  exact sum_runs 32 256 fun r => A.dxn r y1 * A.n r y1

include hH in
/-- The layer norm's scale gradient. -/
theorem final_16 (G : Vec Ideal S1x512 .f32) (hG : ∀ (k : Fin 512), G (ix2 0 k) = ((A.dlg k : ℝ) : EReal)) :
    (dats m 0 c).arrAt 16 cfg0.N = G := by
  have hN : grid0.N = 32 := N_0
  refine (dats m 0 c).arrAt_eq_of_covers 16 _ (by decide +kernel) fun t hf y => ?_
  have hl : t.val < grid0.N := t.isLt
  have ht : t.val = 31 := by have := (flush0_16 t).mp hf; omega
  blk_simp
  rw [after0_16]
  idx_vars y
  have e : (G (ix2 y0 y1)) = G ((win0_16.blk t).view.emb (ix2 y0 y1)) := by blk_ext [idx t]
  refine Eq.trans ?_ e
  have z : y0 = 0 := Subsingleton.elim _ _
  subst z
  refine ((KFold.left hH t.val t.isLt).dlg y1).trans (Eq.trans (congrArg Real.toEReal ?_) (hG y1).symm)
  rw [ht, Finset.sum_range (n := 2 * (31 + 1))]
  rfl

include hH in
/-- The layer norm's shift gradient. -/
theorem final_17 (G : Vec Ideal S1x512 .f32) (hG : ∀ (k : Fin 512), G (ix2 0 k) = ((A.dlb k : ℝ) : EReal)) :
    (dats m 0 c).arrAt 17 cfg0.N = G := by
  have hN : grid0.N = 32 := N_0
  refine (dats m 0 c).arrAt_eq_of_covers 17 _ (by decide +kernel) fun t hf y => ?_
  have hl : t.val < grid0.N := t.isLt
  have ht : t.val = 31 := by have := (flush0_17 t).mp hf; omega
  blk_simp
  rw [after0_17]
  idx_vars y
  have e : (G (ix2 y0 y1)) = G ((win0_17.blk t).view.emb (ix2 y0 y1)) := by blk_ext [idx t]
  refine Eq.trans ?_ e
  have z : y0 = 0 := Subsingleton.elim _ _
  subst z
  refine ((KFold.left hH t.val t.isLt).dlb y1).trans (Eq.trans (congrArg Real.toEReal ?_) (hG y1).symm)
  rw [ht, Finset.sum_range (n := 2 * (31 + 1))]
  rfl

include hH in
/-- The spatial weights' gradient. -/
theorem final_18 (G : Vec Ideal S4x128x128 .f32) (hG : ∀ (g : Fin 4) (s j : Fin 128), G (ix3 g s j) = ((A.dws g s j : ℝ) : EReal)) :
    (dats m 0 c).arrAt 18 cfg0.N = G := by
  have hN : grid0.N = 32 := N_0
  refine (dats m 0 c).arrAt_eq_of_covers 18 _ (by decide +kernel) fun t hf y => ?_
  have hl : t.val < grid0.N := t.isLt
  have ht : t.val = 31 := by have := (flush0_18 t).mp hf; omega
  blk_simp
  rw [after0_18]
  idx_vars y
  have e : (G (ix3 y0 y1 y2)) = G ((win0_18.blk t).view.emb (ix3 y0 y1 y2)) := by blk_ext [idx t]
  refine Eq.trans ?_ e
  refine ((KFold.left hH t.val t.isLt).dws y0 y1 y2).trans (Eq.trans (congrArg Real.toEReal ?_) (hG y0 y1 y2).symm)
  rw [ht, Finset.sum_range (n := 2 * (31 + 1))]
  rfl

include hH in
/-- The spatial biases' gradient. -/
theorem final_19 (G : Vec Ideal S128x4 .f32) (hG : ∀ (s : Fin 128) (g : Fin 4), G (ix2 s g) = ((A.db g s : ℝ) : EReal)) :
    (dats m 0 c).arrAt 19 cfg0.N = G := by
  have hN : grid0.N = 32 := N_0
  refine (dats m 0 c).arrAt_eq_of_covers 19 _ (by decide +kernel) fun t hf y => ?_
  have hl : t.val < grid0.N := t.isLt
  have ht : t.val = 31 := by have := (flush0_19 t).mp hf; omega
  blk_simp
  rw [after0_19]
  idx_vars y
  have e : (G (ix2 y0 y1)) = G ((win0_19.blk t).view.emb (ix2 y0 y1)) := by blk_ext [idx t]
  refine Eq.trans ?_ e
  refine ((KFold.left hH t.val t.isLt).db y0 y1).trans (Eq.trans (congrArg Real.toEReal ?_) (hG y0 y1).symm)
  rw [ht, Finset.sum_range (n := 2 * (31 + 1))]
  rfl

end Cert.KFinal
-- ==== Proof.RefTile.lean ====
/-
  The reference's gating unit, forward and backward, chunk by chunk: every stage is the real function of the same name.
-/
module

public import proofs.«01_k».proof.Proof.RefRows

@[expose] public section

set_option maxRecDepth 16384

noncomputable section

open Idealize.ShloMosaic Cert.Layer Cert.Reals Cert.ReferenceIdeal.Read

namespace Cert.RefValue

variable {A : Args} {x0 : FVec Ideal ⟨3, ![2, 4096, 1024]⟩ .f32} {x1 : FVec Ideal ⟨2, ![1, 1024]⟩ .f32}
  {x2 : FVec Ideal ⟨3, ![1, 1024, 3592]⟩ .f32} {x3 x4 : FVec Ideal ⟨2, ![1, 512]⟩ .f32}
  {x5 : FVec Ideal ⟨4, ![1, 4, 128, 128]⟩ .f32} {x6 : FVec Ideal ⟨3, ![1, 4, 128]⟩ .f32}
  {x7 : FVec Ideal ⟨2, ![8192, 1024]⟩ .f32} {x8 : FVec Ideal ⟨2, ![8192, 512]⟩ .f32}
  {x9 : FVec Ideal ⟨2, ![8192, 1536]⟩ .bf16} {x10 : FVec Ideal ⟨2, ![8192, 512]⟩ .bf16}
  {x11 : FVec Ideal ⟨2, ![8192, 128]⟩ .bf16} (h : Agrees A x0 x1 x2 x3 x4 x5 x6 x7 x8 x9 x10 x11)

include h

/-- A row's mean square with the small number added. -/
theorem v16 (b : Fin 2) (i : Fin 4096) :
    val_main_v16 (F := Ideal) x0 (ix3 b i 0) = ((A.ms (4096 * b + i) : ℝ) : EReal) := by
  pointwise [val_main_v16, val_main_v14, val_main_v12, val_main_v11, val_main_v10, val_main_cst, val_main_v13, val_main_cst_0, val_main_v15, val_main_cst_1, h.x]
  simp only [add_real, mul_real, sub_real, neg_real, sum_real, exp_real, erfc_real, bits_eps, bits_1024, bits_128, bits_half, bits_neg_half, bits_one, bits_slope, zero_real, zero_add, div_1024, div_128, div_root]
  rfl

/-- The reciprocal of its root. -/
theorem v17 (b : Fin 2) (i : Fin 4096) :
    val_main_v17 (F := Ideal) x0 (ix3 b i 0) = ((A.inv (4096 * b + i) : ℝ) : EReal) := by
  pointwise [val_main_v17, v16 h]
  rw [rsqrt_real _ (A.ms_pos _)]
  rfl

/-- The normalised row. -/
theorem v22 (b : Fin 2) (i : Fin 4096) (k : Fin 1024) :
    val_main_v22 (F := Ideal) x0 (ix3 b i k) = ((A.n (4096 * b + i) k : ℝ) : EReal) := by
  pointwise [val_main_v22, val_main_v21, v17 h, h.x]
  simp only [add_real, mul_real, sub_real, neg_real, sum_real, exp_real, erfc_real, bits_eps, bits_1024, bits_128, bits_half, bits_neg_half, bits_one, bits_slope, zero_real, zero_add, div_1024, div_128, div_root]
  rfl

/-- The scaled normalised row. -/
theorem v25 (b : Fin 2) (i : Fin 4096) (k : Fin 1024) :
    val_main_v25 (F := Ideal) x0 x1 (ix3 b i k) = ((A.xn (4096 * b + i) k : ℝ) : EReal) := by
  pointwise [val_main_v25, val_main_v24, val_main_v23, val_main_v9, v22 h, h.g]
  simp only [add_real, mul_real, sub_real, neg_real, sum_real, exp_real, erfc_real, bits_eps, bits_1024, bits_128, bits_half, bits_neg_half, bits_one, bits_slope, zero_real, zero_add, div_1024, div_128, div_root]
  rfl

/-- The projection. -/
theorem v27 (b : Fin 2) (i : Fin 4096) (c : Fin 3592) :
    val_main_v27 (F := Ideal) x0 x1 x2 (ix3 b i c) = ((A.proj (4096 * b + i) c : ℝ) : EReal) := by
  pointwise [val_main_v27, val_main_v26, v25 h, h.w]
  simp only [add_real, mul_real, sub_real, neg_real, sum_real, exp_real, erfc_real, bits_eps, bits_1024, bits_128, bits_half, bits_neg_half, bits_one, bits_slope, zero_real, zero_add, div_1024, div_128, div_root]
  rfl

/-- The gating input. -/
theorem v28 (b : Fin 2) (i : Fin 4096) (j : Fin 512) :
    val_main_v28 (F := Ideal) x0 x1 x2 (ix3 b i j) = (((A.tile ((4096 * b + i) / 128) (j / 128)).u ((4096 * b + i) % 128) (j % 128) : ℝ) : EReal) := by
  pointwise [val_main_v28, v27 h]
  rw [Args.tile_u]

/-- The gated input. -/
theorem v29 (b : Fin 2) (i : Fin 4096) (j : Fin 512) :
    val_main_v29 (F := Ideal) x0 x1 x2 (ix3 b i j) = (((A.tile ((4096 * b + i) / 128) (j / 128)).v ((4096 * b + i) % 128) (j % 128) : ℝ) : EReal) := by
  pointwise [val_main_v29, v27 h]
  rw [Args.tile_v]

/-- The outer gate's input. -/
theorem v30 (b : Fin 2) (i : Fin 4096) (j : Fin 512) :
    val_main_v30 (F := Ideal) x0 x1 x2 (ix3 b i j) = (((A.tile ((4096 * b + i) / 128) (j / 128)).z ((4096 * b + i) % 128) (j % 128) : ℝ) : EReal) := by
  pointwise [val_main_v30, v27 h]
  rw [Args.tile_z]

/-- The gradient of the unit's output. -/
theorem v2 (b : Fin 2) (i : Fin 4096) (j : Fin 512) :
    val_main_v2 (F := Ideal) x8 (ix3 b i j) = (((A.tile ((4096 * b + i) / 128) (j / 128)).ct ((4096 * b + i) % 128) (j % 128) : ℝ) : EReal) := by
  pointwise [val_main_v2, h.da]
  rw [Args.tile_ct, Nat.mul_comm]

omit h in
/-- The root of two, of the gated input's activation. -/
theorem v54 : val_main_v54 (F := Ideal) ix0 = ((Real.sqrt 2 : ℝ) : EReal) := root_bits

omit h in
/-- The root of two, of the gating input's activation. -/
theorem v42 : val_main_v42 (F := Ideal) ix0 = ((Real.sqrt 2 : ℝ) : EReal) := root_bits

/-- The gated input halved. -/
theorem v51 (b : Fin 2) (i : Fin 4096) (j : Fin 512) :
    val_main_v51 (F := Ideal) x0 x1 x2 (ix3 b i j) = ((1 / 2 * ((A.tile ((4096 * b + i) / 128) (j / 128)).v ((4096 * b + i) % 128) (j % 128)) : ℝ) : EReal) := by
  pointwise [val_main_v51, val_main_v50, val_main_cst_5, v29 h]
  simp only [add_real, mul_real, sub_real, neg_real, sum_real, exp_real, erfc_real, bits_eps, bits_1024, bits_128, bits_half, bits_neg_half, bits_one, bits_slope, zero_real, zero_add, div_1024, div_128, div_root]

/-- The gated input's negative over the root of two. -/
theorem v56 (b : Fin 2) (i : Fin 4096) (j : Fin 512) :
    val_main_v56 (F := Ideal) x0 x1 x2 (ix3 b i j) = ((-((A.tile ((4096 * b + i) / 128) (j / 128)).v ((4096 * b + i) % 128) (j % 128)) / Real.sqrt 2 : ℝ) : EReal) := by
  pointwise [val_main_v56, val_main_v52, val_main_v55, v29 h, v54]
  simp only [add_real, mul_real, sub_real, neg_real, sum_real, exp_real, erfc_real, bits_eps, bits_1024, bits_128, bits_half, bits_neg_half, bits_one, bits_slope, zero_real, zero_add, div_1024, div_128, div_root]

/-- Its complementary error function. -/
theorem v57 (b : Fin 2) (i : Fin 4096) (j : Fin 512) :
    val_main_v57 (F := Ideal) x0 x1 x2 (ix3 b i j) = ((1 - rerf (-((A.tile ((4096 * b + i) / 128) (j / 128)).v ((4096 * b + i) % 128) (j % 128)) / Real.sqrt 2) : ℝ) : EReal) := by
  pointwise [val_main_v57, v56 h]
  simp only [add_real, mul_real, sub_real, neg_real, sum_real, exp_real, erfc_real, bits_eps, bits_1024, bits_128, bits_half, bits_neg_half, bits_one, bits_slope, zero_real, zero_add, div_1024, div_128, div_root]

/-- The exponential of its square's negative. -/
theorem v60 (b : Fin 2) (i : Fin 4096) (j : Fin 512) :
    val_main_v60 (F := Ideal) x0 x1 x2 (ix3 b i j) = ((Real.exp (-(-((A.tile ((4096 * b + i) / 128) (j / 128)).v ((4096 * b + i) % 128) (j % 128)) / Real.sqrt 2 * (-((A.tile ((4096 * b + i) / 128) (j / 128)).v ((4096 * b + i) % 128) (j % 128)) / Real.sqrt 2))) : ℝ) : EReal) := by
  pointwise [val_main_v60, val_main_v59, val_main_v58, v56 h]
  simp only [add_real, mul_real, sub_real, neg_real, sum_real, exp_real, erfc_real, bits_eps, bits_1024, bits_128, bits_half, bits_neg_half, bits_one, bits_slope, zero_real, zero_add, div_1024, div_128, div_root]

/-- The gated input's activation. -/
theorem v61 (b : Fin 2) (i : Fin 4096) (j : Fin 512) :
    val_main_v61 (F := Ideal) x0 x1 x2 (ix3 b i j) = ((gelu ((A.tile ((4096 * b + i) / 128) (j / 128)).v ((4096 * b + i) % 128) (j % 128)) : ℝ) : EReal) := by
  pointwise [val_main_v61, v51 h, v57 h]
  simp only [add_real, mul_real, sub_real, neg_real, sum_real, exp_real, erfc_real, bits_eps, bits_1024, bits_128, bits_half, bits_neg_half, bits_one, bits_slope, zero_real, zero_add, div_1024, div_128, div_root]
  rw [gelu_erfc]

/-- The gating input halved. -/
theorem v39 (b : Fin 2) (i : Fin 4096) (j : Fin 512) :
    val_main_v39 (F := Ideal) x0 x1 x2 (ix3 b i j) = ((1 / 2 * ((A.tile ((4096 * b + i) / 128) (j / 128)).u ((4096 * b + i) % 128) (j % 128)) : ℝ) : EReal) := by
  pointwise [val_main_v39, val_main_v38, val_main_cst_3, v28 h]
  simp only [add_real, mul_real, sub_real, neg_real, sum_real, exp_real, erfc_real, bits_eps, bits_1024, bits_128, bits_half, bits_neg_half, bits_one, bits_slope, zero_real, zero_add, div_1024, div_128, div_root]

/-- The gating input's negative over the root of two. -/
theorem v44 (b : Fin 2) (i : Fin 4096) (j : Fin 512) :
    val_main_v44 (F := Ideal) x0 x1 x2 (ix3 b i j) = ((-((A.tile ((4096 * b + i) / 128) (j / 128)).u ((4096 * b + i) % 128) (j % 128)) / Real.sqrt 2 : ℝ) : EReal) := by
  pointwise [val_main_v44, val_main_v40, val_main_v43, v28 h, v42]
  simp only [add_real, mul_real, sub_real, neg_real, sum_real, exp_real, erfc_real, bits_eps, bits_1024, bits_128, bits_half, bits_neg_half, bits_one, bits_slope, zero_real, zero_add, div_1024, div_128, div_root]

/-- Its complementary error function. -/
theorem v45 (b : Fin 2) (i : Fin 4096) (j : Fin 512) :
    val_main_v45 (F := Ideal) x0 x1 x2 (ix3 b i j) = ((1 - rerf (-((A.tile ((4096 * b + i) / 128) (j / 128)).u ((4096 * b + i) % 128) (j % 128)) / Real.sqrt 2) : ℝ) : EReal) := by
  pointwise [val_main_v45, v44 h]
  simp only [add_real, mul_real, sub_real, neg_real, sum_real, exp_real, erfc_real, bits_eps, bits_1024, bits_128, bits_half, bits_neg_half, bits_one, bits_slope, zero_real, zero_add, div_1024, div_128, div_root]

/-- The exponential of its square's negative. -/
theorem v48 (b : Fin 2) (i : Fin 4096) (j : Fin 512) :
    val_main_v48 (F := Ideal) x0 x1 x2 (ix3 b i j) = ((Real.exp (-(-((A.tile ((4096 * b + i) / 128) (j / 128)).u ((4096 * b + i) % 128) (j % 128)) / Real.sqrt 2 * (-((A.tile ((4096 * b + i) / 128) (j / 128)).u ((4096 * b + i) % 128) (j % 128)) / Real.sqrt 2))) : ℝ) : EReal) := by
  pointwise [val_main_v48, val_main_v47, val_main_v46, v44 h]
  simp only [add_real, mul_real, sub_real, neg_real, sum_real, exp_real, erfc_real, bits_eps, bits_1024, bits_128, bits_half, bits_neg_half, bits_one, bits_slope, zero_real, zero_add, div_1024, div_128, div_root]

/-- The gating input's activation. -/
theorem v49 (b : Fin 2) (i : Fin 4096) (j : Fin 512) :
    val_main_v49 (F := Ideal) x0 x1 x2 (ix3 b i j) = ((gelu ((A.tile ((4096 * b + i) / 128) (j / 128)).u ((4096 * b + i) % 128) (j % 128)) : ℝ) : EReal) := by
  pointwise [val_main_v49, v39 h, v45 h]
  simp only [add_real, mul_real, sub_real, neg_real, sum_real, exp_real, erfc_real, bits_eps, bits_1024, bits_128, bits_half, bits_neg_half, bits_one, bits_slope, zero_real, zero_add, div_1024, div_128, div_root]
  rw [gelu_erfc]

/-- The activated gated input, chunk by chunk. -/
theorem v62 (b : Fin 2) (n : Fin 32) (s : Fin 128) (g : Fin 4) (j : Fin 128) :
    val_main_v62 (F := Ideal) x0 x1 x2 (ix5 b n s g j) = ((gelu ((A.tile (32 * b + n) g).v s j) : ℝ) : EReal) := by
  pointwise [val_main_v62, v61 h]
  rw [Args.chunk_row b n s, Args.chunk_col g j, Args.row_div, Args.row_mod, Args.row_div, Args.row_mod]

/-- It less its row's mean. -/
theorem v70 (b : Fin 2) (n : Fin 32) (s : Fin 128) (g : Fin 4) (j : Fin 128) :
    val_main_v70 (F := Ideal) x0 x1 x2 (ix5 b n s g j) = (((A.tile (32 * b + n) g).cen s j : ℝ) : EReal) := by
  pointwise [val_main_v70, val_main_v69, val_main_v68, val_main_v66, val_main_v65, val_main_cst_7, val_main_v67, val_main_cst_8, v62 h]
  simp only [add_real, mul_real, sub_real, neg_real, sum_real, exp_real, erfc_real, bits_eps, bits_1024, bits_128, bits_half, bits_neg_half, bits_one, bits_slope, zero_real, zero_add, div_1024, div_128, div_root]
  rfl

/-- The row's mean square with the small number added. -/
theorem v77 (b : Fin 2) (n : Fin 32) (s : Fin 128) (g : Fin 4) :
    val_main_v77 (F := Ideal) x0 x1 x2 (ix5 b n s g 0) = (((A.tile (32 * b + n) g).var s : ℝ) : EReal) := by
  pointwise [val_main_v77, val_main_v75, val_main_v73, val_main_v72, val_main_v71, val_main_cst_9, val_main_v74, val_main_cst_10, val_main_v76, val_main_cst_11, v70 h]
  simp only [add_real, mul_real, sub_real, neg_real, sum_real, exp_real, erfc_real, bits_eps, bits_1024, bits_128, bits_half, bits_neg_half, bits_one, bits_slope, zero_real, zero_add, div_1024, div_128, div_root]
  rfl

/-- The reciprocal of its root. -/
theorem v78 (b : Fin 2) (n : Fin 32) (s : Fin 128) (g : Fin 4) :
    val_main_v78 (F := Ideal) x0 x1 x2 (ix5 b n s g 0) = (((A.tile (32 * b + n) g).rst s : ℝ) : EReal) := by
  pointwise [val_main_v78, v77 h]
  rw [rsqrt_real _ ((A.tile _ _).var_pos _)]
  rfl

/-- The normalised row. -/
theorem v83 (b : Fin 2) (n : Fin 32) (s : Fin 128) (g : Fin 4) (j : Fin 128) :
    val_main_v83 (F := Ideal) x0 x1 x2 (ix5 b n s g j) = (((A.tile (32 * b + n) g).y s j : ℝ) : EReal) := by
  pointwise [val_main_v83, val_main_v82, v70 h, v78 h]
  simp only [add_real, mul_real, sub_real, neg_real, sum_real, exp_real, erfc_real, bits_eps, bits_1024, bits_128, bits_half, bits_neg_half, bits_one, bits_slope, zero_real, zero_add, div_1024, div_128, div_root]
  rfl

/-- The layer norm. -/
theorem v89 (b : Fin 2) (n : Fin 32) (s : Fin 128) (g : Fin 4) (j : Fin 128) :
    val_main_v89 (F := Ideal) x0 x1 x2 x3 x4 (ix5 b n s g j) = (((A.tile (32 * b + n) g).ln s j : ℝ) : EReal) := by
  pointwise [val_main_v89, val_main_v86, val_main_v85, val_main_v84, val_main_v63, val_main_v34, val_main_v88, val_main_v87, val_main_v64, val_main_v35, v83 h, h.lg, h.lb]
  rw [Args.chunk_col g j]
  simp only [add_real, mul_real, sub_real, neg_real, sum_real, exp_real, erfc_real, bits_eps, bits_1024, bits_128, bits_half, bits_neg_half, bits_one, bits_slope, zero_real, zero_add, div_1024, div_128, div_root]
  rfl

omit h in
/-- The causal mask. -/
theorem v93_1 (g : Fin 4) (s t : Fin 128) : val_main_v93_1 (F := Ideal) (ix3 g s t)
    = Scalar.select (IntOp.cmpi .sge (IntOp.addi (BitVec.ofNat 32 s) 0#32) (BitVec.ofNat 32 t)) 1#1 0#1 := by
  pointwise [val_main_v93_1, val_main_v91, val_main_call0_v4, val_main_call0_v2, val_main_call0_v0, val_main_call0_v1, val_main_call0_c, val_main_call0_v3, val_main_v90, val_main_c, val_main_call0_v5, val_main_call0_c_0]

/-- The causal part of the spatial weights. -/
theorem v93_0 (q : ℕ) (g : Fin 4) (s t : Fin 128) :
    val_main_v93_0 (F := Ideal) x5 (ix3 g s t) = (((A.tile q g).wm s t : ℝ) : EReal) := by
  pointwise [val_main_v93_0, val_main_v36, val_main_v92, val_main_cst_13, v93_1, h.ws]
  rw [causal_select, zero_real, ite_real]
  rfl

/-- The product of the layer norm and the spatial weights. -/
theorem v94 (b : Fin 2) (n : Fin 32) (s : Fin 128) (g : Fin 4) (j : Fin 128) :
    val_main_v94 (F := Ideal) x0 x1 x2 x3 x4 x5 (ix5 g b n j s) = ((∑ t : Fin 128, (A.tile (32 * b + n) g).ln t j * (A.tile (32 * b + n) g).wm s t : ℝ) : EReal) := by
  pointwise [val_main_v94, v89 h, v93_0 h (32 * b + n)]
  simp only [add_real, mul_real, sub_real, neg_real, sum_real, exp_real, erfc_real, bits_eps, bits_1024, bits_128, bits_half, bits_neg_half, bits_one, bits_slope, zero_real, zero_add, div_1024, div_128, div_root]

/-- The spatial mixing. -/
theorem v100 (b : Fin 2) (n : Fin 32) (s : Fin 128) (g : Fin 4) (j : Fin 128) :
    val_main_v100 (F := Ideal) x0 x1 x2 x3 x4 x5 x6 (ix5 b n s g j) = (((A.tile (32 * b + n) g).sp s j : ℝ) : EReal) := by
  pointwise [val_main_v100, val_main_v95, val_main_v99, val_main_v98, val_main_v97, val_main_v96, val_main_v37, v94 h, h.b]
  simp only [add_real, mul_real, sub_real, neg_real, sum_real, exp_real, erfc_real, bits_eps, bits_1024, bits_128, bits_half, bits_neg_half, bits_one, bits_slope, zero_real, zero_add, div_1024, div_128, div_root]
  simp only [mul_comm (Tile.ln _ _ _)]
  rfl

/-- The spatial mixing, row by row. -/
theorem v101 (b : Fin 2) (i : Fin 4096) (j : Fin 512) :
    val_main_v101 (F := Ideal) x0 x1 x2 x3 x4 x5 x6 (ix3 b i j) = (((A.tile ((4096 * b + i) / 128) (j / 128)).sp ((4096 * b + i) % 128) (j % 128) : ℝ) : EReal) := by
  pointwise [val_main_v101, v100 h]
  rw [Args.seq_div, Args.seq_mod]

/-- The gate's logistic function. -/
theorem v103_2 (b : Fin 2) (i : Fin 4096) (j : Fin 512) :
    val_main_v103_2 (F := Ideal) x0 x1 x2 (ix3 b i j) = ((logi ((A.tile ((4096 * b + i) / 128) (j / 128)).z ((4096 * b + i) % 128) (j % 128)) : ℝ) : EReal) := by
  pointwise [val_main_v103_2, val_main_call2_v4, val_main_call2_cst_0, val_main_call2_v3, val_main_call2_v2, val_main_call2_cst, val_main_call2_v1, val_main_call2_v0, v30 h]
  rw [one_real]
  simp only [add_real, mul_real, sub_real, neg_real, sum_real, exp_real, erfc_real, bits_eps, bits_1024, bits_128, bits_half, bits_neg_half, bits_one, bits_slope, zero_real, zero_add, div_1024, div_128, div_root]
  rw [div_real _ _ (by positivity)]
  rfl

/-- The gating unit's output before the outer gate. -/
theorem v102 (b : Fin 2) (i : Fin 4096) (j : Fin 512) :
    val_main_v102 (F := Ideal) x0 x1 x2 x3 x4 x5 x6 (ix3 b i j) = ((gelu ((A.tile ((4096 * b + i) / 128) (j / 128)).u ((4096 * b + i) % 128) (j % 128)) * (A.tile ((4096 * b + i) / 128) (j / 128)).sp ((4096 * b + i) % 128) (j % 128) : ℝ) : EReal) := by
  pointwise [val_main_v102, v49 h, v101 h]
  simp only [add_real, mul_real, sub_real, neg_real, sum_real, exp_real, erfc_real, bits_eps, bits_1024, bits_128, bits_half, bits_neg_half, bits_one, bits_slope, zero_real, zero_add, div_1024, div_128, div_root]

/-- Its gradient. -/
theorem v106 (b : Fin 2) (i : Fin 4096) (j : Fin 512) :
    val_main_v106 (F := Ideal) x0 x1 x2 x8 (ix3 b i j) = (((A.tile ((4096 * b + i) / 128) (j / 128)).dout ((4096 * b + i) % 128) (j % 128) : ℝ) : EReal) := by
  pointwise [val_main_v106, val_main_v103_0, v2 h, v30 h, v103_2 h]
  simp only [add_real, mul_real, sub_real, neg_real, sum_real, exp_real, erfc_real, bits_eps, bits_1024, bits_128, bits_half, bits_neg_half, bits_one, bits_slope, zero_real, zero_add, div_1024, div_128, div_root]
  rfl

/-- The gradient of the outer gate's input. -/
theorem v107 (b : Fin 2) (i : Fin 4096) (j : Fin 512) :
    val_main_v107 (F := Ideal) x0 x1 x2 x3 x4 x5 x6 x8 (ix3 b i j) = (((A.tile ((4096 * b + i) / 128) (j / 128)).dz ((4096 * b + i) % 128) (j % 128) : ℝ) : EReal) := by
  pointwise [val_main_v107, val_main_call3_v1, val_main_v105, val_main_call3_v2, val_main_call3_v0, val_main_v103_1, val_main_call2_v7, val_main_call2_v6, val_main_call2_cst_1, v2 h, v30 h, v103_2 h, v102 h]
  simp only [add_real, mul_real, sub_real, neg_real, sum_real, exp_real, erfc_real, bits_eps, bits_1024, bits_128, bits_half, bits_neg_half, bits_one, bits_slope, zero_real, zero_add, div_1024, div_128, div_root]
  refine congrArg Real.toEReal ?_
  unfold Tile.dz
  ring

/-- The gradient of the spatial mixing. -/
theorem v108 (b : Fin 2) (i : Fin 4096) (j : Fin 512) :
    val_main_v108 (F := Ideal) x0 x1 x2 x8 (ix3 b i j) = (((A.tile ((4096 * b + i) / 128) (j / 128)).dsp ((4096 * b + i) % 128) (j % 128) : ℝ) : EReal) := by
  pointwise [val_main_v108, v49 h, v106 h]
  simp only [add_real, mul_real, sub_real, neg_real, sum_real, exp_real, erfc_real, bits_eps, bits_1024, bits_128, bits_half, bits_neg_half, bits_one, bits_slope, zero_real, zero_add, div_1024, div_128, div_root]
  exact congrArg _ (mul_comm _ _)

/-- The gradient of the activated gating input. -/
theorem v109 (b : Fin 2) (i : Fin 4096) (j : Fin 512) :
    val_main_v109 (F := Ideal) x0 x1 x2 x3 x4 x5 x6 x8 (ix3 b i j) = (((A.tile ((4096 * b + i) / 128) (j / 128)).dout ((4096 * b + i) % 128) (j % 128) * (A.tile ((4096 * b + i) / 128) (j / 128)).sp ((4096 * b + i) % 128) (j % 128) : ℝ) : EReal) := by
  pointwise [val_main_v109, v101 h, v106 h]
  simp only [add_real, mul_real, sub_real, neg_real, sum_real, exp_real, erfc_real, bits_eps, bits_1024, bits_128, bits_half, bits_neg_half, bits_one, bits_slope, zero_real, zero_add, div_1024, div_128, div_root]

/-- The gradient of the spatial mixing, chunk by chunk. -/
theorem v110 (b : Fin 2) (n : Fin 32) (s : Fin 128) (g : Fin 4) (j : Fin 128) :
    val_main_v110 (F := Ideal) x0 x1 x2 x8 (ix5 b n s g j) = (((A.tile (32 * b + n) g).dsp s j : ℝ) : EReal) := by
  pointwise [val_main_v110, v108 h]
  rw [Args.chunk_row b n s, Args.chunk_col g j, Args.row_div, Args.row_mod, Args.row_div, Args.row_mod]

/-- The gradient of the layer norm's value. -/
theorem v120 (b : Fin 2) (n : Fin 32) (t : Fin 128) (g : Fin 4) (j : Fin 128) :
    val_main_v120 (F := Ideal) x0 x1 x2 x5 x8 (ix5 b n t g j) = (((A.tile (32 * b + n) g).dln t j : ℝ) : EReal) := by
  pointwise [val_main_v120, val_main_v119, val_main_v117, v110 h, v93_0 h (32 * b + n)]
  simp only [add_real, mul_real, sub_real, neg_real, sum_real, exp_real, erfc_real, bits_eps, bits_1024, bits_128, bits_half, bits_neg_half, bits_one, bits_slope, zero_real, zero_add, div_1024, div_128, div_root]
  rfl

/-- The gradient of the normalised row. -/
theorem v129 (b : Fin 2) (n : Fin 32) (s : Fin 128) (g : Fin 4) (j : Fin 128) :
    val_main_v129 (F := Ideal) x0 x1 x2 x3 x5 x8 (ix5 b n s g j) = (((A.tile (32 * b + n) g).dy s j : ℝ) : EReal) := by
  pointwise [val_main_v129, val_main_v128, val_main_v84, val_main_v63, val_main_v34, v120 h, h.lg]
  rw [Args.chunk_col g j]
  simp only [add_real, mul_real, sub_real, neg_real, sum_real, exp_real, erfc_real, bits_eps, bits_1024, bits_128, bits_half, bits_neg_half, bits_one, bits_slope, zero_real, zero_add, div_1024, div_128, div_root]
  rfl

/-- Half the gradient of the row's mean square, over the row's length. -/
theorem v139 (b : Fin 2) (n : Fin 32) (s : Fin 128) (g : Fin 4) :
    val_main_v139 (F := Ideal) x0 x1 x2 x3 x5 x8 (ix4 b n s g) = (((∑ k : Fin 128, (A.tile (32 * b + n) g).cen s k * (A.tile (32 * b + n) g).dy s k) * (-(1 / 2) * ((A.tile (32 * b + n) g).rst s / (A.tile (32 * b + n) g).var s)) / 128 : ℝ) : EReal) := by
  pointwise [val_main_v139, val_main_v138, val_main_v136, val_main_v133, val_main_v132, val_main_v131, val_main_cst_21, val_main_v81, val_main_v80, val_main_cst_12, val_main_v79, val_main_v137, val_main_cst_22, val_main_cst_23, v70 h, v129 h, v78 h, v77 h]
  simp only [Fin.sum_univ_one, v77 h, v78 h]
  simp only [add_real, mul_real, sub_real, neg_real, sum_real, exp_real, erfc_real, bits_eps, bits_1024, bits_128, bits_half, bits_neg_half, bits_one, bits_slope, zero_real, zero_add, div_1024, div_128, div_root]
  rw [div_real _ _ ((A.tile _ _).var_pos _).ne']
  simp only [add_real, mul_real, sub_real, neg_real, sum_real, exp_real, erfc_real, bits_eps, bits_1024, bits_128, bits_half, bits_neg_half, bits_one, bits_slope, zero_real, zero_add, div_1024, div_128, div_root]

/-- The gradient of the row less its mean. -/
theorem v144 (b : Fin 2) (n : Fin 32) (s : Fin 128) (g : Fin 4) (j : Fin 128) :
    val_main_v144 (F := Ideal) x0 x1 x2 x3 x5 x8 (ix5 b n s g j) = (((A.tile (32 * b + n) g).dy s j * (A.tile (32 * b + n) g).rst s + (A.tile (32 * b + n) g).cen s j * ((∑ k : Fin 128, (A.tile (32 * b + n) g).cen s k * (A.tile (32 * b + n) g).dy s k) * (-(1 / 2) * ((A.tile (32 * b + n) g).rst s / (A.tile (32 * b + n) g).var s)) / 128) + ((∑ k : Fin 128, (A.tile (32 * b + n) g).cen s k * (A.tile (32 * b + n) g).dy s k) * (-(1 / 2) * ((A.tile (32 * b + n) g).rst s / (A.tile (32 * b + n) g).var s)) / 128) * (A.tile (32 * b + n) g).cen s j : ℝ) : EReal) := by
  pointwise [val_main_v144, val_main_v142, val_main_v135, val_main_v134, val_main_v141, val_main_v140, val_main_v143, v70 h, v129 h, v78 h, v139 h]
  simp only [add_real, mul_real, sub_real, neg_real, sum_real, exp_real, erfc_real, bits_eps, bits_1024, bits_128, bits_half, bits_neg_half, bits_one, bits_slope, zero_real, zero_add, div_1024, div_128, div_root]

/-- The gradient of the activated gated input. -/
theorem v152 (b : Fin 2) (n : Fin 32) (s : Fin 128) (g : Fin 4) (j : Fin 128) :
    val_main_v152 (F := Ideal) x0 x1 x2 x3 x5 x8 (ix5 b n s g j) = (((A.tile (32 * b + n) g).dgv s j : ℝ) : EReal) := by
  pointwise [val_main_v152, val_main_v151, val_main_v150, val_main_v149, val_main_v147, val_main_v146, val_main_v145, val_main_cst_24, val_main_v148, val_main_cst_25, val_main_cst_26, v144 h]
  simp only [add_real, mul_real, sub_real, neg_real, sum_real, exp_real, erfc_real, bits_eps, bits_1024, bits_128, bits_half, bits_neg_half, bits_one, bits_slope, zero_real, zero_add, div_1024, div_128, div_root]
  simp only [Fin.sum_univ_one]
  exact congrArg Real.toEReal (layer_norm_bwd (fun k => (A.tile (32 * b + n) g).cen s k) (fun k => (A.tile (32 * b + n) g).dy s k) _ ((A.tile _ _).var_pos s) (sum_sub_mean _) j)

/-- The same, row by row. -/
theorem v155 (b : Fin 2) (i : Fin 4096) (j : Fin 512) :
    val_main_v155 (F := Ideal) x0 x1 x2 x3 x5 x8 (ix3 b i j) = (((A.tile ((4096 * b + i) / 128) (j / 128)).dgv ((4096 * b + i) % 128) (j % 128) : ℝ) : EReal) := by
  pointwise [val_main_v155, v152 h]
  rw [Args.seq_div, Args.seq_mod]

/-- The gradient of the gated input. -/
theorem v166 (b : Fin 2) (i : Fin 4096) (j : Fin 512) :
    val_main_v166 (F := Ideal) x0 x1 x2 x3 x5 x8 (ix3 b i j) = (((A.tile ((4096 * b + i) / 128) (j / 128)).dv ((4096 * b + i) % 128) (j % 128) : ℝ) : EReal) := by
  pointwise [val_main_v166, val_main_v163, val_main_v162, val_main_v160, val_main_v159, val_main_v158, val_main_cst_27, val_main_v156, val_main_v161, val_main_v165, val_main_v164, val_main_cst_28, val_main_v157, v155 h, v57 h, v60 h, v51 h, v54]
  simp only [add_real, mul_real, sub_real, neg_real, sum_real, exp_real, erfc_real, bits_eps, bits_1024, bits_128, bits_half, bits_neg_half, bits_one, bits_slope, zero_real, zero_add, div_1024, div_128, div_root]
  exact congrArg _ (slope_erfc _ _)

/-- The gradient of the gating input. -/
theorem v177 (b : Fin 2) (i : Fin 4096) (j : Fin 512) :
    val_main_v177 (F := Ideal) x0 x1 x2 x3 x4 x5 x6 x8 (ix3 b i j) = (((A.tile ((4096 * b + i) / 128) (j / 128)).du ((4096 * b + i) % 128) (j % 128) : ℝ) : EReal) := by
  pointwise [val_main_v177, val_main_v174, val_main_v173, val_main_v171, val_main_v170, val_main_v169, val_main_cst_29, val_main_v167, val_main_v172, val_main_v176, val_main_v175, val_main_cst_30, val_main_v168, v109 h, v45 h, v48 h, v39 h, v42]
  simp only [add_real, mul_real, sub_real, neg_real, sum_real, exp_real, erfc_real, bits_eps, bits_1024, bits_128, bits_half, bits_neg_half, bits_one, bits_slope, zero_real, zero_add, div_1024, div_128, div_root]
  exact congrArg _ (slope_erfc _ _)

end Cert.RefValue
-- ==== Proof.RefValue.lean ====
/-
  The reference's six results: each is the real function of the same name.
-/
module

public import proofs.«01_k».proof.Proof.RefTile

@[expose] public section

set_option maxRecDepth 16384

noncomputable section

open Idealize.ShloMosaic Cert.Layer Cert.Reals Cert.ReferenceIdeal.Read

namespace Cert.RefValue

variable {A : Args} {x0 : FVec Ideal ⟨3, ![2, 4096, 1024]⟩ .f32} {x1 : FVec Ideal ⟨2, ![1, 1024]⟩ .f32}
  {x2 : FVec Ideal ⟨3, ![1, 1024, 3592]⟩ .f32} {x3 x4 : FVec Ideal ⟨2, ![1, 512]⟩ .f32}
  {x5 : FVec Ideal ⟨4, ![1, 4, 128, 128]⟩ .f32} {x6 : FVec Ideal ⟨3, ![1, 4, 128]⟩ .f32}
  {x7 : FVec Ideal ⟨2, ![8192, 1024]⟩ .f32} {x8 : FVec Ideal ⟨2, ![8192, 512]⟩ .f32}
  {x9 : FVec Ideal ⟨2, ![8192, 1536]⟩ .bf16} {x10 : FVec Ideal ⟨2, ![8192, 512]⟩ .bf16}
  {x11 : FVec Ideal ⟨2, ![8192, 128]⟩ .bf16} (h : Agrees A x0 x1 x2 x3 x4 x5 x6 x7 x8 x9 x10 x11)

include h

/-- The gradient of the spatial bias. -/
theorem v111 (s : Fin 128) (g : Fin 4) :
    val_main_v111 (F := Ideal) x0 x1 x2 x8 (ix2 s g) = ((∑ q : Fin 64, (A.tile q g).db s : ℝ) : EReal) := by
  pointwise [val_main_v111, val_main_cst_14]
  refine (Cert.HostSums.sum_r5_a014 _ _ _ s g).trans ?_
  pointwise [v110 h]
  simp only [add_real, mul_real, sub_real, neg_real, sum_real, exp_real, erfc_real, bits_eps, bits_1024, bits_128, bits_half, bits_neg_half, bits_one, bits_slope, zero_real, zero_add, div_1024, div_128, div_root]
  rw [← sum_chunks (fun q => (A.tile q g).db s)]
  rfl

/-- The same, after a sum over axes of one element. -/
theorem v113 (s : Fin 128) (g : Fin 4) :
    val_main_v113 (F := Ideal) x0 x1 x2 x8 (ix2 s g) = ((∑ q : Fin 64, (A.tile q g).db s : ℝ) : EReal) := by
  pointwise [val_main_v113, val_main_cst_15]
  refine (Cert.HostSums.sum_r5_a014 _ _ _ s g).trans ?_
  pointwise [val_main_v112, v111 h]
  simp only [add_real, mul_real, sub_real, neg_real, sum_real, exp_real, erfc_real, bits_eps, bits_1024, bits_128, bits_half, bits_neg_half, bits_one, bits_slope, zero_real, zero_add, div_1024, div_128, div_root]
  simp only [Fin.sum_univ_one]

/-- The gradient of the layer norm's shift. -/
theorem v122 (g : Fin 4) (j : Fin 128) :
    val_main_v122 (F := Ideal) x0 x1 x2 x5 x8 (ix2 g j) = ((∑ q : Fin 64, (A.tile q g).dlb j : ℝ) : EReal) := by
  pointwise [val_main_v122, val_main_cst_17]
  refine (Cert.HostSums.sum_r5_a012 _ _ _ g j).trans ?_
  pointwise [v120 h]
  simp only [add_real, mul_real, sub_real, neg_real, sum_real, exp_real, erfc_real, bits_eps, bits_1024, bits_128, bits_half, bits_neg_half, bits_one, bits_slope, zero_real, zero_add, div_1024, div_128, div_root]
  rw [← sum_chunks (fun q => (A.tile q g).dlb j)]
  rfl

/-- The same, after a sum over axes of one element. -/
theorem v124 (g : Fin 4) (j : Fin 128) :
    val_main_v124 (F := Ideal) x0 x1 x2 x5 x8 (ix2 g j) = ((∑ q : Fin 64, (A.tile q g).dlb j : ℝ) : EReal) := by
  pointwise [val_main_v124, val_main_cst_18]
  refine (Cert.HostSums.sum_r5_a012 _ _ _ g j).trans ?_
  pointwise [val_main_v123, v122 h]
  simp only [add_real, mul_real, sub_real, neg_real, sum_real, exp_real, erfc_real, bits_eps, bits_1024, bits_128, bits_half, bits_neg_half, bits_one, bits_slope, zero_real, zero_add, div_1024, div_128, div_root]
  simp only [Fin.sum_univ_one]

/-- The gradient of the layer norm's scale. -/
theorem v126 (g : Fin 4) (j : Fin 128) :
    val_main_v126 (F := Ideal) x0 x1 x2 x5 x8 (ix2 g j) = ((∑ q : Fin 64, (A.tile q g).dlg j : ℝ) : EReal) := by
  pointwise [val_main_v126, val_main_cst_19]
  refine (Cert.HostSums.sum_r5_a012 _ _ _ g j).trans ?_
  pointwise [val_main_v125, v83 h, val_main_v70, val_main_v62, val_main_v61, val_main_v51, val_main_v50, val_main_cst_5, val_main_v29, val_main_v27, val_main_v25, val_main_v22, val_main_v21, val_main_v17, val_main_v16, val_main_v14, val_main_v12, val_main_v11, val_main_v10, val_main_cst, val_main_v13, val_main_cst_0, val_main_v15, val_main_cst_1, val_main_v24, val_main_v23, val_main_v9, val_main_v26, val_main_v57, val_main_v56, val_main_v52, val_main_v55, val_main_v54, val_main_v53, val_main_cst_6, val_main_v69, val_main_v68, val_main_v66, val_main_v65, val_main_cst_7, val_main_v67, val_main_cst_8, val_main_v82, val_main_v78, val_main_v77, val_main_v75, val_main_v73, val_main_v72, val_main_v71, val_main_cst_9, val_main_v74, val_main_cst_10, val_main_v76, val_main_cst_11, v120 h]
  simp only [add_real, mul_real, sub_real, neg_real, sum_real, exp_real, erfc_real, bits_eps, bits_1024, bits_128, bits_half, bits_neg_half, bits_one, bits_slope, zero_real, zero_add, div_1024, div_128, div_root]
  simp only [mul_comm (Tile.y _ _ _)]
  rw [← sum_chunks (fun q => (A.tile q g).dlg j)]
  rfl

/-- The same, after a sum over axes of one element. -/
theorem v130 (g : Fin 4) (j : Fin 128) :
    val_main_v130 (F := Ideal) x0 x1 x2 x5 x8 (ix2 g j) = ((∑ q : Fin 64, (A.tile q g).dlg j : ℝ) : EReal) := by
  pointwise [val_main_v130, val_main_cst_20]
  refine (Cert.HostSums.sum_r5_a012 _ _ _ g j).trans ?_
  pointwise [val_main_v127, v126 h]
  simp only [add_real, mul_real, sub_real, neg_real, sum_real, exp_real, erfc_real, bits_eps, bits_1024, bits_128, bits_half, bits_neg_half, bits_one, bits_slope, zero_real, zero_add, div_1024, div_128, div_root]
  simp only [Fin.sum_univ_one]

/-- The gradient of the spatial bias, as the program returns it. -/
theorem v212 (s : Fin 128) (g : Fin 4) :
    val_main_v212 (F := Ideal) x0 x1 x2 x8 (ix2 s g) = ((A.db g s : ℝ) : EReal) := by
  pointwise [val_main_v212, val_main_v211, val_main_v178, val_main_v116, val_main_v115, val_main_v114, val_main_cst_16, v113 h]
  simp only [add_real, mul_real, sub_real, neg_real, sum_real, exp_real, erfc_real, bits_eps, bits_1024, bits_128, bits_half, bits_neg_half, bits_one, bits_slope, zero_real, zero_add, div_1024, div_128, div_root]
  simp only [Fin.sum_univ_one]
  rfl

/-- The gradient of the layer norm's shift, as the program returns it. -/
theorem v180 (c : Fin 512) :
    val_main_v180 (F := Ideal) x0 x1 x2 x5 x8 (ix2 0 c) = ((A.dlb c : ℝ) : EReal) := by
  pointwise [val_main_v180, val_main_v153, v124 h]
  rfl

/-- The gradient of the layer norm's scale, as the program returns it. -/
theorem v181 (c : Fin 512) :
    val_main_v181 (F := Ideal) x0 x1 x2 x5 x8 (ix2 0 c) = ((A.dlg c : ℝ) : EReal) := by
  pointwise [val_main_v181, val_main_v154, v130 h]
  rfl

/-- The gradient of the spatial weights, unmasked. -/
theorem v118 (g : Fin 4) (s t : Fin 128) :
    val_main_v118 (F := Ideal) x0 x1 x2 x3 x4 x8 (ix3 g s t) = ((∑ q : Fin 64, ∑ j : Fin 128, (A.tile q g).dsp s j * (A.tile q g).ln t j : ℝ) : EReal) := by
  unfold val_main_v118
  refine (Cert.HostSums.dot_spatial _ _ g s t).trans ?_
  pointwise [val_main_v117, v110 h, v89 h]
  simp only [add_real, mul_real, sub_real, neg_real, sum_real, exp_real, erfc_real, bits_eps, bits_1024, bits_128, bits_half, bits_neg_half, bits_one, bits_slope, zero_real, zero_add, div_1024, div_128, div_root]
  rw [← sum_chunks (fun q => ∑ j : Fin 128, (A.tile q g).dsp s j * (A.tile q g).ln t j)]

/-- The gradient of the spatial weights. -/
theorem v210 (g : Fin 4) (s t : Fin 128) :
    val_main_v210 (F := Ideal) x0 x1 x2 x3 x4 x8 (ix3 g s t) = ((A.dws g s t : ℝ) : EReal) := by
  pointwise [val_main_v210, val_main_v179, val_main_v121, val_main_call4_v0, val_main_call4_cst, v93_1, v118 h]
  rw [causal_select, zero_real, ite_real]
  unfold Args.dws Tile.dws
  by_cases p : (t : ℕ) ≤ s
  · simp only [if_pos p]
  · simp only [if_neg p, Finset.sum_const_zero]

/-- The gradient of the projection's columns, laid side by side. -/
theorem v182 (b : Fin 2) (i : Fin 4096) (c : Fin 3592) :
    val_main_v182 (F := Ideal) x0 x1 x2 x3 x4 x5 x6 x8 x9 x10 x11 (ix3 b i c) = ((A.dproj (4096 * b + i) c : ℝ) : EReal) := by
  pointwise [val_main_v182, val_main_v4, val_main_v3, val_main_v6, val_main_v5, val_main_v8, val_main_v7, val_main_v0, v177 h, v166 h, v107 h, h.dq, h.dz, h.dl]
  simp only [Nat.mul_comm (b : ℕ) 4096, Nat.sub_sub, Args.dproj]
  split_ifs <;> first | rfl | omega

/-- The gradient of the scaled normalised row. -/
theorem v185 (b : Fin 2) (i : Fin 4096) (k : Fin 1024) :
    val_main_v185 (F := Ideal) x0 x1 x2 x3 x4 x5 x6 x8 x9 x10 x11 (ix3 b i k) = ((A.dxn (4096 * b + i) k : ℝ) : EReal) := by
  pointwise [val_main_v185, val_main_v26, v182 h, h.w]
  simp only [add_real, mul_real, sub_real, neg_real, sum_real, exp_real, erfc_real, bits_eps, bits_1024, bits_128, bits_half, bits_neg_half, bits_one, bits_slope, zero_real, zero_add, div_1024, div_128, div_root]
  rfl

/-- The gradient of the layer's input. -/
theorem v207 (b : Fin 2) (i : Fin 4096) (k : Fin 1024) :
    val_main_v207 (F := Ideal) x0 x1 x2 x3 x4 x5 x6 x7 x8 x9 x10 x11 (ix3 b i k) = ((A.dx (4096 * b + i) k : ℝ) : EReal) := by
  pointwise [val_main_v207, val_main_v205, val_main_v198, val_main_v1, val_main_v197, val_main_v191, val_main_v190, val_main_v23, val_main_v9, val_main_v196, val_main_v204, val_main_v203, val_main_v202, val_main_v201, val_main_v199, val_main_v195, val_main_v194, val_main_v193, val_main_cst_33, val_main_v20, val_main_v19, val_main_cst_2, val_main_v18, val_main_v200, val_main_cst_34, val_main_cst_35, val_main_v206, v185 h, v17 h, v16 h, h.x, h.dh, h.g]
  simp only [Fin.sum_univ_one, v16 h, v17 h]
  simp only [add_real, mul_real, sub_real, neg_real, sum_real, exp_real, erfc_real, bits_eps, bits_1024, bits_128, bits_half, bits_neg_half, bits_one, bits_slope, zero_real, zero_add, div_1024, div_128, div_root]
  rw [div_real _ _ (A.ms_pos _).ne', Nat.mul_comm (b : ℕ)]
  simp only [add_real, mul_real, sub_real, neg_real, sum_real, exp_real, erfc_real, bits_eps, bits_1024, bits_128, bits_half, bits_neg_half, bits_one, bits_slope, zero_real, zero_add, div_1024, div_128, div_root]
  exact congrArg Real.toEReal (rms_bwd (fun l => A.x (4096 * b + i) l) (fun l => A.dxn (4096 * b + i) l * A.g l) _ _ (A.ms_pos _) k)

/-- The same in one array of rows. -/
theorem v209 (r : Fin 8192) (k : Fin 1024) :
    val_main_v209 (F := Ideal) x0 x1 x2 x3 x4 x5 x6 x7 x8 x9 x10 x11 (ix2 r k) = ((A.dx r k : ℝ) : EReal) := by
  pointwise [val_main_v209, v207 h]
  rw [Nat.div_add_mod]

/-- The gradient of the norm's scale. -/
theorem v188 (k : Fin 1024) :
    val_main_v188 (F := Ideal) x0 x1 x2 x3 x4 x5 x6 x8 x9 x10 x11 (ix1 k) = ((A.dg k : ℝ) : EReal) := by
  pointwise [val_main_v188, val_main_cst_31]
  refine (Cert.HostSums.sum_r3_a01 _ _ _ k).trans ?_
  pointwise [val_main_v187, val_main_v21, val_main_v17, val_main_v16, val_main_v14, val_main_v12, val_main_v11, val_main_v10, val_main_cst, val_main_v13, val_main_cst_0, val_main_v15, val_main_cst_1, v22 h, v185 h]
  simp only [add_real, mul_real, sub_real, neg_real, sum_real, exp_real, erfc_real, bits_eps, bits_1024, bits_128, bits_half, bits_neg_half, bits_one, bits_slope, zero_real, zero_add, div_1024, div_128, div_root]
  simp only [mul_comm (A.n _ _)]
  rw [sum_seqs (fun r => A.dxn r k * A.n r k)]
  rfl

/-- The same, after a sum over axes of one element. -/
theorem v192 (k : Fin 1024) :
    val_main_v192 (F := Ideal) x0 x1 x2 x3 x4 x5 x6 x8 x9 x10 x11 (ix1 k) = ((A.dg k : ℝ) : EReal) := by
  pointwise [val_main_v192, val_main_cst_32]
  refine (Cert.HostSums.sum_r3_a01 _ _ _ k).trans ?_
  pointwise [val_main_v189, v188 h]
  simp only [add_real, mul_real, sub_real, neg_real, sum_real, exp_real, erfc_real, bits_eps, bits_1024, bits_128, bits_half, bits_neg_half, bits_one, bits_slope, zero_real, zero_add, div_1024, div_128, div_root]
  simp only [Fin.sum_univ_one]

/-- The same, as the program returns it. -/
theorem v208 (k : Fin 1024) :
    val_main_v208 (F := Ideal) x0 x1 x2 x3 x4 x5 x6 x8 x9 x10 x11 (ix2 0 k) = ((A.dg k : ℝ) : EReal) := by
  pointwise [val_main_v208, v192 h]

end Cert.RefValue
-- ==== Proof.HeadLayer.lean ====
/-
  The head of the training step on real numbers: the output projection of the two mixers, the gated embedding added to
  it, the last normalisation, the squared error, and the gradients that go back to the mixers' outputs, to the rows and
  to the two normalisations' scales. Every array is a function of natural numbers, a row being a position of the
  sequence (both sequences laid one after the other). Both programs are shown to compute these functions.
-/
module

public import proofs.«01_k».proof.Proof.Layer

@[expose] public section

noncomputable section

namespace Cert.Head

open Idealize.ShloMosaic Cert.Reals Cert.Layer

/-- What the head is given. -/
structure Args where
  /-- the first mixer's output -/
  a : ℕ → ℕ → ℝ
  /-- the second mixer's output -/
  b : ℕ → ℕ → ℝ
  /-- the layer's rows -/
  x : ℕ → ℕ → ℝ
  /-- the embedding of each row -/
  p : ℕ → ℕ → ℝ
  /-- the target -/
  y : ℕ → ℕ → ℝ
  /-- the output weights -/
  wo : ℕ → ℕ → ℝ
  /-- the gate's weights -/
  wg : ℕ → ℕ → ℝ
  /-- the embedding's weights -/
  wp : ℕ → ℕ → ℝ
  /-- the gate's normalisation scale -/
  pg : ℕ → ℝ
  /-- the last normalisation's scale -/
  fg : ℕ → ℝ

namespace Args

variable (A : Args)

/-- The two mixers' outputs side by side. -/
def mix (r c : ℕ) : ℝ := if c < 512 then A.a r c else A.b r (c - 512)

def h1 (r k : ℕ) : ℝ := A.x r k + ∑ c : Fin 1024, A.mix r c * A.wo c k
def ms1 (r : ℕ) : ℝ := (∑ k : Fin 1024, A.h1 r k * A.h1 r k) / 1024 + eps
def inv1 (r : ℕ) : ℝ := (Real.sqrt (A.ms1 r))⁻¹
def n1 (r k : ℕ) : ℝ := A.h1 r k * A.inv1 r
def rn (r k : ℕ) : ℝ := A.n1 r k * A.pg k
def gl (r e : ℕ) : ℝ := ∑ k : Fin 1024, A.rn r k * A.wg k e
def gate (r e : ℕ) : ℝ := logi (A.gl r e)
def pp (r k : ℕ) : ℝ := ∑ e : Fin 256, A.p r e * A.wp e k
def h2 (r k : ℕ) : ℝ := A.h1 r k + A.gate r k * A.pp r k
def ms2 (r : ℕ) : ℝ := (∑ k : Fin 1024, A.h2 r k * A.h2 r k) / 1024 + eps
def inv2 (r : ℕ) : ℝ := (Real.sqrt (A.ms2 r))⁻¹
def n2 (r k : ℕ) : ℝ := A.h2 r k * A.inv2 r
def err (r k : ℕ) : ℝ := A.n2 r k * A.fg k - A.y r k
/-- The squared error of a row, summed. -/
def sq (r : ℕ) : ℝ := ∑ k : Fin 1024, A.err r k * A.err r k
def dy (r k : ℕ) : ℝ := A.err r k / 1024
def dn2 (r k : ℕ) : ℝ := A.dy r k * A.fg k
def dh2 (r k : ℕ) : ℝ := A.inv2 r * (A.dn2 r k - A.n2 r k * ((∑ j : Fin 1024, A.dn2 r j * A.n2 r j) / 1024))
def dgl (r e : ℕ) : ℝ := A.dh2 r e * A.pp r e * (A.gate r e * (1 - A.gate r e))
def drn (r k : ℕ) : ℝ := ∑ e : Fin 1024, A.dgl r e * A.wg k e
def dn1 (r k : ℕ) : ℝ := A.drn r k * A.pg k
def dh1 (r k : ℕ) : ℝ := A.dh2 r k + A.inv1 r * (A.dn1 r k - A.n1 r k * ((∑ j : Fin 1024, A.dn1 r j * A.n1 r j) / 1024))
/-- The gradient of the two mixers' outputs side by side. -/
def dmix (r c : ℕ) : ℝ := ∑ k : Fin 1024, A.dh1 r k * A.wo c k
/-- A row's part of the gradient of the gate's normalisation scale. -/
def gp (r k : ℕ) : ℝ := A.drn r k * A.n1 r k
/-- A row's part of the gradient of the last normalisation's scale. -/
def gf (r k : ℕ) : ℝ := A.dy r k * A.n2 r k

theorem ms1_pos (r : ℕ) : 0 < A.ms1 r :=
  add_pos_of_nonneg_of_pos (div_nonneg (Finset.sum_nonneg fun _ _ => mul_self_nonneg _) (by norm_num)) eps_pos

theorem ms2_pos (r : ℕ) : 0 < A.ms2 r :=
  add_pos_of_nonneg_of_pos (div_nonneg (Finset.sum_nonneg fun _ _ => mul_self_nonneg _) (by norm_num)) eps_pos

/-- The sum over the two mixers' columns, mixer by mixer. -/
theorem sum_mix (r k : ℕ) :
    ∑ c : Fin 1024, A.mix r c * A.wo c k = ∑ c : Fin 512, A.a r c * A.wo c k + ∑ c : Fin 512, A.b r c * A.wo (512 + c) k := by
  simp only [Fin.sum_univ_eq_sum_range (fun i => A.mix r i * A.wo i k), Fin.sum_univ_eq_sum_range (fun i => A.a r i * A.wo i k),
    Fin.sum_univ_eq_sum_range (fun i => A.b r i * A.wo (512 + i) k)]
  rw [show (1024 : ℕ) = 512 + 512 from rfl, Finset.sum_range_add]
  refine congrArg₂ (· + ·) (Finset.sum_congr rfl fun i hi => ?_) (Finset.sum_congr rfl fun i _ => ?_)
  · unfold mix
    rw [if_pos (Finset.mem_range.1 hi)]
  · unfold mix
    rw [if_neg (by omega), Nat.add_sub_cancel_left]

end Args

theorem bits_inv1024 : Ideal.ofBits .f32 0x3A800000#32 = ((1 / 1024 : ℝ) : EReal) := by
  simp [Ideal.ofBits, Ideal.ieee, -EReal.coe_mul]; norm_num

theorem bits_2048 : Ideal.ofBits .f32 0x45000000#32 = ((2048 : ℝ) : EReal) := by
  simp [Ideal.ofBits, Ideal.ieee, -EReal.coe_mul]; norm_num

end Cert.Head
-- ==== Proof.HeadAgree.lean ====
/-
  The head's arguments, read as families of real numbers.
-/
module

public import proofs.«01_k».proof.Proof.HeadLayer
public import proofs.«01_k».proof.Proof.Agree

@[expose] public section

noncomputable section

open Idealize.ShloMosaic

namespace Cert.Head

/-- The ten arguments hold the numbers of `A`; a token's row is its sequence's number times 4096 and its place in it. -/
structure Agrees (A : Args) (x0 : FVec Ideal ⟨2, ![8192, 512]⟩ .bf16) (x1 : FVec Ideal ⟨3, ![2, 4096, 512]⟩ .bf16) (x2 : FVec Ideal ⟨3, ![2, 4096, 1024]⟩ .f32) (x3 : FVec Ideal ⟨4, ![1, 2, 4096, 256]⟩ .f32) (x4 : FVec Ideal ⟨3, ![2, 4096, 1024]⟩ .f32) (x5 : FVec Ideal ⟨3, ![1, 1024, 1024]⟩ .f32) (x6 : FVec Ideal ⟨3, ![1, 1024, 1024]⟩ .f32) (x7 : FVec Ideal ⟨3, ![1, 256, 1024]⟩ .f32) (x8 : FVec Ideal ⟨2, ![1, 1024]⟩ .f32) (x9 : FVec Ideal ⟨1, ![1024]⟩ .f32) : Prop where
  a : ∀ (r : Fin 8192) (k : Fin 512), x0 (ix2 r k) = ((A.a r k : ℝ) : EReal)
  b : ∀ (s : Fin 2) (i : Fin 4096) (k : Fin 512), x1 (ix3 s i k) = ((A.b (4096 * s + i) k : ℝ) : EReal)
  x : ∀ (s : Fin 2) (i : Fin 4096) (k : Fin 1024), x2 (ix3 s i k) = ((A.x (4096 * s + i) k : ℝ) : EReal)
  p : ∀ (s : Fin 2) (i : Fin 4096) (k : Fin 256), x3 (ix4 0 s i k) = ((A.p (4096 * s + i) k : ℝ) : EReal)
  y : ∀ (s : Fin 2) (i : Fin 4096) (k : Fin 1024), x4 (ix3 s i k) = ((A.y (4096 * s + i) k : ℝ) : EReal)
  wo : ∀ r k : Fin 1024, x5 (ix3 0 r k) = ((A.wo r k : ℝ) : EReal)
  wg : ∀ r k : Fin 1024, x6 (ix3 0 r k) = ((A.wg r k : ℝ) : EReal)
  wp : ∀ (r : Fin 256) (k : Fin 1024), x7 (ix3 0 r k) = ((A.wp r k : ℝ) : EReal)
  pg : ∀ k : Fin 1024, x8 (ix2 0 k) = ((A.pg k : ℝ) : EReal)
  fg : ∀ k : Fin 1024, x9 (ix1 k) = ((A.fg k : ℝ) : EReal)

end Cert.Head

end
-- ==== Proof.HeadFinite.lean ====
/-
  The head's precondition: every element of every argument is a real number, so the arguments are ten families of reals.
-/
module

public import proofs.«01_k».proof.Pre_head_finite
public import proofs.«01_k».proof.Proof.HeadAgree
public import proofs.«01_k».proof.Proof.Finite

@[expose] public section

set_option maxRecDepth 16384

noncomputable section

open Idealize.ShloMosaic Cert.Pre_head_finite
open Cert.Finite (real32 real16 both)

namespace Cert.Head

/-- The shapes' side conditions. -/
theorem facts : Cert.Pre_head_finite.Facts where
  bcast_S_S8192x512 := by decide
  reducesTo_S8192x512_S_d0_1 := by decide
  h_S_ := by decide
  bcast_S_S2x4096x512 := by decide
  reducesTo_S2x4096x512_S_d0_1_2 := by decide
  bcast_S_S2x4096x1024 := by decide
  reducesTo_S2x4096x1024_S_d0_1_2 := by decide
  bcast_S_S1x2x4096x256 := by decide
  reducesTo_S1x2x4096x256_S_d0_1_2_3 := by decide
  bcast_S_S1x1024x1024 := by decide
  reducesTo_S1x1024x1024_S_d0_1_2 := by decide
  bcast_S_S1x256x1024 := by decide
  reducesTo_S1x256x1024_S_d0_1_2 := by decide
  bcast_S_S1x1024 := by decide
  reducesTo_S1x1024_S_d0_1 := by decide
  bcast_S_S1024 := by decide
  reducesTo_S1024_S_d0 := by decide

/-- The arguments' numbers. -/
def numbers (x0 : FVec Ideal S8192x512 .bf16) (x1 : FVec Ideal S2x4096x512 .bf16) (x2 : FVec Ideal S2x4096x1024 .f32) (x3 : FVec Ideal S1x2x4096x256 .f32) (x4 : FVec Ideal S2x4096x1024 .f32) (x5 : FVec Ideal S1x1024x1024 .f32) (x6 : FVec Ideal S1x1024x1024 .f32) (x7 : FVec Ideal S1x256x1024 .f32) (x8 : FVec Ideal S1x1024 .f32) (x9 : FVec Ideal S1024 .f32) : Args where
  a r k := if hr : r < 8192 then if hk : k < 512 then (x0 (ix2 ⟨r, hr⟩ ⟨k, hk⟩) : EReal).toReal else 0 else 0
  b r k := if hr : r < 8192 then if hk : k < 512 then (x1 (ix3 ⟨r / 4096, by omega⟩ ⟨r % 4096, by omega⟩ ⟨k, hk⟩) : EReal).toReal else 0 else 0
  x r k := if hr : r < 8192 then if hk : k < 1024 then (x2 (ix3 ⟨r / 4096, by omega⟩ ⟨r % 4096, by omega⟩ ⟨k, hk⟩) : EReal).toReal else 0 else 0
  p r k := if hr : r < 8192 then if hk : k < 256 then (x3 (ix4 0 ⟨r / 4096, by omega⟩ ⟨r % 4096, by omega⟩ ⟨k, hk⟩) : EReal).toReal else 0 else 0
  y r k := if hr : r < 8192 then if hk : k < 1024 then (x4 (ix3 ⟨r / 4096, by omega⟩ ⟨r % 4096, by omega⟩ ⟨k, hk⟩) : EReal).toReal else 0 else 0
  wo r k := if hr : r < 1024 then if hk : k < 1024 then (x5 (ix3 0 ⟨r, hr⟩ ⟨k, hk⟩) : EReal).toReal else 0 else 0
  wg r k := if hr : r < 1024 then if hk : k < 1024 then (x6 (ix3 0 ⟨r, hr⟩ ⟨k, hk⟩) : EReal).toReal else 0 else 0
  wp r k := if hr : r < 256 then if hk : k < 1024 then (x7 (ix3 0 ⟨r, hr⟩ ⟨k, hk⟩) : EReal).toReal else 0 else 0
  pg k := if hk : k < 1024 then (x8 (ix2 0 ⟨k, hk⟩) : EReal).toReal else 0
  fg k := if hk : k < 1024 then (x9 (ix1 ⟨k, hk⟩) : EReal).toReal else 0

/-- Under the precondition the arguments hold their numbers. -/
theorem agrees [Cert.Pre_head_finite.Facts] (x0 : FVec Ideal S8192x512 .bf16) (x1 : FVec Ideal S2x4096x512 .bf16) (x2 : FVec Ideal S2x4096x1024 .f32) (x3 : FVec Ideal S1x2x4096x256 .f32) (x4 : FVec Ideal S2x4096x1024 .f32) (x5 : FVec Ideal S1x1024x1024 .f32) (x6 : FVec Ideal S1x1024x1024 .f32) (x7 : FVec Ideal S1x256x1024 .f32) (x8 : FVec Ideal S1x1024 .f32) (x9 : FVec Ideal S1024 .f32)
    (h : Cert.Pre_head_finite.fn (F := Ideal) x0 x1 x2 x3 x4 x5 x6 x7 x8 x9 = fun _ => 1#1) : Agrees (numbers x0 x1 x2 x3 x4 x5 x6 x7 x8 x9) x0 x1 x2 x3 x4 x5 x6 x7 x8 x9 := by
  have e := congrFun h (fun i : Fin 0 => i.elim0)
  dsimp only [fn, fn_part1, fn_part2] at e
  obtain ⟨e, e9⟩ := both _ _ _ e
  obtain ⟨e, e8⟩ := both _ _ _ e
  obtain ⟨e, e7⟩ := both _ _ _ e
  obtain ⟨e, e6⟩ := both _ _ _ e
  obtain ⟨e, e5⟩ := both _ _ _ e
  obtain ⟨e, e4⟩ := both _ _ _ e
  obtain ⟨e, e3⟩ := both _ _ _ e
  obtain ⟨e, e2⟩ := both _ _ _ e
  obtain ⟨e, e1⟩ := both _ _ _ e
  constructor
  · intro r k
    refine (real16 x0 _ _ _ _ _ e _).symm.trans (congrArg Real.toEReal ?_)
    show _ = dite _ _ _
    rw [dif_pos r.isLt, dif_pos k.isLt]
  · intro s i k
    refine (real16 x1 _ _ _ _ _ e1 _).symm.trans (congrArg Real.toEReal ?_)
    have hr : 4096 * (s : ℕ) + i < 8192 := by omega
    show _ = dite _ _ _
    rw [dif_pos hr, dif_pos k.isLt]
    have h1 : (⟨(4096 * (s : ℕ) + i) / 4096, by omega⟩ : Fin 2) = s := Fin.ext (by show (4096 * (s : ℕ) + i) / 4096 = s; omega)
    have h2 : (⟨(4096 * (s : ℕ) + i) % 4096, by omega⟩ : Fin 4096) = i := Fin.ext (by show (4096 * (s : ℕ) + i) % 4096 = i; omega)
    rw [h1, h2]
  · intro s i k
    refine (real32 x2 _ _ _ _ _ e2 _).symm.trans (congrArg Real.toEReal ?_)
    have hr : 4096 * (s : ℕ) + i < 8192 := by omega
    show _ = dite _ _ _
    rw [dif_pos hr, dif_pos k.isLt]
    have h1 : (⟨(4096 * (s : ℕ) + i) / 4096, by omega⟩ : Fin 2) = s := Fin.ext (by show (4096 * (s : ℕ) + i) / 4096 = s; omega)
    have h2 : (⟨(4096 * (s : ℕ) + i) % 4096, by omega⟩ : Fin 4096) = i := Fin.ext (by show (4096 * (s : ℕ) + i) % 4096 = i; omega)
    rw [h1, h2]
  · intro s i k
    refine (real32 x3 _ _ _ _ _ e3 _).symm.trans (congrArg Real.toEReal ?_)
    have hr : 4096 * (s : ℕ) + i < 8192 := by omega
    show _ = dite _ _ _
    rw [dif_pos hr, dif_pos k.isLt]
    have h1 : (⟨(4096 * (s : ℕ) + i) / 4096, by omega⟩ : Fin 2) = s := Fin.ext (by show (4096 * (s : ℕ) + i) / 4096 = s; omega)
    have h2 : (⟨(4096 * (s : ℕ) + i) % 4096, by omega⟩ : Fin 4096) = i := Fin.ext (by show (4096 * (s : ℕ) + i) % 4096 = i; omega)
    rw [h1, h2]
  · intro s i k
    refine (real32 x4 _ _ _ _ _ e4 _).symm.trans (congrArg Real.toEReal ?_)
    have hr : 4096 * (s : ℕ) + i < 8192 := by omega
    show _ = dite _ _ _
    rw [dif_pos hr, dif_pos k.isLt]
    have h1 : (⟨(4096 * (s : ℕ) + i) / 4096, by omega⟩ : Fin 2) = s := Fin.ext (by show (4096 * (s : ℕ) + i) / 4096 = s; omega)
    have h2 : (⟨(4096 * (s : ℕ) + i) % 4096, by omega⟩ : Fin 4096) = i := Fin.ext (by show (4096 * (s : ℕ) + i) % 4096 = i; omega)
    rw [h1, h2]
  · intro r k
    refine (real32 x5 _ _ _ _ _ e5 _).symm.trans (congrArg Real.toEReal ?_)
    show _ = dite _ _ _
    rw [dif_pos r.isLt, dif_pos k.isLt]
  · intro r k
    refine (real32 x6 _ _ _ _ _ e6 _).symm.trans (congrArg Real.toEReal ?_)
    show _ = dite _ _ _
    rw [dif_pos r.isLt, dif_pos k.isLt]
  · intro r k
    refine (real32 x7 _ _ _ _ _ e7 _).symm.trans (congrArg Real.toEReal ?_)
    show _ = dite _ _ _
    rw [dif_pos r.isLt, dif_pos k.isLt]
  · intro k
    refine (real32 x8 _ _ _ _ _ e8 _).symm.trans (congrArg Real.toEReal ?_)
    show _ = dite _ _ _
    rw [dif_pos k.isLt]
  · intro k
    refine (real32 x9 _ _ _ _ _ e9 _).symm.trans (congrArg Real.toEReal ?_)
    show _ = dite _ _ _
    rw [dif_pos k.isLt]

end Cert.Head

end
-- ==== Proof.HeadRows.lean ====
/-
  Half a grid point's rows of the head, element by element: what the body computes from what it loads for 256 rows.
-/
module

public import proofs.«01_k».proof.Proof.Gen.Kernel2Ideal.Skeleton
public import proofs.«01_k».proof.Proof.HeadLayer
public import proofs.«01_k».proof.Proof.RefRows

@[expose] public section

set_option maxRecDepth 16384

noncomputable section

open Idealize.ShloMosaic Idealize.ShloMosaic.TcCoe Cert.Layer Cert.Reals Cert.Kernel2Ideal Cert.Kernel2Ideal.Gen

namespace Cert.Head

/-- What the body loads for 256 rows. -/
structure Ld where
  x : FVec Ideal S256x1024 .f32
  a : FVec Ideal S256x512 .bf16
  b : FVec Ideal S256x512 .bf16
  p : FVec Ideal S256x256 .f32
  y : FVec Ideal S256x1024 .f32
  w1 : FVec Ideal S512x1024 .bf16
  w2 : FVec Ideal S512x1024 .bf16
  wg : FVec Ideal S1024x1024 .bf16
  wp : FVec Ideal S256x1024 .bf16
  pg : FVec Ideal S1x1024 .f32
  fg : FVec Ideal S1x1024 .f32

namespace Ld

variable (l : Ld)

def h1 : FVec Ideal S256x1024 .f32 := k0_pay38 l.x l.a l.w1 l.b l.w2
def r1 : FVec Ideal S256x1 .f32 := k0_pay39 l.x l.a l.w1 l.b l.w2
def n1 : FVec Ideal S256x1024 .f32 := k0_pay40 l.x l.a l.w1 l.b l.w2
def pp : FVec Ideal S256x1024 .f32 := k0_pay42 (k0_pay41 l.p) l.wp
def rn : FVec Ideal S256x1024 .bf16 := k0_pay43 l.pg l.n1
def gate : FVec Ideal S256x1024 .f32 := k0_pay49 l.rn l.wg
def h2 : FVec Ideal S256x1024 .f32 := k0_pay50 l.h1 l.pp l.rn l.wg
def r2 : FVec Ideal S256x1 .f32 := k0_pay51 l.h1 l.pp l.rn l.wg
def n2 : FVec Ideal S256x1024 .f32 := k0_pay52 l.h1 l.pp l.rn l.wg
def err : FVec Ideal S256x1024 .f32 := k0_pay53 (k0_pay37 l.fg) l.h1 l.pp l.rn l.wg l.y
def sq : FVec Ideal S1x1 .f32 := k0_pay54 (k0_pay37 l.fg) l.h1 l.pp l.rn l.wg l.y
def dy : FVec Ideal S256x1024 .f32 := k0_pay55 (k0_pay37 l.fg) l.h1 l.pp l.rn l.wg l.y
def dh2 : FVec Ideal S256x1024 .f32 := k0_pay56 (k0_pay37 l.fg) l.h1 l.pp l.rn l.wg l.y
def dfg : FVec Ideal S1x1024 .f32 := k0_pay57 l.n2 l.dy
def dgl : FVec Ideal S256x1024 .bf16 := k0_pay59 l.pp l.gate l.dh2
def drn : FVec Ideal S256x1024 .f32 := k0_pay73 l.dgl l.wg
def dn1 : FVec Ideal S256x1024 .f32 := k0_pay74 l.pg l.dgl l.wg
def pr : FVec Ideal S256x1024 .f32 := k0_pay75 l.pg l.n1 l.dgl l.wg
def dh1 : FVec Ideal S256x1024 .f32 := k0_pay76 l.r1 l.n1 l.dh2 l.dn1 l.pr
def da : FVec Ideal S256x512 .f32 := k0_pay78 l.r1 l.n1 l.dh2 l.dn1 l.pr l.w1
def db : FVec Ideal S256x512 .f32 := k0_pay79 l.r1 l.n1 l.dh2 l.dn1 l.pr l.w2
def dpg : FVec Ideal S1x1024 .f32 := k0_pay80 l.n1 l.drn

/-! The second half's values, under the names the body gives them there. -/

def h1b : FVec Ideal S256x1024 .f32 := k0_pay44 l.x l.a l.w1 l.b l.w2
def r1b : FVec Ideal S256x1 .f32 := k0_pay45 l.x l.a l.w1 l.b l.w2
def n1b : FVec Ideal S256x1024 .f32 := k0_pay46 l.x l.a l.w1 l.b l.w2
def ppb : FVec Ideal S256x1024 .f32 := k0_pay47 l.p l.wp
def rnb : FVec Ideal S256x1024 .bf16 := k0_pay48 l.pg l.x l.a l.w1 l.b l.w2
def gateb : FVec Ideal S256x1024 .f32 := k0_pay60 l.rnb l.wg
def r2b : FVec Ideal S256x1 .f32 := k0_pay62 l.h1b l.ppb l.rnb l.wg
def n2b : FVec Ideal S256x1024 .f32 := k0_pay63 l.h1b l.ppb l.rnb l.wg
def errb : FVec Ideal S256x1024 .f32 := k0_pay64 (k0_pay37 l.fg) l.h1b l.ppb l.rnb l.wg l.y
def sqb : FVec Ideal S1x1 .f32 := k0_pay65 (k0_pay37 l.fg) l.h1b l.ppb l.rnb l.wg l.y
def dyb : FVec Ideal S256x1024 .f32 := k0_pay67 l.errb k0_pay66
def dh2b : FVec Ideal S256x1024 .f32 := k0_pay68 (k0_pay37 l.fg) l.r2b l.n2b l.errb k0_pay66
def dglb : FVec Ideal S256x1024 .bf16 := k0_pay70 (k0_pay37 l.fg) l.ppb l.gateb l.r2b l.n2b l.errb k0_pay66
def drnb : FVec Ideal S256x1024 .f32 := k0_pay81 l.dglb l.wg
def rbb : FVec Ideal S256x1024 .f32 := k0_pay82 l.pg l.r1b l.n1b l.dglb l.wg
def dh1b : FVec Ideal S256x1024 .f32 := k0_pay83 l.dh2b l.rbb
def dab : FVec Ideal S256x512 .f32 := k0_pay85 l.dh2b l.rbb l.w1
def dbb : FVec Ideal S256x512 .f32 := k0_pay86 l.dh2b l.rbb l.w2
def dpgb : FVec Ideal S1x1024 .f32 := k0_pay87 l.n1b l.drnb

theorem h1b_eq : l.h1b = l.h1 := rfl
theorem r1b_eq : l.r1b = l.r1 := rfl
theorem n1b_eq : l.n1b = l.n1 := rfl
theorem ppb_eq : l.ppb = l.pp := rfl
theorem rnb_eq : l.rnb = l.rn := rfl
theorem gateb_eq : l.gateb = l.gate := by unfold gateb; rw [rnb_eq]; rfl
theorem r2b_eq : l.r2b = l.r2 := by unfold r2b; rw [h1b_eq, ppb_eq, rnb_eq]; rfl
theorem n2b_eq : l.n2b = l.n2 := by unfold n2b; rw [h1b_eq, ppb_eq, rnb_eq]; rfl
theorem errb_eq : l.errb = l.err := by unfold errb; rw [h1b_eq, ppb_eq, rnb_eq]; rfl
theorem sqb_eq : l.sqb = l.sq := by unfold sqb; rw [h1b_eq, ppb_eq, rnb_eq]; rfl
theorem dyb_eq : l.dyb = l.dy := by unfold dyb; rw [errb_eq]; rfl
theorem dh2b_eq : l.dh2b = l.dh2 := by unfold dh2b; rw [r2b_eq, n2b_eq, errb_eq]; rfl
theorem dglb_eq : l.dglb = l.dgl := by
  unfold dglb
  rw [ppb_eq, gateb_eq, r2b_eq, n2b_eq, errb_eq]
  rfl
theorem drnb_eq : l.drnb = l.drn := by unfold drnb; rw [dglb_eq]; rfl
theorem dh1b_eq : l.dh1b = l.dh1 := by
  unfold dh1b rbb
  rw [dh2b_eq, r1b_eq, n1b_eq, dglb_eq]
  rfl
theorem dab_eq : l.dab = l.da := by
  unfold dab rbb
  rw [dh2b_eq, r1b_eq, n1b_eq, dglb_eq]
  rfl
theorem dbb_eq : l.dbb = l.db := by
  unfold dbb rbb
  rw [dh2b_eq, r1b_eq, n1b_eq, dglb_eq]
  rfl
theorem dpgb_eq : l.dpgb = l.dpg := by unfold dpgb; rw [n1b_eq, drnb_eq]; rfl
theorem dfgb_eq (d u : FVec Ideal S1x1024 .f32) : k0_pay72 (F := Ideal) d l.n2b l.errb k0_pay66 u = k0_pay2 (F := Ideal) d l.dfg u := by
  rw [n2b_eq, errb_eq]
  rfl

end Ld

/-- The loads are the arguments' numbers, from row `o`. -/
structure At (A : Args) (o : ℕ) (l : Ld) : Prop where
  x : ∀ (r : Fin 256) (k : Fin 1024), l.x (ix2 r k) = ((A.x (o + r) k : ℝ) : EReal)
  a : ∀ (r : Fin 256) (k : Fin 512), l.a (ix2 r k) = ((A.a (o + r) k : ℝ) : EReal)
  b : ∀ (r : Fin 256) (k : Fin 512), l.b (ix2 r k) = ((A.b (o + r) k : ℝ) : EReal)
  p : ∀ (r : Fin 256) (k : Fin 256), l.p (ix2 r k) = ((A.p (o + r) k : ℝ) : EReal)
  y : ∀ (r : Fin 256) (k : Fin 1024), l.y (ix2 r k) = ((A.y (o + r) k : ℝ) : EReal)
  w1 : ∀ (r : Fin 512) (k : Fin 1024), l.w1 (ix2 r k) = ((A.wo r k : ℝ) : EReal)
  w2 : ∀ (r : Fin 512) (k : Fin 1024), l.w2 (ix2 r k) = ((A.wo (512 + r) k : ℝ) : EReal)
  wg : ∀ (r k : Fin 1024), l.wg (ix2 r k) = ((A.wg r k : ℝ) : EReal)
  wp : ∀ (r : Fin 256) (k : Fin 1024), l.wp (ix2 r k) = ((A.wp r k : ℝ) : EReal)
  pg : ∀ (z : Fin 1) (k : Fin 1024), l.pg (ix2 z k) = ((A.pg k : ℝ) : EReal)
  fg : ∀ (z : Fin 1) (k : Fin 1024), l.fg (ix2 z k) = ((A.fg k : ℝ) : EReal)

variable {A : Args} {o : ℕ} {l : Ld} (h : At A o l)

include h in
theorem h1_at (r : Fin 256) (k : Fin 1024) : l.h1 (ix2 r k) = ((A.h1 (o + r) k : ℝ) : EReal) := by
  unfold Ld.h1
  pointwise [k0_pay38, h.x, h.a, h.b, h.w1, h.w2]
  simp only [add_real, mul_real, sum_real, zero_real, zero_add]
  exact congrArg Real.toEReal (by unfold Args.h1; rw [Args.sum_mix]; ring)

include h in
theorem r1_at (r : Fin 256) : l.r1 (ix2 r 0) = ((A.inv1 (o + r) : ℝ) : EReal) := by
  unfold Ld.r1
  have e := h1_at h
  unfold Ld.h1 at e
  pointwise [k0_pay39, e]
  simp only [add_real, mul_real, sum_real, bits_eps, bits_1024, zero_real, zero_add, div_1024]
  exact rsqrt_real _ (A.ms1_pos _)

include h in
theorem n1_at (r : Fin 256) (k : Fin 1024) : l.n1 (ix2 r k) = ((A.n1 (o + r) k : ℝ) : EReal) := by
  unfold Ld.n1
  have e := h1_at h
  have e' := r1_at h
  unfold Ld.h1 at e
  unfold Ld.r1 at e'
  pointwise [k0_pay40, e, e']
  simp only [mul_real]
  rfl

include h in
theorem pp_at (r : Fin 256) (k : Fin 1024) : l.pp (ix2 r k) = ((A.pp (o + r) k : ℝ) : EReal) := by
  unfold Ld.pp
  pointwise [k0_pay42, k0_pay41, h.p, h.wp]
  simp only [add_real, mul_real, sum_real, zero_real, zero_add]
  rfl

include h in
theorem rn_at (r : Fin 256) (k : Fin 1024) : l.rn (ix2 r k) = ((A.rn (o + r) k : ℝ) : EReal) := by
  unfold Ld.rn
  pointwise [k0_pay43, n1_at h, h.pg]
  simp only [mul_real]
  rfl

include h in
theorem gate_at (r : Fin 256) (k : Fin 1024) : l.gate (ix2 r k) = ((A.gate (o + r) k : ℝ) : EReal) := by
  unfold Ld.gate
  pointwise [k0_pay49, rn_at h, h.wg]
  simp only [add_real, mul_real, sum_real, zero_real, zero_add, bits_half, tanh_real]
  exact congrArg Real.toEReal (logi_tanh _)

include h in
theorem h2_at (r : Fin 256) (k : Fin 1024) : l.h2 (ix2 r k) = ((A.h2 (o + r) k : ℝ) : EReal) := by
  unfold Ld.h2
  have e := gate_at h
  unfold Ld.gate at e
  pointwise [k0_pay50, h1_at h, e, pp_at h]
  simp only [add_real, mul_real]
  rfl

include h in
theorem r2_at (r : Fin 256) : l.r2 (ix2 r 0) = ((A.inv2 (o + r) : ℝ) : EReal) := by
  unfold Ld.r2
  have e := h2_at h
  unfold Ld.h2 at e
  pointwise [k0_pay51, e]
  simp only [add_real, mul_real, sum_real, bits_eps, bits_1024, zero_real, zero_add, div_1024]
  exact rsqrt_real _ (A.ms2_pos _)

include h in
theorem n2_at (r : Fin 256) (k : Fin 1024) : l.n2 (ix2 r k) = ((A.n2 (o + r) k : ℝ) : EReal) := by
  unfold Ld.n2
  have e := h2_at h
  have e' := r2_at h
  unfold Ld.h2 at e
  unfold Ld.r2 at e'
  pointwise [k0_pay52, e, e']
  simp only [mul_real]
  rfl

include h in
theorem err_at (r : Fin 256) (k : Fin 1024) : l.err (ix2 r k) = ((A.err (o + r) k : ℝ) : EReal) := by
  unfold Ld.err
  have e := n2_at h
  unfold Ld.n2 at e
  pointwise [k0_pay53, k0_pay37, e, h.fg, h.y]
  simp only [mul_real, sub_real]
  rfl

include h in
theorem sq_at : l.sq (ix2 0 0) = ((∑ r : Fin 256, A.sq (o + r) : ℝ) : EReal) := by
  unfold Ld.sq
  have e := err_at h
  unfold Ld.err at e
  pointwise [k0_pay54, e]
  simp only [add_real, mul_real, sum_real, zero_real, zero_add]
  rfl

include h in
theorem dy_at (r : Fin 256) (k : Fin 1024) : l.dy (ix2 r k) = ((A.dy (o + r) k : ℝ) : EReal) := by
  unfold Ld.dy
  have e := err_at h
  unfold Ld.err at e
  pointwise [k0_pay55, e]
  simp only [mul_real, bits_inv1024]
  exact congrArg Real.toEReal (by unfold Args.dy; ring)

include h in
theorem dh2_at (r : Fin 256) (k : Fin 1024) : l.dh2 (ix2 r k) = ((A.dh2 (o + r) k : ℝ) : EReal) := by
  unfold Ld.dh2
  have e := dy_at h
  have e1 := n2_at h
  have e2 := r2_at h
  unfold Ld.dy at e
  unfold Ld.n2 at e1
  unfold Ld.r2 at e2
  have ef : ∀ (z : Fin 1) (k : Fin 1024), k0_pay37 (F := Ideal) l.fg (ix2 z k) = ((A.fg k : ℝ) : EReal) := fun z k => by
    pointwise [k0_pay37, h.fg]
  generalize k0_pay37 (F := Ideal) l.fg = f at e ef ⊢
  pointwise [k0_pay56, e, e1, e2, ef]
  simp only [add_real, sub_real, mul_real, sum_real, bits_1024, zero_real, zero_add, div_1024]
  rfl

include h in
theorem dfg_at (k : Fin 1024) : l.dfg (ix2 0 k) = ((∑ r : Fin 256, A.gf (o + r) k : ℝ) : EReal) := by
  unfold Ld.dfg
  pointwise [k0_pay57, dy_at h, n2_at h]
  simp only [mul_real, sum_real, zero_real, zero_add, add_real]
  rfl

include h in
theorem dgl_at (r : Fin 256) (k : Fin 1024) : l.dgl (ix2 r k) = ((A.dgl (o + r) k : ℝ) : EReal) := by
  unfold Ld.dgl
  pointwise [k0_pay59, pp_at h, gate_at h, dh2_at h]
  simp only [mul_real, sub_real, bits_one]
  exact congrArg Real.toEReal (by unfold Args.dgl; ring)

include h in
theorem drn_at (r : Fin 256) (k : Fin 1024) : l.drn (ix2 r k) = ((A.drn (o + r) k : ℝ) : EReal) := by
  unfold Ld.drn
  pointwise [k0_pay73, dgl_at h, h.wg]
  simp only [add_real, mul_real, sum_real, zero_real, zero_add]
  rfl

include h in
theorem dn1_at (r : Fin 256) (k : Fin 1024) : l.dn1 (ix2 r k) = ((A.dn1 (o + r) k : ℝ) : EReal) := by
  unfold Ld.dn1
  have e := drn_at h
  unfold Ld.drn at e
  pointwise [k0_pay74, e, h.pg]
  simp only [mul_real]
  rfl

include h in
theorem pr_at (r : Fin 256) (k : Fin 1024) : l.pr (ix2 r k) = ((A.dn1 (o + r) k * A.n1 (o + r) k : ℝ) : EReal) := by
  unfold Ld.pr
  have e := dn1_at h
  unfold Ld.dn1 at e
  pointwise [k0_pay75, e, n1_at h]
  simp only [mul_real]

include h in
theorem dh1_at (r : Fin 256) (k : Fin 1024) : l.dh1 (ix2 r k) = ((A.dh1 (o + r) k : ℝ) : EReal) := by
  unfold Ld.dh1
  pointwise [k0_pay76, dn1_at h, n1_at h, r1_at h, dh2_at h, pr_at h]
  simp only [add_real, sub_real, mul_real, sum_real, bits_1024, zero_real, zero_add, div_1024]
  rfl

include h in
theorem da_at (r : Fin 256) (c : Fin 512) : l.da (ix2 r c) = ((A.dmix (o + r) c : ℝ) : EReal) := by
  unfold Ld.da
  have e := dh1_at h
  unfold Ld.dh1 at e
  pointwise [k0_pay78, k0_pay77, e, h.w1]
  simp only [add_real, mul_real, sum_real, zero_real, zero_add]
  rfl

include h in
theorem db_at (r : Fin 256) (c : Fin 512) : l.db (ix2 r c) = ((A.dmix (o + r) (512 + c) : ℝ) : EReal) := by
  unfold Ld.db
  have e := dh1_at h
  unfold Ld.dh1 at e
  pointwise [k0_pay79, k0_pay77, e, h.w2]
  simp only [add_real, mul_real, sum_real, zero_real, zero_add]
  rfl

include h in
theorem dpg_at (k : Fin 1024) : l.dpg (ix2 0 k) = ((∑ r : Fin 256, A.gp (o + r) k : ℝ) : EReal) := by
  unfold Ld.dpg
  pointwise [k0_pay80, drn_at h, n1_at h]
  simp only [mul_real, sum_real, zero_real, zero_add, add_real]
  rfl

variable {l' : Ld} (h' : At A (o + 256) l')

/-- Two runs of 256 rows are one of 512. -/
theorem sum_halves (f : ℕ → ℝ) : ∑ r : Fin 256, f (o + r) + ∑ r : Fin 256, f (o + 256 + r) = ∑ r : Fin 512, f (o + r) := by
  simp only [Fin.sum_univ_eq_sum_range (fun i => f (o + i)), Fin.sum_univ_eq_sum_range (fun i => f (o + 256 + i))]
  rw [show (512 : ℕ) = 256 + 256 from rfl, Finset.sum_range_add]
  simp only [add_assoc]

include h h' in
theorem dpg_add (u : Vec Ideal S1x1024 .f32) (s : ℕ → ℝ) (hu : ∀ k : Fin 1024, u (ix2 0 k) = ((s k : ℝ) : EReal)) (k : Fin 1024) :
    k0_pay2 (F := Ideal) l.dpg l'.dpg u (ix2 0 k) = ((s k + ∑ r : Fin 512, A.gp (o + r) k : ℝ) : EReal) := by
  pointwise [k0_pay2, dpg_at h, dpg_at h', hu]
  simp only [add_real]
  rw [sum_halves fun r => A.gp r k]

include h h' in
theorem dfg_add (u : Vec Ideal S1x1024 .f32) (s : ℕ → ℝ) (hu : ∀ k : Fin 1024, u (ix2 0 k) = ((s k : ℝ) : EReal)) (k : Fin 1024) :
    k0_pay2 (F := Ideal) l.dfg l'.dfg u (ix2 0 k) = ((s k + ∑ r : Fin 512, A.gf (o + r) k : ℝ) : EReal) := by
  pointwise [k0_pay2, dfg_at h, dfg_at h', hu]
  simp only [add_real]
  rw [sum_halves fun r => A.gf r k]

include h h' in
theorem sq_add (u : Vec Ideal S8x128 .f32) (s : ℝ) (hu : ∀ (i : Fin 8) (j : Fin 128), u (ix2 i j) = ((s : ℝ) : EReal)) (i : Fin 8) (j : Fin 128) :
    k0_pay71 (F := Ideal) l.sq l'.sq u (ix2 i j) = ((s + ∑ r : Fin 512, A.sq (o + r) : ℝ) : EReal) := by
  pointwise [k0_pay71, sq_at h, sq_at h', hu]
  simp only [add_real]
  rw [sum_halves A.sq]

end Cert.Head
-- ==== Proof.HeadPoint.lean ====
/-
  One grid point of the head: the two halves of its rows as the body loads them, and what it leaves in each output.
-/
module

public import proofs.«01_k».proof.Proof.Gen.Kernel2Ideal.Frame
public import proofs.«01_k».proof.Proof.HeadRows
public import proofs.«01_k».proof.Proof.KernelRead
public import proofs.«01_k».proof.Proof.KernelSums

@[expose] public section

set_option maxRecDepth 16384

noncomputable section

open Idealize.ShloMosaic Idealize.ShloMosaic.TcCoe Cert.Layer Cert.Reals Cert.Kernel2Ideal Cert.Kernel2Ideal.Gen

namespace Cert.Head

variable (arg1 : Memref sig .tc .vmem S512x512 .bf16) (harg1 : arg1.IsWhole) (arg2 : Memref sig .tc .vmem S512x512 .bf16) (harg2 : arg2.IsWhole)
  (arg3 : Memref sig .tc .vmem S512x1024 .f32) (harg3 : arg3.IsWhole) (arg4 : Memref sig .tc .vmem S512x256 .f32) (harg4 : arg4.IsWhole)
  (arg5 : Memref sig .tc .vmem S512x1024 .f32) (harg5 : arg5.IsWhole) (arg6 : Memref sig .tc .vmem S1024x1024 .bf16) (harg6 : arg6.IsWhole)
  (arg7 : Memref sig .tc .vmem S1024x1024 .bf16) (harg7 : arg7.IsWhole) (arg8 : Memref sig .tc .vmem S256x1024 .bf16) (harg8 : arg8.IsWhole)
  (arg9 : Memref sig .tc .vmem S1x1024 .f32) (harg9 : arg9.IsWhole) (arg10 : Memref sig .tc .vmem S1x1024 .f32) (harg10 : arg10.IsWhole)
  (x0 x1 : Vec Ideal S512x512 .bf16) (x2 : Vec Ideal S512x1024 .f32) (x3 : Vec Ideal S512x256 .f32) (x4 : Vec Ideal S512x1024 .f32)
  (x5 x6 : Vec Ideal S1024x1024 .bf16) (x7 : Vec Ideal S256x1024 .bf16) (x8 x9 : Vec Ideal S1x1024 .f32)

/-- The loads of the first 256 rows. -/
def ld0 : Ld where
  x := View.readAt (Elt Ideal) arg3.view (Rect.unit (s := S512x1024) ![0, 0] S256x1024.size inb_S512x1024_S256x1024_0_0).toLoadRect (harg3.unread x2)
  a := View.readAt (Elt Ideal) arg1.view (Rect.unit (s := S512x512) ![0, 0] S256x512.size inb_S512x512_S256x512_0_0).toLoadRect (harg1.unread x0)
  b := View.readAt (Elt Ideal) arg2.view (Rect.unit (s := S512x512) ![0, 0] S256x512.size inb_S512x512_S256x512_0_0).toLoadRect (harg2.unread x1)
  p := View.readAt (Elt Ideal) arg4.view (Rect.unit (s := S512x256) ![0, 0] S256x256.size inb_S512x256_S256x256_0_0).toLoadRect (harg4.unread x3)
  y := View.readAt (Elt Ideal) arg5.view (Rect.unit (s := S512x1024) ![0, 0] S256x1024.size inb_S512x1024_S256x1024_0_0).toLoadRect (harg5.unread x4)
  w1 := View.readAt (Elt Ideal) arg6.view (Rect.unit (s := S1024x1024) ![0, 0] S512x1024.size inb_S1024x1024_S512x1024_0_0).toLoadRect (harg6.unread x5)
  w2 := View.readAt (Elt Ideal) arg6.view (Rect.unit (s := S1024x1024) ![512, 0] S512x1024.size inb_S1024x1024_S512x1024_512_0).toLoadRect (harg6.unread x5)
  wg := View.readAt (Elt Ideal) arg7.view (Rect.unit (s := S1024x1024) ![0, 0] S1024x1024.size inb_S1024x1024_S1024x1024_0_0).toLoadRect (harg7.unread x6)
  wp := View.readAt (Elt Ideal) arg8.view (Rect.unit (s := S256x1024) ![0, 0] S256x1024.size inb_S256x1024_S256x1024_0_0).toLoadRect (harg8.unread x7)
  pg := View.readAt (Elt Ideal) arg9.view (Rect.unit (s := S1x1024) ![0, 0] S1x1024.size inb_S1x1024_S1x1024_0_0).toLoadRect (harg9.unread x8)
  fg := View.readAt (Elt Ideal) arg10.view (Rect.unit (s := S1x1024) ![0, 0] S1x1024.size inb_S1x1024_S1x1024_0_0).toLoadRect (harg10.unread x9)

/-- The loads of the last 256 rows. -/
def ld1 : Ld where
  x := View.readAt (Elt Ideal) arg3.view (Rect.unit (s := S512x1024) ![256, 0] S256x1024.size inb_S512x1024_S256x1024_256_0).toLoadRect (harg3.unread x2)
  a := View.readAt (Elt Ideal) arg1.view (Rect.unit (s := S512x512) ![256, 0] S256x512.size inb_S512x512_S256x512_256_0).toLoadRect (harg1.unread x0)
  b := View.readAt (Elt Ideal) arg2.view (Rect.unit (s := S512x512) ![256, 0] S256x512.size inb_S512x512_S256x512_256_0).toLoadRect (harg2.unread x1)
  p := View.readAt (Elt Ideal) arg4.view (Rect.unit (s := S512x256) ![256, 0] S256x256.size inb_S512x256_S256x256_256_0).toLoadRect (harg4.unread x3)
  y := View.readAt (Elt Ideal) arg5.view (Rect.unit (s := S512x1024) ![256, 0] S256x1024.size inb_S512x1024_S256x1024_256_0).toLoadRect (harg5.unread x4)
  w1 := View.readAt (Elt Ideal) arg6.view (Rect.unit (s := S1024x1024) ![0, 0] S512x1024.size inb_S1024x1024_S512x1024_0_0).toLoadRect (harg6.unread x5)
  w2 := View.readAt (Elt Ideal) arg6.view (Rect.unit (s := S1024x1024) ![512, 0] S512x1024.size inb_S1024x1024_S512x1024_512_0).toLoadRect (harg6.unread x5)
  wg := View.readAt (Elt Ideal) arg7.view (Rect.unit (s := S1024x1024) ![0, 0] S1024x1024.size inb_S1024x1024_S1024x1024_0_0).toLoadRect (harg7.unread x6)
  wp := View.readAt (Elt Ideal) arg8.view (Rect.unit (s := S256x1024) ![0, 0] S256x1024.size inb_S256x1024_S256x1024_0_0).toLoadRect (harg8.unread x7)
  pg := View.readAt (Elt Ideal) arg9.view (Rect.unit (s := S1x1024) ![0, 0] S1x1024.size inb_S1x1024_S1x1024_0_0).toLoadRect (harg9.unread x8)
  fg := View.readAt (Elt Ideal) arg10.view (Rect.unit (s := S1x1024) ![0, 0] S1x1024.size inb_S1x1024_S1x1024_0_0).toLoadRect (harg10.unread x9)

/-- The blocks of grid point `t` hold the arguments' numbers. -/
structure Holds (A : Args) (t : ℕ) (x0 x1 : FVec Ideal S512x512 .bf16) (x2 : FVec Ideal S512x1024 .f32) (x3 : FVec Ideal S512x256 .f32)
    (x4 : FVec Ideal S512x1024 .f32) (x5 x6 : FVec Ideal S1024x1024 .bf16) (x7 : FVec Ideal S256x1024 .bf16) (x8 x9 : FVec Ideal S1x1024 .f32) : Prop where
  a : ∀ (r k : Fin 512), x0 (ix2 r k) = ((A.a (512 * t + r) k : ℝ) : EReal)
  b : ∀ (r k : Fin 512), x1 (ix2 r k) = ((A.b (512 * t + r) k : ℝ) : EReal)
  x : ∀ (r : Fin 512) (k : Fin 1024), x2 (ix2 r k) = ((A.x (512 * t + r) k : ℝ) : EReal)
  p : ∀ (r : Fin 512) (k : Fin 256), x3 (ix2 r k) = ((A.p (512 * t + r) k : ℝ) : EReal)
  y : ∀ (r : Fin 512) (k : Fin 1024), x4 (ix2 r k) = ((A.y (512 * t + r) k : ℝ) : EReal)
  wo : ∀ (r k : Fin 1024), x5 (ix2 r k) = ((A.wo r k : ℝ) : EReal)
  wg : ∀ (r k : Fin 1024), x6 (ix2 r k) = ((A.wg r k : ℝ) : EReal)
  wp : ∀ (r : Fin 256) (k : Fin 1024), x7 (ix2 r k) = ((A.wp r k : ℝ) : EReal)
  pg : ∀ (z : Fin 1) (k : Fin 1024), x8 (ix2 z k) = ((A.pg k : ℝ) : EReal)
  fg : ∀ (z : Fin 1) (k : Fin 1024), x9 (ix2 z k) = ((A.fg k : ℝ) : EReal)

variable {arg1 harg1 arg2 harg2 arg3 harg3 arg4 harg4 arg5 harg5 arg6 harg6 arg7 harg7 arg8 harg8 arg9 harg9 arg10 harg10}
  {x0 x1 x2 x3 x4 x5 x6 x7 x8 x9} {A : Args} {t : ℕ} (h : Holds A t x0 x1 x2 x3 x4 x5 x6 x7 x8 x9)

theorem load_at {S : Shape} {e : EltTy} {sp : Space} (w : Memref sig .tc sp S e) (hw : w.IsWhole) (x : S.Idx → Elt Ideal e) (R : Rect S)
    (j : R.shape.Idx) : View.readAt (Elt Ideal) w.view R.toLoadRect (hw.unread x) j = x (R.idx j) := by
  show View.read (Elt Ideal) w.view (hw.unread x) (R.idx j) = _
  rw [hw.read_unread]

open Cert.KPoint (rect2)

include h in
theorem ld0_at : At A (512 * t) (ld0 arg1 harg1 arg2 harg2 arg3 harg3 arg4 harg4 arg5 harg5 arg6 harg6 arg7 harg7 arg8 harg8 arg9 harg9 arg10 harg10 x0 x1 x2 x3 x4 x5 x6 x7 x8 x9) := by
  unfold ld0
  constructor
  · intro r k; dsimp only; rw [load_at, rect2]; refine (h.x _ _).trans ?_; simp
  · intro r k; dsimp only; rw [load_at, rect2]; refine (h.a _ _).trans ?_; simp
  · intro r k; dsimp only; rw [load_at, rect2]; refine (h.b _ _).trans ?_; simp
  · intro r k; dsimp only; rw [load_at, rect2]; refine (h.p _ _).trans ?_; simp
  · intro r k; dsimp only; rw [load_at, rect2]; refine (h.y _ _).trans ?_; simp
  · intro r k; dsimp only; rw [load_at, rect2]; refine (h.wo _ _).trans ?_; simp
  · intro r k; dsimp only; rw [load_at, rect2]; refine (h.wo _ _).trans ?_; simp
  · intro r k; dsimp only; rw [load_at, rect2]; refine (h.wg _ _).trans ?_; simp
  · intro r k; dsimp only; rw [load_at, rect2]; refine (h.wp _ _).trans ?_; simp
  · intro r k; dsimp only; rw [load_at, rect2]; refine (h.pg _ _).trans ?_; simp
  · intro r k; dsimp only; rw [load_at, rect2]; refine (h.fg _ _).trans ?_; simp

include h in
theorem ld1_at : At A (512 * t + 256) (ld1 arg1 harg1 arg2 harg2 arg3 harg3 arg4 harg4 arg5 harg5 arg6 harg6 arg7 harg7 arg8 harg8 arg9 harg9 arg10 harg10 x0 x1 x2 x3 x4 x5 x6 x7 x8 x9) := by
  unfold ld1
  constructor
  · intro r k; dsimp only; rw [load_at, rect2]; refine (h.x _ _).trans ?_; simp [add_assoc]
  · intro r k; dsimp only; rw [load_at, rect2]; refine (h.a _ _).trans ?_; simp [add_assoc]
  · intro r k; dsimp only; rw [load_at, rect2]; refine (h.b _ _).trans ?_; simp [add_assoc]
  · intro r k; dsimp only; rw [load_at, rect2]; refine (h.p _ _).trans ?_; simp [add_assoc]
  · intro r k; dsimp only; rw [load_at, rect2]; refine (h.y _ _).trans ?_; simp [add_assoc]
  · intro r k; dsimp only; rw [load_at, rect2]; refine (h.wo _ _).trans ?_; simp
  · intro r k; dsimp only; rw [load_at, rect2]; refine (h.wo _ _).trans ?_; simp
  · intro r k; dsimp only; rw [load_at, rect2]; refine (h.wg _ _).trans ?_; simp
  · intro r k; dsimp only; rw [load_at, rect2]; refine (h.wp _ _).trans ?_; simp
  · intro r k; dsimp only; rw [load_at, rect2]; refine (h.pg _ _).trans ?_; simp
  · intro r k; dsimp only; rw [load_at, rect2]; refine (h.fg _ _).trans ?_; simp

theorem rows_disj : LoadRect.disj (Rect.unit (s := S512x1024) ![256, 0] S256x1024.size inb_S512x1024_S256x1024_256_0)
    (Rect.unit (s := S512x1024) ![0, 0] S256x1024.size inb_S512x1024_S256x1024_0_0).toLoadRect = true := by decide

theorem cols_disj : LoadRect.disj (Rect.unit (s := S512x512) ![256, 0] S256x512.size inb_S512x512_S256x512_256_0)
    (Rect.unit (s := S512x512) ![0, 0] S256x512.size inb_S512x512_S256x512_0_0).toLoadRect = true := by decide

/-- Two stores of 256 rows leave 512. -/
theorem two_canon {n : ℕ} (w : Memref sig .tc .vmem ⟨2, ![512, n]⟩ .f32)
    (i0 : ∀ d, (![0, 0] : Fin 2 → ℕ) d + (![256, n] : Fin 2 → ℕ) d ≤ (![512, n] : Fin 2 → ℕ) d)
    (i1 : ∀ d, (![256, 0] : Fin 2 → ℕ) d + (![256, n] : Fin 2 → ℕ) d ≤ (![512, n] : Fin 2 → ℕ) d)
    (hd : LoadRect.disj (Rect.unit (s := ⟨2, ![512, n]⟩) ![256, 0] ![256, n] i1) (Rect.unit (s := ⟨2, ![512, n]⟩) ![0, 0] ![256, n] i0).toLoadRect = true)
    (u v : FVec Ideal ⟨2, ![256, n]⟩ .f32) (f : ℕ → ℕ → ℝ)
    (hu : ∀ (r : Fin 256) (k : Fin n), u (ix2 r k) = ((f r k : ℝ) : EReal))
    (hv : ∀ (r : Fin 256) (k : Fin n), v (ix2 r k) = ((f (256 + r) k : ℝ) : EReal)) (r : Fin 512) (k : Fin n) :
    View.canon ([⟨Rect.unit (s := ⟨2, ![512, n]⟩) ![256, 0] ![256, n] i1, v⟩, ⟨Rect.unit (s := ⟨2, ![512, n]⟩) ![0, 0] ![256, n] i0, u⟩] :
      List (View.Piece (Elt Ideal) ⟨2, ![512, n]⟩ .f32)) (ix2 r k) = ((f r k : ℝ) : EReal) := by
  by_cases hr : (r : ℕ) < 256
  · have e := View.readCov_skip w.view (Rect.unit (s := ⟨2, ![512, n]⟩) ![256, 0] ![256, n] i1) v
      ([⟨Rect.unit (s := ⟨2, ![512, n]⟩) ![0, 0] ![256, n] i0, u⟩] : List (View.Piece (Elt Ideal) ⟨2, ![512, n]⟩ .f32))
      (Rect.unit (s := ⟨2, ![512, n]⟩) ![0, 0] ![256, n] i0).toLoadRect hd
    rw [View.readCov_eq_canon', View.readCov_eq_canon'] at e
    have e' := congrFun e (ix2 (⟨r, hr⟩ : Fin 256) k)
    have i : (Rect.unit (s := ⟨2, ![512, n]⟩) ![0, 0] ![256, n] i0).idx (ix2 (⟨r, hr⟩ : Fin 256) k) = ix2 r k :=
      (rect2 i0 (⟨r, hr⟩ : Fin 256) k).trans (congrArg₂ ix2 (Fin.ext (Nat.zero_add _)) (Fin.ext (Nat.zero_add _)))
    have e2 := View.canon_cons_emb (Rect.unit (s := ⟨2, ![512, n]⟩) ![0, 0] ![256, n] i0) u
      ([] : List (View.Piece (Elt Ideal) ⟨2, ![512, n]⟩ .f32)) (ix2 (⟨r, hr⟩ : Fin 256) k)
    rw [← i]
    exact (e'.trans e2).trans (hu _ _)
  · have hr' : (r : ℕ) - 256 < 256 := by omega
    have i : (Rect.unit (s := ⟨2, ![512, n]⟩) ![256, 0] ![256, n] i1).idx (ix2 (⟨r - 256, hr'⟩ : Fin 256) k) = ix2 r k :=
      (rect2 i1 (⟨r - 256, hr'⟩ : Fin 256) k).trans
        (congrArg₂ ix2 (Fin.ext (by show 256 + ((r : ℕ) - 256) = r; omega)) (Fin.ext (Nat.zero_add _)))
    have e2 := View.canon_cons_emb (Rect.unit (s := ⟨2, ![512, n]⟩) ![256, 0] ![256, n] i1) v
      ([⟨Rect.unit (s := ⟨2, ![512, n]⟩) ![0, 0] ![256, n] i0, u⟩] : List (View.Piece (Elt Ideal) ⟨2, ![512, n]⟩ .f32)) (ix2 (⟨r - 256, hr'⟩ : Fin 256) k)
    rw [← i]
    refine (e2.trans (hv _ _)).trans (congrArg Real.toEReal (congrArg (fun q => f q k) ?_))
    show 256 + ((r : ℕ) - 256) = r
    omega

theorem rows_canon (w : Memref sig .tc .vmem S512x1024 .f32) (u v : FVec Ideal S256x1024 .f32) (f : ℕ → ℕ → ℝ)
    (hu : ∀ (r : Fin 256) (k : Fin 1024), u (ix2 r k) = ((f r k : ℝ) : EReal))
    (hv : ∀ (r : Fin 256) (k : Fin 1024), v (ix2 r k) = ((f (256 + r) k : ℝ) : EReal)) (r : Fin 512) (k : Fin 1024) :
    View.canon ([⟨Rect.unit (s := S512x1024) ![256, 0] S256x1024.size inb_S512x1024_S256x1024_256_0, v⟩,
      ⟨Rect.unit (s := S512x1024) ![0, 0] S256x1024.size inb_S512x1024_S256x1024_0_0, u⟩] : List (View.Piece (Elt Ideal) S512x1024 .f32)) (ix2 r k)
      = ((f r k : ℝ) : EReal) :=
  two_canon w inb_S512x1024_S256x1024_0_0 inb_S512x1024_S256x1024_256_0 rows_disj u v f hu hv r k

theorem cols_canon (w : Memref sig .tc .vmem S512x512 .f32) (u v : FVec Ideal S256x512 .f32) (f : ℕ → ℕ → ℝ)
    (hu : ∀ (r : Fin 256) (k : Fin 512), u (ix2 r k) = ((f r k : ℝ) : EReal))
    (hv : ∀ (r : Fin 256) (k : Fin 512), v (ix2 r k) = ((f (256 + r) k : ℝ) : EReal)) (r k : Fin 512) :
    View.canon ([⟨Rect.unit (s := S512x512) ![256, 0] S256x512.size inb_S512x512_S256x512_256_0, v⟩,
      ⟨Rect.unit (s := S512x512) ![0, 0] S256x512.size inb_S512x512_S256x512_0_0, u⟩] : List (View.Piece (Elt Ideal) S512x512 .f32)) (ix2 r k)
      = ((f r k : ℝ) : EReal) :=
  two_canon w inb_S512x512_S256x512_0_0 inb_S512x512_S256x512_256_0 cols_disj u v f hu hv r k

end Cert.Head
-- ==== Proof.HeadHost.lean ====
/-
  The head's operands as the host prepares them, in the arguments' numbers.
-/
module

public import proofs.«01_k».proof.Proof.HeadPoint
public import proofs.«01_k».proof.Proof.HeadAgree
public import proofs.«01_k».proof.Proof.RefRows
public import Idealize.ShloMosaic.Lib.Pipeline.ValueKit

@[expose] public section

set_option maxRecDepth 16384

noncomputable section

open Idealize.ShloMosaic Idealize.ShloMosaic.TcCoe Cert.Layer Cert.Reals Cert.Kernel2Ideal Cert.Kernel2Ideal.Gen
open Idealize.ShloMosaic.Pipeline (Dat)

namespace Cert.Head.Host

open Cert.Head

variable {A : Args} {m : (ℓ : Loc nD τ sig) → Buf (Elt Ideal) ℓ} {c : Dev nD}
  (h : Agrees A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))

theorem seq_row (r : Fin 8192) : 4096 * (((⟨r / 4096, by omega⟩ : Fin 2)) : ℕ) + ((⟨r % 4096, by omega⟩ : Fin 4096) : ℕ) = r :=
  Nat.div_add_mod _ _

/-- The input windows' blocks. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

include h

/-- The second mixer's output as rows. -/
theorem rows_b (r : Fin 8192) (k : Fin 512) : (V m c main_v0 : FVec Ideal S8192x512 .bf16) (ix2 r k) = ((A.b r k : ℝ) : EReal) := by
  simp only [V, hostOps0]
  entry_read
  refine Eq.trans ?_ ((h.b ⟨r / 4096, by omega⟩ ⟨r % 4096, by omega⟩ k).trans ?_)
  · pointwise []
  · rw [seq_row]

/-- The residual as rows. -/
theorem rows_x (r : Fin 8192) (k : Fin 1024) : (V m c main_v1 : FVec Ideal S8192x1024 .f32) (ix2 r k) = ((A.x r k : ℝ) : EReal) := by
  simp only [V, hostOps0]
  entry_read
  refine Eq.trans ?_ ((h.x ⟨r / 4096, by omega⟩ ⟨r % 4096, by omega⟩ k).trans ?_)
  · pointwise []
  · rw [seq_row]

/-- The embeddings as rows. -/
theorem rows_p (r : Fin 8192) (k : Fin 256) : (V m c main_v2 : FVec Ideal S8192x256 .f32) (ix2 r k) = ((A.p r k : ℝ) : EReal) := by
  simp only [V, hostOps0]
  entry_read
  refine Eq.trans ?_ ((h.p ⟨r / 4096, by omega⟩ ⟨r % 4096, by omega⟩ k).trans ?_)
  · pointwise []
  · rw [seq_row]

/-- The targets as rows. -/
theorem rows_y (r : Fin 8192) (k : Fin 1024) : (V m c main_v3 : FVec Ideal S8192x1024 .f32) (ix2 r k) = ((A.y r k : ℝ) : EReal) := by
  simp only [V, hostOps0]
  entry_read
  refine Eq.trans ?_ ((h.y ⟨r / 4096, by omega⟩ ⟨r % 4096, by omega⟩ k).trans ?_)
  · pointwise []
  · rw [seq_row]

/-- The output projection. -/
theorem weight_wo (r : Fin 1024) (k : Fin 1024) : (V m c main_v5 : FVec Ideal S1024x1024 .bf16) (ix2 r k) = ((A.wo r k : ℝ) : EReal) := by
  simp only [V, hostOps0]
  entry_read
  refine Eq.trans ?_ (h.wo r k)
  pointwise []

/-- The gate projection. -/
theorem weight_wg (r : Fin 1024) (k : Fin 1024) : (V m c main_v7 : FVec Ideal S1024x1024 .bf16) (ix2 r k) = ((A.wg r k : ℝ) : EReal) := by
  simp only [V, hostOps0]
  entry_read
  refine Eq.trans ?_ (h.wg r k)
  pointwise []

/-- The embedding projection. -/
theorem weight_wp (r : Fin 256) (k : Fin 1024) : (V m c main_v9 : FVec Ideal S256x1024 .bf16) (ix2 r k) = ((A.wp r k : ℝ) : EReal) := by
  simp only [V, hostOps0]
  entry_read
  refine Eq.trans ?_ (h.wp r k)
  pointwise []

/-- The final gain as a row. -/
theorem gain_fg (z : Fin 1) (k : Fin 1024) : (V m c main_v10 : FVec Ideal S1x1024 .f32) (ix2 z k) = ((A.fg k : ℝ) : EReal) := by
  simp only [V, hostOps0]
  entry_read
  refine Eq.trans ?_ (h.fg k)
  pointwise []

theorem holds_a (t : Fin cfg0.N) (r : Fin 512) (k : Fin 512) : (iblk m c 0 t : FVec Ideal S512x512 .bf16) (ix2 r k) = ((A.a (512 * t + r) k : ℝ) : EReal) := by
  have hN : grid0.N = 16 := N_0
  have ht : t.val < grid0.N := t.isLt
  refine Eq.trans ?_ (h.a ⟨512 * t.val + r, by omega⟩ k)
  blk_ext [iblk, idx t]

theorem holds_b (t : Fin cfg0.N) (r : Fin 512) (k : Fin 512) : (iblk m c 1 t : FVec Ideal S512x512 .bf16) (ix2 r k) = ((A.b (512 * t + r) k : ℝ) : EReal) := by
  have hN : grid0.N = 16 := N_0
  have ht : t.val < grid0.N := t.isLt
  refine Eq.trans ?_ (rows_b h ⟨512 * t.val + r, by omega⟩ k)
  blk_ext [iblk, idx t]

theorem holds_x (t : Fin cfg0.N) (r : Fin 512) (k : Fin 1024) : (iblk m c 2 t : FVec Ideal S512x1024 .f32) (ix2 r k) = ((A.x (512 * t + r) k : ℝ) : EReal) := by
  have hN : grid0.N = 16 := N_0
  have ht : t.val < grid0.N := t.isLt
  refine Eq.trans ?_ (rows_x h ⟨512 * t.val + r, by omega⟩ k)
  blk_ext [iblk, idx t]

theorem holds_p (t : Fin cfg0.N) (r : Fin 512) (k : Fin 256) : (iblk m c 3 t : FVec Ideal S512x256 .f32) (ix2 r k) = ((A.p (512 * t + r) k : ℝ) : EReal) := by
  have hN : grid0.N = 16 := N_0
  have ht : t.val < grid0.N := t.isLt
  refine Eq.trans ?_ (rows_p h ⟨512 * t.val + r, by omega⟩ k)
  blk_ext [iblk, idx t]

theorem holds_y (t : Fin cfg0.N) (r : Fin 512) (k : Fin 1024) : (iblk m c 4 t : FVec Ideal S512x1024 .f32) (ix2 r k) = ((A.y (512 * t + r) k : ℝ) : EReal) := by
  have hN : grid0.N = 16 := N_0
  have ht : t.val < grid0.N := t.isLt
  refine Eq.trans ?_ (rows_y h ⟨512 * t.val + r, by omega⟩ k)
  blk_ext [iblk, idx t]

theorem holds_wo (t : Fin cfg0.N) (r : Fin 1024) (k : Fin 1024) : (iblk m c 5 t : FVec Ideal S1024x1024 .bf16) (ix2 r k) = ((A.wo r k : ℝ) : EReal) := by
  refine Eq.trans ?_ (weight_wo h r k)
  blk_ext [iblk, idx t]

theorem holds_wg (t : Fin cfg0.N) (r : Fin 1024) (k : Fin 1024) : (iblk m c 6 t : FVec Ideal S1024x1024 .bf16) (ix2 r k) = ((A.wg r k : ℝ) : EReal) := by
  refine Eq.trans ?_ (weight_wg h r k)
  blk_ext [iblk, idx t]

theorem holds_wp (t : Fin cfg0.N) (r : Fin 256) (k : Fin 1024) : (iblk m c 7 t : FVec Ideal S256x1024 .bf16) (ix2 r k) = ((A.wp r k : ℝ) : EReal) := by
  refine Eq.trans ?_ (weight_wp h r k)
  blk_ext [iblk, idx t]

theorem holds_pg (t : Fin cfg0.N) (z : Fin 1) (k : Fin 1024) : (iblk m c 8 t : FVec Ideal S1x1024 .f32) (ix2 z k) = ((A.pg k : ℝ) : EReal) := by
  have e : z = 0 := Subsingleton.elim _ _
  subst e
  refine Eq.trans ?_ (h.pg k)
  blk_ext [iblk, idx t]

theorem holds_fg (t : Fin cfg0.N) (z : Fin 1) (k : Fin 1024) : (iblk m c 9 t : FVec Ideal S1x1024 .f32) (ix2 z k) = ((A.fg k : ℝ) : EReal) := by
  refine Eq.trans ?_ (gain_fg h z k)
  blk_ext [iblk, idx t]

/-- Every grid point's blocks hold the arguments' numbers. -/
theorem holds (t : Fin cfg0.N) : Holds A t (iblk m c 0 t) (iblk m c 1 t) (iblk m c 2 t) (iblk m c 3 t) (iblk m c 4 t) (iblk m c 5 t) (iblk m c 6 t) (iblk m c 7 t) (iblk m c 8 t) (iblk m c 9 t) where
  a := holds_a h t
  b := holds_b h t
  x := holds_x h t
  p := holds_p h t
  y := holds_y h t
  wo := holds_wo h t
  wg := holds_wg h t
  wp := holds_wp h t
  pg := holds_pg h t
  fg := holds_fg h t

end Cert.Head.Host

end
-- ==== Proof.HeadOutA.lean ====
/-
  What one grid point of the head leaves in each output, in the arguments' numbers: the first point.
-/
module

public import proofs.«01_k».proof.Proof.HeadPoint

@[expose] public section

set_option maxRecDepth 16384
set_option maxHeartbeats 2000000

noncomputable section

open Idealize.ShloMosaic Idealize.ShloMosaic.TcCoe Cert.Layer Cert.Reals Cert.Kernel2Ideal Cert.Kernel2Ideal.Gen

namespace Cert.Head.PointA

open Cert.Head
open Cert.KPoint (canon_whole)

variable {A : Args} {t : ℕ} (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .f32) (harg3 : arg3.IsWhole) (arg4 : Memref sig .tc .vmem S512x256 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x1024 .f32) (harg13 : arg13.IsWhole) (arg17 : Memref sig .tc .vmem S1x1024 .f32) (harg17 : arg17.IsWhole) (arg18 : Memref sig .tc .vmem S1x1024 .f32) (harg18 : arg18.IsWhole) (arg19 : Memref sig .tc .vmem S8x128 .f32) (harg19 : arg19.IsWhole) (arg20 : Memref sig .tc .vmem S1024x1024 .f32) (harg20 : arg20.IsWhole) (arg21 : Memref sig .tc .vmem S1024x1024 .f32) (harg21 : arg21.IsWhole) (arg22 : Memref sig .tc .vmem S256x1024 .f32) (harg22 : arg22.IsWhole) (arg23 : Memref sig .tc .vmem S128x1024 .bf16) (harg23 : arg23.IsWhole) (arg24 : Memref sig .tc .vmem S256x128 .bf16) (harg24 : arg24.IsWhole) (hc0 : cond0_0 i) (hc1 : ¬cond0_1 i) (x0 : Vec Ideal S512x512 .bf16) (x1 : Vec Ideal S512x512 .bf16) (x2 : Vec Ideal S512x1024 .f32) (x3 : Vec Ideal S512x256 .f32) (x4 : Vec Ideal S512x1024 .f32) (x5 : Vec Ideal S1024x1024 .bf16) (x6 : Vec Ideal S1024x1024 .bf16) (x7 : Vec Ideal S256x1024 .bf16) (x8 : Vec Ideal S1x1024 .f32) (x9 : Vec Ideal S1x1024 .f32)
  (h : Holds A t x0 x1 x2 x3 x4 x5 x6 x7 x8 x9)

theorem out_12 : out0_A_12 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9
    = VO0_12.read (Elt Ideal) (VO0_12.writes (Elt Ideal) VO0_12.junk [⟨Rect.unit (s := S512x1024) ![256, 0] S256x1024.size inb_S512x1024_S256x1024_256_0, Ld.dh1b (ld1 arg1 harg1 arg2 harg2 arg3 harg3 arg4 harg4 arg5 harg5 arg6 harg6 arg7 harg7 arg8 harg8 arg9 harg9 arg10 harg10 x0 x1 x2 x3 x4 x5 x6 x7 x8 x9)⟩,
        ⟨Rect.unit (s := S512x1024) ![0, 0] S256x1024.size inb_S512x1024_S256x1024_0_0, Ld.dh1 (ld0 arg1 harg1 arg2 harg2 arg3 harg3 arg4 harg4 arg5 harg5 arg6 harg6 arg7 harg7 arg8 harg8 arg9 harg9 arg10 harg10 x0 x1 x2 x3 x4 x5 x6 x7 x8 x9)⟩]) := rfl

include h in
theorem dh1_at (r : Fin 512) (k : Fin 1024) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 (ix2 r k) = ((A.dh1 (512 * t + r) k : ℝ) : EReal) := by
  rw [out_12, View.read_writes_junk_eq_canon, Ld.dh1b_eq]
  exact rows_canon arg13 _ _ (fun r k => A.dh1 (512 * t + r) k) (fun r k => Cert.Head.dh1_at (ld0_at h) r k)
    (fun r k => (Cert.Head.dh1_at (ld1_at h) r k).trans (by rw [add_assoc])) r k

theorem out_10 : out0_A_10 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9
    = VO0_10.read (Elt Ideal) (VO0_10.writes (Elt Ideal) VO0_10.junk [⟨Rect.unit (s := S512x512) ![256, 0] S256x512.size inb_S512x512_S256x512_256_0, Ld.dab (ld1 arg1 harg1 arg2 harg2 arg3 harg3 arg4 harg4 arg5 harg5 arg6 harg6 arg7 harg7 arg8 harg8 arg9 harg9 arg10 harg10 x0 x1 x2 x3 x4 x5 x6 x7 x8 x9)⟩,
        ⟨Rect.unit (s := S512x512) ![0, 0] S256x512.size inb_S512x512_S256x512_0_0, Ld.da (ld0 arg1 harg1 arg2 harg2 arg3 harg3 arg4 harg4 arg5 harg5 arg6 harg6 arg7 harg7 arg8 harg8 arg9 harg9 arg10 harg10 x0 x1 x2 x3 x4 x5 x6 x7 x8 x9)⟩]) := rfl

include h in
theorem da_at (r : Fin 512) (k : Fin 512) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 (ix2 r k) = ((A.dmix (512 * t + r) k : ℝ) : EReal) := by
  rw [out_10, View.read_writes_junk_eq_canon, Ld.dab_eq]
  exact cols_canon arg11 _ _ (fun r k => A.dmix (512 * t + r) k) (fun r k => Cert.Head.da_at (ld0_at h) r k)
    (fun r k => (Cert.Head.da_at (ld1_at h) r k).trans (by rw [add_assoc])) r k

theorem out_11 : out0_A_11 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9
    = VO0_11.read (Elt Ideal) (VO0_11.writes (Elt Ideal) VO0_11.junk [⟨Rect.unit (s := S512x512) ![256, 0] S256x512.size inb_S512x512_S256x512_256_0, Ld.dbb (ld1 arg1 harg1 arg2 harg2 arg3 harg3 arg4 harg4 arg5 harg5 arg6 harg6 arg7 harg7 arg8 harg8 arg9 harg9 arg10 harg10 x0 x1 x2 x3 x4 x5 x6 x7 x8 x9)⟩,
        ⟨Rect.unit (s := S512x512) ![0, 0] S256x512.size inb_S512x512_S256x512_0_0, Ld.db (ld0 arg1 harg1 arg2 harg2 arg3 harg3 arg4 harg4 arg5 harg5 arg6 harg6 arg7 harg7 arg8 harg8 arg9 harg9 arg10 harg10 x0 x1 x2 x3 x4 x5 x6 x7 x8 x9)⟩]) := rfl

include h in
theorem db_at (r : Fin 512) (k : Fin 512) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 (ix2 r k) = ((A.dmix (512 * t + r) (512 + k) : ℝ) : EReal) := by
  rw [out_11, View.read_writes_junk_eq_canon, Ld.dbb_eq]
  exact cols_canon arg12 _ _ (fun r k => A.dmix (512 * t + r) (512 + k)) (fun r k => Cert.Head.db_at (ld0_at h) r k)
    (fun r k => (Cert.Head.db_at (ld1_at h) r k).trans (by rw [add_assoc])) r k

theorem out_13 : out0_A_13 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9
    = VO0_13.read (Elt Ideal) (VO0_13.writes (Elt Ideal) VO0_13.junk [⟨Rect.unit (s := S1x1024) ![0, 0] S1x1024.size inb_S1x1024_S1x1024_0_0, k0_pay2 (F := Ideal) (Ld.dpg (ld0 arg1 harg1 arg2 harg2 arg3 harg3 arg4 harg4 arg5 harg5 arg6 harg6 arg7 harg7 arg8 harg8 arg9 harg9 arg10 harg10 x0 x1 x2 x3 x4 x5 x6 x7 x8 x9)) (Ld.dpgb (ld1 arg1 harg1 arg2 harg2 arg3 harg3 arg4 harg4 arg5 harg5 arg6 harg6 arg7 harg7 arg8 harg8 arg9 harg9 arg10 harg10 x0 x1 x2 x3 x4 x5 x6 x7 x8 x9)) (arg17.view.readCov [⟨Rect.unit (s := S1x1024) ![0, 0] S1x1024.size inb_S1x1024_S1x1024_0_0, k0_pay34 (F := Ideal)⟩] (Rect.unit (s := S1x1024) ![0, 0] S1x1024.size inb_S1x1024_S1x1024_0_0).toLoadRect)⟩, ⟨Rect.unit (s := S1x1024) ![0, 0] S1x1024.size inb_S1x1024_S1x1024_0_0, k0_pay34 (F := Ideal)⟩]) := rfl

include h in
theorem dpg_at (k : Fin 1024) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 (ix2 0 k) = ((∑ r : Fin 512, A.gp (512 * t + r) k : ℝ) : EReal) := by
  rw [out_13, View.read_writes_junk_eq_canon, Ld.dpgb_eq]
  refine (canon_whole inb_S1x1024_S1x1024_0_0 (by decide) _ _ _).trans ?_
  refine (dpg_add (ld0_at h) (ld1_at h) _ (fun _ => 0) (fun k => ?_) k).trans (by simp only [zero_add])
  rw [View.readCov_eq_canon']
  refine (congrArg (View.canon _) (KPoint.whole_idx inb_S1x1024_S1x1024_0_0 (by decide) _)).trans ?_
  refine (canon_whole inb_S1x1024_S1x1024_0_0 (by decide) _ _ _).trans ?_
  pointwise [k0_pay34]
  rfl

theorem out_14 : out0_A_14 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9
    = VO0_14.read (Elt Ideal) (VO0_14.writes (Elt Ideal) VO0_14.junk [⟨Rect.unit (s := S1x1024) ![0, 0] S1x1024.size inb_S1x1024_S1x1024_0_0, k0_pay72 (F := Ideal) (Ld.dfg (ld0 arg1 harg1 arg2 harg2 arg3 harg3 arg4 harg4 arg5 harg5 arg6 harg6 arg7 harg7 arg8 harg8 arg9 harg9 arg10 harg10 x0 x1 x2 x3 x4 x5 x6 x7 x8 x9)) (Ld.n2b (ld1 arg1 harg1 arg2 harg2 arg3 harg3 arg4 harg4 arg5 harg5 arg6 harg6 arg7 harg7 arg8 harg8 arg9 harg9 arg10 harg10 x0 x1 x2 x3 x4 x5 x6 x7 x8 x9)) (Ld.errb (ld1 arg1 harg1 arg2 harg2 arg3 harg3 arg4 harg4 arg5 harg5 arg6 harg6 arg7 harg7 arg8 harg8 arg9 harg9 arg10 harg10 x0 x1 x2 x3 x4 x5 x6 x7 x8 x9)) k0_pay66 (arg18.view.readCov [⟨Rect.unit (s := S1x1024) ![0, 0] S1x1024.size inb_S1x1024_S1x1024_0_0, k0_pay35 (F := Ideal)⟩] (Rect.unit (s := S1x1024) ![0, 0] S1x1024.size inb_S1x1024_S1x1024_0_0).toLoadRect)⟩, ⟨Rect.unit (s := S1x1024) ![0, 0] S1x1024.size inb_S1x1024_S1x1024_0_0, k0_pay35 (F := Ideal)⟩]) := rfl

include h in
theorem dfg_at (k : Fin 1024) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 (ix2 0 k) = ((∑ r : Fin 512, A.gf (512 * t + r) k : ℝ) : EReal) := by
  rw [out_14, View.read_writes_junk_eq_canon, Ld.dfgb_eq]
  refine (canon_whole inb_S1x1024_S1x1024_0_0 (by decide) _ _ _).trans ?_
  refine (dfg_add (ld0_at h) (ld1_at h) _ (fun _ => 0) (fun k => ?_) k).trans (by simp only [zero_add])
  rw [View.readCov_eq_canon']
  refine (congrArg (View.canon _) (KPoint.whole_idx inb_S1x1024_S1x1024_0_0 (by decide) _)).trans ?_
  refine (canon_whole inb_S1x1024_S1x1024_0_0 (by decide) _ _ _).trans ?_
  pointwise [k0_pay35]
  rfl

theorem out_15 : out0_A_15 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9
    = VO0_15.read (Elt Ideal) (VO0_15.writes (Elt Ideal) VO0_15.junk [⟨Rect.unit (s := S8x128) ![0, 0] S8x128.size inb_S8x128_S8x128_0_0, k0_pay71 (F := Ideal) (Ld.sq (ld0 arg1 harg1 arg2 harg2 arg3 harg3 arg4 harg4 arg5 harg5 arg6 harg6 arg7 harg7 arg8 harg8 arg9 harg9 arg10 harg10 x0 x1 x2 x3 x4 x5 x6 x7 x8 x9)) (Ld.sqb (ld1 arg1 harg1 arg2 harg2 arg3 harg3 arg4 harg4 arg5 harg5 arg6 harg6 arg7 harg7 arg8 harg8 arg9 harg9 arg10 harg10 x0 x1 x2 x3 x4 x5 x6 x7 x8 x9)) (arg19.view.readCov [⟨Rect.unit (s := S8x128) ![0, 0] S8x128.size inb_S8x128_S8x128_0_0, k0_pay36 (F := Ideal)⟩] (Rect.unit (s := S8x128) ![0, 0] S8x128.size inb_S8x128_S8x128_0_0).toLoadRect)⟩, ⟨Rect.unit (s := S8x128) ![0, 0] S8x128.size inb_S8x128_S8x128_0_0, k0_pay36 (F := Ideal)⟩]) := rfl

include h in
theorem sq_at (u : Fin 8) (j : Fin 128) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 (ix2 u j) = ((∑ r : Fin 512, A.sq (512 * t + r) : ℝ) : EReal) := by
  rw [out_15, View.read_writes_junk_eq_canon, Ld.sqb_eq]
  refine (canon_whole inb_S8x128_S8x128_0_0 (by decide) _ _ _).trans ?_
  refine (sq_add (ld0_at h) (ld1_at h) _ 0 (fun u j => ?_) u j).trans (by simp only [zero_add])
  rw [View.readCov_eq_canon']
  refine (congrArg (View.canon _) (KPoint.whole_idx inb_S8x128_S8x128_0_0 (by decide) _)).trans ?_
  refine (canon_whole inb_S8x128_S8x128_0_0 (by decide) _ _ _).trans ?_
  pointwise [k0_pay36]
  rfl

end Cert.Head.PointA
-- ==== Proof.HeadOutB.lean ====
/-
  What one grid point of the head leaves in each output, in the arguments' numbers: a point in between.
-/
module

public import proofs.«01_k».proof.Proof.HeadPoint

@[expose] public section

set_option maxRecDepth 16384
set_option maxHeartbeats 2000000

noncomputable section

open Idealize.ShloMosaic Idealize.ShloMosaic.TcCoe Cert.Layer Cert.Reals Cert.Kernel2Ideal Cert.Kernel2Ideal.Gen

namespace Cert.Head.PointB

open Cert.Head
open Cert.KPoint (canon_whole)

variable {A : Args} {t : ℕ} (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .f32) (harg3 : arg3.IsWhole) (arg4 : Memref sig .tc .vmem S512x256 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x1024 .f32) (harg13 : arg13.IsWhole) (arg17 : Memref sig .tc .vmem S1x1024 .f32) (harg17 : arg17.IsWhole) (arg18 : Memref sig .tc .vmem S1x1024 .f32) (harg18 : arg18.IsWhole) (arg19 : Memref sig .tc .vmem S8x128 .f32) (harg19 : arg19.IsWhole) (arg20 : Memref sig .tc .vmem S1024x1024 .f32) (harg20 : arg20.IsWhole) (arg21 : Memref sig .tc .vmem S1024x1024 .f32) (harg21 : arg21.IsWhole) (arg22 : Memref sig .tc .vmem S256x1024 .f32) (harg22 : arg22.IsWhole) (arg23 : Memref sig .tc .vmem S128x1024 .bf16) (harg23 : arg23.IsWhole) (arg24 : Memref sig .tc .vmem S256x128 .bf16) (harg24 : arg24.IsWhole) (hc0 : ¬cond0_0 i) (hc1 : ¬cond0_1 i) (x0 : Vec Ideal S512x512 .bf16) (x1 : Vec Ideal S512x512 .bf16) (x2 : Vec Ideal S512x1024 .f32) (x3 : Vec Ideal S512x256 .f32) (x4 : Vec Ideal S512x1024 .f32) (x5 : Vec Ideal S1024x1024 .bf16) (x6 : Vec Ideal S1024x1024 .bf16) (x7 : Vec Ideal S256x1024 .bf16) (x8 : Vec Ideal S1x1024 .f32) (x9 : Vec Ideal S1x1024 .f32) (xo13 : Vec Ideal S1x1024 .f32) (xo14 : Vec Ideal S1x1024 .f32) (xo15 : Vec Ideal S8x128 .f32) (xs0 : Vec Ideal S1024x1024 .f32) (xs1 : Vec Ideal S1024x1024 .f32) (xs2 : Vec Ideal S256x1024 .f32)
  (h : Holds A t x0 x1 x2 x3 x4 x5 x6 x7 x8 x9)

theorem out_12 : out0_B_12 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2
    = VO0_12.read (Elt Ideal) (VO0_12.writes (Elt Ideal) VO0_12.junk [⟨Rect.unit (s := S512x1024) ![256, 0] S256x1024.size inb_S512x1024_S256x1024_256_0, Ld.dh1b (ld1 arg1 harg1 arg2 harg2 arg3 harg3 arg4 harg4 arg5 harg5 arg6 harg6 arg7 harg7 arg8 harg8 arg9 harg9 arg10 harg10 x0 x1 x2 x3 x4 x5 x6 x7 x8 x9)⟩,
        ⟨Rect.unit (s := S512x1024) ![0, 0] S256x1024.size inb_S512x1024_S256x1024_0_0, Ld.dh1 (ld0 arg1 harg1 arg2 harg2 arg3 harg3 arg4 harg4 arg5 harg5 arg6 harg6 arg7 harg7 arg8 harg8 arg9 harg9 arg10 harg10 x0 x1 x2 x3 x4 x5 x6 x7 x8 x9)⟩]) := rfl

include h in
theorem dh1_at (r : Fin 512) (k : Fin 1024) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2 (ix2 r k) = ((A.dh1 (512 * t + r) k : ℝ) : EReal) := by
  rw [out_12, View.read_writes_junk_eq_canon, Ld.dh1b_eq]
  exact rows_canon arg13 _ _ (fun r k => A.dh1 (512 * t + r) k) (fun r k => Cert.Head.dh1_at (ld0_at h) r k)
    (fun r k => (Cert.Head.dh1_at (ld1_at h) r k).trans (by rw [add_assoc])) r k

theorem out_10 : out0_B_10 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2
    = VO0_10.read (Elt Ideal) (VO0_10.writes (Elt Ideal) VO0_10.junk [⟨Rect.unit (s := S512x512) ![256, 0] S256x512.size inb_S512x512_S256x512_256_0, Ld.dab (ld1 arg1 harg1 arg2 harg2 arg3 harg3 arg4 harg4 arg5 harg5 arg6 harg6 arg7 harg7 arg8 harg8 arg9 harg9 arg10 harg10 x0 x1 x2 x3 x4 x5 x6 x7 x8 x9)⟩,
        ⟨Rect.unit (s := S512x512) ![0, 0] S256x512.size inb_S512x512_S256x512_0_0, Ld.da (ld0 arg1 harg1 arg2 harg2 arg3 harg3 arg4 harg4 arg5 harg5 arg6 harg6 arg7 harg7 arg8 harg8 arg9 harg9 arg10 harg10 x0 x1 x2 x3 x4 x5 x6 x7 x8 x9)⟩]) := rfl

include h in
theorem da_at (r : Fin 512) (k : Fin 512) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2 (ix2 r k) = ((A.dmix (512 * t + r) k : ℝ) : EReal) := by
  rw [out_10, View.read_writes_junk_eq_canon, Ld.dab_eq]
  exact cols_canon arg11 _ _ (fun r k => A.dmix (512 * t + r) k) (fun r k => Cert.Head.da_at (ld0_at h) r k)
    (fun r k => (Cert.Head.da_at (ld1_at h) r k).trans (by rw [add_assoc])) r k

theorem out_11 : out0_B_11 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2
    = VO0_11.read (Elt Ideal) (VO0_11.writes (Elt Ideal) VO0_11.junk [⟨Rect.unit (s := S512x512) ![256, 0] S256x512.size inb_S512x512_S256x512_256_0, Ld.dbb (ld1 arg1 harg1 arg2 harg2 arg3 harg3 arg4 harg4 arg5 harg5 arg6 harg6 arg7 harg7 arg8 harg8 arg9 harg9 arg10 harg10 x0 x1 x2 x3 x4 x5 x6 x7 x8 x9)⟩,
        ⟨Rect.unit (s := S512x512) ![0, 0] S256x512.size inb_S512x512_S256x512_0_0, Ld.db (ld0 arg1 harg1 arg2 harg2 arg3 harg3 arg4 harg4 arg5 harg5 arg6 harg6 arg7 harg7 arg8 harg8 arg9 harg9 arg10 harg10 x0 x1 x2 x3 x4 x5 x6 x7 x8 x9)⟩]) := rfl

include h in
theorem db_at (r : Fin 512) (k : Fin 512) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2 (ix2 r k) = ((A.dmix (512 * t + r) (512 + k) : ℝ) : EReal) := by
  rw [out_11, View.read_writes_junk_eq_canon, Ld.dbb_eq]
  exact cols_canon arg12 _ _ (fun r k => A.dmix (512 * t + r) (512 + k)) (fun r k => Cert.Head.db_at (ld0_at h) r k)
    (fun r k => (Cert.Head.db_at (ld1_at h) r k).trans (by rw [add_assoc])) r k

theorem out_13 : out0_B_13 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2
    = VO0_13.read (Elt Ideal) (VO0_13.writes (Elt Ideal) VO0_13.junk [⟨Rect.unit (s := S1x1024) ![0, 0] S1x1024.size inb_S1x1024_S1x1024_0_0, k0_pay2 (F := Ideal) (Ld.dpg (ld0 arg1 harg1 arg2 harg2 arg3 harg3 arg4 harg4 arg5 harg5 arg6 harg6 arg7 harg7 arg8 harg8 arg9 harg9 arg10 harg10 x0 x1 x2 x3 x4 x5 x6 x7 x8 x9)) (Ld.dpgb (ld1 arg1 harg1 arg2 harg2 arg3 harg3 arg4 harg4 arg5 harg5 arg6 harg6 arg7 harg7 arg8 harg8 arg9 harg9 arg10 harg10 x0 x1 x2 x3 x4 x5 x6 x7 x8 x9)) (View.readAt (Elt Ideal) arg17.view (Rect.unit (s := S1x1024) ![0, 0] S1x1024.size inb_S1x1024_S1x1024_0_0).toLoadRect (harg17.unread xo13))⟩]) := rfl

include h in
theorem dpg_at (s : ℕ → ℝ) (hs : ∀ k : Fin 1024, xo13 (ix2 0 k) = ((s k : ℝ) : EReal)) (k : Fin 1024) : out0_B_13 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2 (ix2 0 k) = ((s k + ∑ r : Fin 512, A.gp (512 * t + r) k : ℝ) : EReal) := by
  rw [out_13, View.read_writes_junk_eq_canon, Ld.dpgb_eq]
  refine (canon_whole inb_S1x1024_S1x1024_0_0 (by decide) _ _ _).trans ?_
  refine dpg_add (ld0_at h) (ld1_at h) _ s (fun k => ?_) k
  rw [load_at]
  refine (congrArg _ (KPoint.whole_idx inb_S1x1024_S1x1024_0_0 (by decide) _)).trans (hs k)

theorem out_14 : out0_B_14 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2
    = VO0_14.read (Elt Ideal) (VO0_14.writes (Elt Ideal) VO0_14.junk [⟨Rect.unit (s := S1x1024) ![0, 0] S1x1024.size inb_S1x1024_S1x1024_0_0, k0_pay72 (F := Ideal) (Ld.dfg (ld0 arg1 harg1 arg2 harg2 arg3 harg3 arg4 harg4 arg5 harg5 arg6 harg6 arg7 harg7 arg8 harg8 arg9 harg9 arg10 harg10 x0 x1 x2 x3 x4 x5 x6 x7 x8 x9)) (Ld.n2b (ld1 arg1 harg1 arg2 harg2 arg3 harg3 arg4 harg4 arg5 harg5 arg6 harg6 arg7 harg7 arg8 harg8 arg9 harg9 arg10 harg10 x0 x1 x2 x3 x4 x5 x6 x7 x8 x9)) (Ld.errb (ld1 arg1 harg1 arg2 harg2 arg3 harg3 arg4 harg4 arg5 harg5 arg6 harg6 arg7 harg7 arg8 harg8 arg9 harg9 arg10 harg10 x0 x1 x2 x3 x4 x5 x6 x7 x8 x9)) k0_pay66 (View.readAt (Elt Ideal) arg18.view (Rect.unit (s := S1x1024) ![0, 0] S1x1024.size inb_S1x1024_S1x1024_0_0).toLoadRect (harg18.unread xo14))⟩]) := rfl

include h in
theorem dfg_at (s : ℕ → ℝ) (hs : ∀ k : Fin 1024, xo14 (ix2 0 k) = ((s k : ℝ) : EReal)) (k : Fin 1024) : out0_B_14 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2 (ix2 0 k) = ((s k + ∑ r : Fin 512, A.gf (512 * t + r) k : ℝ) : EReal) := by
  rw [out_14, View.read_writes_junk_eq_canon, Ld.dfgb_eq]
  refine (canon_whole inb_S1x1024_S1x1024_0_0 (by decide) _ _ _).trans ?_
  refine dfg_add (ld0_at h) (ld1_at h) _ s (fun k => ?_) k
  rw [load_at]
  refine (congrArg _ (KPoint.whole_idx inb_S1x1024_S1x1024_0_0 (by decide) _)).trans (hs k)

theorem out_15 : out0_B_15 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2
    = VO0_15.read (Elt Ideal) (VO0_15.writes (Elt Ideal) VO0_15.junk [⟨Rect.unit (s := S8x128) ![0, 0] S8x128.size inb_S8x128_S8x128_0_0, k0_pay71 (F := Ideal) (Ld.sq (ld0 arg1 harg1 arg2 harg2 arg3 harg3 arg4 harg4 arg5 harg5 arg6 harg6 arg7 harg7 arg8 harg8 arg9 harg9 arg10 harg10 x0 x1 x2 x3 x4 x5 x6 x7 x8 x9)) (Ld.sqb (ld1 arg1 harg1 arg2 harg2 arg3 harg3 arg4 harg4 arg5 harg5 arg6 harg6 arg7 harg7 arg8 harg8 arg9 harg9 arg10 harg10 x0 x1 x2 x3 x4 x5 x6 x7 x8 x9)) (View.readAt (Elt Ideal) arg19.view (Rect.unit (s := S8x128) ![0, 0] S8x128.size inb_S8x128_S8x128_0_0).toLoadRect (harg19.unread xo15))⟩]) := rfl

include h in
theorem sq_at (s : ℝ) (hs : ∀ (u : Fin 8) (j : Fin 128), xo15 (ix2 u j) = ((s : ℝ) : EReal)) (u : Fin 8) (j : Fin 128) : out0_B_15 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0 hc1 x0 x1 x2 x3 x4 x5 x6 x7 x8 x9 xo13 xo14 xo15 xs0 xs1 xs2 (ix2 u j) = ((s + ∑ r : Fin 512, A.sq (512 * t + r) : ℝ) : EReal) := by
  rw [out_15, View.read_writes_junk_eq_canon, Ld.sqb_eq]
  refine (canon_whole inb_S8x128_S8x128_0_0 (by decide) _ _ _).trans ?_
  refine sq_add (ld0_at h) (ld1_at h) _ s (fun u j => ?_) u j
  rw [load_at]
  refine (congrArg _ (KPoint.whole_idx inb_S8x128_S8x128_0_0 (by decide) _)).trans (hs u j)

end Cert.Head.PointB
-- ==== Proof.HeadLast.lean ====
/-
  The head's last grid point leaves in its outputs what any other point but the first would.
-/
module

public import proofs.«01_k».proof.Proof.HeadPoint

@[expose] public section

set_option maxRecDepth 16384
set_option maxHeartbeats 2000000

noncomputable section

open Idealize.ShloMosaic Idealize.ShloMosaic.TcCoe Cert.Kernel2Ideal Cert.Kernel2Ideal.Gen

namespace Cert.Head.Last

variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x1024 .f32) (harg3 : arg3.IsWhole) (arg4 : Memref sig .tc .vmem S512x256 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x1024 .f32) (harg13 : arg13.IsWhole) (arg17 : Memref sig .tc .vmem S1x1024 .f32) (harg17 : arg17.IsWhole) (arg18 : Memref sig .tc .vmem S1x1024 .f32) (harg18 : arg18.IsWhole) (arg19 : Memref sig .tc .vmem S8x128 .f32) (harg19 : arg19.IsWhole) (arg20 : Memref sig .tc .vmem S1024x1024 .f32) (harg20 : arg20.IsWhole) (arg21 : Memref sig .tc .vmem S1024x1024 .f32) (harg21 : arg21.IsWhole) (arg22 : Memref sig .tc .vmem S256x1024 .f32) (harg22 : arg22.IsWhole) (arg23 : Memref sig .tc .vmem S128x1024 .bf16) (harg23 : arg23.IsWhole) (arg24 : Memref sig .tc .vmem S256x128 .bf16) (harg24 : arg24.IsWhole) (x0 : Vec Ideal S512x512 .bf16) (x1 : Vec Ideal S512x512 .bf16) (x2 : Vec Ideal S512x1024 .f32) (x3 : Vec Ideal S512x256 .f32) (x4 : Vec Ideal S512x1024 .f32) (x5 : Vec Ideal S1024x1024 .bf16) (x6 : Vec Ideal S1024x1024 .bf16) (x7 : Vec Ideal S256x1024 .bf16) (x8 : Vec Ideal S1x1024 .f32) (x9 : Vec Ideal S1x1024 .f32) (xo13 : Vec Ideal S1x1024 .f32) (xo14 : Vec Ideal S1x1024 .f32) (xo15 : Vec Ideal S8x128 .f32) (xs0 : Vec Ideal S1024x1024 .f32) (xs1 : Vec Ideal S1024x1024 .f32) (xs2 : Vec Ideal S256x1024 .f32) (i2 : grid0.Coords) (hc0c : ¬cond0_0 i) (hc1c : cond0_1 i) (hc0b : ¬cond0_0 i2) (hc1b : ¬cond0_1 i2)

/-- The last point's output 10. -/
theorem last_10 : out0_C_10 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0c hc1c x0 x1 x2 x3 x4 x5 x6 x7 x8 x9 xo13 xo14 xo15 xs0 xs1 xs2
    = out0_B_10 (F := Ideal) c i2 arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0b hc1b x0 x1 x2 x3 x4 x5 x6 x7 x8 x9 xo13 xo14 xo15 xs0 xs1 xs2 := by rfl

/-- The last point's output 11. -/
theorem last_11 : out0_C_11 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0c hc1c x0 x1 x2 x3 x4 x5 x6 x7 x8 x9 xo13 xo14 xo15 xs0 xs1 xs2
    = out0_B_11 (F := Ideal) c i2 arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0b hc1b x0 x1 x2 x3 x4 x5 x6 x7 x8 x9 xo13 xo14 xo15 xs0 xs1 xs2 := by rfl

/-- The last point's output 12. -/
theorem last_12 : out0_C_12 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0c hc1c x0 x1 x2 x3 x4 x5 x6 x7 x8 x9 xo13 xo14 xo15 xs0 xs1 xs2
    = out0_B_12 (F := Ideal) c i2 arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0b hc1b x0 x1 x2 x3 x4 x5 x6 x7 x8 x9 xo13 xo14 xo15 xs0 xs1 xs2 := by rfl

/-- The last point's output 13. -/
theorem last_13 : out0_C_13 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0c hc1c x0 x1 x2 x3 x4 x5 x6 x7 x8 x9 xo13 xo14 xo15 xs0 xs1 xs2
    = out0_B_13 (F := Ideal) c i2 arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0b hc1b x0 x1 x2 x3 x4 x5 x6 x7 x8 x9 xo13 xo14 xo15 xs0 xs1 xs2 := by rfl

/-- The last point's output 14. -/
theorem last_14 : out0_C_14 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0c hc1c x0 x1 x2 x3 x4 x5 x6 x7 x8 x9 xo13 xo14 xo15 xs0 xs1 xs2
    = out0_B_14 (F := Ideal) c i2 arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0b hc1b x0 x1 x2 x3 x4 x5 x6 x7 x8 x9 xo13 xo14 xo15 xs0 xs1 xs2 := by rfl

/-- The last point's output 15. -/
theorem last_15 : out0_C_15 (F := Ideal) c i arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0c hc1c x0 x1 x2 x3 x4 x5 x6 x7 x8 x9 xo13 xo14 xo15 xs0 xs1 xs2
    = out0_B_15 (F := Ideal) c i2 arg1 harg1 arg2 harg2 arg3 harg3 arg4 harg4 arg5 harg5 arg6 harg6 arg7 harg7 arg8 harg8 arg9 harg9 arg10 harg10 arg11 harg11 arg12 harg12 arg13 harg13 arg17 harg17 arg18 harg18 arg19 harg19 arg20 harg20 arg21 harg21 arg22 harg22 arg23 harg23 arg24 harg24 hc0b hc1b x0 x1 x2 x3 x4 x5 x6 x7 x8 x9 xo13 xo14 xo15 xs0 xs1 xs2 := by rfl

end Cert.Head.Last

end
-- ==== Proof.HeadFold.lean ====
/-
  What the head's output blocks hold after each grid point, in the arguments' numbers: rows, and the sums over the points gone through.
-/
module

public import proofs.«01_k».proof.Proof.HeadOutA
public import proofs.«01_k».proof.Proof.HeadOutB
public import proofs.«01_k».proof.Proof.HeadLast

@[expose] public section

set_option maxRecDepth 16384

noncomputable section

open Idealize.ShloMosaic Idealize.ShloMosaic.TcCoe Cert.Layer Cert.Reals Cert.Kernel2Ideal Cert.Kernel2Ideal.Gen

namespace Cert.Head.Fold

open Cert.Head

/-- What a point leaves: the gradients of its rows, and the sums so far. -/
structure Left (A : Args) (n : ℕ) (o : Vec Ideal S512x512 .f32 × Vec Ideal S512x512 .f32 × Vec Ideal S512x1024 .f32 × Vec Ideal S1x1024 .f32
    × Vec Ideal S1x1024 .f32 × Vec Ideal S8x128 .f32 × Vec Ideal S1024x1024 .f32 × Vec Ideal S1024x1024 .f32 × Vec Ideal S256x1024 .f32) : Prop where
  da : ∀ r k : Fin 512, o.1 (ix2 r k) = ((A.dmix (512 * n + r) k : ℝ) : EReal)
  db : ∀ r k : Fin 512, o.2.1 (ix2 r k) = ((A.dmix (512 * n + r) (512 + k) : ℝ) : EReal)
  dh1 : ∀ (r : Fin 512) (k : Fin 1024), o.2.2.1 (ix2 r k) = ((A.dh1 (512 * n + r) k : ℝ) : EReal)
  dpg : ∀ k : Fin 1024, o.2.2.2.1 (ix2 0 k) = ((∑ q ∈ Finset.range (n + 1), ∑ r : Fin 512, A.gp (512 * q + r) k : ℝ) : EReal)
  dfg : ∀ k : Fin 1024, o.2.2.2.2.1 (ix2 0 k) = ((∑ q ∈ Finset.range (n + 1), ∑ r : Fin 512, A.gf (512 * q + r) k : ℝ) : EReal)
  sq : ∀ (u : Fin 8) (j : Fin 128), o.2.2.2.2.2.1 (ix2 u j) = ((∑ q ∈ Finset.range (n + 1), ∑ r : Fin 512, A.sq (512 * q + r) : ℝ) : EReal)

theorem one_lt : 1 < grid0.N := by rw [show grid0.N = 16 from N_0]; omega

variable {A : Args} {m : (ℓ : Loc nD τ sig) → Buf (Elt Ideal) ℓ} {c : Dev nD}
  (hH : ∀ t : Fin cfg0.N, Holds A t (iblk m c 0 t) (iblk m c 1 t) (iblk m c 2 t) (iblk m c 3 t) (iblk m c 4 t) (iblk m c 5 t) (iblk m c 6 t) (iblk m c 7 t) (iblk m c 8 t) (iblk m c 9 t))

include hH in
/-- What every point leaves. -/
theorem left (n : ℕ) (hn : n < cfg0.N) : Left A n (outsAt0 m c n hn) := by
  have hN : cfg0.N = 16 := N_0
  induction n with
  | zero =>
    have e := outsAt0_A m c ⟨0, hn⟩ (by show 0 % 16 = 0; omega) (by show ¬ 0 % 16 = 15; omega)
    have hh := hH ⟨0, hn⟩
    rw [show outsAt0 m c 0 hn = _ from e]
    constructor
    · intro r k
      dsimp only
      exact PointA.da_at (h := hh) (r := r) (k := k) ..
    · intro r k
      dsimp only
      exact PointA.db_at (h := hh) (r := r) (k := k) ..
    · intro r k
      dsimp only
      exact PointA.dh1_at (h := hh) (r := r) (k := k) ..
    · intro k
      dsimp only
      refine (PointA.dpg_at (h := hh) (k := k) ..).trans (congrArg Real.toEReal ?_)
      rw [Finset.sum_range_one]
    · intro k
      dsimp only
      refine (PointA.dfg_at (h := hh) (k := k) ..).trans (congrArg Real.toEReal ?_)
      rw [Finset.sum_range_one]
    · intro u j
      dsimp only
      refine (PointA.sq_at (h := hh) (u := u) (j := j) ..).trans (congrArg Real.toEReal ?_)
      rw [Finset.sum_range_one]
  | succ n ih =>
    have p := ih (by omega)
    have hh := hH ⟨n + 1, hn⟩
    have h0 : ¬ (n + 1) % 16 = 0 := by omega
    by_cases h1 : (n + 1) % 16 = 15
    · have e := outsAt0_C m c ⟨n + 1, hn⟩ h0 h1
      have hb0 : ¬ cond0_0 (grid0.coords ⟨1, one_lt⟩) := fun h => absurd ((hcond0_0 ⟨1, one_lt⟩).mp h) (by show ¬ 1 % 16 = 0; omega)
      have hb1 : ¬ cond0_1 (grid0.coords ⟨1, one_lt⟩) := fun h => absurd ((hcond0_1 ⟨1, one_lt⟩).mp h) (by show ¬ 1 % 16 = 15; omega)
      rw [Last.last_10 (hc0b := hb0) (hc1b := hb1), Last.last_11 (hc0b := hb0) (hc1b := hb1), Last.last_12 (hc0b := hb0) (hc1b := hb1), Last.last_13 (hc0b := hb0) (hc1b := hb1), Last.last_14 (hc0b := hb0) (hc1b := hb1), Last.last_15 (hc0b := hb0) (hc1b := hb1)] at e
      rw [show outsAt0 m c (n + 1) hn = _ from e]
      constructor
      · intro r k
        dsimp only
        exact PointB.da_at (h := hh) (r := r) (k := k) ..
      · intro r k
        dsimp only
        exact PointB.db_at (h := hh) (r := r) (k := k) ..
      · intro r k
        dsimp only
        exact PointB.dh1_at (h := hh) (r := r) (k := k) ..
      · intro k
        dsimp only
        refine (PointB.dpg_at (h := hh) (s := fun k => ∑ q ∈ Finset.range (n + 1), ∑ r : Fin 512, A.gp (512 * q + r) k) (hs := p.dpg) (k := k) ..).trans (congrArg Real.toEReal ?_)
        exact (Finset.sum_range_succ _ _).symm
      · intro k
        dsimp only
        refine (PointB.dfg_at (h := hh) (s := fun k => ∑ q ∈ Finset.range (n + 1), ∑ r : Fin 512, A.gf (512 * q + r) k) (hs := p.dfg) (k := k) ..).trans (congrArg Real.toEReal ?_)
        exact (Finset.sum_range_succ _ _).symm
      · intro u j
        dsimp only
        refine (PointB.sq_at (h := hh) (s := ∑ q ∈ Finset.range (n + 1), ∑ r : Fin 512, A.sq (512 * q + r)) (hs := p.sq) (u := u) (j := j) ..).trans (congrArg Real.toEReal ?_)
        exact (Finset.sum_range_succ _ _).symm
    · have e := outsAt0_B m c ⟨n + 1, hn⟩ h0 h1
      rw [show outsAt0 m c (n + 1) hn = _ from e]
      constructor
      · intro r k
        dsimp only
        exact PointB.da_at (h := hh) (r := r) (k := k) ..
      · intro r k
        dsimp only
        exact PointB.db_at (h := hh) (r := r) (k := k) ..
      · intro r k
        dsimp only
        exact PointB.dh1_at (h := hh) (r := r) (k := k) ..
      · intro k
        dsimp only
        refine (PointB.dpg_at (h := hh) (s := fun k => ∑ q ∈ Finset.range (n + 1), ∑ r : Fin 512, A.gp (512 * q + r) k) (hs := p.dpg) (k := k) ..).trans (congrArg Real.toEReal ?_)
        exact (Finset.sum_range_succ _ _).symm
      · intro k
        dsimp only
        refine (PointB.dfg_at (h := hh) (s := fun k => ∑ q ∈ Finset.range (n + 1), ∑ r : Fin 512, A.gf (512 * q + r) k) (hs := p.dfg) (k := k) ..).trans (congrArg Real.toEReal ?_)
        exact (Finset.sum_range_succ _ _).symm
      · intro u j
        dsimp only
        refine (PointB.sq_at (h := hh) (s := ∑ q ∈ Finset.range (n + 1), ∑ r : Fin 512, A.sq (512 * q + r)) (hs := p.sq) (u := u) (j := j) ..).trans (congrArg Real.toEReal ?_)
        exact (Finset.sum_range_succ _ _).symm

end Cert.Head.Fold

end
-- ==== Proof.HeadFinal.lean ====
/-
  The head's output arrays after the run: the row blocks side by side, and the sums over all grid points.
-/
module

public import proofs.«01_k».proof.Proof.HeadFold
public import proofs.«01_k».proof.Proof.HostSums
public import proofs.«01_k».proof.Proof.Gen.Kernel2Ideal.Value
public import Idealize.ShloMosaic.Lib.Pipeline.ValueKit

@[expose] public section

set_option maxRecDepth 16384

noncomputable section

open Idealize.ShloMosaic Idealize.ShloMosaic.TcCoe Cert.Layer Cert.Reals Cert.Kernel2Ideal Cert.Kernel2Ideal.Gen
open Idealize.ShloMosaic.Pipeline (Dat)

namespace Cert.Head.Final

open Cert.Head Cert.HostSums

variable {A : Args} {m : (ℓ : Loc nD τ sig) → Buf (Elt Ideal) ℓ} {c : Dev nD}
  (hH : ∀ t : Fin cfg0.N, Holds A t (iblk m c 0 t) (iblk m c 1 t) (iblk m c 2 t) (iblk m c 3 t) (iblk m c 4 t) (iblk m c 5 t) (iblk m c 6 t) (iblk m c 7 t) (iblk m c 8 t) (iblk m c 9 t))

/-- The output windows' blocks: a row block each of the first three, the whole of the others. -/
theorem idx : ∀ t : Fin cfg0.N, win0_10.index t = ![t.val, 0] ∧ win0_11.index t = ![t.val, 0] ∧ win0_12.index t = ![t.val, 0]
    ∧ win0_13.index t = ![0, 0] ∧ win0_14.index t = ![0, 0] ∧ win0_15.index t = ![0, 0] :=
  (by decide +kernel : ∀ t : Fin grid0.N, _)

include hH in
/-- The first mixer's output gradient. -/
theorem final_10 (G : Vec Ideal S8192x512 .f32) (hG : ∀ (r : Fin 8192) (k : Fin 512), G (ix2 r k) = ((A.dmix r k : ℝ) : EReal)) :
    (dats m 0 c).arrAt 10 cfg0.N = G := by
  have hN : grid0.N = 16 := N_0
  refine (dats m 0 c).arrAt_eq_of_covers 10 _ (by decide +kernel) fun t hf y => ?_
  have ht : t.val < grid0.N := t.isLt
  blk_simp
  rw [after0_10]
  idx_vars y
  refine ((Fold.left hH t.val t.isLt).da y0 y1).trans ?_
  refine (hG ⟨512 * t.val + y0, by omega⟩ y1).symm.trans ?_
  blk_ext [idx t]

include hH in
/-- The second mixer's output gradient. -/
theorem final_11 (G : Vec Ideal S8192x512 .f32) (hG : ∀ (r : Fin 8192) (k : Fin 512), G (ix2 r k) = ((A.dmix r (512 + k) : ℝ) : EReal)) :
    (dats m 0 c).arrAt 11 cfg0.N = G := by
  have hN : grid0.N = 16 := N_0
  refine (dats m 0 c).arrAt_eq_of_covers 11 _ (by decide +kernel) fun t hf y => ?_
  have ht : t.val < grid0.N := t.isLt
  blk_simp
  rw [after0_11]
  idx_vars y
  refine ((Fold.left hH t.val t.isLt).db y0 y1).trans ?_
  refine (hG ⟨512 * t.val + y0, by omega⟩ y1).symm.trans ?_
  blk_ext [idx t]

include hH in
/-- The gradient the layer below carries on with. -/
theorem final_12 (G : Vec Ideal S8192x1024 .f32) (hG : ∀ (r : Fin 8192) (k : Fin 1024), G (ix2 r k) = ((A.dh1 r k : ℝ) : EReal)) :
    (dats m 0 c).arrAt 12 cfg0.N = G := by
  have hN : grid0.N = 16 := N_0
  refine (dats m 0 c).arrAt_eq_of_covers 12 _ (by decide +kernel) fun t hf y => ?_
  have ht : t.val < grid0.N := t.isLt
  blk_simp
  rw [after0_12]
  idx_vars y
  refine ((Fold.left hH t.val t.isLt).dh1 y0 y1).trans ?_
  refine (hG ⟨512 * t.val + y0, by omega⟩ y1).symm.trans ?_
  blk_ext [idx t]

include hH in
/-- The embedding norm's gain gradient. -/
theorem final_13 (G : Vec Ideal S1x1024 .f32) (hG : ∀ k : Fin 1024, G (ix2 0 k) = ((∑ r : Fin 8192, A.gp r k : ℝ) : EReal)) :
    (dats m 0 c).arrAt 13 cfg0.N = G := by
  have hN : grid0.N = 16 := N_0
  refine (dats m 0 c).arrAt_eq_of_covers 13 _ (by decide +kernel) fun t hf y => ?_
  have hl : t.val < grid0.N := t.isLt
  have ht : t.val = 15 := by have := (flush0_13 t).mp hf; omega
  blk_simp
  rw [after0_13]
  idx_vars y
  have e : (G (ix2 y0 y1)) = G ((win0_13.blk t).view.emb (ix2 y0 y1)) := by blk_ext [idx t]
  refine Eq.trans ?_ e
  have z : y0 = 0 := Subsingleton.elim _ _
  subst z
  refine ((Fold.left hH t.val t.isLt).dpg y1).trans (Eq.trans (congrArg Real.toEReal ?_) (hG y1).symm)
  rw [ht, Finset.sum_range (n := 15 + 1)]
  exact sum_runs 16 512 fun r => A.gp r y1

include hH in
/-- The final norm's gain gradient. -/
theorem final_14 (G : Vec Ideal S1x1024 .f32) (hG : ∀ k : Fin 1024, G (ix2 0 k) = ((∑ r : Fin 8192, A.gf r k : ℝ) : EReal)) :
    (dats m 0 c).arrAt 14 cfg0.N = G := by
  have hN : grid0.N = 16 := N_0
  refine (dats m 0 c).arrAt_eq_of_covers 14 _ (by decide +kernel) fun t hf y => ?_
  have hl : t.val < grid0.N := t.isLt
  have ht : t.val = 15 := by have := (flush0_14 t).mp hf; omega
  blk_simp
  rw [after0_14]
  idx_vars y
  have e : (G (ix2 y0 y1)) = G ((win0_14.blk t).view.emb (ix2 y0 y1)) := by blk_ext [idx t]
  refine Eq.trans ?_ e
  have z : y0 = 0 := Subsingleton.elim _ _
  subst z
  refine ((Fold.left hH t.val t.isLt).dfg y1).trans (Eq.trans (congrArg Real.toEReal ?_) (hG y1).symm)
  rw [ht, Finset.sum_range (n := 15 + 1)]
  exact sum_runs 16 512 fun r => A.gf r y1

include hH in
/-- The sum of the squared errors, in every place of its tile. -/
theorem final_15 (G : Vec Ideal S8x128 .f32) (hG : ∀ (u : Fin 8) (j : Fin 128), G (ix2 u j) = ((∑ r : Fin 8192, A.sq r : ℝ) : EReal)) :
    (dats m 0 c).arrAt 15 cfg0.N = G := by
  have hN : grid0.N = 16 := N_0
  refine (dats m 0 c).arrAt_eq_of_covers 15 _ (by decide +kernel) fun t hf y => ?_
  have hl : t.val < grid0.N := t.isLt
  have ht : t.val = 15 := by have := (flush0_15 t).mp hf; omega
  blk_simp
  rw [after0_15]
  idx_vars y
  have e : (G (ix2 y0 y1)) = G ((win0_15.blk t).view.emb (ix2 y0 y1)) := by blk_ext [idx t]
  refine Eq.trans ?_ e
  refine ((Fold.left hH t.val t.isLt).sq y0 y1).trans (Eq.trans (congrArg Real.toEReal ?_) (hG y0 y1).symm)
  rw [ht, Finset.sum_range (n := 15 + 1)]
  exact sum_runs 16 512 fun r => A.sq r

end Cert.Head.Final

end
-- ==== Proof.HeadRef.lean ====
/-
  The head's reference on real numbers: every array it returns holds the head's gradients of the arguments' numbers.
-/
module

public import proofs.«01_k».proof.Proof.HeadAgree
public import proofs.«01_k».proof.Proof.RefRows
public import proofs.«01_k».proof.Proof.Gen.Reference2Ideal.Read

@[expose] public section

set_option maxRecDepth 16384

noncomputable section

open Idealize.ShloMosaic Cert.Reals Cert.Layer Cert.HostSums Cert.Reference2Ideal Cert.Reference2Ideal.Read

namespace Cert.Head.Ref

open Cert.Head

variable {A : Args} {x0 : FVec Ideal ⟨2, ![8192, 512]⟩ .bf16} {x1 : FVec Ideal ⟨3, ![2, 4096, 512]⟩ .bf16} {x2 : FVec Ideal ⟨3, ![2, 4096, 1024]⟩ .f32} {x3 : FVec Ideal ⟨4, ![1, 2, 4096, 256]⟩ .f32} {x4 : FVec Ideal ⟨3, ![2, 4096, 1024]⟩ .f32} {x5 : FVec Ideal ⟨3, ![1, 1024, 1024]⟩ .f32} {x6 : FVec Ideal ⟨3, ![1, 1024, 1024]⟩ .f32} {x7 : FVec Ideal ⟨3, ![1, 256, 1024]⟩ .f32} {x8 : FVec Ideal ⟨2, ![1, 1024]⟩ .f32} {x9 : FVec Ideal ⟨1, ![1024]⟩ .f32}
  (h : Agrees A x0 x1 x2 x3 x4 x5 x6 x7 x8 x9)

include h

/-- The mixers' outputs side by side. -/
theorem v3 (s : Fin 2) (i : Fin 4096) (k : Fin 1024) :
    val_main_v3 (F := Ideal) x0 x1 (ix3 s i k) = ((A.mix (4096 * s + i) k : ℝ) : EReal) := by
  pointwise [val_main_v3, val_main_v1, val_main_v0, val_main_v2, h.a, h.b]
  unfold Args.mix
  by_cases hk : (k : ℕ) < 512
  · simp only [hk, ↓reduceDIte, ↓reduceIte]
    first | rfl | (rw [Nat.mul_comm (s : ℕ)])
  · simp only [hk, ↓reduceDIte, ↓reduceIte]
    first | rfl | skip

/-- The first residual row. -/
theorem v6 (s : Fin 2) (i : Fin 4096) (k : Fin 1024) :
    val_main_v6 (F := Ideal) x0 x1 x2 x5 (ix3 s i k) = ((A.h1 (4096 * s + i) k : ℝ) : EReal) := by
  pointwise [val_main_v6, val_main_v5, val_main_v4, v3 h, h.wo, h.x]
  simp only [add_real, mul_real, sub_real, neg_real, sum_real, exp_real, bits_eps, bits_1024, bits_2048, bits_two, bits_half, bits_neg_half, bits_one, one_real, zero_real, zero_add, div_1024]
  rfl

/-- Its squares' sum. -/
theorem v9 (s : Fin 2) (i : Fin 4096) :
    val_main_v9 (F := Ideal) x0 x1 x2 x5 (ix2 s i) = ((∑ k : Fin 1024, A.h1 (4096 * s + i) k * A.h1 (4096 * s + i) k : ℝ) : EReal) := by
  pointwise [val_main_v9, val_main_v8, val_main_cst, v6 h]
  simp only [add_real, mul_real, sub_real, neg_real, sum_real, exp_real, bits_eps, bits_1024, bits_2048, bits_two, bits_half, bits_neg_half, bits_one, one_real, zero_real, zero_add, div_1024]

/-- Its mean square. -/
theorem v14 (s : Fin 2) (i : Fin 4096) :
    val_main_v14 (F := Ideal) x0 x1 x2 x5 (ix3 s i 0) = ((A.ms1 (4096 * s + i) : ℝ) : EReal) := by
  pointwise [val_main_v14, val_main_v12, val_main_v10, val_main_v11, val_main_cst_0, val_main_v13, val_main_cst_1, v9 h]
  simp only [add_real, mul_real, sub_real, neg_real, sum_real, exp_real, bits_eps, bits_1024, bits_2048, bits_two, bits_half, bits_neg_half, bits_one, one_real, zero_real, zero_add, div_1024]
  rfl

/-- Its reciprocal root. -/
theorem v15 (s : Fin 2) (i : Fin 4096) :
    val_main_v15 (F := Ideal) x0 x1 x2 x5 (ix3 s i 0) = ((A.inv1 (4096 * s + i) : ℝ) : EReal) := by
  pointwise [val_main_v15, v14 h]
  rw [rsqrt_real _ (A.ms1_pos _)]
  rfl

/-- The root's slope. -/
theorem v18 (s : Fin 2) (i : Fin 4096) :
    val_main_v18 (F := Ideal) x0 x1 x2 x5 (ix3 s i 0) = ((-(1 / 2) * (A.inv1 (4096 * s + i) / A.ms1 (4096 * s + i)) : ℝ) : EReal) := by
  pointwise [val_main_v18, val_main_v17, val_main_cst_2, val_main_v16, v15 h, v14 h]
  simp only [add_real, mul_real, sub_real, neg_real, sum_real, exp_real, bits_eps, bits_1024, bits_2048, bits_two, bits_half, bits_neg_half, bits_one, one_real, zero_real, zero_add, div_1024]
  rw [div_real _ _ (A.ms1_pos _).ne']
  simp only [add_real, mul_real, sub_real, neg_real, sum_real, exp_real, bits_eps, bits_1024, bits_2048, bits_two, bits_half, bits_neg_half, bits_one, one_real, zero_real, zero_add, div_1024]

/-- The normalised row. -/
theorem v20 (s : Fin 2) (i : Fin 4096) (k : Fin 1024) :
    val_main_v20 (F := Ideal) x0 x1 x2 x5 (ix3 s i k) = ((A.n1 (4096 * s + i) k : ℝ) : EReal) := by
  pointwise [val_main_v20, val_main_v19, v6 h, v15 h]
  simp only [add_real, mul_real, sub_real, neg_real, sum_real, exp_real, bits_eps, bits_1024, bits_2048, bits_two, bits_half, bits_neg_half, bits_one, one_real, zero_real, zero_add, div_1024]
  rfl

/-- The scaled normalised row. -/
theorem v23 (s : Fin 2) (i : Fin 4096) (k : Fin 1024) :
    val_main_v23 (F := Ideal) x0 x1 x2 x5 x8 (ix3 s i k) = ((A.rn (4096 * s + i) k : ℝ) : EReal) := by
  pointwise [val_main_v23, val_main_v22, val_main_v21, val_main_v7, v20 h, h.pg]
  simp only [add_real, mul_real, sub_real, neg_real, sum_real, exp_real, bits_eps, bits_1024, bits_2048, bits_two, bits_half, bits_neg_half, bits_one, one_real, zero_real, zero_add, div_1024]
  rfl

/-- The gate's argument. -/
theorem v25 (s : Fin 2) (i : Fin 4096) (k : Fin 1024) :
    val_main_v25 (F := Ideal) x0 x1 x2 x5 x6 x8 (ix3 s i k) = ((A.gl (4096 * s + i) k : ℝ) : EReal) := by
  pointwise [val_main_v25, val_main_v24, v23 h, h.wg]
  simp only [add_real, mul_real, sub_real, neg_real, sum_real, exp_real, bits_eps, bits_1024, bits_2048, bits_two, bits_half, bits_neg_half, bits_one, one_real, zero_real, zero_add, div_1024]
  rfl

/-- The gate. -/
theorem v31 (s : Fin 2) (i : Fin 4096) (k : Fin 1024) :
    val_main_v31 (F := Ideal) x0 x1 x2 x5 x6 x8 (ix3 s i k) = ((A.gate (4096 * s + i) k : ℝ) : EReal) := by
  pointwise [val_main_v31, val_main_v30, val_main_cst_4, val_main_v29, val_main_v28, val_main_cst_3, val_main_v27, val_main_v26, v25 h]
  simp only [add_real, mul_real, sub_real, neg_real, sum_real, exp_real, bits_eps, bits_1024, bits_2048, bits_two, bits_half, bits_neg_half, bits_one, one_real, zero_real, zero_add, div_1024]
  rw [div_real _ _ (add_pos one_pos (Real.exp_pos _)).ne']
  rfl

/-- The gate's slope. -/
theorem v34 (s : Fin 2) (i : Fin 4096) (k : Fin 1024) :
    val_main_v34 (F := Ideal) x0 x1 x2 x5 x6 x8 (ix3 s i k) = ((A.gate (4096 * s + i) k * (1 - A.gate (4096 * s + i) k) : ℝ) : EReal) := by
  pointwise [val_main_v34, val_main_v33, val_main_v32, val_main_cst_5, v31 h]
  simp only [add_real, mul_real, sub_real, neg_real, sum_real, exp_real, bits_eps, bits_1024, bits_2048, bits_two, bits_half, bits_neg_half, bits_one, one_real, zero_real, zero_add, div_1024]

/-- The projected embedding. -/
theorem v37 (s : Fin 2) (i : Fin 4096) (k : Fin 1024) :
    val_main_v37 (F := Ideal) x3 x7 (ix3 s i k) = ((A.pp (4096 * s + i) k : ℝ) : EReal) := by
  pointwise [val_main_v37, val_main_v35, val_main_v36, h.p, h.wp]
  simp only [add_real, mul_real, sub_real, neg_real, sum_real, exp_real, bits_eps, bits_1024, bits_2048, bits_two, bits_half, bits_neg_half, bits_one, one_real, zero_real, zero_add, div_1024]
  rfl

/-- The second residual row. -/
theorem v39 (s : Fin 2) (i : Fin 4096) (k : Fin 1024) :
    val_main_v39 (F := Ideal) x0 x1 x2 x3 x5 x6 x7 x8 (ix3 s i k) = ((A.h2 (4096 * s + i) k : ℝ) : EReal) := by
  pointwise [val_main_v39, val_main_v38, v6 h, v31 h, v37 h]
  simp only [add_real, mul_real, sub_real, neg_real, sum_real, exp_real, bits_eps, bits_1024, bits_2048, bits_two, bits_half, bits_neg_half, bits_one, one_real, zero_real, zero_add, div_1024]
  rfl

/-- Its squares' sum. -/
theorem v41 (s : Fin 2) (i : Fin 4096) :
    val_main_v41 (F := Ideal) x0 x1 x2 x3 x5 x6 x7 x8 (ix2 s i) = ((∑ k : Fin 1024, A.h2 (4096 * s + i) k * A.h2 (4096 * s + i) k : ℝ) : EReal) := by
  pointwise [val_main_v41, val_main_v40, val_main_cst_6, v39 h]
  simp only [add_real, mul_real, sub_real, neg_real, sum_real, exp_real, bits_eps, bits_1024, bits_2048, bits_two, bits_half, bits_neg_half, bits_one, one_real, zero_real, zero_add, div_1024]

/-- Its mean square. -/
theorem v46 (s : Fin 2) (i : Fin 4096) :
    val_main_v46 (F := Ideal) x0 x1 x2 x3 x5 x6 x7 x8 (ix3 s i 0) = ((A.ms2 (4096 * s + i) : ℝ) : EReal) := by
  pointwise [val_main_v46, val_main_v44, val_main_v42, val_main_v43, val_main_cst_7, val_main_v45, val_main_cst_8, v41 h]
  simp only [add_real, mul_real, sub_real, neg_real, sum_real, exp_real, bits_eps, bits_1024, bits_2048, bits_two, bits_half, bits_neg_half, bits_one, one_real, zero_real, zero_add, div_1024]
  rfl

/-- Its reciprocal root. -/
theorem v47 (s : Fin 2) (i : Fin 4096) :
    val_main_v47 (F := Ideal) x0 x1 x2 x3 x5 x6 x7 x8 (ix3 s i 0) = ((A.inv2 (4096 * s + i) : ℝ) : EReal) := by
  pointwise [val_main_v47, v46 h]
  rw [rsqrt_real _ (A.ms2_pos _)]
  rfl

/-- The root's slope. -/
theorem v50 (s : Fin 2) (i : Fin 4096) :
    val_main_v50 (F := Ideal) x0 x1 x2 x3 x5 x6 x7 x8 (ix3 s i 0) = ((-(1 / 2) * (A.inv2 (4096 * s + i) / A.ms2 (4096 * s + i)) : ℝ) : EReal) := by
  pointwise [val_main_v50, val_main_v49, val_main_cst_9, val_main_v48, v47 h, v46 h]
  simp only [add_real, mul_real, sub_real, neg_real, sum_real, exp_real, bits_eps, bits_1024, bits_2048, bits_two, bits_half, bits_neg_half, bits_one, one_real, zero_real, zero_add, div_1024]
  rw [div_real _ _ (A.ms2_pos _).ne']
  simp only [add_real, mul_real, sub_real, neg_real, sum_real, exp_real, bits_eps, bits_1024, bits_2048, bits_two, bits_half, bits_neg_half, bits_one, one_real, zero_real, zero_add, div_1024]

/-- The normalised row. -/
theorem v52 (s : Fin 2) (i : Fin 4096) (k : Fin 1024) :
    val_main_v52 (F := Ideal) x0 x1 x2 x3 x5 x6 x7 x8 (ix3 s i k) = ((A.n2 (4096 * s + i) k : ℝ) : EReal) := by
  pointwise [val_main_v52, val_main_v51, v39 h, v47 h]
  simp only [add_real, mul_real, sub_real, neg_real, sum_real, exp_real, bits_eps, bits_1024, bits_2048, bits_two, bits_half, bits_neg_half, bits_one, one_real, zero_real, zero_add, div_1024]
  rfl

/-- The error. -/
theorem v56 (s : Fin 2) (i : Fin 4096) (k : Fin 1024) :
    val_main_v56 (F := Ideal) x0 x1 x2 x3 x4 x5 x6 x7 x8 x9 (ix3 s i k) = ((A.err (4096 * s + i) k : ℝ) : EReal) := by
  pointwise [val_main_v56, val_main_v55, val_main_v54, val_main_v53, v52 h, h.fg, h.y]
  simp only [add_real, mul_real, sub_real, neg_real, sum_real, exp_real, bits_eps, bits_1024, bits_2048, bits_two, bits_half, bits_neg_half, bits_one, one_real, zero_real, zero_add, div_1024]
  rfl

/-- A row's squared error. -/
theorem v60 (s : Fin 2) (i : Fin 4096) :
    val_main_v60 (F := Ideal) x0 x1 x2 x3 x4 x5 x6 x7 x8 x9 (ix2 s i) = ((A.sq (4096 * s + i) : ℝ) : EReal) := by
  pointwise [val_main_v60, val_main_v57, val_main_cst_11, v56 h]
  simp only [add_real, mul_real, sub_real, neg_real, sum_real, exp_real, bits_eps, bits_1024, bits_2048, bits_two, bits_half, bits_neg_half, bits_one, one_real, zero_real, zero_add, div_1024]
  rfl

/-- The mean squared errors' sum. -/
theorem v63 (z : S_.Idx) :
    val_main_v63 (F := Ideal) x0 x1 x2 x3 x4 x5 x6 x7 x8 x9 (z) = ((∑ r : Fin 8192, A.sq r / 1024 : ℝ) : EReal) := by
  pointwise [val_main_v63, val_main_v62, val_main_v61, val_main_cst_12, val_main_cst_13, v60 h]
  simp only [add_real, mul_real, sub_real, neg_real, sum_real, exp_real, bits_eps, bits_1024, bits_2048, bits_two, bits_half, bits_neg_half, bits_one, one_real, zero_real, zero_add, div_1024]
  exact congrArg Real.toEReal (sum_seqs fun r => A.sq r / 1024)

/-- The loss as the program returns it. -/
theorem v124 (u : Fin 8) (j : Fin 128) :
    val_main_v124 (F := Ideal) x0 x1 x2 x3 x4 x5 x6 x7 x8 x9 (ix2 u j) = ((∑ r : Fin 8192, A.sq r : ℝ) : EReal) := by
  pointwise [val_main_v124, val_main_v123, val_main_v64, val_main_cst_14, val_main_cst_28, v63 h]
  simp only [add_real, mul_real, sub_real, neg_real, sum_real, exp_real, bits_eps, bits_1024, bits_2048, bits_two, bits_half, bits_neg_half, bits_one, one_real, zero_real, zero_add, div_1024]
  refine congrArg Real.toEReal ?_
  rw [← Finset.sum_div]
  ring

/-- The output's gradient. -/
theorem v70 (s : Fin 2) (i : Fin 4096) (k : Fin 1024) :
    val_main_v70 (F := Ideal) x0 x1 x2 x3 x4 x5 x6 x7 x8 x9 (ix3 s i k) = ((A.dy (4096 * s + i) k : ℝ) : EReal) := by
  pointwise [val_main_v70, val_main_v69, val_main_v68, val_main_v66, val_main_v65, val_main_cst_15, val_main_cst_16, val_main_v67, val_main_cst_17, val_main_v59, val_main_v58, val_main_cst_10, v56 h]
  simp only [add_real, mul_real, sub_real, neg_real, sum_real, exp_real, bits_eps, bits_1024, bits_2048, bits_two, bits_half, bits_neg_half, bits_one, one_real, zero_real, zero_add, div_1024]
  refine congrArg Real.toEReal ?_
  unfold Args.dy
  ring

/-- The final scale's gradient. -/
theorem v72 (k : Fin 1024) :
    val_main_v72 (F := Ideal) x0 x1 x2 x3 x4 x5 x6 x7 x8 x9 (ix1 k) = ((∑ r : Fin 8192, A.gf r k : ℝ) : EReal) := by
  pointwise [val_main_v72, val_main_cst_18]
  refine (sum_r3_a01 _ _ _ k).trans ?_
  pointwise [val_main_v71, v52 h, v70 h]
  simp only [add_real, mul_real, sub_real, neg_real, sum_real, exp_real, bits_eps, bits_1024, bits_2048, bits_two, bits_half, bits_neg_half, bits_one, one_real, zero_real, zero_add, div_1024]
  refine congrArg Real.toEReal (Eq.trans ?_ (sum_seqs fun r => A.gf r k))
  exact Finset.sum_congr rfl fun s _ => Finset.sum_congr rfl fun i _ => mul_comm _ _

/-- The same, after a sum over axes of one element. -/
theorem v76 (k : Fin 1024) :
    val_main_v76 (F := Ideal) x0 x1 x2 x3 x4 x5 x6 x7 x8 x9 (ix1 k) = ((∑ r : Fin 8192, A.gf r k : ℝ) : EReal) := by
  pointwise [val_main_v76, val_main_cst_19]
  refine (sum_r3_a01 _ _ _ k).trans ?_
  pointwise [val_main_v73, v72 h]
  simp only [add_real, mul_real, sub_real, neg_real, sum_real, exp_real, bits_eps, bits_1024, bits_2048, bits_two, bits_half, bits_neg_half, bits_one, one_real, zero_real, zero_add, div_1024]
  simp only [Fin.sum_univ_one]

/-- The same, as the program returns it. -/
theorem v122 (k : Fin 1024) :
    val_main_v122 (F := Ideal) x0 x1 x2 x3 x4 x5 x6 x7 x8 x9 (ix2 0 k) = ((∑ r : Fin 8192, A.gf r k : ℝ) : EReal) := by
  pointwise [val_main_v122, v76 h]

/-- The normalised row's gradient. -/
theorem v75 (s : Fin 2) (i : Fin 4096) (k : Fin 1024) :
    val_main_v75 (F := Ideal) x0 x1 x2 x3 x4 x5 x6 x7 x8 x9 (ix3 s i k) = ((A.dn2 (4096 * s + i) k : ℝ) : EReal) := by
  pointwise [val_main_v75, val_main_v74, val_main_v53, v70 h, h.fg]
  simp only [add_real, mul_real, sub_real, neg_real, sum_real, exp_real, bits_eps, bits_1024, bits_2048, bits_two, bits_half, bits_neg_half, bits_one, one_real, zero_real, zero_add, div_1024]
  rfl

/-- The gradient along the row. -/
theorem v78 (s : Fin 2) (i : Fin 4096) :
    val_main_v78 (F := Ideal) x0 x1 x2 x3 x4 x5 x6 x7 x8 x9 (ix2 s i) = ((∑ k : Fin 1024, A.h2 (4096 * s + i) k * A.dn2 (4096 * s + i) k : ℝ) : EReal) := by
  pointwise [val_main_v78, val_main_v77, val_main_cst_20, v39 h, v75 h]
  simp only [add_real, mul_real, sub_real, neg_real, sum_real, exp_real, bits_eps, bits_1024, bits_2048, bits_two, bits_half, bits_neg_half, bits_one, one_real, zero_real, zero_add, div_1024]

/-- The second residual row's gradient. -/
theorem v90 (s : Fin 2) (i : Fin 4096) (k : Fin 1024) :
    val_main_v90 (F := Ideal) x0 x1 x2 x3 x4 x5 x6 x7 x8 x9 (ix3 s i k) = ((A.dh2 (4096 * s + i) k : ℝ) : EReal) := by
  pointwise [val_main_v90, val_main_v88, val_main_v81, val_main_v80, val_main_v87, val_main_v86, val_main_v85, val_main_v84, val_main_v82, val_main_v79, val_main_v83, val_main_cst_21, val_main_cst_22, val_main_v89, v75 h, v47 h, v39 h, v78 h, v50 h]
  simp only [add_real, mul_real, sub_real, neg_real, sum_real, exp_real, bits_eps, bits_1024, bits_2048, bits_two, bits_half, bits_neg_half, bits_one, one_real, zero_real, zero_add, div_1024]
  simp only [Fin.sum_univ_one, v78 h, v50 h, v47 h]
  simp only [add_real, mul_real, sub_real, neg_real, sum_real, exp_real, bits_eps, bits_1024, bits_2048, bits_two, bits_half, bits_neg_half, bits_one, one_real, zero_real, zero_add, div_1024]
  refine congrArg Real.toEReal (Eq.trans ?_ ((rms_bwd (fun l => A.h2 (4096 * s + i) l) (fun l => A.dn2 (4096 * s + i) l) 0 _ (A.ms2_pos _) k).trans (zero_add _)))
  rw [zero_add]
  rfl

/-- The gate's argument's gradient. -/
theorem v92 (s : Fin 2) (i : Fin 4096) (k : Fin 1024) :
    val_main_v92 (F := Ideal) x0 x1 x2 x3 x4 x5 x6 x7 x8 x9 (ix3 s i k) = ((A.dgl (4096 * s + i) k : ℝ) : EReal) := by
  pointwise [val_main_v92, val_main_v91, v90 h, v37 h, v34 h]
  simp only [add_real, mul_real, sub_real, neg_real, sum_real, exp_real, bits_eps, bits_1024, bits_2048, bits_two, bits_half, bits_neg_half, bits_one, one_real, zero_real, zero_add, div_1024]
  rfl

/-- The scaled normalised row's gradient. -/
theorem v93 (s : Fin 2) (i : Fin 4096) (k : Fin 1024) :
    val_main_v93 (F := Ideal) x0 x1 x2 x3 x4 x5 x6 x7 x8 x9 (ix3 s i k) = ((A.drn (4096 * s + i) k : ℝ) : EReal) := by
  pointwise [val_main_v93, val_main_v24, v92 h, h.wg]
  simp only [add_real, mul_real, sub_real, neg_real, sum_real, exp_real, bits_eps, bits_1024, bits_2048, bits_two, bits_half, bits_neg_half, bits_one, one_real, zero_real, zero_add, div_1024]
  rfl

/-- The first scale's gradient. -/
theorem v95 (k : Fin 1024) :
    val_main_v95 (F := Ideal) x0 x1 x2 x3 x4 x5 x6 x7 x8 x9 (ix1 k) = ((∑ r : Fin 8192, A.gp r k : ℝ) : EReal) := by
  pointwise [val_main_v95, val_main_cst_23]
  refine (sum_r3_a01 _ _ _ k).trans ?_
  pointwise [val_main_v94, v20 h, v93 h]
  simp only [add_real, mul_real, sub_real, neg_real, sum_real, exp_real, bits_eps, bits_1024, bits_2048, bits_two, bits_half, bits_neg_half, bits_one, one_real, zero_real, zero_add, div_1024]
  refine congrArg Real.toEReal (Eq.trans ?_ (sum_seqs fun r => A.gp r k))
  exact Finset.sum_congr rfl fun s _ => Finset.sum_congr rfl fun i _ => mul_comm _ _

/-- The same, after a sum over axes of one element. -/
theorem v99 (k : Fin 1024) :
    val_main_v99 (F := Ideal) x0 x1 x2 x3 x4 x5 x6 x7 x8 x9 (ix1 k) = ((∑ r : Fin 8192, A.gp r k : ℝ) : EReal) := by
  pointwise [val_main_v99, val_main_cst_24]
  refine (sum_r3_a01 _ _ _ k).trans ?_
  pointwise [val_main_v96, v95 h]
  simp only [add_real, mul_real, sub_real, neg_real, sum_real, exp_real, bits_eps, bits_1024, bits_2048, bits_two, bits_half, bits_neg_half, bits_one, one_real, zero_real, zero_add, div_1024]
  simp only [Fin.sum_univ_one]

/-- The same, as the program returns it. -/
theorem v115 (k : Fin 1024) :
    val_main_v115 (F := Ideal) x0 x1 x2 x3 x4 x5 x6 x7 x8 x9 (ix2 0 k) = ((∑ r : Fin 8192, A.gp r k : ℝ) : EReal) := by
  pointwise [val_main_v115, v99 h]

/-- The normalised row's gradient. -/
theorem v98 (s : Fin 2) (i : Fin 4096) (k : Fin 1024) :
    val_main_v98 (F := Ideal) x0 x1 x2 x3 x4 x5 x6 x7 x8 x9 (ix3 s i k) = ((A.dn1 (4096 * s + i) k : ℝ) : EReal) := by
  pointwise [val_main_v98, val_main_v97, val_main_v21, val_main_v7, v93 h, h.pg]
  simp only [add_real, mul_real, sub_real, neg_real, sum_real, exp_real, bits_eps, bits_1024, bits_2048, bits_two, bits_half, bits_neg_half, bits_one, one_real, zero_real, zero_add, div_1024]
  rfl

/-- The gradient along the row. -/
theorem v101 (s : Fin 2) (i : Fin 4096) :
    val_main_v101 (F := Ideal) x0 x1 x2 x3 x4 x5 x6 x7 x8 x9 (ix2 s i) = ((∑ k : Fin 1024, A.h1 (4096 * s + i) k * A.dn1 (4096 * s + i) k : ℝ) : EReal) := by
  pointwise [val_main_v101, val_main_v100, val_main_cst_25, v6 h, v98 h]
  simp only [add_real, mul_real, sub_real, neg_real, sum_real, exp_real, bits_eps, bits_1024, bits_2048, bits_two, bits_half, bits_neg_half, bits_one, one_real, zero_real, zero_add, div_1024]

/-- The first residual row's gradient. -/
theorem v114 (s : Fin 2) (i : Fin 4096) (k : Fin 1024) :
    val_main_v114 (F := Ideal) x0 x1 x2 x3 x4 x5 x6 x7 x8 x9 (ix3 s i k) = ((A.dh1 (4096 * s + i) k : ℝ) : EReal) := by
  pointwise [val_main_v114, val_main_v112, val_main_v105, val_main_v104, val_main_v103, val_main_v111, val_main_v110, val_main_v109, val_main_v108, val_main_v106, val_main_v102, val_main_v107, val_main_cst_26, val_main_cst_27, val_main_v113, v90 h, v98 h, v15 h, v6 h, v101 h, v18 h]
  simp only [add_real, mul_real, sub_real, neg_real, sum_real, exp_real, bits_eps, bits_1024, bits_2048, bits_two, bits_half, bits_neg_half, bits_one, one_real, zero_real, zero_add, div_1024]
  simp only [Fin.sum_univ_one, v101 h, v18 h, v15 h]
  simp only [add_real, mul_real, sub_real, neg_real, sum_real, exp_real, bits_eps, bits_1024, bits_2048, bits_two, bits_half, bits_neg_half, bits_one, one_real, zero_real, zero_add, div_1024]
  exact congrArg Real.toEReal (rms_bwd (fun l => A.h1 (4096 * s + i) l) (fun l => A.dn1 (4096 * s + i) l) (A.dh2 (4096 * s + i) k) _ (A.ms1_pos _) k)

/-- The mixers' outputs' gradient. -/
theorem v116 (s : Fin 2) (i : Fin 4096) (k : Fin 1024) :
    val_main_v116 (F := Ideal) x0 x1 x2 x3 x4 x5 x6 x7 x8 x9 (ix3 s i k) = ((A.dmix (4096 * s + i) k : ℝ) : EReal) := by
  pointwise [val_main_v116, val_main_v4, v114 h, h.wo]
  simp only [add_real, mul_real, sub_real, neg_real, sum_real, exp_real, bits_eps, bits_1024, bits_2048, bits_two, bits_half, bits_neg_half, bits_one, one_real, zero_real, zero_add, div_1024]
  rfl

/-- The first mixer's part, as rows. -/
theorem v119 (r : Fin 8192) (k : Fin 512) :
    val_main_v119 (F := Ideal) x0 x1 x2 x3 x4 x5 x6 x7 x8 x9 (ix2 r k) = ((A.dmix r k : ℝ) : EReal) := by
  pointwise [val_main_v119, val_main_v117, v116 h]
  rw [Nat.div_add_mod]

/-- The second mixer's part, as rows. -/
theorem v120 (r : Fin 8192) (k : Fin 512) :
    val_main_v120 (F := Ideal) x0 x1 x2 x3 x4 x5 x6 x7 x8 x9 (ix2 r k) = ((A.dmix r (512 + k) : ℝ) : EReal) := by
  pointwise [val_main_v120, val_main_v118, v116 h]
  rw [Nat.div_add_mod]

/-- The first residual row's gradient, as rows. -/
theorem v121 (r : Fin 8192) (k : Fin 1024) :
    val_main_v121 (F := Ideal) x0 x1 x2 x3 x4 x5 x6 x7 x8 x9 (ix2 r k) = ((A.dh1 r k : ℝ) : EReal) := by
  pointwise [val_main_v121, v114 h]
  rw [Nat.div_add_mod]

end Cert.Head.Ref

end
-- ==== Proof.Adam.lean ====
/-
  One step of the optimiser at one element, over the extended reals: the two moments and the weight's change.
-/
module

public import Idealize.ShloMosaic.PureOps.Ideal
public import Idealize.ShloMosaic.PureOps.Ideal.Laws

@[expose] public section

noncomputable section

open Idealize.ShloMosaic

namespace Cert.Adam

/-- The first moment after the step. -/
def first (g m : EReal) : EReal := Ideal.ofBits .f32 0x3F666666#32 * m + Ideal.ofBits .f32 0x3DCCCCCD#32 * g

/-- The second moment after the step. -/
def second (g v : EReal) : EReal := Ideal.ofBits .f32 0x3F7FBE77#32 * v + Ideal.ofBits .f32 0x3A83126F#32 * (g * g)

/-- The weight's change. -/
def change (w g m v : EReal) : EReal :=
  Ideal.ofBits .f32 0xBA83126F#32 *
    (Ideal.div (Ideal.div (first g m) (Ideal.ofBits .f32 1059503362#32))
        (Ideal.sqrt (Ideal.div (second g v) (Ideal.ofBits .f32 1008933580#32)) + Ideal.ofBits .f32 841731191#32)
      + Ideal.ofBits .f32 1008981770#32 * w)

end Cert.Adam

end
-- ==== Proof.StepIn.lean ====
/-
  The optimiser's call of the input projection: its four results, by rows of the transposed weight, are the reference's.
-/
module

public import proofs.«01_k».proof.Defs
public import proofs.«01_k».proof.Proof.Adam
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Cert.Adam Cert.Kernel3Ideal.Value Cert.Kernel3Ideal.Gen Cert.Kernel3Ideal Cert.Reference3Ideal.Read
open Idealize.ShloMosaic.Pipeline (Dat)

namespace Cert.StepIn

variable {m : (ℓ : Loc nD τ sig) → Buf (Elt Ideal) ℓ} {c : Dev nD}
  {x0 : FVec Ideal ⟨3, ![4, 449, 1024]⟩ .bf16} {x1 x2 x3 : FVec Ideal ⟨3, ![1, 1024, 449]⟩ .f32}

/-- The reference's gradient is the sum over the chips. -/
theorem ref_g (r : Fin 449) (k : Fin 1024) : val_main_v3 (F := Ideal) x0 (ix2 r k) = ∑ i, x0 (ix3 i r k) := by
  pointwise [val_main_v3, val_main_v2, val_main_cst]

/-- The reference's first moment. -/
theorem ref_m (r : Fin 449) (k : Fin 1024) :
    val_main_v12 (F := Ideal) x0 x2 (ix2 r k) = first (∑ i, x0 (ix3 i r k)) (x2 (ix3 0 k r)) := by
  pointwise [val_main_v12, val_main_v11, val_main_v10, val_main_v9, val_main_v8, val_main_v5, val_main_v4, val_main_cst_0, val_main_cst_1, ref_g]
  rfl

/-- The reference's second moment. -/
theorem ref_v (r : Fin 449) (k : Fin 1024) :
    val_main_v18 (F := Ideal) x0 x3 (ix2 r k) = second (∑ i, x0 (ix3 i r k)) (x3 (ix3 0 k r)) := by
  pointwise [val_main_v18, val_main_v17, val_main_v16, val_main_v15, val_main_v14, val_main_v13, val_main_v7, val_main_v6, val_main_cst_2, val_main_cst_3, ref_g]
  rfl

/-- The reference's change. -/
theorem ref_d (r : Fin 449) (k : Fin 1024) :
    val_main_v31 (F := Ideal) x0 x1 x2 x3 (ix2 r k)
      = change (x1 (ix3 0 k r)) (∑ i, x0 (ix3 i r k)) (x2 (ix3 0 k r)) (x3 (ix3 0 k r)) := by
  pointwise [val_main_v31, val_main_v30, val_main_v29, val_main_v28, val_main_v27, val_main_v26, val_main_v25, val_main_v24, val_main_v23, val_main_v22, val_main_v21, val_main_v20, val_main_v19, val_main_v1, val_main_v0, val_main_cst_4, val_main_cst_5, val_main_cst_6, val_main_cst_7, val_main_cst_8, ref_m, ref_v]
  rfl

/-- The windows' blocks: the two halves of the columns. -/
theorem idx : ∀ t : Fin cfg0.N, win0_0.index t = ![0, 0, t.val] ∧ win0_1.index t = ![0, t.val] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] :=
  (by decide +kernel : ∀ t : Fin grid0.N, _)

/-- The column of the whole array that a point's block has at a place. -/
def col (t : Fin cfg0.N) (k : Fin 512) : Fin 1024 :=
  ⟨512 * t.val + k, by have hN : grid0.N = 2 := N_0; have ht : t.val < grid0.N := t.isLt; omega⟩

theorem blk0 (h : m ((c : Thread nD τ).loc main_arg0) = x0) (t : Fin cfg0.N) (i : Fin 4) (r : Fin 449) (k : Fin 512) :
    (iblk m c 0 t : FVec Ideal ⟨3, ![4, 449, 512]⟩ .bf16) (ix3 i r k) = x0 (ix3 i r (col t k)) := by
  have hN : grid0.N = 2 := N_0
  have ht : t.val < grid0.N := t.isLt
  subst h
  rw [← V_main_arg0 m c]
  unfold col
  blk_ext [iblk, idx t]

/-- The weight, transposed by the host. -/
theorem rows1 (h : m ((c : Thread nD τ).loc main_arg1) = x1) (r : Fin 449) (k : Fin 1024) :
    (V m c main_v1 : FVec Ideal ⟨2, ![449, 1024]⟩ .f32) (ix2 r k) = x1 (ix3 0 k r) := by
  subst h
  simp only [V, hostOps0]
  entry_read
  pointwise []

theorem blk1 (h : m ((c : Thread nD τ).loc main_arg1) = x1) (t : Fin cfg0.N) (r : Fin 449) (k : Fin 512) :
    (iblk m c 1 t : FVec Ideal ⟨2, ![449, 512]⟩ .f32) (ix2 r k) = x1 (ix3 0 (col t k) r) := by
  have hN : grid0.N = 2 := N_0
  have ht : t.val < grid0.N := t.isLt
  refine Eq.trans ?_ (rows1 h r (col t k))
  unfold col
  blk_ext [iblk, idx t]

/-- The first moment, transposed by the host. -/
theorem rows2 (h : m ((c : Thread nD τ).loc main_arg2) = x2) (r : Fin 449) (k : Fin 1024) :
    (V m c main_v3 : FVec Ideal ⟨2, ![449, 1024]⟩ .f32) (ix2 r k) = x2 (ix3 0 k r) := by
  subst h
  simp only [V, hostOps0]
  entry_read
  pointwise []

theorem blk2 (h : m ((c : Thread nD τ).loc main_arg2) = x2) (t : Fin cfg0.N) (r : Fin 449) (k : Fin 512) :
    (iblk m c 2 t : FVec Ideal ⟨2, ![449, 512]⟩ .f32) (ix2 r k) = x2 (ix3 0 (col t k) r) := by
  have hN : grid0.N = 2 := N_0
  have ht : t.val < grid0.N := t.isLt
  refine Eq.trans ?_ (rows2 h r (col t k))
  unfold col
  blk_ext [iblk, idx t]

/-- The second moment, transposed by the host. -/
theorem rows3 (h : m ((c : Thread nD τ).loc main_arg3) = x3) (r : Fin 449) (k : Fin 1024) :
    (V m c main_v5 : FVec Ideal ⟨2, ![449, 1024]⟩ .f32) (ix2 r k) = x3 (ix3 0 k r) := by
  subst h
  simp only [V, hostOps0]
  entry_read
  pointwise []

theorem blk3 (h : m ((c : Thread nD τ).loc main_arg3) = x3) (t : Fin cfg0.N) (r : Fin 449) (k : Fin 512) :
    (iblk m c 3 t : FVec Ideal ⟨2, ![449, 512]⟩ .f32) (ix2 r k) = x3 (ix3 0 (col t k) r) := by
  have hN : grid0.N = 2 := N_0
  have ht : t.val < grid0.N := t.isLt
  refine Eq.trans ?_ (rows3 h r (col t k))
  unfold col
  blk_ext [iblk, idx t]

theorem zero2 : (![0, 0] : Fin 2 → Nat) = fun _ => 0 := funext fun a => by fin_cases a <;> rfl

/-- The four chips' part at one entry. -/
def chips (a0 a1 a2 a3 : FVec Ideal ⟨3, ![1, 449, 512]⟩ .bf16) (r : Fin 449) (k : Fin 512) : EReal :=
  a0 (ix3 0 r k) + a1 (ix3 0 r k) + a2 (ix3 0 r k) + a3 (ix3 0 r k)

section Point

variable (a0 a1 a2 a3 : FVec Ideal ⟨3, ![1, 449, 512]⟩ .bf16) (w m' v : FVec Ideal ⟨2, ![449, 512]⟩ .f32) (r : Fin 449) (k : Fin 512)

/-- A point's block of the gradient. -/
theorem ker_g : k0_pay2 (F := Ideal) a0 a1 a2 a3 (ix2 r k) = chips a0 a1 a2 a3 r k := by
  pointwise [k0_pay2]
  rfl

/-- A point's block of the first moment. -/
theorem ker_m : k0_pay3 (F := Ideal) a0 a1 a2 a3 m' (ix2 r k) = first (chips a0 a1 a2 a3 r k) (m' (ix2 r k)) := by
  pointwise [k0_pay3, ker_g]
  rfl

/-- A point's block of the second moment. -/
theorem ker_v : k0_pay4 (F := Ideal) a0 a1 a2 a3 v (ix2 r k) = second (chips a0 a1 a2 a3 r k) (v (ix2 r k)) := by
  pointwise [k0_pay4, ker_g]
  rfl

/-- A point's block of the change. -/
theorem ker_d : k0_pay1 (F := Ideal) (k0_pay5 a0 a1 a2 a3 m') (k0_pay6 a0 a1 a2 a3 v) w (ix2 r k)
    = change (w (ix2 r k)) (chips a0 a1 a2 a3 r k) (m' (ix2 r k)) (v (ix2 r k)) := by
  pointwise [k0_pay1, k0_pay5, k0_pay6, ker_m, ker_v]
  rfl

end Point

section Results

variable (h0 : m ((c : Thread nD τ).loc main_arg0) = x0) (h1 : m ((c : Thread nD τ).loc main_arg1) = x1)
  (h2 : m ((c : Thread nD τ).loc main_arg2) = x2) (h3 : m ((c : Thread nD τ).loc main_arg3) = x3)

include h0

theorem chips_eq (t : Fin cfg0.N) (r : Fin 449) (k : Fin 512) :
    chips (View.ld (iblk m c 0 t) r0_0) (View.ld (iblk m c 0 t) r0_1) (View.ld (iblk m c 0 t) r0_2) (View.ld (iblk m c 0 t) r0_3) r k
      = ∑ i, x0 (ix3 i r (col t k)) := by
  rw [Fin.sum_univ_four]
  pointwise [chips, blk0 h0]

/-- The gradient after the run. -/
theorem final_4 : (dats m 0 c).arrAt 4 cfg0.N = val_main_v3 (F := Ideal) x0 := by
  have hN : grid0.N = 2 := N_0
  refine (dats m 0 c).arrAt_eq_of_covers 4 _ (by decide +kernel) fun t hf y => ?_
  have ht : t.val < grid0.N := t.isLt
  blk_simp
  rw [after0_4]
  idx_vars y
  have e : (val_main_v3 (F := Ideal) x0) (ix2 y0 (col t y1)) = (val_main_v3 (F := Ideal) x0) ((win0_4.blk t).view.emb (ix2 y0 y1)) := by unfold col; blk_ext [idx t]
  refine Eq.trans ?_ e
  rw [ref_g]
  unfold out0_4
  rw [View.canon_unit_zero zero2]
  exact (ker_g _ _ _ _ y0 y1).trans (chips_eq h0 t y0 y1)

include h2 in
/-- The first moment after the run. -/
theorem final_6 : (dats m 0 c).arrAt 6 cfg0.N = val_main_v12 (F := Ideal) x0 x2 := by
  have hN : grid0.N = 2 := N_0
  refine (dats m 0 c).arrAt_eq_of_covers 6 _ (by decide +kernel) fun t hf y => ?_
  have ht : t.val < grid0.N := t.isLt
  blk_simp
  rw [after0_6]
  idx_vars y
  have e : (val_main_v12 (F := Ideal) x0 x2) (ix2 y0 (col t y1)) = (val_main_v12 (F := Ideal) x0 x2) ((win0_6.blk t).view.emb (ix2 y0 y1)) := by unfold col; blk_ext [idx t]
  refine Eq.trans ?_ e
  rw [ref_m]
  unfold out0_6
  rw [View.canon_unit_zero zero2]
  refine (ker_m _ _ _ _ _ y0 y1).trans ?_
  refine Eq.trans (congrArg (first · _) (chips_eq h0 t y0 y1)) ?_
  pointwise [blk2 h2]

include h3 in
/-- The second moment after the run. -/
theorem final_7 : (dats m 0 c).arrAt 7 cfg0.N = val_main_v18 (F := Ideal) x0 x3 := by
  have hN : grid0.N = 2 := N_0
  refine (dats m 0 c).arrAt_eq_of_covers 7 _ (by decide +kernel) fun t hf y => ?_
  have ht : t.val < grid0.N := t.isLt
  blk_simp
  rw [after0_7]
  idx_vars y
  have e : (val_main_v18 (F := Ideal) x0 x3) (ix2 y0 (col t y1)) = (val_main_v18 (F := Ideal) x0 x3) ((win0_7.blk t).view.emb (ix2 y0 y1)) := by unfold col; blk_ext [idx t]
  refine Eq.trans ?_ e
  rw [ref_v]
  unfold out0_7
  rw [View.canon_unit_zero zero2]
  refine (ker_v _ _ _ _ _ y0 y1).trans ?_
  refine Eq.trans (congrArg (second · _) (chips_eq h0 t y0 y1)) ?_
  pointwise [blk3 h3]

include h1 h2 h3 in
/-- The weight's change after the run. -/
theorem final_5 : (dats m 0 c).arrAt 5 cfg0.N = val_main_v31 (F := Ideal) x0 x1 x2 x3 := by
  have hN : grid0.N = 2 := N_0
  refine (dats m 0 c).arrAt_eq_of_covers 5 _ (by decide +kernel) fun t hf y => ?_
  have ht : t.val < grid0.N := t.isLt
  blk_simp
  rw [after0_5]
  idx_vars y
  have e : (val_main_v31 (F := Ideal) x0 x1 x2 x3) (ix2 y0 (col t y1)) = (val_main_v31 (F := Ideal) x0 x1 x2 x3) ((win0_5.blk t).view.emb (ix2 y0 y1)) := by unfold col; blk_ext [idx t]
  refine Eq.trans ?_ e
  rw [ref_d]
  unfold out0_5
  rw [View.canon_unit_zero zero2]
  refine (ker_d _ _ _ _ _ _ _ y0 y1).trans ?_
  refine Eq.trans (congrArg (change _ · _ _) (chips_eq h0 t y0 y1)) ?_
  pointwise [blk1 h1, blk2 h2, blk3 h3]

end Results

/-- The claim. -/
theorem value : algebraic_Kernel3Ideal_Reference3Ideal (hKernel3Ideal := Cert.Kernel3Ideal.Gen.facts) (hReference3Ideal := Cert.Reference3Ideal.Gen.facts) := by
  intro m ρ m' ρ' _ hagree
  refine ⟨_, _, _, _, Cert.Kernel3Ideal.Value.run_blocks m ρ,
    (θ_run Cert.Reference3Ideal.defs _ _).mono (fun r hr c => ?_) (Cert.Reference3Ideal.Value.run (F := Ideal) m' ρ')⟩
  obtain ⟨a0, a1, a2, a3⟩ := hagree c
  obtain ⟨r0, r1, r2, r3, rest⟩ := hr c
  exact ⟨r0.trans (final_4 a0.symm).symm, r1.trans (final_5 a0.symm a1.symm a2.symm a3.symm).symm,
    r2.trans (final_6 a0.symm a2.symm).symm, r3.trans (final_7 a0.symm a3.symm).symm, rest⟩

end Cert.StepIn

end
-- ==== Proof.StepOut.lean ====
/-
  The optimiser's call of the output projection (and of the gate's weight): its four results are the reference's.
-/
module

public import proofs.«01_k».proof.Defs
public import proofs.«01_k».proof.Proof.Adam
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pointwise

@[expose] public section

set_option maxRecDepth 16384

noncomputable section

open Idealize.ShloMosaic Idealize.ShloMosaic.TcCoe Idealize.SL.Sem Cert.Adam Cert.Reference4Ideal.Read Cert.Kernel4Ideal.Value Cert.Kernel4Ideal.Gen

namespace Cert.StepOut

variable (x0 : FVec Ideal ⟨3, ![8, 128, 1024]⟩ .bf16) (x1 x2 x3 : FVec Ideal ⟨3, ![1, 128, 1024]⟩ .f32)

/-- The reference's gradient is the sum over the devices. -/
theorem ref_g (j : Fin 128) (k : Fin 1024) : val_main_v2 (F := Ideal) x0 (ix3 0 j k) = ∑ i, x0 (ix3 i j k) := by
  pointwise [val_main_v2, val_main_v1, val_main_v0, val_main_cst]

/-- The reference's first moment. -/
theorem ref_m (j : Fin 128) (k : Fin 1024) :
    val_main_v7 (F := Ideal) x0 x2 (ix3 0 j k) = first (∑ i, x0 (ix3 i j k)) (x2 (ix3 0 j k)) := by
  pointwise [val_main_v7, val_main_v6, val_main_v5, val_main_v4, val_main_v3, val_main_cst_0, val_main_cst_1, ref_g]
  rfl

/-- The reference's second moment. -/
theorem ref_v (j : Fin 128) (k : Fin 1024) :
    val_main_v13 (F := Ideal) x0 x3 (ix3 0 j k) = second (∑ i, x0 (ix3 i j k)) (x3 (ix3 0 j k)) := by
  pointwise [val_main_v13, val_main_v12, val_main_v11, val_main_v10, val_main_v9, val_main_v8, val_main_cst_2, val_main_cst_3, ref_g]
  rfl

/-- The reference's change. -/
theorem ref_d (j : Fin 128) (k : Fin 1024) :
    val_main_v26 (F := Ideal) x0 x1 x2 x3 (ix3 0 j k)
      = change (x1 (ix3 0 j k)) (∑ i, x0 (ix3 i j k)) (x2 (ix3 0 j k)) (x3 (ix3 0 j k)) := by
  pointwise [val_main_v26, val_main_v25, val_main_v24, val_main_v23, val_main_v22, val_main_v21, val_main_v20, val_main_v19, val_main_v18, val_main_v17, val_main_v16, val_main_v15, val_main_v14, val_main_cst_4, val_main_cst_5, val_main_cst_6, val_main_cst_7, val_main_cst_8, ref_m, ref_v]
  rfl

/-- The kernel's gradient. -/
theorem ker_g (j : Fin 128) (k : Fin 1024) : (k0_pay8 x0 x1 x2 x3 : FVec Ideal ⟨2, ![128, 1024]⟩ .f32) (ix2 j k) = ∑ i, x0 (ix3 i j k) := by
  pointwise [k0_pay8, k0_pay3]
  rw [Fin.sum_univ_eight]

/-- All four results. -/
theorem all : val_main_v2 (F := Ideal) x0 = G4 x0 x1 x2 x3 ∧ val_main_v26 (F := Ideal) x0 x1 x2 x3 = G5 x0 x1 x2 x3
    ∧ val_main_v7 (F := Ideal) x0 x2 = G6 x0 x1 x2 x3 ∧ val_main_v13 (F := Ideal) x0 x3 = G7 x0 x1 x2 x3 := by
  refine ⟨?_, ?_, ?_, ?_⟩ <;> funext i <;> idx_vars i <;> obtain rfl : i0 = 0 := Subsingleton.elim _ _
  · refine (ref_g x0 i1 i2).trans ?_
    pointwise [G4, k0_pay6, ker_g]
  · refine (ref_d x0 x1 x2 x3 i1 i2).trans ?_
    pointwise [G5, k0_pay7, k0_pay4, k0_pay5, ker_g]
    rfl
  · refine (ref_m x0 x2 i1 i2).trans ?_
    pointwise [G6, k0_pay1, k0_pay4, ker_g]
    rfl
  · refine (ref_v x0 x3 i1 i2).trans ?_
    pointwise [G7, k0_pay2, k0_pay5, ker_g]
    rfl

/-- The claim. -/
theorem value : algebraic_Kernel4Ideal_Reference4Ideal (hKernel4Ideal := Cert.Kernel4Ideal.Gen.facts) (hReference4Ideal := Cert.Reference4Ideal.Gen.facts) := by
  intro m ρ m' ρ' _ hagree
  refine ⟨_, _, _, _, Cert.Kernel4Ideal.Value.run m ρ,
    (θ_run Cert.Reference4Ideal.defs _ _).mono (fun r hr c => ?_) (Cert.Reference4Ideal.Value.run (F := Ideal) m' ρ')⟩
  obtain ⟨a0, a1, a2, a3⟩ := hagree c
  have e := all (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3))
  rw [← a0, ← a1, ← a2, ← a3]
  obtain ⟨r0, r1, r2, r3, rest⟩ := hr c
  exact ⟨r0.trans e.1, r1.trans e.2.1, r2.trans e.2.2.1, r3.trans e.2.2.2, rest⟩

end Cert.StepOut

end
-- ==== Proof.StepProj.lean ====
/-
  The optimiser's call of the embedding's projection: its four results are the reference's.
-/
module

public import proofs.«01_k».proof.Defs
public import proofs.«01_k».proof.Proof.Adam
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pointwise

@[expose] public section

set_option maxRecDepth 16384

noncomputable section

open Idealize.ShloMosaic Idealize.ShloMosaic.TcCoe Idealize.SL.Sem Cert.Adam Cert.Reference5Ideal.Read Cert.Kernel5Ideal.Value Cert.Kernel5Ideal.Gen

namespace Cert.StepProj

variable (x0 : FVec Ideal ⟨3, ![8, 256, 128]⟩ .bf16) (x1 x2 x3 : FVec Ideal ⟨3, ![1, 256, 128]⟩ .f32)

/-- The reference's gradient is the sum over the devices. -/
theorem ref_g (j : Fin 256) (k : Fin 128) : val_main_v2 (F := Ideal) x0 (ix3 0 j k) = ∑ i, x0 (ix3 i j k) := by
  pointwise [val_main_v2, val_main_v1, val_main_v0, val_main_cst]

/-- The reference's first moment. -/
theorem ref_m (j : Fin 256) (k : Fin 128) :
    val_main_v7 (F := Ideal) x0 x2 (ix3 0 j k) = first (∑ i, x0 (ix3 i j k)) (x2 (ix3 0 j k)) := by
  pointwise [val_main_v7, val_main_v6, val_main_v5, val_main_v4, val_main_v3, val_main_cst_0, val_main_cst_1, ref_g]
  rfl

/-- The reference's second moment. -/
theorem ref_v (j : Fin 256) (k : Fin 128) :
    val_main_v13 (F := Ideal) x0 x3 (ix3 0 j k) = second (∑ i, x0 (ix3 i j k)) (x3 (ix3 0 j k)) := by
  pointwise [val_main_v13, val_main_v12, val_main_v11, val_main_v10, val_main_v9, val_main_v8, val_main_cst_2, val_main_cst_3, ref_g]
  rfl

/-- The reference's change. -/
theorem ref_d (j : Fin 256) (k : Fin 128) :
    val_main_v26 (F := Ideal) x0 x1 x2 x3 (ix3 0 j k)
      = change (x1 (ix3 0 j k)) (∑ i, x0 (ix3 i j k)) (x2 (ix3 0 j k)) (x3 (ix3 0 j k)) := by
  pointwise [val_main_v26, val_main_v25, val_main_v24, val_main_v23, val_main_v22, val_main_v21, val_main_v20, val_main_v19, val_main_v18, val_main_v17, val_main_v16, val_main_v15, val_main_v14, val_main_cst_4, val_main_cst_5, val_main_cst_6, val_main_cst_7, val_main_cst_8, ref_m, ref_v]
  rfl

/-- The kernel's gradient. -/
theorem ker_g (j : Fin 256) (k : Fin 128) : (k0_pay8 x0 x1 x2 x3 : FVec Ideal ⟨2, ![256, 128]⟩ .f32) (ix2 j k) = ∑ i, x0 (ix3 i j k) := by
  pointwise [k0_pay8, k0_pay3]
  rw [Fin.sum_univ_eight]

/-- All four results. -/
theorem all : val_main_v2 (F := Ideal) x0 = G4 x0 x1 x2 x3 ∧ val_main_v26 (F := Ideal) x0 x1 x2 x3 = G5 x0 x1 x2 x3
    ∧ val_main_v7 (F := Ideal) x0 x2 = G6 x0 x1 x2 x3 ∧ val_main_v13 (F := Ideal) x0 x3 = G7 x0 x1 x2 x3 := by
  refine ⟨?_, ?_, ?_, ?_⟩ <;> funext i <;> idx_vars i <;> obtain rfl : i0 = 0 := Subsingleton.elim _ _
  · refine (ref_g x0 i1 i2).trans ?_
    pointwise [G4, k0_pay6, ker_g]
  · refine (ref_d x0 x1 x2 x3 i1 i2).trans ?_
    pointwise [G5, k0_pay7, k0_pay4, k0_pay5, ker_g]
    rfl
  · refine (ref_m x0 x2 i1 i2).trans ?_
    pointwise [G6, k0_pay1, k0_pay4, ker_g]
    rfl
  · refine (ref_v x0 x3 i1 i2).trans ?_
    pointwise [G7, k0_pay2, k0_pay5, ker_g]
    rfl

/-- The claim. -/
theorem value : algebraic_Kernel5Ideal_Reference5Ideal (hKernel5Ideal := Cert.Kernel5Ideal.Gen.facts) (hReference5Ideal := Cert.Reference5Ideal.Gen.facts) := by
  intro m ρ m' ρ' _ hagree
  refine ⟨_, _, _, _, Cert.Kernel5Ideal.Value.run m ρ,
    (θ_run Cert.Reference5Ideal.defs _ _).mono (fun r hr c => ?_) (Cert.Reference5Ideal.Value.run (F := Ideal) m' ρ')⟩
  obtain ⟨a0, a1, a2, a3⟩ := hagree c
  have e := all (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2)) (m' ((c : Thread Cert.Reference5Ideal.nD Cert.Reference5Ideal.τ).loc Cert.Reference5Ideal.main_arg3))
  rw [← a0, ← a1, ← a2, ← a3]
  obtain ⟨r0, r1, r2, r3, rest⟩ := hr c
  exact ⟨r0.trans e.1, r1.trans e.2.1, r2.trans e.2.2.1, r3.trans e.2.2.2, rest⟩

end Cert.StepProj

end
-- ==== Proof.StepConv.lean ====
/-
  The optimiser's call of the convolution's kernel: its four results are the reference's.
-/
module

public import proofs.«01_k».proof.Defs
public import proofs.«01_k».proof.Proof.Adam
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Cert.Adam Cert.Kernel6Ideal.Value Cert.Kernel6Ideal.Gen Cert.Kernel6Ideal Cert.Reference6Ideal.Read
open Idealize.ShloMosaic.Pipeline (Dat)

namespace Cert.StepConv

variable {m : (ℓ : Loc nD τ sig) → Buf (Elt Ideal) ℓ} {c : Dev nD}
  {x0 : FVec Ideal ⟨2, ![4, 192]⟩ .f32} {x1 x2 x3 : FVec Ideal ⟨3, ![1, 4, 192]⟩ .f32}

theorem ref_g (j : Fin 4) (k : Fin 192) : val_main_v0 (F := Ideal) x0 (ix3 0 j k) = x0 (ix2 j k) := by
  pointwise [val_main_v0]

theorem ref_m (j : Fin 4) (k : Fin 192) :
    val_main_v5 (F := Ideal) x0 x2 (ix3 0 j k) = first (x0 (ix2 j k)) (x2 (ix3 0 j k)) := by
  pointwise [val_main_v5, val_main_v4, val_main_v3, val_main_v2, val_main_v1, val_main_cst, val_main_cst_0, ref_g]
  rfl

theorem ref_v (j : Fin 4) (k : Fin 192) :
    val_main_v11 (F := Ideal) x0 x3 (ix3 0 j k) = second (x0 (ix2 j k)) (x3 (ix3 0 j k)) := by
  pointwise [val_main_v11, val_main_v10, val_main_v9, val_main_v8, val_main_v7, val_main_v6, val_main_cst_1, val_main_cst_2, ref_g]
  rfl

theorem ref_d (j : Fin 4) (k : Fin 192) :
    val_main_v24 (F := Ideal) x0 x1 x2 x3 (ix3 0 j k)
      = change (x1 (ix3 0 j k)) (x0 (ix2 j k)) (x2 (ix3 0 j k)) (x3 (ix3 0 j k)) := by
  pointwise [val_main_v24, val_main_v23, val_main_v22, val_main_v21, val_main_v20, val_main_v19, val_main_v18, val_main_v17, val_main_v16, val_main_v15, val_main_v14, val_main_v13, val_main_v12, val_main_cst_3, val_main_cst_4, val_main_cst_5, val_main_cst_6, val_main_cst_7, ref_m, ref_v]
  rfl

section Point

variable (g w m' v : FVec Ideal ⟨3, ![1, 4, 192]⟩ .f32) (j : Fin 4) (k : Fin 192)

/-- The kernel's gradient. -/
theorem ker_g : k0_pay7 (F := Ideal) g (ix3 0 j k) = g (ix3 0 j k) := by
  pointwise [k0_pay7, k0_pay4]

theorem ker_m' : k0_pay5 (F := Ideal) g m' (ix2 j k) = first (g (ix3 0 j k)) (m' (ix3 0 j k)) := by
  pointwise [k0_pay5, k0_pay4]
  rfl

theorem ker_v' : k0_pay6 (F := Ideal) g v (ix2 j k) = second (g (ix3 0 j k)) (v (ix3 0 j k)) := by
  pointwise [k0_pay6, k0_pay4]
  rfl

/-- The kernel's first moment. -/
theorem ker_m : k0_pay2 (F := Ideal) (k0_pay5 g m') (ix3 0 j k) = first (g (ix3 0 j k)) (m' (ix3 0 j k)) := by
  pointwise [k0_pay2, ker_m']

/-- The kernel's second moment. -/
theorem ker_v : k0_pay3 (F := Ideal) (k0_pay6 g v) (ix3 0 j k) = second (g (ix3 0 j k)) (v (ix3 0 j k)) := by
  pointwise [k0_pay3, ker_v']

/-- The kernel's change. -/
theorem ker_d : k0_pay1 (F := Ideal) (k0_pay8 g m' v w) k0_pay9 (ix3 0 j k)
    = change (w (ix3 0 j k)) (g (ix3 0 j k)) (m' (ix3 0 j k)) (v (ix3 0 j k)) := by
  pointwise [k0_pay1, k0_pay8, k0_pay9, ker_m', ker_v']
  rfl

end Point

theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] :=
  (by decide +kernel : ∀ t : Fin grid0.N, _)

/-- The gradient, which the host gives a leading dimension. -/
theorem row0 (h : m ((c : Thread nD τ).loc main_arg0) = x0) (j : Fin 4) (k : Fin 192) :
    (V m c main_v0 : FVec Ideal ⟨3, ![1, 4, 192]⟩ .f32) (ix3 0 j k) = x0 (ix2 j k) := by
  subst h
  simp only [V, hostOps0]
  entry_read
  pointwise []

theorem blk0 (h : m ((c : Thread nD τ).loc main_arg0) = x0) (t : Fin cfg0.N) (j : Fin 4) (k : Fin 192) :
    (iblk m c 0 t : FVec Ideal ⟨3, ![1, 4, 192]⟩ .f32) (ix3 0 j k) = x0 (ix2 j k) := by
  refine Eq.trans ?_ (row0 h j k)
  blk_ext [iblk, idx t]

theorem blk1 (h : m ((c : Thread nD τ).loc main_arg1) = x1) (t : Fin cfg0.N) (j : Fin 4) (k : Fin 192) :
    (iblk m c 1 t : FVec Ideal ⟨3, ![1, 4, 192]⟩ .f32) (ix3 0 j k) = x1 (ix3 0 j k) := by
  subst h
  rw [← V_main_arg1 m c]
  blk_ext [iblk, idx t]

theorem blk2 (h : m ((c : Thread nD τ).loc main_arg2) = x2) (t : Fin cfg0.N) (j : Fin 4) (k : Fin 192) :
    (iblk m c 2 t : FVec Ideal ⟨3, ![1, 4, 192]⟩ .f32) (ix3 0 j k) = x2 (ix3 0 j k) := by
  subst h
  rw [← V_main_arg2 m c]
  blk_ext [iblk, idx t]

theorem blk3 (h : m ((c : Thread nD τ).loc main_arg3) = x3) (t : Fin cfg0.N) (j : Fin 4) (k : Fin 192) :
    (iblk m c 3 t : FVec Ideal ⟨3, ![1, 4, 192]⟩ .f32) (ix3 0 j k) = x3 (ix3 0 j k) := by
  subst h
  rw [← V_main_arg3 m c]
  blk_ext [iblk, idx t]

theorem zero3 : (![0, 0, 0] : Fin 3 → Nat) = fun _ => 0 := funext fun a => by fin_cases a <;> rfl

section Results

variable (h0 : m ((c : Thread nD τ).loc main_arg0) = x0) (h1 : m ((c : Thread nD τ).loc main_arg1) = x1)
  (h2 : m ((c : Thread nD τ).loc main_arg2) = x2) (h3 : m ((c : Thread nD τ).loc main_arg3) = x3)

include h0

/-- The gradient after the run. -/
theorem final_4 : (dats m 0 c).arrAt 4 cfg0.N = val_main_v0 (F := Ideal) x0 := by
  refine (dats m 0 c).arrAt_eq_of_covers 4 _ (by decide +kernel) fun t hf y => ?_
  blk_simp
  rw [after0_4]
  idx_vars y
  obtain rfl : y0 = 0 := Subsingleton.elim _ _
  have e : (val_main_v0 (F := Ideal) x0) (ix3 0 y1 y2) = (val_main_v0 (F := Ideal) x0) ((win0_4.blk t).view.emb (ix3 0 y1 y2)) := by blk_ext [idx t]
  refine Eq.trans ?_ e
  rw [ref_g]
  unfold out0_4
  rw [View.canon_unit_zero zero3]
  refine (ker_g _ y1 y2).trans ?_
  pointwise [blk0 h0]

include h2 in
/-- The first moment after the run. -/
theorem final_6 : (dats m 0 c).arrAt 6 cfg0.N = val_main_v5 (F := Ideal) x0 x2 := by
  refine (dats m 0 c).arrAt_eq_of_covers 6 _ (by decide +kernel) fun t hf y => ?_
  blk_simp
  rw [after0_6]
  idx_vars y
  obtain rfl : y0 = 0 := Subsingleton.elim _ _
  have e : (val_main_v5 (F := Ideal) x0 x2) (ix3 0 y1 y2) = (val_main_v5 (F := Ideal) x0 x2) ((win0_6.blk t).view.emb (ix3 0 y1 y2)) := by blk_ext [idx t]
  refine Eq.trans ?_ e
  rw [ref_m]
  unfold out0_6
  rw [View.canon_unit_zero zero3]
  refine (ker_m _ _ y1 y2).trans ?_
  pointwise [blk0 h0, blk2 h2]

include h3 in
/-- The second moment after the run. -/
theorem final_7 : (dats m 0 c).arrAt 7 cfg0.N = val_main_v11 (F := Ideal) x0 x3 := by
  refine (dats m 0 c).arrAt_eq_of_covers 7 _ (by decide +kernel) fun t hf y => ?_
  blk_simp
  rw [after0_7]
  idx_vars y
  obtain rfl : y0 = 0 := Subsingleton.elim _ _
  have e : (val_main_v11 (F := Ideal) x0 x3) (ix3 0 y1 y2) = (val_main_v11 (F := Ideal) x0 x3) ((win0_7.blk t).view.emb (ix3 0 y1 y2)) := by blk_ext [idx t]
  refine Eq.trans ?_ e
  rw [ref_v]
  unfold out0_7
  rw [View.canon_unit_zero zero3]
  refine (ker_v _ _ y1 y2).trans ?_
  pointwise [blk0 h0, blk3 h3]

include h1 h2 h3 in
/-- The change after the run. -/
theorem final_5 : (dats m 0 c).arrAt 5 cfg0.N = val_main_v24 (F := Ideal) x0 x1 x2 x3 := by
  refine (dats m 0 c).arrAt_eq_of_covers 5 _ (by decide +kernel) fun t hf y => ?_
  blk_simp
  rw [after0_5]
  idx_vars y
  obtain rfl : y0 = 0 := Subsingleton.elim _ _
  have e : (val_main_v24 (F := Ideal) x0 x1 x2 x3) (ix3 0 y1 y2) = (val_main_v24 (F := Ideal) x0 x1 x2 x3) ((win0_5.blk t).view.emb (ix3 0 y1 y2)) := by blk_ext [idx t]
  refine Eq.trans ?_ e
  rw [ref_d]
  unfold out0_5
  rw [View.canon_unit_zero zero3]
  refine (ker_d _ _ _ _ y1 y2).trans ?_
  pointwise [blk0 h0, blk1 h1, blk2 h2, blk3 h3]

end Results

/-- The claim. -/
theorem value : algebraic_Kernel6Ideal_Reference6Ideal (hKernel6Ideal := Cert.Kernel6Ideal.Gen.facts) (hReference6Ideal := Cert.Reference6Ideal.Gen.facts) := by
  intro m ρ m' ρ' _ hagree
  refine ⟨_, _, _, _, Cert.Kernel6Ideal.Value.run_blocks m ρ,
    (θ_run Cert.Reference6Ideal.defs _ _).mono (fun r hr c => ?_) (Cert.Reference6Ideal.Value.run (F := Ideal) m' ρ')⟩
  obtain ⟨a0, a1, a2, a3⟩ := hagree c
  obtain ⟨r0, r1, r2, r3, rest⟩ := hr c
  exact ⟨r0.trans (final_4 a0.symm).symm, r1.trans (final_5 a0.symm a1.symm a2.symm a3.symm).symm,
    r2.trans (final_6 a0.symm a2.symm).symm, r3.trans (final_7 a0.symm a3.symm).symm, rest⟩

end Cert.StepConv

end
-- ==== Proof.SmallPay.lean ====
/-
  The optimiser's call of the small weights: the packed gradients' sum over the chips, what a weight's piece of it is, and
  one step of a weight, in the reference's operations and in the kernel's.
-/
module

public import proofs.«01_k».proof.Proof.Adam
public import proofs.«01_k».proof.Proof.Gen.Kernel8Ideal.Skeleton
public import proofs.«01_k».proof.Proof.Gen.Reference8Ideal
public import proofs.«01_k».proof.Proof.Gen.Reference8Ideal.Run
public import proofs.«01_k».proof.Proof.Gen.Reference8Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Cert.Adam Cert.Kernel8Ideal.Gen Cert.Kernel8Ideal Cert.Reference8Ideal.Read

namespace Cert.Small

/-- The packed gradients at one place, summed over the four chips. -/
def total (x : FVec Ideal ⟨3, ![4, 600, 128]⟩ .f32) (r : Fin 600) (l : Fin 128) : EReal :=
  x (ix3 0 r l) + x (ix3 1 r l) + x (ix3 2 r l) + x (ix3 3 r l)

/-- The place of a packed vector's element `j`, where its rows begin at `o`. -/
def at' (x : FVec Ideal ⟨3, ![4, 600, 128]⟩ .f32) (o j : ℕ) : EReal :=
  if h : o + j / 128 < 600 then total x ⟨o + j / 128, h⟩ ⟨j % 128, Nat.mod_lt _ (by decide)⟩ else 0

section Reference

variable (x0 : FVec Ideal ⟨3, ![4, 600, 128]⟩ .f32)

theorem ref_sum (r : Fin 600) (l : Fin 128) : val_main_v0 (F := Ideal) x0 (ix2 r l) = total x0 r l := by
  pointwise [val_main_v0, val_main_cst]
  rw [Fin.sum_univ_four]
  rfl

theorem ref_at (o : ℕ) (j : ℕ) (i : (⟨2, ![600, 128]⟩ : Shape).Idx) (h0 : (i 0).val = o + j / 128) (h1 : (i 1).val = j % 128) :
    val_main_v0 (F := Ideal) x0 i = at' x0 o j := by
  have hr : o + j / 128 < 600 := h0 ▸ (i 0).isLt
  have e : i = ix2 ⟨o + j / 128, hr⟩ ⟨j % 128, Nat.mod_lt _ (by decide)⟩ := by
    funext a
    refine Fin.ext ?_
    match a with
    | ⟨0, _⟩ => exact h0
    | ⟨1, _⟩ => exact h1
  rw [e, ref_sum]
  unfold at'
  rw [dif_pos hr]

theorem ref_g1 (j : Fin 1024) : val_main_v2 (F := Ideal) x0 (ix2 0 j) = at' x0 48 j := by
  rw [val_main_v2_apply, val_main_v1_apply]
  refine ref_at x0 48 j _ ?_ ?_
  · show 48 + (0 * 1024 + j.val) / 128 = _; omega
  · show (0 * 1024 + j.val) % 128 = _; omega

theorem ref_g2 (j : Fin 512) : val_main_v28 (F := Ideal) x0 (ix2 0 j) = at' x0 56 j := by
  rw [val_main_v28_apply, val_main_v27_apply]
  refine ref_at x0 56 j _ ?_ ?_
  · show 56 + (0 * 512 + j.val) / 128 = _; omega
  · show (0 * 512 + j.val) % 128 = _; omega

theorem ref_g3 (j : Fin 512) : val_main_v54 (F := Ideal) x0 (ix2 0 j) = at' x0 60 j := by
  rw [val_main_v54_apply, val_main_v53_apply]
  refine ref_at x0 60 j _ ?_ ?_
  · show 60 + (0 * 512 + j.val) / 128 = _; omega
  · show (0 * 512 + j.val) % 128 = _; omega

theorem ref_conv (r : Fin 4) (j : Fin 1536) : val_main_v82 (F := Ideal) x0 (ix2 r j) = at' x0 0 (r.val * 1536 + j.val) := by
  rw [val_main_v82_apply, val_main_v81_apply]
  refine ref_at x0 0 (r.val * 1536 + j.val) _ ?_ ?_
  · show (r.val * 1536 + j.val) / 128 = _; omega
  · show (r.val * 1536 + j.val) % 128 = _; omega

theorem ref_loss : val_main_v80 (F := Ideal) x0 (ix2 0 0) = total x0 599 0 := by
  rw [← ref_sum]
  pointwise [val_main_v80, val_main_v79]

variable (w m v : FVec Ideal ⟨2, ![1, 1024]⟩ .f32) (j : Fin 1024)

theorem ref_m1 : val_main_v7 (F := Ideal) x0 m (ix2 0 j) = first (at' x0 48 j) (m (ix2 0 j)) := by
  pointwise [val_main_v7, val_main_v6, val_main_v5, val_main_v4, val_main_v3, val_main_cst_0, val_main_cst_1, ref_g1]
  rfl

theorem ref_v1 : val_main_v13 (F := Ideal) x0 v (ix2 0 j) = second (at' x0 48 j) (v (ix2 0 j)) := by
  pointwise [val_main_v13, val_main_v12, val_main_v11, val_main_v10, val_main_v9, val_main_v8, val_main_cst_2, val_main_cst_3, ref_g1]
  rfl

theorem ref_d1 : val_main_v26 (F := Ideal) x0 w m v (ix2 0 j) = change (w (ix2 0 j)) (at' x0 48 j) (m (ix2 0 j)) (v (ix2 0 j)) := by
  pointwise [val_main_v26, val_main_v25, val_main_v24, val_main_v23, val_main_v22, val_main_v21, val_main_v20, val_main_v19, val_main_v18, val_main_v17, val_main_v16, val_main_v15, val_main_v14, val_main_cst_4, val_main_cst_5, val_main_cst_6, val_main_cst_7, val_main_cst_8, ref_m1, ref_v1]
  rfl

end Reference

section Halves

variable (x0 : FVec Ideal ⟨3, ![4, 600, 128]⟩ .f32) (w m v : FVec Ideal ⟨2, ![1, 512]⟩ .f32) (j : Fin 512)

theorem ref_m2 : val_main_v33 (F := Ideal) x0 m (ix2 0 j) = first (at' x0 56 j) (m (ix2 0 j)) := by
  pointwise [val_main_v33, val_main_v32, val_main_v31, val_main_v30, val_main_v29, val_main_cst_9, val_main_cst_10, ref_g2]
  rfl

theorem ref_v2 : val_main_v39 (F := Ideal) x0 v (ix2 0 j) = second (at' x0 56 j) (v (ix2 0 j)) := by
  pointwise [val_main_v39, val_main_v38, val_main_v37, val_main_v36, val_main_v35, val_main_v34, val_main_cst_11, val_main_cst_12, ref_g2]
  rfl

theorem ref_d2 : val_main_v52 (F := Ideal) x0 w m v (ix2 0 j) = change (w (ix2 0 j)) (at' x0 56 j) (m (ix2 0 j)) (v (ix2 0 j)) := by
  pointwise [val_main_v52, val_main_v51, val_main_v50, val_main_v49, val_main_v48, val_main_v47, val_main_v46, val_main_v45, val_main_v44, val_main_v43, val_main_v42, val_main_v41, val_main_v40, val_main_cst_13, val_main_cst_14, val_main_cst_15, val_main_cst_16, val_main_cst_17, ref_m2, ref_v2]
  rfl

theorem ref_m3 : val_main_v59 (F := Ideal) x0 m (ix2 0 j) = first (at' x0 60 j) (m (ix2 0 j)) := by
  pointwise [val_main_v59, val_main_v58, val_main_v57, val_main_v56, val_main_v55, val_main_cst_18, val_main_cst_19, ref_g3]
  rfl

theorem ref_v3 : val_main_v65 (F := Ideal) x0 v (ix2 0 j) = second (at' x0 60 j) (v (ix2 0 j)) := by
  pointwise [val_main_v65, val_main_v64, val_main_v63, val_main_v62, val_main_v61, val_main_v60, val_main_cst_20, val_main_cst_21, ref_g3]
  rfl

theorem ref_d3 : val_main_v78 (F := Ideal) x0 w m v (ix2 0 j) = change (w (ix2 0 j)) (at' x0 60 j) (m (ix2 0 j)) (v (ix2 0 j)) := by
  pointwise [val_main_v78, val_main_v77, val_main_v76, val_main_v75, val_main_v74, val_main_v73, val_main_v72, val_main_v71, val_main_v70, val_main_v69, val_main_v68, val_main_v67, val_main_v66, val_main_cst_22, val_main_cst_23, val_main_cst_24, val_main_cst_25, val_main_cst_26, ref_m3, ref_v3]
  rfl

end Halves

section Kernel

/-- Eight rows of the packed sum side by side. -/
theorem cat8 (f : Fin 8 → FVec Ideal ⟨2, ![1, 128]⟩ .f32) (j : Fin 1024) :
    k0_pay5 (F := Ideal) (f 0) (f 1) (f 2) (f 3) (f 4) (f 5) (f 6) (f 7) (ix2 0 j)
      = f ⟨j.val / 128, by omega⟩ (ix2 0 ⟨j.val % 128, Nat.mod_lt _ (by decide)⟩) := by
  refine concatenate_ofFn_apply (t := S1x1024) (s₁ := S1x128) (1 : Fin 2) f concatenates_S1x128_S1x128_S1x128_S1x128_S1x128_S1x128_S1x128_S1x128_S1x1024_d1 rfl 128 rfl (ix2 0 j) _ rfl _ rfl fun b hb => ?_
  match b with
  | ⟨0, _⟩ => rfl
  | ⟨1, _⟩ => exact absurd rfl hb

/-- Four rows of it side by side. -/
theorem cat4 (f : Fin 4 → FVec Ideal ⟨2, ![1, 128]⟩ .f32) (j : Fin 512) :
    k0_pay11 (F := Ideal) (f 0) (f 1) (f 2) (f 3) (ix2 0 j)
      = f ⟨j.val / 128, by omega⟩ (ix2 0 ⟨j.val % 128, Nat.mod_lt _ (by decide)⟩) := by
  refine concatenate_ofFn_apply (t := S1x512) (s₁ := S1x128) (1 : Fin 2) f concatenates_S1x128_S1x128_S1x128_S1x128_S1x512_d1 rfl 128 rfl (ix2 0 j) _ rfl _ rfl fun b hb => ?_
  match b with
  | ⟨0, _⟩ => rfl
  | ⟨1, _⟩ => exact absurd rfl hb

/-- Twelve rows of it side by side, and four of these one under the other. -/
theorem cat12 (f : Fin 12 → FVec Ideal ⟨2, ![1, 128]⟩ .f32) (j : Fin 1536) :
    k0_pay2 (F := Ideal) (f 0) (f 1) (f 2) (f 3) (f 4) (f 5) (f 6) (f 7) (f 8) (f 9) (f 10) (f 11) (ix2 0 j)
      = f ⟨j.val / 128, by omega⟩ (ix2 0 ⟨j.val % 128, Nat.mod_lt _ (by decide)⟩) := by
  refine concatenate_ofFn_apply (t := S1x1536) (s₁ := S1x128) (1 : Fin 2) f concatenates_S1x128_S1x128_S1x128_S1x128_S1x128_S1x128_S1x128_S1x128_S1x128_S1x128_S1x128_S1x128_S1x1536_d1 rfl 128 rfl (ix2 0 j) _ rfl _ rfl fun b hb => ?_
  match b with
  | ⟨0, _⟩ => rfl
  | ⟨1, _⟩ => exact absurd rfl hb

theorem cat48 (f : Fin 4 → Fin 12 → FVec Ideal ⟨2, ![1, 128]⟩ .f32) (r : Fin 4) (j : Fin 1536) :
    k0_pay4 (F := Ideal) (k0_pay2 (F := Ideal) (f 0 0) (f 0 1) (f 0 2) (f 0 3) (f 0 4) (f 0 5) (f 0 6) (f 0 7) (f 0 8) (f 0 9) (f 0 10) (f 0 11)) (k0_pay2 (F := Ideal) (f 1 0) (f 1 1) (f 1 2) (f 1 3) (f 1 4) (f 1 5) (f 1 6) (f 1 7) (f 1 8) (f 1 9) (f 1 10) (f 1 11)) (k0_pay2 (F := Ideal) (f 2 0) (f 2 1) (f 2 2) (f 2 3) (f 2 4) (f 2 5) (f 2 6) (f 2 7) (f 2 8) (f 2 9) (f 2 10) (f 2 11))
        (f 3 0) (f 3 1) (f 3 2) (f 3 3) (f 3 4) (f 3 5) (f 3 6) (f 3 7) (f 3 8) (f 3 9) (f 3 10) (f 3 11) (ix2 r j)
      = f r ⟨j.val / 128, by omega⟩ (ix2 0 ⟨j.val % 128, Nat.mod_lt _ (by decide)⟩) := by
  refine Eq.trans ?_ (cat12 (f r) j)
  refine concatenate_ofFn_apply (t := S4x1536) (s₁ := S1x1536) (0 : Fin 2) (fun r => (k0_pay2 (F := Ideal) (f r 0) (f r 1) (f r 2) (f r 3) (f r 4) (f r 5) (f r 6) (f r 7) (f r 8) (f r 9) (f r 10) (f r 11))) concatenates_S1x1536_S1x1536_S1x1536_S1x1536_S4x1536_d0 rfl 1 rfl (ix2 r j) r (Nat.div_one _) (ix2 0 j) (Nat.mod_one _).symm fun b hb => ?_
  match b with
  | ⟨0, _⟩ => exact absurd rfl hb
  | ⟨1, _⟩ => rfl

/-- The kernel's sum over the chips. -/
theorem ker_sum (a b c d : FVec Ideal ⟨3, ![1, 600, 128]⟩ .f32) (r : Fin 600) (l : Fin 128) :
    k0_pay1 (F := Ideal) a b c d (ix2 r l) = a (ix3 0 r l) + b (ix3 0 r l) + c (ix3 0 r l) + d (ix3 0 r l) := by
  pointwise [k0_pay1]

section First

variable (a b c d e f g h : FVec Ideal ⟨2, ![1, 128]⟩ .f32) (w m v : FVec Ideal ⟨2, ![1, 1024]⟩ .f32) (j : Fin 1024)

theorem ker_m1 : k0_pay6 (F := Ideal) a b c d e f g h m (ix2 0 j) = first (k0_pay5 (F := Ideal) a b c d e f g h (ix2 0 j)) (m (ix2 0 j)) := by
  pointwise [k0_pay6]
  rfl

theorem ker_v1 : k0_pay7 (F := Ideal) a b c d e f g h v (ix2 0 j) = second (k0_pay5 (F := Ideal) a b c d e f g h (ix2 0 j)) (v (ix2 0 j)) := by
  pointwise [k0_pay7]
  rfl

theorem ker_d1 : k0_pay10 (F := Ideal) (k0_pay7 a b c d e f g h v) (k0_pay8 a b c d e f g h m) k0_pay9 w (ix2 0 j)
    = change (w (ix2 0 j)) (k0_pay5 (F := Ideal) a b c d e f g h (ix2 0 j)) (m (ix2 0 j)) (v (ix2 0 j)) := by
  pointwise [k0_pay10, k0_pay8, k0_pay9, ker_m1, ker_v1]
  rfl

end First

section Second

variable (a b c d : FVec Ideal ⟨2, ![1, 128]⟩ .f32) (g w m v : FVec Ideal ⟨2, ![1, 512]⟩ .f32) (j : Fin 512)

theorem ker_m2 : k0_pay12 (F := Ideal) a b c d m (ix2 0 j) = first (k0_pay11 (F := Ideal) a b c d (ix2 0 j)) (m (ix2 0 j)) := by
  pointwise [k0_pay12]
  rfl

theorem ker_v2 : k0_pay14 (F := Ideal) g v k0_pay13 (ix2 0 j) = second (g (ix2 0 j)) (v (ix2 0 j)) := by
  pointwise [k0_pay14, k0_pay13]
  rfl

theorem ker_d2 : k0_pay15 (F := Ideal) (k0_pay11 a b c d) (k0_pay12 a b c d m) v k0_pay13 w (ix2 0 j)
    = change (w (ix2 0 j)) (k0_pay11 (F := Ideal) a b c d (ix2 0 j)) (m (ix2 0 j)) (v (ix2 0 j)) := by
  pointwise [k0_pay15, ker_m2, ker_v2]
  rfl

theorem ker_m3 : k0_pay17 (F := Ideal) g m (Scalar.ofBits .f32 0x3F666666#32) (ix2 0 j) = first (g (ix2 0 j)) (m (ix2 0 j)) := by
  pointwise [k0_pay17]
  rfl

theorem ker_v3 : k0_pay18 (F := Ideal) g v (ix2 0 j) = second (g (ix2 0 j)) (v (ix2 0 j)) := by
  pointwise [k0_pay18]
  rfl

theorem ker_d3 : k0_pay19 (F := Ideal) g m (Scalar.ofBits .f32 0x3F666666#32) v w (ix2 0 j)
    = change (w (ix2 0 j)) (g (ix2 0 j)) (m (ix2 0 j)) (v (ix2 0 j)) := by
  pointwise [k0_pay19, ker_m3, ker_v3]
  rfl

end Second

end Kernel

end Cert.Small

end
-- ==== Proof.FwdSpec.lean ====
/-
  The forward layer on the extended reals: the normalised rows, their projection, the gating unit chunk by chunk and the
  short convolution, with the two activations in the kernel's form and in the reference's.
-/
module

public import proofs.«01_k».proof.Proof.RefRows

@[expose] public section

noncomputable section

open Idealize.ShloMosaic Cert.Reals

namespace Cert.Fwd

/-- The number a mean square is added to before its root. -/
def small : EReal := Ideal.ofBits .f32 0x358637BD#32

def half : EReal := Ideal.ofBits .f32 0x3F000000#32

/-- The activation, in the kernel's form. -/
def gelu (x : EReal) : EReal := x * (half + half * Ideal.erf (x * (((Real.sqrt 2)⁻¹ : ℝ) : EReal)))

/-- The outer gate, in the kernel's form. -/
def silu (x : EReal) : EReal := x * (half * Ideal.tanh (half * x) + half)

theorem half_real : half = ((1 / 2 : ℝ) : EReal) := bits_half

theorem root_pos : (0 : ℝ) < (Real.sqrt 2)⁻¹ := inv_pos.2 (Real.sqrt_pos.2 (by norm_num))

/-- The activation in the reference's form. -/
theorem gelu_erfc (x : EReal) : half * x * Ideal.erfc (Ideal.div (-x) ((Real.sqrt 2 : ℝ) : EReal)) = gelu x := by
  unfold gelu
  rw [Ideal.div_coe root_ne, half_real, show (1 : ℝ) / Real.sqrt 2 = (Real.sqrt 2)⁻¹ from one_div _]
  induction x using EReal.rec with
  | bot =>
    rw [EReal.neg_bot, EReal.top_mul_coe_of_pos root_pos, EReal.bot_mul_coe_of_pos root_pos, Ideal.erfc_top, Ideal.erf_bot, mul_zero,
      show (-1 : EReal) = ((-1 : ℝ) : EReal) from rfl, mul_real, add_real]
    norm_num
  | coe r =>
    rw [neg_real, mul_real, mul_real, mul_real, erfc_real, erf_real, mul_real, mul_real, add_real, mul_real]
    refine congrArg Real.toEReal ?_
    rw [neg_mul, rerf_neg]
    ring
  | top =>
    rw [EReal.neg_top, EReal.bot_mul_coe_of_pos root_pos, EReal.top_mul_coe_of_pos root_pos, Ideal.erfc_bot, Ideal.erf_top,
      EReal.coe_mul_top_of_pos (by norm_num), one_real, mul_real, add_real,
      show (2 : EReal) = ((2 : ℝ) : EReal) from rfl, EReal.top_mul_coe_of_pos (by norm_num), EReal.top_mul_coe_of_pos (by norm_num)]

/-- The outer gate in the reference's form. -/
theorem silu_logistic (x : EReal) :
    x * Ideal.div 1 (1 + Ideal.exp (-x)) = silu x := by
  rw [show Ideal.div 1 (1 + Ideal.exp (-x)) = Ideal.logistic x from rfl, silu, half_real]
  congr 1
  induction x using EReal.rec with
  | bot =>
    rw [EReal.coe_mul_bot_of_pos (by norm_num), Ideal.tanh_bot, Ideal.logistic_bot, show (-1 : EReal) = ((-1 : ℝ) : EReal) from rfl,
      mul_real, add_real, zero_real]
    norm_num
  | coe r =>
    rw [Ideal.logistic_coe, mul_real, tanh_real, mul_real, add_real, Layer.logi_tanh, Layer.logi]
    refine congrArg Real.toEReal ?_
    first | rfl | rw [one_div] | rw [inv_eq_one_div]
  | top =>
    rw [EReal.coe_mul_top_of_pos (by norm_num), Ideal.tanh_top, Ideal.logistic_top, one_real, mul_real, add_real]
    norm_num

/-- An activated row, centred. -/
def cen (v : ℕ → EReal) (j : ℕ) : EReal :=
  gelu (v j) - Ideal.div (∑ k : Fin 128, gelu (v k)) (Ideal.ofBits .f32 0x43000000#32)

/-- The same, over the root of its mean square. -/
def nrm (v : ℕ → EReal) (j : ℕ) : EReal :=
  cen v j * Ideal.rsqrt (Ideal.div (∑ k : Fin 128, cen v k * cen v k) (Ideal.ofBits .f32 0x43000000#32) + small)

/-- A chunk of one group of the gating unit. -/
structure Chunk where
  u : ℕ → ℕ → EReal
  v : ℕ → ℕ → EReal
  z : ℕ → ℕ → EReal
  lg : ℕ → EReal
  lb : ℕ → EReal
  ws : ℕ → ℕ → EReal
  b : ℕ → EReal

namespace Chunk

variable (T : Chunk)

def ln (t j : ℕ) : EReal := nrm (T.v t) j * T.lg j + T.lb j

def mix (s j : ℕ) : EReal := (∑ t : Fin 128, (if (t : ℕ) ≤ s then T.ws s t else 0) * T.ln t j) + T.b s

def out (s j : ℕ) : EReal := gelu (T.u s j) * T.mix s j * silu (T.z s j)

end Chunk

/-- The arguments, as functions of natural numbers; a row is a position of the two sequences in order. -/
structure Arr where
  x : ℕ → ℕ → EReal
  g : ℕ → EReal
  w : ℕ → ℕ → EReal
  lg : ℕ → EReal
  lb : ℕ → EReal
  ws : ℕ → ℕ → ℕ → EReal
  b : ℕ → ℕ → EReal
  cw : ℕ → ℕ → EReal

namespace Arr

variable (A : Arr)

/-- The scaled normalised row. -/
def xn (r k : ℕ) : EReal :=
  A.x r k * Ideal.rsqrt (Ideal.div (∑ i : Fin 1024, A.x r i * A.x r i) (Ideal.ofBits .f32 0x44800000#32) + small) * A.g k

/-- The projection. -/
def p (r c : ℕ) : EReal := ∑ k : Fin 1024, A.xn r k * A.w k c

/-- A chunk of one group. -/
def chunk (n g : ℕ) : Chunk where
  u s j := A.p (128 * n + s) (128 * g + j)
  v s j := A.p (128 * n + s) (512 + (128 * g + j))
  z s j := A.p (128 * n + s) (1024 + (128 * g + j))
  lg j := A.lg (128 * g + j)
  lb j := A.lb (128 * g + j)
  ws s t := A.ws g s t
  b s := A.b g s

/-- The gating unit's output. -/
def gate (r c : ℕ) : EReal := (A.chunk (r / 128) (c / 128)).out (r % 128) (c % 128)

/-- What the convolution's tap `d` meets at a row: the projection `3 - d` rows before, or zero before the sequence. -/
def tap (d r c : ℕ) : EReal := if 3 ≤ r % 4096 + d then A.p (r + d - 3) (1536 + c) else 0

/-- The convolution. -/
def conv (r c : ℕ) : EReal :=
  A.tap 0 r c * A.cw 0 c + A.tap 1 r c * A.cw 1 c + A.tap 2 r c * A.cw 2 c + A.tap 3 r c * A.cw 3 c

end Arr

/-- The eight arrays hold the arguments. -/
structure Agrees (A : Arr) (x0 : FVec Ideal ⟨3, ![2, 4096, 1024]⟩ .f32) (x1 : FVec Ideal ⟨2, ![1, 1024]⟩ .f32)
    (x2 : FVec Ideal ⟨3, ![1, 1024, 3592]⟩ .f32) (x3 x4 : FVec Ideal ⟨2, ![1, 512]⟩ .f32)
    (x5 : FVec Ideal ⟨4, ![1, 4, 128, 128]⟩ .f32) (x6 : FVec Ideal ⟨3, ![1, 4, 128]⟩ .f32)
    (x7 : FVec Ideal ⟨3, ![1, 4, 1536]⟩ .f32) : Prop where
  x : ∀ (b : Fin 2) (i : Fin 4096) (k : Fin 1024), x0 (ix3 b i k) = A.x (4096 * b + i) k
  g : ∀ k : Fin 1024, x1 (ix2 0 k) = A.g k
  w : ∀ (k : Fin 1024) (c : Fin 3592), x2 (ix3 0 k c) = A.w k c
  lg : ∀ j : Fin 512, x3 (ix2 0 j) = A.lg j
  lb : ∀ j : Fin 512, x4 (ix2 0 j) = A.lb j
  ws : ∀ (g : Fin 4) (s t : Fin 128), x5 (ix4 0 g s t) = A.ws g s t
  b : ∀ (g : Fin 4) (s : Fin 128), x6 (ix3 0 g s) = A.b g s
  cw : ∀ (d : Fin 4) (c : Fin 1536), x7 (ix3 0 d c) = A.cw d c

/-- The arguments read off the arrays. -/
def arr (x0 : FVec Ideal ⟨3, ![2, 4096, 1024]⟩ .f32) (x1 : FVec Ideal ⟨2, ![1, 1024]⟩ .f32)
    (x2 : FVec Ideal ⟨3, ![1, 1024, 3592]⟩ .f32) (x3 x4 : FVec Ideal ⟨2, ![1, 512]⟩ .f32)
    (x5 : FVec Ideal ⟨4, ![1, 4, 128, 128]⟩ .f32) (x6 : FVec Ideal ⟨3, ![1, 4, 128]⟩ .f32)
    (x7 : FVec Ideal ⟨3, ![1, 4, 1536]⟩ .f32) : Arr where
  x r k := x0 (ix3 (Fin.ofNat 2 (r / 4096)) (Fin.ofNat 4096 r) (Fin.ofNat 1024 k))
  g k := x1 (ix2 0 (Fin.ofNat 1024 k))
  w k c := x2 (ix3 0 (Fin.ofNat 1024 k) (Fin.ofNat 3592 c))
  lg j := x3 (ix2 0 (Fin.ofNat 512 j))
  lb j := x4 (ix2 0 (Fin.ofNat 512 j))
  ws g s t := x5 (ix4 0 (Fin.ofNat 4 g) (Fin.ofNat 128 s) (Fin.ofNat 128 t))
  b g s := x6 (ix3 0 (Fin.ofNat 4 g) (Fin.ofNat 128 s))
  cw d c := x7 (ix3 0 (Fin.ofNat 4 d) (Fin.ofNat 1536 c))

theorem ofNat_self {n : ℕ} [NeZero n] (i : Fin n) : Fin.ofNat n (i : ℕ) = i := Fin.ext (Nat.mod_eq_of_lt i.2)

theorem arr_agrees (x0 : FVec Ideal ⟨3, ![2, 4096, 1024]⟩ .f32) (x1 : FVec Ideal ⟨2, ![1, 1024]⟩ .f32)
    (x2 : FVec Ideal ⟨3, ![1, 1024, 3592]⟩ .f32) (x3 x4 : FVec Ideal ⟨2, ![1, 512]⟩ .f32)
    (x5 : FVec Ideal ⟨4, ![1, 4, 128, 128]⟩ .f32) (x6 : FVec Ideal ⟨3, ![1, 4, 128]⟩ .f32)
    (x7 : FVec Ideal ⟨3, ![1, 4, 1536]⟩ .f32) : Agrees (arr x0 x1 x2 x3 x4 x5 x6 x7) x0 x1 x2 x3 x4 x5 x6 x7 where
  x b i k := by
    have e : Fin.ofNat 2 ((4096 * (b : ℕ) + i) / 4096) = b := Fin.ext (by show (4096 * (b : ℕ) + i) / 4096 % 2 = b; omega)
    have e' : Fin.ofNat 4096 (4096 * (b : ℕ) + i) = i := Fin.ext (by show (4096 * (b : ℕ) + i) % 4096 = i; omega)
    show _ = x0 (ix3 (Fin.ofNat 2 ((4096 * (b : ℕ) + i) / 4096)) (Fin.ofNat 4096 (4096 * (b : ℕ) + i)) (Fin.ofNat 1024 k))
    rw [e, e', ofNat_self]
  g k := by simp only [arr, ofNat_self]
  w k c := by simp only [arr, ofNat_self]
  lg j := by simp only [arr, ofNat_self]
  lb j := by simp only [arr, ofNat_self]
  ws g s t := by simp only [arr, ofNat_self]
  b g s := by simp only [arr, ofNat_self]
  cw d c := by simp only [arr, ofNat_self]

end Cert.Fwd

end
-- ==== Proof.FwdTile.lean ====
/-
  One chunk of one group of the gating unit as the forward kernel's body computes it, the normalised rows, the products
  with the projection's weights and the convolution's four taps.
-/
module

public import proofs.«01_k».proof.Proof.Gen.Kernel7Ideal.Skeleton
public import proofs.«01_k».proof.Proof.FwdSpec
public import proofs.«01_k».proof.Proof.KernelRead

@[expose] public section

set_option maxRecDepth 16384

noncomputable section

open Idealize.ShloMosaic Idealize.ShloMosaic.TcCoe Cert.Reals Cert.Kernel7Ideal Cert.Kernel7Ideal.Gen

namespace Cert.Fwd.Tile

/-- The reciprocal root of two, under its name. -/
theorem root_half_real :
    Named.named (F := Ideal) Cert.Kernel7Ideal.κ "root_half" (φ := .f32) 0x3F3504F3#32 = (((Real.sqrt 2)⁻¹ : ℝ) : EReal) :=
  IdealRules.named_const.ideal_named_scalar _ _ _ _ rfl

/-- The loads of a chunk are the chunk's numbers. -/
structure Holds (T : Chunk) (u v z : FVec Ideal S128x128 .f32) (b : FVec Ideal S128x1 .f32) (lg lb : FVec Ideal S1x128 .f32)
    (ws : FVec Ideal S1x128x128 .f32) : Prop where
  u : ∀ s j : Fin 128, u (ix2 s j) = T.u s j
  v : ∀ s j : Fin 128, v (ix2 s j) = T.v s j
  z : ∀ s j : Fin 128, z (ix2 s j) = T.z s j
  b : ∀ s : Fin 128, b (ix2 s 0) = T.b s
  lg : ∀ j : Fin 128, lg (ix2 0 j) = T.lg j
  lb : ∀ j : Fin 128, lb (ix2 0 j) = T.lb j
  ws : ∀ s t : Fin 128, ws (ix3 0 s t) = T.ws s t

/-- The chunk's output. -/
theorem out {T : Chunk} {u v z : FVec Ideal S128x128 .f32} {b : FVec Ideal S128x1 .f32} {lg lb : FVec Ideal S1x128 .f32}
    {ws : FVec Ideal S1x128x128 .f32} (h : Holds T u v z b lg lb ws) (s j : Fin 128) :
    k0_pay17 (F := Ideal) z (k0_pay14 u v b lg lb (k0_pay13 ws)) (k0_pay15 z) k0_pay16 (ix2 s j) = T.out s j := by
  pointwise [k0_pay13, k0_pay14, k0_pay15, k0_pay16, k0_pay17, h.u, h.v, h.z, h.b, h.lg, h.lb, h.ws]
  simp only [KTile.sge_select, root_half_real, Chunk.out, Chunk.mix, ite_mul, zero_mul]
  rfl

/-- The column of the spatial bias that a group's one-hot row picks. -/
theorem bcol_at (bt : FVec Ideal S128x4 .f32) (g : Fin 4) (s : Fin 128) : KTile.bcol bt (BitVec.ofNat 32 g) (ix2 s 0) = bt (ix2 s g) := by
  unfold KTile.bcol
  pointwise [KTile.onehot_real]
  rw [Finset.sum_eq_single g (fun j _ hj => by rw [if_neg hj, EReal.coe_zero, mul_zero]) (fun hg => absurd (Finset.mem_univ g) hg), if_pos rfl,
    EReal.coe_one, mul_one]

/-- The normalised rows. -/
theorem xn {A : Arr} {t : ℕ} {x : FVec Ideal S512x1024 .f32} {g : FVec Ideal S1x1024 .f32}
    (hx : ∀ (r : Fin 512) (k : Fin 1024), x (ix2 r k) = A.x (512 * t + r) k) (hg : ∀ k : Fin 1024, g (ix2 0 k) = A.g k)
    (r : Fin 512) (k : Fin 1024) : k0_pay4 (F := Ideal) x g (ix2 r k) = A.xn (512 * t + r) k := by
  pointwise [k0_pay4, hx, hg]
  rfl

/-- A product of the rows with 512 of the projection's columns. -/
theorem prod (u w : FVec Ideal S512x1024 .bf16) (r j : Fin 512) :
    k0_pay2 (F := Ideal) u w (ix2 r j) = ∑ k : Fin 1024, u (ix2 r k) * w (ix2 j k) := by
  pointwise [k0_pay2]

theorem prod_gate (u : FVec Ideal S512x1024 .bf16) (w : FVec Ideal S128x1024 .bf16) (r : Fin 512) (j : Fin 128) :
    k0_pay151 (F := Ideal) u w (ix2 r j) = ∑ k : Fin 1024, u (ix2 r k) * w (ix2 j k) := by
  pointwise [k0_pay151]

/-- The four taps: each reads the held rows from its own distance on. -/
theorem taps (v : FVec Ideal S520x1536 .f32) (c0 c1 c2 c3 : FVec Ideal S1x1536 .f32) (i : Fin 512) (j : Fin 1536) :
    k0_pay155 (F := Ideal) v (k0_pay153 v c0) (k0_pay154 v) c1 c2 c3 (ix2 i j)
      = c0 (ix2 0 j) * v (ix2 ⟨5 + i, by omega⟩ j) + c1 (ix2 0 j) * v (ix2 ⟨6 + i, by omega⟩ j)
        + c2 (ix2 0 j) * v (ix2 ⟨7 + i, by omega⟩ j) + c3 (ix2 0 j) * v (ix2 ⟨8 + i, by omega⟩ j) := by
  pointwise [k0_pay153, k0_pay154, k0_pay155]
  simp only [show (i : ℕ) + 520 - 515 = 5 + i by omega, show (i : ℕ) + 520 - 514 = 6 + i by omega, show (i : ℕ) + 520 - 513 = 7 + i by omega,
    Nat.mod_eq_of_lt (show 5 + (i : ℕ) < 520 by omega), Nat.mod_eq_of_lt (show 6 + (i : ℕ) < 520 by omega),
    Nat.mod_eq_of_lt (show 7 + (i : ℕ) < 520 by omega)]

end Cert.Fwd.Tile

end
-- ==== Proof.FwdPoint.lean ====
/-
  One grid point of the forward call: the blocks and buffers it works on, what it loads and what it stores.
-/
module

public import proofs.«01_k».proof.Proof.Gen.Kernel7Ideal.Frame
public import proofs.«01_k».proof.Proof.FwdTile

@[expose] public section

set_option maxRecDepth 16384

noncomputable section

open Idealize.ShloMosaic Idealize.ShloMosaic.TcCoe Cert.Reals Cert.Kernel7Ideal Cert.Kernel7Ideal.Gen

namespace Cert.Fwd

open Cert.KPoint (rect2 rect3)

/-- A load of a whole memref's contents at a rectangle. -/
theorem load_at {S : Shape} {e : EltTy} {sp : Space} (w : Memref sig .tc sp S e) (hw : w.IsWhole) (x : S.Idx → Elt Ideal e) (R : Rect S)
    (j : R.shape.Idx) : View.readAt (Elt Ideal) w.view R.toLoadRect (hw.unread x) j = x (R.idx j) := by
  show View.read (Elt Ideal) w.view (hw.unread x) (R.idx j) = _
  rw [hw.read_unread]

/-- Under the last store, its payload. -/
theorem canon_in {s : Shape} {e : EltTy} {off size : Fin s.rank → ℕ} (inb : ∀ a, off a + size a ≤ s.size a)
    (w : (Rect.unit off size inb).shape.Idx → Elt Ideal e) (L : List (View.Piece (Elt Ideal) s e)) (y : s.Idx)
    (x : (Rect.unit off size inb).shape.Idx) (hx : ∀ a, (y a).val = off a + (x a).val) :
    View.canon (⟨Rect.unit off size inb, w⟩ :: L) y = w x := by
  have hy : (Rect.unit off size inb).emb x = y := funext fun a => Fin.ext (by
    show off a + 1 * (x a).val = (y a).val
    rw [hx a, Nat.one_mul])
  rw [← hy]
  exact View.canon_cons_emb _ _ _ _

/-- Off the last store, what the stores before it left. -/
theorem canon_out {s : Shape} {e : EltTy} {off size : Fin s.rank → ℕ} (inb : ∀ a, off a + size a ≤ s.size a)
    (w : (Rect.unit off size inb).shape.Idx → Elt Ideal e) (L : List (View.Piece (Elt Ideal) s e)) (y : s.Idx) (a : Fin s.rank)
    (ha : (y a).val < off a ∨ off a + size a ≤ (y a).val) :
    View.canon (⟨Rect.unit off size inb, w⟩ :: L) y = View.canon L y := by
  refine View.canon_cons_of_not_mem _ _ ?_
  show y ∉ (Rect.unit off size inb).set
  rw [Rect.mem_set_unit]
  intro hall
  have := hall a
  omega

/-- What a grid point works on. -/
structure Blk where
  a1 : Memref sig .tc .vmem S512x1024 .f32
  h1 : a1.IsWhole
  a2 : Memref sig .tc .vmem S1x1024 .f32
  h2 : a2.IsWhole
  a3 : Memref sig .tc .vmem S3592x1024 .bf16
  h3 : a3.IsWhole
  a4 : Memref sig .tc .vmem S128x1024 .bf16
  h4 : a4.IsWhole
  a5 : Memref sig .tc .vmem S1x512 .f32
  h5 : a5.IsWhole
  a6 : Memref sig .tc .vmem S1x512 .f32
  h6 : a6.IsWhole
  a7 : Memref sig .tc .vmem S4x128x128 .f32
  h7 : a7.IsWhole
  a8 : Memref sig .tc .vmem S128x4 .f32
  h8 : a8.IsWhole
  a9 : Memref sig .tc .vmem S4x1536 .f32
  h9 : a9.IsWhole
  a10 : Memref sig .tc .vmem S512x1536 .f32
  h10 : a10.IsWhole
  a11 : Memref sig .tc .vmem S512x1536 .f32
  h11 : a11.IsWhole
  a12 : Memref sig .tc .vmem S512x512 .f32
  h12 : a12.IsWhole
  a13 : Memref sig .tc .vmem S512x128 .f32
  h13 : a13.IsWhole
  a14 : Memref sig .tc .vmem S512x512 .bf16
  h14 : a14.IsWhole
  a15 : Memref sig .tc .vmem S512x1536 .f32
  h15 : a15.IsWhole
  a16 : Memref sig .tc .vmem S520x1536 .f32
  h16 : a16.IsWhole
  x0 : Vec Ideal S512x1024 .f32
  x1 : Vec Ideal S1x1024 .f32
  x2 : Vec Ideal S3592x1024 .bf16
  x3 : Vec Ideal S128x1024 .bf16
  x4 : Vec Ideal S1x512 .f32
  x5 : Vec Ideal S1x512 .f32
  x6 : Vec Ideal S4x128x128 .f32
  x7 : Vec Ideal S128x4 .f32
  x8 : Vec Ideal S4x1536 .f32

variable (B : Blk)

namespace Blk

/-- The normalised rows. -/
def xn : FVec Ideal S512x1024 .bf16 :=
  k0_pay4 (F := Ideal) (View.readAt (Elt Ideal) B.a1.view (Rect.unit (s := S512x1024) ![0, 0] S512x1024.size inb_S512x1024_S512x1024_0_0).toLoadRect (B.h1.unread B.x0))
    (View.readAt (Elt Ideal) B.a2.view (Rect.unit (s := S1x1024) ![0, 0] S1x1024.size inb_S1x1024_S1x1024_0_0).toLoadRect (B.h2.unread B.x1))

/-- The product with 512 of the projection's columns. -/
def pr (o : ℕ) (ho : ∀ d, (![o, 0] : Fin 2 → ℕ) d + S512x1024.size d ≤ S3592x1024.size d) : FVec Ideal S512x512 .f32 :=
  k0_pay2 (F := Ideal) B.xn (View.readAt (Elt Ideal) B.a3.view (Rect.unit (s := S3592x1024) ![o, 0] S512x1024.size ho).toLoadRect (B.h3.unread B.x2))

/-- The product with the gates' columns. -/
def gates : FVec Ideal S512x128 .f32 :=
  k0_pay151 (F := Ideal) B.xn (View.readAt (Elt Ideal) B.a4.view (Rect.unit (s := S128x1024) ![0, 0] S128x1024.size inb_S128x1024_S128x1024_0_0).toLoadRect (B.h4.unread B.x3))

/-- Three products side by side. -/
def cols3 (a b c : FVec Ideal S512x512 .f32) : List (View.Piece (Elt Ideal) S512x1536 .f32) :=
  [⟨Rect.unit (s := S512x1536) ![0, 1024] S512x512.size inb_S512x1536_S512x512_0_1024, c⟩,
    ⟨Rect.unit (s := S512x1536) ![0, 512] S512x512.size inb_S512x1536_S512x512_0_512, b⟩,
    ⟨Rect.unit (s := S512x1536) ![0, 0] S512x512.size inb_S512x1536_S512x512_0_0, a⟩]

/-- The stores of the gating unit's three inputs. -/
def uvz : List (View.Piece (Elt Ideal) S512x1536 .f32) :=
  cols3 (B.pr 0 inb_S3592x1024_S512x1024_0_0) (B.pr 512 inb_S3592x1024_S512x1024_512_0) (B.pr 1024 inb_S3592x1024_S512x1024_1024_0)

/-- The stores of the convolution's input. -/
def qkv : List (View.Piece (Elt Ideal) S512x1536 .f32) :=
  cols3 (B.pr 1536 inb_S3592x1024_S512x1024_1536_0) (B.pr 2048 inb_S3592x1024_S512x1024_2048_0) (B.pr 2560 inb_S3592x1024_S512x1024_2560_0)

theorem inb_cut (k g : Fin 4) (o : ℕ) (ho : o + 512 ≤ 1536) :
    ∀ d, (![128 * (k : ℕ), o + 128 * (g : ℕ)] : Fin 2 → ℕ) d + S128x128.size d ≤ S512x1536.size d := by
  refine Fin.forall_fin_two.2 ⟨?_, ?_⟩
  · show 128 * (k : ℕ) + 128 ≤ 512; omega
  · show o + 128 * (g : ℕ) + 128 ≤ 1536; omega

theorem inb_tile (k g : Fin 4) : ∀ d, (![128 * (k : ℕ), 128 * (g : ℕ)] : Fin 2 → ℕ) d + S128x128.size d ≤ S512x512.size d := by
  refine Fin.forall_fin_two.2 ⟨?_, ?_⟩
  · show 128 * (k : ℕ) + 128 ≤ 512; omega
  · show 128 * (g : ℕ) + 128 ≤ 512; omega

theorem inb_row (g : Fin 4) : ∀ d, (![0, 128 * (g : ℕ)] : Fin 2 → ℕ) d + S1x128.size d ≤ S1x512.size d := by
  refine Fin.forall_fin_two.2 ⟨?_, ?_⟩
  · show 0 + 1 ≤ 1; omega
  · show 128 * (g : ℕ) + 128 ≤ 512; omega

theorem inb_slab (g : Fin 4) : ∀ d, (![(g : ℕ), 0, 0] : Fin 3 → ℕ) d + S1x128x128.size d ≤ S4x128x128.size d := by
  intro d
  fin_cases d
  · show (g : ℕ) + 1 ≤ 4; omega
  · show 0 + 128 ≤ 128; omega
  · show 0 + 128 ≤ 128; omega

/-- A chunk of one of the three inputs. -/
def cut (k g : Fin 4) (o : ℕ) (ho : o + 512 ≤ 1536) : FVec Ideal S128x128 .f32 :=
  k0_pay9 (F := Ideal) (B.a10.view.readCov B.uvz (Rect.unit (s := S512x1536) ![128 * (k : ℕ), o + 128 * (g : ℕ)] S128x128.size (inb_cut k g o ho)).toLoadRect)

def bias (g : Fin 4) : FVec Ideal S128x1 .f32 :=
  KTile.bcol (shapeCast S128x4 (View.readAt (Elt Ideal) B.a8.view (Rect.unit (s := S128x4) ![0, 0] S128x4.size inb_S128x4_S128x4_0_0).toLoadRect (B.h8.unread B.x7)) shapeCasts_S128x4_S128x4) (BitVec.ofNat 32 (g : ℕ))

def scale (g : Fin 4) : FVec Ideal S1x128 .f32 := View.readAt (Elt Ideal) B.a5.view (Rect.unit (s := S1x512) ![0, 128 * (g : ℕ)] S1x128.size (inb_row g)).toLoadRect (B.h5.unread B.x4)
def shift (g : Fin 4) : FVec Ideal S1x128 .f32 := View.readAt (Elt Ideal) B.a6.view (Rect.unit (s := S1x512) ![0, 128 * (g : ℕ)] S1x128.size (inb_row g)).toLoadRect (B.h6.unread B.x5)
def slab (g : Fin 4) : FVec Ideal S1x128x128 .f32 := View.readAt (Elt Ideal) B.a7.view (Rect.unit (s := S4x128x128) ![(g : ℕ), 0, 0] S1x128x128.size (inb_slab g)).toLoadRect (B.h7.unread B.x6)

/-- The gating unit's output for a chunk of a group. -/
def tile (k g : Fin 4) : FVec Ideal S128x128 .bf16 :=
  k0_pay17 (F := Ideal) (B.cut k g 1024 (by omega))
    (k0_pay14 (B.cut k g 0 (by omega)) (B.cut k g 512 (by omega)) (B.bias g) (B.scale g) (B.shift g) (k0_pay13 (B.slab g)))
    (k0_pay15 (B.cut k g 1024 (by omega))) k0_pay16

def tileR (k g : Fin 4) : Rect S512x512 := Rect.unit (s := S512x512) ![128 * (k : ℕ), 128 * (g : ℕ)] S128x128.size (inb_tile k g)

/-- The sixteen stores of the gating unit's output. -/
def tiles (d : Fin 4 → Fin 4 → FVec Ideal S128x128 .bf16) : List (View.Piece (Elt Ideal) S512x512 .bf16) :=
  [⟨tileR 3 3, d 3 3⟩, ⟨tileR 3 2, d 3 2⟩, ⟨tileR 3 1, d 3 1⟩, ⟨tileR 3 0, d 3 0⟩,
    ⟨tileR 2 3, d 2 3⟩, ⟨tileR 2 2, d 2 2⟩, ⟨tileR 2 1, d 2 1⟩, ⟨tileR 2 0, d 2 0⟩,
    ⟨tileR 1 3, d 1 3⟩, ⟨tileR 1 2, d 1 2⟩, ⟨tileR 1 1, d 1 1⟩, ⟨tileR 1 0, d 1 0⟩,
    ⟨tileR 0 3, d 0 3⟩, ⟨tileR 0 2, d 0 2⟩, ⟨tileR 0 1, d 0 1⟩, ⟨tileR 0 0, d 0 0⟩]

/-- The convolution's input, as the point reads it back. -/
def q : FVec Ideal S512x1536 .f32 :=
  k0_pay152 (F := Ideal) (B.a11.view.readCov B.qkv (Rect.unit (s := S512x1536) ![0, 0] S512x1536.size inb_S512x1536_S512x1536_0_0).toLoadRect)

/-- The rows the point holds for the convolution, stored over what was there. -/
def rowsB : List (View.Piece (Elt Ideal) S520x1536 .f32) :=
  [⟨Rect.unit (s := S520x1536) ![8, 0] S512x1536.size inb_S520x1536_S512x1536_8_0, B.q⟩]

/-- The same at a sequence's first point, with zeros before them. -/
def rowsA : List (View.Piece (Elt Ideal) S520x1536 .f32) :=
  [⟨Rect.unit (s := S520x1536) ![8, 0] S512x1536.size inb_S520x1536_S512x1536_8_0, B.q⟩,
    ⟨Rect.unit (s := S520x1536) ![0, 0] S8x1536.size inb_S520x1536_S8x1536_0_0, k0_pay3 (F := Ideal)⟩]

def heldA : FVec Ideal S520x1536 .f32 :=
  B.a16.view.readCov B.rowsA (Rect.unit (s := S520x1536) ![0, 0] S520x1536.size inb_S520x1536_S520x1536_0_0).toLoadRect

def heldB (xs : Vec Ideal S520x1536 .f32) : FVec Ideal S520x1536 .f32 :=
  View.readAt (Elt Ideal) B.a16.view (Rect.unit (s := S520x1536) ![0, 0] S520x1536.size inb_S520x1536_S520x1536_0_0).toLoadRect
    (B.a16.view.writes (Elt Ideal) (B.h16.unread xs) B.rowsB)

/-- The convolution of the rows held. -/
def conv (v : FVec Ideal S520x1536 .f32) : FVec Ideal S512x1536 .f32 :=
  k0_pay155 (F := Ideal) v (k0_pay153 v (View.readAt (Elt Ideal) B.a9.view (Rect.unit (s := S4x1536) ![0, 0] S1x1536.size inb_S4x1536_S1x1536_0_0).toLoadRect (B.h9.unread B.x8))) (k0_pay154 v)
    (View.readAt (Elt Ideal) B.a9.view (Rect.unit (s := S4x1536) ![1, 0] S1x1536.size inb_S4x1536_S1x1536_1_0).toLoadRect (B.h9.unread B.x8))
    (View.readAt (Elt Ideal) B.a9.view (Rect.unit (s := S4x1536) ![2, 0] S1x1536.size inb_S4x1536_S1x1536_2_0).toLoadRect (B.h9.unread B.x8))
    (View.readAt (Elt Ideal) B.a9.view (Rect.unit (s := S4x1536) ![3, 0] S1x1536.size inb_S4x1536_S1x1536_3_0).toLoadRect (B.h9.unread B.x8))

/-- The last eight rows, stored for the next point. -/
def kept (L : List (View.Piece (Elt Ideal) S520x1536 .f32)) : List (View.Piece (Elt Ideal) S520x1536 .f32) :=
  ⟨Rect.unit (s := S520x1536) ![0, 0] S8x1536.size inb_S520x1536_S8x1536_0_0,
    k0_pay1 (F := Ideal) (B.a16.view.readCov L (Rect.unit (s := S520x1536) ![512, 0] S8x1536.size inb_S520x1536_S8x1536_512_0).toLoadRect)⟩ :: L

end Blk

end Cert.Fwd

end
-- ==== Proof.SmallPoint.lean ====
/-
  What the optimiser's call of the small weights leaves in each output, element by element.
-/
module

public import proofs.«01_k».proof.Proof.SmallPay
public import proofs.«01_k».proof.Proof.FwdPoint
public import proofs.«01_k».proof.Proof.Gen.Kernel8Ideal.Frame.RunA

@[expose] public section

set_option maxRecDepth 16384
set_option maxHeartbeats 1000000

noncomputable section

open Idealize.ShloMosaic Idealize.ShloMosaic.TcCoe Cert.Adam Cert.Kernel8Ideal Cert.Kernel8Ideal.Gen
open Cert.Fwd (canon_in)
open Cert.KPoint (rect2 rect3)

namespace Cert.Small

/-- A load of a whole memref's contents at a rectangle. -/
theorem load_at {S : Shape} {e : EltTy} {sp : Space} (w : Memref sig .tc sp S e) (hw : w.IsWhole) (x : S.Idx → Elt Ideal e) (R : Rect S)
    (j : R.shape.Idx) : View.readAt (Elt Ideal) w.view R.toLoadRect (hw.unread x) j = x (R.idx j) := by
  show View.read (Elt Ideal) w.view (hw.unread x) (R.idx j) = _
  rw [hw.read_unread]

section Loads

variable (c : Dev nD) (arg0 : Memref sig .tc .vmem S4x600x128 .f32) (harg0 : arg0.IsWhole) (arg24 : Memref sig .tc .vmem S600x128 .f32)
  (x0 : Vec Ideal S4x600x128 .f32)

/-- One chip's packed gradients. -/
theorem chip_at (k : ℕ) (hk : k < 4) (inb : ∀ d, (![k, 0, 0] : Fin 3 → ℕ) d + S1x600x128.size d ≤ S4x600x128.size d) (r : Fin 600) (l : Fin 128) :
    View.readAt (Elt Ideal) arg0.view (Rect.unit (s := S4x600x128) ![k, 0, 0] S1x600x128.size inb).toLoadRect (harg0.unread x0) (ix3 0 r l)
      = x0 (ix3 ⟨k, hk⟩ r l) := by
  rw [load_at, rect3]
  simp

/-- The packed sum, which the body keeps in its scratch array. -/
theorem sum_at (r : Fin 600) (l : Fin 128) : View.canon (kernelRun0_A.sl.HS0_1 (F := Ideal) c arg0 harg0 x0) (ix2 r l) = total x0 r l := by
  refine (canon_in inb_S600x128_S600x128_0_0 _ _ (ix2 r l) (ix2 r l) (Fin.forall_fin_two.2 ⟨(Nat.zero_add _).symm, (Nat.zero_add _).symm⟩)).trans ?_
  refine (ker_sum _ _ _ _ r l).trans ?_
  rw [chip_at arg0 harg0 x0 0 (by omega), chip_at arg0 harg0 x0 1 (by omega), chip_at arg0 harg0 x0 2 (by omega), chip_at arg0 harg0 x0 3 (by omega)]
  rfl

theorem inb_line (n : ℕ) (hn : n < 600) : ∀ d, (![n, 0] : Fin 2 → ℕ) d + S1x128.size d ≤ S600x128.size d := by
  refine Fin.forall_fin_two.2 ⟨?_, ?_⟩
  · show n + 1 ≤ 600; omega
  · show 0 + 128 ≤ 128; omega

/-- One row of the packed sum. -/
def line (n : ℕ) (hn : n < 600) : FVec Ideal S1x128 .f32 :=
  arg24.view.readCov (kernelRun0_A.sl.HS0_1 (F := Ideal) c arg0 harg0 x0) (Rect.unit (s := S600x128) ![n, 0] S1x128.size (inb_line n hn)).toLoadRect

theorem line_at (n : ℕ) (hn : n < 600) (l : Fin 128) : line c arg0 harg0 arg24 x0 n hn (ix2 0 l) = total x0 ⟨n, hn⟩ l := by
  unfold line
  rw [View.readCov_eq_canon']
  refine (congrArg (View.canon _) ((rect2 (inb_line n hn) 0 l).trans
    (show _ = ix2 (⟨n, hn⟩ : Fin 600) l from congrArg₂ ix2 (Fin.ext (Nat.add_zero n)) (Fin.ext (Nat.zero_add l.val))))).trans ?_
  exact sum_at c arg0 harg0 x0 ⟨n, hn⟩ l

theorem g1_at (j : Fin 1024) : k0_pay5 (F := Ideal) (kernelRun0_A.sl.v70 (F := Ideal) c arg0 harg0 arg24 x0) (kernelRun0_A.sl.v71 (F := Ideal) c arg0 harg0 arg24 x0) (kernelRun0_A.sl.v72 (F := Ideal) c arg0 harg0 arg24 x0) (kernelRun0_A.sl.v73 (F := Ideal) c arg0 harg0 arg24 x0) (kernelRun0_A.sl.v74 (F := Ideal) c arg0 harg0 arg24 x0) (kernelRun0_A.sl.v75 (F := Ideal) c arg0 harg0 arg24 x0) (kernelRun0_A.sl.v76 (F := Ideal) c arg0 harg0 arg24 x0) (kernelRun0_A.sl.v77 (F := Ideal) c arg0 harg0 arg24 x0) (ix2 0 j) = at' x0 48 j := by
  refine (cat8 (fun n => line c arg0 harg0 arg24 x0 (48 + n) (by omega)) j).trans ?_
  refine (line_at c arg0 harg0 arg24 x0 _ _ _).trans ?_
  unfold at'
  rw [dif_pos (by omega)]

theorem g2_at (j : Fin 512) : k0_pay11 (F := Ideal) (kernelRun0_A.sl.v110 (F := Ideal) c arg0 harg0 arg24 x0) (kernelRun0_A.sl.v111 (F := Ideal) c arg0 harg0 arg24 x0) (kernelRun0_A.sl.v112 (F := Ideal) c arg0 harg0 arg24 x0) (kernelRun0_A.sl.v113 (F := Ideal) c arg0 harg0 arg24 x0) (ix2 0 j) = at' x0 56 j := by
  refine (cat4 (fun n => line c arg0 harg0 arg24 x0 (56 + n) (by omega)) j).trans ?_
  refine (line_at c arg0 harg0 arg24 x0 _ _ _).trans ?_
  unfold at'
  rw [dif_pos (by omega)]

theorem g3_at (j : Fin 512) : k0_pay16 (F := Ideal) (kernelRun0_A.sl.v146 (F := Ideal) c arg0 harg0 arg24 x0) (kernelRun0_A.sl.v147 (F := Ideal) c arg0 harg0 arg24 x0) (kernelRun0_A.sl.v148 (F := Ideal) c arg0 harg0 arg24 x0) (kernelRun0_A.sl.v149 (F := Ideal) c arg0 harg0 arg24 x0) (ix2 0 j) = at' x0 60 j := by
  refine (cat4 (fun n => line c arg0 harg0 arg24 x0 (60 + n) (by omega)) j).trans ?_
  refine (line_at c arg0 harg0 arg24 x0 _ _ _).trans ?_
  unfold at'
  rw [dif_pos (by omega)]

/-- A load of a whole vector. -/
theorem whole1 (a : Memref sig .tc .vmem S1x1024 .f32) (ha : a.IsWhole) (x : Vec Ideal S1x1024 .f32) (j : Fin 1024) :
    View.readAt (Elt Ideal) a.view (Rect.unit (s := S1x1024) ![0, 0] S1x1024.size inb_S1x1024_S1x1024_0_0).toLoadRect (ha.unread x) (ix2 0 j) = x (ix2 0 j) := by
  rw [load_at, rect2]
  simp

theorem whole2 (a : Memref sig .tc .vmem S1x512 .f32) (ha : a.IsWhole) (x : Vec Ideal S1x512 .f32) (j : Fin 512) :
    View.readAt (Elt Ideal) a.view (Rect.unit (s := S1x512) ![0, 0] S1x512.size inb_S1x512_S1x512_0_0).toLoadRect (ha.unread x) (ix2 0 j) = x (ix2 0 j) := by
  rw [load_at, rect2]
  simp

end Loads

variable (c : Dev nD) (arg0 : Memref sig .tc .vmem S4x600x128 .f32) (harg0 : arg0.IsWhole) (arg1 : Memref sig .tc .vmem S1x1024 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S4x1536 .f32) (harg10 : arg10.IsWhole) (arg11 : Memref sig .tc .vmem S1x1 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S1x512 .f32) (harg23 : arg23.IsWhole) (arg24 : Memref sig .tc .vmem S600x128 .f32) (harg24 : arg24.IsWhole)
    (x0 : Vec Ideal S4x600x128 .f32) (x1 : Vec Ideal S1x1024 .f32) (x2 : Vec Ideal S1x512 .f32) (x3 : Vec Ideal S1x512 .f32) (x4 : Vec Ideal S1x1024 .f32) (x5 : Vec Ideal S1x512 .f32) (x6 : Vec Ideal S1x512 .f32) (x7 : Vec Ideal S1x1024 .f32) (x8 : Vec Ideal S1x512 .f32) (x9 : Vec Ideal S1x512 .f32)

theorem out_10 (r : Fin 4) (j : Fin 1536) : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).1 (ix2 r j) = at' x0 0 (r.val * 1536 + j.val) := by
  refine (canon_in inb_S4x1536_S4x1536_0_0 _ _ (ix2 r j) (ix2 r j) (Fin.forall_fin_two.2 ⟨(Nat.zero_add _).symm, (Nat.zero_add _).symm⟩)).trans ?_
  refine (cat48 (fun p n => line c arg0 harg0 arg24 x0 (12 * p.val + n.val) (by omega)) r j).trans ?_
  refine (line_at c arg0 harg0 arg24 x0 _ _ _).trans ?_
  unfold at'
  rw [dif_pos (by omega)]
  exact congrArg₂ (total x0) (Fin.ext (by show 12 * r.val + j.val / 128 = 0 + (r.val * 1536 + j.val) / 128; omega))
    (Fin.ext (by show j.val % 128 = (r.val * 1536 + j.val) % 128; omega))

theorem out_11 : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.1 (ix2 0 0) = total x0 599 0 := by
  refine (canon_in inb_S1x1_S1x1_0_0 _ _ (ix2 0 0) (ix2 0 0) (Fin.forall_fin_two.2 ⟨(Nat.zero_add _).symm, (Nat.zero_add _).symm⟩)).trans ?_
  refine (congrFun (View.readCov_eq_canon' arg24.view (kernelRun0_A.sl.HS0_1 (F := Ideal) c arg0 harg0 x0) (Rect.unit (s := S600x128) ![599, 0] S1x1.size inb_S600x128_S1x1_599_0).toLoadRect) (ix2 0 0)).trans ?_
  refine (congrArg (View.canon _) ((rect2 inb_S600x128_S1x1_599_0 0 0).trans
    (show _ = ix2 (599 : Fin 600) (0 : Fin 128) from rfl))).trans ?_
  exact sum_at c arg0 harg0 x0 599 0

theorem out_12 (j : Fin 1024) : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.2.1 (ix2 0 j)
    = at' x0 48 j := by
  refine (canon_in inb_S1x1024_S1x1024_0_0 _ _ (ix2 0 j) (ix2 0 j) (Fin.forall_fin_two.2 ⟨(Nat.zero_add _).symm, (Nat.zero_add _).symm⟩)).trans ?_
  exact g1_at c arg0 harg0 arg24 x0 j

theorem out_13 (j : Fin 1024) : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.2.2.1 (ix2 0 j)
    = change (x1 (ix2 0 j)) (at' x0 48 j) (x4 (ix2 0 j)) (x7 (ix2 0 j)) := by
  refine (canon_in inb_S1x1024_S1x1024_0_0 _ _ (ix2 0 j) (ix2 0 j) (Fin.forall_fin_two.2 ⟨(Nat.zero_add _).symm, (Nat.zero_add _).symm⟩)).trans ?_
  refine (ker_d1 _ _ _ _ _ _ _ _ _ _ _ j).trans ?_
  exact congr (congr (congr (congrArg change (whole1 arg1 harg1 x1 j)) (g1_at c arg0 harg0 arg24 x0 j)) (whole1 arg4 harg4 x4 j)) (whole1 arg7 harg7 x7 j)

theorem out_14 (j : Fin 1024) : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.2.2.2.1 (ix2 0 j)
    = first (at' x0 48 j) (x4 (ix2 0 j)) := by
  refine (canon_in inb_S1x1024_S1x1024_0_0 _ _ (ix2 0 j) (ix2 0 j) (Fin.forall_fin_two.2 ⟨(Nat.zero_add _).symm, (Nat.zero_add _).symm⟩)).trans ?_
  refine (ker_m1 _ _ _ _ _ _ _ _ _ j).trans ?_
  exact congr (congrArg first (g1_at c arg0 harg0 arg24 x0 j)) (whole1 arg4 harg4 x4 j)

theorem out_15 (j : Fin 1024) : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.2.2.2.2.1 (ix2 0 j)
    = second (at' x0 48 j) (x7 (ix2 0 j)) := by
  refine (canon_in inb_S1x1024_S1x1024_0_0 _ _ (ix2 0 j) (ix2 0 j) (Fin.forall_fin_two.2 ⟨(Nat.zero_add _).symm, (Nat.zero_add _).symm⟩)).trans ?_
  refine (ker_v1 _ _ _ _ _ _ _ _ _ j).trans ?_
  exact congr (congrArg second (g1_at c arg0 harg0 arg24 x0 j)) (whole1 arg7 harg7 x7 j)

theorem out_16 (j : Fin 512) : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.2.2.2.2.2.1 (ix2 0 j)
    = at' x0 56 j := by
  refine (canon_in inb_S1x512_S1x512_0_0 _ _ (ix2 0 j) (ix2 0 j) (Fin.forall_fin_two.2 ⟨(Nat.zero_add _).symm, (Nat.zero_add _).symm⟩)).trans ?_
  exact g2_at c arg0 harg0 arg24 x0 j

theorem out_17 (j : Fin 512) : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.2.2.2.2.2.2.1 (ix2 0 j)
    = change (x2 (ix2 0 j)) (at' x0 56 j) (x5 (ix2 0 j)) (x8 (ix2 0 j)) := by
  refine (canon_in inb_S1x512_S1x512_0_0 _ _ (ix2 0 j) (ix2 0 j) (Fin.forall_fin_two.2 ⟨(Nat.zero_add _).symm, (Nat.zero_add _).symm⟩)).trans ?_
  refine (ker_d2 _ _ _ _ _ _ _ j).trans ?_
  exact congr (congr (congr (congrArg change (whole2 arg2 harg2 x2 j)) (g2_at c arg0 harg0 arg24 x0 j)) (whole2 arg5 harg5 x5 j)) (whole2 arg8 harg8 x8 j)

theorem out_18 (j : Fin 512) : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.2.2.2.2.2.2.2.1 (ix2 0 j)
    = first (at' x0 56 j) (x5 (ix2 0 j)) := by
  refine (canon_in inb_S1x512_S1x512_0_0 _ _ (ix2 0 j) (ix2 0 j) (Fin.forall_fin_two.2 ⟨(Nat.zero_add _).symm, (Nat.zero_add _).symm⟩)).trans ?_
  refine (ker_m2 _ _ _ _ _ j).trans ?_
  exact congr (congrArg first (g2_at c arg0 harg0 arg24 x0 j)) (whole2 arg5 harg5 x5 j)

theorem out_19 (j : Fin 512) : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.2.2.2.2.2.2.2.2.1 (ix2 0 j)
    = second (at' x0 56 j) (x8 (ix2 0 j)) := by
  refine (canon_in inb_S1x512_S1x512_0_0 _ _ (ix2 0 j) (ix2 0 j) (Fin.forall_fin_two.2 ⟨(Nat.zero_add _).symm, (Nat.zero_add _).symm⟩)).trans ?_
  refine (ker_v2 _ _ j).trans ?_
  exact congr (congrArg second (g2_at c arg0 harg0 arg24 x0 j)) (whole2 arg8 harg8 x8 j)

theorem out_20 (j : Fin 512) : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.2.2.2.2.2.2.2.2.2.1 (ix2 0 j)
    = at' x0 60 j := by
  refine (canon_in inb_S1x512_S1x512_0_0 _ _ (ix2 0 j) (ix2 0 j) (Fin.forall_fin_two.2 ⟨(Nat.zero_add _).symm, (Nat.zero_add _).symm⟩)).trans ?_
  exact g3_at c arg0 harg0 arg24 x0 j

theorem out_21 (j : Fin 512) : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.2.2.2.2.2.2.2.2.2.2.1 (ix2 0 j)
    = change (x3 (ix2 0 j)) (at' x0 60 j) (x6 (ix2 0 j)) (x9 (ix2 0 j)) := by
  refine (canon_in inb_S1x512_S1x512_0_0 _ _ (ix2 0 j) (ix2 0 j) (Fin.forall_fin_two.2 ⟨(Nat.zero_add _).symm, (Nat.zero_add _).symm⟩)).trans ?_
  refine (ker_d3 _ _ _ _ j).trans ?_
  exact congr (congr (congr (congrArg change (whole2 arg3 harg3 x3 j)) (g3_at c arg0 harg0 arg24 x0 j)) (whole2 arg6 harg6 x6 j)) (whole2 arg9 harg9 x9 j)

theorem out_22 (j : Fin 512) : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.2.2.2.2.2.2.2.2.2.2.2.1 (ix2 0 j)
    = first (at' x0 60 j) (x6 (ix2 0 j)) := by
  refine (canon_in inb_S1x512_S1x512_0_0 _ _ (ix2 0 j) (ix2 0 j) (Fin.forall_fin_two.2 ⟨(Nat.zero_add _).symm, (Nat.zero_add _).symm⟩)).trans ?_
  refine (ker_m3 _ _ j).trans ?_
  exact congr (congrArg first (g3_at c arg0 harg0 arg24 x0 j)) (whole2 arg6 harg6 x6 j)

theorem out_23 (j : Fin 512) : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9).2.2.2.2.2.2.2.2.2.2.2.2.2.1 (ix2 0 j)
    = second (at' x0 60 j) (x9 (ix2 0 j)) := by
  refine (canon_in inb_S1x512_S1x512_0_0 _ _ (ix2 0 j) (ix2 0 j) (Fin.forall_fin_two.2 ⟨(Nat.zero_add _).symm, (Nat.zero_add _).symm⟩)).trans ?_
  refine (ker_v3 _ _ j).trans ?_
  exact congr (congrArg second (g3_at c arg0 harg0 arg24 x0 j)) (whole2 arg9 harg9 x9 j)

end Cert.Small

end
-- ==== Proof.SmallValue.lean ====
/-
  The optimiser's call of the small weights: its results are the reference's.
-/
module

public import proofs.«01_k».proof.Defs
public import proofs.«01_k».proof.Proof.SmallPoint
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Pointwise
public import Idealize.ShloMosaic.Lib.Pipeline.ValueKit

@[expose] public section

set_option maxRecDepth 16384
set_option maxHeartbeats 1000000

noncomputable section

open Idealize.ShloMosaic Idealize.ShloMosaic.TcCoe Idealize.SL.Sem Cert.Adam Cert.Kernel8Ideal.Value Cert.Kernel8Ideal.Gen Cert.Kernel8Ideal Cert.Reference8Ideal.Read
open Idealize.ShloMosaic.Pipeline (Dat)

namespace Cert.Small

theorem idx : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![0, 0] ∧ win0_23.index t = ![0, 0] :=
  (by decide +kernel : ∀ t : Fin grid0.N, _)

variable {m : (ℓ : Loc nD τ sig) → Buf (Elt Ideal) ℓ} {c : Dev nD} {x0 : FVec Ideal S4x600x128 .f32} {x1 x4 x7 : FVec Ideal S1x1024 .f32}
  {x2 x3 x5 x6 x8 x9 : FVec Ideal S1x512 .f32}

section Blocks

variable (t : Fin cfg0.N)

theorem blk0 (h : m ((c : Thread nD τ).loc main_arg0) = x0) : (iblk m c 0 t : FVec Ideal ⟨3, ![4, 600, 128]⟩ .f32) = x0 := by
  subst h
  rw [← V_main_arg0 m c]
  funext y
  idx_vars y
  blk_ext [iblk, idx t]

theorem blk1 (h : m ((c : Thread nD τ).loc main_arg1) = x1) : (iblk m c 1 t : FVec Ideal ⟨2, ![1, 1024]⟩ .f32) = x1 := by
  subst h
  rw [← V_main_arg1 m c]
  funext y
  idx_vars y
  blk_ext [iblk, idx t]

theorem blk2 (h : m ((c : Thread nD τ).loc main_arg2) = x2) : (iblk m c 2 t : FVec Ideal ⟨2, ![1, 512]⟩ .f32) = x2 := by
  subst h
  rw [← V_main_arg2 m c]
  funext y
  idx_vars y
  blk_ext [iblk, idx t]

theorem blk3 (h : m ((c : Thread nD τ).loc main_arg3) = x3) : (iblk m c 3 t : FVec Ideal ⟨2, ![1, 512]⟩ .f32) = x3 := by
  subst h
  rw [← V_main_arg3 m c]
  funext y
  idx_vars y
  blk_ext [iblk, idx t]

theorem blk4 (h : m ((c : Thread nD τ).loc main_arg4) = x4) : (iblk m c 4 t : FVec Ideal ⟨2, ![1, 1024]⟩ .f32) = x4 := by
  subst h
  rw [← V_main_arg4 m c]
  funext y
  idx_vars y
  blk_ext [iblk, idx t]

theorem blk5 (h : m ((c : Thread nD τ).loc main_arg5) = x5) : (iblk m c 5 t : FVec Ideal ⟨2, ![1, 512]⟩ .f32) = x5 := by
  subst h
  rw [← V_main_arg5 m c]
  funext y
  idx_vars y
  blk_ext [iblk, idx t]

theorem blk6 (h : m ((c : Thread nD τ).loc main_arg6) = x6) : (iblk m c 6 t : FVec Ideal ⟨2, ![1, 512]⟩ .f32) = x6 := by
  subst h
  rw [← V_main_arg6 m c]
  funext y
  idx_vars y
  blk_ext [iblk, idx t]

theorem blk7 (h : m ((c : Thread nD τ).loc main_arg7) = x7) : (iblk m c 7 t : FVec Ideal ⟨2, ![1, 1024]⟩ .f32) = x7 := by
  subst h
  rw [← V_main_arg7 m c]
  funext y
  idx_vars y
  blk_ext [iblk, idx t]

theorem blk8 (h : m ((c : Thread nD τ).loc main_arg8) = x8) : (iblk m c 8 t : FVec Ideal ⟨2, ![1, 512]⟩ .f32) = x8 := by
  subst h
  rw [← V_main_arg8 m c]
  funext y
  idx_vars y
  blk_ext [iblk, idx t]

theorem blk9 (h : m ((c : Thread nD τ).loc main_arg9) = x9) : (iblk m c 9 t : FVec Ideal ⟨2, ![1, 512]⟩ .f32) = x9 := by
  subst h
  rw [← V_main_arg9 m c]
  funext y
  idx_vars y
  blk_ext [iblk, idx t]

end Blocks

section Results

theorem final_10 (h0 : m ((c : Thread nD τ).loc main_arg0) = x0) : (dats m 0 c).arrAt 10 cfg0.N = val_main_v82 (F := Ideal) x0 := by
  refine (dats m 0 c).arrAt_eq_of_covers 10 _ (by decide +kernel) fun t hf y => ?_
  blk_simp
  rw [after0_10]
  idx_vars y
  have e : (val_main_v82 (F := Ideal) x0) (ix2 y0 y1) = (val_main_v82 (F := Ideal) x0) ((win0_10.blk t).view.emb (ix2 y0 y1)) := by blk_ext [idx t]
  refine Eq.trans ?_ e
  rw [ref_conv]
  unfold outsAt0
  dsimp only
  unfold out0_A_10
  rw [View.read_writes_junk_eq_canon, out_10, blk0 t h0]

theorem final_11 (h0 : m ((c : Thread nD τ).loc main_arg0) = x0) : (dats m 0 c).arrAt 11 cfg0.N = val_main_v80 (F := Ideal) x0 := by
  refine (dats m 0 c).arrAt_eq_of_covers 11 _ (by decide +kernel) fun t hf y => ?_
  blk_simp
  rw [after0_11]
  idx_vars y
  obtain rfl : y0 = 0 := Subsingleton.elim _ _
  obtain rfl : y1 = 0 := Subsingleton.elim _ _
  have e : (val_main_v80 (F := Ideal) x0) (ix2 0 0) = (val_main_v80 (F := Ideal) x0) ((win0_11.blk t).view.emb (ix2 0 0)) :=
    congrArg (val_main_v80 (F := Ideal) x0) (funext fun a => by fin_cases a <;> exact Subsingleton.elim (α := Fin 1) _ _)
  refine Eq.trans ?_ e
  rw [ref_loss]
  unfold outsAt0
  dsimp only
  unfold out0_A_11
  rw [View.read_writes_junk_eq_canon, out_11, blk0 t h0]

theorem final_12 (h0 : m ((c : Thread nD τ).loc main_arg0) = x0) : (dats m 0 c).arrAt 12 cfg0.N = val_main_v2 (F := Ideal) x0 := by
  refine (dats m 0 c).arrAt_eq_of_covers 12 _ (by decide +kernel) fun t hf y => ?_
  blk_simp
  rw [after0_12]
  idx_vars y
  obtain rfl : y0 = 0 := Subsingleton.elim _ _
  have e : (val_main_v2 (F := Ideal) x0) (ix2 0 y1) = (val_main_v2 (F := Ideal) x0) ((win0_12.blk t).view.emb (ix2 0 y1)) := by blk_ext [idx t]
  refine Eq.trans ?_ e
  rw [ref_g1]
  unfold outsAt0
  dsimp only
  unfold out0_A_12
  rw [View.read_writes_junk_eq_canon, out_12, blk0 t h0]

theorem final_13 (h0 : m ((c : Thread nD τ).loc main_arg0) = x0) (h1 : m ((c : Thread nD τ).loc main_arg1) = x1) (h4 : m ((c : Thread nD τ).loc main_arg4) = x4) (h7 : m ((c : Thread nD τ).loc main_arg7) = x7) : (dats m 0 c).arrAt 13 cfg0.N = val_main_v26 (F := Ideal) x0 x1 x4 x7 := by
  refine (dats m 0 c).arrAt_eq_of_covers 13 _ (by decide +kernel) fun t hf y => ?_
  blk_simp
  rw [after0_13]
  idx_vars y
  obtain rfl : y0 = 0 := Subsingleton.elim _ _
  have e : (val_main_v26 (F := Ideal) x0 x1 x4 x7) (ix2 0 y1) = (val_main_v26 (F := Ideal) x0 x1 x4 x7) ((win0_13.blk t).view.emb (ix2 0 y1)) := by blk_ext [idx t]
  refine Eq.trans ?_ e
  rw [ref_d1]
  unfold outsAt0
  dsimp only
  unfold out0_A_13
  rw [View.read_writes_junk_eq_canon, out_13, blk0 t h0, blk1 t h1, blk4 t h4, blk7 t h7]

theorem final_14 (h0 : m ((c : Thread nD τ).loc main_arg0) = x0) (h4 : m ((c : Thread nD τ).loc main_arg4) = x4) : (dats m 0 c).arrAt 14 cfg0.N = val_main_v7 (F := Ideal) x0 x4 := by
  refine (dats m 0 c).arrAt_eq_of_covers 14 _ (by decide +kernel) fun t hf y => ?_
  blk_simp
  rw [after0_14]
  idx_vars y
  obtain rfl : y0 = 0 := Subsingleton.elim _ _
  have e : (val_main_v7 (F := Ideal) x0 x4) (ix2 0 y1) = (val_main_v7 (F := Ideal) x0 x4) ((win0_14.blk t).view.emb (ix2 0 y1)) := by blk_ext [idx t]
  refine Eq.trans ?_ e
  rw [ref_m1]
  unfold outsAt0
  dsimp only
  unfold out0_A_14
  rw [View.read_writes_junk_eq_canon, out_14, blk0 t h0, blk4 t h4]

theorem final_15 (h0 : m ((c : Thread nD τ).loc main_arg0) = x0) (h7 : m ((c : Thread nD τ).loc main_arg7) = x7) : (dats m 0 c).arrAt 15 cfg0.N = val_main_v13 (F := Ideal) x0 x7 := by
  refine (dats m 0 c).arrAt_eq_of_covers 15 _ (by decide +kernel) fun t hf y => ?_
  blk_simp
  rw [after0_15]
  idx_vars y
  obtain rfl : y0 = 0 := Subsingleton.elim _ _
  have e : (val_main_v13 (F := Ideal) x0 x7) (ix2 0 y1) = (val_main_v13 (F := Ideal) x0 x7) ((win0_15.blk t).view.emb (ix2 0 y1)) := by blk_ext [idx t]
  refine Eq.trans ?_ e
  rw [ref_v1]
  unfold outsAt0
  dsimp only
  unfold out0_A_15
  rw [View.read_writes_junk_eq_canon, out_15, blk0 t h0, blk7 t h7]

theorem final_16 (h0 : m ((c : Thread nD τ).loc main_arg0) = x0) : (dats m 0 c).arrAt 16 cfg0.N = val_main_v28 (F := Ideal) x0 := by
  refine (dats m 0 c).arrAt_eq_of_covers 16 _ (by decide +kernel) fun t hf y => ?_
  blk_simp
  rw [after0_16]
  idx_vars y
  obtain rfl : y0 = 0 := Subsingleton.elim _ _
  have e : (val_main_v28 (F := Ideal) x0) (ix2 0 y1) = (val_main_v28 (F := Ideal) x0) ((win0_16.blk t).view.emb (ix2 0 y1)) := by blk_ext [idx t]
  refine Eq.trans ?_ e
  rw [ref_g2]
  unfold outsAt0
  dsimp only
  unfold out0_A_16
  rw [View.read_writes_junk_eq_canon, out_16, blk0 t h0]

theorem final_17 (h0 : m ((c : Thread nD τ).loc main_arg0) = x0) (h2 : m ((c : Thread nD τ).loc main_arg2) = x2) (h5 : m ((c : Thread nD τ).loc main_arg5) = x5) (h8 : m ((c : Thread nD τ).loc main_arg8) = x8) : (dats m 0 c).arrAt 17 cfg0.N = val_main_v52 (F := Ideal) x0 x2 x5 x8 := by
  refine (dats m 0 c).arrAt_eq_of_covers 17 _ (by decide +kernel) fun t hf y => ?_
  blk_simp
  rw [after0_17]
  idx_vars y
  obtain rfl : y0 = 0 := Subsingleton.elim _ _
  have e : (val_main_v52 (F := Ideal) x0 x2 x5 x8) (ix2 0 y1) = (val_main_v52 (F := Ideal) x0 x2 x5 x8) ((win0_17.blk t).view.emb (ix2 0 y1)) := by blk_ext [idx t]
  refine Eq.trans ?_ e
  rw [ref_d2]
  unfold outsAt0
  dsimp only
  unfold out0_A_17
  rw [View.read_writes_junk_eq_canon, out_17, blk0 t h0, blk2 t h2, blk5 t h5, blk8 t h8]

theorem final_18 (h0 : m ((c : Thread nD τ).loc main_arg0) = x0) (h5 : m ((c : Thread nD τ).loc main_arg5) = x5) : (dats m 0 c).arrAt 18 cfg0.N = val_main_v33 (F := Ideal) x0 x5 := by
  refine (dats m 0 c).arrAt_eq_of_covers 18 _ (by decide +kernel) fun t hf y => ?_
  blk_simp
  rw [after0_18]
  idx_vars y
  obtain rfl : y0 = 0 := Subsingleton.elim _ _
  have e : (val_main_v33 (F := Ideal) x0 x5) (ix2 0 y1) = (val_main_v33 (F := Ideal) x0 x5) ((win0_18.blk t).view.emb (ix2 0 y1)) := by blk_ext [idx t]
  refine Eq.trans ?_ e
  rw [ref_m2]
  unfold outsAt0
  dsimp only
  unfold out0_A_18
  rw [View.read_writes_junk_eq_canon, out_18, blk0 t h0, blk5 t h5]

theorem final_19 (h0 : m ((c : Thread nD τ).loc main_arg0) = x0) (h8 : m ((c : Thread nD τ).loc main_arg8) = x8) : (dats m 0 c).arrAt 19 cfg0.N = val_main_v39 (F := Ideal) x0 x8 := by
  refine (dats m 0 c).arrAt_eq_of_covers 19 _ (by decide +kernel) fun t hf y => ?_
  blk_simp
  rw [after0_19]
  idx_vars y
  obtain rfl : y0 = 0 := Subsingleton.elim _ _
  have e : (val_main_v39 (F := Ideal) x0 x8) (ix2 0 y1) = (val_main_v39 (F := Ideal) x0 x8) ((win0_19.blk t).view.emb (ix2 0 y1)) := by blk_ext [idx t]
  refine Eq.trans ?_ e
  rw [ref_v2]
  unfold outsAt0
  dsimp only
  unfold out0_A_19
  rw [View.read_writes_junk_eq_canon, out_19, blk0 t h0, blk8 t h8]

theorem final_20 (h0 : m ((c : Thread nD τ).loc main_arg0) = x0) : (dats m 0 c).arrAt 20 cfg0.N = val_main_v54 (F := Ideal) x0 := by
  refine (dats m 0 c).arrAt_eq_of_covers 20 _ (by decide +kernel) fun t hf y => ?_
  blk_simp
  rw [after0_20]
  idx_vars y
  obtain rfl : y0 = 0 := Subsingleton.elim _ _
  have e : (val_main_v54 (F := Ideal) x0) (ix2 0 y1) = (val_main_v54 (F := Ideal) x0) ((win0_20.blk t).view.emb (ix2 0 y1)) := by blk_ext [idx t]
  refine Eq.trans ?_ e
  rw [ref_g3]
  unfold outsAt0
  dsimp only
  unfold out0_A_20
  rw [View.read_writes_junk_eq_canon, out_20, blk0 t h0]

theorem final_21 (h0 : m ((c : Thread nD τ).loc main_arg0) = x0) (h3 : m ((c : Thread nD τ).loc main_arg3) = x3) (h6 : m ((c : Thread nD τ).loc main_arg6) = x6) (h9 : m ((c : Thread nD τ).loc main_arg9) = x9) : (dats m 0 c).arrAt 21 cfg0.N = val_main_v78 (F := Ideal) x0 x3 x6 x9 := by
  refine (dats m 0 c).arrAt_eq_of_covers 21 _ (by decide +kernel) fun t hf y => ?_
  blk_simp
  rw [after0_21]
  idx_vars y
  obtain rfl : y0 = 0 := Subsingleton.elim _ _
  have e : (val_main_v78 (F := Ideal) x0 x3 x6 x9) (ix2 0 y1) = (val_main_v78 (F := Ideal) x0 x3 x6 x9) ((win0_21.blk t).view.emb (ix2 0 y1)) := by blk_ext [idx t]
  refine Eq.trans ?_ e
  rw [ref_d3]
  unfold outsAt0
  dsimp only
  unfold out0_A_21
  rw [View.read_writes_junk_eq_canon, out_21, blk0 t h0, blk3 t h3, blk6 t h6, blk9 t h9]

theorem final_22 (h0 : m ((c : Thread nD τ).loc main_arg0) = x0) (h6 : m ((c : Thread nD τ).loc main_arg6) = x6) : (dats m 0 c).arrAt 22 cfg0.N = val_main_v59 (F := Ideal) x0 x6 := by
  refine (dats m 0 c).arrAt_eq_of_covers 22 _ (by decide +kernel) fun t hf y => ?_
  blk_simp
  rw [after0_22]
  idx_vars y
  obtain rfl : y0 = 0 := Subsingleton.elim _ _
  have e : (val_main_v59 (F := Ideal) x0 x6) (ix2 0 y1) = (val_main_v59 (F := Ideal) x0 x6) ((win0_22.blk t).view.emb (ix2 0 y1)) := by blk_ext [idx t]
  refine Eq.trans ?_ e
  rw [ref_m3]
  unfold outsAt0
  dsimp only
  unfold out0_A_22
  rw [View.read_writes_junk_eq_canon, out_22, blk0 t h0, blk6 t h6]

theorem final_23 (h0 : m ((c : Thread nD τ).loc main_arg0) = x0) (h9 : m ((c : Thread nD τ).loc main_arg9) = x9) : (dats m 0 c).arrAt 23 cfg0.N = val_main_v65 (F := Ideal) x0 x9 := by
  refine (dats m 0 c).arrAt_eq_of_covers 23 _ (by decide +kernel) fun t hf y => ?_
  blk_simp
  rw [after0_23]
  idx_vars y
  obtain rfl : y0 = 0 := Subsingleton.elim _ _
  have e : (val_main_v65 (F := Ideal) x0 x9) (ix2 0 y1) = (val_main_v65 (F := Ideal) x0 x9) ((win0_23.blk t).view.emb (ix2 0 y1)) := by blk_ext [idx t]
  refine Eq.trans ?_ e
  rw [ref_v3]
  unfold outsAt0
  dsimp only
  unfold out0_A_23
  rw [View.read_writes_junk_eq_canon, out_23, blk0 t h0, blk9 t h9]

end Results

/-- The claim. -/
theorem value : algebraic_Kernel8Ideal_Reference8Ideal (hKernel8Ideal := Cert.Kernel8Ideal.Gen.facts) (hReference8Ideal := Cert.Reference8Ideal.Gen.facts) := by
  intro m ρ m' ρ' _ hagree
  refine ⟨_, _, _, _, _, _, _, _, _, _, _, _, _, _,
    Cert.Kernel8Ideal.Value.run_blocks m ρ,
    (θ_run Cert.Reference8Ideal.defs _ _).mono (fun r hr c => ?_) (Cert.Reference8Ideal.Value.run (F := Ideal) m' ρ')⟩
  obtain ⟨a0, a1, a2, a3, a4, a5, a6, a7, a8, a9⟩ := hagree c
  obtain ⟨r10, r11, r12, r13, r14, r15, r16, r17, r18, r19, r20, r21, r22, r23, rest⟩ := hr c
  exact ⟨r10.trans (final_10 a0.symm).symm, r11.trans (final_11 a0.symm).symm,
    r12.trans (final_12 a0.symm).symm,
    r13.trans (final_13 a0.symm a1.symm a4.symm a7.symm).symm,
    r14.trans (final_14 a0.symm a4.symm).symm,
    r15.trans (final_15 a0.symm a7.symm).symm,
    r16.trans (final_16 a0.symm).symm,
    r17.trans (final_17 a0.symm a2.symm a5.symm a8.symm).symm,
    r18.trans (final_18 a0.symm a5.symm).symm,
    r19.trans (final_19 a0.symm a8.symm).symm,
    r20.trans (final_20 a0.symm).symm,
    r21.trans (final_21 a0.symm a3.symm a6.symm a9.symm).symm,
    r22.trans (final_22 a0.symm a6.symm).symm,
    r23.trans (final_23 a0.symm a9.symm).symm, rest⟩

end Cert.Small

end
-- ==== Proof.FwdVal.lean ====
/-
  What a grid point of the forward call stores, in the arguments' numbers.
-/
module

public import proofs.«01_k».proof.Proof.FwdPoint
public import Idealize.ShloMosaic.Lib.Pipeline.ReadBack
public import Idealize.ShloMosaic.Lib.WritesUnit

@[expose] public section

set_option maxRecDepth 16384

noncomputable section

open Idealize.ShloMosaic Idealize.ShloMosaic.TcCoe Cert.Reals Cert.Kernel7Ideal Cert.Kernel7Ideal.Gen

namespace Cert.Fwd.Blk

open Cert.KPoint (rect2 rect3)

/-- The blocks of grid point `t` hold the arguments' numbers. -/
structure Holds (A : Arr) (t : ℕ) (B : Blk) : Prop where
  x : ∀ (r : Fin 512) (k : Fin 1024), B.x0 (ix2 r k) = A.x (512 * t + r) k
  g : ∀ k : Fin 1024, B.x1 (ix2 0 k) = A.g k
  w : ∀ (c : Fin 3592) (k : Fin 1024), B.x2 (ix2 c k) = A.w k c
  wg : ∀ (c : Fin 128) (k : Fin 1024), B.x3 (ix2 c k) = if (c : ℕ) < 8 then A.w k (3584 + c) else 0
  lg : ∀ j : Fin 512, B.x4 (ix2 0 j) = A.lg j
  lb : ∀ j : Fin 512, B.x5 (ix2 0 j) = A.lb j
  ws : ∀ (g : Fin 4) (s t : Fin 128), B.x6 (ix3 g s t) = A.ws g s t
  b : ∀ (s : Fin 128) (g : Fin 4), B.x7 (ix2 s g) = A.b g s
  cw : ∀ (d : Fin 4) (c : Fin 1536), B.x8 (ix2 d c) = A.cw d c

variable {A : Arr} {t : ℕ} {B : Blk} (h : Holds A t B)

include h

theorem xn_at (r : Fin 512) (k : Fin 1024) : B.xn (ix2 r k) = A.xn (512 * t + r) k := by
  unfold xn
  refine Tile.xn (A := A) (t := t) ?_ ?_ r k
  · intro r k; rw [load_at, rect2]; refine (h.x _ _).trans ?_; simp
  · intro k; rw [load_at, rect2]; refine (h.g _).trans ?_; simp

theorem pr_at (o : ℕ) (ho : ∀ d, (![o, 0] : Fin 2 → ℕ) d + S512x1024.size d ≤ S3592x1024.size d) (r j : Fin 512) :
    B.pr o ho (ix2 r j) = A.p (512 * t + r) (o + j) := by
  unfold pr
  rw [Tile.prod]
  refine Finset.sum_congr rfl fun k _ => ?_
  rw [xn_at h, load_at, rect2]
  refine congrArg (A.xn (512 * t + r) k * ·) ((h.w _ _).trans ?_)
  simp

theorem gates_at (r : Fin 512) (j : Fin 128) : B.gates (ix2 r j) = if (j : ℕ) < 8 then A.p (512 * t + r) (3584 + j) else 0 := by
  unfold gates
  rw [Tile.prod_gate]
  have e : ∀ k : Fin 1024, B.xn (ix2 r k) * View.readAt (Elt Ideal) B.a4.view (Rect.unit (s := S128x1024) ![0, 0] S128x1024.size inb_S128x1024_S128x1024_0_0).toLoadRect (B.h4.unread B.x3) (ix2 j k)
      = A.xn (512 * t + r) k * (if (j : ℕ) < 8 then A.w k (3584 + j) else 0) := by
    intro k
    rw [xn_at h, load_at, rect2]
    refine congrArg (A.xn (512 * t + r) k * ·) ((h.wg _ _).trans ?_)
    simp
  rw [Finset.sum_congr rfl fun k _ => e k]
  by_cases hj : (j : ℕ) < 8
  · simp only [if_pos hj]; rfl
  · simp only [if_neg hj, mul_zero, Finset.sum_const_zero]

omit h in
theorem cols3_canon {a b c : FVec Ideal S512x512 .f32} (f : ℕ → ℕ → EReal) (ha : ∀ r j : Fin 512, a (ix2 r j) = f r j)
    (hb : ∀ r j : Fin 512, b (ix2 r j) = f r (512 + j)) (hc : ∀ r j : Fin 512, c (ix2 r j) = f r (1024 + j)) (r : Fin 512) (j : Fin 1536) :
    View.canon (cols3 a b c) (ix2 r j) = f r j := by
  unfold cols3
  by_cases h2 : 1024 ≤ (j : ℕ)
  · rw [canon_in _ _ _ _ (ix2 r (⟨j - 1024, by omega⟩ : Fin 512)) (Fin.forall_fin_two.2 ⟨(Nat.zero_add _).symm, (Nat.add_sub_cancel' h2).symm⟩), hc]
    exact congrArg (f r) (Nat.add_sub_cancel' h2)
  rw [canon_out _ _ _ _ 1 (Or.inl (Nat.lt_of_not_le h2))]
  by_cases h1 : 512 ≤ (j : ℕ)
  · rw [canon_in _ _ _ _ (ix2 r (⟨j - 512, by omega⟩ : Fin 512)) (Fin.forall_fin_two.2 ⟨(Nat.zero_add _).symm, (Nat.add_sub_cancel' h1).symm⟩), hb]
    exact congrArg (f r) (Nat.add_sub_cancel' h1)
  rw [canon_out _ _ _ _ 1 (Or.inl (Nat.lt_of_not_le h1)),
    canon_in _ _ _ _ (ix2 r (⟨j, Nat.lt_of_not_le h1⟩ : Fin 512)) (Fin.forall_fin_two.2 ⟨(Nat.zero_add _).symm, (Nat.zero_add _).symm⟩), ha]

theorem uvz_at (r : Fin 512) (j : Fin 1536) : View.canon B.uvz (ix2 r j) = A.p (512 * t + r) j :=
  cols3_canon (fun r j => A.p (512 * t + r) j) (fun r j => (pr_at h _ _ r j).trans (by simp)) (fun r j => pr_at h _ _ r j) (fun r j => pr_at h _ _ r j) r j

theorem qkv_at (r : Fin 512) (j : Fin 1536) : View.canon B.qkv (ix2 r j) = A.p (512 * t + r) (1536 + j) :=
  cols3_canon (fun r j => A.p (512 * t + r) (1536 + j)) (fun r j => pr_at h _ _ r j)
    (fun r j => (pr_at h _ _ r j).trans (congrArg (A.p _) (by omega))) (fun r j => (pr_at h _ _ r j).trans (congrArg (A.p _) (by omega))) r j

omit h in
theorem pay9_at (v : FVec Ideal S128x128 .f32) (s j : Fin 128) : k0_pay9 (F := Ideal) v (ix2 s j) = v (ix2 s j) := by
  pointwise [k0_pay9]

theorem cut_at (k g : Fin 4) (o : ℕ) (ho : o + 512 ≤ 1536) (s j : Fin 128) :
    B.cut k g o ho (ix2 s j) = A.p (128 * (4 * t + k) + s) (o + (128 * g + j)) := by
  unfold cut
  rw [pay9_at, View.readCov_eq_canon']
  refine (congrArg (View.canon B.uvz) (rect2 (inb_cut k g o ho) s j)).trans ((uvz_at h _ _).trans ?_)
  exact congrArg₂ A.p (by show 512 * t + (128 * (k : ℕ) + s) = 128 * (4 * t + k) + s; omega) (by show o + 128 * (g : ℕ) + j = o + (128 * g + j); omega)

theorem tile_holds (k g : Fin 4) : Tile.Holds (A.chunk (4 * t + k) g) (B.cut k g 0 (by omega)) (B.cut k g 512 (by omega)) (B.cut k g 1024 (by omega))
    (B.bias g) (B.scale g) (B.shift g) (B.slab g) where
  u s j := (cut_at h k g 0 _ s j).trans (congrArg (A.p _) (Nat.zero_add _))
  v s j := cut_at h k g 512 _ s j
  z s j := cut_at h k g 1024 _ s j
  b s := by
    unfold bias
    rw [Tile.bcol_at]
    refine Eq.trans (b := View.readAt (Elt Ideal) B.a8.view (Rect.unit (s := S128x4) ![0, 0] S128x4.size inb_S128x4_S128x4_0_0).toLoadRect (B.h8.unread B.x7) (ix2 s g)) ?_ ?_
    · pointwise []
    · rw [load_at, rect2]; refine (h.b _ _).trans ?_; simp; rfl
  lg j := by unfold scale; rw [load_at, rect2]; refine Eq.trans (congrArg B.x4 (congrArg₂ ix2 (Subsingleton.elim _ 0) rfl)) ((h.lg _).trans rfl)
  lb j := by unfold shift; rw [load_at, rect2]; refine Eq.trans (congrArg B.x5 (congrArg₂ ix2 (Subsingleton.elim _ 0) rfl)) ((h.lb _).trans rfl)
  ws s u := by unfold slab; rw [load_at, rect3]; refine (h.ws _ _ _).trans ?_; simp; rfl

theorem tile_at (k g : Fin 4) (s j : Fin 128) : B.tile k g (ix2 s j) = A.gate (512 * t + (128 * k + s)) (128 * g + j) := by
  refine (Tile.out (tile_holds h k g) s j).trans ?_
  unfold Arr.gate
  rw [show (512 * t + (128 * (k : ℕ) + s)) / 128 = 4 * t + k by omega, show (512 * t + (128 * (k : ℕ) + s)) % 128 = s by omega,
    show (128 * (g : ℕ) + j) / 128 = g by omega, show (128 * (g : ℕ) + j) % 128 = j by omega]

omit h in
theorem tiles_mem (d : Fin 4 → Fin 4 → FVec Ideal S128x128 .bf16) (k g : Fin 4) :
    (⟨tileR k g, d k g⟩ : View.Piece (Elt Ideal) S512x512 .bf16) ∈ tiles d := by
  fin_cases k <;> fin_cases g <;> simp only [tiles] <;> repeat (first | exact List.mem_cons_self | apply List.mem_cons_of_mem)

omit h in
theorem tiles_canon {d : Fin 4 → Fin 4 → FVec Ideal S128x128 .bf16} (f : ℕ → ℕ → EReal)
    (hd : ∀ (k g : Fin 4) (s j : Fin 128), d k g (ix2 s j) = f (128 * k + s) (128 * g + j)) (r c : Fin 512) :
    View.canon (tiles d) (ix2 r c) = f r c := by
  have hG : ∀ (k g : Fin 4) (x : S128x128.Idx), d k g x = (fun y : S512x512.Idx => f (y 0 : ℕ) (y 1 : ℕ)) ((tileR k g).emb x) := by
    intro k g x
    obtain ⟨s, j, rfl⟩ : ∃ s j : Fin 128, x = ix2 s j := ⟨x 0, x 1, by funext a; fin_cases a <;> rfl⟩
    rw [hd]
    show _ = f (((tileR k g).idx (ix2 s j)) 0 : ℕ) (((tileR k g).idx (ix2 s j)) 1 : ℕ)
    unfold tileR
    rw [rect2 (inb_tile k g) s j]
    rfl
  have hP : View.PiecesOf (Val := Elt Ideal) (s := S512x512) (e := .bf16) (fun y : S512x512.Idx => f (y 0 : ℕ) (y 1 : ℕ)) (tiles d) :=
    ⟨hG 3 3, hG 3 2, hG 3 1, hG 3 0, hG 2 3, hG 2 2, hG 2 1, hG 2 0, hG 1 3, hG 1 2, hG 1 1, hG 1 0, hG 0 3, hG 0 2, hG 0 1, hG 0 0, trivial⟩
  have e := View.canon_append_of_piecesOf _ [] (tiles d) hP (ix2 r c)
    ⟨_, tiles_mem d ⟨r / 128, by omega⟩ ⟨c / 128, by omega⟩, by
      have e := rect2 (inb_tile ⟨r / 128, by omega⟩ ⟨c / 128, by omega⟩) (⟨r % 128, by omega⟩ : Fin 128) (⟨c % 128, by omega⟩ : Fin 128)
      have e2 : (ix2 r c : S512x512.Idx) = (tileR ⟨r / 128, by omega⟩ ⟨c / 128, by omega⟩).idx (ix2 (⟨r % 128, by omega⟩ : Fin 128) (⟨c % 128, by omega⟩ : Fin 128)) := by
        unfold tileR
        rw [e]
        exact congrArg₂ ix2 (Fin.ext (by show (r : ℕ) = 128 * (r / 128) + r % 128; omega)) (Fin.ext (by show (c : ℕ) = 128 * (c / 128) + c % 128; omega))
      rw [e2]
      exact LoadRect.idx_mem _ _⟩
  rwa [List.append_nil] at e

theorem sgu_at (r c : Fin 512) : View.canon (tiles B.tile) (ix2 r c) = A.gate (512 * t + r) c :=
  tiles_canon (fun r c => A.gate (512 * t + r) c) (fun k g s j => tile_at h k g s j) r c

omit h in
theorem pay152_at (v : FVec Ideal S512x1536 .f32) (r : Fin 512) (j : Fin 1536) : k0_pay152 (F := Ideal) v (ix2 r j) = v (ix2 r j) := by
  pointwise [k0_pay152]

omit h in
theorem pay3_at (r : Fin 8) (j : Fin 1536) : k0_pay3 (F := Ideal) (ix2 r j) = 0 := by
  pointwise [k0_pay3]

omit h in
theorem pay1_at (v : FVec Ideal S8x1536 .f32) (r : Fin 8) (j : Fin 1536) : k0_pay1 (F := Ideal) v (ix2 r j) = v (ix2 r j) := by
  pointwise [k0_pay1]

theorem q_at (r : Fin 512) (j : Fin 1536) : B.q (ix2 r j) = A.p (512 * t + r) (1536 + j) := by
  unfold q
  rw [pay152_at, View.readCov_eq_canon']
  refine (congrArg (View.canon B.qkv) (rect2 inb_S512x1536_S512x1536_0_0 r j)).trans ((qkv_at h _ _).trans ?_)
  simp

theorem heldA_at (r : Fin 520) (j : Fin 1536) : B.heldA (ix2 r j) = if (r : ℕ) < 8 then 0 else A.p (512 * t + r - 8) (1536 + j) := by
  unfold heldA rowsA
  rw [View.readCov_eq_canon']
  refine (congrArg (View.canon _) ((rect2 inb_S520x1536_S520x1536_0_0 r j).trans (congrArg₂ ix2 (Fin.ext (Nat.zero_add _)) (Fin.ext (Nat.zero_add _))))).trans ?_
  by_cases hr : (r : ℕ) < 8
  · rw [canon_out _ _ _ _ 0 (Or.inl hr), if_pos hr,
      canon_in _ _ _ _ (ix2 (⟨r, hr⟩ : Fin 8) j) (Fin.forall_fin_two.2 ⟨(Nat.zero_add _).symm, (Nat.zero_add _).symm⟩), pay3_at]
  · have hr' : 8 ≤ (r : ℕ) := Nat.le_of_not_lt hr
    rw [canon_in _ _ _ _ (ix2 (⟨r - 8, by omega⟩ : Fin 512) j) (Fin.forall_fin_two.2 ⟨(Nat.add_sub_cancel' hr').symm, (Nat.zero_add _).symm⟩), if_neg hr, q_at h]
    exact congrArg (fun n => A.p n (1536 + j)) (by show 512 * t + ((r : ℕ) - 8) = 512 * t + r - 8; omega)

theorem heldB_at (xs : Vec Ideal S520x1536 .f32) (hx : ∀ (r : Fin 8) (j : Fin 1536), xs (ix2 ⟨r, by omega⟩ j) = A.p (512 * t + r - 8) (1536 + j))
    (r : Fin 520) (j : Fin 1536) : B.heldB xs (ix2 r j) = A.p (512 * t + r - 8) (1536 + j) := by
  unfold heldB rowsB
  show View.read (Elt Ideal) B.a16.view _ ((Rect.unit (s := S520x1536) ![0, 0] S520x1536.size inb_S520x1536_S520x1536_0_0).idx (ix2 r j)) = _
  refine (congrArg (View.read (Elt Ideal) B.a16.view _) ((rect2 inb_S520x1536_S520x1536_0_0 r j).trans (congrArg₂ ix2 (Fin.ext (Nat.zero_add _)) (Fin.ext (Nat.zero_add _))))).trans ?_
  by_cases hr : (r : ℕ) < 8
  · rw [View.read_writes_cons_unit_of_not_mem _ _ _ _ _ _ rfl 0 (Or.inl hr)]
    show View.read (Elt Ideal) B.a16.view (B.h16.unread xs) (ix2 r j) = _
    rw [B.h16.read_unread]
    exact hx ⟨r, hr⟩ j
  · have hr' : 8 ≤ (r : ℕ) := Nat.le_of_not_lt hr
    rw [View.read_writes_cons_unit_of_mem _ _ _ _ _ _ (ix2 (⟨r - 8, by omega⟩ : Fin 512) j) rfl
      (Fin.forall_fin_two.2 ⟨(Nat.add_sub_cancel' hr').symm, (Nat.zero_add _).symm⟩), q_at h]
    exact congrArg (fun n => A.p n (1536 + j)) (by show 512 * t + ((r : ℕ) - 8) = 512 * t + r - 8; omega)

/-- The last eight rows kept for the next point. -/
theorem kept_at (L : List (View.Piece (Elt Ideal) S520x1536 .f32)) (r : Fin 8) (j : Fin 1536) :
    View.canon (B.kept (⟨Rect.unit (s := S520x1536) ![8, 0] S512x1536.size inb_S520x1536_S512x1536_8_0, B.q⟩ :: L)) (ix2 ⟨r, by omega⟩ j)
      = A.p (512 * (t + 1) + r - 8) (1536 + j) := by
  unfold kept
  rw [canon_in _ _ _ _ (ix2 r j) (Fin.forall_fin_two.2 ⟨(Nat.zero_add _).symm, (Nat.zero_add _).symm⟩), pay1_at, View.readCov_eq_canon']
  refine (congrArg (View.canon _) (rect2 inb_S520x1536_S8x1536_512_0 r j)).trans ?_
  rw [canon_in _ _ _ _ (ix2 (⟨504 + r, by omega⟩ : Fin 512) j)
    (Fin.forall_fin_two.2 ⟨by show 512 + (r : ℕ) = 8 + (504 + r); omega, by show 0 + (j : ℕ) = 0 + j; rfl⟩), q_at h]
  exact congrArg (fun n => A.p n (1536 + j)) (by show 512 * t + (504 + (r : ℕ)) = 512 * (t + 1) + r - 8; omega)

/-- The convolution, of rows held after zeros at a sequence's first point and after the rows before them elsewhere. -/
theorem conv_at (v : FVec Ideal S520x1536 .f32)
    (hv : ∀ (r : Fin 520) (j : Fin 1536), v (ix2 r j) = if t % 8 = 0 ∧ (r : ℕ) < 8 then 0 else A.p (512 * t + r - 8) (1536 + j))
    (i : Fin 512) (j : Fin 1536) : B.conv v (ix2 i j) = A.conv (512 * t + i) j := by
  have tapd : ∀ (d : ℕ) (hd : d < 4), v (ix2 (⟨5 + d + i, by omega⟩ : Fin 520) j) = A.tap d (512 * t + i) j := by
    intro d hd
    rw [hv]
    unfold Arr.tap
    have e : 512 * t + (5 + d + (i : ℕ)) - 8 = 512 * t + i + d - 3 := by omega
    by_cases hz : t % 8 = 0 ∧ 5 + d + (i : ℕ) < 8
    · rw [if_pos hz, if_neg (by omega)]
    · rw [if_neg hz, if_pos (by omega)]
      exact congrArg (fun n => A.p n (1536 + j)) e
  have cwd : ∀ (d : Fin 4) (inb : ∀ a, (![(d : ℕ), 0] : Fin 2 → ℕ) a + S1x1536.size a ≤ S4x1536.size a),
      View.readAt (Elt Ideal) B.a9.view (Rect.unit (s := S4x1536) ![(d : ℕ), 0] S1x1536.size inb).toLoadRect (B.h9.unread B.x8) (ix2 0 j) = A.cw d j := by
    intro d inb
    rw [load_at, rect2]
    refine (h.cw _ _).trans ?_
    simp
  unfold conv
  rw [Tile.taps]
  unfold Arr.conv
  rw [mul_comm (A.tap 0 _ _), mul_comm (A.tap 1 _ _), mul_comm (A.tap 2 _ _), mul_comm (A.tap 3 _ _)]
  refine congrArg₂ (· + ·) (congrArg₂ (· + ·) (congrArg₂ (· + ·) ?_ ?_) ?_) ?_
  · exact congrArg₂ (· * ·) (cwd 0 _) (tapd 0 (by omega))
  · exact congrArg₂ (· * ·) (cwd 1 _) (tapd 1 (by omega))
  · exact congrArg₂ (· * ·) (cwd 2 _) (tapd 2 (by omega))
  · exact congrArg₂ (· * ·) (cwd 3 _) (tapd 3 (by omega))

end Cert.Fwd.Blk

end
-- ==== Proof.FwdHost.lean ====
/-
  The forward call's operands at a point, in the arguments' numbers: what the host prepares, and the blocks the windows cut.
-/
module

public import proofs.«01_k».proof.Proof.FwdVal
public import proofs.«01_k».proof.Proof.Gen.Kernel7Ideal.Value
public import Idealize.ShloMosaic.Lib.Pointwise
public import Idealize.ShloMosaic.Lib.Pipeline.ValueKit

@[expose] public section

set_option maxRecDepth 16384

noncomputable section

open Idealize.ShloMosaic Idealize.ShloMosaic.TcCoe Cert.Kernel7Ideal.Gen Cert.Kernel7Ideal
open Idealize.ShloMosaic.Pipeline (Dat)

namespace Cert.Fwd.Host

variable {A : Arr} {m : (ℓ : Loc nD τ sig) → Buf (Elt Ideal) ℓ} {c : Dev nD}
  (h : Agrees A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))

/-- The windows' blocks. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)

include h

/-- The input as rows. -/
theorem rows (r : Fin 8192) (k : Fin 1024) : (V m c main_v8 : FVec Ideal S8192x1024 .f32) (ix2 r k) = A.x r k := by
  simp only [V, hostOps0, hostOps0_1, hostOps0_2, List.flatten_cons, List.flatten_nil, List.append_nil, List.cons_append, List.nil_append]
  entry_read
  refine Eq.trans ?_ ((h.x ⟨r / 4096, by omega⟩ ⟨r % 4096, by omega⟩ k).trans (congrArg (A.x · k) (Nat.div_add_mod _ _)))
  pointwise []

/-- The projection weight, transposed. -/
theorem weight (j : Fin 3592) (k : Fin 1024) : (V m c main_v2 : FVec Ideal S3592x1024 .bf16) (ix2 j k) = A.w k j := by
  simp only [V, hostOps0, hostOps0_1, hostOps0_2, List.flatten_cons, List.flatten_nil, List.append_nil, List.cons_append, List.nil_append]
  entry_read
  refine Eq.trans ?_ (h.w k j)
  pointwise []

/-- The spatial weights. -/
theorem spatial (g : Fin 4) (s t : Fin 128) : (V m c main_v5 : FVec Ideal S4x128x128 .f32) (ix3 g s t) = A.ws g s t := by
  simp only [V, hostOps0, hostOps0_1, hostOps0_2, List.flatten_cons, List.flatten_nil, List.append_nil, List.cons_append, List.nil_append]
  entry_read
  refine Eq.trans ?_ (h.ws g s t)
  pointwise []

/-- The spatial biases, transposed. -/
theorem bias (s : Fin 128) (g : Fin 4) : (V m c main_v7 : FVec Ideal S128x4 .f32) (ix2 s g) = A.b g s := by
  simp only [V, hostOps0, hostOps0_1, hostOps0_2, List.flatten_cons, List.flatten_nil, List.append_nil, List.cons_append, List.nil_append]
  entry_read
  refine Eq.trans ?_ (h.b g s)
  pointwise []

/-- The convolution's taps. -/
theorem taps (d : Fin 4) (j : Fin 1536) : (V m c main_v9 : FVec Ideal S4x1536 .f32) (ix2 d j) = A.cw d j := by
  simp only [V, hostOps0, hostOps0_1, hostOps0_2, List.flatten_cons, List.flatten_nil, List.append_nil, List.cons_append, List.nil_append]
  entry_read
  refine Eq.trans ?_ (h.cw d j)
  pointwise []

/-- The last eight columns of the weight, transposed, over zeros. -/
theorem gates (j : Fin 128) (k : Fin 1024) : (V m c main_v4 : FVec Ideal S128x1024 .bf16) (ix2 j k) = if (j : ℕ) < 8 then A.w k (3584 + j) else 0 := by
  simp only [V, hostOps0, hostOps0_1, hostOps0_2, List.flatten_cons, List.flatten_nil, List.append_nil, List.cons_append, List.nil_append]
  entry_read
  change pad S128x1024 ![0, 0] ![120, 0] ![0, 0]
        (extractStridedSlice S8x1024 ![3584, 0]
            (truncf (F := Ideal) FTy.bf16
              (shapeCast S3592x1024
                  (transpose (α := Elt Ideal .f32) S3592x1x1024 [2, 0, 1] (m (c, Proc.tc.devRef main_arg2))
                    transposes_S1x1024x3592_S3592x1x1024_2_0_1)
                  shapeCasts_S3592x1x1024_S3592x1024)
              bitsLt_bf16_f32)
            slices_S3592x1024_S8x1024_3584_0)
        (sitofp (F := Ideal) FTy.bf16 (constantI S_ 32 0#32)) pads_S8x1024_S128x1024_01200_000 h_S_ (ix2 j k) = _
  pointwise [h.w]
  by_cases hj : (j : ℕ) < 8
  · rw [dif_pos hj, if_pos hj]
  · rw [dif_neg hj, if_neg hj]
    show (((0#32).toInt : ℝ) : EReal) = 0
    simp

omit h in
/-- The point's operands. -/
def point (m : (ℓ : Loc nD τ sig) → Buf (Elt Ideal) ℓ) (c : Dev nD) (t : Fin cfg0.N) : Blk :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t,
    ms0_8 t, hs0_8 t, ms0_9 t, hs0_9 t, ms0_10 t, hs0_10 t, ms0_11 t, hs0_11 t, ms0_12 t, hs0_12 t, ms0_13 t, hs0_13 t, ms0_14 t, hs0_14 t,
    scM0_0, Memref.isWhole_whole _, iblk m c 0 t, iblk m c 1 t, iblk m c 2 t, iblk m c 3 t, iblk m c 4 t, iblk m c 5 t, iblk m c 6 t, iblk m c 7 t, iblk m c 8 t⟩

theorem at_x (t : Fin cfg0.N) (r : Fin 512) (k : Fin 1024) : (iblk m c 0 t : FVec Ideal S512x1024 .f32) (ix2 r k) = A.x (512 * t + r) k := by
  have hN : grid0.N = 16 := N_0
  have ht : t.val < grid0.N := t.isLt
  refine Eq.trans ?_ (rows h ⟨512 * t.val + r, by omega⟩ k)
  blk_ext [iblk, idx t]

theorem at_g (t : Fin cfg0.N) (k : Fin 1024) : (iblk m c 1 t : FVec Ideal S1x1024 .f32) (ix2 0 k) = A.g k := by
  refine Eq.trans ?_ (h.g k)
  rw [← V_main_arg1 m c]
  blk_ext [iblk, idx t]

theorem at_w (t : Fin cfg0.N) (j : Fin 3592) (k : Fin 1024) : (iblk m c 2 t : FVec Ideal S3592x1024 .bf16) (ix2 j k) = A.w k j := by
  refine Eq.trans ?_ (weight h j k)
  blk_ext [iblk, idx t]

theorem at_wg (t : Fin cfg0.N) (j : Fin 128) (k : Fin 1024) :
    (iblk m c 3 t : FVec Ideal S128x1024 .bf16) (ix2 j k) = if (j : ℕ) < 8 then A.w k (3584 + j) else 0 := by
  refine Eq.trans ?_ (gates h j k)
  blk_ext [iblk, idx t]

theorem at_lg (t : Fin cfg0.N) (j : Fin 512) : (iblk m c 4 t : FVec Ideal S1x512 .f32) (ix2 0 j) = A.lg j := by
  refine Eq.trans ?_ (h.lg j)
  rw [← V_main_arg3 m c]
  blk_ext [iblk, idx t]

theorem at_lb (t : Fin cfg0.N) (j : Fin 512) : (iblk m c 5 t : FVec Ideal S1x512 .f32) (ix2 0 j) = A.lb j := by
  refine Eq.trans ?_ (h.lb j)
  rw [← V_main_arg4 m c]
  blk_ext [iblk, idx t]

theorem at_ws (t : Fin cfg0.N) (g : Fin 4) (s j : Fin 128) : (iblk m c 6 t : FVec Ideal S4x128x128 .f32) (ix3 g s j) = A.ws g s j := by
  refine Eq.trans ?_ (spatial h g s j)
  blk_ext [iblk, idx t]

theorem at_b (t : Fin cfg0.N) (s : Fin 128) (g : Fin 4) : (iblk m c 7 t : FVec Ideal S128x4 .f32) (ix2 s g) = A.b g s := by
  refine Eq.trans ?_ (bias h s g)
  blk_ext [iblk, idx t]

theorem at_cw (t : Fin cfg0.N) (d : Fin 4) (j : Fin 1536) : (iblk m c 8 t : FVec Ideal S4x1536 .f32) (ix2 d j) = A.cw d j := by
  refine Eq.trans ?_ (taps h d j)
  blk_ext [iblk, idx t]

/-- A point's operands are the arguments' numbers. -/
theorem holds (t : Fin cfg0.N) : Blk.Holds A t (point m c t) where
  x := at_x h t
  g := at_g h t
  w := at_w h t
  wg := at_wg h t
  lg := at_lg h t
  lb := at_lb h t
  ws := at_ws h t
  b := at_b h t
  cw := at_cw h t

end Cert.Fwd.Host

end
-- ==== Proof.FwdPointA.lean ====
/-
  What a grid point of the forward call leaves in each output: a sequence's first point.
-/
module

public import proofs.«01_k».proof.Proof.FwdPoint

@[expose] public section

set_option maxRecDepth 16384
set_option maxHeartbeats 2000000

noncomputable section

open Idealize.ShloMosaic Idealize.ShloMosaic.TcCoe Cert.Kernel7Ideal Cert.Kernel7Ideal.Gen

namespace Cert.Fwd.PointA

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3592x1024 .bf16) (harg3 : arg3.IsWhole) (arg4 : Memref sig .tc .vmem S128x1024 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x4 .f32) (harg8 : arg8.IsWhole) (arg9 : Memref sig .tc .vmem S4x1536 .f32) (harg9 : arg9.IsWhole) (arg10 : Memref sig .tc .vmem S512x1536 .f32) (harg10 : arg10.IsWhole) (arg11 : Memref sig .tc .vmem S512x1536 .f32) (harg11 : arg11.IsWhole) (arg12 : Memref sig .tc .vmem S512x512 .f32) (harg12 : arg12.IsWhole) (arg13 : Memref sig .tc .vmem S512x128 .f32) (harg13 : arg13.IsWhole) (arg14 : Memref sig .tc .vmem S512x512 .bf16) (harg14 : arg14.IsWhole) (arg15 : Memref sig .tc .vmem S512x1536 .f32) (harg15 : arg15.IsWhole) (arg16 : Memref sig .tc .vmem S520x1536 .f32) (harg16 : arg16.IsWhole) (hc0 : cond0_0 i)
    (x0 : Vec Ideal S512x1024 .f32) (x1 : Vec Ideal S1x1024 .f32) (x2 : Vec Ideal S3592x1024 .bf16) (x3 : Vec Ideal S128x1024 .bf16) (x4 : Vec Ideal S1x512 .f32) (x5 : Vec Ideal S1x512 .f32) (x6 : Vec Ideal S4x128x128 .f32) (x7 : Vec Ideal S128x4 .f32) (x8 : Vec Ideal S4x1536 .f32)

theorem out_9 : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
    = VO0_9.read (Elt Ideal) (VO0_9.writes (Elt Ideal) VO0_9.junk ((⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, x0, x1, x2, x3, x4, x5, x6, x7, x8⟩ : Blk).uvz)) := rfl

theorem out_10 : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
    = VO0_10.read (Elt Ideal) (VO0_10.writes (Elt Ideal) VO0_10.junk ((⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, x0, x1, x2, x3, x4, x5, x6, x7, x8⟩ : Blk).qkv)) := rfl

theorem out_11 : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
    = VO0_11.read (Elt Ideal) (VO0_11.writes (Elt Ideal) VO0_11.junk ([⟨Rect.unit (s := S512x512) ![0, 0] S512x512.size inb_S512x512_S512x512_0_0, (⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, x0, x1, x2, x3, x4, x5, x6, x7, x8⟩ : Blk).pr 3072 inb_S3592x1024_S512x1024_3072_0⟩])) := rfl

theorem out_12 : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
    = VO0_12.read (Elt Ideal) (VO0_12.writes (Elt Ideal) VO0_12.junk ([⟨Rect.unit (s := S512x128) ![0, 0] S512x128.size inb_S512x128_S512x128_0_0, (⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, x0, x1, x2, x3, x4, x5, x6, x7, x8⟩ : Blk).gates⟩])) := rfl

theorem out_13 : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
    = VO0_13.read (Elt Ideal) (VO0_13.writes (Elt Ideal) VO0_13.junk (Blk.tiles (⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, x0, x1, x2, x3, x4, x5, x6, x7, x8⟩ : Blk).tile)) := rfl

theorem out_14 : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
    = VO0_14.read (Elt Ideal) (VO0_14.writes (Elt Ideal) VO0_14.junk ([⟨Rect.unit (s := S512x1536) ![0, 0] S512x1536.size inb_S512x1536_S512x1536_0_0, (⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, x0, x1, x2, x3, x4, x5, x6, x7, x8⟩ : Blk).conv ((⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, x0, x1, x2, x3, x4, x5, x6, x7, x8⟩ : Blk).heldA)⟩])) := rfl

theorem out_s : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
    = VS0_0.read (Elt Ideal) (VS0_0.writes (Elt Ideal) VS0_0.junk ((⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, x0, x1, x2, x3, x4, x5, x6, x7, x8⟩ : Blk).kept ((⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, x0, x1, x2, x3, x4, x5, x6, x7, x8⟩ : Blk).rowsA))) := rfl

end Cert.Fwd.PointA

end
-- ==== Proof.FwdPointB.lean ====
/-
  What a grid point of the forward call leaves in each output: the points after it.
-/
module

public import proofs.«01_k».proof.Proof.FwdPoint

@[expose] public section

set_option maxRecDepth 16384
set_option maxHeartbeats 2000000

noncomputable section

open Idealize.ShloMosaic Idealize.ShloMosaic.TcCoe Cert.Kernel7Ideal Cert.Kernel7Ideal.Gen

namespace Cert.Fwd.PointB

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3592x1024 .bf16) (harg3 : arg3.IsWhole) (arg4 : Memref sig .tc .vmem S128x1024 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x4 .f32) (harg8 : arg8.IsWhole) (arg9 : Memref sig .tc .vmem S4x1536 .f32) (harg9 : arg9.IsWhole) (arg10 : Memref sig .tc .vmem S512x1536 .f32) (harg10 : arg10.IsWhole) (arg11 : Memref sig .tc .vmem S512x1536 .f32) (harg11 : arg11.IsWhole) (arg12 : Memref sig .tc .vmem S512x512 .f32) (harg12 : arg12.IsWhole) (arg13 : Memref sig .tc .vmem S512x128 .f32) (harg13 : arg13.IsWhole) (arg14 : Memref sig .tc .vmem S512x512 .bf16) (harg14 : arg14.IsWhole) (arg15 : Memref sig .tc .vmem S512x1536 .f32) (harg15 : arg15.IsWhole) (arg16 : Memref sig .tc .vmem S520x1536 .f32) (harg16 : arg16.IsWhole) (hc0 : ¬cond0_0 i)
    (x0 : Vec Ideal S512x1024 .f32) (x1 : Vec Ideal S1x1024 .f32) (x2 : Vec Ideal S3592x1024 .bf16) (x3 : Vec Ideal S128x1024 .bf16) (x4 : Vec Ideal S1x512 .f32) (x5 : Vec Ideal S1x512 .f32) (x6 : Vec Ideal S4x128x128 .f32) (x7 : Vec Ideal S128x4 .f32) (x8 : Vec Ideal S4x1536 .f32) (xs0 : Vec Ideal S520x1536 .f32)

theorem out_9 : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0
    = VO0_9.read (Elt Ideal) (VO0_9.writes (Elt Ideal) VO0_9.junk ((⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, x0, x1, x2, x3, x4, x5, x6, x7, x8⟩ : Blk).uvz)) := rfl

theorem out_10 : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0
    = VO0_10.read (Elt Ideal) (VO0_10.writes (Elt Ideal) VO0_10.junk ((⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, x0, x1, x2, x3, x4, x5, x6, x7, x8⟩ : Blk).qkv)) := rfl

theorem out_11 : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0
    = VO0_11.read (Elt Ideal) (VO0_11.writes (Elt Ideal) VO0_11.junk ([⟨Rect.unit (s := S512x512) ![0, 0] S512x512.size inb_S512x512_S512x512_0_0, (⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, x0, x1, x2, x3, x4, x5, x6, x7, x8⟩ : Blk).pr 3072 inb_S3592x1024_S512x1024_3072_0⟩])) := rfl

theorem out_12 : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0
    = VO0_12.read (Elt Ideal) (VO0_12.writes (Elt Ideal) VO0_12.junk ([⟨Rect.unit (s := S512x128) ![0, 0] S512x128.size inb_S512x128_S512x128_0_0, (⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, x0, x1, x2, x3, x4, x5, x6, x7, x8⟩ : Blk).gates⟩])) := rfl

theorem out_13 : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0
    = VO0_13.read (Elt Ideal) (VO0_13.writes (Elt Ideal) VO0_13.junk (Blk.tiles (⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, x0, x1, x2, x3, x4, x5, x6, x7, x8⟩ : Blk).tile)) := rfl

theorem out_14 : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0
    = VO0_14.read (Elt Ideal) (VO0_14.writes (Elt Ideal) VO0_14.junk ([⟨Rect.unit (s := S512x1536) ![0, 0] S512x1536.size inb_S512x1536_S512x1536_0_0, (⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, x0, x1, x2, x3, x4, x5, x6, x7, x8⟩ : Blk).conv ((⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, x0, x1, x2, x3, x4, x5, x6, x7, x8⟩ : Blk).heldB xs0)⟩])) := rfl

theorem out_s : sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0
    = VS0_0.read (Elt Ideal) (VS0_0.writes (Elt Ideal) VS0_0.junk ((⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, x0, x1, x2, x3, x4, x5, x6, x7, x8⟩ : Blk).kept ((⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, x0, x1, x2, x3, x4, x5, x6, x7, x8⟩ : Blk).rowsB))) := rfl

end Cert.Fwd.PointB

end
-- ==== Proof.FwdRef.lean ====
/-
  The reference's forward layer, stage by stage: every stage is the function of the same name.
-/
module

public import proofs.«01_k».proof.Proof.FwdSpec
public import proofs.«01_k».proof.Proof.Gen.Reference7Ideal.Read

@[expose] public section

set_option maxRecDepth 16384

noncomputable section

open Idealize.ShloMosaic Cert.Reals Cert.Reference7Ideal.Read

namespace Cert.Fwd.Ref

variable {A : Arr} {x0 : FVec Ideal ⟨3, ![2, 4096, 1024]⟩ .f32} {x1 : FVec Ideal ⟨2, ![1, 1024]⟩ .f32}
  {x2 : FVec Ideal ⟨3, ![1, 1024, 3592]⟩ .f32} {x3 x4 : FVec Ideal ⟨2, ![1, 512]⟩ .f32}
  {x5 : FVec Ideal ⟨4, ![1, 4, 128, 128]⟩ .f32} {x6 : FVec Ideal ⟨3, ![1, 4, 128]⟩ .f32}
  {x7 : FVec Ideal ⟨3, ![1, 4, 1536]⟩ .f32} (h : Agrees A x0 x1 x2 x3 x4 x5 x6 x7)

include h

/-- The scaled normalised row. -/
theorem v13 (b : Fin 2) (i : Fin 4096) (k : Fin 1024) : val_main_v13 (F := Ideal) x0 x1 (ix3 b i k) = A.xn (4096 * b + i) k := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, h.x, h.g]
  rfl

/-- The projection. -/
theorem v15 (b : Fin 2) (i : Fin 4096) (c : Fin 3592) : val_main_v15 (F := Ideal) x0 x1 x2 (ix3 b i c) = A.p (4096 * b + i) c := by
  pointwise [val_main_v15, val_main_v14, v13 h, h.w]
  rfl

omit h in
theorem v30 : val_main_v30 (F := Ideal) ix0 = ((Real.sqrt 2 : ℝ) : EReal) := root_bits

omit h in
theorem v39 : val_main_v39 (F := Ideal) ix0 = ((Real.sqrt 2 : ℝ) : EReal) := root_bits

/-- The gating input's activation. -/
theorem v34 (b : Fin 2) (i : Fin 4096) (j : Fin 512) : val_main_v34 (F := Ideal) x0 x1 x2 (ix3 b i j) = gelu (A.p (4096 * b + i) j) := by
  pointwise [val_main_v34, val_main_v33, val_main_v32, val_main_v31, val_main_v28, val_main_v27, val_main_v26, val_main_cst_2, val_main_v16, v30, v15 h]
  exact gelu_erfc _

/-- The gated input's activation. -/
theorem v43 (b : Fin 2) (i : Fin 4096) (j : Fin 512) : val_main_v43 (F := Ideal) x0 x1 x2 (ix3 b i j) = gelu (A.p (4096 * b + i) (512 + j)) := by
  pointwise [val_main_v43, val_main_v42, val_main_v41, val_main_v40, val_main_v37, val_main_v36, val_main_v35, val_main_cst_4, val_main_v17, v39, v15 h]
  exact gelu_erfc _

/-- The outer gate. -/
theorem v82 (b : Fin 2) (i : Fin 4096) (j : Fin 512) : val_main_v82 (F := Ideal) x0 x1 x2 (ix3 b i j) = silu (A.p (4096 * b + i) (1024 + j)) := by
  pointwise [val_main_v82, val_main_call2_v5, val_main_call2_v4, val_main_call2_v3, val_main_call2_v2, val_main_call2_v1, val_main_call2_v0, val_main_call2_cst, val_main_call2_cst_0, val_main_v18, v15 h]
  exact silu_logistic _

/-- The gated input's activation, by chunks and groups. -/
theorem v44 (b : Fin 2) (n : Fin 32) (t : Fin 128) (g : Fin 4) (j : Fin 128) :
    val_main_v44 (F := Ideal) x0 x1 x2 (ix5 b n t g j) = gelu ((A.chunk (32 * b + n) g).v t j) := by
  pointwise [val_main_v44, v43 h]
  exact congrArg gelu (congrArg₂ A.p (by omega) (by omega))

/-- The same, centred. -/
theorem v52 (b : Fin 2) (n : Fin 32) (t : Fin 128) (g : Fin 4) (j : Fin 128) :
    val_main_v52 (F := Ideal) x0 x1 x2 (ix5 b n t g j) = cen ((A.chunk (32 * b + n) g).v t) j := by
  pointwise [val_main_v52, val_main_v51, val_main_v50, val_main_v49, val_main_v48, val_main_v47, val_main_cst_6, val_main_cst_7, v44 h]
  rfl

/-- The normalised row. -/
theorem v62 (b : Fin 2) (n : Fin 32) (t : Fin 128) (g : Fin 4) (j : Fin 128) :
    val_main_v62 (F := Ideal) x0 x1 x2 (ix5 b n t g j) = nrm ((A.chunk (32 * b + n) g).v t) j := by
  pointwise [val_main_v62, val_main_v61, val_main_v60, val_main_v59, val_main_v58, val_main_v57, val_main_v56, val_main_v55, val_main_v54, val_main_v53, val_main_cst_8, val_main_cst_9, val_main_cst_10, v52 h]
  rfl

/-- The layer norm. -/
theorem v68 (b : Fin 2) (n : Fin 32) (t : Fin 128) (g : Fin 4) (j : Fin 128) :
    val_main_v68 (F := Ideal) x0 x1 x2 x3 x4 (ix5 b n t g j) = (A.chunk (32 * b + n) g).ln t j := by
  pointwise [val_main_v68, val_main_v67, val_main_v66, val_main_v65, val_main_v64, val_main_v63, val_main_v46, val_main_v45, val_main_v23, val_main_v22, v62 h, h.lg, h.lb]
  refine congrArg₂ (· + ·) (congrArg₂ (· * ·) rfl (congrArg A.lg ?_)) (congrArg A.lb ?_) <;> first | omega | (dsimp only; omega)

/-- The causal weights. -/
theorem v72 (g : Fin 4) (s t : Fin 128) : val_main_v72 (F := Ideal) x5 (ix3 g s t) = if (t : ℕ) ≤ s then A.ws g s t else 0 := by
  pointwise [val_main_v72, val_main_v71, val_main_v70, val_main_v69, val_main_v24, val_main_call1_v0, val_main_call0_v5, val_main_call0_v4, val_main_call0_v3, val_main_call0_v2, val_main_call0_v1, val_main_call0_v0, val_main_call0_c, val_main_call0_c_0, val_main_c, val_main_cst_11, h.ws]
  rw [causal_select]

/-- The spatial mixing. -/
theorem v79 (b : Fin 2) (n : Fin 32) (s : Fin 128) (g : Fin 4) (j : Fin 128) :
    val_main_v79 (F := Ideal) x0 x1 x2 x3 x4 x5 x6 (ix5 b n s g j) = (A.chunk (32 * b + n) g).mix s j := by
  pointwise [val_main_v79, val_main_v78, val_main_v77, val_main_v76, val_main_v75, val_main_v74, val_main_v73, val_main_v25, v68 h, v72 h, h.b]
  exact congrArg₂ (· + ·) (Finset.sum_congr rfl fun t _ => mul_comm _ _) rfl

/-- The gating unit's output. -/
theorem v83 (b : Fin 2) (i : Fin 4096) (j : Fin 512) :
    val_main_v83 (F := Ideal) x0 x1 x2 x3 x4 x5 x6 (ix3 b i j) = A.gate (4096 * b + i) j := by
  pointwise [val_main_v83, val_main_v81, val_main_v80, v82 h, v34 h, v79 h]
  unfold Arr.gate Chunk.out
  refine congrArg₂ (· * ·) (congrArg₂ (· * ·) (congrArg gelu (congrArg₂ A.p ?_ ?_)) ?_) (congrArg silu (congrArg₂ A.p ?_ ?_))
  · omega
  · omega
  · rw [Layer.Args.seq_div, Layer.Args.seq_mod]
  · omega
  · omega

/-- The gating unit's output, as rows. -/
theorem v91 (r : Fin 8192) (j : Fin 512) : val_main_v91 (F := Ideal) x0 x1 x2 x3 x4 x5 x6 (ix2 r j) = A.gate r j := by
  pointwise [val_main_v91, val_main_v90, v83 h]
  rw [Nat.div_add_mod]

/-- The gating unit's inputs, as rows. -/
theorem v87 (r : Fin 8192) (j : Fin 1536) : val_main_v87 (F := Ideal) x0 x1 x2 (ix2 r j) = A.p r j := by
  pointwise [val_main_v87, val_main_v86, v15 h]
  rw [Nat.div_add_mod]

/-- The convolution's input, as rows. -/
theorem v88 (r : Fin 8192) (j : Fin 1536) : val_main_v88 (F := Ideal) x0 x1 x2 (ix2 r j) = A.p r (1536 + j) := by
  pointwise [val_main_v88, val_main_v19, v15 h]
  rw [Nat.div_add_mod]

/-- The second branch's gate, as rows. -/
theorem v89 (r : Fin 8192) (j : Fin 512) : val_main_v89 (F := Ideal) x0 x1 x2 (ix2 r j) = A.p r (3072 + j) := by
  pointwise [val_main_v89, val_main_v20, v15 h]
  rw [Nat.div_add_mod]

/-- The logits over zeros, as rows. -/
theorem v85 (r : Fin 8192) (j : Fin 128) :
    val_main_v85 (F := Ideal) x0 x1 x2 (ix2 r j) = if (j : ℕ) < 8 then A.p r (3584 + j) else 0 := by
  pointwise [val_main_v85, val_main_v84, val_main_v21, val_main_call3_v0, val_main_c_12, v15 h]
  by_cases hj : (j : ℕ) < 8
  · rw [dif_pos hj, if_pos hj, Nat.div_add_mod]
  · rw [dif_neg hj, if_neg hj]
    show (((0#32).toInt : ℝ) : EReal) = 0
    simp

/-- The convolution's input after three rows of zeros. -/
theorem v93 (b : Fin 2) (i : Fin 4099) (c : Fin 1536) :
    val_main_v93 (F := Ideal) x0 x1 x2 (ix3 b i c) = if 3 ≤ (i : ℕ) then A.p (4096 * b + i - 3) (1536 + c) else 0 := by
  pointwise [val_main_v93, val_main_v19, val_main_call4_v0, val_main_c_13, v15 h]
  by_cases hj : 3 ≤ (i : ℕ)
  · rw [dif_pos ⟨hj, by omega⟩, if_pos hj]
    exact congrArg₂ A.p (by omega) rfl
  · rw [dif_neg (fun e => hj e.1), if_neg hj]
    show (((0#32).toInt : ℝ) : EReal) = 0
    simp

omit h in
theorem tap_at (d : ℕ) (b : Fin 2) (i : Fin 4096) (c : ℕ) :
    (if 3 ≤ d + (i : ℕ) then A.p (4096 * b + (d + i) - 3) (1536 + c) else 0) = A.tap d (4096 * b + i) c := by
  unfold Arr.tap
  rw [show (4096 * (b : ℕ) + i) % 4096 + d = d + i by omega, show 4096 * (b : ℕ) + i + d - 3 = 4096 * (b : ℕ) + (d + i) - 3 by omega]

omit h in
theorem tap_zero (b : Fin 2) (i : Fin 4096) (c : ℕ) :
    (if 3 ≤ (i : ℕ) then A.p (4096 * b + i - 3) (1536 + c) else 0) = A.tap 0 (4096 * b + i) c := by
  rw [← tap_at, Nat.zero_add]

omit h in
theorem tap_three (b : Fin 2) (i : Fin 4096) (c : ℕ) :
    A.tap 3 (4096 * b + i) c = A.p (4096 * b + (3 + i) - 3) (1536 + c) := by
  rw [← tap_at, if_pos (by omega)]

/-- The convolution. -/
theorem v122 (b : Fin 2) (i : Fin 4096) (c : Fin 1536) :
    val_main_v122 (F := Ideal) x0 x1 x2 x7 (ix3 b i c) = A.conv (4096 * b + i) c := by
  pointwise [val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v92, val_main_cst_14, v93 h, h.cw, tap_at, tap_zero]
  rw [Arr.conv, tap_three]

/-- The convolution, as rows. -/
theorem v123 (r : Fin 8192) (c : Fin 1536) : val_main_v123 (F := Ideal) x0 x1 x2 x7 (ix2 r c) = A.conv r c := by
  pointwise [val_main_v123, v122 h]
  rw [Nat.div_add_mod]

end Cert.Fwd.Ref

end
-- ==== Proof.FwdValue.lean ====
/-
  The forward call: its six results after the run are the reference's.
-/
module

public import proofs.«01_k».proof.Defs
public import proofs.«01_k».proof.Proof.FwdHost
public import proofs.«01_k».proof.Proof.FwdPointA
public import proofs.«01_k».proof.Proof.FwdPointB
public import proofs.«01_k».proof.Proof.FwdRef
public import proofs.«01_k».proof.Proof.Gen.Reference7Ideal
public import proofs.«01_k».proof.Proof.Gen.Reference7Ideal.Run

@[expose] public section

set_option maxRecDepth 16384

noncomputable section

open Idealize.ShloMosaic Idealize.ShloMosaic.TcCoe Idealize.SL.Sem Cert.Kernel7Ideal.Value Cert.Kernel7Ideal.Gen Cert.Kernel7Ideal Cert.Reference7Ideal.Read
open Idealize.ShloMosaic.Pipeline (Dat)

namespace Cert.Fwd.Host

variable {A : Arr} {m : (ℓ : Loc nD τ sig) → Buf (Elt Ideal) ℓ} {c : Dev nD}

theorem zero2 : (![0, 0] : Fin 2 → Nat) = fun _ => 0 := funext fun a => by fin_cases a <;> rfl

section Points

variable (h : Agrees A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))

include h

theorem after_9 (t : Fin cfg0.N) (r : Fin 512) (j : Fin 1536) : (outsAt0 m c t.val t.isLt).1 (ix2 r j) = A.p (512 * t + r) j := by
  by_cases h0 : t.val % 8 = 0
  · rw [outsAt0_A m c t h0]
    dsimp only
    rw [PointA.out_9, View.read_writes_junk_eq_canon]
    exact Blk.uvz_at (holds h t) r j
  · rw [outsAt0_B m c t h0]
    dsimp only
    rw [PointB.out_9, View.read_writes_junk_eq_canon]
    exact Blk.uvz_at (holds h t) r j

theorem after_10 (t : Fin cfg0.N) (r : Fin 512) (j : Fin 1536) : (outsAt0 m c t.val t.isLt).2.1 (ix2 r j) = A.p (512 * t + r) (1536 + j) := by
  by_cases h0 : t.val % 8 = 0
  · rw [outsAt0_A m c t h0]
    dsimp only
    rw [PointA.out_10, View.read_writes_junk_eq_canon]
    exact Blk.qkv_at (holds h t) r j
  · rw [outsAt0_B m c t h0]
    dsimp only
    rw [PointB.out_10, View.read_writes_junk_eq_canon]
    exact Blk.qkv_at (holds h t) r j

theorem after_11 (t : Fin cfg0.N) (r : Fin 512) (j : Fin 512) : (outsAt0 m c t.val t.isLt).2.2.1 (ix2 r j) = A.p (512 * t + r) (3072 + j) := by
  by_cases h0 : t.val % 8 = 0
  · rw [outsAt0_A m c t h0]
    dsimp only
    rw [PointA.out_11, View.read_writes_junk_eq_canon, View.canon_unit_zero zero2]
    exact Blk.pr_at (holds h t) _ _ r j
  · rw [outsAt0_B m c t h0]
    dsimp only
    rw [PointB.out_11, View.read_writes_junk_eq_canon, View.canon_unit_zero zero2]
    exact Blk.pr_at (holds h t) _ _ r j

theorem after_12 (t : Fin cfg0.N) (r : Fin 512) (j : Fin 128) :
    (outsAt0 m c t.val t.isLt).2.2.2.1 (ix2 r j) = if (j : ℕ) < 8 then A.p (512 * t + r) (3584 + j) else 0 := by
  by_cases h0 : t.val % 8 = 0
  · rw [outsAt0_A m c t h0]
    dsimp only
    rw [PointA.out_12, View.read_writes_junk_eq_canon, View.canon_unit_zero zero2]
    exact Blk.gates_at (holds h t) r j
  · rw [outsAt0_B m c t h0]
    dsimp only
    rw [PointB.out_12, View.read_writes_junk_eq_canon, View.canon_unit_zero zero2]
    exact Blk.gates_at (holds h t) r j

theorem after_13 (t : Fin cfg0.N) (r : Fin 512) (j : Fin 512) : (outsAt0 m c t.val t.isLt).2.2.2.2.1 (ix2 r j) = A.gate (512 * t + r) j := by
  by_cases h0 : t.val % 8 = 0
  · rw [outsAt0_A m c t h0]
    dsimp only
    rw [PointA.out_13, View.read_writes_junk_eq_canon]
    exact Blk.sgu_at (holds h t) r j
  · rw [outsAt0_B m c t h0]
    dsimp only
    rw [PointB.out_13, View.read_writes_junk_eq_canon]
    exact Blk.sgu_at (holds h t) r j

/-- What a point leaves for the next: the last eight rows of the convolution's input. -/
theorem carry (t : Fin cfg0.N) (r : Fin 8) (j : Fin 1536) :
    (outsAt0 m c t.val t.isLt).2.2.2.2.2.2 (ix2 ⟨r, by omega⟩ j) = A.p (512 * (t + 1) + r - 8) (1536 + j) := by
  by_cases h0 : t.val % 8 = 0
  · rw [outsAt0_A m c t h0]
    dsimp only
    rw [PointA.out_s, View.read_writes_junk_eq_canon]
    exact Blk.kept_at (holds h t) _ r j
  · rw [outsAt0_B m c t h0]
    dsimp only
    rw [PointB.out_s, View.read_writes_junk_eq_canon]
    exact Blk.kept_at (holds h t) _ r j

theorem after_14 (t : Fin cfg0.N) (r : Fin 512) (j : Fin 1536) : (outsAt0 m c t.val t.isLt).2.2.2.2.2.1 (ix2 r j) = A.conv (512 * t + r) j := by
  by_cases h0 : t.val % 8 = 0
  · rw [outsAt0_A m c t h0]
    dsimp only
    rw [PointA.out_14, View.read_writes_junk_eq_canon, View.canon_unit_zero zero2]
    refine Blk.conv_at (holds h t) _ (fun r j => (Blk.heldA_at (holds h t) r j).trans ?_) r j
    simp only [h0, true_and]
  · rw [outsAt0_B m c t h0]
    dsimp only
    rw [PointB.out_14, View.read_writes_junk_eq_canon, View.canon_unit_zero zero2]
    refine Blk.conv_at (holds h t) _ (fun r j => (Blk.heldB_at (holds h t) _ (fun r j => ?_) r j).trans ?_) r j
    · refine (carry h ⟨t.val - 1, by have := t.isLt; omega⟩ r j).trans ?_
      rw [show ((⟨t.val - 1, by have := t.isLt; omega⟩ : Fin cfg0.N) : ℕ) + 1 = t.val from Nat.sub_add_cancel (by omega)]
    · simp only [h0, false_and, if_false]

end Points

section Results

variable {x0 : FVec Ideal ⟨3, ![2, 4096, 1024]⟩ .f32} {x1 : FVec Ideal ⟨2, ![1, 1024]⟩ .f32}
  {x2 : FVec Ideal ⟨3, ![1, 1024, 3592]⟩ .f32} {x3 x4 : FVec Ideal ⟨2, ![1, 512]⟩ .f32}
  {x5 : FVec Ideal ⟨4, ![1, 4, 128, 128]⟩ .f32} {x6 : FVec Ideal ⟨3, ![1, 4, 128]⟩ .f32}
  {x7 : FVec Ideal ⟨3, ![1, 4, 1536]⟩ .f32} (h : Agrees A x0 x1 x2 x3 x4 x5 x6 x7)
  (e0 : m ((c : Thread nD τ).loc main_arg0) = x0) (e1 : m ((c : Thread nD τ).loc main_arg1) = x1)
  (e2 : m ((c : Thread nD τ).loc main_arg2) = x2) (e3 : m ((c : Thread nD τ).loc main_arg3) = x3)
  (e4 : m ((c : Thread nD τ).loc main_arg4) = x4) (e5 : m ((c : Thread nD τ).loc main_arg5) = x5)
  (e6 : m ((c : Thread nD τ).loc main_arg6) = x6) (e7 : m ((c : Thread nD τ).loc main_arg7) = x7)

include h e0 e1 e2 e3 e4 e5 e6 e7

theorem agrees : Agrees A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [e0, e1, e2, e3, e4, e5, e6, e7]
  exact h

/-- The gating unit's columns of the projection after the run. -/
theorem final_9 : (dats m 0 c).arrAt 9 cfg0.N = val_main_v87 (F := Ideal) x0 x1 x2 := by
  have hN : grid0.N = 16 := N_0
  refine (dats m 0 c).arrAt_eq_of_covers 9 _ (by decide +kernel) fun t hf y => ?_
  have ht : t.val < grid0.N := t.isLt
  blk_simp
  rw [after0_9]
  idx_vars y
  refine (after_9 (agrees h e0 e1 e2 e3 e4 e5 e6 e7) t y0 y1).trans ?_
  refine (Ref.v87 h ⟨512 * t.val + y0, by omega⟩ y1).symm.trans ?_
  blk_ext [idx t]

/-- The convolution's columns of the projection after the run. -/
theorem final_10 : (dats m 0 c).arrAt 10 cfg0.N = val_main_v88 (F := Ideal) x0 x1 x2 := by
  have hN : grid0.N = 16 := N_0
  refine (dats m 0 c).arrAt_eq_of_covers 10 _ (by decide +kernel) fun t hf y => ?_
  have ht : t.val < grid0.N := t.isLt
  blk_simp
  rw [after0_10]
  idx_vars y
  refine (after_10 (agrees h e0 e1 e2 e3 e4 e5 e6 e7) t y0 y1).trans ?_
  refine (Ref.v88 h ⟨512 * t.val + y0, by omega⟩ y1).symm.trans ?_
  blk_ext [idx t]

/-- The output gate's columns of the projection after the run. -/
theorem final_11 : (dats m 0 c).arrAt 11 cfg0.N = val_main_v89 (F := Ideal) x0 x1 x2 := by
  have hN : grid0.N = 16 := N_0
  refine (dats m 0 c).arrAt_eq_of_covers 11 _ (by decide +kernel) fun t hf y => ?_
  have ht : t.val < grid0.N := t.isLt
  blk_simp
  rw [after0_11]
  idx_vars y
  refine (after_11 (agrees h e0 e1 e2 e3 e4 e5 e6 e7) t y0 y1).trans ?_
  refine (Ref.v89 h ⟨512 * t.val + y0, by omega⟩ y1).symm.trans ?_
  blk_ext [idx t]

/-- The heads' logits, over zeros, after the run. -/
theorem final_12 : (dats m 0 c).arrAt 12 cfg0.N = val_main_v85 (F := Ideal) x0 x1 x2 := by
  have hN : grid0.N = 16 := N_0
  refine (dats m 0 c).arrAt_eq_of_covers 12 _ (by decide +kernel) fun t hf y => ?_
  have ht : t.val < grid0.N := t.isLt
  blk_simp
  rw [after0_12]
  idx_vars y
  refine (after_12 (agrees h e0 e1 e2 e3 e4 e5 e6 e7) t y0 y1).trans ?_
  refine (Ref.v85 h ⟨512 * t.val + y0, by omega⟩ y1).symm.trans ?_
  blk_ext [idx t]

/-- The gating unit's output after the run. -/
theorem final_13 : (dats m 0 c).arrAt 13 cfg0.N = val_main_v91 (F := Ideal) x0 x1 x2 x3 x4 x5 x6 := by
  have hN : grid0.N = 16 := N_0
  refine (dats m 0 c).arrAt_eq_of_covers 13 _ (by decide +kernel) fun t hf y => ?_
  have ht : t.val < grid0.N := t.isLt
  blk_simp
  rw [after0_13]
  idx_vars y
  refine (after_13 (agrees h e0 e1 e2 e3 e4 e5 e6 e7) t y0 y1).trans ?_
  refine (Ref.v91 h ⟨512 * t.val + y0, by omega⟩ y1).symm.trans ?_
  blk_ext [idx t]

/-- The convolution after the run. -/
theorem final_14 : (dats m 0 c).arrAt 14 cfg0.N = val_main_v123 (F := Ideal) x0 x1 x2 x7 := by
  have hN : grid0.N = 16 := N_0
  refine (dats m 0 c).arrAt_eq_of_covers 14 _ (by decide +kernel) fun t hf y => ?_
  have ht : t.val < grid0.N := t.isLt
  blk_simp
  rw [after0_14]
  idx_vars y
  refine (after_14 (agrees h e0 e1 e2 e3 e4 e5 e6 e7) t y0 y1).trans ?_
  refine (Ref.v123 h ⟨512 * t.val + y0, by omega⟩ y1).symm.trans ?_
  blk_ext [idx t]

end Results

/-- The claim. -/
theorem value : algebraic_Kernel7Ideal_Reference7Ideal (hKernel7Ideal := Cert.Kernel7Ideal.Gen.facts) (hReference7Ideal := Cert.Reference7Ideal.Gen.facts) := by
  intro m ρ m' ρ' _ hagree
  refine ⟨_, _, _, _, _, _, Cert.Kernel7Ideal.Value.run_blocks m ρ,
    (θ_run Cert.Reference7Ideal.defs _ _).mono (fun r hr c => ?_) (Cert.Reference7Ideal.Value.run (F := Ideal) m' ρ')⟩
  obtain ⟨a0, a1, a2, a3, a4, a5, a6, a7⟩ := hagree c
  obtain ⟨r0, r1, r2, r3, r4, r5, rest⟩ := hr c
  have h := arr_agrees (m' ((c.tc : Thread Cert.Reference7Ideal.nD Cert.Reference7Ideal.τ).loc Cert.Reference7Ideal.main_arg0))
    (m' ((c.tc : Thread Cert.Reference7Ideal.nD Cert.Reference7Ideal.τ).loc Cert.Reference7Ideal.main_arg1))
    (m' ((c.tc : Thread Cert.Reference7Ideal.nD Cert.Reference7Ideal.τ).loc Cert.Reference7Ideal.main_arg2))
    (m' ((c.tc : Thread Cert.Reference7Ideal.nD Cert.Reference7Ideal.τ).loc Cert.Reference7Ideal.main_arg3))
    (m' ((c.tc : Thread Cert.Reference7Ideal.nD Cert.Reference7Ideal.τ).loc Cert.Reference7Ideal.main_arg4))
    (m' ((c.tc : Thread Cert.Reference7Ideal.nD Cert.Reference7Ideal.τ).loc Cert.Reference7Ideal.main_arg5))
    (m' ((c.tc : Thread Cert.Reference7Ideal.nD Cert.Reference7Ideal.τ).loc Cert.Reference7Ideal.main_arg6))
    (m' ((c.tc : Thread Cert.Reference7Ideal.nD Cert.Reference7Ideal.τ).loc Cert.Reference7Ideal.main_arg7))
  exact ⟨r0.trans (final_9 h a0.symm a1.symm a2.symm a3.symm a4.symm a5.symm a6.symm a7.symm).symm,
    r1.trans (final_10 h a0.symm a1.symm a2.symm a3.symm a4.symm a5.symm a6.symm a7.symm).symm,
    r2.trans (final_11 h a0.symm a1.symm a2.symm a3.symm a4.symm a5.symm a6.symm a7.symm).symm,
    r3.trans (final_12 h a0.symm a1.symm a2.symm a3.symm a4.symm a5.symm a6.symm a7.symm).symm,
    r4.trans (final_13 h a0.symm a1.symm a2.symm a3.symm a4.symm a5.symm a6.symm a7.symm).symm,
    r5.trans (final_14 h a0.symm a1.symm a2.symm a3.symm a4.symm a5.symm a6.symm a7.symm).symm, rest⟩

end Cert.Fwd.Host

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Reference7Ideal
public import proofs.«01_k».proof.Proof.Gen.Reference7Ideal.Run
public import proofs.«01_k».proof.Proof.Gen.Reference7Ideal.Read
public import proofs.«01_k».proof.Proof.Finite
public import proofs.«01_k».proof.Proof.KernelHost
public import proofs.«01_k».proof.Proof.KernelFinal
public import proofs.«01_k».proof.Proof.RefValue
public import proofs.«01_k».proof.Proof.HeadFinite
public import proofs.«01_k».proof.Proof.HeadHost
public import proofs.«01_k».proof.Proof.HeadFinal
public import proofs.«01_k».proof.Proof.HeadRef
public import proofs.«01_k».proof.Proof.StepIn
public import proofs.«01_k».proof.Proof.StepOut
public import proofs.«01_k».proof.Proof.StepProj
public import proofs.«01_k».proof.Proof.StepConv
public import proofs.«01_k».proof.Proof.SmallValue
public import proofs.«01_k».proof.Proof.FwdValue
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem Cert.Layer

/-- The arguments are left as they were and no counter is left raised. -/
theorem kept_Kernel : quiescent_Kernel (hKernel := Cert.Kernel.Gen.facts) := fun m ρ _ => Cert.Kernel.Gen.frame m ρ

theorem kept_KernelIdeal : quiescent_KernelIdeal (hKernelIdeal := Cert.KernelIdeal.Gen.facts) := fun m ρ _ => Cert.KernelIdeal.Gen.frame m ρ

theorem kept_ReferenceIdeal : quiescent_ReferenceIdeal (hReferenceIdeal := Cert.ReferenceIdeal.Gen.facts) := fun m ρ _ =>
  (θ_run Cert.ReferenceIdeal.defs _ _).mono (fun r h => ⟨fun c => (h c).2.2.2.2.2.2, Idealize.ShloMosaic.sem_eq_zero_of_no_sems (by decide) r.2⟩)
    (Cert.ReferenceIdeal.Value.run (F := Ideal) m ρ)

theorem value : algebraic_KernelIdeal_ReferenceIdeal_pre_all_finite (hKernelIdeal := Cert.KernelIdeal.Gen.facts)
    (hReferenceIdeal := Cert.ReferenceIdeal.Gen.facts) (hPre_all_finite := Cert.Finite.facts) := by
  intro m ρ m' ρ' hpre hagree
  refine ⟨fun c => (Cert.KernelIdeal.Gen.dats m 0 c).arrAt 14 Cert.KernelIdeal.cfg0.N, fun c => (Cert.KernelIdeal.Gen.dats m 0 c).arrAt 15 Cert.KernelIdeal.cfg0.N, fun c => (Cert.KernelIdeal.Gen.dats m 0 c).arrAt 16 Cert.KernelIdeal.cfg0.N, fun c => (Cert.KernelIdeal.Gen.dats m 0 c).arrAt 17 Cert.KernelIdeal.cfg0.N, fun c => (Cert.KernelIdeal.Gen.dats m 0 c).arrAt 18 Cert.KernelIdeal.cfg0.N, fun c => (Cert.KernelIdeal.Gen.dats m 0 c).arrAt 19 Cert.KernelIdeal.cfg0.N,
    Cert.KernelIdeal.Value.run_blocks m ρ,
    (θ_run Cert.ReferenceIdeal.defs _ _).mono (fun r hr c => ?_) (Cert.ReferenceIdeal.Value.run (F := Ideal) m' ρ')⟩
  obtain ⟨A, h⟩ : ∃ A, Agrees A (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) :=
    ⟨_, @Cert.Finite.agrees Cert.Finite.facts _ _ _ _ _ _ _ _ _ _ _ _ (hpre c)⟩
  have h' := h
  obtain ⟨a0, a1, a2, a3, a4, a5, a6, a7, a8, a9, a10, a11⟩ := hagree c
  rw [← a0, ← a1, ← a2, ← a3, ← a4, ← a5, ← a6, ← a7, ← a8, ← a9, ← a10, ← a11] at h'
  obtain ⟨r14, r15, r16, r17, r18, r19, rest⟩ := hr c
  have hH := fun t => Cert.KHost.holds h t
  refine ⟨?_, ?_, ?_, ?_, ?_, ?_, rest⟩
  · have e := Cert.ReferenceIdeal.Read.val_main_v209_eq (F := Ideal) (StableHlo.launchContents m' c)
    simp only [StableHlo.launchContents_devRef] at e
    rw [r14]
    refine Eq.trans ?_ (Cert.KFinal.final_14 hH _ (fun i k => Cert.RefValue.v209 h' i k)).symm
    exact e
  · have e := Cert.ReferenceIdeal.Read.val_main_v208_eq (F := Ideal) (StableHlo.launchContents m' c)
    simp only [StableHlo.launchContents_devRef] at e
    rw [r15]
    refine Eq.trans ?_ (Cert.KFinal.final_15 hH _ (fun k => Cert.RefValue.v208 h' k)).symm
    exact e
  · have e := Cert.ReferenceIdeal.Read.val_main_v181_eq (F := Ideal) (StableHlo.launchContents m' c)
    simp only [StableHlo.launchContents_devRef] at e
    rw [r16]
    refine Eq.trans ?_ (Cert.KFinal.final_16 hH _ (fun k => Cert.RefValue.v181 h' k)).symm
    exact e
  · have e := Cert.ReferenceIdeal.Read.val_main_v180_eq (F := Ideal) (StableHlo.launchContents m' c)
    simp only [StableHlo.launchContents_devRef] at e
    rw [r17]
    refine Eq.trans ?_ (Cert.KFinal.final_17 hH _ (fun k => Cert.RefValue.v180 h' k)).symm
    exact e
  · have e := Cert.ReferenceIdeal.Read.val_main_v210_eq (F := Ideal) (StableHlo.launchContents m' c)
    simp only [StableHlo.launchContents_devRef] at e
    rw [r18]
    refine Eq.trans ?_ (Cert.KFinal.final_18 hH _ (fun g s t => Cert.RefValue.v210 h' g s t)).symm
    exact e
  · have e := Cert.ReferenceIdeal.Read.val_main_v212_eq (F := Ideal) (StableHlo.launchContents m' c)
    simp only [StableHlo.launchContents_devRef] at e
    rw [r19]
    refine Eq.trans ?_ (Cert.KFinal.final_19 hH _ (fun s g => Cert.RefValue.v212 h' s g)).symm
    exact e

/-- The head leaves its arguments as they were and no counter raised. -/
theorem kept_Kernel2 : quiescent_Kernel2 (hKernel2 := Cert.Kernel2.Gen.facts) := fun m ρ _ => Cert.Kernel2.Gen.frame m ρ

theorem kept_Kernel2Ideal : quiescent_Kernel2Ideal (hKernel2Ideal := Cert.Kernel2Ideal.Gen.facts) := fun m ρ _ => Cert.Kernel2Ideal.Gen.frame m ρ

theorem kept_Reference2Ideal : quiescent_Reference2Ideal (hReference2Ideal := Cert.Reference2Ideal.Gen.facts) := fun m ρ _ =>
  (θ_run Cert.Reference2Ideal.defs _ _).mono (fun r h => ⟨fun c => (h c).2.2.2.2.2.2, Idealize.ShloMosaic.sem_eq_zero_of_no_sems (by decide) r.2⟩)
    (Cert.Reference2Ideal.Value.run (F := Ideal) m ρ)

theorem head_value : algebraic_Kernel2Ideal_Reference2Ideal_pre_head_finite (hKernel2Ideal := Cert.Kernel2Ideal.Gen.facts)
    (hReference2Ideal := Cert.Reference2Ideal.Gen.facts) (hPre_head_finite := Cert.Head.facts) := by
  intro m ρ m' ρ' hpre hagree
  refine ⟨fun c => (Cert.Kernel2Ideal.Gen.dats m 0 c).arrAt 10 Cert.Kernel2Ideal.cfg0.N, fun c => (Cert.Kernel2Ideal.Gen.dats m 0 c).arrAt 11 Cert.Kernel2Ideal.cfg0.N, fun c => (Cert.Kernel2Ideal.Gen.dats m 0 c).arrAt 12 Cert.Kernel2Ideal.cfg0.N, fun c => (Cert.Kernel2Ideal.Gen.dats m 0 c).arrAt 13 Cert.Kernel2Ideal.cfg0.N, fun c => (Cert.Kernel2Ideal.Gen.dats m 0 c).arrAt 14 Cert.Kernel2Ideal.cfg0.N, fun c => (Cert.Kernel2Ideal.Gen.dats m 0 c).arrAt 15 Cert.Kernel2Ideal.cfg0.N,
    Cert.Kernel2Ideal.Value.run_blocks m ρ,
    (θ_run Cert.Reference2Ideal.defs _ _).mono (fun r hr c => ?_) (Cert.Reference2Ideal.Value.run (F := Ideal) m' ρ')⟩
  obtain ⟨A, h⟩ : ∃ A, Cert.Head.Agrees A (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)) (m ((c : Thread Cert.Kernel2Ideal.nD Cert.Kernel2Ideal.τ).loc Cert.Kernel2Ideal.main_arg5)) (m ((c : Thread Cert.Kernel2Ideal.nD Cert.Kernel2Ideal.τ).loc Cert.Kernel2Ideal.main_arg6)) (m ((c : Thread Cert.Kernel2Ideal.nD Cert.Kernel2Ideal.τ).loc Cert.Kernel2Ideal.main_arg7)) (m ((c : Thread Cert.Kernel2Ideal.nD Cert.Kernel2Ideal.τ).loc Cert.Kernel2Ideal.main_arg8)) (m ((c : Thread Cert.Kernel2Ideal.nD Cert.Kernel2Ideal.τ).loc Cert.Kernel2Ideal.main_arg9)) :=
    ⟨_, @Cert.Head.agrees Cert.Head.facts _ _ _ _ _ _ _ _ _ _ (hpre c)⟩
  have h' := h
  obtain ⟨a0, a1, a2, a3, a4, a5, a6, a7, a8, a9⟩ := hagree c
  rw [← a0, ← a1, ← a2, ← a3, ← a4, ← a5, ← a6, ← a7, ← a8, ← a9] at h'
  obtain ⟨r10, r11, r12, r13, r14, r15, rest⟩ := hr c
  have hH := fun t => Cert.Head.Host.holds h t
  refine ⟨?_, ?_, ?_, ?_, ?_, ?_, rest⟩
  · have e := Cert.Reference2Ideal.Read.val_main_v119_eq (F := Ideal) (StableHlo.launchContents m' c)
    rw [r10]
    refine Eq.trans ?_ (Cert.Head.Final.final_10 hH _ (fun r k => Cert.Head.Ref.v119 h' r k)).symm
    exact e
  · have e := Cert.Reference2Ideal.Read.val_main_v120_eq (F := Ideal) (StableHlo.launchContents m' c)
    rw [r11]
    refine Eq.trans ?_ (Cert.Head.Final.final_11 hH _ (fun r k => Cert.Head.Ref.v120 h' r k)).symm
    exact e
  · have e := Cert.Reference2Ideal.Read.val_main_v121_eq (F := Ideal) (StableHlo.launchContents m' c)
    rw [r12]
    refine Eq.trans ?_ (Cert.Head.Final.final_12 hH _ (fun r k => Cert.Head.Ref.v121 h' r k)).symm
    exact e
  · have e := Cert.Reference2Ideal.Read.val_main_v115_eq (F := Ideal) (StableHlo.launchContents m' c)
    simp only [StableHlo.launchContents_devRef] at e
    rw [r13]
    refine Eq.trans ?_ (Cert.Head.Final.final_13 hH _ (fun k => Cert.Head.Ref.v115 h' k)).symm
    exact e
  · have e := Cert.Reference2Ideal.Read.val_main_v122_eq (F := Ideal) (StableHlo.launchContents m' c)
    simp only [StableHlo.launchContents_devRef] at e
    rw [r14]
    refine Eq.trans ?_ (Cert.Head.Final.final_14 hH _ (fun k => Cert.Head.Ref.v122 h' k)).symm
    exact e
  · have e := Cert.Reference2Ideal.Read.val_main_v124_eq (F := Ideal) (StableHlo.launchContents m' c)
    simp only [StableHlo.launchContents_devRef] at e
    rw [r15]
    refine Eq.trans ?_ (Cert.Head.Final.final_15 hH _ (fun u j => Cert.Head.Ref.v124 h' u j)).symm
    exact e

/-- The optimiser's references and the forward call's leave their arguments as they were and no counter raised. -/
theorem kept_Reference3Ideal : quiescent_Reference3Ideal (hReference3Ideal := Cert.Reference3Ideal.Gen.facts) := fun m ρ _ =>
  (θ_run Cert.Reference3Ideal.defs _ _).mono (fun r h => ⟨fun c => (h c).2.2.2.2, Idealize.ShloMosaic.sem_eq_zero_of_no_sems (by decide) r.2⟩)
    (Cert.Reference3Ideal.Value.run (F := Ideal) m ρ)

theorem kept_Reference4Ideal : quiescent_Reference4Ideal (hReference4Ideal := Cert.Reference4Ideal.Gen.facts) := fun m ρ _ =>
  (θ_run Cert.Reference4Ideal.defs _ _).mono (fun r h => ⟨fun c => (h c).2.2.2.2, Idealize.ShloMosaic.sem_eq_zero_of_no_sems (by decide) r.2⟩)
    (Cert.Reference4Ideal.Value.run (F := Ideal) m ρ)

theorem kept_Reference5Ideal : quiescent_Reference5Ideal (hReference5Ideal := Cert.Reference5Ideal.Gen.facts) := fun m ρ _ =>
  (θ_run Cert.Reference5Ideal.defs _ _).mono (fun r h => ⟨fun c => (h c).2.2.2.2, Idealize.ShloMosaic.sem_eq_zero_of_no_sems (by decide) r.2⟩)
    (Cert.Reference5Ideal.Value.run (F := Ideal) m ρ)

theorem kept_Reference6Ideal : quiescent_Reference6Ideal (hReference6Ideal := Cert.Reference6Ideal.Gen.facts) := fun m ρ _ =>
  (θ_run Cert.Reference6Ideal.defs _ _).mono (fun r h => ⟨fun c => (h c).2.2.2.2, Idealize.ShloMosaic.sem_eq_zero_of_no_sems (by decide) r.2⟩)
    (Cert.Reference6Ideal.Value.run (F := Ideal) m ρ)

theorem kept_Reference7Ideal : quiescent_Reference7Ideal (hReference7Ideal := Cert.Reference7Ideal.Gen.facts) := fun m ρ _ =>
  (θ_run Cert.Reference7Ideal.defs _ _).mono (fun r h => ⟨fun c => (h c).2.2.2.2.2.2, Idealize.ShloMosaic.sem_eq_zero_of_no_sems (by decide) r.2⟩)
    (Cert.Reference7Ideal.Value.run (F := Ideal) m ρ)

theorem kept_Reference8Ideal : quiescent_Reference8Ideal (hReference8Ideal := Cert.Reference8Ideal.Gen.facts) := fun m ρ _ =>
  (θ_run Cert.Reference8Ideal.defs _ _).mono (fun r h => ⟨fun c => (h c).2.2.2.2.2.2.2.2.2.2.2.2.2.2, Idealize.ShloMosaic.sem_eq_zero_of_no_sems (by decide) r.2⟩)
    (Cert.Reference8Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Finite.facts, Cert.Head.facts,
    kept_Kernel, kept_KernelIdeal, fun m ρ hp => kept_KernelIdeal m ρ (by trivial), kept_ReferenceIdeal,
    fun m ρ hp => kept_ReferenceIdeal m ρ (by trivial),
    kept_Kernel2, kept_Kernel2Ideal, fun m ρ hp => kept_Kernel2Ideal m ρ (by trivial), kept_Reference2Ideal,
    fun m ρ hp => kept_Reference2Ideal m ρ (by trivial),
    fun m ρ _ => Cert.Kernel3.Gen.frame m ρ, fun m ρ _ => Cert.Kernel3Ideal.Gen.frame m ρ, kept_Reference3Ideal,
    fun m ρ _ => Cert.Kernel4.Gen.frame m ρ, fun m ρ _ => Cert.Kernel4Ideal.Gen.frame m ρ, kept_Reference4Ideal,
    fun m ρ _ => Cert.Kernel5.Gen.frame m ρ, fun m ρ _ => Cert.Kernel5Ideal.Gen.frame m ρ, kept_Reference5Ideal,
    fun m ρ _ => Cert.Kernel6.Gen.frame m ρ, fun m ρ _ => Cert.Kernel6Ideal.Gen.frame m ρ, kept_Reference6Ideal,
    fun m ρ _ => Cert.Kernel7.Gen.frame m ρ, fun m ρ _ => Cert.Kernel7Ideal.Gen.frame m ρ, kept_Reference7Ideal,
    fun m ρ _ => Cert.Kernel8.Gen.frame m ρ, fun m ρ _ => Cert.Kernel8Ideal.Gen.frame m ρ, kept_Reference8Ideal,
    ⟨IdealRules.named_const.statement Cert.KernelIdeal.κ "root_half" .f32 0x3F3504F3#32 (((Real.sqrt 2)⁻¹ : ℝ) : EReal) rfl,
      IdealRules.named_const.statement Cert.KernelIdeal.κ "density_at_zero" .f32 0x3ECC422A#32 (((9465531 / 8388608) * (2 * (Real.sqrt 2))⁻¹ : ℝ) : EReal) rfl⟩,
    value, trivial, head_value, trivial, Cert.StepIn.value, trivial, Cert.StepOut.value, trivial, Cert.StepProj.value,
    trivial, Cert.StepConv.value,
    IdealRules.named_const.statement Cert.Kernel7Ideal.κ "root_half" .f32 0x3F3504F3#32 (((Real.sqrt 2)⁻¹ : ℝ) : EReal) rfl,
    Cert.Fwd.Host.value, trivial, Cert.Small.value⟩

end Cert.Proof

end
